-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_GDown (m : (ℓ : Loc Cert.GDown.nD Cert.GDown.τ Cert.GDown.sig) → Buf (Elt Bits) ℓ) : Prop :=
  True

def Pre_GDownIdeal (m : (ℓ : Loc Cert.GDownIdeal.nD Cert.GDownIdeal.τ Cert.GDownIdeal.sig) → Buf (Elt Ideal) ℓ) : Prop :=
  True

def Pre_GDownRefIdeal (m : (ℓ : Loc Cert.GDownRefIdeal.nD Cert.GDownRefIdeal.τ Cert.GDownRefIdeal.sig) → Buf (Elt Ideal) ℓ) : Prop :=
  True

def Pre_DDown (m : (ℓ : Loc Cert.DDown.nD Cert.DDown.τ Cert.DDown.sig) → Buf (Elt Bits) ℓ) : Prop :=
  True

def Pre_DDownIdeal (m : (ℓ : Loc Cert.DDownIdeal.nD Cert.DDownIdeal.τ Cert.DDownIdeal.sig) → Buf (Elt Ideal) ℓ) : Prop :=
  True

def Pre_DDownRefIdeal (m : (ℓ : Loc Cert.DDownRefIdeal.nD Cert.DDownRefIdeal.τ Cert.DDownRefIdeal.sig) → Buf (Elt Ideal) ℓ) : Prop :=
  True

def Pre_GUp (m : (ℓ : Loc Cert.GUp.nD Cert.GUp.τ Cert.GUp.sig) → Buf (Elt Bits) ℓ) : Prop :=
  True

def Pre_GUpIdeal (m : (ℓ : Loc Cert.GUpIdeal.nD Cert.GUpIdeal.τ Cert.GUpIdeal.sig) → Buf (Elt Ideal) ℓ) : Prop :=
  True

def Pre_GUpRefIdeal (m : (ℓ : Loc Cert.GUpRefIdeal.nD Cert.GUpRefIdeal.τ Cert.GUpRefIdeal.sig) → Buf (Elt Ideal) ℓ) : Prop :=
  True

def Pre_DUp (m : (ℓ : Loc Cert.DUp.nD Cert.DUp.τ Cert.DUp.sig) → Buf (Elt Bits) ℓ) : Prop :=
  True

def Pre_DUpIdeal (m : (ℓ : Loc Cert.DUpIdeal.nD Cert.DUpIdeal.τ Cert.DUpIdeal.sig) → Buf (Elt Ideal) ℓ) : Prop :=
  True

def Pre_DUpRefIdeal (m : (ℓ : Loc Cert.DUpRefIdeal.nD Cert.DUpRefIdeal.τ Cert.DUpRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Spatial (m : (ℓ : Loc Cert.Spatial.nD Cert.Spatial.τ Cert.Spatial.sig) → Buf (Elt Bits) ℓ) : Prop :=
  True

def Pre_SpatialIdeal (m : (ℓ : Loc Cert.SpatialIdeal.nD Cert.SpatialIdeal.τ Cert.SpatialIdeal.sig) → Buf (Elt Ideal) ℓ) : Prop :=
  True

def Pre_SpatialRefIdeal (m : (ℓ : Loc Cert.SpatialRefIdeal.nD Cert.SpatialRefIdeal.τ Cert.SpatialRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInRefIdeal (m : (ℓ : Loc Cert.AInRefIdeal.nD Cert.AInRefIdeal.τ Cert.AInRefIdeal.sig) → Buf (Elt Ideal) ℓ) : Prop :=
  True

def Pre_DAIn (m : (ℓ : Loc Cert.DAIn.nD Cert.DAIn.τ Cert.DAIn.sig) → Buf (Elt Bits) ℓ) : Prop :=
  True

def Pre_DAInIdeal (m : (ℓ : Loc Cert.DAInIdeal.nD Cert.DAInIdeal.τ Cert.DAInIdeal.sig) → Buf (Elt Ideal) ℓ) : Prop :=
  True

def Pre_DAInRefIdeal (m : (ℓ : Loc Cert.DAInRefIdeal.nD Cert.DAInRefIdeal.τ Cert.DAInRefIdeal.sig) → Buf (Elt Ideal) ℓ) : Prop :=
  True

def Pre_GAIn (m : (ℓ : Loc Cert.GAIn.nD Cert.GAIn.τ Cert.GAIn.sig) → Buf (Elt Bits) ℓ) : Prop :=
  True

def Pre_GAInIdeal (m : (ℓ : Loc Cert.GAInIdeal.nD Cert.GAInIdeal.τ Cert.GAInIdeal.sig) → Buf (Elt Ideal) ℓ) : Prop :=
  True

def Pre_GAInRefIdeal (m : (ℓ : Loc Cert.GAInRefIdeal.nD Cert.GAInRefIdeal.τ Cert.GAInRefIdeal.sig) → Buf (Elt Ideal) ℓ) : Prop :=
  True

def Pre_DOut (m : (ℓ : Loc Cert.DOut.nD Cert.DOut.τ Cert.DOut.sig) → Buf (Elt Bits) ℓ) : Prop :=
  True

def Pre_DOutIdeal (m : (ℓ : Loc Cert.DOutIdeal.nD Cert.DOutIdeal.τ Cert.DOutIdeal.sig) → Buf (Elt Ideal) ℓ) : Prop :=
  True

def Pre_DOutRefIdeal (m : (ℓ : Loc Cert.DOutRefIdeal.nD Cert.DOutRefIdeal.τ Cert.DOutRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_DQkv (m : (ℓ : Loc Cert.DQkv.nD Cert.DQkv.τ Cert.DQkv.sig) → Buf (Elt Bits) ℓ) : Prop :=
  True

def Pre_DQkvIdeal (m : (ℓ : Loc Cert.DQkvIdeal.nD Cert.DQkvIdeal.τ Cert.DQkvIdeal.sig) → Buf (Elt Ideal) ℓ) : Prop :=
  True

def Pre_DQkvRefIdeal (m : (ℓ : Loc Cert.DQkvRefIdeal.nD Cert.DQkvRefIdeal.τ Cert.DQkvRefIdeal.sig) → Buf (Elt Ideal) ℓ) : Prop :=
  True

def Pre_Qkv0 (m : (ℓ : Loc Cert.Qkv0.nD Cert.Qkv0.τ Cert.Qkv0.sig) → Buf (Elt Bits) ℓ) : Prop :=
  True

def Pre_Qkv0Ideal (m : (ℓ : Loc Cert.Qkv0Ideal.nD Cert.Qkv0Ideal.τ Cert.Qkv0Ideal.sig) → Buf (Elt Ideal) ℓ) : Prop :=
  True

def Pre_Qkv0RefIdeal (m : (ℓ : Loc Cert.Qkv0RefIdeal.nD Cert.Qkv0RefIdeal.τ Cert.Qkv0RefIdeal.sig) → Buf (Elt Ideal) ℓ) : Prop :=
  True

def Pre_DQkv0 (m : (ℓ : Loc Cert.DQkv0.nD Cert.DQkv0.τ Cert.DQkv0.sig) → Buf (Elt Bits) ℓ) : Prop :=
  True

def Pre_DQkv0Ideal (m : (ℓ : Loc Cert.DQkv0Ideal.nD Cert.DQkv0Ideal.τ Cert.DQkv0Ideal.sig) → Buf (Elt Ideal) ℓ) : Prop :=
  True

def Pre_DQkv0RefIdeal (m : (ℓ : Loc Cert.DQkv0RefIdeal.nD Cert.DQkv0RefIdeal.τ Cert.DQkv0RefIdeal.sig) → Buf (Elt Ideal) ℓ) : Prop :=
  True

def Pre_Qkv1 (m : (ℓ : Loc Cert.Qkv1.nD Cert.Qkv1.τ Cert.Qkv1.sig) → Buf (Elt Bits) ℓ) : Prop :=
  True

def Pre_Qkv1Ideal (m : (ℓ : Loc Cert.Qkv1Ideal.nD Cert.Qkv1Ideal.τ Cert.Qkv1Ideal.sig) → Buf (Elt Ideal) ℓ) : Prop :=
  True

def Pre_Qkv1RefIdeal (m : (ℓ : Loc Cert.Qkv1RefIdeal.nD Cert.Qkv1RefIdeal.τ Cert.Qkv1RefIdeal.sig) → Buf (Elt Ideal) ℓ) : Prop :=
  True

def Pre_DQkv1 (m : (ℓ : Loc Cert.DQkv1.nD Cert.DQkv1.τ Cert.DQkv1.sig) → Buf (Elt Bits) ℓ) : Prop :=
  True

def Pre_DQkv1Ideal (m : (ℓ : Loc Cert.DQkv1Ideal.nD Cert.DQkv1Ideal.τ Cert.DQkv1Ideal.sig) → Buf (Elt Ideal) ℓ) : Prop :=
  True

def Pre_DQkv1RefIdeal (m : (ℓ : Loc Cert.DQkv1RefIdeal.nD Cert.DQkv1RefIdeal.τ Cert.DQkv1RefIdeal.sig) → Buf (Elt Ideal) ℓ) : Prop :=
  True

def Pre_GQkv1 (m : (ℓ : Loc Cert.GQkv1.nD Cert.GQkv1.τ Cert.GQkv1.sig) → Buf (Elt Bits) ℓ) : Prop :=
  True

def Pre_GQkv1Ideal (m : (ℓ : Loc Cert.GQkv1Ideal.nD Cert.GQkv1Ideal.τ Cert.GQkv1Ideal.sig) → Buf (Elt Ideal) ℓ) : Prop :=
  True

def Pre_GQkv1RefIdeal (m : (ℓ : Loc Cert.GQkv1RefIdeal.nD Cert.GQkv1RefIdeal.τ Cert.GQkv1RefIdeal.sig) → Buf (Elt Ideal) ℓ) : Prop :=
  True

def Pre_GQkv2 (m : (ℓ : Loc Cert.GQkv2.nD Cert.GQkv2.τ Cert.GQkv2.sig) → Buf (Elt Bits) ℓ) : Prop :=
  True

def Pre_GQkv2Ideal (m : (ℓ : Loc Cert.GQkv2Ideal.nD Cert.GQkv2Ideal.τ Cert.GQkv2Ideal.sig) → Buf (Elt Ideal) ℓ) : Prop :=
  True

def Pre_GQkv2RefIdeal (m : (ℓ : Loc Cert.GQkv2RefIdeal.nD Cert.GQkv2RefIdeal.τ Cert.GQkv2RefIdeal.sig) → Buf (Elt Ideal) ℓ) : Prop :=
  True

def Pre_GAOut (m : (ℓ : Loc Cert.GAOut.nD Cert.GAOut.τ Cert.GAOut.sig) → Buf (Elt Bits) ℓ) : Prop :=
  True

def Pre_GAOutIdeal (m : (ℓ : Loc Cert.GAOutIdeal.nD Cert.GAOutIdeal.τ Cert.GAOutIdeal.sig) → Buf (Elt Ideal) ℓ) : Prop :=
  True

def Pre_GAOutRefIdeal (m : (ℓ : Loc Cert.GAOutRefIdeal.nD Cert.GAOutRefIdeal.τ Cert.GAOutRefIdeal.sig) → Buf (Elt Ideal) ℓ) : Prop :=
  True

def Pre_GBOut (m : (ℓ : Loc Cert.GBOut.nD Cert.GBOut.τ Cert.GBOut.sig) → Buf (Elt Bits) ℓ) : Prop :=
  True

def Pre_GBOutIdeal (m : (ℓ : Loc Cert.GBOutIdeal.nD Cert.GBOutIdeal.τ Cert.GBOutIdeal.sig) → Buf (Elt Ideal) ℓ) : Prop :=
  True

def Pre_GBOutRefIdeal (m : (ℓ : Loc Cert.GBOutRefIdeal.nD Cert.GBOutRefIdeal.τ Cert.GBOutRefIdeal.sig) → Buf (Elt Ideal) ℓ) : Prop :=
  True

def Pre_AOut (m : (ℓ : Loc Cert.AOut.nD Cert.AOut.τ Cert.AOut.sig) → Buf (Elt Bits) ℓ) : Prop :=
  True

def Pre_AOutIdeal (m : (ℓ : Loc Cert.AOutIdeal.nD Cert.AOutIdeal.τ Cert.AOutIdeal.sig) → Buf (Elt Ideal) ℓ) : Prop :=
  True

def Pre_AOutRefIdeal (m : (ℓ : Loc Cert.AOutRefIdeal.nD Cert.AOutRefIdeal.τ Cert.AOutRefIdeal.sig) → Buf (Elt Ideal) ℓ) : Prop :=
  True

def Pre_BOut (m : (ℓ : Loc Cert.BOut.nD Cert.BOut.τ Cert.BOut.sig) → Buf (Elt Bits) ℓ) : Prop :=
  True

def Pre_BOutIdeal (m : (ℓ : Loc Cert.BOutIdeal.nD Cert.BOutIdeal.τ Cert.BOutIdeal.sig) → Buf (Elt Ideal) ℓ) : Prop :=
  True

def Pre_BOutRefIdeal (m : (ℓ : Loc Cert.BOutRefIdeal.nD Cert.BOutRefIdeal.τ Cert.BOutRefIdeal.sig) → Buf (Elt Ideal) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinIdeal_finite_join [hPre_finite_join : Cert.Pre_finite_join.Facts] (m : (ℓ : Loc Cert.JoinIdeal.nD Cert.JoinIdeal.τ Cert.JoinIdeal.sig) → Buf (Elt Ideal) ℓ) : Prop :=
  ∀ c : Dev Cert.JoinIdeal.nD,
    (Cert.Pre_finite_join.fn (F := Ideal) (m ((c.tc : Thread Cert.JoinIdeal.nD Cert.JoinIdeal.τ).loc Cert.JoinIdeal.main_arg0)) (m ((c.tc : Thread Cert.JoinIdeal.nD Cert.JoinIdeal.τ).loc Cert.JoinIdeal.main_arg1)) (m ((c.tc : Thread Cert.JoinIdeal.nD Cert.JoinIdeal.τ).loc Cert.JoinIdeal.main_arg2)) (m ((c.tc : Thread Cert.JoinIdeal.nD Cert.JoinIdeal.τ).loc Cert.JoinIdeal.main_arg3)) (m ((c.tc : Thread Cert.JoinIdeal.nD Cert.JoinIdeal.τ).loc Cert.JoinIdeal.main_arg4)) (m ((c.tc : Thread Cert.JoinIdeal.nD Cert.JoinIdeal.τ).loc Cert.JoinIdeal.main_arg5)) (m ((c.tc : Thread Cert.JoinIdeal.nD Cert.JoinIdeal.τ).loc Cert.JoinIdeal.main_arg6)) (m ((c.tc : Thread Cert.JoinIdeal.nD Cert.JoinIdeal.τ).loc Cert.JoinIdeal.main_arg7)) (m ((c.tc : Thread Cert.JoinIdeal.nD Cert.JoinIdeal.τ).loc Cert.JoinIdeal.main_arg8))).1 = (fun _ => 1#1)
    ∧ (Cert.Pre_finite_join.fn (F := Ideal) (m ((c.tc : Thread Cert.JoinIdeal.nD Cert.JoinIdeal.τ).loc Cert.JoinIdeal.main_arg0)) (m ((c.tc : Thread Cert.JoinIdeal.nD Cert.JoinIdeal.τ).loc Cert.JoinIdeal.main_arg1)) (m ((c.tc : Thread Cert.JoinIdeal.nD Cert.JoinIdeal.τ).loc Cert.JoinIdeal.main_arg2)) (m ((c.tc : Thread Cert.JoinIdeal.nD Cert.JoinIdeal.τ).loc Cert.JoinIdeal.main_arg3)) (m ((c.tc : Thread Cert.JoinIdeal.nD Cert.JoinIdeal.τ).loc Cert.JoinIdeal.main_arg4)) (m ((c.tc : Thread Cert.JoinIdeal.nD Cert.JoinIdeal.τ).loc Cert.JoinIdeal.main_arg5)) (m ((c.tc : Thread Cert.JoinIdeal.nD Cert.JoinIdeal.τ).loc Cert.JoinIdeal.main_arg6)) (m ((c.tc : Thread Cert.JoinIdeal.nD Cert.JoinIdeal.τ).loc Cert.JoinIdeal.main_arg7)) (m ((c.tc : Thread Cert.JoinIdeal.nD Cert.JoinIdeal.τ).loc Cert.JoinIdeal.main_arg8))).2.1 = (fun _ => 1#1)
    ∧ (Cert.Pre_finite_join.fn (F := Ideal) (m ((c.tc : Thread Cert.JoinIdeal.nD Cert.JoinIdeal.τ).loc Cert.JoinIdeal.main_arg0)) (m ((c.tc : Thread Cert.JoinIdeal.nD Cert.JoinIdeal.τ).loc Cert.JoinIdeal.main_arg1)) (m ((c.tc : Thread Cert.JoinIdeal.nD Cert.JoinIdeal.τ).loc Cert.JoinIdeal.main_arg2)) (m ((c.tc : Thread Cert.JoinIdeal.nD Cert.JoinIdeal.τ).loc Cert.JoinIdeal.main_arg3)) (m ((c.tc : Thread Cert.JoinIdeal.nD Cert.JoinIdeal.τ).loc Cert.JoinIdeal.main_arg4)) (m ((c.tc : Thread Cert.JoinIdeal.nD Cert.JoinIdeal.τ).loc Cert.JoinIdeal.main_arg5)) (m ((c.tc : Thread Cert.JoinIdeal.nD Cert.JoinIdeal.τ).loc Cert.JoinIdeal.main_arg6)) (m ((c.tc : Thread Cert.JoinIdeal.nD Cert.JoinIdeal.τ).loc Cert.JoinIdeal.main_arg7)) (m ((c.tc : Thread Cert.JoinIdeal.nD Cert.JoinIdeal.τ).loc Cert.JoinIdeal.main_arg8))).2.2.1 = (fun _ => 1#1)
    ∧ (Cert.Pre_finite_join.fn (F := Ideal) (m ((c.tc : Thread Cert.JoinIdeal.nD Cert.JoinIdeal.τ).loc Cert.JoinIdeal.main_arg0)) (m ((c.tc : Thread Cert.JoinIdeal.nD Cert.JoinIdeal.τ).loc Cert.JoinIdeal.main_arg1)) (m ((c.tc : Thread Cert.JoinIdeal.nD Cert.JoinIdeal.τ).loc Cert.JoinIdeal.main_arg2)) (m ((c.tc : Thread Cert.JoinIdeal.nD Cert.JoinIdeal.τ).loc Cert.JoinIdeal.main_arg3)) (m ((c.tc : Thread Cert.JoinIdeal.nD Cert.JoinIdeal.τ).loc Cert.JoinIdeal.main_arg4)) (m ((c.tc : Thread Cert.JoinIdeal.nD Cert.JoinIdeal.τ).loc Cert.JoinIdeal.main_arg5)) (m ((c.tc : Thread Cert.JoinIdeal.nD Cert.JoinIdeal.τ).loc Cert.JoinIdeal.main_arg6)) (m ((c.tc : Thread Cert.JoinIdeal.nD Cert.JoinIdeal.τ).loc Cert.JoinIdeal.main_arg7)) (m ((c.tc : Thread Cert.JoinIdeal.nD Cert.JoinIdeal.τ).loc Cert.JoinIdeal.main_arg8))).2.2.2.1 = (fun _ => 1#1)
    ∧ (Cert.Pre_finite_join.fn (F := Ideal) (m ((c.tc : Thread Cert.JoinIdeal.nD Cert.JoinIdeal.τ).loc Cert.JoinIdeal.main_arg0)) (m ((c.tc : Thread Cert.JoinIdeal.nD Cert.JoinIdeal.τ).loc Cert.JoinIdeal.main_arg1)) (m ((c.tc : Thread Cert.JoinIdeal.nD Cert.JoinIdeal.τ).loc Cert.JoinIdeal.main_arg2)) (m ((c.tc : Thread Cert.JoinIdeal.nD Cert.JoinIdeal.τ).loc Cert.JoinIdeal.main_arg3)) (m ((c.tc : Thread Cert.JoinIdeal.nD Cert.JoinIdeal.τ).loc Cert.JoinIdeal.main_arg4)) (m ((c.tc : Thread Cert.JoinIdeal.nD Cert.JoinIdeal.τ).loc Cert.JoinIdeal.main_arg5)) (m ((c.tc : Thread Cert.JoinIdeal.nD Cert.JoinIdeal.τ).loc Cert.JoinIdeal.main_arg6)) (m ((c.tc : Thread Cert.JoinIdeal.nD Cert.JoinIdeal.τ).loc Cert.JoinIdeal.main_arg7)) (m ((c.tc : Thread Cert.JoinIdeal.nD Cert.JoinIdeal.τ).loc Cert.JoinIdeal.main_arg8))).2.2.2.2.1 = (fun _ => 1#1)
    ∧ (Cert.Pre_finite_join.fn (F := Ideal) (m ((c.tc : Thread Cert.JoinIdeal.nD Cert.JoinIdeal.τ).loc Cert.JoinIdeal.main_arg0)) (m ((c.tc : Thread Cert.JoinIdeal.nD Cert.JoinIdeal.τ).loc Cert.JoinIdeal.main_arg1)) (m ((c.tc : Thread Cert.JoinIdeal.nD Cert.JoinIdeal.τ).loc Cert.JoinIdeal.main_arg2)) (m ((c.tc : Thread Cert.JoinIdeal.nD Cert.JoinIdeal.τ).loc Cert.JoinIdeal.main_arg3)) (m ((c.tc : Thread Cert.JoinIdeal.nD Cert.JoinIdeal.τ).loc Cert.JoinIdeal.main_arg4)) (m ((c.tc : Thread Cert.JoinIdeal.nD Cert.JoinIdeal.τ).loc Cert.JoinIdeal.main_arg5)) (m ((c.tc : Thread Cert.JoinIdeal.nD Cert.JoinIdeal.τ).loc Cert.JoinIdeal.main_arg6)) (m ((c.tc : Thread Cert.JoinIdeal.nD Cert.JoinIdeal.τ).loc Cert.JoinIdeal.main_arg7)) (m ((c.tc : Thread Cert.JoinIdeal.nD Cert.JoinIdeal.τ).loc Cert.JoinIdeal.main_arg8))).2.2.2.2.2.1 = (fun _ => 1#1)
    ∧ (Cert.Pre_finite_join.fn (F := Ideal) (m ((c.tc : Thread Cert.JoinIdeal.nD Cert.JoinIdeal.τ).loc Cert.JoinIdeal.main_arg0)) (m ((c.tc : Thread Cert.JoinIdeal.nD Cert.JoinIdeal.τ).loc Cert.JoinIdeal.main_arg1)) (m ((c.tc : Thread Cert.JoinIdeal.nD Cert.JoinIdeal.τ).loc Cert.JoinIdeal.main_arg2)) (m ((c.tc : Thread Cert.JoinIdeal.nD Cert.JoinIdeal.τ).loc Cert.JoinIdeal.main_arg3)) (m ((c.tc : Thread Cert.JoinIdeal.nD Cert.JoinIdeal.τ).loc Cert.JoinIdeal.main_arg4)) (m ((c.tc : Thread Cert.JoinIdeal.nD Cert.JoinIdeal.τ).loc Cert.JoinIdeal.main_arg5)) (m ((c.tc : Thread Cert.JoinIdeal.nD Cert.JoinIdeal.τ).loc Cert.JoinIdeal.main_arg6)) (m ((c.tc : Thread Cert.JoinIdeal.nD Cert.JoinIdeal.τ).loc Cert.JoinIdeal.main_arg7)) (m ((c.tc : Thread Cert.JoinIdeal.nD Cert.JoinIdeal.τ).loc Cert.JoinIdeal.main_arg8))).2.2.2.2.2.2 = (fun _ => 1#1)

def Pre_JoinRefIdeal (m : (ℓ : Loc Cert.JoinRefIdeal.nD Cert.JoinRefIdeal.τ Cert.JoinRefIdeal.sig) → Buf (Elt Ideal) ℓ) : Prop :=
  True

def Pre_JoinRefIdeal_finite_join [hPre_finite_join : Cert.Pre_finite_join.Facts] (m : (ℓ : Loc Cert.JoinRefIdeal.nD Cert.JoinRefIdeal.τ Cert.JoinRefIdeal.sig) → Buf (Elt Ideal) ℓ) : Prop :=
  ∀ c : Dev Cert.JoinRefIdeal.nD,
    (Cert.Pre_finite_join.fn (F := Ideal) (m ((c.tc : Thread Cert.JoinRefIdeal.nD Cert.JoinRefIdeal.τ).loc Cert.JoinRefIdeal.main_arg0)) (m ((c.tc : Thread Cert.JoinRefIdeal.nD Cert.JoinRefIdeal.τ).loc Cert.JoinRefIdeal.main_arg1)) (m ((c.tc : Thread Cert.JoinRefIdeal.nD Cert.JoinRefIdeal.τ).loc Cert.JoinRefIdeal.main_arg2)) (m ((c.tc : Thread Cert.JoinRefIdeal.nD Cert.JoinRefIdeal.τ).loc Cert.JoinRefIdeal.main_arg3)) (m ((c.tc : Thread Cert.JoinRefIdeal.nD Cert.JoinRefIdeal.τ).loc Cert.JoinRefIdeal.main_arg4)) (m ((c.tc : Thread Cert.JoinRefIdeal.nD Cert.JoinRefIdeal.τ).loc Cert.JoinRefIdeal.main_arg5)) (m ((c.tc : Thread Cert.JoinRefIdeal.nD Cert.JoinRefIdeal.τ).loc Cert.JoinRefIdeal.main_arg6)) (m ((c.tc : Thread Cert.JoinRefIdeal.nD Cert.JoinRefIdeal.τ).loc Cert.JoinRefIdeal.main_arg7)) (m ((c.tc : Thread Cert.JoinRefIdeal.nD Cert.JoinRefIdeal.τ).loc Cert.JoinRefIdeal.main_arg8))).1 = (fun _ => 1#1)
    ∧ (Cert.Pre_finite_join.fn (F := Ideal) (m ((c.tc : Thread Cert.JoinRefIdeal.nD Cert.JoinRefIdeal.τ).loc Cert.JoinRefIdeal.main_arg0)) (m ((c.tc : Thread Cert.JoinRefIdeal.nD Cert.JoinRefIdeal.τ).loc Cert.JoinRefIdeal.main_arg1)) (m ((c.tc : Thread Cert.JoinRefIdeal.nD Cert.JoinRefIdeal.τ).loc Cert.JoinRefIdeal.main_arg2)) (m ((c.tc : Thread Cert.JoinRefIdeal.nD Cert.JoinRefIdeal.τ).loc Cert.JoinRefIdeal.main_arg3)) (m ((c.tc : Thread Cert.JoinRefIdeal.nD Cert.JoinRefIdeal.τ).loc Cert.JoinRefIdeal.main_arg4)) (m ((c.tc : Thread Cert.JoinRefIdeal.nD Cert.JoinRefIdeal.τ).loc Cert.JoinRefIdeal.main_arg5)) (m ((c.tc : Thread Cert.JoinRefIdeal.nD Cert.JoinRefIdeal.τ).loc Cert.JoinRefIdeal.main_arg6)) (m ((c.tc : Thread Cert.JoinRefIdeal.nD Cert.JoinRefIdeal.τ).loc Cert.JoinRefIdeal.main_arg7)) (m ((c.tc : Thread Cert.JoinRefIdeal.nD Cert.JoinRefIdeal.τ).loc Cert.JoinRefIdeal.main_arg8))).2.1 = (fun _ => 1#1)
    ∧ (Cert.Pre_finite_join.fn (F := Ideal) (m ((c.tc : Thread Cert.JoinRefIdeal.nD Cert.JoinRefIdeal.τ).loc Cert.JoinRefIdeal.main_arg0)) (m ((c.tc : Thread Cert.JoinRefIdeal.nD Cert.JoinRefIdeal.τ).loc Cert.JoinRefIdeal.main_arg1)) (m ((c.tc : Thread Cert.JoinRefIdeal.nD Cert.JoinRefIdeal.τ).loc Cert.JoinRefIdeal.main_arg2)) (m ((c.tc : Thread Cert.JoinRefIdeal.nD Cert.JoinRefIdeal.τ).loc Cert.JoinRefIdeal.main_arg3)) (m ((c.tc : Thread Cert.JoinRefIdeal.nD Cert.JoinRefIdeal.τ).loc Cert.JoinRefIdeal.main_arg4)) (m ((c.tc : Thread Cert.JoinRefIdeal.nD Cert.JoinRefIdeal.τ).loc Cert.JoinRefIdeal.main_arg5)) (m ((c.tc : Thread Cert.JoinRefIdeal.nD Cert.JoinRefIdeal.τ).loc Cert.JoinRefIdeal.main_arg6)) (m ((c.tc : Thread Cert.JoinRefIdeal.nD Cert.JoinRefIdeal.τ).loc Cert.JoinRefIdeal.main_arg7)) (m ((c.tc : Thread Cert.JoinRefIdeal.nD Cert.JoinRefIdeal.τ).loc Cert.JoinRefIdeal.main_arg8))).2.2.1 = (fun _ => 1#1)
    ∧ (Cert.Pre_finite_join.fn (F := Ideal) (m ((c.tc : Thread Cert.JoinRefIdeal.nD Cert.JoinRefIdeal.τ).loc Cert.JoinRefIdeal.main_arg0)) (m ((c.tc : Thread Cert.JoinRefIdeal.nD Cert.JoinRefIdeal.τ).loc Cert.JoinRefIdeal.main_arg1)) (m ((c.tc : Thread Cert.JoinRefIdeal.nD Cert.JoinRefIdeal.τ).loc Cert.JoinRefIdeal.main_arg2)) (m ((c.tc : Thread Cert.JoinRefIdeal.nD Cert.JoinRefIdeal.τ).loc Cert.JoinRefIdeal.main_arg3)) (m ((c.tc : Thread Cert.JoinRefIdeal.nD Cert.JoinRefIdeal.τ).loc Cert.JoinRefIdeal.main_arg4)) (m ((c.tc : Thread Cert.JoinRefIdeal.nD Cert.JoinRefIdeal.τ).loc Cert.JoinRefIdeal.main_arg5)) (m ((c.tc : Thread Cert.JoinRefIdeal.nD Cert.JoinRefIdeal.τ).loc Cert.JoinRefIdeal.main_arg6)) (m ((c.tc : Thread Cert.JoinRefIdeal.nD Cert.JoinRefIdeal.τ).loc Cert.JoinRefIdeal.main_arg7)) (m ((c.tc : Thread Cert.JoinRefIdeal.nD Cert.JoinRefIdeal.τ).loc Cert.JoinRefIdeal.main_arg8))).2.2.2.1 = (fun _ => 1#1)
    ∧ (Cert.Pre_finite_join.fn (F := Ideal) (m ((c.tc : Thread Cert.JoinRefIdeal.nD Cert.JoinRefIdeal.τ).loc Cert.JoinRefIdeal.main_arg0)) (m ((c.tc : Thread Cert.JoinRefIdeal.nD Cert.JoinRefIdeal.τ).loc Cert.JoinRefIdeal.main_arg1)) (m ((c.tc : Thread Cert.JoinRefIdeal.nD Cert.JoinRefIdeal.τ).loc Cert.JoinRefIdeal.main_arg2)) (m ((c.tc : Thread Cert.JoinRefIdeal.nD Cert.JoinRefIdeal.τ).loc Cert.JoinRefIdeal.main_arg3)) (m ((c.tc : Thread Cert.JoinRefIdeal.nD Cert.JoinRefIdeal.τ).loc Cert.JoinRefIdeal.main_arg4)) (m ((c.tc : Thread Cert.JoinRefIdeal.nD Cert.JoinRefIdeal.τ).loc Cert.JoinRefIdeal.main_arg5)) (m ((c.tc : Thread Cert.JoinRefIdeal.nD Cert.JoinRefIdeal.τ).loc Cert.JoinRefIdeal.main_arg6)) (m ((c.tc : Thread Cert.JoinRefIdeal.nD Cert.JoinRefIdeal.τ).loc Cert.JoinRefIdeal.main_arg7)) (m ((c.tc : Thread Cert.JoinRefIdeal.nD Cert.JoinRefIdeal.τ).loc Cert.JoinRefIdeal.main_arg8))).2.2.2.2.1 = (fun _ => 1#1)
    ∧ (Cert.Pre_finite_join.fn (F := Ideal) (m ((c.tc : Thread Cert.JoinRefIdeal.nD Cert.JoinRefIdeal.τ).loc Cert.JoinRefIdeal.main_arg0)) (m ((c.tc : Thread Cert.JoinRefIdeal.nD Cert.JoinRefIdeal.τ).loc Cert.JoinRefIdeal.main_arg1)) (m ((c.tc : Thread Cert.JoinRefIdeal.nD Cert.JoinRefIdeal.τ).loc Cert.JoinRefIdeal.main_arg2)) (m ((c.tc : Thread Cert.JoinRefIdeal.nD Cert.JoinRefIdeal.τ).loc Cert.JoinRefIdeal.main_arg3)) (m ((c.tc : Thread Cert.JoinRefIdeal.nD Cert.JoinRefIdeal.τ).loc Cert.JoinRefIdeal.main_arg4)) (m ((c.tc : Thread Cert.JoinRefIdeal.nD Cert.JoinRefIdeal.τ).loc Cert.JoinRefIdeal.main_arg5)) (m ((c.tc : Thread Cert.JoinRefIdeal.nD Cert.JoinRefIdeal.τ).loc Cert.JoinRefIdeal.main_arg6)) (m ((c.tc : Thread Cert.JoinRefIdeal.nD Cert.JoinRefIdeal.τ).loc Cert.JoinRefIdeal.main_arg7)) (m ((c.tc : Thread Cert.JoinRefIdeal.nD Cert.JoinRefIdeal.τ).loc Cert.JoinRefIdeal.main_arg8))).2.2.2.2.2.1 = (fun _ => 1#1)
    ∧ (Cert.Pre_finite_join.fn (F := Ideal) (m ((c.tc : Thread Cert.JoinRefIdeal.nD Cert.JoinRefIdeal.τ).loc Cert.JoinRefIdeal.main_arg0)) (m ((c.tc : Thread Cert.JoinRefIdeal.nD Cert.JoinRefIdeal.τ).loc Cert.JoinRefIdeal.main_arg1)) (m ((c.tc : Thread Cert.JoinRefIdeal.nD Cert.JoinRefIdeal.τ).loc Cert.JoinRefIdeal.main_arg2)) (m ((c.tc : Thread Cert.JoinRefIdeal.nD Cert.JoinRefIdeal.τ).loc Cert.JoinRefIdeal.main_arg3)) (m ((c.tc : Thread Cert.JoinRefIdeal.nD Cert.JoinRefIdeal.τ).loc Cert.JoinRefIdeal.main_arg4)) (m ((c.tc : Thread Cert.JoinRefIdeal.nD Cert.JoinRefIdeal.τ).loc Cert.JoinRefIdeal.main_arg5)) (m ((c.tc : Thread Cert.JoinRefIdeal.nD Cert.JoinRefIdeal.τ).loc Cert.JoinRefIdeal.main_arg6)) (m ((c.tc : Thread Cert.JoinRefIdeal.nD Cert.JoinRefIdeal.τ).loc Cert.JoinRefIdeal.main_arg7)) (m ((c.tc : Thread Cert.JoinRefIdeal.nD Cert.JoinRefIdeal.τ).loc Cert.JoinRefIdeal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_GDown [hGDown : Cert.GDown.Facts] : Prop :=
  ∀ (m : (ℓ : Loc Cert.GDown.nD Cert.GDown.τ Cert.GDown.sig) → Buf (Elt Bits) ℓ) (g : Dev Cert.GDown.nD → PrngReg), Pre_GDown m →
    θ_run (Cert.GDown.defs (F := Bits)) (onTc (τ := Cert.GDown.τ) (Cert.GDown.main (F := Bits))) ⟨m, fun _ => 0, g⟩ (fun r => (∀ c : Dev Cert.GDown.nD,
      r.2.mem ((c.tc : Thread Cert.GDown.nD Cert.GDown.τ).loc Cert.GDown.main_arg0) = m ((c.tc : Thread Cert.GDown.nD Cert.GDown.τ).loc Cert.GDown.main_arg0)
      ∧ r.2.mem ((c.tc : Thread Cert.GDown.nD Cert.GDown.τ).loc Cert.GDown.main_arg1) = m ((c.tc : Thread Cert.GDown.nD Cert.GDown.τ).loc Cert.GDown.main_arg1)
      ∧ r.2.mem ((c.tc : Thread Cert.GDown.nD Cert.GDown.τ).loc Cert.GDown.main_arg2) = m ((c.tc : Thread Cert.GDown.nD Cert.GDown.τ).loc Cert.GDown.main_arg2)
      ∧ r.2.mem ((c.tc : Thread Cert.GDown.nD Cert.GDown.τ).loc Cert.GDown.main_arg3) = m ((c.tc : Thread Cert.GDown.nD Cert.GDown.τ).loc Cert.GDown.main_arg3))
      ∧ r.2.sem = fun _ => 0)

def quiescent_GDownIdeal [hGDownIdeal : Cert.GDownIdeal.Facts] : Prop :=
  ∀ (m : (ℓ : Loc Cert.GDownIdeal.nD Cert.GDownIdeal.τ Cert.GDownIdeal.sig) → Buf (Elt Ideal) ℓ) (g : Dev Cert.GDownIdeal.nD → PrngReg), Pre_GDownIdeal m →
    θ_run (Cert.GDownIdeal.defs (F := Ideal)) (onTc (τ := Cert.GDownIdeal.τ) (Cert.GDownIdeal.main (F := Ideal))) ⟨m, fun _ => 0, g⟩ (fun r => (∀ c : Dev Cert.GDownIdeal.nD,
      r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
      ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1)
      ∧ r.2.mem ((c.tc : Thread Cert.GDownIdeal.nD Cert.GDownIdeal.τ).loc Cert.GDownIdeal.main_arg2) = m ((c.tc : Thread Cert.GDownIdeal.nD Cert.GDownIdeal.τ).loc Cert.GDownIdeal.main_arg2)
      ∧ r.2.mem ((c.tc : Thread Cert.GDownIdeal.nD Cert.GDownIdeal.τ).loc Cert.GDownIdeal.main_arg3) = m ((c.tc : Thread Cert.GDownIdeal.nD Cert.GDownIdeal.τ).loc Cert.GDownIdeal.main_arg3))
      ∧ r.2.sem = fun _ => 0)

def quiescent_GDownRefIdeal [hGDownRefIdeal : Cert.GDownRefIdeal.Facts] : Prop :=
  ∀ (m : (ℓ : Loc Cert.GDownRefIdeal.nD Cert.GDownRefIdeal.τ Cert.GDownRefIdeal.sig) → Buf (Elt Ideal) ℓ) (g : Dev Cert.GDownRefIdeal.nD → PrngReg), Pre_GDownRefIdeal m →
    θ_run (Cert.GDownRefIdeal.defs (F := Ideal)) (onTc (τ := Cert.GDownRefIdeal.τ) (Cert.GDownRefIdeal.main (F := Ideal))) ⟨m, fun _ => 0, g⟩ (fun r => (∀ c : Dev Cert.GDownRefIdeal.nD,
      r.2.mem ((c.tc : Thread Cert.GDownRefIdeal.nD Cert.GDownRefIdeal.τ).loc Cert.GDownRefIdeal.main_arg0) = m ((c.tc : Thread Cert.GDownRefIdeal.nD Cert.GDownRefIdeal.τ).loc Cert.GDownRefIdeal.main_arg0)
      ∧ r.2.mem ((c.tc : Thread Cert.GDownRefIdeal.nD Cert.GDownRefIdeal.τ).loc Cert.GDownRefIdeal.main_arg1) = m ((c.tc : Thread Cert.GDownRefIdeal.nD Cert.GDownRefIdeal.τ).loc Cert.GDownRefIdeal.main_arg1)
      ∧ r.2.mem ((c.tc : Thread Cert.GDownRefIdeal.nD Cert.GDownRefIdeal.τ).loc Cert.GDownRefIdeal.main_arg2) = m ((c.tc : Thread Cert.GDownRefIdeal.nD Cert.GDownRefIdeal.τ).loc Cert.GDownRefIdeal.main_arg2)
      ∧ r.2.mem ((c.tc : Thread Cert.GDownRefIdeal.nD Cert.GDownRefIdeal.τ).loc Cert.GDownRefIdeal.main_arg3) = m ((c.tc : Thread Cert.GDownRefIdeal.nD Cert.GDownRefIdeal.τ).loc Cert.GDownRefIdeal.main_arg3))
      ∧ r.2.sem = fun _ => 0)

def quiescent_DDown [hDDown : Cert.DDown.Facts] : Prop :=
  ∀ (m : (ℓ : Loc Cert.DDown.nD Cert.DDown.τ Cert.DDown.sig) → Buf (Elt Bits) ℓ) (g : Dev Cert.DDown.nD → PrngReg), Pre_DDown m →
    θ_run (Cert.DDown.defs (F := Bits)) (onTc (τ := Cert.DDown.τ) (Cert.DDown.main (F := Bits))) ⟨m, fun _ => 0, g⟩ (fun r => (∀ c : Dev Cert.DDown.nD,
      r.2.mem ((c.tc : Thread Cert.DDown.nD Cert.DDown.τ).loc Cert.DDown.main_arg0) = m ((c.tc : Thread Cert.DDown.nD Cert.DDown.τ).loc Cert.DDown.main_arg0)
      ∧ r.2.mem ((c.tc : Thread Cert.DDown.nD Cert.DDown.τ).loc Cert.DDown.main_arg1) = m ((c.tc : Thread Cert.DDown.nD Cert.DDown.τ).loc Cert.DDown.main_arg1)
      ∧ r.2.mem ((c.tc : Thread Cert.DDown.nD Cert.DDown.τ).loc Cert.DDown.main_arg2) = m ((c.tc : Thread Cert.DDown.nD Cert.DDown.τ).loc Cert.DDown.main_arg2)
      ∧ r.2.mem ((c.tc : Thread Cert.DDown.nD Cert.DDown.τ).loc Cert.DDown.main_arg3) = m ((c.tc : Thread Cert.DDown.nD Cert.DDown.τ).loc Cert.DDown.main_arg3))
      ∧ r.2.sem = fun _ => 0)

def quiescent_DDownIdeal [hDDownIdeal : Cert.DDownIdeal.Facts] : Prop :=
  ∀ (m : (ℓ : Loc Cert.DDownIdeal.nD Cert.DDownIdeal.τ Cert.DDownIdeal.sig) → Buf (Elt Ideal) ℓ) (g : Dev Cert.DDownIdeal.nD → PrngReg), Pre_DDownIdeal m →
    θ_run (Cert.DDownIdeal.defs (F := Ideal)) (onTc (τ := Cert.DDownIdeal.τ) (Cert.DDownIdeal.main (F := Ideal))) ⟨m, fun _ => 0, g⟩ (fun r => (∀ c : Dev Cert.DDownIdeal.nD,
      r.2.mem ((c.tc : Thread Cert.DDownIdeal.nD Cert.DDownIdeal.τ).loc Cert.DDownIdeal.main_arg0) = m ((c.tc : Thread Cert.DDownIdeal.nD Cert.DDownIdeal.τ).loc Cert.DDownIdeal.main_arg0)
      ∧ r.2.mem ((c.tc : Thread Cert.DDownIdeal.nD Cert.DDownIdeal.τ).loc Cert.DDownIdeal.main_arg1) = m ((c.tc : Thread Cert.DDownIdeal.nD Cert.DDownIdeal.τ).loc Cert.DDownIdeal.main_arg1)
      ∧ r.2.mem ((c.tc : Thread Cert.DDownIdeal.nD Cert.DDownIdeal.τ).loc Cert.DDownIdeal.main_arg2) = m ((c.tc : Thread Cert.DDownIdeal.nD Cert.DDownIdeal.τ).loc Cert.DDownIdeal.main_arg2)
      ∧ r.2.mem ((c.tc : Thread Cert.DDownIdeal.nD Cert.DDownIdeal.τ).loc Cert.DDownIdeal.main_arg3) = m ((c.tc : Thread Cert.DDownIdeal.nD Cert.DDownIdeal.τ).loc Cert.DDownIdeal.main_arg3))
      ∧ r.2.sem = fun _ => 0)

def quiescent_DDownRefIdeal [hDDownRefIdeal : Cert.DDownRefIdeal.Facts] : Prop :=
  ∀ (m : (ℓ : Loc Cert.DDownRefIdeal.nD Cert.DDownRefIdeal.τ Cert.DDownRefIdeal.sig) → Buf (Elt Ideal) ℓ) (g : Dev Cert.DDownRefIdeal.nD → PrngReg), Pre_DDownRefIdeal m →
    θ_run (Cert.DDownRefIdeal.defs (F := Ideal)) (onTc (τ := Cert.DDownRefIdeal.τ) (Cert.DDownRefIdeal.main (F := Ideal))) ⟨m, fun _ => 0, g⟩ (fun r => (∀ c : Dev Cert.DDownRefIdeal.nD,
      r.2.mem ((c.tc : Thread Cert.DDownRefIdeal.nD Cert.DDownRefIdeal.τ).loc Cert.DDownRefIdeal.main_arg0) = m ((c.tc : Thread Cert.DDownRefIdeal.nD Cert.DDownRefIdeal.τ).loc Cert.DDownRefIdeal.main_arg0)
      ∧ r.2.mem ((c.tc : Thread Cert.DDownRefIdeal.nD Cert.DDownRefIdeal.τ).loc Cert.DDownRefIdeal.main_arg1) = m ((c.tc : Thread Cert.DDownRefIdeal.nD Cert.DDownRefIdeal.τ).loc Cert.DDownRefIdeal.main_arg1)
      ∧ r.2.mem ((c.tc : Thread Cert.DDownRefIdeal.nD Cert.DDownRefIdeal.τ).loc Cert.DDownRefIdeal.main_arg2) = m ((c.tc : Thread Cert.DDownRefIdeal.nD Cert.DDownRefIdeal.τ).loc Cert.DDownRefIdeal.main_arg2)
      ∧ r.2.mem ((c.tc : Thread Cert.DDownRefIdeal.nD Cert.DDownRefIdeal.τ).loc Cert.DDownRefIdeal.main_arg3) = m ((c.tc : Thread Cert.DDownRefIdeal.nD Cert.DDownRefIdeal.τ).loc Cert.DDownRefIdeal.main_arg3))
      ∧ r.2.sem = fun _ => 0)

def quiescent_GUp [hGUp : Cert.GUp.Facts] : Prop :=
  ∀ (m : (ℓ : Loc Cert.GUp.nD Cert.GUp.τ Cert.GUp.sig) → Buf (Elt Bits) ℓ) (g : Dev Cert.GUp.nD → PrngReg), Pre_GUp m →
    θ_run (Cert.GUp.defs (F := Bits)) (onTc (τ := Cert.GUp.τ) (Cert.GUp.main (F := Bits))) ⟨m, fun _ => 0, g⟩ (fun r => (∀ c : Dev Cert.GUp.nD,
      r.2.mem ((c.tc : Thread Cert.GUp.nD Cert.GUp.τ).loc Cert.GUp.main_arg0) = m ((c.tc : Thread Cert.GUp.nD Cert.GUp.τ).loc Cert.GUp.main_arg0)
      ∧ r.2.mem ((c.tc : Thread Cert.GUp.nD Cert.GUp.τ).loc Cert.GUp.main_arg1) = m ((c.tc : Thread Cert.GUp.nD Cert.GUp.τ).loc Cert.GUp.main_arg1)
      ∧ r.2.mem ((c.tc : Thread Cert.GUp.nD Cert.GUp.τ).loc Cert.GUp.main_arg2) = m ((c.tc : Thread Cert.GUp.nD Cert.GUp.τ).loc Cert.GUp.main_arg2))
      ∧ r.2.sem = fun _ => 0)

def quiescent_GUpIdeal [hGUpIdeal : Cert.GUpIdeal.Facts] : Prop :=
  ∀ (m : (ℓ : Loc Cert.GUpIdeal.nD Cert.GUpIdeal.τ Cert.GUpIdeal.sig) → Buf (Elt Ideal) ℓ) (g : Dev Cert.GUpIdeal.nD → PrngReg), Pre_GUpIdeal m →
    θ_run (Cert.GUpIdeal.defs (F := Ideal)) (onTc (τ := Cert.GUpIdeal.τ) (Cert.GUpIdeal.main (F := Ideal))) ⟨m, fun _ => 0, g⟩ (fun r => (∀ c : Dev Cert.GUpIdeal.nD,
      r.2.mem ((c.tc : Thread Cert.GUpIdeal.nD Cert.GUpIdeal.τ).loc Cert.GUpIdeal.main_arg0) = m ((c.tc : Thread Cert.GUpIdeal.nD Cert.GUpIdeal.τ).loc Cert.GUpIdeal.main_arg0)
      ∧ r.2.mem ((c.tc : Thread Cert.GUpIdeal.nD Cert.GUpIdeal.τ).loc Cert.GUpIdeal.main_arg1) = m ((c.tc : Thread Cert.GUpIdeal.nD Cert.GUpIdeal.τ).loc Cert.GUpIdeal.main_arg1)
      ∧ r.2.mem ((c.tc : Thread Cert.GUpIdeal.nD Cert.GUpIdeal.τ).loc Cert.GUpIdeal.main_arg2) = m ((c.tc : Thread Cert.GUpIdeal.nD Cert.GUpIdeal.τ).loc Cert.GUpIdeal.main_arg2))
      ∧ r.2.sem = fun _ => 0)

def quiescent_GUpRefIdeal [hGUpRefIdeal : Cert.GUpRefIdeal.Facts] : Prop :=
  ∀ (m : (ℓ : Loc Cert.GUpRefIdeal.nD Cert.GUpRefIdeal.τ Cert.GUpRefIdeal.sig) → Buf (Elt Ideal) ℓ) (g : Dev Cert.GUpRefIdeal.nD → PrngReg), Pre_GUpRefIdeal m →
    θ_run (Cert.GUpRefIdeal.defs (F := Ideal)) (onTc (τ := Cert.GUpRefIdeal.τ) (Cert.GUpRefIdeal.main (F := Ideal))) ⟨m, fun _ => 0, g⟩ (fun r => (∀ c : Dev Cert.GUpRefIdeal.nD,
      r.2.mem ((c.tc : Thread Cert.GUpRefIdeal.nD Cert.GUpRefIdeal.τ).loc Cert.GUpRefIdeal.main_arg0) = m ((c.tc : Thread Cert.GUpRefIdeal.nD Cert.GUpRefIdeal.τ).loc Cert.GUpRefIdeal.main_arg0)
      ∧ r.2.mem ((c.tc : Thread Cert.GUpRefIdeal.nD Cert.GUpRefIdeal.τ).loc Cert.GUpRefIdeal.main_arg1) = m ((c.tc : Thread Cert.GUpRefIdeal.nD Cert.GUpRefIdeal.τ).loc Cert.GUpRefIdeal.main_arg1)
      ∧ r.2.mem ((c.tc : Thread Cert.GUpRefIdeal.nD Cert.GUpRefIdeal.τ).loc Cert.GUpRefIdeal.main_arg2) = m ((c.tc : Thread Cert.GUpRefIdeal.nD Cert.GUpRefIdeal.τ).loc Cert.GUpRefIdeal.main_arg2))
      ∧ r.2.sem = fun _ => 0)

def quiescent_DUp [hDUp : Cert.DUp.Facts] : Prop :=
  ∀ (m : (ℓ : Loc Cert.DUp.nD Cert.DUp.τ Cert.DUp.sig) → Buf (Elt Bits) ℓ) (g : Dev Cert.DUp.nD → PrngReg), Pre_DUp m →
    θ_run (Cert.DUp.defs (F := Bits)) (onTc (τ := Cert.DUp.τ) (Cert.DUp.main (F := Bits))) ⟨m, fun _ => 0, g⟩ (fun r => (∀ c : Dev Cert.DUp.nD,
      r.2.mem ((c.tc : Thread Cert.DUp.nD Cert.DUp.τ).loc Cert.DUp.main_arg0) = m ((c.tc : Thread Cert.DUp.nD Cert.DUp.τ).loc Cert.DUp.main_arg0)
      ∧ r.2.mem ((c.tc : Thread Cert.DUp.nD Cert.DUp.τ).loc Cert.DUp.main_arg1) = m ((c.tc : Thread Cert.DUp.nD Cert.DUp.τ).loc Cert.DUp.main_arg1)
      ∧ r.2.mem ((c.tc : Thread Cert.DUp.nD Cert.DUp.τ).loc Cert.DUp.main_arg2) = m ((c.tc : Thread Cert.DUp.nD Cert.DUp.τ).loc Cert.DUp.main_arg2))
      ∧ r.2.sem = fun _ => 0)

def quiescent_DUpIdeal [hDUpIdeal : Cert.DUpIdeal.Facts] : Prop :=
  ∀ (m : (ℓ : Loc Cert.DUpIdeal.nD Cert.DUpIdeal.τ Cert.DUpIdeal.sig) → Buf (Elt Ideal) ℓ) (g : Dev Cert.DUpIdeal.nD → PrngReg), Pre_DUpIdeal m →
    θ_run (Cert.DUpIdeal.defs (F := Ideal)) (onTc (τ := Cert.DUpIdeal.τ) (Cert.DUpIdeal.main (F := Ideal))) ⟨m, fun _ => 0, g⟩ (fun r => (∀ c : Dev Cert.DUpIdeal.nD,
      r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
      ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1)
      ∧ r.2.mem ((c.tc : Thread Cert.DUpIdeal.nD Cert.DUpIdeal.τ).loc Cert.DUpIdeal.main_arg2) = m ((c.tc : Thread Cert.DUpIdeal.nD Cert.DUpIdeal.τ).loc Cert.DUpIdeal.main_arg2))
      ∧ r.2.sem = fun _ => 0)

def quiescent_DUpRefIdeal [hDUpRefIdeal : Cert.DUpRefIdeal.Facts] : Prop :=
  ∀ (m : (ℓ : Loc Cert.DUpRefIdeal.nD Cert.DUpRefIdeal.τ Cert.DUpRefIdeal.sig) → Buf (Elt Ideal) ℓ) (g : Dev Cert.DUpRefIdeal.nD → PrngReg), Pre_DUpRefIdeal m →
    θ_run (Cert.DUpRefIdeal.defs (F := Ideal)) (onTc (τ := Cert.DUpRefIdeal.τ) (Cert.DUpRefIdeal.main (F := Ideal))) ⟨m, fun _ => 0, g⟩ (fun r => (∀ c : Dev Cert.DUpRefIdeal.nD,
      r.2.mem ((c.tc : Thread Cert.DUpRefIdeal.nD Cert.DUpRefIdeal.τ).loc Cert.DUpRefIdeal.main_arg0) = m ((c.tc : Thread Cert.DUpRefIdeal.nD Cert.DUpRefIdeal.τ).loc Cert.DUpRefIdeal.main_arg0)
      ∧ r.2.mem ((c.tc : Thread Cert.DUpRefIdeal.nD Cert.DUpRefIdeal.τ).loc Cert.DUpRefIdeal.main_arg1) = m ((c.tc : Thread Cert.DUpRefIdeal.nD Cert.DUpRefIdeal.τ).loc Cert.DUpRefIdeal.main_arg1)
      ∧ r.2.mem ((c.tc : Thread Cert.DUpRefIdeal.nD Cert.DUpRefIdeal.τ).loc Cert.DUpRefIdeal.main_arg2) = m ((c.tc : Thread Cert.DUpRefIdeal.nD Cert.DUpRefIdeal.τ).loc Cert.DUpRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Spatial [hSpatial : Cert.Spatial.Facts] : Prop :=
  ∀ (m : (ℓ : Loc Cert.Spatial.nD Cert.Spatial.τ Cert.Spatial.sig) → Buf (Elt Bits) ℓ) (g : Dev Cert.Spatial.nD → PrngReg), Pre_Spatial m →
    θ_run (Cert.Spatial.defs (F := Bits)) (onTc (τ := Cert.Spatial.τ) (Cert.Spatial.main (F := Bits))) ⟨m, fun _ => 0, g⟩ (fun r => (∀ c : Dev Cert.Spatial.nD,
      r.2.mem ((c.tc : Thread Cert.Spatial.nD Cert.Spatial.τ).loc Cert.Spatial.main_arg0) = m ((c.tc : Thread Cert.Spatial.nD Cert.Spatial.τ).loc Cert.Spatial.main_arg0)
      ∧ r.2.mem ((c.tc : Thread Cert.Spatial.nD Cert.Spatial.τ).loc Cert.Spatial.main_arg1) = m ((c.tc : Thread Cert.Spatial.nD Cert.Spatial.τ).loc Cert.Spatial.main_arg1)
      ∧ r.2.mem ((c.tc : Thread Cert.Spatial.nD Cert.Spatial.τ).loc Cert.Spatial.main_arg2) = m ((c.tc : Thread Cert.Spatial.nD Cert.Spatial.τ).loc Cert.Spatial.main_arg2)
      ∧ r.2.mem ((c.tc : Thread Cert.Spatial.nD Cert.Spatial.τ).loc Cert.Spatial.main_arg3) = m ((c.tc : Thread Cert.Spatial.nD Cert.Spatial.τ).loc Cert.Spatial.main_arg3)
      ∧ r.2.mem ((c.tc : Thread Cert.Spatial.nD Cert.Spatial.τ).loc Cert.Spatial.main_arg4) = m ((c.tc : Thread Cert.Spatial.nD Cert.Spatial.τ).loc Cert.Spatial.main_arg4)
      ∧ r.2.mem ((c.tc : Thread Cert.Spatial.nD Cert.Spatial.τ).loc Cert.Spatial.main_arg5) = m ((c.tc : Thread Cert.Spatial.nD Cert.Spatial.τ).loc Cert.Spatial.main_arg5))
      ∧ r.2.sem = fun _ => 0)

def quiescent_SpatialIdeal [hSpatialIdeal : Cert.SpatialIdeal.Facts] : Prop :=
  ∀ (m : (ℓ : Loc Cert.SpatialIdeal.nD Cert.SpatialIdeal.τ Cert.SpatialIdeal.sig) → Buf (Elt Ideal) ℓ) (g : Dev Cert.SpatialIdeal.nD → PrngReg), Pre_SpatialIdeal m →
    θ_run (Cert.SpatialIdeal.defs (F := Ideal)) (onTc (τ := Cert.SpatialIdeal.τ) (Cert.SpatialIdeal.main (F := Ideal))) ⟨m, fun _ => 0, g⟩ (fun r => (∀ c : Dev Cert.SpatialIdeal.nD,
      r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
      ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
      ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2)
      ∧ r.2.mem ((c.tc : Thread Cert.SpatialIdeal.nD Cert.SpatialIdeal.τ).loc Cert.SpatialIdeal.main_arg3) = m ((c.tc : Thread Cert.SpatialIdeal.nD Cert.SpatialIdeal.τ).loc Cert.SpatialIdeal.main_arg3)
      ∧ r.2.mem ((c.tc : Thread Cert.SpatialIdeal.nD Cert.SpatialIdeal.τ).loc Cert.SpatialIdeal.main_arg4) = m ((c.tc : Thread Cert.SpatialIdeal.nD Cert.SpatialIdeal.τ).loc Cert.SpatialIdeal.main_arg4)
      ∧ r.2.mem ((c.tc : Thread Cert.SpatialIdeal.nD Cert.SpatialIdeal.τ).loc Cert.SpatialIdeal.main_arg5) = m ((c.tc : Thread Cert.SpatialIdeal.nD Cert.SpatialIdeal.τ).loc Cert.SpatialIdeal.main_arg5))
      ∧ r.2.sem = fun _ => 0)

def quiescent_SpatialRefIdeal [hSpatialRefIdeal : Cert.SpatialRefIdeal.Facts] : Prop :=
  ∀ (m : (ℓ : Loc Cert.SpatialRefIdeal.nD Cert.SpatialRefIdeal.τ Cert.SpatialRefIdeal.sig) → Buf (Elt Ideal) ℓ) (g : Dev Cert.SpatialRefIdeal.nD → PrngReg), Pre_SpatialRefIdeal m →
    θ_run (Cert.SpatialRefIdeal.defs (F := Ideal)) (onTc (τ := Cert.SpatialRefIdeal.τ) (Cert.SpatialRefIdeal.main (F := Ideal))) ⟨m, fun _ => 0, g⟩ (fun r => (∀ c : Dev Cert.SpatialRefIdeal.nD,
      r.2.mem ((c.tc : Thread Cert.SpatialRefIdeal.nD Cert.SpatialRefIdeal.τ).loc Cert.SpatialRefIdeal.main_arg0) = m ((c.tc : Thread Cert.SpatialRefIdeal.nD Cert.SpatialRefIdeal.τ).loc Cert.SpatialRefIdeal.main_arg0)
      ∧ r.2.mem ((c.tc : Thread Cert.SpatialRefIdeal.nD Cert.SpatialRefIdeal.τ).loc Cert.SpatialRefIdeal.main_arg1) = m ((c.tc : Thread Cert.SpatialRefIdeal.nD Cert.SpatialRefIdeal.τ).loc Cert.SpatialRefIdeal.main_arg1)
      ∧ r.2.mem ((c.tc : Thread Cert.SpatialRefIdeal.nD Cert.SpatialRefIdeal.τ).loc Cert.SpatialRefIdeal.main_arg2) = m ((c.tc : Thread Cert.SpatialRefIdeal.nD Cert.SpatialRefIdeal.τ).loc Cert.SpatialRefIdeal.main_arg2)
      ∧ r.2.mem ((c.tc : Thread Cert.SpatialRefIdeal.nD Cert.SpatialRefIdeal.τ).loc Cert.SpatialRefIdeal.main_arg3) = m ((c.tc : Thread Cert.SpatialRefIdeal.nD Cert.SpatialRefIdeal.τ).loc Cert.SpatialRefIdeal.main_arg3)
      ∧ r.2.mem ((c.tc : Thread Cert.SpatialRefIdeal.nD Cert.SpatialRefIdeal.τ).loc Cert.SpatialRefIdeal.main_arg4) = m ((c.tc : Thread Cert.SpatialRefIdeal.nD Cert.SpatialRefIdeal.τ).loc Cert.SpatialRefIdeal.main_arg4)
      ∧ r.2.mem ((c.tc : Thread Cert.SpatialRefIdeal.nD Cert.SpatialRefIdeal.τ).loc Cert.SpatialRefIdeal.main_arg5) = m ((c.tc : Thread Cert.SpatialRefIdeal.nD Cert.SpatialRefIdeal.τ).loc Cert.SpatialRefIdeal.main_arg5))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3)
      ∧ r.2.mem ((c.tc : Thread Cert.Gated.nD Cert.Gated.τ).loc Cert.Gated.main_arg4) = m ((c.tc : Thread Cert.Gated.nD Cert.Gated.τ).loc Cert.Gated.main_arg4))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
      ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3)
      ∧ r.2.mem ((c.tc : Thread Cert.GatedRefIdeal.nD Cert.GatedRefIdeal.τ).loc Cert.GatedRefIdeal.main_arg4) = m ((c.tc : Thread Cert.GatedRefIdeal.nD Cert.GatedRefIdeal.τ).loc Cert.GatedRefIdeal.main_arg4))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1)
      ∧ r.2.mem ((c.tc : Thread Cert.AIn.nD Cert.AIn.τ).loc Cert.AIn.main_arg2) = m ((c.tc : Thread Cert.AIn.nD Cert.AIn.τ).loc Cert.AIn.main_arg2))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
      ∧ r.2.mem ((c.tc : Thread Cert.AInIdeal.nD Cert.AInIdeal.τ).loc Cert.AInIdeal.main_arg2) = m ((c.tc : Thread Cert.AInIdeal.nD Cert.AInIdeal.τ).loc Cert.AInIdeal.main_arg2))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1)
      ∧ r.2.mem ((c.tc : Thread Cert.AInRefIdeal.nD Cert.AInRefIdeal.τ).loc Cert.AInRefIdeal.main_arg2) = m ((c.tc : Thread Cert.AInRefIdeal.nD Cert.AInRefIdeal.τ).loc Cert.AInRefIdeal.main_arg2))
      ∧ r.2.sem = fun _ => 0)

def quiescent_DAIn [hDAIn : Cert.DAIn.Facts] : Prop :=
  ∀ (m : (ℓ : Loc Cert.DAIn.nD Cert.DAIn.τ Cert.DAIn.sig) → Buf (Elt Bits) ℓ) (g : Dev Cert.DAIn.nD → PrngReg), Pre_DAIn m →
    θ_run (Cert.DAIn.defs (F := Bits)) (onTc (τ := Cert.DAIn.τ) (Cert.DAIn.main (F := Bits))) ⟨m, fun _ => 0, g⟩ (fun r => (∀ c : Dev Cert.DAIn.nD,
      r.2.mem ((c.tc : Thread Cert.DAIn.nD Cert.DAIn.τ).loc Cert.DAIn.main_arg0) = m ((c.tc : Thread Cert.DAIn.nD Cert.DAIn.τ).loc Cert.DAIn.main_arg0)
      ∧ r.2.mem ((c.tc : Thread Cert.DAIn.nD Cert.DAIn.τ).loc Cert.DAIn.main_arg1) = m ((c.tc : Thread Cert.DAIn.nD Cert.DAIn.τ).loc Cert.DAIn.main_arg1)
      ∧ r.2.mem ((c.tc : Thread Cert.DAIn.nD Cert.DAIn.τ).loc Cert.DAIn.main_arg2) = m ((c.tc : Thread Cert.DAIn.nD Cert.DAIn.τ).loc Cert.DAIn.main_arg2))
      ∧ r.2.sem = fun _ => 0)

def quiescent_DAInIdeal [hDAInIdeal : Cert.DAInIdeal.Facts] : Prop :=
  ∀ (m : (ℓ : Loc Cert.DAInIdeal.nD Cert.DAInIdeal.τ Cert.DAInIdeal.sig) → Buf (Elt Ideal) ℓ) (g : Dev Cert.DAInIdeal.nD → PrngReg), Pre_DAInIdeal m →
    θ_run (Cert.DAInIdeal.defs (F := Ideal)) (onTc (τ := Cert.DAInIdeal.τ) (Cert.DAInIdeal.main (F := Ideal))) ⟨m, fun _ => 0, g⟩ (fun r => (∀ c : Dev Cert.DAInIdeal.nD,
      r.2.mem ((c.tc : Thread Cert.DAInIdeal.nD Cert.DAInIdeal.τ).loc Cert.DAInIdeal.main_arg0) = m ((c.tc : Thread Cert.DAInIdeal.nD Cert.DAInIdeal.τ).loc Cert.DAInIdeal.main_arg0)
      ∧ r.2.mem ((c.tc : Thread Cert.DAInIdeal.nD Cert.DAInIdeal.τ).loc Cert.DAInIdeal.main_arg1) = m ((c.tc : Thread Cert.DAInIdeal.nD Cert.DAInIdeal.τ).loc Cert.DAInIdeal.main_arg1)
      ∧ r.2.mem ((c.tc : Thread Cert.DAInIdeal.nD Cert.DAInIdeal.τ).loc Cert.DAInIdeal.main_arg2) = m ((c.tc : Thread Cert.DAInIdeal.nD Cert.DAInIdeal.τ).loc Cert.DAInIdeal.main_arg2))
      ∧ r.2.sem = fun _ => 0)

def quiescent_DAInRefIdeal [hDAInRefIdeal : Cert.DAInRefIdeal.Facts] : Prop :=
  ∀ (m : (ℓ : Loc Cert.DAInRefIdeal.nD Cert.DAInRefIdeal.τ Cert.DAInRefIdeal.sig) → Buf (Elt Ideal) ℓ) (g : Dev Cert.DAInRefIdeal.nD → PrngReg), Pre_DAInRefIdeal m →
    θ_run (Cert.DAInRefIdeal.defs (F := Ideal)) (onTc (τ := Cert.DAInRefIdeal.τ) (Cert.DAInRefIdeal.main (F := Ideal))) ⟨m, fun _ => 0, g⟩ (fun r => (∀ c : Dev Cert.DAInRefIdeal.nD,
      r.2.mem ((c.tc : Thread Cert.DAInRefIdeal.nD Cert.DAInRefIdeal.τ).loc Cert.DAInRefIdeal.main_arg0) = m ((c.tc : Thread Cert.DAInRefIdeal.nD Cert.DAInRefIdeal.τ).loc Cert.DAInRefIdeal.main_arg0)
      ∧ r.2.mem ((c.tc : Thread Cert.DAInRefIdeal.nD Cert.DAInRefIdeal.τ).loc Cert.DAInRefIdeal.main_arg1) = m ((c.tc : Thread Cert.DAInRefIdeal.nD Cert.DAInRefIdeal.τ).loc Cert.DAInRefIdeal.main_arg1)
      ∧ r.2.mem ((c.tc : Thread Cert.DAInRefIdeal.nD Cert.DAInRefIdeal.τ).loc Cert.DAInRefIdeal.main_arg2) = m ((c.tc : Thread Cert.DAInRefIdeal.nD Cert.DAInRefIdeal.τ).loc Cert.DAInRefIdeal.main_arg2))
      ∧ r.2.sem = fun _ => 0)

def quiescent_GAIn [hGAIn : Cert.GAIn.Facts] : Prop :=
  ∀ (m : (ℓ : Loc Cert.GAIn.nD Cert.GAIn.τ Cert.GAIn.sig) → Buf (Elt Bits) ℓ) (g : Dev Cert.GAIn.nD → PrngReg), Pre_GAIn m →
    θ_run (Cert.GAIn.defs (F := Bits)) (onTc (τ := Cert.GAIn.τ) (Cert.GAIn.main (F := Bits))) ⟨m, fun _ => 0, g⟩ (fun r => (∀ c : Dev Cert.GAIn.nD,
      r.2.mem ((c.tc : Thread Cert.GAIn.nD Cert.GAIn.τ).loc Cert.GAIn.main_arg0) = m ((c.tc : Thread Cert.GAIn.nD Cert.GAIn.τ).loc Cert.GAIn.main_arg0)
      ∧ r.2.mem ((c.tc : Thread Cert.GAIn.nD Cert.GAIn.τ).loc Cert.GAIn.main_arg1) = m ((c.tc : Thread Cert.GAIn.nD Cert.GAIn.τ).loc Cert.GAIn.main_arg1)
      ∧ r.2.mem ((c.tc : Thread Cert.GAIn.nD Cert.GAIn.τ).loc Cert.GAIn.main_arg2) = m ((c.tc : Thread Cert.GAIn.nD Cert.GAIn.τ).loc Cert.GAIn.main_arg2))
      ∧ r.2.sem = fun _ => 0)

def quiescent_GAInIdeal [hGAInIdeal : Cert.GAInIdeal.Facts] : Prop :=
  ∀ (m : (ℓ : Loc Cert.GAInIdeal.nD Cert.GAInIdeal.τ Cert.GAInIdeal.sig) → Buf (Elt Ideal) ℓ) (g : Dev Cert.GAInIdeal.nD → PrngReg), Pre_GAInIdeal m →
    θ_run (Cert.GAInIdeal.defs (F := Ideal)) (onTc (τ := Cert.GAInIdeal.τ) (Cert.GAInIdeal.main (F := Ideal))) ⟨m, fun _ => 0, g⟩ (fun r => (∀ c : Dev Cert.GAInIdeal.nD,
      r.2.mem ((c.tc : Thread Cert.GAInIdeal.nD Cert.GAInIdeal.τ).loc Cert.GAInIdeal.main_arg0) = m ((c.tc : Thread Cert.GAInIdeal.nD Cert.GAInIdeal.τ).loc Cert.GAInIdeal.main_arg0)
      ∧ r.2.mem ((c.tc : Thread Cert.GAInIdeal.nD Cert.GAInIdeal.τ).loc Cert.GAInIdeal.main_arg1) = m ((c.tc : Thread Cert.GAInIdeal.nD Cert.GAInIdeal.τ).loc Cert.GAInIdeal.main_arg1)
      ∧ r.2.mem ((c.tc : Thread Cert.GAInIdeal.nD Cert.GAInIdeal.τ).loc Cert.GAInIdeal.main_arg2) = m ((c.tc : Thread Cert.GAInIdeal.nD Cert.GAInIdeal.τ).loc Cert.GAInIdeal.main_arg2))
      ∧ r.2.sem = fun _ => 0)

def quiescent_GAInRefIdeal [hGAInRefIdeal : Cert.GAInRefIdeal.Facts] : Prop :=
  ∀ (m : (ℓ : Loc Cert.GAInRefIdeal.nD Cert.GAInRefIdeal.τ Cert.GAInRefIdeal.sig) → Buf (Elt Ideal) ℓ) (g : Dev Cert.GAInRefIdeal.nD → PrngReg), Pre_GAInRefIdeal m →
    θ_run (Cert.GAInRefIdeal.defs (F := Ideal)) (onTc (τ := Cert.GAInRefIdeal.τ) (Cert.GAInRefIdeal.main (F := Ideal))) ⟨m, fun _ => 0, g⟩ (fun r => (∀ c : Dev Cert.GAInRefIdeal.nD,
      r.2.mem ((c.tc : Thread Cert.GAInRefIdeal.nD Cert.GAInRefIdeal.τ).loc Cert.GAInRefIdeal.main_arg0) = m ((c.tc : Thread Cert.GAInRefIdeal.nD Cert.GAInRefIdeal.τ).loc Cert.GAInRefIdeal.main_arg0)
      ∧ r.2.mem ((c.tc : Thread Cert.GAInRefIdeal.nD Cert.GAInRefIdeal.τ).loc Cert.GAInRefIdeal.main_arg1) = m ((c.tc : Thread Cert.GAInRefIdeal.nD Cert.GAInRefIdeal.τ).loc Cert.GAInRefIdeal.main_arg1)
      ∧ r.2.mem ((c.tc : Thread Cert.GAInRefIdeal.nD Cert.GAInRefIdeal.τ).loc Cert.GAInRefIdeal.main_arg2) = m ((c.tc : Thread Cert.GAInRefIdeal.nD Cert.GAInRefIdeal.τ).loc Cert.GAInRefIdeal.main_arg2))
      ∧ r.2.sem = fun _ => 0)

def quiescent_DOut [hDOut : Cert.DOut.Facts] : Prop :=
  ∀ (m : (ℓ : Loc Cert.DOut.nD Cert.DOut.τ Cert.DOut.sig) → Buf (Elt Bits) ℓ) (g : Dev Cert.DOut.nD → PrngReg), Pre_DOut m →
    θ_run (Cert.DOut.defs (F := Bits)) (onTc (τ := Cert.DOut.τ) (Cert.DOut.main (F := Bits))) ⟨m, fun _ => 0, g⟩ (fun r => (∀ c : Dev Cert.DOut.nD,
      r.2.mem ((c.tc : Thread Cert.DOut.nD Cert.DOut.τ).loc Cert.DOut.main_arg0) = m ((c.tc : Thread Cert.DOut.nD Cert.DOut.τ).loc Cert.DOut.main_arg0)
      ∧ r.2.mem ((c.tc : Thread Cert.DOut.nD Cert.DOut.τ).loc Cert.DOut.main_arg1) = m ((c.tc : Thread Cert.DOut.nD Cert.DOut.τ).loc Cert.DOut.main_arg1)
      ∧ r.2.mem ((c.tc : Thread Cert.DOut.nD Cert.DOut.τ).loc Cert.DOut.main_arg2) = m ((c.tc : Thread Cert.DOut.nD Cert.DOut.τ).loc Cert.DOut.main_arg2))
      ∧ r.2.sem = fun _ => 0)

def quiescent_DOutIdeal [hDOutIdeal : Cert.DOutIdeal.Facts] : Prop :=
  ∀ (m : (ℓ : Loc Cert.DOutIdeal.nD Cert.DOutIdeal.τ Cert.DOutIdeal.sig) → Buf (Elt Ideal) ℓ) (g : Dev Cert.DOutIdeal.nD → PrngReg), Pre_DOutIdeal m →
    θ_run (Cert.DOutIdeal.defs (F := Ideal)) (onTc (τ := Cert.DOutIdeal.τ) (Cert.DOutIdeal.main (F := Ideal))) ⟨m, fun _ => 0, g⟩ (fun r => (∀ c : Dev Cert.DOutIdeal.nD,
      r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
      ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1)
      ∧ r.2.mem ((c.tc : Thread Cert.DOutIdeal.nD Cert.DOutIdeal.τ).loc Cert.DOutIdeal.main_arg2) = m ((c.tc : Thread Cert.DOutIdeal.nD Cert.DOutIdeal.τ).loc Cert.DOutIdeal.main_arg2))
      ∧ r.2.sem = fun _ => 0)

def quiescent_DOutRefIdeal [hDOutRefIdeal : Cert.DOutRefIdeal.Facts] : Prop :=
  ∀ (m : (ℓ : Loc Cert.DOutRefIdeal.nD Cert.DOutRefIdeal.τ Cert.DOutRefIdeal.sig) → Buf (Elt Ideal) ℓ) (g : Dev Cert.DOutRefIdeal.nD → PrngReg), Pre_DOutRefIdeal m →
    θ_run (Cert.DOutRefIdeal.defs (F := Ideal)) (onTc (τ := Cert.DOutRefIdeal.τ) (Cert.DOutRefIdeal.main (F := Ideal))) ⟨m, fun _ => 0, g⟩ (fun r => (∀ c : Dev Cert.DOutRefIdeal.nD,
      r.2.mem ((c.tc : Thread Cert.DOutRefIdeal.nD Cert.DOutRefIdeal.τ).loc Cert.DOutRefIdeal.main_arg0) = m ((c.tc : Thread Cert.DOutRefIdeal.nD Cert.DOutRefIdeal.τ).loc Cert.DOutRefIdeal.main_arg0)
      ∧ r.2.mem ((c.tc : Thread Cert.DOutRefIdeal.nD Cert.DOutRefIdeal.τ).loc Cert.DOutRefIdeal.main_arg1) = m ((c.tc : Thread Cert.DOutRefIdeal.nD Cert.DOutRefIdeal.τ).loc Cert.DOutRefIdeal.main_arg1)
      ∧ r.2.mem ((c.tc : Thread Cert.DOutRefIdeal.nD Cert.DOutRefIdeal.τ).loc Cert.DOutRefIdeal.main_arg2) = m ((c.tc : Thread Cert.DOutRefIdeal.nD Cert.DOutRefIdeal.τ).loc Cert.DOutRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_DQkv [hDQkv : Cert.DQkv.Facts] : Prop :=
  ∀ (m : (ℓ : Loc Cert.DQkv.nD Cert.DQkv.τ Cert.DQkv.sig) → Buf (Elt Bits) ℓ) (g : Dev Cert.DQkv.nD → PrngReg), Pre_DQkv m →
    θ_run (Cert.DQkv.defs (F := Bits)) (onTc (τ := Cert.DQkv.τ) (Cert.DQkv.main (F := Bits))) ⟨m, fun _ => 0, g⟩ (fun r => (∀ c : Dev Cert.DQkv.nD,
      r.2.mem ((c.tc : Thread Cert.DQkv.nD Cert.DQkv.τ).loc Cert.DQkv.main_arg0) = m ((c.tc : Thread Cert.DQkv.nD Cert.DQkv.τ).loc Cert.DQkv.main_arg0)
      ∧ r.2.mem ((c.tc : Thread Cert.DQkv.nD Cert.DQkv.τ).loc Cert.DQkv.main_arg1) = m ((c.tc : Thread Cert.DQkv.nD Cert.DQkv.τ).loc Cert.DQkv.main_arg1)
      ∧ r.2.mem ((c.tc : Thread Cert.DQkv.nD Cert.DQkv.τ).loc Cert.DQkv.main_arg2) = m ((c.tc : Thread Cert.DQkv.nD Cert.DQkv.τ).loc Cert.DQkv.main_arg2))
      ∧ r.2.sem = fun _ => 0)

def quiescent_DQkvIdeal [hDQkvIdeal : Cert.DQkvIdeal.Facts] : Prop :=
  ∀ (m : (ℓ : Loc Cert.DQkvIdeal.nD Cert.DQkvIdeal.τ Cert.DQkvIdeal.sig) → Buf (Elt Ideal) ℓ) (g : Dev Cert.DQkvIdeal.nD → PrngReg), Pre_DQkvIdeal m →
    θ_run (Cert.DQkvIdeal.defs (F := Ideal)) (onTc (τ := Cert.DQkvIdeal.τ) (Cert.DQkvIdeal.main (F := Ideal))) ⟨m, fun _ => 0, g⟩ (fun r => (∀ c : Dev Cert.DQkvIdeal.nD,
      r.2.mem ((c.tc : Thread Cert.DQkvIdeal.nD Cert.DQkvIdeal.τ).loc Cert.DQkvIdeal.main_arg0) = m ((c.tc : Thread Cert.DQkvIdeal.nD Cert.DQkvIdeal.τ).loc Cert.DQkvIdeal.main_arg0)
      ∧ r.2.mem ((c.tc : Thread Cert.DQkvIdeal.nD Cert.DQkvIdeal.τ).loc Cert.DQkvIdeal.main_arg1) = m ((c.tc : Thread Cert.DQkvIdeal.nD Cert.DQkvIdeal.τ).loc Cert.DQkvIdeal.main_arg1)
      ∧ r.2.mem ((c.tc : Thread Cert.DQkvIdeal.nD Cert.DQkvIdeal.τ).loc Cert.DQkvIdeal.main_arg2) = m ((c.tc : Thread Cert.DQkvIdeal.nD Cert.DQkvIdeal.τ).loc Cert.DQkvIdeal.main_arg2))
      ∧ r.2.sem = fun _ => 0)

def quiescent_DQkvRefIdeal [hDQkvRefIdeal : Cert.DQkvRefIdeal.Facts] : Prop :=
  ∀ (m : (ℓ : Loc Cert.DQkvRefIdeal.nD Cert.DQkvRefIdeal.τ Cert.DQkvRefIdeal.sig) → Buf (Elt Ideal) ℓ) (g : Dev Cert.DQkvRefIdeal.nD → PrngReg), Pre_DQkvRefIdeal m →
    θ_run (Cert.DQkvRefIdeal.defs (F := Ideal)) (onTc (τ := Cert.DQkvRefIdeal.τ) (Cert.DQkvRefIdeal.main (F := Ideal))) ⟨m, fun _ => 0, g⟩ (fun r => (∀ c : Dev Cert.DQkvRefIdeal.nD,
      r.2.mem ((c.tc : Thread Cert.DQkvRefIdeal.nD Cert.DQkvRefIdeal.τ).loc Cert.DQkvRefIdeal.main_arg0) = m ((c.tc : Thread Cert.DQkvRefIdeal.nD Cert.DQkvRefIdeal.τ).loc Cert.DQkvRefIdeal.main_arg0)
      ∧ r.2.mem ((c.tc : Thread Cert.DQkvRefIdeal.nD Cert.DQkvRefIdeal.τ).loc Cert.DQkvRefIdeal.main_arg1) = m ((c.tc : Thread Cert.DQkvRefIdeal.nD Cert.DQkvRefIdeal.τ).loc Cert.DQkvRefIdeal.main_arg1)
      ∧ r.2.mem ((c.tc : Thread Cert.DQkvRefIdeal.nD Cert.DQkvRefIdeal.τ).loc Cert.DQkvRefIdeal.main_arg2) = m ((c.tc : Thread Cert.DQkvRefIdeal.nD Cert.DQkvRefIdeal.τ).loc Cert.DQkvRefIdeal.main_arg2))
      ∧ r.2.sem = fun _ => 0)

def quiescent_Qkv0 [hQkv0 : Cert.Qkv0.Facts] : Prop :=
  ∀ (m : (ℓ : Loc Cert.Qkv0.nD Cert.Qkv0.τ Cert.Qkv0.sig) → Buf (Elt Bits) ℓ) (g : Dev Cert.Qkv0.nD → PrngReg), Pre_Qkv0 m →
    θ_run (Cert.Qkv0.defs (F := Bits)) (onTc (τ := Cert.Qkv0.τ) (Cert.Qkv0.main (F := Bits))) ⟨m, fun _ => 0, g⟩ (fun r => (∀ c : Dev Cert.Qkv0.nD,
      r.2.mem ((c.tc : Thread Cert.Qkv0.nD Cert.Qkv0.τ).loc Cert.Qkv0.main_arg0) = m ((c.tc : Thread Cert.Qkv0.nD Cert.Qkv0.τ).loc Cert.Qkv0.main_arg0)
      ∧ r.2.mem ((c.tc : Thread Cert.Qkv0.nD Cert.Qkv0.τ).loc Cert.Qkv0.main_arg1) = m ((c.tc : Thread Cert.Qkv0.nD Cert.Qkv0.τ).loc Cert.Qkv0.main_arg1))
      ∧ r.2.sem = fun _ => 0)

def quiescent_Qkv0Ideal [hQkv0Ideal : Cert.Qkv0Ideal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg), Pre_Qkv0Ideal m →
    θ_run (Cert.Qkv0Ideal.defs (F := Ideal)) (onTc (τ := Cert.Qkv0Ideal.τ) (Cert.Qkv0Ideal.main (F := Ideal))) ⟨m, fun _ => 0, g⟩ (fun r => (∀ c : Dev Cert.Qkv0Ideal.nD,
      r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
      ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1))
      ∧ r.2.sem = fun _ => 0)

def quiescent_Qkv0RefIdeal [hQkv0RefIdeal : Cert.Qkv0RefIdeal.Facts] : Prop :=
  ∀ (m : (ℓ : Loc Cert.Qkv0RefIdeal.nD Cert.Qkv0RefIdeal.τ Cert.Qkv0RefIdeal.sig) → Buf (Elt Ideal) ℓ) (g : Dev Cert.Qkv0RefIdeal.nD → PrngReg), Pre_Qkv0RefIdeal m →
    θ_run (Cert.Qkv0RefIdeal.defs (F := Ideal)) (onTc (τ := Cert.Qkv0RefIdeal.τ) (Cert.Qkv0RefIdeal.main (F := Ideal))) ⟨m, fun _ => 0, g⟩ (fun r => (∀ c : Dev Cert.Qkv0RefIdeal.nD,
      r.2.mem ((c.tc : Thread Cert.Qkv0RefIdeal.nD Cert.Qkv0RefIdeal.τ).loc Cert.Qkv0RefIdeal.main_arg0) = m ((c.tc : Thread Cert.Qkv0RefIdeal.nD Cert.Qkv0RefIdeal.τ).loc Cert.Qkv0RefIdeal.main_arg0)
      ∧ r.2.mem ((c.tc : Thread Cert.Qkv0RefIdeal.nD Cert.Qkv0RefIdeal.τ).loc Cert.Qkv0RefIdeal.main_arg1) = m ((c.tc : Thread Cert.Qkv0RefIdeal.nD Cert.Qkv0RefIdeal.τ).loc Cert.Qkv0RefIdeal.main_arg1))
      ∧ r.2.sem = fun _ => 0)

def quiescent_DQkv0 [hDQkv0 : Cert.DQkv0.Facts] : Prop :=
  ∀ (m : (ℓ : Loc Cert.DQkv0.nD Cert.DQkv0.τ Cert.DQkv0.sig) → Buf (Elt Bits) ℓ) (g : Dev Cert.DQkv0.nD → PrngReg), Pre_DQkv0 m →
    θ_run (Cert.DQkv0.defs (F := Bits)) (onTc (τ := Cert.DQkv0.τ) (Cert.DQkv0.main (F := Bits))) ⟨m, fun _ => 0, g⟩ (fun r => (∀ c : Dev Cert.DQkv0.nD,
      r.2.mem ((c.tc : Thread Cert.DQkv0.nD Cert.DQkv0.τ).loc Cert.DQkv0.main_arg0) = m ((c.tc : Thread Cert.DQkv0.nD Cert.DQkv0.τ).loc Cert.DQkv0.main_arg0)
      ∧ r.2.mem ((c.tc : Thread Cert.DQkv0.nD Cert.DQkv0.τ).loc Cert.DQkv0.main_arg1) = m ((c.tc : Thread Cert.DQkv0.nD Cert.DQkv0.τ).loc Cert.DQkv0.main_arg1)
      ∧ r.2.mem ((c.tc : Thread Cert.DQkv0.nD Cert.DQkv0.τ).loc Cert.DQkv0.main_arg2) = m ((c.tc : Thread Cert.DQkv0.nD Cert.DQkv0.τ).loc Cert.DQkv0.main_arg2))
      ∧ r.2.sem = fun _ => 0)

def quiescent_DQkv0Ideal [hDQkv0Ideal : Cert.DQkv0Ideal.Facts] : Prop :=
  ∀ (m : (ℓ : Loc Cert.DQkv0Ideal.nD Cert.DQkv0Ideal.τ Cert.DQkv0Ideal.sig) → Buf (Elt Ideal) ℓ) (g : Dev Cert.DQkv0Ideal.nD → PrngReg), Pre_DQkv0Ideal m →
    θ_run (Cert.DQkv0Ideal.defs (F := Ideal)) (onTc (τ := Cert.DQkv0Ideal.τ) (Cert.DQkv0Ideal.main (F := Ideal))) ⟨m, fun _ => 0, g⟩ (fun r => (∀ c : Dev Cert.DQkv0Ideal.nD,
      r.2.mem ((c.tc : Thread Cert.DQkv0Ideal.nD Cert.DQkv0Ideal.τ).loc Cert.DQkv0Ideal.main_arg0) = m ((c.tc : Thread Cert.DQkv0Ideal.nD Cert.DQkv0Ideal.τ).loc Cert.DQkv0Ideal.main_arg0)
      ∧ r.2.mem ((c.tc : Thread Cert.DQkv0Ideal.nD Cert.DQkv0Ideal.τ).loc Cert.DQkv0Ideal.main_arg1) = m ((c.tc : Thread Cert.DQkv0Ideal.nD Cert.DQkv0Ideal.τ).loc Cert.DQkv0Ideal.main_arg1)
      ∧ r.2.mem ((c.tc : Thread Cert.DQkv0Ideal.nD Cert.DQkv0Ideal.τ).loc Cert.DQkv0Ideal.main_arg2) = m ((c.tc : Thread Cert.DQkv0Ideal.nD Cert.DQkv0Ideal.τ).loc Cert.DQkv0Ideal.main_arg2))
      ∧ r.2.sem = fun _ => 0)

def quiescent_DQkv0RefIdeal [hDQkv0RefIdeal : Cert.DQkv0RefIdeal.Facts] : Prop :=
  ∀ (m : (ℓ : Loc Cert.DQkv0RefIdeal.nD Cert.DQkv0RefIdeal.τ Cert.DQkv0RefIdeal.sig) → Buf (Elt Ideal) ℓ) (g : Dev Cert.DQkv0RefIdeal.nD → PrngReg), Pre_DQkv0RefIdeal m →
    θ_run (Cert.DQkv0RefIdeal.defs (F := Ideal)) (onTc (τ := Cert.DQkv0RefIdeal.τ) (Cert.DQkv0RefIdeal.main (F := Ideal))) ⟨m, fun _ => 0, g⟩ (fun r => (∀ c : Dev Cert.DQkv0RefIdeal.nD,
      r.2.mem ((c.tc : Thread Cert.DQkv0RefIdeal.nD Cert.DQkv0RefIdeal.τ).loc Cert.DQkv0RefIdeal.main_arg0) = m ((c.tc : Thread Cert.DQkv0RefIdeal.nD Cert.DQkv0RefIdeal.τ).loc Cert.DQkv0RefIdeal.main_arg0)
      ∧ r.2.mem ((c.tc : Thread Cert.DQkv0RefIdeal.nD Cert.DQkv0RefIdeal.τ).loc Cert.DQkv0RefIdeal.main_arg1) = m ((c.tc : Thread Cert.DQkv0RefIdeal.nD Cert.DQkv0RefIdeal.τ).loc Cert.DQkv0RefIdeal.main_arg1)
      ∧ r.2.mem ((c.tc : Thread Cert.DQkv0RefIdeal.nD Cert.DQkv0RefIdeal.τ).loc Cert.DQkv0RefIdeal.main_arg2) = m ((c.tc : Thread Cert.DQkv0RefIdeal.nD Cert.DQkv0RefIdeal.τ).loc Cert.DQkv0RefIdeal.main_arg2))
      ∧ r.2.sem = fun _ => 0)

def quiescent_Qkv1 [hQkv1 : Cert.Qkv1.Facts] : Prop :=
  ∀ (m : (ℓ : Loc Cert.Qkv1.nD Cert.Qkv1.τ Cert.Qkv1.sig) → Buf (Elt Bits) ℓ) (g : Dev Cert.Qkv1.nD → PrngReg), Pre_Qkv1 m →
    θ_run (Cert.Qkv1.defs (F := Bits)) (onTc (τ := Cert.Qkv1.τ) (Cert.Qkv1.main (F := Bits))) ⟨m, fun _ => 0, g⟩ (fun r => (∀ c : Dev Cert.Qkv1.nD,
      r.2.mem ((c.tc : Thread Cert.Qkv1.nD Cert.Qkv1.τ).loc Cert.Qkv1.main_arg0) = m ((c.tc : Thread Cert.Qkv1.nD Cert.Qkv1.τ).loc Cert.Qkv1.main_arg0)
      ∧ r.2.mem ((c.tc : Thread Cert.Qkv1.nD Cert.Qkv1.τ).loc Cert.Qkv1.main_arg1) = m ((c.tc : Thread Cert.Qkv1.nD Cert.Qkv1.τ).loc Cert.Qkv1.main_arg1))
      ∧ r.2.sem = fun _ => 0)

def quiescent_Qkv1Ideal [hQkv1Ideal : Cert.Qkv1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg), Pre_Qkv1Ideal m →
    θ_run (Cert.Qkv1Ideal.defs (F := Ideal)) (onTc (τ := Cert.Qkv1Ideal.τ) (Cert.Qkv1Ideal.main (F := Ideal))) ⟨m, fun _ => 0, g⟩ (fun r => (∀ c : Dev Cert.Qkv1Ideal.nD,
      r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
      ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1))
      ∧ r.2.sem = fun _ => 0)

def quiescent_Qkv1RefIdeal [hQkv1RefIdeal : Cert.Qkv1RefIdeal.Facts] : Prop :=
  ∀ (m : (ℓ : Loc Cert.Qkv1RefIdeal.nD Cert.Qkv1RefIdeal.τ Cert.Qkv1RefIdeal.sig) → Buf (Elt Ideal) ℓ) (g : Dev Cert.Qkv1RefIdeal.nD → PrngReg), Pre_Qkv1RefIdeal m →
    θ_run (Cert.Qkv1RefIdeal.defs (F := Ideal)) (onTc (τ := Cert.Qkv1RefIdeal.τ) (Cert.Qkv1RefIdeal.main (F := Ideal))) ⟨m, fun _ => 0, g⟩ (fun r => (∀ c : Dev Cert.Qkv1RefIdeal.nD,
      r.2.mem ((c.tc : Thread Cert.Qkv1RefIdeal.nD Cert.Qkv1RefIdeal.τ).loc Cert.Qkv1RefIdeal.main_arg0) = m ((c.tc : Thread Cert.Qkv1RefIdeal.nD Cert.Qkv1RefIdeal.τ).loc Cert.Qkv1RefIdeal.main_arg0)
      ∧ r.2.mem ((c.tc : Thread Cert.Qkv1RefIdeal.nD Cert.Qkv1RefIdeal.τ).loc Cert.Qkv1RefIdeal.main_arg1) = m ((c.tc : Thread Cert.Qkv1RefIdeal.nD Cert.Qkv1RefIdeal.τ).loc Cert.Qkv1RefIdeal.main_arg1))
      ∧ r.2.sem = fun _ => 0)

def quiescent_DQkv1 [hDQkv1 : Cert.DQkv1.Facts] : Prop :=
  ∀ (m : (ℓ : Loc Cert.DQkv1.nD Cert.DQkv1.τ Cert.DQkv1.sig) → Buf (Elt Bits) ℓ) (g : Dev Cert.DQkv1.nD → PrngReg), Pre_DQkv1 m →
    θ_run (Cert.DQkv1.defs (F := Bits)) (onTc (τ := Cert.DQkv1.τ) (Cert.DQkv1.main (F := Bits))) ⟨m, fun _ => 0, g⟩ (fun r => (∀ c : Dev Cert.DQkv1.nD,
      r.2.mem ((c.tc : Thread Cert.DQkv1.nD Cert.DQkv1.τ).loc Cert.DQkv1.main_arg0) = m ((c.tc : Thread Cert.DQkv1.nD Cert.DQkv1.τ).loc Cert.DQkv1.main_arg0)
      ∧ r.2.mem ((c.tc : Thread Cert.DQkv1.nD Cert.DQkv1.τ).loc Cert.DQkv1.main_arg1) = m ((c.tc : Thread Cert.DQkv1.nD Cert.DQkv1.τ).loc Cert.DQkv1.main_arg1)
      ∧ r.2.mem ((c.tc : Thread Cert.DQkv1.nD Cert.DQkv1.τ).loc Cert.DQkv1.main_arg2) = m ((c.tc : Thread Cert.DQkv1.nD Cert.DQkv1.τ).loc Cert.DQkv1.main_arg2))
      ∧ r.2.sem = fun _ => 0)

def quiescent_DQkv1Ideal [hDQkv1Ideal : Cert.DQkv1Ideal.Facts] : Prop :=
  ∀ (m : (ℓ : Loc Cert.DQkv1Ideal.nD Cert.DQkv1Ideal.τ Cert.DQkv1Ideal.sig) → Buf (Elt Ideal) ℓ) (g : Dev Cert.DQkv1Ideal.nD → PrngReg), Pre_DQkv1Ideal m →
    θ_run (Cert.DQkv1Ideal.defs (F := Ideal)) (onTc (τ := Cert.DQkv1Ideal.τ) (Cert.DQkv1Ideal.main (F := Ideal))) ⟨m, fun _ => 0, g⟩ (fun r => (∀ c : Dev Cert.DQkv1Ideal.nD,
      r.2.mem ((c.tc : Thread Cert.DQkv1Ideal.nD Cert.DQkv1Ideal.τ).loc Cert.DQkv1Ideal.main_arg0) = m ((c.tc : Thread Cert.DQkv1Ideal.nD Cert.DQkv1Ideal.τ).loc Cert.DQkv1Ideal.main_arg0)
      ∧ r.2.mem ((c.tc : Thread Cert.DQkv1Ideal.nD Cert.DQkv1Ideal.τ).loc Cert.DQkv1Ideal.main_arg1) = m ((c.tc : Thread Cert.DQkv1Ideal.nD Cert.DQkv1Ideal.τ).loc Cert.DQkv1Ideal.main_arg1)
      ∧ r.2.mem ((c.tc : Thread Cert.DQkv1Ideal.nD Cert.DQkv1Ideal.τ).loc Cert.DQkv1Ideal.main_arg2) = m ((c.tc : Thread Cert.DQkv1Ideal.nD Cert.DQkv1Ideal.τ).loc Cert.DQkv1Ideal.main_arg2))
      ∧ r.2.sem = fun _ => 0)

def quiescent_DQkv1RefIdeal [hDQkv1RefIdeal : Cert.DQkv1RefIdeal.Facts] : Prop :=
  ∀ (m : (ℓ : Loc Cert.DQkv1RefIdeal.nD Cert.DQkv1RefIdeal.τ Cert.DQkv1RefIdeal.sig) → Buf (Elt Ideal) ℓ) (g : Dev Cert.DQkv1RefIdeal.nD → PrngReg), Pre_DQkv1RefIdeal m →
    θ_run (Cert.DQkv1RefIdeal.defs (F := Ideal)) (onTc (τ := Cert.DQkv1RefIdeal.τ) (Cert.DQkv1RefIdeal.main (F := Ideal))) ⟨m, fun _ => 0, g⟩ (fun r => (∀ c : Dev Cert.DQkv1RefIdeal.nD,
      r.2.mem ((c.tc : Thread Cert.DQkv1RefIdeal.nD Cert.DQkv1RefIdeal.τ).loc Cert.DQkv1RefIdeal.main_arg0) = m ((c.tc : Thread Cert.DQkv1RefIdeal.nD Cert.DQkv1RefIdeal.τ).loc Cert.DQkv1RefIdeal.main_arg0)
      ∧ r.2.mem ((c.tc : Thread Cert.DQkv1RefIdeal.nD Cert.DQkv1RefIdeal.τ).loc Cert.DQkv1RefIdeal.main_arg1) = m ((c.tc : Thread Cert.DQkv1RefIdeal.nD Cert.DQkv1RefIdeal.τ).loc Cert.DQkv1RefIdeal.main_arg1)
      ∧ r.2.mem ((c.tc : Thread Cert.DQkv1RefIdeal.nD Cert.DQkv1RefIdeal.τ).loc Cert.DQkv1RefIdeal.main_arg2) = m ((c.tc : Thread Cert.DQkv1RefIdeal.nD Cert.DQkv1RefIdeal.τ).loc Cert.DQkv1RefIdeal.main_arg2))
      ∧ r.2.sem = fun _ => 0)

def quiescent_GQkv1 [hGQkv1 : Cert.GQkv1.Facts] : Prop :=
  ∀ (m : (ℓ : Loc Cert.GQkv1.nD Cert.GQkv1.τ Cert.GQkv1.sig) → Buf (Elt Bits) ℓ) (g : Dev Cert.GQkv1.nD → PrngReg), Pre_GQkv1 m →
    θ_run (Cert.GQkv1.defs (F := Bits)) (onTc (τ := Cert.GQkv1.τ) (Cert.GQkv1.main (F := Bits))) ⟨m, fun _ => 0, g⟩ (fun r => (∀ c : Dev Cert.GQkv1.nD,
      r.2.mem ((c.tc : Thread Cert.GQkv1.nD Cert.GQkv1.τ).loc Cert.GQkv1.main_arg0) = m ((c.tc : Thread Cert.GQkv1.nD Cert.GQkv1.τ).loc Cert.GQkv1.main_arg0)
      ∧ r.2.mem ((c.tc : Thread Cert.GQkv1.nD Cert.GQkv1.τ).loc Cert.GQkv1.main_arg1) = m ((c.tc : Thread Cert.GQkv1.nD Cert.GQkv1.τ).loc Cert.GQkv1.main_arg1)
      ∧ r.2.mem ((c.tc : Thread Cert.GQkv1.nD Cert.GQkv1.τ).loc Cert.GQkv1.main_arg2) = m ((c.tc : Thread Cert.GQkv1.nD Cert.GQkv1.τ).loc Cert.GQkv1.main_arg2)
      ∧ r.2.mem ((c.tc : Thread Cert.GQkv1.nD Cert.GQkv1.τ).loc Cert.GQkv1.main_arg3) = m ((c.tc : Thread Cert.GQkv1.nD Cert.GQkv1.τ).loc Cert.GQkv1.main_arg3))
      ∧ r.2.sem = fun _ => 0)

def quiescent_GQkv1Ideal [hGQkv1Ideal : Cert.GQkv1Ideal.Facts] : Prop :=
  ∀ (m : (ℓ : Loc Cert.GQkv1Ideal.nD Cert.GQkv1Ideal.τ Cert.GQkv1Ideal.sig) → Buf (Elt Ideal) ℓ) (g : Dev Cert.GQkv1Ideal.nD → PrngReg), Pre_GQkv1Ideal m →
    θ_run (Cert.GQkv1Ideal.defs (F := Ideal)) (onTc (τ := Cert.GQkv1Ideal.τ) (Cert.GQkv1Ideal.main (F := Ideal))) ⟨m, fun _ => 0, g⟩ (fun r => (∀ c : Dev Cert.GQkv1Ideal.nD,
      r.2.mem ((c.tc : Thread Cert.GQkv1Ideal.nD Cert.GQkv1Ideal.τ).loc Cert.GQkv1Ideal.main_arg0) = m ((c.tc : Thread Cert.GQkv1Ideal.nD Cert.GQkv1Ideal.τ).loc Cert.GQkv1Ideal.main_arg0)
      ∧ r.2.mem ((c.tc : Thread Cert.GQkv1Ideal.nD Cert.GQkv1Ideal.τ).loc Cert.GQkv1Ideal.main_arg1) = m ((c.tc : Thread Cert.GQkv1Ideal.nD Cert.GQkv1Ideal.τ).loc Cert.GQkv1Ideal.main_arg1)
      ∧ r.2.mem ((c.tc : Thread Cert.GQkv1Ideal.nD Cert.GQkv1Ideal.τ).loc Cert.GQkv1Ideal.main_arg2) = m ((c.tc : Thread Cert.GQkv1Ideal.nD Cert.GQkv1Ideal.τ).loc Cert.GQkv1Ideal.main_arg2)
      ∧ r.2.mem ((c.tc : Thread Cert.GQkv1Ideal.nD Cert.GQkv1Ideal.τ).loc Cert.GQkv1Ideal.main_arg3) = m ((c.tc : Thread Cert.GQkv1Ideal.nD Cert.GQkv1Ideal.τ).loc Cert.GQkv1Ideal.main_arg3))
      ∧ r.2.sem = fun _ => 0)

def quiescent_GQkv1RefIdeal [hGQkv1RefIdeal : Cert.GQkv1RefIdeal.Facts] : Prop :=
  ∀ (m : (ℓ : Loc Cert.GQkv1RefIdeal.nD Cert.GQkv1RefIdeal.τ Cert.GQkv1RefIdeal.sig) → Buf (Elt Ideal) ℓ) (g : Dev Cert.GQkv1RefIdeal.nD → PrngReg), Pre_GQkv1RefIdeal m →
    θ_run (Cert.GQkv1RefIdeal.defs (F := Ideal)) (onTc (τ := Cert.GQkv1RefIdeal.τ) (Cert.GQkv1RefIdeal.main (F := Ideal))) ⟨m, fun _ => 0, g⟩ (fun r => (∀ c : Dev Cert.GQkv1RefIdeal.nD,
      r.2.mem ((c.tc : Thread Cert.GQkv1RefIdeal.nD Cert.GQkv1RefIdeal.τ).loc Cert.GQkv1RefIdeal.main_arg0) = m ((c.tc : Thread Cert.GQkv1RefIdeal.nD Cert.GQkv1RefIdeal.τ).loc Cert.GQkv1RefIdeal.main_arg0)
      ∧ r.2.mem ((c.tc : Thread Cert.GQkv1RefIdeal.nD Cert.GQkv1RefIdeal.τ).loc Cert.GQkv1RefIdeal.main_arg1) = m ((c.tc : Thread Cert.GQkv1RefIdeal.nD Cert.GQkv1RefIdeal.τ).loc Cert.GQkv1RefIdeal.main_arg1)
      ∧ r.2.mem ((c.tc : Thread Cert.GQkv1RefIdeal.nD Cert.GQkv1RefIdeal.τ).loc Cert.GQkv1RefIdeal.main_arg2) = m ((c.tc : Thread Cert.GQkv1RefIdeal.nD Cert.GQkv1RefIdeal.τ).loc Cert.GQkv1RefIdeal.main_arg2)
      ∧ r.2.mem ((c.tc : Thread Cert.GQkv1RefIdeal.nD Cert.GQkv1RefIdeal.τ).loc Cert.GQkv1RefIdeal.main_arg3) = m ((c.tc : Thread Cert.GQkv1RefIdeal.nD Cert.GQkv1RefIdeal.τ).loc Cert.GQkv1RefIdeal.main_arg3))
      ∧ r.2.sem = fun _ => 0)

def quiescent_GQkv2 [hGQkv2 : Cert.GQkv2.Facts] : Prop :=
  ∀ (m : (ℓ : Loc Cert.GQkv2.nD Cert.GQkv2.τ Cert.GQkv2.sig) → Buf (Elt Bits) ℓ) (g : Dev Cert.GQkv2.nD → PrngReg), Pre_GQkv2 m →
    θ_run (Cert.GQkv2.defs (F := Bits)) (onTc (τ := Cert.GQkv2.τ) (Cert.GQkv2.main (F := Bits))) ⟨m, fun _ => 0, g⟩ (fun r => (∀ c : Dev Cert.GQkv2.nD,
      r.2.mem ((c.tc : Thread Cert.GQkv2.nD Cert.GQkv2.τ).loc Cert.GQkv2.main_arg0) = m ((c.tc : Thread Cert.GQkv2.nD Cert.GQkv2.τ).loc Cert.GQkv2.main_arg0)
      ∧ r.2.mem ((c.tc : Thread Cert.GQkv2.nD Cert.GQkv2.τ).loc Cert.GQkv2.main_arg1) = m ((c.tc : Thread Cert.GQkv2.nD Cert.GQkv2.τ).loc Cert.GQkv2.main_arg1)
      ∧ r.2.mem ((c.tc : Thread Cert.GQkv2.nD Cert.GQkv2.τ).loc Cert.GQkv2.main_arg2) = m ((c.tc : Thread Cert.GQkv2.nD Cert.GQkv2.τ).loc Cert.GQkv2.main_arg2)
      ∧ r.2.mem ((c.tc : Thread Cert.GQkv2.nD Cert.GQkv2.τ).loc Cert.GQkv2.main_arg3) = m ((c.tc : Thread Cert.GQkv2.nD Cert.GQkv2.τ).loc Cert.GQkv2.main_arg3))
      ∧ r.2.sem = fun _ => 0)

def quiescent_GQkv2Ideal [hGQkv2Ideal : Cert.GQkv2Ideal.Facts] : Prop :=
  ∀ (m : (ℓ : Loc Cert.GQkv2Ideal.nD Cert.GQkv2Ideal.τ Cert.GQkv2Ideal.sig) → Buf (Elt Ideal) ℓ) (g : Dev Cert.GQkv2Ideal.nD → PrngReg), Pre_GQkv2Ideal m →
    θ_run (Cert.GQkv2Ideal.defs (F := Ideal)) (onTc (τ := Cert.GQkv2Ideal.τ) (Cert.GQkv2Ideal.main (F := Ideal))) ⟨m, fun _ => 0, g⟩ (fun r => (∀ c : Dev Cert.GQkv2Ideal.nD,
      r.2.mem ((c.tc : Thread Cert.GQkv2Ideal.nD Cert.GQkv2Ideal.τ).loc Cert.GQkv2Ideal.main_arg0) = m ((c.tc : Thread Cert.GQkv2Ideal.nD Cert.GQkv2Ideal.τ).loc Cert.GQkv2Ideal.main_arg0)
      ∧ r.2.mem ((c.tc : Thread Cert.GQkv2Ideal.nD Cert.GQkv2Ideal.τ).loc Cert.GQkv2Ideal.main_arg1) = m ((c.tc : Thread Cert.GQkv2Ideal.nD Cert.GQkv2Ideal.τ).loc Cert.GQkv2Ideal.main_arg1)
      ∧ r.2.mem ((c.tc : Thread Cert.GQkv2Ideal.nD Cert.GQkv2Ideal.τ).loc Cert.GQkv2Ideal.main_arg2) = m ((c.tc : Thread Cert.GQkv2Ideal.nD Cert.GQkv2Ideal.τ).loc Cert.GQkv2Ideal.main_arg2)
      ∧ r.2.mem ((c.tc : Thread Cert.GQkv2Ideal.nD Cert.GQkv2Ideal.τ).loc Cert.GQkv2Ideal.main_arg3) = m ((c.tc : Thread Cert.GQkv2Ideal.nD Cert.GQkv2Ideal.τ).loc Cert.GQkv2Ideal.main_arg3))
      ∧ r.2.sem = fun _ => 0)

def quiescent_GQkv2RefIdeal [hGQkv2RefIdeal : Cert.GQkv2RefIdeal.Facts] : Prop :=
  ∀ (m : (ℓ : Loc Cert.GQkv2RefIdeal.nD Cert.GQkv2RefIdeal.τ Cert.GQkv2RefIdeal.sig) → Buf (Elt Ideal) ℓ) (g : Dev Cert.GQkv2RefIdeal.nD → PrngReg), Pre_GQkv2RefIdeal m →
    θ_run (Cert.GQkv2RefIdeal.defs (F := Ideal)) (onTc (τ := Cert.GQkv2RefIdeal.τ) (Cert.GQkv2RefIdeal.main (F := Ideal))) ⟨m, fun _ => 0, g⟩ (fun r => (∀ c : Dev Cert.GQkv2RefIdeal.nD,
      r.2.mem ((c.tc : Thread Cert.GQkv2RefIdeal.nD Cert.GQkv2RefIdeal.τ).loc Cert.GQkv2RefIdeal.main_arg0) = m ((c.tc : Thread Cert.GQkv2RefIdeal.nD Cert.GQkv2RefIdeal.τ).loc Cert.GQkv2RefIdeal.main_arg0)
      ∧ r.2.mem ((c.tc : Thread Cert.GQkv2RefIdeal.nD Cert.GQkv2RefIdeal.τ).loc Cert.GQkv2RefIdeal.main_arg1) = m ((c.tc : Thread Cert.GQkv2RefIdeal.nD Cert.GQkv2RefIdeal.τ).loc Cert.GQkv2RefIdeal.main_arg1)
      ∧ r.2.mem ((c.tc : Thread Cert.GQkv2RefIdeal.nD Cert.GQkv2RefIdeal.τ).loc Cert.GQkv2RefIdeal.main_arg2) = m ((c.tc : Thread Cert.GQkv2RefIdeal.nD Cert.GQkv2RefIdeal.τ).loc Cert.GQkv2RefIdeal.main_arg2)
      ∧ r.2.mem ((c.tc : Thread Cert.GQkv2RefIdeal.nD Cert.GQkv2RefIdeal.τ).loc Cert.GQkv2RefIdeal.main_arg3) = m ((c.tc : Thread Cert.GQkv2RefIdeal.nD Cert.GQkv2RefIdeal.τ).loc Cert.GQkv2RefIdeal.main_arg3))
      ∧ r.2.sem = fun _ => 0)

def quiescent_GAOut [hGAOut : Cert.GAOut.Facts] : Prop :=
  ∀ (m : (ℓ : Loc Cert.GAOut.nD Cert.GAOut.τ Cert.GAOut.sig) → Buf (Elt Bits) ℓ) (g : Dev Cert.GAOut.nD → PrngReg), Pre_GAOut m →
    θ_run (Cert.GAOut.defs (F := Bits)) (onTc (τ := Cert.GAOut.τ) (Cert.GAOut.main (F := Bits))) ⟨m, fun _ => 0, g⟩ (fun r => (∀ c : Dev Cert.GAOut.nD,
      r.2.mem ((c.tc : Thread Cert.GAOut.nD Cert.GAOut.τ).loc Cert.GAOut.main_arg0) = m ((c.tc : Thread Cert.GAOut.nD Cert.GAOut.τ).loc Cert.GAOut.main_arg0)
      ∧ r.2.mem ((c.tc : Thread Cert.GAOut.nD Cert.GAOut.τ).loc Cert.GAOut.main_arg1) = m ((c.tc : Thread Cert.GAOut.nD Cert.GAOut.τ).loc Cert.GAOut.main_arg1)
      ∧ r.2.mem ((c.tc : Thread Cert.GAOut.nD Cert.GAOut.τ).loc Cert.GAOut.main_arg2) = m ((c.tc : Thread Cert.GAOut.nD Cert.GAOut.τ).loc Cert.GAOut.main_arg2))
      ∧ r.2.sem = fun _ => 0)

def quiescent_GAOutIdeal [hGAOutIdeal : Cert.GAOutIdeal.Facts] : Prop :=
  ∀ (m : (ℓ : Loc Cert.GAOutIdeal.nD Cert.GAOutIdeal.τ Cert.GAOutIdeal.sig) → Buf (Elt Ideal) ℓ) (g : Dev Cert.GAOutIdeal.nD → PrngReg), Pre_GAOutIdeal m →
    θ_run (Cert.GAOutIdeal.defs (F := Ideal)) (onTc (τ := Cert.GAOutIdeal.τ) (Cert.GAOutIdeal.main (F := Ideal))) ⟨m, fun _ => 0, g⟩ (fun r => (∀ c : Dev Cert.GAOutIdeal.nD,
      r.2.mem ((c.tc : Thread Cert.GAOutIdeal.nD Cert.GAOutIdeal.τ).loc Cert.GAOutIdeal.main_arg0) = m ((c.tc : Thread Cert.GAOutIdeal.nD Cert.GAOutIdeal.τ).loc Cert.GAOutIdeal.main_arg0)
      ∧ r.2.mem ((c.tc : Thread Cert.GAOutIdeal.nD Cert.GAOutIdeal.τ).loc Cert.GAOutIdeal.main_arg1) = m ((c.tc : Thread Cert.GAOutIdeal.nD Cert.GAOutIdeal.τ).loc Cert.GAOutIdeal.main_arg1)
      ∧ r.2.mem ((c.tc : Thread Cert.GAOutIdeal.nD Cert.GAOutIdeal.τ).loc Cert.GAOutIdeal.main_arg2) = m ((c.tc : Thread Cert.GAOutIdeal.nD Cert.GAOutIdeal.τ).loc Cert.GAOutIdeal.main_arg2))
      ∧ r.2.sem = fun _ => 0)

def quiescent_GAOutRefIdeal [hGAOutRefIdeal : Cert.GAOutRefIdeal.Facts] : Prop :=
  ∀ (m : (ℓ : Loc Cert.GAOutRefIdeal.nD Cert.GAOutRefIdeal.τ Cert.GAOutRefIdeal.sig) → Buf (Elt Ideal) ℓ) (g : Dev Cert.GAOutRefIdeal.nD → PrngReg), Pre_GAOutRefIdeal m →
    θ_run (Cert.GAOutRefIdeal.defs (F := Ideal)) (onTc (τ := Cert.GAOutRefIdeal.τ) (Cert.GAOutRefIdeal.main (F := Ideal))) ⟨m, fun _ => 0, g⟩ (fun r => (∀ c : Dev Cert.GAOutRefIdeal.nD,
      r.2.mem ((c.tc : Thread Cert.GAOutRefIdeal.nD Cert.GAOutRefIdeal.τ).loc Cert.GAOutRefIdeal.main_arg0) = m ((c.tc : Thread Cert.GAOutRefIdeal.nD Cert.GAOutRefIdeal.τ).loc Cert.GAOutRefIdeal.main_arg0)
      ∧ r.2.mem ((c.tc : Thread Cert.GAOutRefIdeal.nD Cert.GAOutRefIdeal.τ).loc Cert.GAOutRefIdeal.main_arg1) = m ((c.tc : Thread Cert.GAOutRefIdeal.nD Cert.GAOutRefIdeal.τ).loc Cert.GAOutRefIdeal.main_arg1)
      ∧ r.2.mem ((c.tc : Thread Cert.GAOutRefIdeal.nD Cert.GAOutRefIdeal.τ).loc Cert.GAOutRefIdeal.main_arg2) = m ((c.tc : Thread Cert.GAOutRefIdeal.nD Cert.GAOutRefIdeal.τ).loc Cert.GAOutRefIdeal.main_arg2))
      ∧ r.2.sem = fun _ => 0)

def quiescent_GBOut [hGBOut : Cert.GBOut.Facts] : Prop :=
  ∀ (m : (ℓ : Loc Cert.GBOut.nD Cert.GBOut.τ Cert.GBOut.sig) → Buf (Elt Bits) ℓ) (g : Dev Cert.GBOut.nD → PrngReg), Pre_GBOut m →
    θ_run (Cert.GBOut.defs (F := Bits)) (onTc (τ := Cert.GBOut.τ) (Cert.GBOut.main (F := Bits))) ⟨m, fun _ => 0, g⟩ (fun r => (∀ c : Dev Cert.GBOut.nD,
      r.2.mem ((c.tc : Thread Cert.GBOut.nD Cert.GBOut.τ).loc Cert.GBOut.main_arg0) = m ((c.tc : Thread Cert.GBOut.nD Cert.GBOut.τ).loc Cert.GBOut.main_arg0)
      ∧ r.2.mem ((c.tc : Thread Cert.GBOut.nD Cert.GBOut.τ).loc Cert.GBOut.main_arg1) = m ((c.tc : Thread Cert.GBOut.nD Cert.GBOut.τ).loc Cert.GBOut.main_arg1)
      ∧ r.2.mem ((c.tc : Thread Cert.GBOut.nD Cert.GBOut.τ).loc Cert.GBOut.main_arg2) = m ((c.tc : Thread Cert.GBOut.nD Cert.GBOut.τ).loc Cert.GBOut.main_arg2))
      ∧ r.2.sem = fun _ => 0)

def quiescent_GBOutIdeal [hGBOutIdeal : Cert.GBOutIdeal.Facts] : Prop :=
  ∀ (m : (ℓ : Loc Cert.GBOutIdeal.nD Cert.GBOutIdeal.τ Cert.GBOutIdeal.sig) → Buf (Elt Ideal) ℓ) (g : Dev Cert.GBOutIdeal.nD → PrngReg), Pre_GBOutIdeal m →
    θ_run (Cert.GBOutIdeal.defs (F := Ideal)) (onTc (τ := Cert.GBOutIdeal.τ) (Cert.GBOutIdeal.main (F := Ideal))) ⟨m, fun _ => 0, g⟩ (fun r => (∀ c : Dev Cert.GBOutIdeal.nD,
      r.2.mem ((c.tc : Thread Cert.GBOutIdeal.nD Cert.GBOutIdeal.τ).loc Cert.GBOutIdeal.main_arg0) = m ((c.tc : Thread Cert.GBOutIdeal.nD Cert.GBOutIdeal.τ).loc Cert.GBOutIdeal.main_arg0)
      ∧ r.2.mem ((c.tc : Thread Cert.GBOutIdeal.nD Cert.GBOutIdeal.τ).loc Cert.GBOutIdeal.main_arg1) = m ((c.tc : Thread Cert.GBOutIdeal.nD Cert.GBOutIdeal.τ).loc Cert.GBOutIdeal.main_arg1)
      ∧ r.2.mem ((c.tc : Thread Cert.GBOutIdeal.nD Cert.GBOutIdeal.τ).loc Cert.GBOutIdeal.main_arg2) = m ((c.tc : Thread Cert.GBOutIdeal.nD Cert.GBOutIdeal.τ).loc Cert.GBOutIdeal.main_arg2))
      ∧ r.2.sem = fun _ => 0)

def quiescent_GBOutRefIdeal [hGBOutRefIdeal : Cert.GBOutRefIdeal.Facts] : Prop :=
  ∀ (m : (ℓ : Loc Cert.GBOutRefIdeal.nD Cert.GBOutRefIdeal.τ Cert.GBOutRefIdeal.sig) → Buf (Elt Ideal) ℓ) (g : Dev Cert.GBOutRefIdeal.nD → PrngReg), Pre_GBOutRefIdeal m →
    θ_run (Cert.GBOutRefIdeal.defs (F := Ideal)) (onTc (τ := Cert.GBOutRefIdeal.τ) (Cert.GBOutRefIdeal.main (F := Ideal))) ⟨m, fun _ => 0, g⟩ (fun r => (∀ c : Dev Cert.GBOutRefIdeal.nD,
      r.2.mem ((c.tc : Thread Cert.GBOutRefIdeal.nD Cert.GBOutRefIdeal.τ).loc Cert.GBOutRefIdeal.main_arg0) = m ((c.tc : Thread Cert.GBOutRefIdeal.nD Cert.GBOutRefIdeal.τ).loc Cert.GBOutRefIdeal.main_arg0)
      ∧ r.2.mem ((c.tc : Thread Cert.GBOutRefIdeal.nD Cert.GBOutRefIdeal.τ).loc Cert.GBOutRefIdeal.main_arg1) = m ((c.tc : Thread Cert.GBOutRefIdeal.nD Cert.GBOutRefIdeal.τ).loc Cert.GBOutRefIdeal.main_arg1)
      ∧ r.2.mem ((c.tc : Thread Cert.GBOutRefIdeal.nD Cert.GBOutRefIdeal.τ).loc Cert.GBOutRefIdeal.main_arg2) = m ((c.tc : Thread Cert.GBOutRefIdeal.nD Cert.GBOutRefIdeal.τ).loc Cert.GBOutRefIdeal.main_arg2))
      ∧ r.2.sem = fun _ => 0)

def quiescent_AOut [hAOut : Cert.AOut.Facts] : Prop :=
  ∀ (m : (ℓ : Loc Cert.AOut.nD Cert.AOut.τ Cert.AOut.sig) → Buf (Elt Bits) ℓ) (g : Dev Cert.AOut.nD → PrngReg), Pre_AOut m →
    θ_run (Cert.AOut.defs (F := Bits)) (onTc (τ := Cert.AOut.τ) (Cert.AOut.main (F := Bits))) ⟨m, fun _ => 0, g⟩ (fun r => (∀ c : Dev Cert.AOut.nD,
      r.2.mem ((c.tc : Thread Cert.AOut.nD Cert.AOut.τ).loc Cert.AOut.main_arg0) = m ((c.tc : Thread Cert.AOut.nD Cert.AOut.τ).loc Cert.AOut.main_arg0)
      ∧ r.2.mem ((c.tc : Thread Cert.AOut.nD Cert.AOut.τ).loc Cert.AOut.main_arg1) = m ((c.tc : Thread Cert.AOut.nD Cert.AOut.τ).loc Cert.AOut.main_arg1)
      ∧ r.2.mem ((c.tc : Thread Cert.AOut.nD Cert.AOut.τ).loc Cert.AOut.main_arg2) = m ((c.tc : Thread Cert.AOut.nD Cert.AOut.τ).loc Cert.AOut.main_arg2)
      ∧ r.2.mem ((c.tc : Thread Cert.AOut.nD Cert.AOut.τ).loc Cert.AOut.main_arg3) = m ((c.tc : Thread Cert.AOut.nD Cert.AOut.τ).loc Cert.AOut.main_arg3)
      ∧ r.2.mem ((c.tc : Thread Cert.AOut.nD Cert.AOut.τ).loc Cert.AOut.main_arg4) = m ((c.tc : Thread Cert.AOut.nD Cert.AOut.τ).loc Cert.AOut.main_arg4)
      ∧ r.2.mem ((c.tc : Thread Cert.AOut.nD Cert.AOut.τ).loc Cert.AOut.main_arg5) = m ((c.tc : Thread Cert.AOut.nD Cert.AOut.τ).loc Cert.AOut.main_arg5)
      ∧ r.2.mem ((c.tc : Thread Cert.AOut.nD Cert.AOut.τ).loc Cert.AOut.main_arg6) = m ((c.tc : Thread Cert.AOut.nD Cert.AOut.τ).loc Cert.AOut.main_arg6)
      ∧ r.2.mem ((c.tc : Thread Cert.AOut.nD Cert.AOut.τ).loc Cert.AOut.main_arg7) = m ((c.tc : Thread Cert.AOut.nD Cert.AOut.τ).loc Cert.AOut.main_arg7))
      ∧ r.2.sem = fun _ => 0)

def quiescent_AOutIdeal [hAOutIdeal : Cert.AOutIdeal.Facts] : Prop :=
  ∀ (m : (ℓ : Loc Cert.AOutIdeal.nD Cert.AOutIdeal.τ Cert.AOutIdeal.sig) → Buf (Elt Ideal) ℓ) (g : Dev Cert.AOutIdeal.nD → PrngReg), Pre_AOutIdeal m →
    θ_run (Cert.AOutIdeal.defs (F := Ideal)) (onTc (τ := Cert.AOutIdeal.τ) (Cert.AOutIdeal.main (F := Ideal))) ⟨m, fun _ => 0, g⟩ (fun r => (∀ c : Dev Cert.AOutIdeal.nD,
      r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
      ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
      ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2)
      ∧ r.2.mem ((c.tc : Thread Cert.AOutIdeal.nD Cert.AOutIdeal.τ).loc Cert.AOutIdeal.main_arg3) = m ((c.tc : Thread Cert.AOutIdeal.nD Cert.AOutIdeal.τ).loc Cert.AOutIdeal.main_arg3)
      ∧ r.2.mem ((c.tc : Thread Cert.AOutIdeal.nD Cert.AOutIdeal.τ).loc Cert.AOutIdeal.main_arg4) = m ((c.tc : Thread Cert.AOutIdeal.nD Cert.AOutIdeal.τ).loc Cert.AOutIdeal.main_arg4)
      ∧ r.2.mem ((c.tc : Thread Cert.AOutIdeal.nD Cert.AOutIdeal.τ).loc Cert.AOutIdeal.main_arg5) = m ((c.tc : Thread Cert.AOutIdeal.nD Cert.AOutIdeal.τ).loc Cert.AOutIdeal.main_arg5)
      ∧ r.2.mem ((c.tc : Thread Cert.AOutIdeal.nD Cert.AOutIdeal.τ).loc Cert.AOutIdeal.main_arg6) = m ((c.tc : Thread Cert.AOutIdeal.nD Cert.AOutIdeal.τ).loc Cert.AOutIdeal.main_arg6)
      ∧ r.2.mem ((c.tc : Thread Cert.AOutIdeal.nD Cert.AOutIdeal.τ).loc Cert.AOutIdeal.main_arg7) = m ((c.tc : Thread Cert.AOutIdeal.nD Cert.AOutIdeal.τ).loc Cert.AOutIdeal.main_arg7))
      ∧ r.2.sem = fun _ => 0)

def quiescent_AOutRefIdeal [hAOutRefIdeal : Cert.AOutRefIdeal.Facts] : Prop :=
  ∀ (m : (ℓ : Loc Cert.AOutRefIdeal.nD Cert.AOutRefIdeal.τ Cert.AOutRefIdeal.sig) → Buf (Elt Ideal) ℓ) (g : Dev Cert.AOutRefIdeal.nD → PrngReg), Pre_AOutRefIdeal m →
    θ_run (Cert.AOutRefIdeal.defs (F := Ideal)) (onTc (τ := Cert.AOutRefIdeal.τ) (Cert.AOutRefIdeal.main (F := Ideal))) ⟨m, fun _ => 0, g⟩ (fun r => (∀ c : Dev Cert.AOutRefIdeal.nD,
      r.2.mem ((c.tc : Thread Cert.AOutRefIdeal.nD Cert.AOutRefIdeal.τ).loc Cert.AOutRefIdeal.main_arg0) = m ((c.tc : Thread Cert.AOutRefIdeal.nD Cert.AOutRefIdeal.τ).loc Cert.AOutRefIdeal.main_arg0)
      ∧ r.2.mem ((c.tc : Thread Cert.AOutRefIdeal.nD Cert.AOutRefIdeal.τ).loc Cert.AOutRefIdeal.main_arg1) = m ((c.tc : Thread Cert.AOutRefIdeal.nD Cert.AOutRefIdeal.τ).loc Cert.AOutRefIdeal.main_arg1)
      ∧ r.2.mem ((c.tc : Thread Cert.AOutRefIdeal.nD Cert.AOutRefIdeal.τ).loc Cert.AOutRefIdeal.main_arg2) = m ((c.tc : Thread Cert.AOutRefIdeal.nD Cert.AOutRefIdeal.τ).loc Cert.AOutRefIdeal.main_arg2)
      ∧ r.2.mem ((c.tc : Thread Cert.AOutRefIdeal.nD Cert.AOutRefIdeal.τ).loc Cert.AOutRefIdeal.main_arg3) = m ((c.tc : Thread Cert.AOutRefIdeal.nD Cert.AOutRefIdeal.τ).loc Cert.AOutRefIdeal.main_arg3)
      ∧ r.2.mem ((c.tc : Thread Cert.AOutRefIdeal.nD Cert.AOutRefIdeal.τ).loc Cert.AOutRefIdeal.main_arg4) = m ((c.tc : Thread Cert.AOutRefIdeal.nD Cert.AOutRefIdeal.τ).loc Cert.AOutRefIdeal.main_arg4)
      ∧ r.2.mem ((c.tc : Thread Cert.AOutRefIdeal.nD Cert.AOutRefIdeal.τ).loc Cert.AOutRefIdeal.main_arg5) = m ((c.tc : Thread Cert.AOutRefIdeal.nD Cert.AOutRefIdeal.τ).loc Cert.AOutRefIdeal.main_arg5)
      ∧ r.2.mem ((c.tc : Thread Cert.AOutRefIdeal.nD Cert.AOutRefIdeal.τ).loc Cert.AOutRefIdeal.main_arg6) = m ((c.tc : Thread Cert.AOutRefIdeal.nD Cert.AOutRefIdeal.τ).loc Cert.AOutRefIdeal.main_arg6)
      ∧ r.2.mem ((c.tc : Thread Cert.AOutRefIdeal.nD Cert.AOutRefIdeal.τ).loc Cert.AOutRefIdeal.main_arg7) = m ((c.tc : Thread Cert.AOutRefIdeal.nD Cert.AOutRefIdeal.τ).loc Cert.AOutRefIdeal.main_arg7))
      ∧ r.2.sem = fun _ => 0)

def quiescent_BOut [hBOut : Cert.BOut.Facts] : Prop :=
  ∀ (m : (ℓ : Loc Cert.BOut.nD Cert.BOut.τ Cert.BOut.sig) → Buf (Elt Bits) ℓ) (g : Dev Cert.BOut.nD → PrngReg), Pre_BOut m →
    θ_run (Cert.BOut.defs (F := Bits)) (onTc (τ := Cert.BOut.τ) (Cert.BOut.main (F := Bits))) ⟨m, fun _ => 0, g⟩ (fun r => (∀ c : Dev Cert.BOut.nD,
      r.2.mem ((c.tc : Thread Cert.BOut.nD Cert.BOut.τ).loc Cert.BOut.main_arg0) = m ((c.tc : Thread Cert.BOut.nD Cert.BOut.τ).loc Cert.BOut.main_arg0)
      ∧ r.2.mem ((c.tc : Thread Cert.BOut.nD Cert.BOut.τ).loc Cert.BOut.main_arg1) = m ((c.tc : Thread Cert.BOut.nD Cert.BOut.τ).loc Cert.BOut.main_arg1)
      ∧ r.2.mem ((c.tc : Thread Cert.BOut.nD Cert.BOut.τ).loc Cert.BOut.main_arg2) = m ((c.tc : Thread Cert.BOut.nD Cert.BOut.τ).loc Cert.BOut.main_arg2)
      ∧ r.2.mem ((c.tc : Thread Cert.BOut.nD Cert.BOut.τ).loc Cert.BOut.main_arg3) = m ((c.tc : Thread Cert.BOut.nD Cert.BOut.τ).loc Cert.BOut.main_arg3)
      ∧ r.2.mem ((c.tc : Thread Cert.BOut.nD Cert.BOut.τ).loc Cert.BOut.main_arg4) = m ((c.tc : Thread Cert.BOut.nD Cert.BOut.τ).loc Cert.BOut.main_arg4)
      ∧ r.2.mem ((c.tc : Thread Cert.BOut.nD Cert.BOut.τ).loc Cert.BOut.main_arg5) = m ((c.tc : Thread Cert.BOut.nD Cert.BOut.τ).loc Cert.BOut.main_arg5)
      ∧ r.2.mem ((c.tc : Thread Cert.BOut.nD Cert.BOut.τ).loc Cert.BOut.main_arg6) = m ((c.tc : Thread Cert.BOut.nD Cert.BOut.τ).loc Cert.BOut.main_arg6)
      ∧ r.2.mem ((c.tc : Thread Cert.BOut.nD Cert.BOut.τ).loc Cert.BOut.main_arg7) = m ((c.tc : Thread Cert.BOut.nD Cert.BOut.τ).loc Cert.BOut.main_arg7))
      ∧ r.2.sem = fun _ => 0)

def quiescent_BOutIdeal [hBOutIdeal : Cert.BOutIdeal.Facts] : Prop :=
  ∀ (m : (ℓ : Loc Cert.BOutIdeal.nD Cert.BOutIdeal.τ Cert.BOutIdeal.sig) → Buf (Elt Ideal) ℓ) (g : Dev Cert.BOutIdeal.nD → PrngReg), Pre_BOutIdeal m →
    θ_run (Cert.BOutIdeal.defs (F := Ideal)) (onTc (τ := Cert.BOutIdeal.τ) (Cert.BOutIdeal.main (F := Ideal))) ⟨m, fun _ => 0, g⟩ (fun r => (∀ c : Dev Cert.BOutIdeal.nD,
      r.2.mem ((c.tc : Thread Cert.BOutIdeal.nD Cert.BOutIdeal.τ).loc Cert.BOutIdeal.main_arg0) = m ((c.tc : Thread Cert.BOutIdeal.nD Cert.BOutIdeal.τ).loc Cert.BOutIdeal.main_arg0)
      ∧ r.2.mem ((c.tc : Thread Cert.BOutIdeal.nD Cert.BOutIdeal.τ).loc Cert.BOutIdeal.main_arg1) = m ((c.tc : Thread Cert.BOutIdeal.nD Cert.BOutIdeal.τ).loc Cert.BOutIdeal.main_arg1)
      ∧ r.2.mem ((c.tc : Thread Cert.BOutIdeal.nD Cert.BOutIdeal.τ).loc Cert.BOutIdeal.main_arg2) = m ((c.tc : Thread Cert.BOutIdeal.nD Cert.BOutIdeal.τ).loc Cert.BOutIdeal.main_arg2)
      ∧ r.2.mem ((c.tc : Thread Cert.BOutIdeal.nD Cert.BOutIdeal.τ).loc Cert.BOutIdeal.main_arg3) = m ((c.tc : Thread Cert.BOutIdeal.nD Cert.BOutIdeal.τ).loc Cert.BOutIdeal.main_arg3)
      ∧ r.2.mem ((c.tc : Thread Cert.BOutIdeal.nD Cert.BOutIdeal.τ).loc Cert.BOutIdeal.main_arg4) = m ((c.tc : Thread Cert.BOutIdeal.nD Cert.BOutIdeal.τ).loc Cert.BOutIdeal.main_arg4)
      ∧ r.2.mem ((c.tc : Thread Cert.BOutIdeal.nD Cert.BOutIdeal.τ).loc Cert.BOutIdeal.main_arg5) = m ((c.tc : Thread Cert.BOutIdeal.nD Cert.BOutIdeal.τ).loc Cert.BOutIdeal.main_arg5)
      ∧ r.2.mem ((c.tc : Thread Cert.BOutIdeal.nD Cert.BOutIdeal.τ).loc Cert.BOutIdeal.main_arg6) = m ((c.tc : Thread Cert.BOutIdeal.nD Cert.BOutIdeal.τ).loc Cert.BOutIdeal.main_arg6)
      ∧ r.2.mem ((c.tc : Thread Cert.BOutIdeal.nD Cert.BOutIdeal.τ).loc Cert.BOutIdeal.main_arg7) = m ((c.tc : Thread Cert.BOutIdeal.nD Cert.BOutIdeal.τ).loc Cert.BOutIdeal.main_arg7))
      ∧ r.2.sem = fun _ => 0)

def quiescent_BOutRefIdeal [hBOutRefIdeal : Cert.BOutRefIdeal.Facts] : Prop :=
  ∀ (m : (ℓ : Loc Cert.BOutRefIdeal.nD Cert.BOutRefIdeal.τ Cert.BOutRefIdeal.sig) → Buf (Elt Ideal) ℓ) (g : Dev Cert.BOutRefIdeal.nD → PrngReg), Pre_BOutRefIdeal m →
    θ_run (Cert.BOutRefIdeal.defs (F := Ideal)) (onTc (τ := Cert.BOutRefIdeal.τ) (Cert.BOutRefIdeal.main (F := Ideal))) ⟨m, fun _ => 0, g⟩ (fun r => (∀ c : Dev Cert.BOutRefIdeal.nD,
      r.2.mem ((c.tc : Thread Cert.BOutRefIdeal.nD Cert.BOutRefIdeal.τ).loc Cert.BOutRefIdeal.main_arg0) = m ((c.tc : Thread Cert.BOutRefIdeal.nD Cert.BOutRefIdeal.τ).loc Cert.BOutRefIdeal.main_arg0)
      ∧ r.2.mem ((c.tc : Thread Cert.BOutRefIdeal.nD Cert.BOutRefIdeal.τ).loc Cert.BOutRefIdeal.main_arg1) = m ((c.tc : Thread Cert.BOutRefIdeal.nD Cert.BOutRefIdeal.τ).loc Cert.BOutRefIdeal.main_arg1)
      ∧ r.2.mem ((c.tc : Thread Cert.BOutRefIdeal.nD Cert.BOutRefIdeal.τ).loc Cert.BOutRefIdeal.main_arg2) = m ((c.tc : Thread Cert.BOutRefIdeal.nD Cert.BOutRefIdeal.τ).loc Cert.BOutRefIdeal.main_arg2)
      ∧ r.2.mem ((c.tc : Thread Cert.BOutRefIdeal.nD Cert.BOutRefIdeal.τ).loc Cert.BOutRefIdeal.main_arg3) = m ((c.tc : Thread Cert.BOutRefIdeal.nD Cert.BOutRefIdeal.τ).loc Cert.BOutRefIdeal.main_arg3)
      ∧ r.2.mem ((c.tc : Thread Cert.BOutRefIdeal.nD Cert.BOutRefIdeal.τ).loc Cert.BOutRefIdeal.main_arg4) = m ((c.tc : Thread Cert.BOutRefIdeal.nD Cert.BOutRefIdeal.τ).loc Cert.BOutRefIdeal.main_arg4)
      ∧ r.2.mem ((c.tc : Thread Cert.BOutRefIdeal.nD Cert.BOutRefIdeal.τ).loc Cert.BOutRefIdeal.main_arg5) = m ((c.tc : Thread Cert.BOutRefIdeal.nD Cert.BOutRefIdeal.τ).loc Cert.BOutRefIdeal.main_arg5)
      ∧ r.2.mem ((c.tc : Thread Cert.BOutRefIdeal.nD Cert.BOutRefIdeal.τ).loc Cert.BOutRefIdeal.main_arg6) = m ((c.tc : Thread Cert.BOutRefIdeal.nD Cert.BOutRefIdeal.τ).loc Cert.BOutRefIdeal.main_arg6)
      ∧ r.2.mem ((c.tc : Thread Cert.BOutRefIdeal.nD Cert.BOutRefIdeal.τ).loc Cert.BOutRefIdeal.main_arg7) = m ((c.tc : Thread Cert.BOutRefIdeal.nD Cert.BOutRefIdeal.τ).loc Cert.BOutRefIdeal.main_arg7))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2)
      ∧ r.2.mem ((c.tc : Thread Cert.Join.nD Cert.Join.τ).loc Cert.Join.main_arg3) = m ((c.tc : Thread Cert.Join.nD Cert.Join.τ).loc Cert.Join.main_arg3)
      ∧ r.2.mem ((c.tc : Thread Cert.Join.nD Cert.Join.τ).loc Cert.Join.main_arg4) = m ((c.tc : Thread Cert.Join.nD Cert.Join.τ).loc Cert.Join.main_arg4)
      ∧ r.2.mem ((c.tc : Thread Cert.Join.nD Cert.Join.τ).loc Cert.Join.main_arg5) = m ((c.tc : Thread Cert.Join.nD Cert.Join.τ).loc Cert.Join.main_arg5)
      ∧ r.2.mem ((c.tc : Thread Cert.Join.nD Cert.Join.τ).loc Cert.Join.main_arg6) = m ((c.tc : Thread Cert.Join.nD Cert.Join.τ).loc Cert.Join.main_arg6)
      ∧ r.2.mem ((c.tc : Thread Cert.Join.nD Cert.Join.τ).loc Cert.Join.main_arg7) = m ((c.tc : Thread Cert.Join.nD Cert.Join.τ).loc Cert.Join.main_arg7)
      ∧ r.2.mem ((c.tc : Thread Cert.Join.nD Cert.Join.τ).loc Cert.Join.main_arg8) = m ((c.tc : Thread Cert.Join.nD Cert.Join.τ).loc Cert.Join.main_arg8))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
      ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
      ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
      ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
      ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8))
      ∧ r.2.sem = fun _ => 0)

def quiescent_JoinIdeal_pre_finite_join [hJoinIdeal : Cert.JoinIdeal.Facts] [hPre_finite_join : Cert.Pre_finite_join.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal_finite_join m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
      ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
      ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
      ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
      ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3)
      ∧ r.2.mem ((c.tc : Thread Cert.JoinRefIdeal.nD Cert.JoinRefIdeal.τ).loc Cert.JoinRefIdeal.main_arg4) = m ((c.tc : Thread Cert.JoinRefIdeal.nD Cert.JoinRefIdeal.τ).loc Cert.JoinRefIdeal.main_arg4)
      ∧ r.2.mem ((c.tc : Thread Cert.JoinRefIdeal.nD Cert.JoinRefIdeal.τ).loc Cert.JoinRefIdeal.main_arg5) = m ((c.tc : Thread Cert.JoinRefIdeal.nD Cert.JoinRefIdeal.τ).loc Cert.JoinRefIdeal.main_arg5)
      ∧ r.2.mem ((c.tc : Thread Cert.JoinRefIdeal.nD Cert.JoinRefIdeal.τ).loc Cert.JoinRefIdeal.main_arg6) = m ((c.tc : Thread Cert.JoinRefIdeal.nD Cert.JoinRefIdeal.τ).loc Cert.JoinRefIdeal.main_arg6)
      ∧ r.2.mem ((c.tc : Thread Cert.JoinRefIdeal.nD Cert.JoinRefIdeal.τ).loc Cert.JoinRefIdeal.main_arg7) = m ((c.tc : Thread Cert.JoinRefIdeal.nD Cert.JoinRefIdeal.τ).loc Cert.JoinRefIdeal.main_arg7)
      ∧ r.2.mem ((c.tc : Thread Cert.JoinRefIdeal.nD Cert.JoinRefIdeal.τ).loc Cert.JoinRefIdeal.main_arg8) = m ((c.tc : Thread Cert.JoinRefIdeal.nD Cert.JoinRefIdeal.τ).loc Cert.JoinRefIdeal.main_arg8))
      ∧ r.2.sem = fun _ => 0)

def quiescent_JoinRefIdeal_pre_finite_join [hJoinRefIdeal : Cert.JoinRefIdeal.Facts] [hPre_finite_join : Cert.Pre_finite_join.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal_finite_join m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3)
      ∧ r.2.mem ((c.tc : Thread Cert.JoinRefIdeal.nD Cert.JoinRefIdeal.τ).loc Cert.JoinRefIdeal.main_arg4) = m ((c.tc : Thread Cert.JoinRefIdeal.nD Cert.JoinRefIdeal.τ).loc Cert.JoinRefIdeal.main_arg4)
      ∧ r.2.mem ((c.tc : Thread Cert.JoinRefIdeal.nD Cert.JoinRefIdeal.τ).loc Cert.JoinRefIdeal.main_arg5) = m ((c.tc : Thread Cert.JoinRefIdeal.nD Cert.JoinRefIdeal.τ).loc Cert.JoinRefIdeal.main_arg5)
      ∧ r.2.mem ((c.tc : Thread Cert.JoinRefIdeal.nD Cert.JoinRefIdeal.τ).loc Cert.JoinRefIdeal.main_arg6) = m ((c.tc : Thread Cert.JoinRefIdeal.nD Cert.JoinRefIdeal.τ).loc Cert.JoinRefIdeal.main_arg6)
      ∧ r.2.mem ((c.tc : Thread Cert.JoinRefIdeal.nD Cert.JoinRefIdeal.τ).loc Cert.JoinRefIdeal.main_arg7) = m ((c.tc : Thread Cert.JoinRefIdeal.nD Cert.JoinRefIdeal.τ).loc Cert.JoinRefIdeal.main_arg7)
      ∧ r.2.mem ((c.tc : Thread Cert.JoinRefIdeal.nD Cert.JoinRefIdeal.τ).loc Cert.JoinRefIdeal.main_arg8) = m ((c.tc : Thread Cert.JoinRefIdeal.nD Cert.JoinRefIdeal.τ).loc Cert.JoinRefIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_GDown_GDownIdeal : Prop :=
  True

def algebraic_GDownIdeal_GDownRefIdeal [hGDownIdeal : Cert.GDownIdeal.Facts] [hGDownRefIdeal : Cert.GDownRefIdeal.Facts] : Prop :=
  ∀ (m : (ℓ : Loc Cert.GDownIdeal.nD Cert.GDownIdeal.τ Cert.GDownIdeal.sig) → Buf (Elt Ideal) ℓ) (g : Dev Cert.GDownIdeal.nD → PrngReg)
    (m' : (ℓ : Loc Cert.GDownRefIdeal.nD Cert.GDownRefIdeal.τ Cert.GDownRefIdeal.sig) → Buf (Elt Ideal) ℓ) (g' : Dev Cert.GDownRefIdeal.nD → PrngReg), Pre_GDownIdeal m →
    (∀ c : Dev Cert.GDownIdeal.nD,
      m' ((c.tc : Thread Cert.GDownRefIdeal.nD Cert.GDownRefIdeal.τ).loc Cert.GDownRefIdeal.main_arg0) = m ((c.tc : Thread Cert.GDownIdeal.nD Cert.GDownIdeal.τ).loc Cert.GDownIdeal.main_arg0)
      ∧ m' ((c.tc : Thread Cert.GDownRefIdeal.nD Cert.GDownRefIdeal.τ).loc Cert.GDownRefIdeal.main_arg1) = m ((c.tc : Thread Cert.GDownIdeal.nD Cert.GDownIdeal.τ).loc Cert.GDownIdeal.main_arg1)
      ∧ m' ((c.tc : Thread Cert.GDownRefIdeal.nD Cert.GDownRefIdeal.τ).loc Cert.GDownRefIdeal.main_arg2) = m ((c.tc : Thread Cert.GDownIdeal.nD Cert.GDownIdeal.τ).loc Cert.GDownIdeal.main_arg2)
      ∧ m' ((c.tc : Thread Cert.GDownRefIdeal.nD Cert.GDownRefIdeal.τ).loc Cert.GDownRefIdeal.main_arg3) = m ((c.tc : Thread Cert.GDownIdeal.nD Cert.GDownIdeal.τ).loc Cert.GDownIdeal.main_arg3)) →
    ∃ (v0 : (c : Dev Cert.GDownIdeal.nD) → Buf (Elt Ideal) ((c.tc : Thread Cert.GDownIdeal.nD Cert.GDownIdeal.τ).loc Cert.GDownIdeal.main_v5)),
      θ_run (Cert.GDownIdeal.defs (F := Ideal)) (onTc (τ := Cert.GDownIdeal.τ) (Cert.GDownIdeal.main (F := Ideal))) ⟨m, fun _ => 0, g⟩ (fun r => ∀ c : Dev Cert.GDownIdeal.nD,
          r.2.mem ((c.tc : Thread Cert.GDownIdeal.nD Cert.GDownIdeal.τ).loc Cert.GDownIdeal.main_v5) = v0 c
          ∧ r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
          ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1)
          ∧ r.2.mem ((c.tc : Thread Cert.GDownIdeal.nD Cert.GDownIdeal.τ).loc Cert.GDownIdeal.main_arg2) = m ((c.tc : Thread Cert.GDownIdeal.nD Cert.GDownIdeal.τ).loc Cert.GDownIdeal.main_arg2)
          ∧ r.2.mem ((c.tc : Thread Cert.GDownIdeal.nD Cert.GDownIdeal.τ).loc Cert.GDownIdeal.main_arg3) = m ((c.tc : Thread Cert.GDownIdeal.nD Cert.GDownIdeal.τ).loc Cert.GDownIdeal.main_arg3))
      ∧ θ_run (Cert.GDownRefIdeal.defs (F := Ideal)) (onTc (τ := Cert.GDownRefIdeal.τ) (Cert.GDownRefIdeal.main (F := Ideal))) ⟨m', fun _ => 0, g'⟩ (fun r => ∀ c : Dev Cert.GDownRefIdeal.nD,
          r.2.mem ((c.tc : Thread Cert.GDownRefIdeal.nD Cert.GDownRefIdeal.τ).loc Cert.GDownRefIdeal.main_v6) = v0 c
          ∧ r.2.mem ((c.tc : Thread Cert.GDownRefIdeal.nD Cert.GDownRefIdeal.τ).loc Cert.GDownRefIdeal.main_arg0) = m' ((c.tc : Thread Cert.GDownRefIdeal.nD Cert.GDownRefIdeal.τ).loc Cert.GDownRefIdeal.main_arg0)
          ∧ r.2.mem ((c.tc : Thread Cert.GDownRefIdeal.nD Cert.GDownRefIdeal.τ).loc Cert.GDownRefIdeal.main_arg1) = m' ((c.tc : Thread Cert.GDownRefIdeal.nD Cert.GDownRefIdeal.τ).loc Cert.GDownRefIdeal.main_arg1)
          ∧ r.2.mem ((c.tc : Thread Cert.GDownRefIdeal.nD Cert.GDownRefIdeal.τ).loc Cert.GDownRefIdeal.main_arg2) = m' ((c.tc : Thread Cert.GDownRefIdeal.nD Cert.GDownRefIdeal.τ).loc Cert.GDownRefIdeal.main_arg2)
          ∧ r.2.mem ((c.tc : Thread Cert.GDownRefIdeal.nD Cert.GDownRefIdeal.τ).loc Cert.GDownRefIdeal.main_arg3) = m' ((c.tc : Thread Cert.GDownRefIdeal.nD Cert.GDownRefIdeal.τ).loc Cert.GDownRefIdeal.main_arg3))

def preserves_DDown_DDownIdeal : Prop :=
  True

def algebraic_DDownIdeal_DDownRefIdeal [hDDownIdeal : Cert.DDownIdeal.Facts] [hDDownRefIdeal : Cert.DDownRefIdeal.Facts] : Prop :=
  ∀ (m : (ℓ : Loc Cert.DDownIdeal.nD Cert.DDownIdeal.τ Cert.DDownIdeal.sig) → Buf (Elt Ideal) ℓ) (g : Dev Cert.DDownIdeal.nD → PrngReg)
    (m' : (ℓ : Loc Cert.DDownRefIdeal.nD Cert.DDownRefIdeal.τ Cert.DDownRefIdeal.sig) → Buf (Elt Ideal) ℓ) (g' : Dev Cert.DDownRefIdeal.nD → PrngReg), Pre_DDownIdeal m →
    (∀ c : Dev Cert.DDownIdeal.nD,
      m' ((c.tc : Thread Cert.DDownRefIdeal.nD Cert.DDownRefIdeal.τ).loc Cert.DDownRefIdeal.main_arg0) = m ((c.tc : Thread Cert.DDownIdeal.nD Cert.DDownIdeal.τ).loc Cert.DDownIdeal.main_arg0)
      ∧ m' ((c.tc : Thread Cert.DDownRefIdeal.nD Cert.DDownRefIdeal.τ).loc Cert.DDownRefIdeal.main_arg1) = m ((c.tc : Thread Cert.DDownIdeal.nD Cert.DDownIdeal.τ).loc Cert.DDownIdeal.main_arg1)
      ∧ m' ((c.tc : Thread Cert.DDownRefIdeal.nD Cert.DDownRefIdeal.τ).loc Cert.DDownRefIdeal.main_arg2) = m ((c.tc : Thread Cert.DDownIdeal.nD Cert.DDownIdeal.τ).loc Cert.DDownIdeal.main_arg2)
      ∧ m' ((c.tc : Thread Cert.DDownRefIdeal.nD Cert.DDownRefIdeal.τ).loc Cert.DDownRefIdeal.main_arg3) = m ((c.tc : Thread Cert.DDownIdeal.nD Cert.DDownIdeal.τ).loc Cert.DDownIdeal.main_arg3)) →
    ∃ (v0 : (c : Dev Cert.DDownIdeal.nD) → Buf (Elt Ideal) ((c.tc : Thread Cert.DDownIdeal.nD Cert.DDownIdeal.τ).loc Cert.DDownIdeal.main_v7)),
      θ_run (Cert.DDownIdeal.defs (F := Ideal)) (onTc (τ := Cert.DDownIdeal.τ) (Cert.DDownIdeal.main (F := Ideal))) ⟨m, fun _ => 0, g⟩ (fun r => ∀ c : Dev Cert.DDownIdeal.nD,
          r.2.mem ((c.tc : Thread Cert.DDownIdeal.nD Cert.DDownIdeal.τ).loc Cert.DDownIdeal.main_v7) = v0 c
          ∧ r.2.mem ((c.tc : Thread Cert.DDownIdeal.nD Cert.DDownIdeal.τ).loc Cert.DDownIdeal.main_arg0) = m ((c.tc : Thread Cert.DDownIdeal.nD Cert.DDownIdeal.τ).loc Cert.DDownIdeal.main_arg0)
          ∧ r.2.mem ((c.tc : Thread Cert.DDownIdeal.nD Cert.DDownIdeal.τ).loc Cert.DDownIdeal.main_arg1) = m ((c.tc : Thread Cert.DDownIdeal.nD Cert.DDownIdeal.τ).loc Cert.DDownIdeal.main_arg1)
          ∧ r.2.mem ((c.tc : Thread Cert.DDownIdeal.nD Cert.DDownIdeal.τ).loc Cert.DDownIdeal.main_arg2) = m ((c.tc : Thread Cert.DDownIdeal.nD Cert.DDownIdeal.τ).loc Cert.DDownIdeal.main_arg2)
          ∧ r.2.mem ((c.tc : Thread Cert.DDownIdeal.nD Cert.DDownIdeal.τ).loc Cert.DDownIdeal.main_arg3) = m ((c.tc : Thread Cert.DDownIdeal.nD Cert.DDownIdeal.τ).loc Cert.DDownIdeal.main_arg3))
      ∧ θ_run (Cert.DDownRefIdeal.defs (F := Ideal)) (onTc (τ := Cert.DDownRefIdeal.τ) (Cert.DDownRefIdeal.main (F := Ideal))) ⟨m', fun _ => 0, g'⟩ (fun r => ∀ c : Dev Cert.DDownRefIdeal.nD,
          r.2.mem ((c.tc : Thread Cert.DDownRefIdeal.nD Cert.DDownRefIdeal.τ).loc Cert.DDownRefIdeal.main_v13) = v0 c
          ∧ r.2.mem ((c.tc : Thread Cert.DDownRefIdeal.nD Cert.DDownRefIdeal.τ).loc Cert.DDownRefIdeal.main_arg0) = m' ((c.tc : Thread Cert.DDownRefIdeal.nD Cert.DDownRefIdeal.τ).loc Cert.DDownRefIdeal.main_arg0)
          ∧ r.2.mem ((c.tc : Thread Cert.DDownRefIdeal.nD Cert.DDownRefIdeal.τ).loc Cert.DDownRefIdeal.main_arg1) = m' ((c.tc : Thread Cert.DDownRefIdeal.nD Cert.DDownRefIdeal.τ).loc Cert.DDownRefIdeal.main_arg1)
          ∧ r.2.mem ((c.tc : Thread Cert.DDownRefIdeal.nD Cert.DDownRefIdeal.τ).loc Cert.DDownRefIdeal.main_arg2) = m' ((c.tc : Thread Cert.DDownRefIdeal.nD Cert.DDownRefIdeal.τ).loc Cert.DDownRefIdeal.main_arg2)
          ∧ r.2.mem ((c.tc : Thread Cert.DDownRefIdeal.nD Cert.DDownRefIdeal.τ).loc Cert.DDownRefIdeal.main_arg3) = m' ((c.tc : Thread Cert.DDownRefIdeal.nD Cert.DDownRefIdeal.τ).loc Cert.DDownRefIdeal.main_arg3))

def preserves_GUp_GUpIdeal : Prop :=
  True

def algebraic_GUpIdeal_GUpRefIdeal [hGUpIdeal : Cert.GUpIdeal.Facts] [hGUpRefIdeal : Cert.GUpRefIdeal.Facts] : Prop :=
  ∀ (m : (ℓ : Loc Cert.GUpIdeal.nD Cert.GUpIdeal.τ Cert.GUpIdeal.sig) → Buf (Elt Ideal) ℓ) (g : Dev Cert.GUpIdeal.nD → PrngReg)
    (m' : (ℓ : Loc Cert.GUpRefIdeal.nD Cert.GUpRefIdeal.τ Cert.GUpRefIdeal.sig) → Buf (Elt Ideal) ℓ) (g' : Dev Cert.GUpRefIdeal.nD → PrngReg), Pre_GUpIdeal m →
    (∀ c : Dev Cert.GUpIdeal.nD,
      m' ((c.tc : Thread Cert.GUpRefIdeal.nD Cert.GUpRefIdeal.τ).loc Cert.GUpRefIdeal.main_arg0) = m ((c.tc : Thread Cert.GUpIdeal.nD Cert.GUpIdeal.τ).loc Cert.GUpIdeal.main_arg0)
      ∧ m' ((c.tc : Thread Cert.GUpRefIdeal.nD Cert.GUpRefIdeal.τ).loc Cert.GUpRefIdeal.main_arg1) = m ((c.tc : Thread Cert.GUpIdeal.nD Cert.GUpIdeal.τ).loc Cert.GUpIdeal.main_arg1)
      ∧ m' ((c.tc : Thread Cert.GUpRefIdeal.nD Cert.GUpRefIdeal.τ).loc Cert.GUpRefIdeal.main_arg2) = m ((c.tc : Thread Cert.GUpIdeal.nD Cert.GUpIdeal.τ).loc Cert.GUpIdeal.main_arg2)) →
    ∃ (v0 : (c : Dev Cert.GUpIdeal.nD) → Buf (Elt Ideal) ((c.tc : Thread Cert.GUpIdeal.nD Cert.GUpIdeal.τ).loc Cert.GUpIdeal.main_v1)),
      θ_run (Cert.GUpIdeal.defs (F := Ideal)) (onTc (τ := Cert.GUpIdeal.τ) (Cert.GUpIdeal.main (F := Ideal))) ⟨m, fun _ => 0, g⟩ (fun r => ∀ c : Dev Cert.GUpIdeal.nD,
          r.2.mem ((c.tc : Thread Cert.GUpIdeal.nD Cert.GUpIdeal.τ).loc Cert.GUpIdeal.main_v1) = v0 c
          ∧ r.2.mem ((c.tc : Thread Cert.GUpIdeal.nD Cert.GUpIdeal.τ).loc Cert.GUpIdeal.main_arg0) = m ((c.tc : Thread Cert.GUpIdeal.nD Cert.GUpIdeal.τ).loc Cert.GUpIdeal.main_arg0)
          ∧ r.2.mem ((c.tc : Thread Cert.GUpIdeal.nD Cert.GUpIdeal.τ).loc Cert.GUpIdeal.main_arg1) = m ((c.tc : Thread Cert.GUpIdeal.nD Cert.GUpIdeal.τ).loc Cert.GUpIdeal.main_arg1)
          ∧ r.2.mem ((c.tc : Thread Cert.GUpIdeal.nD Cert.GUpIdeal.τ).loc Cert.GUpIdeal.main_arg2) = m ((c.tc : Thread Cert.GUpIdeal.nD Cert.GUpIdeal.τ).loc Cert.GUpIdeal.main_arg2))
      ∧ θ_run (Cert.GUpRefIdeal.defs (F := Ideal)) (onTc (τ := Cert.GUpRefIdeal.τ) (Cert.GUpRefIdeal.main (F := Ideal))) ⟨m', fun _ => 0, g'⟩ (fun r => ∀ c : Dev Cert.GUpRefIdeal.nD,
          r.2.mem ((c.tc : Thread Cert.GUpRefIdeal.nD Cert.GUpRefIdeal.τ).loc Cert.GUpRefIdeal.main_v4) = v0 c
          ∧ r.2.mem ((c.tc : Thread Cert.GUpRefIdeal.nD Cert.GUpRefIdeal.τ).loc Cert.GUpRefIdeal.main_arg0) = m' ((c.tc : Thread Cert.GUpRefIdeal.nD Cert.GUpRefIdeal.τ).loc Cert.GUpRefIdeal.main_arg0)
          ∧ r.2.mem ((c.tc : Thread Cert.GUpRefIdeal.nD Cert.GUpRefIdeal.τ).loc Cert.GUpRefIdeal.main_arg1) = m' ((c.tc : Thread Cert.GUpRefIdeal.nD Cert.GUpRefIdeal.τ).loc Cert.GUpRefIdeal.main_arg1)
          ∧ r.2.mem ((c.tc : Thread Cert.GUpRefIdeal.nD Cert.GUpRefIdeal.τ).loc Cert.GUpRefIdeal.main_arg2) = m' ((c.tc : Thread Cert.GUpRefIdeal.nD Cert.GUpRefIdeal.τ).loc Cert.GUpRefIdeal.main_arg2))

def preserves_DUp_DUpIdeal : Prop :=
  True

def algebraic_DUpIdeal_DUpRefIdeal [hDUpIdeal : Cert.DUpIdeal.Facts] [hDUpRefIdeal : Cert.DUpRefIdeal.Facts] : Prop :=
  ∀ (m : (ℓ : Loc Cert.DUpIdeal.nD Cert.DUpIdeal.τ Cert.DUpIdeal.sig) → Buf (Elt Ideal) ℓ) (g : Dev Cert.DUpIdeal.nD → PrngReg)
    (m' : (ℓ : Loc Cert.DUpRefIdeal.nD Cert.DUpRefIdeal.τ Cert.DUpRefIdeal.sig) → Buf (Elt Ideal) ℓ) (g' : Dev Cert.DUpRefIdeal.nD → PrngReg), Pre_DUpIdeal m →
    (∀ c : Dev Cert.DUpIdeal.nD,
      m' ((c.tc : Thread Cert.DUpRefIdeal.nD Cert.DUpRefIdeal.τ).loc Cert.DUpRefIdeal.main_arg0) = m ((c.tc : Thread Cert.DUpIdeal.nD Cert.DUpIdeal.τ).loc Cert.DUpIdeal.main_arg0)
      ∧ m' ((c.tc : Thread Cert.DUpRefIdeal.nD Cert.DUpRefIdeal.τ).loc Cert.DUpRefIdeal.main_arg1) = m ((c.tc : Thread Cert.DUpIdeal.nD Cert.DUpIdeal.τ).loc Cert.DUpIdeal.main_arg1)
      ∧ m' ((c.tc : Thread Cert.DUpRefIdeal.nD Cert.DUpRefIdeal.τ).loc Cert.DUpRefIdeal.main_arg2) = m ((c.tc : Thread Cert.DUpIdeal.nD Cert.DUpIdeal.τ).loc Cert.DUpIdeal.main_arg2)) →
    ∃ (v0 : (c : Dev Cert.DUpIdeal.nD) → Buf (Elt Ideal) ((c.tc : Thread Cert.DUpIdeal.nD Cert.DUpIdeal.τ).loc Cert.DUpIdeal.main_v3)),
      θ_run (Cert.DUpIdeal.defs (F := Ideal)) (onTc (τ := Cert.DUpIdeal.τ) (Cert.DUpIdeal.main (F := Ideal))) ⟨m, fun _ => 0, g⟩ (fun r => ∀ c : Dev Cert.DUpIdeal.nD,
          r.2.mem ((c.tc : Thread Cert.DUpIdeal.nD Cert.DUpIdeal.τ).loc Cert.DUpIdeal.main_v3) = v0 c
          ∧ r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
          ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1)
          ∧ r.2.mem ((c.tc : Thread Cert.DUpIdeal.nD Cert.DUpIdeal.τ).loc Cert.DUpIdeal.main_arg2) = m ((c.tc : Thread Cert.DUpIdeal.nD Cert.DUpIdeal.τ).loc Cert.DUpIdeal.main_arg2))
      ∧ θ_run (Cert.DUpRefIdeal.defs (F := Ideal)) (onTc (τ := Cert.DUpRefIdeal.τ) (Cert.DUpRefIdeal.main (F := Ideal))) ⟨m', fun _ => 0, g'⟩ (fun r => ∀ c : Dev Cert.DUpRefIdeal.nD,
          r.2.mem ((c.tc : Thread Cert.DUpRefIdeal.nD Cert.DUpRefIdeal.τ).loc Cert.DUpRefIdeal.main_v2) = v0 c
          ∧ r.2.mem ((c.tc : Thread Cert.DUpRefIdeal.nD Cert.DUpRefIdeal.τ).loc Cert.DUpRefIdeal.main_arg0) = m' ((c.tc : Thread Cert.DUpRefIdeal.nD Cert.DUpRefIdeal.τ).loc Cert.DUpRefIdeal.main_arg0)
          ∧ r.2.mem ((c.tc : Thread Cert.DUpRefIdeal.nD Cert.DUpRefIdeal.τ).loc Cert.DUpRefIdeal.main_arg1) = m' ((c.tc : Thread Cert.DUpRefIdeal.nD Cert.DUpRefIdeal.τ).loc Cert.DUpRefIdeal.main_arg1)
          ∧ r.2.mem ((c.tc : Thread Cert.DUpRefIdeal.nD Cert.DUpRefIdeal.τ).loc Cert.DUpRefIdeal.main_arg2) = m' ((c.tc : Thread Cert.DUpRefIdeal.nD Cert.DUpRefIdeal.τ).loc Cert.DUpRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Spatial_SpatialIdeal : Prop :=
  True

def algebraic_SpatialIdeal_SpatialRefIdeal [hSpatialIdeal : Cert.SpatialIdeal.Facts] [hSpatialRefIdeal : Cert.SpatialRefIdeal.Facts] : Prop :=
  ∀ (m : (ℓ : Loc Cert.SpatialIdeal.nD Cert.SpatialIdeal.τ Cert.SpatialIdeal.sig) → Buf (Elt Ideal) ℓ) (g : Dev Cert.SpatialIdeal.nD → PrngReg)
    (m' : (ℓ : Loc Cert.SpatialRefIdeal.nD Cert.SpatialRefIdeal.τ Cert.SpatialRefIdeal.sig) → Buf (Elt Ideal) ℓ) (g' : Dev Cert.SpatialRefIdeal.nD → PrngReg), Pre_SpatialIdeal m →
    (∀ c : Dev Cert.SpatialIdeal.nD,
      m' ((c.tc : Thread Cert.SpatialRefIdeal.nD Cert.SpatialRefIdeal.τ).loc Cert.SpatialRefIdeal.main_arg0) = m ((c.tc : Thread Cert.SpatialIdeal.nD Cert.SpatialIdeal.τ).loc Cert.SpatialIdeal.main_arg0)
      ∧ m' ((c.tc : Thread Cert.SpatialRefIdeal.nD Cert.SpatialRefIdeal.τ).loc Cert.SpatialRefIdeal.main_arg1) = m ((c.tc : Thread Cert.SpatialIdeal.nD Cert.SpatialIdeal.τ).loc Cert.SpatialIdeal.main_arg1)
      ∧ m' ((c.tc : Thread Cert.SpatialRefIdeal.nD Cert.SpatialRefIdeal.τ).loc Cert.SpatialRefIdeal.main_arg2) = m ((c.tc : Thread Cert.SpatialIdeal.nD Cert.SpatialIdeal.τ).loc Cert.SpatialIdeal.main_arg2)
      ∧ m' ((c.tc : Thread Cert.SpatialRefIdeal.nD Cert.SpatialRefIdeal.τ).loc Cert.SpatialRefIdeal.main_arg3) = m ((c.tc : Thread Cert.SpatialIdeal.nD Cert.SpatialIdeal.τ).loc Cert.SpatialIdeal.main_arg3)
      ∧ m' ((c.tc : Thread Cert.SpatialRefIdeal.nD Cert.SpatialRefIdeal.τ).loc Cert.SpatialRefIdeal.main_arg4) = m ((c.tc : Thread Cert.SpatialIdeal.nD Cert.SpatialIdeal.τ).loc Cert.SpatialIdeal.main_arg4)
      ∧ m' ((c.tc : Thread Cert.SpatialRefIdeal.nD Cert.SpatialRefIdeal.τ).loc Cert.SpatialRefIdeal.main_arg5) = m ((c.tc : Thread Cert.SpatialIdeal.nD Cert.SpatialIdeal.τ).loc Cert.SpatialIdeal.main_arg5)) →
    ∃ (v0 : (c : Dev Cert.SpatialIdeal.nD) → Buf (Elt Ideal) ((c.tc : Thread Cert.SpatialIdeal.nD Cert.SpatialIdeal.τ).loc Cert.SpatialIdeal.main_v14_1)) (v1 : (c : Dev Cert.SpatialIdeal.nD) → Buf (Elt Ideal) ((c.tc : Thread Cert.SpatialIdeal.nD Cert.SpatialIdeal.τ).loc Cert.SpatialIdeal.main_v14_2)),
      θ_run (Cert.SpatialIdeal.defs (F := Ideal)) (onTc (τ := Cert.SpatialIdeal.τ) (Cert.SpatialIdeal.main (F := Ideal))) ⟨m, fun _ => 0, g⟩ (fun r => ∀ c : Dev Cert.SpatialIdeal.nD,
          r.2.mem ((c.tc : Thread Cert.SpatialIdeal.nD Cert.SpatialIdeal.τ).loc Cert.SpatialIdeal.main_v14_1) = v0 c
          ∧ r.2.mem ((c.tc : Thread Cert.SpatialIdeal.nD Cert.SpatialIdeal.τ).loc Cert.SpatialIdeal.main_v14_2) = v1 c
          ∧ r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
          ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
          ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2)
          ∧ r.2.mem ((c.tc : Thread Cert.SpatialIdeal.nD Cert.SpatialIdeal.τ).loc Cert.SpatialIdeal.main_arg3) = m ((c.tc : Thread Cert.SpatialIdeal.nD Cert.SpatialIdeal.τ).loc Cert.SpatialIdeal.main_arg3)
          ∧ r.2.mem ((c.tc : Thread Cert.SpatialIdeal.nD Cert.SpatialIdeal.τ).loc Cert.SpatialIdeal.main_arg4) = m ((c.tc : Thread Cert.SpatialIdeal.nD Cert.SpatialIdeal.τ).loc Cert.SpatialIdeal.main_arg4)
          ∧ r.2.mem ((c.tc : Thread Cert.SpatialIdeal.nD Cert.SpatialIdeal.τ).loc Cert.SpatialIdeal.main_arg5) = m ((c.tc : Thread Cert.SpatialIdeal.nD Cert.SpatialIdeal.τ).loc Cert.SpatialIdeal.main_arg5))
      ∧ θ_run (Cert.SpatialRefIdeal.defs (F := Ideal)) (onTc (τ := Cert.SpatialRefIdeal.τ) (Cert.SpatialRefIdeal.main (F := Ideal))) ⟨m', fun _ => 0, g'⟩ (fun r => ∀ c : Dev Cert.SpatialRefIdeal.nD,
          r.2.mem ((c.tc : Thread Cert.SpatialRefIdeal.nD Cert.SpatialRefIdeal.τ).loc Cert.SpatialRefIdeal.main_v59) = v0 c
          ∧ r.2.mem ((c.tc : Thread Cert.SpatialRefIdeal.nD Cert.SpatialRefIdeal.τ).loc Cert.SpatialRefIdeal.main_v56) = v1 c
          ∧ r.2.mem ((c.tc : Thread Cert.SpatialRefIdeal.nD Cert.SpatialRefIdeal.τ).loc Cert.SpatialRefIdeal.main_arg0) = m' ((c.tc : Thread Cert.SpatialRefIdeal.nD Cert.SpatialRefIdeal.τ).loc Cert.SpatialRefIdeal.main_arg0)
          ∧ r.2.mem ((c.tc : Thread Cert.SpatialRefIdeal.nD Cert.SpatialRefIdeal.τ).loc Cert.SpatialRefIdeal.main_arg1) = m' ((c.tc : Thread Cert.SpatialRefIdeal.nD Cert.SpatialRefIdeal.τ).loc Cert.SpatialRefIdeal.main_arg1)
          ∧ r.2.mem ((c.tc : Thread Cert.SpatialRefIdeal.nD Cert.SpatialRefIdeal.τ).loc Cert.SpatialRefIdeal.main_arg2) = m' ((c.tc : Thread Cert.SpatialRefIdeal.nD Cert.SpatialRefIdeal.τ).loc Cert.SpatialRefIdeal.main_arg2)
          ∧ r.2.mem ((c.tc : Thread Cert.SpatialRefIdeal.nD Cert.SpatialRefIdeal.τ).loc Cert.SpatialRefIdeal.main_arg3) = m' ((c.tc : Thread Cert.SpatialRefIdeal.nD Cert.SpatialRefIdeal.τ).loc Cert.SpatialRefIdeal.main_arg3)
          ∧ r.2.mem ((c.tc : Thread Cert.SpatialRefIdeal.nD Cert.SpatialRefIdeal.τ).loc Cert.SpatialRefIdeal.main_arg4) = m' ((c.tc : Thread Cert.SpatialRefIdeal.nD Cert.SpatialRefIdeal.τ).loc Cert.SpatialRefIdeal.main_arg4)
          ∧ r.2.mem ((c.tc : Thread Cert.SpatialRefIdeal.nD Cert.SpatialRefIdeal.τ).loc Cert.SpatialRefIdeal.main_arg5) = m' ((c.tc : Thread Cert.SpatialRefIdeal.nD Cert.SpatialRefIdeal.τ).loc Cert.SpatialRefIdeal.main_arg5))

def preserves_Gated_GatedIdeal : Prop :=
  True

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)
      ∧ m' ((c.tc : Thread Cert.GatedRefIdeal.nD Cert.GatedRefIdeal.τ).loc Cert.GatedRefIdeal.main_arg3) = m ((c.tc : Thread Cert.GatedIdeal.nD Cert.GatedIdeal.τ).loc Cert.GatedIdeal.main_arg3)
      ∧ m' ((c.tc : Thread Cert.GatedRefIdeal.nD Cert.GatedRefIdeal.τ).loc Cert.GatedRefIdeal.main_arg4) = m ((c.tc : Thread Cert.GatedIdeal.nD Cert.GatedIdeal.τ).loc Cert.GatedIdeal.main_arg4)) →
    ∃ (v0 : (c : Dev Cert.GatedIdeal.nD) → Buf (Elt Ideal) ((c.tc : Thread Cert.GatedIdeal.nD Cert.GatedIdeal.τ).loc Cert.GatedIdeal.main_v10)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v10) = v0 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
          ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v52) = v0 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2)
          ∧ r.2.mem ((c.tc : Thread Cert.GatedRefIdeal.nD Cert.GatedRefIdeal.τ).loc Cert.GatedRefIdeal.main_arg3) = m' ((c.tc : Thread Cert.GatedRefIdeal.nD Cert.GatedRefIdeal.τ).loc Cert.GatedRefIdeal.main_arg3)
          ∧ r.2.mem ((c.tc : Thread Cert.GatedRefIdeal.nD Cert.GatedRefIdeal.τ).loc Cert.GatedRefIdeal.main_arg4) = m' ((c.tc : Thread Cert.GatedRefIdeal.nD Cert.GatedRefIdeal.τ).loc Cert.GatedRefIdeal.main_arg4))

def preserves_AIn_AInIdeal : Prop :=
  True

def algebraic_AInIdeal_AInRefIdeal [hAInIdeal : Cert.AInIdeal.Facts] [hAInRefIdeal : Cert.AInRefIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)
      ∧ m' ((c.tc : Thread Cert.AInRefIdeal.nD Cert.AInRefIdeal.τ).loc Cert.AInRefIdeal.main_arg2) = m ((c.tc : Thread Cert.AInIdeal.nD Cert.AInIdeal.τ).loc Cert.AInIdeal.main_arg2)) →
    ∃ (v0 : (c : Dev Cert.AInIdeal.nD) → Buf (Elt Ideal) ((c.tc : Thread Cert.AInIdeal.nD Cert.AInIdeal.τ).loc Cert.AInIdeal.main_v4)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v4) = v0 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
          ∧ r.2.mem ((c.tc : Thread Cert.AInIdeal.nD Cert.AInIdeal.τ).loc Cert.AInIdeal.main_arg2) = m ((c.tc : Thread Cert.AInIdeal.nD Cert.AInIdeal.τ).loc Cert.AInIdeal.main_arg2))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v2) = v0 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1)
          ∧ r.2.mem ((c.tc : Thread Cert.AInRefIdeal.nD Cert.AInRefIdeal.τ).loc Cert.AInRefIdeal.main_arg2) = m' ((c.tc : Thread Cert.AInRefIdeal.nD Cert.AInRefIdeal.τ).loc Cert.AInRefIdeal.main_arg2))

def preserves_DAIn_DAInIdeal : Prop :=
  True

def algebraic_DAInIdeal_DAInRefIdeal [hDAInIdeal : Cert.DAInIdeal.Facts] [hDAInRefIdeal : Cert.DAInRefIdeal.Facts] : Prop :=
  ∀ (m : (ℓ : Loc Cert.DAInIdeal.nD Cert.DAInIdeal.τ Cert.DAInIdeal.sig) → Buf (Elt Ideal) ℓ) (g : Dev Cert.DAInIdeal.nD → PrngReg)
    (m' : (ℓ : Loc Cert.DAInRefIdeal.nD Cert.DAInRefIdeal.τ Cert.DAInRefIdeal.sig) → Buf (Elt Ideal) ℓ) (g' : Dev Cert.DAInRefIdeal.nD → PrngReg), Pre_DAInIdeal m →
    (∀ c : Dev Cert.DAInIdeal.nD,
      m' ((c.tc : Thread Cert.DAInRefIdeal.nD Cert.DAInRefIdeal.τ).loc Cert.DAInRefIdeal.main_arg0) = m ((c.tc : Thread Cert.DAInIdeal.nD Cert.DAInIdeal.τ).loc Cert.DAInIdeal.main_arg0)
      ∧ m' ((c.tc : Thread Cert.DAInRefIdeal.nD Cert.DAInRefIdeal.τ).loc Cert.DAInRefIdeal.main_arg1) = m ((c.tc : Thread Cert.DAInIdeal.nD Cert.DAInIdeal.τ).loc Cert.DAInIdeal.main_arg1)
      ∧ m' ((c.tc : Thread Cert.DAInRefIdeal.nD Cert.DAInRefIdeal.τ).loc Cert.DAInRefIdeal.main_arg2) = m ((c.tc : Thread Cert.DAInIdeal.nD Cert.DAInIdeal.τ).loc Cert.DAInIdeal.main_arg2)) →
    ∃ (v0 : (c : Dev Cert.DAInIdeal.nD) → Buf (Elt Ideal) ((c.tc : Thread Cert.DAInIdeal.nD Cert.DAInIdeal.τ).loc Cert.DAInIdeal.main_v3)),
      θ_run (Cert.DAInIdeal.defs (F := Ideal)) (onTc (τ := Cert.DAInIdeal.τ) (Cert.DAInIdeal.main (F := Ideal))) ⟨m, fun _ => 0, g⟩ (fun r => ∀ c : Dev Cert.DAInIdeal.nD,
          r.2.mem ((c.tc : Thread Cert.DAInIdeal.nD Cert.DAInIdeal.τ).loc Cert.DAInIdeal.main_v3) = v0 c
          ∧ r.2.mem ((c.tc : Thread Cert.DAInIdeal.nD Cert.DAInIdeal.τ).loc Cert.DAInIdeal.main_arg0) = m ((c.tc : Thread Cert.DAInIdeal.nD Cert.DAInIdeal.τ).loc Cert.DAInIdeal.main_arg0)
          ∧ r.2.mem ((c.tc : Thread Cert.DAInIdeal.nD Cert.DAInIdeal.τ).loc Cert.DAInIdeal.main_arg1) = m ((c.tc : Thread Cert.DAInIdeal.nD Cert.DAInIdeal.τ).loc Cert.DAInIdeal.main_arg1)
          ∧ r.2.mem ((c.tc : Thread Cert.DAInIdeal.nD Cert.DAInIdeal.τ).loc Cert.DAInIdeal.main_arg2) = m ((c.tc : Thread Cert.DAInIdeal.nD Cert.DAInIdeal.τ).loc Cert.DAInIdeal.main_arg2))
      ∧ θ_run (Cert.DAInRefIdeal.defs (F := Ideal)) (onTc (τ := Cert.DAInRefIdeal.τ) (Cert.DAInRefIdeal.main (F := Ideal))) ⟨m', fun _ => 0, g'⟩ (fun r => ∀ c : Dev Cert.DAInRefIdeal.nD,
          r.2.mem ((c.tc : Thread Cert.DAInRefIdeal.nD Cert.DAInRefIdeal.τ).loc Cert.DAInRefIdeal.main_v2) = v0 c
          ∧ r.2.mem ((c.tc : Thread Cert.DAInRefIdeal.nD Cert.DAInRefIdeal.τ).loc Cert.DAInRefIdeal.main_arg0) = m' ((c.tc : Thread Cert.DAInRefIdeal.nD Cert.DAInRefIdeal.τ).loc Cert.DAInRefIdeal.main_arg0)
          ∧ r.2.mem ((c.tc : Thread Cert.DAInRefIdeal.nD Cert.DAInRefIdeal.τ).loc Cert.DAInRefIdeal.main_arg1) = m' ((c.tc : Thread Cert.DAInRefIdeal.nD Cert.DAInRefIdeal.τ).loc Cert.DAInRefIdeal.main_arg1)
          ∧ r.2.mem ((c.tc : Thread Cert.DAInRefIdeal.nD Cert.DAInRefIdeal.τ).loc Cert.DAInRefIdeal.main_arg2) = m' ((c.tc : Thread Cert.DAInRefIdeal.nD Cert.DAInRefIdeal.τ).loc Cert.DAInRefIdeal.main_arg2))

def preserves_GAIn_GAInIdeal : Prop :=
  True

def algebraic_GAInIdeal_GAInRefIdeal [hGAInIdeal : Cert.GAInIdeal.Facts] [hGAInRefIdeal : Cert.GAInRefIdeal.Facts] : Prop :=
  ∀ (m : (ℓ : Loc Cert.GAInIdeal.nD Cert.GAInIdeal.τ Cert.GAInIdeal.sig) → Buf (Elt Ideal) ℓ) (g : Dev Cert.GAInIdeal.nD → PrngReg)
    (m' : (ℓ : Loc Cert.GAInRefIdeal.nD Cert.GAInRefIdeal.τ Cert.GAInRefIdeal.sig) → Buf (Elt Ideal) ℓ) (g' : Dev Cert.GAInRefIdeal.nD → PrngReg), Pre_GAInIdeal m →
    (∀ c : Dev Cert.GAInIdeal.nD,
      m' ((c.tc : Thread Cert.GAInRefIdeal.nD Cert.GAInRefIdeal.τ).loc Cert.GAInRefIdeal.main_arg0) = m ((c.tc : Thread Cert.GAInIdeal.nD Cert.GAInIdeal.τ).loc Cert.GAInIdeal.main_arg0)
      ∧ m' ((c.tc : Thread Cert.GAInRefIdeal.nD Cert.GAInRefIdeal.τ).loc Cert.GAInRefIdeal.main_arg1) = m ((c.tc : Thread Cert.GAInIdeal.nD Cert.GAInIdeal.τ).loc Cert.GAInIdeal.main_arg1)
      ∧ m' ((c.tc : Thread Cert.GAInRefIdeal.nD Cert.GAInRefIdeal.τ).loc Cert.GAInRefIdeal.main_arg2) = m ((c.tc : Thread Cert.GAInIdeal.nD Cert.GAInIdeal.τ).loc Cert.GAInIdeal.main_arg2)) →
    ∃ (v0 : (c : Dev Cert.GAInIdeal.nD) → Buf (Elt Ideal) ((c.tc : Thread Cert.GAInIdeal.nD Cert.GAInIdeal.τ).loc Cert.GAInIdeal.main_v1)),
      θ_run (Cert.GAInIdeal.defs (F := Ideal)) (onTc (τ := Cert.GAInIdeal.τ) (Cert.GAInIdeal.main (F := Ideal))) ⟨m, fun _ => 0, g⟩ (fun r => ∀ c : Dev Cert.GAInIdeal.nD,
          r.2.mem ((c.tc : Thread Cert.GAInIdeal.nD Cert.GAInIdeal.τ).loc Cert.GAInIdeal.main_v1) = v0 c
          ∧ r.2.mem ((c.tc : Thread Cert.GAInIdeal.nD Cert.GAInIdeal.τ).loc Cert.GAInIdeal.main_arg0) = m ((c.tc : Thread Cert.GAInIdeal.nD Cert.GAInIdeal.τ).loc Cert.GAInIdeal.main_arg0)
          ∧ r.2.mem ((c.tc : Thread Cert.GAInIdeal.nD Cert.GAInIdeal.τ).loc Cert.GAInIdeal.main_arg1) = m ((c.tc : Thread Cert.GAInIdeal.nD Cert.GAInIdeal.τ).loc Cert.GAInIdeal.main_arg1)
          ∧ r.2.mem ((c.tc : Thread Cert.GAInIdeal.nD Cert.GAInIdeal.τ).loc Cert.GAInIdeal.main_arg2) = m ((c.tc : Thread Cert.GAInIdeal.nD Cert.GAInIdeal.τ).loc Cert.GAInIdeal.main_arg2))
      ∧ θ_run (Cert.GAInRefIdeal.defs (F := Ideal)) (onTc (τ := Cert.GAInRefIdeal.τ) (Cert.GAInRefIdeal.main (F := Ideal))) ⟨m', fun _ => 0, g'⟩ (fun r => ∀ c : Dev Cert.GAInRefIdeal.nD,
          r.2.mem ((c.tc : Thread Cert.GAInRefIdeal.nD Cert.GAInRefIdeal.τ).loc Cert.GAInRefIdeal.main_v4) = v0 c
          ∧ r.2.mem ((c.tc : Thread Cert.GAInRefIdeal.nD Cert.GAInRefIdeal.τ).loc Cert.GAInRefIdeal.main_arg0) = m' ((c.tc : Thread Cert.GAInRefIdeal.nD Cert.GAInRefIdeal.τ).loc Cert.GAInRefIdeal.main_arg0)
          ∧ r.2.mem ((c.tc : Thread Cert.GAInRefIdeal.nD Cert.GAInRefIdeal.τ).loc Cert.GAInRefIdeal.main_arg1) = m' ((c.tc : Thread Cert.GAInRefIdeal.nD Cert.GAInRefIdeal.τ).loc Cert.GAInRefIdeal.main_arg1)
          ∧ r.2.mem ((c.tc : Thread Cert.GAInRefIdeal.nD Cert.GAInRefIdeal.τ).loc Cert.GAInRefIdeal.main_arg2) = m' ((c.tc : Thread Cert.GAInRefIdeal.nD Cert.GAInRefIdeal.τ).loc Cert.GAInRefIdeal.main_arg2))

def preserves_DOut_DOutIdeal : Prop :=
  True

def algebraic_DOutIdeal_DOutRefIdeal [hDOutIdeal : Cert.DOutIdeal.Facts] [hDOutRefIdeal : Cert.DOutRefIdeal.Facts] : Prop :=
  ∀ (m : (ℓ : Loc Cert.DOutIdeal.nD Cert.DOutIdeal.τ Cert.DOutIdeal.sig) → Buf (Elt Ideal) ℓ) (g : Dev Cert.DOutIdeal.nD → PrngReg)
    (m' : (ℓ : Loc Cert.DOutRefIdeal.nD Cert.DOutRefIdeal.τ Cert.DOutRefIdeal.sig) → Buf (Elt Ideal) ℓ) (g' : Dev Cert.DOutRefIdeal.nD → PrngReg), Pre_DOutIdeal m →
    (∀ c : Dev Cert.DOutIdeal.nD,
      m' ((c.tc : Thread Cert.DOutRefIdeal.nD Cert.DOutRefIdeal.τ).loc Cert.DOutRefIdeal.main_arg0) = m ((c.tc : Thread Cert.DOutIdeal.nD Cert.DOutIdeal.τ).loc Cert.DOutIdeal.main_arg0)
      ∧ m' ((c.tc : Thread Cert.DOutRefIdeal.nD Cert.DOutRefIdeal.τ).loc Cert.DOutRefIdeal.main_arg1) = m ((c.tc : Thread Cert.DOutIdeal.nD Cert.DOutIdeal.τ).loc Cert.DOutIdeal.main_arg1)
      ∧ m' ((c.tc : Thread Cert.DOutRefIdeal.nD Cert.DOutRefIdeal.τ).loc Cert.DOutRefIdeal.main_arg2) = m ((c.tc : Thread Cert.DOutIdeal.nD Cert.DOutIdeal.τ).loc Cert.DOutIdeal.main_arg2)) →
    ∃ (v0 : (c : Dev Cert.DOutIdeal.nD) → Buf (Elt Ideal) ((c.tc : Thread Cert.DOutIdeal.nD Cert.DOutIdeal.τ).loc Cert.DOutIdeal.main_v3)),
      θ_run (Cert.DOutIdeal.defs (F := Ideal)) (onTc (τ := Cert.DOutIdeal.τ) (Cert.DOutIdeal.main (F := Ideal))) ⟨m, fun _ => 0, g⟩ (fun r => ∀ c : Dev Cert.DOutIdeal.nD,
          r.2.mem ((c.tc : Thread Cert.DOutIdeal.nD Cert.DOutIdeal.τ).loc Cert.DOutIdeal.main_v3) = v0 c
          ∧ r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
          ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1)
          ∧ r.2.mem ((c.tc : Thread Cert.DOutIdeal.nD Cert.DOutIdeal.τ).loc Cert.DOutIdeal.main_arg2) = m ((c.tc : Thread Cert.DOutIdeal.nD Cert.DOutIdeal.τ).loc Cert.DOutIdeal.main_arg2))
      ∧ θ_run (Cert.DOutRefIdeal.defs (F := Ideal)) (onTc (τ := Cert.DOutRefIdeal.τ) (Cert.DOutRefIdeal.main (F := Ideal))) ⟨m', fun _ => 0, g'⟩ (fun r => ∀ c : Dev Cert.DOutRefIdeal.nD,
          r.2.mem ((c.tc : Thread Cert.DOutRefIdeal.nD Cert.DOutRefIdeal.τ).loc Cert.DOutRefIdeal.main_v1) = v0 c
          ∧ r.2.mem ((c.tc : Thread Cert.DOutRefIdeal.nD Cert.DOutRefIdeal.τ).loc Cert.DOutRefIdeal.main_arg0) = m' ((c.tc : Thread Cert.DOutRefIdeal.nD Cert.DOutRefIdeal.τ).loc Cert.DOutRefIdeal.main_arg0)
          ∧ r.2.mem ((c.tc : Thread Cert.DOutRefIdeal.nD Cert.DOutRefIdeal.τ).loc Cert.DOutRefIdeal.main_arg1) = m' ((c.tc : Thread Cert.DOutRefIdeal.nD Cert.DOutRefIdeal.τ).loc Cert.DOutRefIdeal.main_arg1)
          ∧ r.2.mem ((c.tc : Thread Cert.DOutRefIdeal.nD Cert.DOutRefIdeal.τ).loc Cert.DOutRefIdeal.main_arg2) = m' ((c.tc : Thread Cert.DOutRefIdeal.nD Cert.DOutRefIdeal.τ).loc Cert.DOutRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v2) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_DQkv_DQkvIdeal : Prop :=
  True

def algebraic_DQkvIdeal_DQkvRefIdeal [hDQkvIdeal : Cert.DQkvIdeal.Facts] [hDQkvRefIdeal : Cert.DQkvRefIdeal.Facts] : Prop :=
  ∀ (m : (ℓ : Loc Cert.DQkvIdeal.nD Cert.DQkvIdeal.τ Cert.DQkvIdeal.sig) → Buf (Elt Ideal) ℓ) (g : Dev Cert.DQkvIdeal.nD → PrngReg)
    (m' : (ℓ : Loc Cert.DQkvRefIdeal.nD Cert.DQkvRefIdeal.τ Cert.DQkvRefIdeal.sig) → Buf (Elt Ideal) ℓ) (g' : Dev Cert.DQkvRefIdeal.nD → PrngReg), Pre_DQkvIdeal m →
    (∀ c : Dev Cert.DQkvIdeal.nD,
      m' ((c.tc : Thread Cert.DQkvRefIdeal.nD Cert.DQkvRefIdeal.τ).loc Cert.DQkvRefIdeal.main_arg0) = m ((c.tc : Thread Cert.DQkvIdeal.nD Cert.DQkvIdeal.τ).loc Cert.DQkvIdeal.main_arg0)
      ∧ m' ((c.tc : Thread Cert.DQkvRefIdeal.nD Cert.DQkvRefIdeal.τ).loc Cert.DQkvRefIdeal.main_arg1) = m ((c.tc : Thread Cert.DQkvIdeal.nD Cert.DQkvIdeal.τ).loc Cert.DQkvIdeal.main_arg1)
      ∧ m' ((c.tc : Thread Cert.DQkvRefIdeal.nD Cert.DQkvRefIdeal.τ).loc Cert.DQkvRefIdeal.main_arg2) = m ((c.tc : Thread Cert.DQkvIdeal.nD Cert.DQkvIdeal.τ).loc Cert.DQkvIdeal.main_arg2)) →
    ∃ (v0 : (c : Dev Cert.DQkvIdeal.nD) → Buf (Elt Ideal) ((c.tc : Thread Cert.DQkvIdeal.nD Cert.DQkvIdeal.τ).loc Cert.DQkvIdeal.main_v3)),
      θ_run (Cert.DQkvIdeal.defs (F := Ideal)) (onTc (τ := Cert.DQkvIdeal.τ) (Cert.DQkvIdeal.main (F := Ideal))) ⟨m, fun _ => 0, g⟩ (fun r => ∀ c : Dev Cert.DQkvIdeal.nD,
          r.2.mem ((c.tc : Thread Cert.DQkvIdeal.nD Cert.DQkvIdeal.τ).loc Cert.DQkvIdeal.main_v3) = v0 c
          ∧ r.2.mem ((c.tc : Thread Cert.DQkvIdeal.nD Cert.DQkvIdeal.τ).loc Cert.DQkvIdeal.main_arg0) = m ((c.tc : Thread Cert.DQkvIdeal.nD Cert.DQkvIdeal.τ).loc Cert.DQkvIdeal.main_arg0)
          ∧ r.2.mem ((c.tc : Thread Cert.DQkvIdeal.nD Cert.DQkvIdeal.τ).loc Cert.DQkvIdeal.main_arg1) = m ((c.tc : Thread Cert.DQkvIdeal.nD Cert.DQkvIdeal.τ).loc Cert.DQkvIdeal.main_arg1)
          ∧ r.2.mem ((c.tc : Thread Cert.DQkvIdeal.nD Cert.DQkvIdeal.τ).loc Cert.DQkvIdeal.main_arg2) = m ((c.tc : Thread Cert.DQkvIdeal.nD Cert.DQkvIdeal.τ).loc Cert.DQkvIdeal.main_arg2))
      ∧ θ_run (Cert.DQkvRefIdeal.defs (F := Ideal)) (onTc (τ := Cert.DQkvRefIdeal.τ) (Cert.DQkvRefIdeal.main (F := Ideal))) ⟨m', fun _ => 0, g'⟩ (fun r => ∀ c : Dev Cert.DQkvRefIdeal.nD,
          r.2.mem ((c.tc : Thread Cert.DQkvRefIdeal.nD Cert.DQkvRefIdeal.τ).loc Cert.DQkvRefIdeal.main_v3) = v0 c
          ∧ r.2.mem ((c.tc : Thread Cert.DQkvRefIdeal.nD Cert.DQkvRefIdeal.τ).loc Cert.DQkvRefIdeal.main_arg0) = m' ((c.tc : Thread Cert.DQkvRefIdeal.nD Cert.DQkvRefIdeal.τ).loc Cert.DQkvRefIdeal.main_arg0)
          ∧ r.2.mem ((c.tc : Thread Cert.DQkvRefIdeal.nD Cert.DQkvRefIdeal.τ).loc Cert.DQkvRefIdeal.main_arg1) = m' ((c.tc : Thread Cert.DQkvRefIdeal.nD Cert.DQkvRefIdeal.τ).loc Cert.DQkvRefIdeal.main_arg1)
          ∧ r.2.mem ((c.tc : Thread Cert.DQkvRefIdeal.nD Cert.DQkvRefIdeal.τ).loc Cert.DQkvRefIdeal.main_arg2) = m' ((c.tc : Thread Cert.DQkvRefIdeal.nD Cert.DQkvRefIdeal.τ).loc Cert.DQkvRefIdeal.main_arg2))

def preserves_Qkv0_Qkv0Ideal : Prop :=
  True

def algebraic_Qkv0Ideal_Qkv0RefIdeal [hQkv0Ideal : Cert.Qkv0Ideal.Facts] [hQkv0RefIdeal : Cert.Qkv0RefIdeal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg)
    (m' : (ℓ : Loc Cert.Qkv0RefIdeal.nD Cert.Qkv0RefIdeal.τ Cert.Qkv0RefIdeal.sig) → Buf (Elt Ideal) ℓ) (g' : Dev Cert.Qkv0RefIdeal.nD → PrngReg), Pre_Qkv0Ideal m →
    (∀ c : Dev Cert.Qkv0Ideal.nD,
      m' ((c.tc : Thread Cert.Qkv0RefIdeal.nD Cert.Qkv0RefIdeal.τ).loc Cert.Qkv0RefIdeal.main_arg0) = m ((c.tc : Thread Cert.Qkv0Ideal.nD Cert.Qkv0Ideal.τ).loc Cert.Qkv0Ideal.main_arg0)
      ∧ m' ((c.tc : Thread Cert.Qkv0RefIdeal.nD Cert.Qkv0RefIdeal.τ).loc Cert.Qkv0RefIdeal.main_arg1) = m ((c.tc : Thread Cert.Qkv0Ideal.nD Cert.Qkv0Ideal.τ).loc Cert.Qkv0Ideal.main_arg1)) →
    ∃ (v0 : (c : Dev Cert.Qkv0Ideal.nD) → Buf (Elt Ideal) ((c.tc : Thread Cert.Qkv0Ideal.nD Cert.Qkv0Ideal.τ).loc Cert.Qkv0Ideal.main_v4)),
      θ_run (Cert.Qkv0Ideal.defs (F := Ideal)) (onTc (τ := Cert.Qkv0Ideal.τ) (Cert.Qkv0Ideal.main (F := Ideal))) ⟨m, fun _ => 0, g⟩ (fun r => ∀ c : Dev Cert.Qkv0Ideal.nD,
          r.2.mem ((c.tc : Thread Cert.Qkv0Ideal.nD Cert.Qkv0Ideal.τ).loc Cert.Qkv0Ideal.main_v4) = v0 c
          ∧ r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
          ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1))
      ∧ θ_run (Cert.Qkv0RefIdeal.defs (F := Ideal)) (onTc (τ := Cert.Qkv0RefIdeal.τ) (Cert.Qkv0RefIdeal.main (F := Ideal))) ⟨m', fun _ => 0, g'⟩ (fun r => ∀ c : Dev Cert.Qkv0RefIdeal.nD,
          r.2.mem ((c.tc : Thread Cert.Qkv0RefIdeal.nD Cert.Qkv0RefIdeal.τ).loc Cert.Qkv0RefIdeal.main_v2) = v0 c
          ∧ r.2.mem ((c.tc : Thread Cert.Qkv0RefIdeal.nD Cert.Qkv0RefIdeal.τ).loc Cert.Qkv0RefIdeal.main_arg0) = m' ((c.tc : Thread Cert.Qkv0RefIdeal.nD Cert.Qkv0RefIdeal.τ).loc Cert.Qkv0RefIdeal.main_arg0)
          ∧ r.2.mem ((c.tc : Thread Cert.Qkv0RefIdeal.nD Cert.Qkv0RefIdeal.τ).loc Cert.Qkv0RefIdeal.main_arg1) = m' ((c.tc : Thread Cert.Qkv0RefIdeal.nD Cert.Qkv0RefIdeal.τ).loc Cert.Qkv0RefIdeal.main_arg1))

def preserves_DQkv0_DQkv0Ideal : Prop :=
  True

def algebraic_DQkv0Ideal_DQkv0RefIdeal [hDQkv0Ideal : Cert.DQkv0Ideal.Facts] [hDQkv0RefIdeal : Cert.DQkv0RefIdeal.Facts] : Prop :=
  ∀ (m : (ℓ : Loc Cert.DQkv0Ideal.nD Cert.DQkv0Ideal.τ Cert.DQkv0Ideal.sig) → Buf (Elt Ideal) ℓ) (g : Dev Cert.DQkv0Ideal.nD → PrngReg)
    (m' : (ℓ : Loc Cert.DQkv0RefIdeal.nD Cert.DQkv0RefIdeal.τ Cert.DQkv0RefIdeal.sig) → Buf (Elt Ideal) ℓ) (g' : Dev Cert.DQkv0RefIdeal.nD → PrngReg), Pre_DQkv0Ideal m →
    (∀ c : Dev Cert.DQkv0Ideal.nD,
      m' ((c.tc : Thread Cert.DQkv0RefIdeal.nD Cert.DQkv0RefIdeal.τ).loc Cert.DQkv0RefIdeal.main_arg0) = m ((c.tc : Thread Cert.DQkv0Ideal.nD Cert.DQkv0Ideal.τ).loc Cert.DQkv0Ideal.main_arg0)
      ∧ m' ((c.tc : Thread Cert.DQkv0RefIdeal.nD Cert.DQkv0RefIdeal.τ).loc Cert.DQkv0RefIdeal.main_arg1) = m ((c.tc : Thread Cert.DQkv0Ideal.nD Cert.DQkv0Ideal.τ).loc Cert.DQkv0Ideal.main_arg1)
      ∧ m' ((c.tc : Thread Cert.DQkv0RefIdeal.nD Cert.DQkv0RefIdeal.τ).loc Cert.DQkv0RefIdeal.main_arg2) = m ((c.tc : Thread Cert.DQkv0Ideal.nD Cert.DQkv0Ideal.τ).loc Cert.DQkv0Ideal.main_arg2)) →
    ∃ (v0 : (c : Dev Cert.DQkv0Ideal.nD) → Buf (Elt Ideal) ((c.tc : Thread Cert.DQkv0Ideal.nD Cert.DQkv0Ideal.τ).loc Cert.DQkv0Ideal.main_v3)),
      θ_run (Cert.DQkv0Ideal.defs (F := Ideal)) (onTc (τ := Cert.DQkv0Ideal.τ) (Cert.DQkv0Ideal.main (F := Ideal))) ⟨m, fun _ => 0, g⟩ (fun r => ∀ c : Dev Cert.DQkv0Ideal.nD,
          r.2.mem ((c.tc : Thread Cert.DQkv0Ideal.nD Cert.DQkv0Ideal.τ).loc Cert.DQkv0Ideal.main_v3) = v0 c
          ∧ r.2.mem ((c.tc : Thread Cert.DQkv0Ideal.nD Cert.DQkv0Ideal.τ).loc Cert.DQkv0Ideal.main_arg0) = m ((c.tc : Thread Cert.DQkv0Ideal.nD Cert.DQkv0Ideal.τ).loc Cert.DQkv0Ideal.main_arg0)
          ∧ r.2.mem ((c.tc : Thread Cert.DQkv0Ideal.nD Cert.DQkv0Ideal.τ).loc Cert.DQkv0Ideal.main_arg1) = m ((c.tc : Thread Cert.DQkv0Ideal.nD Cert.DQkv0Ideal.τ).loc Cert.DQkv0Ideal.main_arg1)
          ∧ r.2.mem ((c.tc : Thread Cert.DQkv0Ideal.nD Cert.DQkv0Ideal.τ).loc Cert.DQkv0Ideal.main_arg2) = m ((c.tc : Thread Cert.DQkv0Ideal.nD Cert.DQkv0Ideal.τ).loc Cert.DQkv0Ideal.main_arg2))
      ∧ θ_run (Cert.DQkv0RefIdeal.defs (F := Ideal)) (onTc (τ := Cert.DQkv0RefIdeal.τ) (Cert.DQkv0RefIdeal.main (F := Ideal))) ⟨m', fun _ => 0, g'⟩ (fun r => ∀ c : Dev Cert.DQkv0RefIdeal.nD,
          r.2.mem ((c.tc : Thread Cert.DQkv0RefIdeal.nD Cert.DQkv0RefIdeal.τ).loc Cert.DQkv0RefIdeal.main_v3) = v0 c
          ∧ r.2.mem ((c.tc : Thread Cert.DQkv0RefIdeal.nD Cert.DQkv0RefIdeal.τ).loc Cert.DQkv0RefIdeal.main_arg0) = m' ((c.tc : Thread Cert.DQkv0RefIdeal.nD Cert.DQkv0RefIdeal.τ).loc Cert.DQkv0RefIdeal.main_arg0)
          ∧ r.2.mem ((c.tc : Thread Cert.DQkv0RefIdeal.nD Cert.DQkv0RefIdeal.τ).loc Cert.DQkv0RefIdeal.main_arg1) = m' ((c.tc : Thread Cert.DQkv0RefIdeal.nD Cert.DQkv0RefIdeal.τ).loc Cert.DQkv0RefIdeal.main_arg1)
          ∧ r.2.mem ((c.tc : Thread Cert.DQkv0RefIdeal.nD Cert.DQkv0RefIdeal.τ).loc Cert.DQkv0RefIdeal.main_arg2) = m' ((c.tc : Thread Cert.DQkv0RefIdeal.nD Cert.DQkv0RefIdeal.τ).loc Cert.DQkv0RefIdeal.main_arg2))

def preserves_Qkv1_Qkv1Ideal : Prop :=
  True

def algebraic_Qkv1Ideal_Qkv1RefIdeal [hQkv1Ideal : Cert.Qkv1Ideal.Facts] [hQkv1RefIdeal : Cert.Qkv1RefIdeal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg)
    (m' : (ℓ : Loc Cert.Qkv1RefIdeal.nD Cert.Qkv1RefIdeal.τ Cert.Qkv1RefIdeal.sig) → Buf (Elt Ideal) ℓ) (g' : Dev Cert.Qkv1RefIdeal.nD → PrngReg), Pre_Qkv1Ideal m →
    (∀ c : Dev Cert.Qkv1Ideal.nD,
      m' ((c.tc : Thread Cert.Qkv1RefIdeal.nD Cert.Qkv1RefIdeal.τ).loc Cert.Qkv1RefIdeal.main_arg0) = m ((c.tc : Thread Cert.Qkv1Ideal.nD Cert.Qkv1Ideal.τ).loc Cert.Qkv1Ideal.main_arg0)
      ∧ m' ((c.tc : Thread Cert.Qkv1RefIdeal.nD Cert.Qkv1RefIdeal.τ).loc Cert.Qkv1RefIdeal.main_arg1) = m ((c.tc : Thread Cert.Qkv1Ideal.nD Cert.Qkv1Ideal.τ).loc Cert.Qkv1Ideal.main_arg1)) →
    ∃ (v0 : (c : Dev Cert.Qkv1Ideal.nD) → Buf (Elt Ideal) ((c.tc : Thread Cert.Qkv1Ideal.nD Cert.Qkv1Ideal.τ).loc Cert.Qkv1Ideal.main_v4)),
      θ_run (Cert.Qkv1Ideal.defs (F := Ideal)) (onTc (τ := Cert.Qkv1Ideal.τ) (Cert.Qkv1Ideal.main (F := Ideal))) ⟨m, fun _ => 0, g⟩ (fun r => ∀ c : Dev Cert.Qkv1Ideal.nD,
          r.2.mem ((c.tc : Thread Cert.Qkv1Ideal.nD Cert.Qkv1Ideal.τ).loc Cert.Qkv1Ideal.main_v4) = v0 c
          ∧ r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
          ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1))
      ∧ θ_run (Cert.Qkv1RefIdeal.defs (F := Ideal)) (onTc (τ := Cert.Qkv1RefIdeal.τ) (Cert.Qkv1RefIdeal.main (F := Ideal))) ⟨m', fun _ => 0, g'⟩ (fun r => ∀ c : Dev Cert.Qkv1RefIdeal.nD,
          r.2.mem ((c.tc : Thread Cert.Qkv1RefIdeal.nD Cert.Qkv1RefIdeal.τ).loc Cert.Qkv1RefIdeal.main_v2) = v0 c
          ∧ r.2.mem ((c.tc : Thread Cert.Qkv1RefIdeal.nD Cert.Qkv1RefIdeal.τ).loc Cert.Qkv1RefIdeal.main_arg0) = m' ((c.tc : Thread Cert.Qkv1RefIdeal.nD Cert.Qkv1RefIdeal.τ).loc Cert.Qkv1RefIdeal.main_arg0)
          ∧ r.2.mem ((c.tc : Thread Cert.Qkv1RefIdeal.nD Cert.Qkv1RefIdeal.τ).loc Cert.Qkv1RefIdeal.main_arg1) = m' ((c.tc : Thread Cert.Qkv1RefIdeal.nD Cert.Qkv1RefIdeal.τ).loc Cert.Qkv1RefIdeal.main_arg1))

def preserves_DQkv1_DQkv1Ideal : Prop :=
  True

def algebraic_DQkv1Ideal_DQkv1RefIdeal [hDQkv1Ideal : Cert.DQkv1Ideal.Facts] [hDQkv1RefIdeal : Cert.DQkv1RefIdeal.Facts] : Prop :=
  ∀ (m : (ℓ : Loc Cert.DQkv1Ideal.nD Cert.DQkv1Ideal.τ Cert.DQkv1Ideal.sig) → Buf (Elt Ideal) ℓ) (g : Dev Cert.DQkv1Ideal.nD → PrngReg)
    (m' : (ℓ : Loc Cert.DQkv1RefIdeal.nD Cert.DQkv1RefIdeal.τ Cert.DQkv1RefIdeal.sig) → Buf (Elt Ideal) ℓ) (g' : Dev Cert.DQkv1RefIdeal.nD → PrngReg), Pre_DQkv1Ideal m →
    (∀ c : Dev Cert.DQkv1Ideal.nD,
      m' ((c.tc : Thread Cert.DQkv1RefIdeal.nD Cert.DQkv1RefIdeal.τ).loc Cert.DQkv1RefIdeal.main_arg0) = m ((c.tc : Thread Cert.DQkv1Ideal.nD Cert.DQkv1Ideal.τ).loc Cert.DQkv1Ideal.main_arg0)
      ∧ m' ((c.tc : Thread Cert.DQkv1RefIdeal.nD Cert.DQkv1RefIdeal.τ).loc Cert.DQkv1RefIdeal.main_arg1) = m ((c.tc : Thread Cert.DQkv1Ideal.nD Cert.DQkv1Ideal.τ).loc Cert.DQkv1Ideal.main_arg1)
      ∧ m' ((c.tc : Thread Cert.DQkv1RefIdeal.nD Cert.DQkv1RefIdeal.τ).loc Cert.DQkv1RefIdeal.main_arg2) = m ((c.tc : Thread Cert.DQkv1Ideal.nD Cert.DQkv1Ideal.τ).loc Cert.DQkv1Ideal.main_arg2)) →
    ∃ (v0 : (c : Dev Cert.DQkv1Ideal.nD) → Buf (Elt Ideal) ((c.tc : Thread Cert.DQkv1Ideal.nD Cert.DQkv1Ideal.τ).loc Cert.DQkv1Ideal.main_v3)),
      θ_run (Cert.DQkv1Ideal.defs (F := Ideal)) (onTc (τ := Cert.DQkv1Ideal.τ) (Cert.DQkv1Ideal.main (F := Ideal))) ⟨m, fun _ => 0, g⟩ (fun r => ∀ c : Dev Cert.DQkv1Ideal.nD,
          r.2.mem ((c.tc : Thread Cert.DQkv1Ideal.nD Cert.DQkv1Ideal.τ).loc Cert.DQkv1Ideal.main_v3) = v0 c
          ∧ r.2.mem ((c.tc : Thread Cert.DQkv1Ideal.nD Cert.DQkv1Ideal.τ).loc Cert.DQkv1Ideal.main_arg0) = m ((c.tc : Thread Cert.DQkv1Ideal.nD Cert.DQkv1Ideal.τ).loc Cert.DQkv1Ideal.main_arg0)
          ∧ r.2.mem ((c.tc : Thread Cert.DQkv1Ideal.nD Cert.DQkv1Ideal.τ).loc Cert.DQkv1Ideal.main_arg1) = m ((c.tc : Thread Cert.DQkv1Ideal.nD Cert.DQkv1Ideal.τ).loc Cert.DQkv1Ideal.main_arg1)
          ∧ r.2.mem ((c.tc : Thread Cert.DQkv1Ideal.nD Cert.DQkv1Ideal.τ).loc Cert.DQkv1Ideal.main_arg2) = m ((c.tc : Thread Cert.DQkv1Ideal.nD Cert.DQkv1Ideal.τ).loc Cert.DQkv1Ideal.main_arg2))
      ∧ θ_run (Cert.DQkv1RefIdeal.defs (F := Ideal)) (onTc (τ := Cert.DQkv1RefIdeal.τ) (Cert.DQkv1RefIdeal.main (F := Ideal))) ⟨m', fun _ => 0, g'⟩ (fun r => ∀ c : Dev Cert.DQkv1RefIdeal.nD,
          r.2.mem ((c.tc : Thread Cert.DQkv1RefIdeal.nD Cert.DQkv1RefIdeal.τ).loc Cert.DQkv1RefIdeal.main_v3) = v0 c
          ∧ r.2.mem ((c.tc : Thread Cert.DQkv1RefIdeal.nD Cert.DQkv1RefIdeal.τ).loc Cert.DQkv1RefIdeal.main_arg0) = m' ((c.tc : Thread Cert.DQkv1RefIdeal.nD Cert.DQkv1RefIdeal.τ).loc Cert.DQkv1RefIdeal.main_arg0)
          ∧ r.2.mem ((c.tc : Thread Cert.DQkv1RefIdeal.nD Cert.DQkv1RefIdeal.τ).loc Cert.DQkv1RefIdeal.main_arg1) = m' ((c.tc : Thread Cert.DQkv1RefIdeal.nD Cert.DQkv1RefIdeal.τ).loc Cert.DQkv1RefIdeal.main_arg1)
          ∧ r.2.mem ((c.tc : Thread Cert.DQkv1RefIdeal.nD Cert.DQkv1RefIdeal.τ).loc Cert.DQkv1RefIdeal.main_arg2) = m' ((c.tc : Thread Cert.DQkv1RefIdeal.nD Cert.DQkv1RefIdeal.τ).loc Cert.DQkv1RefIdeal.main_arg2))

def preserves_GQkv1_GQkv1Ideal : Prop :=
  True

def algebraic_GQkv1Ideal_GQkv1RefIdeal [hGQkv1Ideal : Cert.GQkv1Ideal.Facts] [hGQkv1RefIdeal : Cert.GQkv1RefIdeal.Facts] : Prop :=
  ∀ (m : (ℓ : Loc Cert.GQkv1Ideal.nD Cert.GQkv1Ideal.τ Cert.GQkv1Ideal.sig) → Buf (Elt Ideal) ℓ) (g : Dev Cert.GQkv1Ideal.nD → PrngReg)
    (m' : (ℓ : Loc Cert.GQkv1RefIdeal.nD Cert.GQkv1RefIdeal.τ Cert.GQkv1RefIdeal.sig) → Buf (Elt Ideal) ℓ) (g' : Dev Cert.GQkv1RefIdeal.nD → PrngReg), Pre_GQkv1Ideal m →
    (∀ c : Dev Cert.GQkv1Ideal.nD,
      m' ((c.tc : Thread Cert.GQkv1RefIdeal.nD Cert.GQkv1RefIdeal.τ).loc Cert.GQkv1RefIdeal.main_arg0) = m ((c.tc : Thread Cert.GQkv1Ideal.nD Cert.GQkv1Ideal.τ).loc Cert.GQkv1Ideal.main_arg0)
      ∧ m' ((c.tc : Thread Cert.GQkv1RefIdeal.nD Cert.GQkv1RefIdeal.τ).loc Cert.GQkv1RefIdeal.main_arg1) = m ((c.tc : Thread Cert.GQkv1Ideal.nD Cert.GQkv1Ideal.τ).loc Cert.GQkv1Ideal.main_arg1)
      ∧ m' ((c.tc : Thread Cert.GQkv1RefIdeal.nD Cert.GQkv1RefIdeal.τ).loc Cert.GQkv1RefIdeal.main_arg2) = m ((c.tc : Thread Cert.GQkv1Ideal.nD Cert.GQkv1Ideal.τ).loc Cert.GQkv1Ideal.main_arg2)
      ∧ m' ((c.tc : Thread Cert.GQkv1RefIdeal.nD Cert.GQkv1RefIdeal.τ).loc Cert.GQkv1RefIdeal.main_arg3) = m ((c.tc : Thread Cert.GQkv1Ideal.nD Cert.GQkv1Ideal.τ).loc Cert.GQkv1Ideal.main_arg3)) →
    ∃ (v0 : (c : Dev Cert.GQkv1Ideal.nD) → Buf (Elt Ideal) ((c.tc : Thread Cert.GQkv1Ideal.nD Cert.GQkv1Ideal.τ).loc Cert.GQkv1Ideal.main_v1)),
      θ_run (Cert.GQkv1Ideal.defs (F := Ideal)) (onTc (τ := Cert.GQkv1Ideal.τ) (Cert.GQkv1Ideal.main (F := Ideal))) ⟨m, fun _ => 0, g⟩ (fun r => ∀ c : Dev Cert.GQkv1Ideal.nD,
          r.2.mem ((c.tc : Thread Cert.GQkv1Ideal.nD Cert.GQkv1Ideal.τ).loc Cert.GQkv1Ideal.main_v1) = v0 c
          ∧ r.2.mem ((c.tc : Thread Cert.GQkv1Ideal.nD Cert.GQkv1Ideal.τ).loc Cert.GQkv1Ideal.main_arg0) = m ((c.tc : Thread Cert.GQkv1Ideal.nD Cert.GQkv1Ideal.τ).loc Cert.GQkv1Ideal.main_arg0)
          ∧ r.2.mem ((c.tc : Thread Cert.GQkv1Ideal.nD Cert.GQkv1Ideal.τ).loc Cert.GQkv1Ideal.main_arg1) = m ((c.tc : Thread Cert.GQkv1Ideal.nD Cert.GQkv1Ideal.τ).loc Cert.GQkv1Ideal.main_arg1)
          ∧ r.2.mem ((c.tc : Thread Cert.GQkv1Ideal.nD Cert.GQkv1Ideal.τ).loc Cert.GQkv1Ideal.main_arg2) = m ((c.tc : Thread Cert.GQkv1Ideal.nD Cert.GQkv1Ideal.τ).loc Cert.GQkv1Ideal.main_arg2)
          ∧ r.2.mem ((c.tc : Thread Cert.GQkv1Ideal.nD Cert.GQkv1Ideal.τ).loc Cert.GQkv1Ideal.main_arg3) = m ((c.tc : Thread Cert.GQkv1Ideal.nD Cert.GQkv1Ideal.τ).loc Cert.GQkv1Ideal.main_arg3))
      ∧ θ_run (Cert.GQkv1RefIdeal.defs (F := Ideal)) (onTc (τ := Cert.GQkv1RefIdeal.τ) (Cert.GQkv1RefIdeal.main (F := Ideal))) ⟨m', fun _ => 0, g'⟩ (fun r => ∀ c : Dev Cert.GQkv1RefIdeal.nD,
          r.2.mem ((c.tc : Thread Cert.GQkv1RefIdeal.nD Cert.GQkv1RefIdeal.τ).loc Cert.GQkv1RefIdeal.main_v8) = v0 c
          ∧ r.2.mem ((c.tc : Thread Cert.GQkv1RefIdeal.nD Cert.GQkv1RefIdeal.τ).loc Cert.GQkv1RefIdeal.main_arg0) = m' ((c.tc : Thread Cert.GQkv1RefIdeal.nD Cert.GQkv1RefIdeal.τ).loc Cert.GQkv1RefIdeal.main_arg0)
          ∧ r.2.mem ((c.tc : Thread Cert.GQkv1RefIdeal.nD Cert.GQkv1RefIdeal.τ).loc Cert.GQkv1RefIdeal.main_arg1) = m' ((c.tc : Thread Cert.GQkv1RefIdeal.nD Cert.GQkv1RefIdeal.τ).loc Cert.GQkv1RefIdeal.main_arg1)
          ∧ r.2.mem ((c.tc : Thread Cert.GQkv1RefIdeal.nD Cert.GQkv1RefIdeal.τ).loc Cert.GQkv1RefIdeal.main_arg2) = m' ((c.tc : Thread Cert.GQkv1RefIdeal.nD Cert.GQkv1RefIdeal.τ).loc Cert.GQkv1RefIdeal.main_arg2)
          ∧ r.2.mem ((c.tc : Thread Cert.GQkv1RefIdeal.nD Cert.GQkv1RefIdeal.τ).loc Cert.GQkv1RefIdeal.main_arg3) = m' ((c.tc : Thread Cert.GQkv1RefIdeal.nD Cert.GQkv1RefIdeal.τ).loc Cert.GQkv1RefIdeal.main_arg3))

def preserves_GQkv2_GQkv2Ideal : Prop :=
  True

def algebraic_GQkv2Ideal_GQkv2RefIdeal [hGQkv2Ideal : Cert.GQkv2Ideal.Facts] [hGQkv2RefIdeal : Cert.GQkv2RefIdeal.Facts] : Prop :=
  ∀ (m : (ℓ : Loc Cert.GQkv2Ideal.nD Cert.GQkv2Ideal.τ Cert.GQkv2Ideal.sig) → Buf (Elt Ideal) ℓ) (g : Dev Cert.GQkv2Ideal.nD → PrngReg)
    (m' : (ℓ : Loc Cert.GQkv2RefIdeal.nD Cert.GQkv2RefIdeal.τ Cert.GQkv2RefIdeal.sig) → Buf (Elt Ideal) ℓ) (g' : Dev Cert.GQkv2RefIdeal.nD → PrngReg), Pre_GQkv2Ideal m →
    (∀ c : Dev Cert.GQkv2Ideal.nD,
      m' ((c.tc : Thread Cert.GQkv2RefIdeal.nD Cert.GQkv2RefIdeal.τ).loc Cert.GQkv2RefIdeal.main_arg0) = m ((c.tc : Thread Cert.GQkv2Ideal.nD Cert.GQkv2Ideal.τ).loc Cert.GQkv2Ideal.main_arg0)
      ∧ m' ((c.tc : Thread Cert.GQkv2RefIdeal.nD Cert.GQkv2RefIdeal.τ).loc Cert.GQkv2RefIdeal.main_arg1) = m ((c.tc : Thread Cert.GQkv2Ideal.nD Cert.GQkv2Ideal.τ).loc Cert.GQkv2Ideal.main_arg1)
      ∧ m' ((c.tc : Thread Cert.GQkv2RefIdeal.nD Cert.GQkv2RefIdeal.τ).loc Cert.GQkv2RefIdeal.main_arg2) = m ((c.tc : Thread Cert.GQkv2Ideal.nD Cert.GQkv2Ideal.τ).loc Cert.GQkv2Ideal.main_arg2)
      ∧ m' ((c.tc : Thread Cert.GQkv2RefIdeal.nD Cert.GQkv2RefIdeal.τ).loc Cert.GQkv2RefIdeal.main_arg3) = m ((c.tc : Thread Cert.GQkv2Ideal.nD Cert.GQkv2Ideal.τ).loc Cert.GQkv2Ideal.main_arg3)) →
    ∃ (v0 : (c : Dev Cert.GQkv2Ideal.nD) → Buf (Elt Ideal) ((c.tc : Thread Cert.GQkv2Ideal.nD Cert.GQkv2Ideal.τ).loc Cert.GQkv2Ideal.main_v1)),
      θ_run (Cert.GQkv2Ideal.defs (F := Ideal)) (onTc (τ := Cert.GQkv2Ideal.τ) (Cert.GQkv2Ideal.main (F := Ideal))) ⟨m, fun _ => 0, g⟩ (fun r => ∀ c : Dev Cert.GQkv2Ideal.nD,
          r.2.mem ((c.tc : Thread Cert.GQkv2Ideal.nD Cert.GQkv2Ideal.τ).loc Cert.GQkv2Ideal.main_v1) = v0 c
          ∧ r.2.mem ((c.tc : Thread Cert.GQkv2Ideal.nD Cert.GQkv2Ideal.τ).loc Cert.GQkv2Ideal.main_arg0) = m ((c.tc : Thread Cert.GQkv2Ideal.nD Cert.GQkv2Ideal.τ).loc Cert.GQkv2Ideal.main_arg0)
          ∧ r.2.mem ((c.tc : Thread Cert.GQkv2Ideal.nD Cert.GQkv2Ideal.τ).loc Cert.GQkv2Ideal.main_arg1) = m ((c.tc : Thread Cert.GQkv2Ideal.nD Cert.GQkv2Ideal.τ).loc Cert.GQkv2Ideal.main_arg1)
          ∧ r.2.mem ((c.tc : Thread Cert.GQkv2Ideal.nD Cert.GQkv2Ideal.τ).loc Cert.GQkv2Ideal.main_arg2) = m ((c.tc : Thread Cert.GQkv2Ideal.nD Cert.GQkv2Ideal.τ).loc Cert.GQkv2Ideal.main_arg2)
          ∧ r.2.mem ((c.tc : Thread Cert.GQkv2Ideal.nD Cert.GQkv2Ideal.τ).loc Cert.GQkv2Ideal.main_arg3) = m ((c.tc : Thread Cert.GQkv2Ideal.nD Cert.GQkv2Ideal.τ).loc Cert.GQkv2Ideal.main_arg3))
      ∧ θ_run (Cert.GQkv2RefIdeal.defs (F := Ideal)) (onTc (τ := Cert.GQkv2RefIdeal.τ) (Cert.GQkv2RefIdeal.main (F := Ideal))) ⟨m', fun _ => 0, g'⟩ (fun r => ∀ c : Dev Cert.GQkv2RefIdeal.nD,
          r.2.mem ((c.tc : Thread Cert.GQkv2RefIdeal.nD Cert.GQkv2RefIdeal.τ).loc Cert.GQkv2RefIdeal.main_v8) = v0 c
          ∧ r.2.mem ((c.tc : Thread Cert.GQkv2RefIdeal.nD Cert.GQkv2RefIdeal.τ).loc Cert.GQkv2RefIdeal.main_arg0) = m' ((c.tc : Thread Cert.GQkv2RefIdeal.nD Cert.GQkv2RefIdeal.τ).loc Cert.GQkv2RefIdeal.main_arg0)
          ∧ r.2.mem ((c.tc : Thread Cert.GQkv2RefIdeal.nD Cert.GQkv2RefIdeal.τ).loc Cert.GQkv2RefIdeal.main_arg1) = m' ((c.tc : Thread Cert.GQkv2RefIdeal.nD Cert.GQkv2RefIdeal.τ).loc Cert.GQkv2RefIdeal.main_arg1)
          ∧ r.2.mem ((c.tc : Thread Cert.GQkv2RefIdeal.nD Cert.GQkv2RefIdeal.τ).loc Cert.GQkv2RefIdeal.main_arg2) = m' ((c.tc : Thread Cert.GQkv2RefIdeal.nD Cert.GQkv2RefIdeal.τ).loc Cert.GQkv2RefIdeal.main_arg2)
          ∧ r.2.mem ((c.tc : Thread Cert.GQkv2RefIdeal.nD Cert.GQkv2RefIdeal.τ).loc Cert.GQkv2RefIdeal.main_arg3) = m' ((c.tc : Thread Cert.GQkv2RefIdeal.nD Cert.GQkv2RefIdeal.τ).loc Cert.GQkv2RefIdeal.main_arg3))

def preserves_GAOut_GAOutIdeal : Prop :=
  True

def algebraic_GAOutIdeal_GAOutRefIdeal [hGAOutIdeal : Cert.GAOutIdeal.Facts] [hGAOutRefIdeal : Cert.GAOutRefIdeal.Facts] : Prop :=
  ∀ (m : (ℓ : Loc Cert.GAOutIdeal.nD Cert.GAOutIdeal.τ Cert.GAOutIdeal.sig) → Buf (Elt Ideal) ℓ) (g : Dev Cert.GAOutIdeal.nD → PrngReg)
    (m' : (ℓ : Loc Cert.GAOutRefIdeal.nD Cert.GAOutRefIdeal.τ Cert.GAOutRefIdeal.sig) → Buf (Elt Ideal) ℓ) (g' : Dev Cert.GAOutRefIdeal.nD → PrngReg), Pre_GAOutIdeal m →
    (∀ c : Dev Cert.GAOutIdeal.nD,
      m' ((c.tc : Thread Cert.GAOutRefIdeal.nD Cert.GAOutRefIdeal.τ).loc Cert.GAOutRefIdeal.main_arg0) = m ((c.tc : Thread Cert.GAOutIdeal.nD Cert.GAOutIdeal.τ).loc Cert.GAOutIdeal.main_arg0)
      ∧ m' ((c.tc : Thread Cert.GAOutRefIdeal.nD Cert.GAOutRefIdeal.τ).loc Cert.GAOutRefIdeal.main_arg1) = m ((c.tc : Thread Cert.GAOutIdeal.nD Cert.GAOutIdeal.τ).loc Cert.GAOutIdeal.main_arg1)
      ∧ m' ((c.tc : Thread Cert.GAOutRefIdeal.nD Cert.GAOutRefIdeal.τ).loc Cert.GAOutRefIdeal.main_arg2) = m ((c.tc : Thread Cert.GAOutIdeal.nD Cert.GAOutIdeal.τ).loc Cert.GAOutIdeal.main_arg2)) →
    ∃ (v0 : (c : Dev Cert.GAOutIdeal.nD) → Buf (Elt Ideal) ((c.tc : Thread Cert.GAOutIdeal.nD Cert.GAOutIdeal.τ).loc Cert.GAOutIdeal.main_v2)),
      θ_run (Cert.GAOutIdeal.defs (F := Ideal)) (onTc (τ := Cert.GAOutIdeal.τ) (Cert.GAOutIdeal.main (F := Ideal))) ⟨m, fun _ => 0, g⟩ (fun r => ∀ c : Dev Cert.GAOutIdeal.nD,
          r.2.mem ((c.tc : Thread Cert.GAOutIdeal.nD Cert.GAOutIdeal.τ).loc Cert.GAOutIdeal.main_v2) = v0 c
          ∧ r.2.mem ((c.tc : Thread Cert.GAOutIdeal.nD Cert.GAOutIdeal.τ).loc Cert.GAOutIdeal.main_arg0) = m ((c.tc : Thread Cert.GAOutIdeal.nD Cert.GAOutIdeal.τ).loc Cert.GAOutIdeal.main_arg0)
          ∧ r.2.mem ((c.tc : Thread Cert.GAOutIdeal.nD Cert.GAOutIdeal.τ).loc Cert.GAOutIdeal.main_arg1) = m ((c.tc : Thread Cert.GAOutIdeal.nD Cert.GAOutIdeal.τ).loc Cert.GAOutIdeal.main_arg1)
          ∧ r.2.mem ((c.tc : Thread Cert.GAOutIdeal.nD Cert.GAOutIdeal.τ).loc Cert.GAOutIdeal.main_arg2) = m ((c.tc : Thread Cert.GAOutIdeal.nD Cert.GAOutIdeal.τ).loc Cert.GAOutIdeal.main_arg2))
      ∧ θ_run (Cert.GAOutRefIdeal.defs (F := Ideal)) (onTc (τ := Cert.GAOutRefIdeal.τ) (Cert.GAOutRefIdeal.main (F := Ideal))) ⟨m', fun _ => 0, g'⟩ (fun r => ∀ c : Dev Cert.GAOutRefIdeal.nD,
          r.2.mem ((c.tc : Thread Cert.GAOutRefIdeal.nD Cert.GAOutRefIdeal.τ).loc Cert.GAOutRefIdeal.main_v3) = v0 c
          ∧ r.2.mem ((c.tc : Thread Cert.GAOutRefIdeal.nD Cert.GAOutRefIdeal.τ).loc Cert.GAOutRefIdeal.main_arg0) = m' ((c.tc : Thread Cert.GAOutRefIdeal.nD Cert.GAOutRefIdeal.τ).loc Cert.GAOutRefIdeal.main_arg0)
          ∧ r.2.mem ((c.tc : Thread Cert.GAOutRefIdeal.nD Cert.GAOutRefIdeal.τ).loc Cert.GAOutRefIdeal.main_arg1) = m' ((c.tc : Thread Cert.GAOutRefIdeal.nD Cert.GAOutRefIdeal.τ).loc Cert.GAOutRefIdeal.main_arg1)
          ∧ r.2.mem ((c.tc : Thread Cert.GAOutRefIdeal.nD Cert.GAOutRefIdeal.τ).loc Cert.GAOutRefIdeal.main_arg2) = m' ((c.tc : Thread Cert.GAOutRefIdeal.nD Cert.GAOutRefIdeal.τ).loc Cert.GAOutRefIdeal.main_arg2))

def preserves_GBOut_GBOutIdeal : Prop :=
  True

def algebraic_GBOutIdeal_GBOutRefIdeal [hGBOutIdeal : Cert.GBOutIdeal.Facts] [hGBOutRefIdeal : Cert.GBOutRefIdeal.Facts] : Prop :=
  ∀ (m : (ℓ : Loc Cert.GBOutIdeal.nD Cert.GBOutIdeal.τ Cert.GBOutIdeal.sig) → Buf (Elt Ideal) ℓ) (g : Dev Cert.GBOutIdeal.nD → PrngReg)
    (m' : (ℓ : Loc Cert.GBOutRefIdeal.nD Cert.GBOutRefIdeal.τ Cert.GBOutRefIdeal.sig) → Buf (Elt Ideal) ℓ) (g' : Dev Cert.GBOutRefIdeal.nD → PrngReg), Pre_GBOutIdeal m →
    (∀ c : Dev Cert.GBOutIdeal.nD,
      m' ((c.tc : Thread Cert.GBOutRefIdeal.nD Cert.GBOutRefIdeal.τ).loc Cert.GBOutRefIdeal.main_arg0) = m ((c.tc : Thread Cert.GBOutIdeal.nD Cert.GBOutIdeal.τ).loc Cert.GBOutIdeal.main_arg0)
      ∧ m' ((c.tc : Thread Cert.GBOutRefIdeal.nD Cert.GBOutRefIdeal.τ).loc Cert.GBOutRefIdeal.main_arg1) = m ((c.tc : Thread Cert.GBOutIdeal.nD Cert.GBOutIdeal.τ).loc Cert.GBOutIdeal.main_arg1)
      ∧ m' ((c.tc : Thread Cert.GBOutRefIdeal.nD Cert.GBOutRefIdeal.τ).loc Cert.GBOutRefIdeal.main_arg2) = m ((c.tc : Thread Cert.GBOutIdeal.nD Cert.GBOutIdeal.τ).loc Cert.GBOutIdeal.main_arg2)) →
    ∃ (v0 : (c : Dev Cert.GBOutIdeal.nD) → Buf (Elt Ideal) ((c.tc : Thread Cert.GBOutIdeal.nD Cert.GBOutIdeal.τ).loc Cert.GBOutIdeal.main_v1)),
      θ_run (Cert.GBOutIdeal.defs (F := Ideal)) (onTc (τ := Cert.GBOutIdeal.τ) (Cert.GBOutIdeal.main (F := Ideal))) ⟨m, fun _ => 0, g⟩ (fun r => ∀ c : Dev Cert.GBOutIdeal.nD,
          r.2.mem ((c.tc : Thread Cert.GBOutIdeal.nD Cert.GBOutIdeal.τ).loc Cert.GBOutIdeal.main_v1) = v0 c
          ∧ r.2.mem ((c.tc : Thread Cert.GBOutIdeal.nD Cert.GBOutIdeal.τ).loc Cert.GBOutIdeal.main_arg0) = m ((c.tc : Thread Cert.GBOutIdeal.nD Cert.GBOutIdeal.τ).loc Cert.GBOutIdeal.main_arg0)
          ∧ r.2.mem ((c.tc : Thread Cert.GBOutIdeal.nD Cert.GBOutIdeal.τ).loc Cert.GBOutIdeal.main_arg1) = m ((c.tc : Thread Cert.GBOutIdeal.nD Cert.GBOutIdeal.τ).loc Cert.GBOutIdeal.main_arg1)
          ∧ r.2.mem ((c.tc : Thread Cert.GBOutIdeal.nD Cert.GBOutIdeal.τ).loc Cert.GBOutIdeal.main_arg2) = m ((c.tc : Thread Cert.GBOutIdeal.nD Cert.GBOutIdeal.τ).loc Cert.GBOutIdeal.main_arg2))
      ∧ θ_run (Cert.GBOutRefIdeal.defs (F := Ideal)) (onTc (τ := Cert.GBOutRefIdeal.τ) (Cert.GBOutRefIdeal.main (F := Ideal))) ⟨m', fun _ => 0, g'⟩ (fun r => ∀ c : Dev Cert.GBOutRefIdeal.nD,
          r.2.mem ((c.tc : Thread Cert.GBOutRefIdeal.nD Cert.GBOutRefIdeal.τ).loc Cert.GBOutRefIdeal.main_v3) = v0 c
          ∧ r.2.mem ((c.tc : Thread Cert.GBOutRefIdeal.nD Cert.GBOutRefIdeal.τ).loc Cert.GBOutRefIdeal.main_arg0) = m' ((c.tc : Thread Cert.GBOutRefIdeal.nD Cert.GBOutRefIdeal.τ).loc Cert.GBOutRefIdeal.main_arg0)
          ∧ r.2.mem ((c.tc : Thread Cert.GBOutRefIdeal.nD Cert.GBOutRefIdeal.τ).loc Cert.GBOutRefIdeal.main_arg1) = m' ((c.tc : Thread Cert.GBOutRefIdeal.nD Cert.GBOutRefIdeal.τ).loc Cert.GBOutRefIdeal.main_arg1)
          ∧ r.2.mem ((c.tc : Thread Cert.GBOutRefIdeal.nD Cert.GBOutRefIdeal.τ).loc Cert.GBOutRefIdeal.main_arg2) = m' ((c.tc : Thread Cert.GBOutRefIdeal.nD Cert.GBOutRefIdeal.τ).loc Cert.GBOutRefIdeal.main_arg2))

def preserves_AOut_AOutIdeal : Prop :=
  True

def algebraic_AOutIdeal_AOutRefIdeal [hAOutIdeal : Cert.AOutIdeal.Facts] [hAOutRefIdeal : Cert.AOutRefIdeal.Facts] : Prop :=
  ∀ (m : (ℓ : Loc Cert.AOutIdeal.nD Cert.AOutIdeal.τ Cert.AOutIdeal.sig) → Buf (Elt Ideal) ℓ) (g : Dev Cert.AOutIdeal.nD → PrngReg)
    (m' : (ℓ : Loc Cert.AOutRefIdeal.nD Cert.AOutRefIdeal.τ Cert.AOutRefIdeal.sig) → Buf (Elt Ideal) ℓ) (g' : Dev Cert.AOutRefIdeal.nD → PrngReg), Pre_AOutIdeal m →
    (∀ c : Dev Cert.AOutIdeal.nD,
      m' ((c.tc : Thread Cert.AOutRefIdeal.nD Cert.AOutRefIdeal.τ).loc Cert.AOutRefIdeal.main_arg0) = m ((c.tc : Thread Cert.AOutIdeal.nD Cert.AOutIdeal.τ).loc Cert.AOutIdeal.main_arg0)
      ∧ m' ((c.tc : Thread Cert.AOutRefIdeal.nD Cert.AOutRefIdeal.τ).loc Cert.AOutRefIdeal.main_arg1) = m ((c.tc : Thread Cert.AOutIdeal.nD Cert.AOutIdeal.τ).loc Cert.AOutIdeal.main_arg1)
      ∧ m' ((c.tc : Thread Cert.AOutRefIdeal.nD Cert.AOutRefIdeal.τ).loc Cert.AOutRefIdeal.main_arg2) = m ((c.tc : Thread Cert.AOutIdeal.nD Cert.AOutIdeal.τ).loc Cert.AOutIdeal.main_arg2)
      ∧ m' ((c.tc : Thread Cert.AOutRefIdeal.nD Cert.AOutRefIdeal.τ).loc Cert.AOutRefIdeal.main_arg3) = m ((c.tc : Thread Cert.AOutIdeal.nD Cert.AOutIdeal.τ).loc Cert.AOutIdeal.main_arg3)
      ∧ m' ((c.tc : Thread Cert.AOutRefIdeal.nD Cert.AOutRefIdeal.τ).loc Cert.AOutRefIdeal.main_arg4) = m ((c.tc : Thread Cert.AOutIdeal.nD Cert.AOutIdeal.τ).loc Cert.AOutIdeal.main_arg4)
      ∧ m' ((c.tc : Thread Cert.AOutRefIdeal.nD Cert.AOutRefIdeal.τ).loc Cert.AOutRefIdeal.main_arg5) = m ((c.tc : Thread Cert.AOutIdeal.nD Cert.AOutIdeal.τ).loc Cert.AOutIdeal.main_arg5)
      ∧ m' ((c.tc : Thread Cert.AOutRefIdeal.nD Cert.AOutRefIdeal.τ).loc Cert.AOutRefIdeal.main_arg6) = m ((c.tc : Thread Cert.AOutIdeal.nD Cert.AOutIdeal.τ).loc Cert.AOutIdeal.main_arg6)
      ∧ m' ((c.tc : Thread Cert.AOutRefIdeal.nD Cert.AOutRefIdeal.τ).loc Cert.AOutRefIdeal.main_arg7) = m ((c.tc : Thread Cert.AOutIdeal.nD Cert.AOutIdeal.τ).loc Cert.AOutIdeal.main_arg7)) →
    ∃ (v0 : (c : Dev Cert.AOutIdeal.nD) → Buf (Elt Ideal) ((c.tc : Thread Cert.AOutIdeal.nD Cert.AOutIdeal.τ).loc Cert.AOutIdeal.main_v3_0)) (v1 : (c : Dev Cert.AOutIdeal.nD) → Buf (Elt Ideal) ((c.tc : Thread Cert.AOutIdeal.nD Cert.AOutIdeal.τ).loc Cert.AOutIdeal.main_v3_1)) (v2 : (c : Dev Cert.AOutIdeal.nD) → Buf (Elt Ideal) ((c.tc : Thread Cert.AOutIdeal.nD Cert.AOutIdeal.τ).loc Cert.AOutIdeal.main_v3_2)),
      θ_run (Cert.AOutIdeal.defs (F := Ideal)) (onTc (τ := Cert.AOutIdeal.τ) (Cert.AOutIdeal.main (F := Ideal))) ⟨m, fun _ => 0, g⟩ (fun r => ∀ c : Dev Cert.AOutIdeal.nD,
          r.2.mem ((c.tc : Thread Cert.AOutIdeal.nD Cert.AOutIdeal.τ).loc Cert.AOutIdeal.main_v3_0) = v0 c
          ∧ r.2.mem ((c.tc : Thread Cert.AOutIdeal.nD Cert.AOutIdeal.τ).loc Cert.AOutIdeal.main_v3_1) = v1 c
          ∧ r.2.mem ((c.tc : Thread Cert.AOutIdeal.nD Cert.AOutIdeal.τ).loc Cert.AOutIdeal.main_v3_2) = v2 c
          ∧ r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
          ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
          ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2)
          ∧ r.2.mem ((c.tc : Thread Cert.AOutIdeal.nD Cert.AOutIdeal.τ).loc Cert.AOutIdeal.main_arg3) = m ((c.tc : Thread Cert.AOutIdeal.nD Cert.AOutIdeal.τ).loc Cert.AOutIdeal.main_arg3)
          ∧ r.2.mem ((c.tc : Thread Cert.AOutIdeal.nD Cert.AOutIdeal.τ).loc Cert.AOutIdeal.main_arg4) = m ((c.tc : Thread Cert.AOutIdeal.nD Cert.AOutIdeal.τ).loc Cert.AOutIdeal.main_arg4)
          ∧ r.2.mem ((c.tc : Thread Cert.AOutIdeal.nD Cert.AOutIdeal.τ).loc Cert.AOutIdeal.main_arg5) = m ((c.tc : Thread Cert.AOutIdeal.nD Cert.AOutIdeal.τ).loc Cert.AOutIdeal.main_arg5)
          ∧ r.2.mem ((c.tc : Thread Cert.AOutIdeal.nD Cert.AOutIdeal.τ).loc Cert.AOutIdeal.main_arg6) = m ((c.tc : Thread Cert.AOutIdeal.nD Cert.AOutIdeal.τ).loc Cert.AOutIdeal.main_arg6)
          ∧ r.2.mem ((c.tc : Thread Cert.AOutIdeal.nD Cert.AOutIdeal.τ).loc Cert.AOutIdeal.main_arg7) = m ((c.tc : Thread Cert.AOutIdeal.nD Cert.AOutIdeal.τ).loc Cert.AOutIdeal.main_arg7))
      ∧ θ_run (Cert.AOutRefIdeal.defs (F := Ideal)) (onTc (τ := Cert.AOutRefIdeal.τ) (Cert.AOutRefIdeal.main (F := Ideal))) ⟨m', fun _ => 0, g'⟩ (fun r => ∀ c : Dev Cert.AOutRefIdeal.nD,
          r.2.mem ((c.tc : Thread Cert.AOutRefIdeal.nD Cert.AOutRefIdeal.τ).loc Cert.AOutRefIdeal.main_v0) = v0 c
          ∧ r.2.mem ((c.tc : Thread Cert.AOutRefIdeal.nD Cert.AOutRefIdeal.τ).loc Cert.AOutRefIdeal.main_v27) = v1 c
          ∧ r.2.mem ((c.tc : Thread Cert.AOutRefIdeal.nD Cert.AOutRefIdeal.τ).loc Cert.AOutRefIdeal.main_v34) = v2 c
          ∧ r.2.mem ((c.tc : Thread Cert.AOutRefIdeal.nD Cert.AOutRefIdeal.τ).loc Cert.AOutRefIdeal.main_arg0) = m' ((c.tc : Thread Cert.AOutRefIdeal.nD Cert.AOutRefIdeal.τ).loc Cert.AOutRefIdeal.main_arg0)
          ∧ r.2.mem ((c.tc : Thread Cert.AOutRefIdeal.nD Cert.AOutRefIdeal.τ).loc Cert.AOutRefIdeal.main_arg1) = m' ((c.tc : Thread Cert.AOutRefIdeal.nD Cert.AOutRefIdeal.τ).loc Cert.AOutRefIdeal.main_arg1)
          ∧ r.2.mem ((c.tc : Thread Cert.AOutRefIdeal.nD Cert.AOutRefIdeal.τ).loc Cert.AOutRefIdeal.main_arg2) = m' ((c.tc : Thread Cert.AOutRefIdeal.nD Cert.AOutRefIdeal.τ).loc Cert.AOutRefIdeal.main_arg2)
          ∧ r.2.mem ((c.tc : Thread Cert.AOutRefIdeal.nD Cert.AOutRefIdeal.τ).loc Cert.AOutRefIdeal.main_arg3) = m' ((c.tc : Thread Cert.AOutRefIdeal.nD Cert.AOutRefIdeal.τ).loc Cert.AOutRefIdeal.main_arg3)
          ∧ r.2.mem ((c.tc : Thread Cert.AOutRefIdeal.nD Cert.AOutRefIdeal.τ).loc Cert.AOutRefIdeal.main_arg4) = m' ((c.tc : Thread Cert.AOutRefIdeal.nD Cert.AOutRefIdeal.τ).loc Cert.AOutRefIdeal.main_arg4)
          ∧ r.2.mem ((c.tc : Thread Cert.AOutRefIdeal.nD Cert.AOutRefIdeal.τ).loc Cert.AOutRefIdeal.main_arg5) = m' ((c.tc : Thread Cert.AOutRefIdeal.nD Cert.AOutRefIdeal.τ).loc Cert.AOutRefIdeal.main_arg5)
          ∧ r.2.mem ((c.tc : Thread Cert.AOutRefIdeal.nD Cert.AOutRefIdeal.τ).loc Cert.AOutRefIdeal.main_arg6) = m' ((c.tc : Thread Cert.AOutRefIdeal.nD Cert.AOutRefIdeal.τ).loc Cert.AOutRefIdeal.main_arg6)
          ∧ r.2.mem ((c.tc : Thread Cert.AOutRefIdeal.nD Cert.AOutRefIdeal.τ).loc Cert.AOutRefIdeal.main_arg7) = m' ((c.tc : Thread Cert.AOutRefIdeal.nD Cert.AOutRefIdeal.τ).loc Cert.AOutRefIdeal.main_arg7))

def preserves_BOut_BOutIdeal : Prop :=
  True

def algebraic_BOutIdeal_BOutRefIdeal [hBOutIdeal : Cert.BOutIdeal.Facts] [hBOutRefIdeal : Cert.BOutRefIdeal.Facts] : Prop :=
  ∀ (m : (ℓ : Loc Cert.BOutIdeal.nD Cert.BOutIdeal.τ Cert.BOutIdeal.sig) → Buf (Elt Ideal) ℓ) (g : Dev Cert.BOutIdeal.nD → PrngReg)
    (m' : (ℓ : Loc Cert.BOutRefIdeal.nD Cert.BOutRefIdeal.τ Cert.BOutRefIdeal.sig) → Buf (Elt Ideal) ℓ) (g' : Dev Cert.BOutRefIdeal.nD → PrngReg), Pre_BOutIdeal m →
    (∀ c : Dev Cert.BOutIdeal.nD,
      m' ((c.tc : Thread Cert.BOutRefIdeal.nD Cert.BOutRefIdeal.τ).loc Cert.BOutRefIdeal.main_arg0) = m ((c.tc : Thread Cert.BOutIdeal.nD Cert.BOutIdeal.τ).loc Cert.BOutIdeal.main_arg0)
      ∧ m' ((c.tc : Thread Cert.BOutRefIdeal.nD Cert.BOutRefIdeal.τ).loc Cert.BOutRefIdeal.main_arg1) = m ((c.tc : Thread Cert.BOutIdeal.nD Cert.BOutIdeal.τ).loc Cert.BOutIdeal.main_arg1)
      ∧ m' ((c.tc : Thread Cert.BOutRefIdeal.nD Cert.BOutRefIdeal.τ).loc Cert.BOutRefIdeal.main_arg2) = m ((c.tc : Thread Cert.BOutIdeal.nD Cert.BOutIdeal.τ).loc Cert.BOutIdeal.main_arg2)
      ∧ m' ((c.tc : Thread Cert.BOutRefIdeal.nD Cert.BOutRefIdeal.τ).loc Cert.BOutRefIdeal.main_arg3) = m ((c.tc : Thread Cert.BOutIdeal.nD Cert.BOutIdeal.τ).loc Cert.BOutIdeal.main_arg3)
      ∧ m' ((c.tc : Thread Cert.BOutRefIdeal.nD Cert.BOutRefIdeal.τ).loc Cert.BOutRefIdeal.main_arg4) = m ((c.tc : Thread Cert.BOutIdeal.nD Cert.BOutIdeal.τ).loc Cert.BOutIdeal.main_arg4)
      ∧ m' ((c.tc : Thread Cert.BOutRefIdeal.nD Cert.BOutRefIdeal.τ).loc Cert.BOutRefIdeal.main_arg5) = m ((c.tc : Thread Cert.BOutIdeal.nD Cert.BOutIdeal.τ).loc Cert.BOutIdeal.main_arg5)
      ∧ m' ((c.tc : Thread Cert.BOutRefIdeal.nD Cert.BOutRefIdeal.τ).loc Cert.BOutRefIdeal.main_arg6) = m ((c.tc : Thread Cert.BOutIdeal.nD Cert.BOutIdeal.τ).loc Cert.BOutIdeal.main_arg6)
      ∧ m' ((c.tc : Thread Cert.BOutRefIdeal.nD Cert.BOutRefIdeal.τ).loc Cert.BOutRefIdeal.main_arg7) = m ((c.tc : Thread Cert.BOutIdeal.nD Cert.BOutIdeal.τ).loc Cert.BOutIdeal.main_arg7)) →
    ∃ (v0 : (c : Dev Cert.BOutIdeal.nD) → Buf (Elt Ideal) ((c.tc : Thread Cert.BOutIdeal.nD Cert.BOutIdeal.τ).loc Cert.BOutIdeal.main_v2_0)) (v1 : (c : Dev Cert.BOutIdeal.nD) → Buf (Elt Ideal) ((c.tc : Thread Cert.BOutIdeal.nD Cert.BOutIdeal.τ).loc Cert.BOutIdeal.main_v2_1)) (v2 : (c : Dev Cert.BOutIdeal.nD) → Buf (Elt Ideal) ((c.tc : Thread Cert.BOutIdeal.nD Cert.BOutIdeal.τ).loc Cert.BOutIdeal.main_v2_2)),
      θ_run (Cert.BOutIdeal.defs (F := Ideal)) (onTc (τ := Cert.BOutIdeal.τ) (Cert.BOutIdeal.main (F := Ideal))) ⟨m, fun _ => 0, g⟩ (fun r => ∀ c : Dev Cert.BOutIdeal.nD,
          r.2.mem ((c.tc : Thread Cert.BOutIdeal.nD Cert.BOutIdeal.τ).loc Cert.BOutIdeal.main_v2_0) = v0 c
          ∧ r.2.mem ((c.tc : Thread Cert.BOutIdeal.nD Cert.BOutIdeal.τ).loc Cert.BOutIdeal.main_v2_1) = v1 c
          ∧ r.2.mem ((c.tc : Thread Cert.BOutIdeal.nD Cert.BOutIdeal.τ).loc Cert.BOutIdeal.main_v2_2) = v2 c
          ∧ r.2.mem ((c.tc : Thread Cert.BOutIdeal.nD Cert.BOutIdeal.τ).loc Cert.BOutIdeal.main_arg0) = m ((c.tc : Thread Cert.BOutIdeal.nD Cert.BOutIdeal.τ).loc Cert.BOutIdeal.main_arg0)
          ∧ r.2.mem ((c.tc : Thread Cert.BOutIdeal.nD Cert.BOutIdeal.τ).loc Cert.BOutIdeal.main_arg1) = m ((c.tc : Thread Cert.BOutIdeal.nD Cert.BOutIdeal.τ).loc Cert.BOutIdeal.main_arg1)
          ∧ r.2.mem ((c.tc : Thread Cert.BOutIdeal.nD Cert.BOutIdeal.τ).loc Cert.BOutIdeal.main_arg2) = m ((c.tc : Thread Cert.BOutIdeal.nD Cert.BOutIdeal.τ).loc Cert.BOutIdeal.main_arg2)
          ∧ r.2.mem ((c.tc : Thread Cert.BOutIdeal.nD Cert.BOutIdeal.τ).loc Cert.BOutIdeal.main_arg3) = m ((c.tc : Thread Cert.BOutIdeal.nD Cert.BOutIdeal.τ).loc Cert.BOutIdeal.main_arg3)
          ∧ r.2.mem ((c.tc : Thread Cert.BOutIdeal.nD Cert.BOutIdeal.τ).loc Cert.BOutIdeal.main_arg4) = m ((c.tc : Thread Cert.BOutIdeal.nD Cert.BOutIdeal.τ).loc Cert.BOutIdeal.main_arg4)
          ∧ r.2.mem ((c.tc : Thread Cert.BOutIdeal.nD Cert.BOutIdeal.τ).loc Cert.BOutIdeal.main_arg5) = m ((c.tc : Thread Cert.BOutIdeal.nD Cert.BOutIdeal.τ).loc Cert.BOutIdeal.main_arg5)
          ∧ r.2.mem ((c.tc : Thread Cert.BOutIdeal.nD Cert.BOutIdeal.τ).loc Cert.BOutIdeal.main_arg6) = m ((c.tc : Thread Cert.BOutIdeal.nD Cert.BOutIdeal.τ).loc Cert.BOutIdeal.main_arg6)
          ∧ r.2.mem ((c.tc : Thread Cert.BOutIdeal.nD Cert.BOutIdeal.τ).loc Cert.BOutIdeal.main_arg7) = m ((c.tc : Thread Cert.BOutIdeal.nD Cert.BOutIdeal.τ).loc Cert.BOutIdeal.main_arg7))
      ∧ θ_run (Cert.BOutRefIdeal.defs (F := Ideal)) (onTc (τ := Cert.BOutRefIdeal.τ) (Cert.BOutRefIdeal.main (F := Ideal))) ⟨m', fun _ => 0, g'⟩ (fun r => ∀ c : Dev Cert.BOutRefIdeal.nD,
          r.2.mem ((c.tc : Thread Cert.BOutRefIdeal.nD Cert.BOutRefIdeal.τ).loc Cert.BOutRefIdeal.main_v0) = v0 c
          ∧ r.2.mem ((c.tc : Thread Cert.BOutRefIdeal.nD Cert.BOutRefIdeal.τ).loc Cert.BOutRefIdeal.main_v27) = v1 c
          ∧ r.2.mem ((c.tc : Thread Cert.BOutRefIdeal.nD Cert.BOutRefIdeal.τ).loc Cert.BOutRefIdeal.main_v34) = v2 c
          ∧ r.2.mem ((c.tc : Thread Cert.BOutRefIdeal.nD Cert.BOutRefIdeal.τ).loc Cert.BOutRefIdeal.main_arg0) = m' ((c.tc : Thread Cert.BOutRefIdeal.nD Cert.BOutRefIdeal.τ).loc Cert.BOutRefIdeal.main_arg0)
          ∧ r.2.mem ((c.tc : Thread Cert.BOutRefIdeal.nD Cert.BOutRefIdeal.τ).loc Cert.BOutRefIdeal.main_arg1) = m' ((c.tc : Thread Cert.BOutRefIdeal.nD Cert.BOutRefIdeal.τ).loc Cert.BOutRefIdeal.main_arg1)
          ∧ r.2.mem ((c.tc : Thread Cert.BOutRefIdeal.nD Cert.BOutRefIdeal.τ).loc Cert.BOutRefIdeal.main_arg2) = m' ((c.tc : Thread Cert.BOutRefIdeal.nD Cert.BOutRefIdeal.τ).loc Cert.BOutRefIdeal.main_arg2)
          ∧ r.2.mem ((c.tc : Thread Cert.BOutRefIdeal.nD Cert.BOutRefIdeal.τ).loc Cert.BOutRefIdeal.main_arg3) = m' ((c.tc : Thread Cert.BOutRefIdeal.nD Cert.BOutRefIdeal.τ).loc Cert.BOutRefIdeal.main_arg3)
          ∧ r.2.mem ((c.tc : Thread Cert.BOutRefIdeal.nD Cert.BOutRefIdeal.τ).loc Cert.BOutRefIdeal.main_arg4) = m' ((c.tc : Thread Cert.BOutRefIdeal.nD Cert.BOutRefIdeal.τ).loc Cert.BOutRefIdeal.main_arg4)
          ∧ r.2.mem ((c.tc : Thread Cert.BOutRefIdeal.nD Cert.BOutRefIdeal.τ).loc Cert.BOutRefIdeal.main_arg5) = m' ((c.tc : Thread Cert.BOutRefIdeal.nD Cert.BOutRefIdeal.τ).loc Cert.BOutRefIdeal.main_arg5)
          ∧ r.2.mem ((c.tc : Thread Cert.BOutRefIdeal.nD Cert.BOutRefIdeal.τ).loc Cert.BOutRefIdeal.main_arg6) = m' ((c.tc : Thread Cert.BOutRefIdeal.nD Cert.BOutRefIdeal.τ).loc Cert.BOutRefIdeal.main_arg6)
          ∧ r.2.mem ((c.tc : Thread Cert.BOutRefIdeal.nD Cert.BOutRefIdeal.τ).loc Cert.BOutRefIdeal.main_arg7) = m' ((c.tc : Thread Cert.BOutRefIdeal.nD Cert.BOutRefIdeal.τ).loc Cert.BOutRefIdeal.main_arg7))

def preserves_Join_JoinIdeal : Prop :=
  True

def algebraic_JoinIdeal_JoinRefIdeal_pre_finite_join [hJoinIdeal : Cert.JoinIdeal.Facts] [hJoinRefIdeal : Cert.JoinRefIdeal.Facts] [hPre_finite_join : Cert.Pre_finite_join.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal_finite_join m →
    (∀ c : Dev Cert.JoinIdeal.nD,
      m' ((c.tc : Thread Cert.JoinRefIdeal.nD Cert.JoinRefIdeal.τ).loc Cert.JoinRefIdeal.main_arg0) = m ((c.tc : Thread Cert.JoinIdeal.nD Cert.JoinIdeal.τ).loc Cert.JoinIdeal.main_arg0)
      ∧ m' ((c.tc : Thread Cert.JoinRefIdeal.nD Cert.JoinRefIdeal.τ).loc Cert.JoinRefIdeal.main_arg1) = m ((c.tc : Thread Cert.JoinIdeal.nD Cert.JoinIdeal.τ).loc Cert.JoinIdeal.main_arg1)
      ∧ m' ((c.tc : Thread Cert.JoinRefIdeal.nD Cert.JoinRefIdeal.τ).loc Cert.JoinRefIdeal.main_arg2) = m ((c.tc : Thread Cert.JoinIdeal.nD Cert.JoinIdeal.τ).loc Cert.JoinIdeal.main_arg2)
      ∧ m' ((c.tc : Thread Cert.JoinRefIdeal.nD Cert.JoinRefIdeal.τ).loc Cert.JoinRefIdeal.main_arg3) = m ((c.tc : Thread Cert.JoinIdeal.nD Cert.JoinIdeal.τ).loc Cert.JoinIdeal.main_arg3)
      ∧ m' ((c.tc : Thread Cert.JoinRefIdeal.nD Cert.JoinRefIdeal.τ).loc Cert.JoinRefIdeal.main_arg4) = m ((c.tc : Thread Cert.JoinIdeal.nD Cert.JoinIdeal.τ).loc Cert.JoinIdeal.main_arg4)
      ∧ m' ((c.tc : Thread Cert.JoinRefIdeal.nD Cert.JoinRefIdeal.τ).loc Cert.JoinRefIdeal.main_arg5) = m ((c.tc : Thread Cert.JoinIdeal.nD Cert.JoinIdeal.τ).loc Cert.JoinIdeal.main_arg5)
      ∧ m' ((c.tc : Thread Cert.JoinRefIdeal.nD Cert.JoinRefIdeal.τ).loc Cert.JoinRefIdeal.main_arg6) = m ((c.tc : Thread Cert.JoinIdeal.nD Cert.JoinIdeal.τ).loc Cert.JoinIdeal.main_arg6)
      ∧ m' ((c.tc : Thread Cert.JoinRefIdeal.nD Cert.JoinRefIdeal.τ).loc Cert.JoinRefIdeal.main_arg7) = m ((c.tc : Thread Cert.JoinIdeal.nD Cert.JoinIdeal.τ).loc Cert.JoinIdeal.main_arg7)
      ∧ m' ((c.tc : Thread Cert.JoinRefIdeal.nD Cert.JoinRefIdeal.τ).loc Cert.JoinRefIdeal.main_arg8) = m ((c.tc : Thread Cert.JoinIdeal.nD Cert.JoinIdeal.τ).loc Cert.JoinIdeal.main_arg8)) →
    ∃ (v0 : (c : Dev Cert.JoinIdeal.nD) → Buf (Elt Ideal) ((c.tc : Thread Cert.JoinIdeal.nD Cert.JoinIdeal.τ).loc Cert.JoinIdeal.main_v27_0)) (v1 : (c : Dev Cert.JoinIdeal.nD) → Buf (Elt Ideal) ((c.tc : Thread Cert.JoinIdeal.nD Cert.JoinIdeal.τ).loc Cert.JoinIdeal.main_v27_1)) (v2 : (c : Dev Cert.JoinIdeal.nD) → Buf (Elt Ideal) ((c.tc : Thread Cert.JoinIdeal.nD Cert.JoinIdeal.τ).loc Cert.JoinIdeal.main_v27_2)) (v3 : (c : Dev Cert.JoinIdeal.nD) → Buf (Elt Ideal) ((c.tc : Thread Cert.JoinIdeal.nD Cert.JoinIdeal.τ).loc Cert.JoinIdeal.main_v27_3)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v27_0) = v0 c
          ∧ r.2.mem ((c.tc : Thread Cert.JoinIdeal.nD Cert.JoinIdeal.τ).loc Cert.JoinIdeal.main_v27_1) = v1 c
          ∧ r.2.mem ((c.tc : Thread Cert.JoinIdeal.nD Cert.JoinIdeal.τ).loc Cert.JoinIdeal.main_v27_2) = v2 c
          ∧ r.2.mem ((c.tc : Thread Cert.JoinIdeal.nD Cert.JoinIdeal.τ).loc Cert.JoinIdeal.main_v27_3) = v3 c
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
          ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
          ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
          ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
          ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
          ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
          ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8))
      ∧ θ_run (Cert.JoinRefIdeal.defs (F := Ideal)) (onTc (τ := Cert.JoinRefIdeal.τ) (Cert.JoinRefIdeal.main (F := Ideal))) ⟨m', fun _ => 0, g'⟩ (fun r => ∀ c : Dev Cert.JoinRefIdeal.nD,
          r.2.mem ((c.tc : Thread Cert.JoinRefIdeal.nD Cert.JoinRefIdeal.τ).loc Cert.JoinRefIdeal.main_v85) = v0 c
          ∧ r.2.mem ((c.tc : Thread Cert.JoinRefIdeal.nD Cert.JoinRefIdeal.τ).loc Cert.JoinRefIdeal.main_v87) = v1 c
          ∧ r.2.mem ((c.tc : Thread Cert.JoinRefIdeal.nD Cert.JoinRefIdeal.τ).loc Cert.JoinRefIdeal.main_v88) = v2 c
          ∧ r.2.mem ((c.tc : Thread Cert.JoinRefIdeal.nD Cert.JoinRefIdeal.τ).loc Cert.JoinRefIdeal.main_v90) = v3 c
          ∧ r.2.mem ((c.tc : Thread Cert.JoinRefIdeal.nD Cert.JoinRefIdeal.τ).loc Cert.JoinRefIdeal.main_arg0) = m' ((c.tc : Thread Cert.JoinRefIdeal.nD Cert.JoinRefIdeal.τ).loc Cert.JoinRefIdeal.main_arg0)
          ∧ r.2.mem ((c.tc : Thread Cert.JoinRefIdeal.nD Cert.JoinRefIdeal.τ).loc Cert.JoinRefIdeal.main_arg1) = m' ((c.tc : Thread Cert.JoinRefIdeal.nD Cert.JoinRefIdeal.τ).loc Cert.JoinRefIdeal.main_arg1)
          ∧ r.2.mem ((c.tc : Thread Cert.JoinRefIdeal.nD Cert.JoinRefIdeal.τ).loc Cert.JoinRefIdeal.main_arg2) = m' ((c.tc : Thread Cert.JoinRefIdeal.nD Cert.JoinRefIdeal.τ).loc Cert.JoinRefIdeal.main_arg2)
          ∧ r.2.mem ((c.tc : Thread Cert.JoinRefIdeal.nD Cert.JoinRefIdeal.τ).loc Cert.JoinRefIdeal.main_arg3) = m' ((c.tc : Thread Cert.JoinRefIdeal.nD Cert.JoinRefIdeal.τ).loc Cert.JoinRefIdeal.main_arg3)
          ∧ r.2.mem ((c.tc : Thread Cert.JoinRefIdeal.nD Cert.JoinRefIdeal.τ).loc Cert.JoinRefIdeal.main_arg4) = m' ((c.tc : Thread Cert.JoinRefIdeal.nD Cert.JoinRefIdeal.τ).loc Cert.JoinRefIdeal.main_arg4)
          ∧ r.2.mem ((c.tc : Thread Cert.JoinRefIdeal.nD Cert.JoinRefIdeal.τ).loc Cert.JoinRefIdeal.main_arg5) = m' ((c.tc : Thread Cert.JoinRefIdeal.nD Cert.JoinRefIdeal.τ).loc Cert.JoinRefIdeal.main_arg5)
          ∧ r.2.mem ((c.tc : Thread Cert.JoinRefIdeal.nD Cert.JoinRefIdeal.τ).loc Cert.JoinRefIdeal.main_arg6) = m' ((c.tc : Thread Cert.JoinRefIdeal.nD Cert.JoinRefIdeal.τ).loc Cert.JoinRefIdeal.main_arg6)
          ∧ r.2.mem ((c.tc : Thread Cert.JoinRefIdeal.nD Cert.JoinRefIdeal.τ).loc Cert.JoinRefIdeal.main_arg7) = m' ((c.tc : Thread Cert.JoinRefIdeal.nD Cert.JoinRefIdeal.τ).loc Cert.JoinRefIdeal.main_arg7)
          ∧ r.2.mem ((c.tc : Thread Cert.JoinRefIdeal.nD Cert.JoinRefIdeal.τ).loc Cert.JoinRefIdeal.main_arg8) = m' ((c.tc : Thread Cert.JoinRefIdeal.nD Cert.JoinRefIdeal.τ).loc Cert.JoinRefIdeal.main_arg8))

def Claim : Prop :=
  ∃ (hKernel : Cert.Kernel.Facts) (hKernelIdeal : Cert.KernelIdeal.Facts) (hReferenceIdeal : Cert.ReferenceIdeal.Facts) (hGDown : Cert.GDown.Facts) (hGDownIdeal : Cert.GDownIdeal.Facts) (hGDownRefIdeal : Cert.GDownRefIdeal.Facts) (hDDown : Cert.DDown.Facts) (hDDownIdeal : Cert.DDownIdeal.Facts) (hDDownRefIdeal : Cert.DDownRefIdeal.Facts) (hGUp : Cert.GUp.Facts) (hGUpIdeal : Cert.GUpIdeal.Facts) (hGUpRefIdeal : Cert.GUpRefIdeal.Facts) (hDUp : Cert.DUp.Facts) (hDUpIdeal : Cert.DUpIdeal.Facts) (hDUpRefIdeal : Cert.DUpRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hSpatial : Cert.Spatial.Facts) (hSpatialIdeal : Cert.SpatialIdeal.Facts) (hSpatialRefIdeal : Cert.SpatialRefIdeal.Facts) (hGated : Cert.Gated.Facts) (hGatedIdeal : Cert.GatedIdeal.Facts) (hGatedRefIdeal : Cert.GatedRefIdeal.Facts) (hAIn : Cert.AIn.Facts) (hAInIdeal : Cert.AInIdeal.Facts) (hAInRefIdeal : Cert.AInRefIdeal.Facts) (hDAIn : Cert.DAIn.Facts) (hDAInIdeal : Cert.DAInIdeal.Facts) (hDAInRefIdeal : Cert.DAInRefIdeal.Facts) (hGAIn : Cert.GAIn.Facts) (hGAInIdeal : Cert.GAInIdeal.Facts) (hGAInRefIdeal : Cert.GAInRefIdeal.Facts) (hDOut : Cert.DOut.Facts) (hDOutIdeal : Cert.DOutIdeal.Facts) (hDOutRefIdeal : Cert.DOutRefIdeal.Facts) (hQkv : Cert.Qkv.Facts) (hQkvIdeal : Cert.QkvIdeal.Facts) (hQkvRefIdeal : Cert.QkvRefIdeal.Facts) (hDQkv : Cert.DQkv.Facts) (hDQkvIdeal : Cert.DQkvIdeal.Facts) (hDQkvRefIdeal : Cert.DQkvRefIdeal.Facts) (hQkv0 : Cert.Qkv0.Facts) (hQkv0Ideal : Cert.Qkv0Ideal.Facts) (hQkv0RefIdeal : Cert.Qkv0RefIdeal.Facts) (hDQkv0 : Cert.DQkv0.Facts) (hDQkv0Ideal : Cert.DQkv0Ideal.Facts) (hDQkv0RefIdeal : Cert.DQkv0RefIdeal.Facts) (hQkv1 : Cert.Qkv1.Facts) (hQkv1Ideal : Cert.Qkv1Ideal.Facts) (hQkv1RefIdeal : Cert.Qkv1RefIdeal.Facts) (hDQkv1 : Cert.DQkv1.Facts) (hDQkv1Ideal : Cert.DQkv1Ideal.Facts) (hDQkv1RefIdeal : Cert.DQkv1RefIdeal.Facts) (hGQkv1 : Cert.GQkv1.Facts) (hGQkv1Ideal : Cert.GQkv1Ideal.Facts) (hGQkv1RefIdeal : Cert.GQkv1RefIdeal.Facts) (hGQkv2 : Cert.GQkv2.Facts) (hGQkv2Ideal : Cert.GQkv2Ideal.Facts) (hGQkv2RefIdeal : Cert.GQkv2RefIdeal.Facts) (hGAOut : Cert.GAOut.Facts) (hGAOutIdeal : Cert.GAOutIdeal.Facts) (hGAOutRefIdeal : Cert.GAOutRefIdeal.Facts) (hGBOut : Cert.GBOut.Facts) (hGBOutIdeal : Cert.GBOutIdeal.Facts) (hGBOutRefIdeal : Cert.GBOutRefIdeal.Facts) (hAOut : Cert.AOut.Facts) (hAOutIdeal : Cert.AOutIdeal.Facts) (hAOutRefIdeal : Cert.AOutRefIdeal.Facts) (hBOut : Cert.BOut.Facts) (hBOutIdeal : Cert.BOutIdeal.Facts) (hBOutRefIdeal : Cert.BOutRefIdeal.Facts) (hJoin : Cert.Join.Facts) (hJoinIdeal : Cert.JoinIdeal.Facts) (hJoinRefIdeal : Cert.JoinRefIdeal.Facts) (hPre_finite : Cert.Pre_finite.Facts) (hPre_finite_join : Cert.Pre_finite_join.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GDown (hGDown := hGDown)
    ∧ quiescent_GDownIdeal (hGDownIdeal := hGDownIdeal)
    ∧ quiescent_GDownRefIdeal (hGDownRefIdeal := hGDownRefIdeal)
    ∧ quiescent_DDown (hDDown := hDDown)
    ∧ quiescent_DDownIdeal (hDDownIdeal := hDDownIdeal)
    ∧ quiescent_DDownRefIdeal (hDDownRefIdeal := hDDownRefIdeal)
    ∧ quiescent_GUp (hGUp := hGUp)
    ∧ quiescent_GUpIdeal (hGUpIdeal := hGUpIdeal)
    ∧ quiescent_GUpRefIdeal (hGUpRefIdeal := hGUpRefIdeal)
    ∧ quiescent_DUp (hDUp := hDUp)
    ∧ quiescent_DUpIdeal (hDUpIdeal := hDUpIdeal)
    ∧ quiescent_DUpRefIdeal (hDUpRefIdeal := hDUpRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Spatial (hSpatial := hSpatial)
    ∧ quiescent_SpatialIdeal (hSpatialIdeal := hSpatialIdeal)
    ∧ quiescent_SpatialRefIdeal (hSpatialRefIdeal := hSpatialRefIdeal)
    ∧ quiescent_Gated (hGated := hGated)
    ∧ quiescent_GatedIdeal (hGatedIdeal := hGatedIdeal)
    ∧ quiescent_GatedRefIdeal (hGatedRefIdeal := hGatedRefIdeal)
    ∧ quiescent_AIn (hAIn := hAIn)
    ∧ quiescent_AInIdeal (hAInIdeal := hAInIdeal)
    ∧ quiescent_AInRefIdeal (hAInRefIdeal := hAInRefIdeal)
    ∧ quiescent_DAIn (hDAIn := hDAIn)
    ∧ quiescent_DAInIdeal (hDAInIdeal := hDAInIdeal)
    ∧ quiescent_DAInRefIdeal (hDAInRefIdeal := hDAInRefIdeal)
    ∧ quiescent_GAIn (hGAIn := hGAIn)
    ∧ quiescent_GAInIdeal (hGAInIdeal := hGAInIdeal)
    ∧ quiescent_GAInRefIdeal (hGAInRefIdeal := hGAInRefIdeal)
    ∧ quiescent_DOut (hDOut := hDOut)
    ∧ quiescent_DOutIdeal (hDOutIdeal := hDOutIdeal)
    ∧ quiescent_DOutRefIdeal (hDOutRefIdeal := hDOutRefIdeal)
    ∧ quiescent_Qkv (hQkv := hQkv)
    ∧ quiescent_QkvIdeal (hQkvIdeal := hQkvIdeal)
    ∧ quiescent_QkvRefIdeal (hQkvRefIdeal := hQkvRefIdeal)
    ∧ quiescent_DQkv (hDQkv := hDQkv)
    ∧ quiescent_DQkvIdeal (hDQkvIdeal := hDQkvIdeal)
    ∧ quiescent_DQkvRefIdeal (hDQkvRefIdeal := hDQkvRefIdeal)
    ∧ quiescent_Qkv0 (hQkv0 := hQkv0)
    ∧ quiescent_Qkv0Ideal (hQkv0Ideal := hQkv0Ideal)
    ∧ quiescent_Qkv0RefIdeal (hQkv0RefIdeal := hQkv0RefIdeal)
    ∧ quiescent_DQkv0 (hDQkv0 := hDQkv0)
    ∧ quiescent_DQkv0Ideal (hDQkv0Ideal := hDQkv0Ideal)
    ∧ quiescent_DQkv0RefIdeal (hDQkv0RefIdeal := hDQkv0RefIdeal)
    ∧ quiescent_Qkv1 (hQkv1 := hQkv1)
    ∧ quiescent_Qkv1Ideal (hQkv1Ideal := hQkv1Ideal)
    ∧ quiescent_Qkv1RefIdeal (hQkv1RefIdeal := hQkv1RefIdeal)
    ∧ quiescent_DQkv1 (hDQkv1 := hDQkv1)
    ∧ quiescent_DQkv1Ideal (hDQkv1Ideal := hDQkv1Ideal)
    ∧ quiescent_DQkv1RefIdeal (hDQkv1RefIdeal := hDQkv1RefIdeal)
    ∧ quiescent_GQkv1 (hGQkv1 := hGQkv1)
    ∧ quiescent_GQkv1Ideal (hGQkv1Ideal := hGQkv1Ideal)
    ∧ quiescent_GQkv1RefIdeal (hGQkv1RefIdeal := hGQkv1RefIdeal)
    ∧ quiescent_GQkv2 (hGQkv2 := hGQkv2)
    ∧ quiescent_GQkv2Ideal (hGQkv2Ideal := hGQkv2Ideal)
    ∧ quiescent_GQkv2RefIdeal (hGQkv2RefIdeal := hGQkv2RefIdeal)
    ∧ quiescent_GAOut (hGAOut := hGAOut)
    ∧ quiescent_GAOutIdeal (hGAOutIdeal := hGAOutIdeal)
    ∧ quiescent_GAOutRefIdeal (hGAOutRefIdeal := hGAOutRefIdeal)
    ∧ quiescent_GBOut (hGBOut := hGBOut)
    ∧ quiescent_GBOutIdeal (hGBOutIdeal := hGBOutIdeal)
    ∧ quiescent_GBOutRefIdeal (hGBOutRefIdeal := hGBOutRefIdeal)
    ∧ quiescent_AOut (hAOut := hAOut)
    ∧ quiescent_AOutIdeal (hAOutIdeal := hAOutIdeal)
    ∧ quiescent_AOutRefIdeal (hAOutRefIdeal := hAOutRefIdeal)
    ∧ quiescent_BOut (hBOut := hBOut)
    ∧ quiescent_BOutIdeal (hBOutIdeal := hBOutIdeal)
    ∧ quiescent_BOutRefIdeal (hBOutRefIdeal := hBOutRefIdeal)
    ∧ quiescent_Join (hJoin := hJoin)
    ∧ quiescent_JoinIdeal (hJoinIdeal := hJoinIdeal)
    ∧ quiescent_JoinIdeal_pre_finite_join (hJoinIdeal := hJoinIdeal) (hPre_finite_join := hPre_finite_join)
    ∧ quiescent_JoinRefIdeal (hJoinRefIdeal := hJoinRefIdeal)
    ∧ quiescent_JoinRefIdeal_pre_finite_join (hJoinRefIdeal := hJoinRefIdeal) (hPre_finite_join := hPre_finite_join)
    ∧ preserves_Kernel_KernelIdeal
    ∧ algebraic_KernelIdeal_ReferenceIdeal_pre_finite (hKernelIdeal := hKernelIdeal) (hReferenceIdeal := hReferenceIdeal) (hPre_finite := hPre_finite)
    ∧ preserves_GDown_GDownIdeal
    ∧ algebraic_GDownIdeal_GDownRefIdeal (hGDownIdeal := hGDownIdeal) (hGDownRefIdeal := hGDownRefIdeal)
    ∧ preserves_DDown_DDownIdeal
    ∧ algebraic_DDownIdeal_DDownRefIdeal (hDDownIdeal := hDDownIdeal) (hDDownRefIdeal := hDDownRefIdeal)
    ∧ preserves_GUp_GUpIdeal
    ∧ algebraic_GUpIdeal_GUpRefIdeal (hGUpIdeal := hGUpIdeal) (hGUpRefIdeal := hGUpRefIdeal)
    ∧ preserves_DUp_DUpIdeal
    ∧ algebraic_DUpIdeal_DUpRefIdeal (hDUpIdeal := hDUpIdeal) (hDUpRefIdeal := hDUpRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Spatial_SpatialIdeal
    ∧ algebraic_SpatialIdeal_SpatialRefIdeal (hSpatialIdeal := hSpatialIdeal) (hSpatialRefIdeal := hSpatialRefIdeal)
    ∧ preserves_Gated_GatedIdeal
    ∧ algebraic_GatedIdeal_GatedRefIdeal (hGatedIdeal := hGatedIdeal) (hGatedRefIdeal := hGatedRefIdeal)
    ∧ preserves_AIn_AInIdeal
    ∧ algebraic_AInIdeal_AInRefIdeal (hAInIdeal := hAInIdeal) (hAInRefIdeal := hAInRefIdeal)
    ∧ preserves_DAIn_DAInIdeal
    ∧ algebraic_DAInIdeal_DAInRefIdeal (hDAInIdeal := hDAInIdeal) (hDAInRefIdeal := hDAInRefIdeal)
    ∧ preserves_GAIn_GAInIdeal
    ∧ algebraic_GAInIdeal_GAInRefIdeal (hGAInIdeal := hGAInIdeal) (hGAInRefIdeal := hGAInRefIdeal)
    ∧ preserves_DOut_DOutIdeal
    ∧ algebraic_DOutIdeal_DOutRefIdeal (hDOutIdeal := hDOutIdeal) (hDOutRefIdeal := hDOutRefIdeal)
    ∧ preserves_Qkv_QkvIdeal
    ∧ algebraic_QkvIdeal_QkvRefIdeal (hQkvIdeal := hQkvIdeal) (hQkvRefIdeal := hQkvRefIdeal)
    ∧ preserves_DQkv_DQkvIdeal
    ∧ algebraic_DQkvIdeal_DQkvRefIdeal (hDQkvIdeal := hDQkvIdeal) (hDQkvRefIdeal := hDQkvRefIdeal)
    ∧ preserves_Qkv0_Qkv0Ideal
    ∧ algebraic_Qkv0Ideal_Qkv0RefIdeal (hQkv0Ideal := hQkv0Ideal) (hQkv0RefIdeal := hQkv0RefIdeal)
    ∧ preserves_DQkv0_DQkv0Ideal
    ∧ algebraic_DQkv0Ideal_DQkv0RefIdeal (hDQkv0Ideal := hDQkv0Ideal) (hDQkv0RefIdeal := hDQkv0RefIdeal)
    ∧ preserves_Qkv1_Qkv1Ideal
    ∧ algebraic_Qkv1Ideal_Qkv1RefIdeal (hQkv1Ideal := hQkv1Ideal) (hQkv1RefIdeal := hQkv1RefIdeal)
    ∧ preserves_DQkv1_DQkv1Ideal
    ∧ algebraic_DQkv1Ideal_DQkv1RefIdeal (hDQkv1Ideal := hDQkv1Ideal) (hDQkv1RefIdeal := hDQkv1RefIdeal)
    ∧ preserves_GQkv1_GQkv1Ideal
    ∧ algebraic_GQkv1Ideal_GQkv1RefIdeal (hGQkv1Ideal := hGQkv1Ideal) (hGQkv1RefIdeal := hGQkv1RefIdeal)
    ∧ preserves_GQkv2_GQkv2Ideal
    ∧ algebraic_GQkv2Ideal_GQkv2RefIdeal (hGQkv2Ideal := hGQkv2Ideal) (hGQkv2RefIdeal := hGQkv2RefIdeal)
    ∧ preserves_GAOut_GAOutIdeal
    ∧ algebraic_GAOutIdeal_GAOutRefIdeal (hGAOutIdeal := hGAOutIdeal) (hGAOutRefIdeal := hGAOutRefIdeal)
    ∧ preserves_GBOut_GBOutIdeal
    ∧ algebraic_GBOutIdeal_GBOutRefIdeal (hGBOutIdeal := hGBOutIdeal) (hGBOutRefIdeal := hGBOutRefIdeal)
    ∧ preserves_AOut_AOutIdeal
    ∧ algebraic_AOutIdeal_AOutRefIdeal (hAOutIdeal := hAOutIdeal) (hAOutRefIdeal := hAOutRefIdeal)
    ∧ preserves_BOut_BOutIdeal
    ∧ algebraic_BOutIdeal_BOutRefIdeal (hBOutIdeal := hBOutIdeal) (hBOutRefIdeal := hBOutRefIdeal)
    ∧ preserves_Join_JoinIdeal
    ∧ algebraic_JoinIdeal_JoinRefIdeal_pre_finite_join (hJoinIdeal := hJoinIdeal) (hJoinRefIdeal := hJoinRefIdeal) (hPre_finite_join := hPre_finite_join)
-- ==== Pre_finite.lean ====
abbrev S4096x3072 : Shape := ⟨2, ![4096, 3072]⟩
abbrev S4096x1024 : Shape := ⟨2, ![4096, 1024]⟩
abbrev S4096x16 : Shape := ⟨2, ![4096, 16]⟩
abbrev S16 : Shape := ⟨1, ![16]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  bcast_S_S4096x1024 : S_.BroadcastsInDim S4096x1024 (![] : Fin 0 → Fin S4096x1024.rank)
  bcast_S_S4096x16 : S_.BroadcastsInDim S4096x16 (![] : Fin 0 → Fin S4096x16.rank)
  bcast_S_S16 : S_.BroadcastsInDim S16 (![] : Fin 0 → Fin S16.rank)

variable [Facts]

def fn {F : FTy → Type} [FloatOps F] (main_arg0 : FVec F S4096x3072 .bf16) (main_arg1 : FVec F S4096x1024 .bf16) (main_arg2 : FVec F S4096x16 .f32) (main_arg3 : FVec F S16 .f32) : IVec S4096x3072 1 × IVec S4096x1024 1 × IVec S4096x16 1 × IVec S16 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S4096x16 .f32 := Host.absf main_arg2
  let main_cst_1 : FVec F S_ .f32 := constant S_ .f32 0x7F800000#32
  let main_v9 : FVec F S4096x16 .f32 := broadcastInDim S4096x16 ![] bcast_S_S4096x16 main_cst_1
  let main_v10 : IVec S4096x16 1 := cmpf .olt main_v8 main_v9
  let main_v11 : FVec F S16 .f32 := Host.absf main_arg3
  let main_cst_2 : FVec F S_ .f32 := constant S_ .f32 0x7F800000#32
  let main_v12 : FVec F S16 .f32 := broadcastInDim S16 ![] bcast_S_S16 main_cst_2
  let main_v13 : IVec S16 1 := cmpf .olt main_v11 main_v12
  (main_v3, main_v7, main_v10, main_v13)
-- ==== Pre_finite_join.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg8 : FVec F S4096x1024 .f32) (main_v2 : IVec S4096x1024 1) (main_v5 : IVec S4096x1024 1) (main_v8 : IVec S1x1024 1) (main_v11 : IVec S1x1024 1) (main_v14 : IVec S1x1024 1) (main_v17 : IVec S4096x1024 1) : IVec S4096x1024 1 × IVec S4096x1024 1 × IVec S1x1024 1 × IVec S1x1024 1 × IVec S1x1024 1 × IVec S4096x1024 1 × IVec S4096x1024 1 :=
  let main_v18 : FVec F S4096x1024 .f32 := Host.absf main_arg8
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S1x1024 .f32) (main_arg5 : FVec F S1x1024 .f32) (main_arg6 : FVec F S1x1024 .f32) (main_arg7 : FVec F S4096x1024 .f32) (main_arg8 : FVec F S4096x1024 .f32) : IVec S4096x1024 1 × IVec S4096x1024 1 × IVec S1x1024 1 × IVec S1x1024 1 × IVec S1x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg5
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S4096x1024 .f32 := Host.absf main_arg7
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg8 main_v2 main_v5 main_v8 main_v11 main_v14 main_v17
-- ==== Kernel.lean ====
abbrev S4096x3072 : Shape := ⟨2, ![4096, 3072]⟩
abbrev S4096x1024 : Shape := ⟨2, ![4096, 1024]⟩
abbrev S4096x16 : Shape := ⟨2, ![4096, 16]⟩
abbrev S16 : Shape := ⟨1, ![16]⟩
abbrev S4096x16x64 : Shape := ⟨3, ![4096, 16, 64]⟩
abbrev S16x4096x4096 : Shape := ⟨3, ![16, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x1x1 : Shape := ⟨3, ![16, 1, 1]⟩
abbrev S1x4096x4096 : Shape := ⟨3, ![1, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S4096x128 : Shape := ⟨2, ![4096, 128]⟩
abbrev S256x16x128 : Shape := ⟨3, ![256, 16, 128]⟩
abbrev S16x256x128 : Shape := ⟨3, ![16, 256, 128]⟩
abbrev S256x16x3072 : Shape := ⟨3, ![256, 16, 3072]⟩
abbrev S16x256x3072 : Shape := ⟨3, ![16, 256, 3072]⟩
abbrev S256x16x1024 : Shape := ⟨3, ![256, 16, 1024]⟩
abbrev S16x256x1024 : Shape := ⟨3, ![16, 256, 1024]⟩
abbrev S128x128 : Shape := ⟨2, ![128, 128]⟩
abbrev S1x128x128 : Shape := ⟨3, ![1, 128, 128]⟩
abbrev S16x128x128 : Shape := ⟨3, ![16, 128, 128]⟩
abbrev S16x128x256 : Shape := ⟨3, ![16, 128, 256]⟩
abbrev S8x256x256 : Shape := ⟨3, ![8, 256, 256]⟩
abbrev S1x8x256x256 : Shape := ⟨4, ![1, 8, 256, 256]⟩
abbrev S2x8x256x256 : Shape := ⟨4, ![2, 8, 256, 256]⟩
abbrev S8x256x128 : Shape := ⟨3, ![8, 256, 128]⟩
abbrev S8x512x128 : Shape := ⟨3, ![8, 512, 128]⟩
abbrev S1x8x512x128 : Shape := ⟨4, ![1, 8, 512, 128]⟩
abbrev S2x8x512x128 : Shape := ⟨4, ![2, 8, 512, 128]⟩
abbrev S256x1024 : Shape := ⟨2, ![256, 1024]⟩
abbrev S128x1024 : Shape := ⟨2, ![128, 1024]⟩
abbrev S256x128 : Shape := ⟨2, ![256, 128]⟩
abbrev S256x3072 : Shape := ⟨2, ![256, 3072]⟩
abbrev S128x256 : Shape := ⟨2, ![128, 256]⟩
abbrev S256x256 : Shape := ⟨2, ![256, 256]⟩
abbrev S512x256 : Shape := ⟨2, ![512, 256]⟩
abbrev S1x1x512x128 : Shape := ⟨4, ![1, 1, 512, 128]⟩
abbrev S512x128 : Shape := ⟨2, ![512, 128]⟩
abbrev S128x1 : Shape := ⟨2, ![128, 1]⟩

abbrev nBuf : Space → Nat
  | .hbm => 148
  | .vmem => 24
  | .smem => 0
  | _ => 0

abbrev hbmTy0_0 (i : Nat) : BufTy := match i % 128 with
  | 0 => ⟨S4096x3072, .bf16⟩
  | 1 => ⟨S4096x1024, .bf16⟩
  | 2 => ⟨S4096x16, .f32⟩
  | 3 => ⟨S16, .f32⟩
  | 4 => ⟨S4096x3072, .f32⟩
  | 5 => ⟨S4096x1024, .f32⟩
  | 6 => ⟨S4096x1024, .f32⟩
  | 7 => ⟨S4096x1024, .f32⟩
  | 8 => ⟨S4096x16x64, .f32⟩
  | 9 => ⟨S4096x16x64, .f32⟩
  | 10 => ⟨S4096x16x64, .f32⟩
  | 11 => ⟨S16x4096x4096, .f32⟩
  | 12 => ⟨S_, .f32⟩
  | 13 => ⟨S16x4096x4096, .f32⟩
  | 14 => ⟨S16x4096x4096, .f32⟩
  | 15 => ⟨S4096, .i32⟩
  | 16 => ⟨S4096x1, .i32⟩
  | 17 => ⟨S4096, .i32⟩
  | 18 => ⟨S1x4096, .i32⟩
  | 19 => ⟨S4096x4096, .i32⟩
  | 20 => ⟨S4096x4096, .i32⟩
  | 21 => ⟨S4096x4096, .i32⟩
  | 22 => ⟨S_, .i32⟩
  | 23 => ⟨S4096x4096, .i32⟩
  | 24 => ⟨S4096x4096, .i1⟩
  | 25 => ⟨S_, .i32⟩
  | 26 => ⟨S4096x4096, .i32⟩
  | 27 => ⟨S4096x4096, .i1⟩
  | 28 => ⟨S4096x4096, .i1⟩
  | 29 => ⟨S_, .i32⟩
  | 30 => ⟨S4096x4096, .i32⟩
  | 31 => ⟨S4096x4096, .i32⟩
  | 32 => ⟨S_, .i32⟩
  | 33 => ⟨S4096x4096, .i32⟩
  | 34 => ⟨S4096x4096, .i1⟩
  | 35 => ⟨S4096x4096, .i1⟩
  | 36 => ⟨S16x1x1, .f32⟩
  | 37 => ⟨S16x1x1, .f32⟩
  | 38 => ⟨S4096x4096, .f32⟩
  | 39 => ⟨S1x4096x4096, .f32⟩
  | 40 => ⟨S16x4096x4096, .f32⟩
  | 41 => ⟨S16x4096x4096, .f32⟩
  | 42 => ⟨S16x4096x4096, .f32⟩
  | 43 => ⟨S16x4096x4096, .f32⟩
  | 44 => ⟨S_, .f32⟩
  | 45 => ⟨S_, .f32⟩
  | 46 => ⟨S16x4096x4096, .i1⟩
  | 47 => ⟨S16x4096x4096, .f32⟩
  | 48 => ⟨S16x4096x4096, .f32⟩
  | 49 => ⟨S_, .f32⟩
  | 50 => ⟨S16x4096, .f32⟩
  | 51 => ⟨S16x4096x1, .f32⟩
  | 52 => ⟨S16x4096x4096, .f32⟩
  | 53 => ⟨S16x4096x4096, .f32⟩
  | 54 => ⟨S16x4096x4096, .f32⟩
  | 55 => ⟨S_, .f32⟩
  | 56 => ⟨S16x4096, .f32⟩
  | 57 => ⟨S16x4096x1, .f32⟩
  | 58 => ⟨S16x4096x4096, .f32⟩
  | 59 => ⟨S16x4096x4096, .f32⟩
  | 60 => ⟨S16x64x4096, .f32⟩
  | 61 => ⟨S4096x16x64, .f32⟩
  | 62 => ⟨S16x4096x1, .f32⟩
  | 63 => ⟨S16x4096x1, .f32⟩
  | 64 => ⟨S16x4096, .f32⟩
  | 65 => ⟨S4096x16, .f32⟩
  | 66 => ⟨S4096x1024, .f32⟩
  | 67 => ⟨S4096x1024, .f32⟩
  | 68 => ⟨S4096x1024, .f32⟩
  | 69 => ⟨S4096x16x64, .f32⟩
  | 70 => ⟨S_, .f32⟩
  | 71 => ⟨S4096x16, .f32⟩
  | 72 => ⟨S4096x16, .f32⟩
  | 73 => ⟨S_, .i32⟩
  | 74 => ⟨S_, .f32⟩
  | 75 => ⟨S4096x128, .f32⟩
  | 76 => ⟨S256x16x128, .f32⟩
  | 77 => ⟨S16x256x128, .f32⟩
  | 78 => ⟨S4096x128, .f32⟩
  | 79 => ⟨S_, .i32⟩
  | 80 => ⟨S_, .f32⟩
  | 81 => ⟨S4096x128, .f32⟩
  | 82 => ⟨S256x16x128, .f32⟩
  | 83 => ⟨S16x256x128, .f32⟩
  | 84 => ⟨S4096x128, .f32⟩
  | 85 => ⟨S256x16x3072, .bf16⟩
  | 86 => ⟨S16x256x3072, .bf16⟩
  | 87 => ⟨S4096x3072, .bf16⟩
  | 88 => ⟨S256x16x1024, .bf16⟩
  | 89 => ⟨S16x256x1024, .bf16⟩
  | 90 => ⟨S4096x1024, .bf16⟩
  | 91 => ⟨S128x128, .i32⟩
  | 92 => ⟨S128x128, .i32⟩
  | 93 => ⟨S16x1x1, .f32⟩
  | 94 => ⟨S128x128, .i1⟩
  | 95 => ⟨S16x1x1, .f32⟩
  | 96 => ⟨S128x128, .i32⟩
  | 97 => ⟨S128x128, .f32⟩
  | 98 => ⟨S_, .f32⟩
  | 99 => ⟨S128x128, .f32⟩
  | 100 => ⟨S128x128, .f32⟩
  | 101 => ⟨S1x128x128, .f32⟩
  | 102 => ⟨S16x128x128, .f32⟩
  | 103 => ⟨S16x128x128, .f32⟩
  | 104 => ⟨S16x128x128, .f32⟩
  | 105 => ⟨S_, .f32⟩
  | 106 => ⟨S_, .f32⟩
  | 107 => ⟨S16x128x128, .i1⟩
  | 108 => ⟨S16x128x128, .f32⟩
  | 109 => ⟨S16x128x128, .f32⟩
  | 110 => ⟨S128x128, .i1⟩
  | 111 => ⟨S16x1x1, .f32⟩
  | 112 => ⟨S_, .i32⟩
  | 113 => ⟨S128x128, .i32⟩
  | 114 => ⟨S128x128, .i32⟩
  | 115 => ⟨S128x128, .i32⟩
  | 116 => ⟨S128x128, .f32⟩
  | 117 => ⟨S_, .f32⟩
  | 118 => ⟨S128x128, .f32⟩
  | 119 => ⟨S128x128, .f32⟩
  | 120 => ⟨S1x128x128, .f32⟩
  | 121 => ⟨S16x128x128, .f32⟩
  | 122 => ⟨S16x128x128, .f32⟩
  | 123 => ⟨S16x128x128, .f32⟩
  | 124 => ⟨S_, .f32⟩
  | 125 => ⟨S_, .f32⟩
  | 126 => ⟨S16x128x128, .i1⟩
  | 127 => ⟨S16x128x128, .f32⟩
  | _ => ⟨S4096x3072, .bf16⟩

abbrev hbmTy0_1 (i : Nat) : BufTy := match i % 128 with
  | 0 => ⟨S16x128x128, .f32⟩
  | 1 => ⟨S_, .f32⟩
  | 2 => ⟨S16x128x128, .f32⟩
  | 3 => ⟨S16x128x256, .f32⟩
  | 4 => ⟨S8x256x256, .f32⟩
  | 5 => ⟨S16x128x256, .f32⟩
  | 6 => ⟨S8x256x256, .f32⟩
  | 7 => ⟨S1x8x256x256, .f32⟩
  | 8 => ⟨S1x8x256x256, .f32⟩
  | 9 => ⟨S2x8x256x256, .f32⟩
  | 10 => ⟨S8x256x128, .f32⟩
  | 11 => ⟨S8x256x128, .f32⟩
  | 12 => ⟨S8x512x128, .f32⟩
  | 13 => ⟨S8x256x128, .f32⟩
  | 14 => ⟨S8x256x128, .f32⟩
  | 15 => ⟨S8x512x128, .f32⟩
  | 16 => ⟨S1x8x512x128, .f32⟩
  | 17 => ⟨S1x8x512x128, .f32⟩
  | 18 => ⟨S2x8x512x128, .f32⟩
  | 19 => ⟨S4096x3072, .bf16⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S128x1024, .bf16⟩
  | .local _ .vmem, ⟨7, _⟩ => ⟨S128x1024, .bf16⟩
  | .local _ .vmem, ⟨8, _⟩ => ⟨S256x1024, .bf16⟩
  | .local _ .vmem, ⟨9, _⟩ => ⟨S256x1024, .bf16⟩
  | .local _ .vmem, ⟨10, _⟩ => ⟨S128x1024, .bf16⟩
  | .local _ .vmem, ⟨11, _⟩ => ⟨S128x1024, .bf16⟩
  | .local _ .vmem, ⟨12, _⟩ => ⟨S256x128, .f32⟩
  | .local _ .vmem, ⟨13, _⟩ => ⟨S256x128, .f32⟩
  | .local _ .vmem, ⟨14, _⟩ => ⟨S128x128, .f32⟩
  | .local _ .vmem, ⟨15, _⟩ => ⟨S128x128, .f32⟩
  | .local _ .vmem, ⟨16, _⟩ => ⟨S256x128, .f32⟩
  | .local _ .vmem, ⟨17, _⟩ => ⟨S256x128, .f32⟩
  | .local _ .vmem, ⟨18, _⟩ => ⟨S128x128, .f32⟩
  | .local _ .vmem, ⟨19, _⟩ => ⟨S128x128, .f32⟩
  | .local _ .vmem, ⟨20, _⟩ => ⟨S2x8x512x128, .f32⟩
  | .local _ .vmem, ⟨21, _⟩ => ⟨S256x3072, .bf16⟩
  | .local _ .vmem, ⟨22, _⟩ => ⟨S256x3072, .bf16⟩
  | .local _ .vmem, ⟨23, _⟩ => ⟨S128x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_c_7 : Ref sig .tc := ⟨.hbm, 73, rfl⟩
abbrev main_call1_v0 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_8 : Ref sig .tc := ⟨.hbm, 79, rfl⟩
abbrev main_call2_v0 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_9 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_10 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_c_11 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_12 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_13 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_v97 : Ref sig .tc := ⟨.hbm, 128, rfl⟩
abbrev main_cst_14 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![16], ![false]⟩

def k0_off1 (i : grid0.Coords) : Fin 4 → Nat :=
  let c2_i32 : BitVec 32 := 2#32
  let arg0 : BitVec 32 := BitVec.ofNat 32 (i 0).val
  let v737 : BitVec 32 := Scalar.muli c2_i32 arg0
  let c1_i32_252 : BitVec 32 := 1#32
  let v738 : BitVec 32 := Scalar.addi v737 c1_i32_252
  let c2_i32_253 : BitVec 32 := 2#32
  let c0_i32_254 : BitVec 32 := 0#32
  let v739 : BitVec 1 := Scalar.cmpi .eq c2_i32_253 c0_i32_254
  let c1_i32_255 : BitVec 32 := 1#32
  let v740 : BitVec 32 := Scalar.select v739 c1_i32_255 c2_i32_253
  let v741 : BitVec 32 := Scalar.remsi v738 v740
  let c0_i32_257 : BitVec 32 := 0#32
  let v743 : BitVec 1 := Scalar.cmpi .slt v741 c0_i32_257
  let c0_i32_258 : BitVec 32 := 0#32
  let v744 : BitVec 1 := Scalar.cmpi .slt v740 c0_i32_258
  let v745 : BitVec 1 := Scalar.xori v743 v744
  let c0_i32_256 : BitVec 32 := 0#32
  let v742 : BitVec 1 := Scalar.cmpi .ne v741 c0_i32_256
  let v746 : BitVec 1 := Scalar.andi v745 v742
  let v747 : BitVec 32 := Scalar.addi v741 v740
  let v748 : BitVec 32 := Scalar.select v746 v747 v741
  let c1_i32_259 : BitVec 32 := 1#32
  let v749 : BitVec 1 := Scalar.cmpi .eq v748 c1_i32_259
  let c0_i32_260 : BitVec 32 := 0#32
  let c1_i32_261 : BitVec 32 := 1#32
  let v750 : BitVec 32 := Scalar.select v749 c0_i32_260 c1_i32_261
  let v815 : Index := Scalar.indexCast v750
  let c0_302 : Index := 0#32
  let c0_303 : Index := 0#32
  let c0_304 : Index := 0#32
  ![v815.toNat, 0, 0, 0]
def k0_off2 (i : grid0.Coords) : Fin 4 → Nat :=
  let c2_i32 : BitVec 32 := 2#32
  let arg0 : BitVec 32 := BitVec.ofNat 32 (i 0).val
  let v737 : BitVec 32 := Scalar.muli c2_i32 arg0
  let c1_i32_252 : BitVec 32 := 1#32
  let v738 : BitVec 32 := Scalar.addi v737 c1_i32_252
  let c2_i32_253 : BitVec 32 := 2#32
  let c0_i32_254 : BitVec 32 := 0#32
  let v739 : BitVec 1 := Scalar.cmpi .eq c2_i32_253 c0_i32_254
  let c1_i32_255 : BitVec 32 := 1#32
  let v740 : BitVec 32 := Scalar.select v739 c1_i32_255 c2_i32_253
  let v741 : BitVec 32 := Scalar.remsi v738 v740
  let c0_i32_257 : BitVec 32 := 0#32
  let v743 : BitVec 1 := Scalar.cmpi .slt v741 c0_i32_257
  let c0_i32_258 : BitVec 32 := 0#32
  let v744 : BitVec 1 := Scalar.cmpi .slt v740 c0_i32_258
  let v745 : BitVec 1 := Scalar.xori v743 v744
  let c0_i32_256 : BitVec 32 := 0#32
  let v742 : BitVec 1 := Scalar.cmpi .ne v741 c0_i32_256
  let v746 : BitVec 1 := Scalar.andi v745 v742
  let v747 : BitVec 32 := Scalar.addi v741 v740
  let v748 : BitVec 32 := Scalar.select v746 v747 v741
  let c1_i32_259 : BitVec 32 := 1#32
  let v749 : BitVec 1 := Scalar.cmpi .eq v748 c1_i32_259
  let c0_i32_260 : BitVec 32 := 0#32
  let c1_i32_261 : BitVec 32 := 1#32
  let v750 : BitVec 32 := Scalar.select v749 c0_i32_260 c1_i32_261
  let v818 : Index := Scalar.indexCast v750
  let c1_305 : Index := 1#32
  let c0_306 : Index := 0#32
  let c0_307 : Index := 0#32
  ![v818.toNat, 1, 0, 0]
def k0_off3 (i : grid0.Coords) : Fin 4 → Nat :=
  let c2_i32 : BitVec 32 := 2#32
  let arg0 : BitVec 32 := BitVec.ofNat 32 (i 0).val
  let v737 : BitVec 32 := Scalar.muli c2_i32 arg0
  let c1_i32_252 : BitVec 32 := 1#32
  let v738 : BitVec 32 := Scalar.addi v737 c1_i32_252
  let c2_i32_253 : BitVec 32 := 2#32
  let c0_i32_254 : BitVec 32 := 0#32
  let v739 : BitVec 1 := Scalar.cmpi .eq c2_i32_253 c0_i32_254
  let c1_i32_255 : BitVec 32 := 1#32
  let v740 : BitVec 32 := Scalar.select v739 c1_i32_255 c2_i32_253
  let v741 : BitVec 32 := Scalar.remsi v738 v740
  let c0_i32_257 : BitVec 32 := 0#32
  let v743 : BitVec 1 := Scalar.cmpi .slt v741 c0_i32_257
  let c0_i32_258 : BitVec 32 := 0#32
  let v744 : BitVec 1 := Scalar.cmpi .slt v740 c0_i32_258
  let v745 : BitVec 1 := Scalar.xori v743 v744
  let c0_i32_256 : BitVec 32 := 0#32
  let v742 : BitVec 1 := Scalar.cmpi .ne v741 c0_i32_256
  let v746 : BitVec 1 := Scalar.andi v745 v742
  let v747 : BitVec 32 := Scalar.addi v741 v740
  let v748 : BitVec 32 := Scalar.select v746 v747 v741
  let c1_i32_259 : BitVec 32 := 1#32
  let v749 : BitVec 1 := Scalar.cmpi .eq v748 c1_i32_259
  let c0_i32_260 : BitVec 32 := 0#32
  let c1_i32_261 : BitVec 32 := 1#32
  let v750 : BitVec 32 := Scalar.select v749 c0_i32_260 c1_i32_261
  let v988 : Index := Scalar.indexCast v750
  let c2_366 : Index := 2#32
  let c0_367 : Index := 0#32
  let c0_368 : Index := 0#32
  ![v988.toNat, 2, 0, 0]
def k0_off4 (i : grid0.Coords) : Fin 4 → Nat :=
  let c2_i32 : BitVec 32 := 2#32
  let arg0 : BitVec 32 := BitVec.ofNat 32 (i 0).val
  let v737 : BitVec 32 := Scalar.muli c2_i32 arg0
  let c1_i32_252 : BitVec 32 := 1#32
  let v738 : BitVec 32 := Scalar.addi v737 c1_i32_252
  let c2_i32_253 : BitVec 32 := 2#32
  let c0_i32_254 : BitVec 32 := 0#32
  let v739 : BitVec 1 := Scalar.cmpi .eq c2_i32_253 c0_i32_254
  let c1_i32_255 : BitVec 32 := 1#32
  let v740 : BitVec 32 := Scalar.select v739 c1_i32_255 c2_i32_253
  let v741 : BitVec 32 := Scalar.remsi v738 v740
  let c0_i32_257 : BitVec 32 := 0#32
  let v743 : BitVec 1 := Scalar.cmpi .slt v741 c0_i32_257
  let c0_i32_258 : BitVec 32 := 0#32
  let v744 : BitVec 1 := Scalar.cmpi .slt v740 c0_i32_258
  let v745 : BitVec 1 := Scalar.xori v743 v744
  let c0_i32_256 : BitVec 32 := 0#32
  let v742 : BitVec 1 := Scalar.cmpi .ne v741 c0_i32_256
  let v746 : BitVec 1 := Scalar.andi v745 v742
  let v747 : BitVec 32 := Scalar.addi v741 v740
  let v748 : BitVec 32 := Scalar.select v746 v747 v741
  let c1_i32_259 : BitVec 32 := 1#32
  let v749 : BitVec 1 := Scalar.cmpi .eq v748 c1_i32_259
  let c0_i32_260 : BitVec 32 := 0#32
  let c1_i32_261 : BitVec 32 := 1#32
  let v750 : BitVec 32 := Scalar.select v749 c0_i32_260 c1_i32_261
  let v991 : Index := Scalar.indexCast v750
  let c3_369 : Index := 3#32
  let c0_370 : Index := 0#32
  let c0_371 : Index := 0#32
  ![v991.toNat, 3, 0, 0]
def k0_off5 (i : grid0.Coords) : Fin 4 → Nat :=
  let c2_i32 : BitVec 32 := 2#32
  let arg0 : BitVec 32 := BitVec.ofNat 32 (i 0).val
  let v737 : BitVec 32 := Scalar.muli c2_i32 arg0
  let c1_i32_252 : BitVec 32 := 1#32
  let v738 : BitVec 32 := Scalar.addi v737 c1_i32_252
  let c2_i32_253 : BitVec 32 := 2#32
  let c0_i32_254 : BitVec 32 := 0#32
  let v739 : BitVec 1 := Scalar.cmpi .eq c2_i32_253 c0_i32_254
  let c1_i32_255 : BitVec 32 := 1#32
  let v740 : BitVec 32 := Scalar.select v739 c1_i32_255 c2_i32_253
  let v741 : BitVec 32 := Scalar.remsi v738 v740
  let c0_i32_257 : BitVec 32 := 0#32
  let v743 : BitVec 1 := Scalar.cmpi .slt v741 c0_i32_257
  let c0_i32_258 : BitVec 32 := 0#32
  let v744 : BitVec 1 := Scalar.cmpi .slt v740 c0_i32_258
  let v745 : BitVec 1 := Scalar.xori v743 v744
  let c0_i32_256 : BitVec 32 := 0#32
  let v742 : BitVec 1 := Scalar.cmpi .ne v741 c0_i32_256
  let v746 : BitVec 1 := Scalar.andi v745 v742
  let v747 : BitVec 32 := Scalar.addi v741 v740
  let v748 : BitVec 32 := Scalar.select v746 v747 v741
  let c1_i32_259 : BitVec 32 := 1#32
  let v749 : BitVec 1 := Scalar.cmpi .eq v748 c1_i32_259
  let c0_i32_260 : BitVec 32 := 0#32
  let c1_i32_261 : BitVec 32 := 1#32
  let v750 : BitVec 32 := Scalar.select v749 c0_i32_260 c1_i32_261
  let v1161 : Index := Scalar.indexCast v750
  let c4_430 : Index := 4#32
  let c0_431 : Index := 0#32
  let c0_432 : Index := 0#32
  ![v1161.toNat, 4, 0, 0]
def k0_off6 (i : grid0.Coords) : Fin 4 → Nat :=
  let c2_i32 : BitVec 32 := 2#32
  let arg0 : BitVec 32 := BitVec.ofNat 32 (i 0).val
  let v737 : BitVec 32 := Scalar.muli c2_i32 arg0
  let c1_i32_252 : BitVec 32 := 1#32
  let v738 : BitVec 32 := Scalar.addi v737 c1_i32_252
  let c2_i32_253 : BitVec 32 := 2#32
  let c0_i32_254 : BitVec 32 := 0#32
  let v739 : BitVec 1 := Scalar.cmpi .eq c2_i32_253 c0_i32_254
  let c1_i32_255 : BitVec 32 := 1#32
  let v740 : BitVec 32 := Scalar.select v739 c1_i32_255 c2_i32_253
  let v741 : BitVec 32 := Scalar.remsi v738 v740
  let c0_i32_257 : BitVec 32 := 0#32
  let v743 : BitVec 1 := Scalar.cmpi .slt v741 c0_i32_257
  let c0_i32_258 : BitVec 32 := 0#32
  let v744 : BitVec 1 := Scalar.cmpi .slt v740 c0_i32_258
  let v745 : BitVec 1 := Scalar.xori v743 v744
  let c0_i32_256 : BitVec 32 := 0#32
  let v742 : BitVec 1 := Scalar.cmpi .ne v741 c0_i32_256
  let v746 : BitVec 1 := Scalar.andi v745 v742
  let v747 : BitVec 32 := Scalar.addi v741 v740
  let v748 : BitVec 32 := Scalar.select v746 v747 v741
  let c1_i32_259 : BitVec 32 := 1#32
  let v749 : BitVec 1 := Scalar.cmpi .eq v748 c1_i32_259
  let c0_i32_260 : BitVec 32 := 0#32
  let c1_i32_261 : BitVec 32 := 1#32
  let v750 : BitVec 32 := Scalar.select v749 c0_i32_260 c1_i32_261
  let v1164 : Index := Scalar.indexCast v750
  let c5_433 : Index := 5#32
  let c0_434 : Index := 0#32
  let c0_435 : Index := 0#32
  ![v1164.toNat, 5, 0, 0]
def k0_off7 (i : grid0.Coords) : Fin 4 → Nat :=
  let c2_i32 : BitVec 32 := 2#32
  let arg0 : BitVec 32 := BitVec.ofNat 32 (i 0).val
  let v737 : BitVec 32 := Scalar.muli c2_i32 arg0
  let c1_i32_252 : BitVec 32 := 1#32
  let v738 : BitVec 32 := Scalar.addi v737 c1_i32_252
  let c2_i32_253 : BitVec 32 := 2#32
  let c0_i32_254 : BitVec 32 := 0#32
  let v739 : BitVec 1 := Scalar.cmpi .eq c2_i32_253 c0_i32_254
  let c1_i32_255 : BitVec 32 := 1#32
  let v740 : BitVec 32 := Scalar.select v739 c1_i32_255 c2_i32_253
  let v741 : BitVec 32 := Scalar.remsi v738 v740
  let c0_i32_257 : BitVec 32 := 0#32
  let v743 : BitVec 1 := Scalar.cmpi .slt v741 c0_i32_257
  let c0_i32_258 : BitVec 32 := 0#32
  let v744 : BitVec 1 := Scalar.cmpi .slt v740 c0_i32_258
  let v745 : BitVec 1 := Scalar.xori v743 v744
  let c0_i32_256 : BitVec 32 := 0#32
  let v742 : BitVec 1 := Scalar.cmpi .ne v741 c0_i32_256
  let v746 : BitVec 1 := Scalar.andi v745 v742
  let v747 : BitVec 32 := Scalar.addi v741 v740
  let v748 : BitVec 32 := Scalar.select v746 v747 v741
  let c1_i32_259 : BitVec 32 := 1#32
  let v749 : BitVec 1 := Scalar.cmpi .eq v748 c1_i32_259
  let c0_i32_260 : BitVec 32 := 0#32
  let c1_i32_261 : BitVec 32 := 1#32
  let v750 : BitVec 32 := Scalar.select v749 c0_i32_260 c1_i32_261
  let v1334 : Index := Scalar.indexCast v750
  let c6_494 : Index := 6#32
  let c0_495 : Index := 0#32
  let c0_496 : Index := 0#32
  ![v1334.toNat, 6, 0, 0]
def k0_off8 (i : grid0.Coords) : Fin 4 → Nat :=
  let c2_i32 : BitVec 32 := 2#32
  let arg0 : BitVec 32 := BitVec.ofNat 32 (i 0).val
  let v737 : BitVec 32 := Scalar.muli c2_i32 arg0
  let c1_i32_252 : BitVec 32 := 1#32
  let v738 : BitVec 32 := Scalar.addi v737 c1_i32_252
  let c2_i32_253 : BitVec 32 := 2#32
  let c0_i32_254 : BitVec 32 := 0#32
  let v739 : BitVec 1 := Scalar.cmpi .eq c2_i32_253 c0_i32_254
  let c1_i32_255 : BitVec 32 := 1#32
  let v740 : BitVec 32 := Scalar.select v739 c1_i32_255 c2_i32_253
  let v741 : BitVec 32 := Scalar.remsi v738 v740
  let c0_i32_257 : BitVec 32 := 0#32
  let v743 : BitVec 1 := Scalar.cmpi .slt v741 c0_i32_257
  let c0_i32_258 : BitVec 32 := 0#32
  let v744 : BitVec 1 := Scalar.cmpi .slt v740 c0_i32_258
  let v745 : BitVec 1 := Scalar.xori v743 v744
  let c0_i32_256 : BitVec 32 := 0#32
  let v742 : BitVec 1 := Scalar.cmpi .ne v741 c0_i32_256
  let v746 : BitVec 1 := Scalar.andi v745 v742
  let v747 : BitVec 32 := Scalar.addi v741 v740
  let v748 : BitVec 32 := Scalar.select v746 v747 v741
  let c1_i32_259 : BitVec 32 := 1#32
  let v749 : BitVec 1 := Scalar.cmpi .eq v748 c1_i32_259
  let c0_i32_260 : BitVec 32 := 0#32
  let c1_i32_261 : BitVec 32 := 1#32
  let v750 : BitVec 32 := Scalar.select v749 c0_i32_260 c1_i32_261
  let v1337 : Index := Scalar.indexCast v750
  let c7_497 : Index := 7#32
  let c0_498 : Index := 0#32
  let c0_499 : Index := 0#32
  ![v1337.toNat, 7, 0, 0]
def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c1_i32 : BitVec 32 := 1#32
  let v2 : BitVec 32 := Scalar.subi v1 c1_i32
  let c2_i32_1 : BitVec 32 := 2#32
  let c0_i32 : BitVec 32 := 0#32
  let v3 : BitVec 1 := Scalar.cmpi .eq c2_i32_1 c0_i32
  let c1_i32_2 : BitVec 32 := 1#32
  let v4 : BitVec 32 := Scalar.select v3 c1_i32_2 c2_i32_1
  let v5 : BitVec 32 := Scalar.remsi v2 v4
  let c0_i32_3 : BitVec 32 := 0#32
  let v6 : BitVec 1 := Scalar.cmpi .ne v5 c0_i32_3
  let c0_i32_4 : BitVec 32 := 0#32
  let v7 : BitVec 1 := Scalar.cmpi .slt v5 c0_i32_4
  let c0_i32_5 : BitVec 32 := 0#32
  let v8 : BitVec 1 := Scalar.cmpi .slt v4 c0_i32_5
  let v9 : BitVec 1 := Scalar.xori v7 v8
  let v10 : BitVec 1 := Scalar.andi v9 v6
  let v11 : BitVec 32 := Scalar.addi v5 v4
  let v12 : BitVec 32 := Scalar.select v10 v11 v5
  let c1_i32_6 : BitVec 32 := 1#32
  let v13 : BitVec 1 := Scalar.cmpi .eq v12 c1_i32_6
  let c2_i32_7 : BitVec 32 := 2#32
  let v14 : BitVec 32 := Scalar.muli c2_i32_7 arg0
  let c2_i32_8 : BitVec 32 := 2#32
  let v15 : BitVec 32 := Scalar.addi v14 c2_i32_8
  let c1_i32_9 : BitVec 32 := 1#32
  let v16 : BitVec 32 := Scalar.subi v15 c1_i32_9
  let c2_i32_10 : BitVec 32 := 2#32
  let v17 : BitVec 32 := Scalar.muli c2_i32_10 arg0
  let c2_i32_11 : BitVec 32 := 2#32
  let v18 : BitVec 32 := Scalar.addi v17 c2_i32_11
  let v19 : BitVec 32 := Scalar.select v13 v16 v18
  let c0_i32_12 : BitVec 32 := 0#32
  let c0_i32_13 : BitVec 32 := 0#32
  ![v19.toNat, c0_i32_12.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c1_i32 : BitVec 32 := 1#32
  let v2 : BitVec 32 := Scalar.subi v1 c1_i32
  let c2_i32_1 : BitVec 32 := 2#32
  let c0_i32 : BitVec 32 := 0#32
  let v3 : BitVec 1 := Scalar.cmpi .eq c2_i32_1 c0_i32
  let c1_i32_2 : BitVec 32 := 1#32
  let v4 : BitVec 32 := Scalar.select v3 c1_i32_2 c2_i32_1
  let v5 : BitVec 32 := Scalar.remsi v2 v4
  let c0_i32_3 : BitVec 32 := 0#32
  let v6 : BitVec 1 := Scalar.cmpi .ne v5 c0_i32_3
  let c0_i32_4 : BitVec 32 := 0#32
  let v7 : BitVec 1 := Scalar.cmpi .slt v5 c0_i32_4
  let c0_i32_5 : BitVec 32 := 0#32
  let v8 : BitVec 1 := Scalar.cmpi .slt v4 c0_i32_5
  let v9 : BitVec 1 := Scalar.xori v7 v8
  let v10 : BitVec 1 := Scalar.andi v9 v6
  let v11 : BitVec 32 := Scalar.addi v5 v4
  let v12 : BitVec 32 := Scalar.select v10 v11 v5
  let c1_i32_6 : BitVec 32 := 1#32
  let v13 : BitVec 1 := Scalar.cmpi .eq v12 c1_i32_6
  let c2_i32_7 : BitVec 32 := 2#32
  let v14 : BitVec 32 := Scalar.muli c2_i32_7 arg0
  let c2_i32_8 : BitVec 32 := 2#32
  let v15 : BitVec 32 := Scalar.addi v14 c2_i32_8
  let c1_i32_9 : BitVec 32 := 1#32
  let v16 : BitVec 32 := Scalar.subi v15 c1_i32_9
  let c2_i32_10 : BitVec 32 := 2#32
  let v17 : BitVec 32 := Scalar.muli c2_i32_10 arg0
  let c2_i32_11 : BitVec 32 := 2#32
  let v18 : BitVec 32 := Scalar.addi v17 c2_i32_11
  let v19 : BitVec 32 := Scalar.select v13 v16 v18
  let c0_i32_12 : BitVec 32 := 0#32
  let c0_i32_13 : BitVec 32 := 0#32
  ![v19.toNat, c0_i32_12.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c1_i32 : BitVec 32 := 1#32
  let v2 : BitVec 32 := Scalar.subi v1 c1_i32
  let c2_i32_1 : BitVec 32 := 2#32
  let c0_i32 : BitVec 32 := 0#32
  let v3 : BitVec 1 := Scalar.cmpi .eq c2_i32_1 c0_i32
  let c1_i32_2 : BitVec 32 := 1#32
  let v4 : BitVec 32 := Scalar.select v3 c1_i32_2 c2_i32_1
  let v5 : BitVec 32 := Scalar.remsi v2 v4
  let c0_i32_3 : BitVec 32 := 0#32
  let v6 : BitVec 1 := Scalar.cmpi .ne v5 c0_i32_3
  let c0_i32_4 : BitVec 32 := 0#32
  let v7 : BitVec 1 := Scalar.cmpi .slt v5 c0_i32_4
  let c0_i32_5 : BitVec 32 := 0#32
  let v8 : BitVec 1 := Scalar.cmpi .slt v4 c0_i32_5
  let v9 : BitVec 1 := Scalar.xori v7 v8
  let v10 : BitVec 1 := Scalar.andi v9 v6
  let v11 : BitVec 32 := Scalar.addi v5 v4
  let v12 : BitVec 32 := Scalar.select v10 v11 v5
  let c1_i32_6 : BitVec 32 := 1#32
  let v13 : BitVec 1 := Scalar.cmpi .eq v12 c1_i32_6
  let c2_i32_7 : BitVec 32 := 2#32
  let v14 : BitVec 32 := Scalar.muli c2_i32_7 arg0
  let c2_i32_8 : BitVec 32 := 2#32
  let v15 : BitVec 32 := Scalar.addi v14 c2_i32_8
  let c1_i32_9 : BitVec 32 := 1#32
  let v16 : BitVec 32 := Scalar.subi v15 c1_i32_9
  let c2_i32_10 : BitVec 32 := 2#32
  let v17 : BitVec 32 := Scalar.muli c2_i32_10 arg0
  let c2_i32_11 : BitVec 32 := 2#32
  let v18 : BitVec 32 := Scalar.addi v17 c2_i32_11
  let v19 : BitVec 32 := Scalar.select v13 v16 v18
  let c0_i32_12 : BitVec 32 := 0#32
  let c0_i32_13 : BitVec 32 := 0#32
  ![v19.toNat, c0_i32_12.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c1_i32 : BitVec 32 := 1#32
  let v2 : BitVec 32 := Scalar.subi v1 c1_i32
  let c2_i32_1 : BitVec 32 := 2#32
  let c0_i32 : BitVec 32 := 0#32
  let v3 : BitVec 1 := Scalar.cmpi .eq c2_i32_1 c0_i32
  let c1_i32_2 : BitVec 32 := 1#32
  let v4 : BitVec 32 := Scalar.select v3 c1_i32_2 c2_i32_1
  let v5 : BitVec 32 := Scalar.remsi v2 v4
  let c0_i32_3 : BitVec 32 := 0#32
  let v6 : BitVec 1 := Scalar.cmpi .ne v5 c0_i32_3
  let c0_i32_4 : BitVec 32 := 0#32
  let v7 : BitVec 1 := Scalar.cmpi .slt v5 c0_i32_4
  let c0_i32_5 : BitVec 32 := 0#32
  let v8 : BitVec 1 := Scalar.cmpi .slt v4 c0_i32_5
  let v9 : BitVec 1 := Scalar.xori v7 v8
  let v10 : BitVec 1 := Scalar.andi v9 v6
  let v11 : BitVec 32 := Scalar.addi v5 v4
  let v12 : BitVec 32 := Scalar.select v10 v11 v5
  let c1_i32_6 : BitVec 32 := 1#32
  let v13 : BitVec 1 := Scalar.cmpi .eq v12 c1_i32_6
  let c2_i32_7 : BitVec 32 := 2#32
  let v14 : BitVec 32 := Scalar.muli c2_i32_7 arg0
  let c2_i32_8 : BitVec 32 := 2#32
  let v15 : BitVec 32 := Scalar.addi v14 c2_i32_8
  let c1_i32_9 : BitVec 32 := 1#32
  let v16 : BitVec 32 := Scalar.subi v15 c1_i32_9
  let c2_i32_10 : BitVec 32 := 2#32
  let v17 : BitVec 32 := Scalar.muli c2_i32_10 arg0
  let c2_i32_11 : BitVec 32 := 2#32
  let v18 : BitVec 32 := Scalar.addi v17 c2_i32_11
  let v19 : BitVec 32 := Scalar.select v13 v16 v18
  let c0_i32_12 : BitVec 32 := 0#32
  let c0_i32_13 : BitVec 32 := 0#32
  ![v19.toNat, c0_i32_12.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x8x512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4096x3072 : Shape := ⟨2, ![4096, 3072]⟩
abbrev S4096x1024 : Shape := ⟨2, ![4096, 1024]⟩
abbrev S4096x16 : Shape := ⟨2, ![4096, 16]⟩
abbrev S16 : Shape := ⟨1, ![16]⟩
abbrev S4096x16x64 : Shape := ⟨3, ![4096, 16, 64]⟩
abbrev S16x4096x4096 : Shape := ⟨3, ![16, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x1x1 : Shape := ⟨3, ![16, 1, 1]⟩
abbrev S1x4096x4096 : Shape := ⟨3, ![1, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S16x4096x64 : Shape := ⟨3, ![16, 4096, 64]⟩
abbrev S256x16x3072 : Shape := ⟨3, ![256, 16, 3072]⟩
abbrev S16x256x3072 : Shape := ⟨3, ![16, 256, 3072]⟩

abbrev nBuf : Space → Nat
  | .hbm => 132
  | .vmem => 0
  | .smem => 0
  | _ => 0

abbrev hbmTy0_0 (i : Nat) : BufTy := match i % 128 with
  | 0 => ⟨S4096x3072, .bf16⟩
  | 1 => ⟨S4096x1024, .bf16⟩
  | 2 => ⟨S4096x16, .f32⟩
  | 3 => ⟨S16, .f32⟩
  | 4 => ⟨S4096x3072, .f32⟩
  | 5 => ⟨S4096x1024, .f32⟩
  | 6 => ⟨S4096x1024, .f32⟩
  | 7 => ⟨S4096x1024, .f32⟩
  | 8 => ⟨S4096x16x64, .f32⟩
  | 9 => ⟨S4096x16x64, .f32⟩
  | 10 => ⟨S4096x16x64, .f32⟩
  | 11 => ⟨S16x4096x4096, .f32⟩
  | 12 => ⟨S_, .f32⟩
  | 13 => ⟨S16x4096x4096, .f32⟩
  | 14 => ⟨S16x4096x4096, .f32⟩
  | 15 => ⟨S4096, .i32⟩
  | 16 => ⟨S4096x1, .i32⟩
  | 17 => ⟨S4096, .i32⟩
  | 18 => ⟨S1x4096, .i32⟩
  | 19 => ⟨S4096x4096, .i32⟩
  | 20 => ⟨S4096x4096, .i32⟩
  | 21 => ⟨S4096x4096, .i32⟩
  | 22 => ⟨S_, .i32⟩
  | 23 => ⟨S4096x4096, .i32⟩
  | 24 => ⟨S4096x4096, .i1⟩
  | 25 => ⟨S_, .i32⟩
  | 26 => ⟨S4096x4096, .i32⟩
  | 27 => ⟨S4096x4096, .i1⟩
  | 28 => ⟨S4096x4096, .i1⟩
  | 29 => ⟨S_, .i32⟩
  | 30 => ⟨S4096x4096, .i32⟩
  | 31 => ⟨S4096x4096, .i32⟩
  | 32 => ⟨S_, .i32⟩
  | 33 => ⟨S4096x4096, .i32⟩
  | 34 => ⟨S4096x4096, .i1⟩
  | 35 => ⟨S4096x4096, .i1⟩
  | 36 => ⟨S16x1x1, .f32⟩
  | 37 => ⟨S16x1x1, .f32⟩
  | 38 => ⟨S4096x4096, .f32⟩
  | 39 => ⟨S1x4096x4096, .f32⟩
  | 40 => ⟨S16x4096x4096, .f32⟩
  | 41 => ⟨S16x4096x4096, .f32⟩
  | 42 => ⟨S16x4096x4096, .f32⟩
  | 43 => ⟨S16x4096x4096, .f32⟩
  | 44 => ⟨S_, .f32⟩
  | 45 => ⟨S_, .f32⟩
  | 46 => ⟨S16x4096x4096, .i1⟩
  | 47 => ⟨S16x4096x4096, .f32⟩
  | 48 => ⟨S16x4096x4096, .f32⟩
  | 49 => ⟨S_, .f32⟩
  | 50 => ⟨S16x4096x4096, .f32⟩
  | 51 => ⟨S_, .f32⟩
  | 52 => ⟨S16x4096, .f32⟩
  | 53 => ⟨S16x4096x1, .f32⟩
  | 54 => ⟨S16x4096x4096, .f32⟩
  | 55 => ⟨S16x4096x4096, .i1⟩
  | 56 => ⟨S16x4096x4096, .f32⟩
  | 57 => ⟨S_, .f32⟩
  | 58 => ⟨S16x4096, .f32⟩
  | 59 => ⟨S16x4096x1, .f32⟩
  | 60 => ⟨S16x4096x4096, .f32⟩
  | 61 => ⟨S16x4096x4096, .f32⟩
  | 62 => ⟨S16x4096x4096, .f32⟩
  | 63 => ⟨S_, .f32⟩
  | 64 => ⟨S16x4096, .f32⟩
  | 65 => ⟨S16x4096x1, .f32⟩
  | 66 => ⟨S16x4096x4096, .f32⟩
  | 67 => ⟨S16x4096x4096, .f32⟩
  | 68 => ⟨S16x4096x1, .f32⟩
  | 69 => ⟨S_, .f32⟩
  | 70 => ⟨S16x4096x1, .f32⟩
  | 71 => ⟨S16x4096x1, .f32⟩
  | 72 => ⟨S16x64x4096, .f32⟩
  | 73 => ⟨S4096x16x64, .f32⟩
  | 74 => ⟨S16x4096x1, .f32⟩
  | 75 => ⟨S16x4096x1, .f32⟩
  | 76 => ⟨S16x4096, .f32⟩
  | 77 => ⟨S4096x16, .f32⟩
  | 78 => ⟨S4096x1024, .f32⟩
  | 79 => ⟨S4096x1024, .f32⟩
  | 80 => ⟨S4096x16x64, .f32⟩
  | 81 => ⟨S16x4096, .f32⟩
  | 82 => ⟨S16x4096x1, .f32⟩
  | 83 => ⟨S16x4096x1, .f32⟩
  | 84 => ⟨S16x64x4096, .f32⟩
  | 85 => ⟨S16x4096x4096, .f32⟩
  | 86 => ⟨S16x64x4096, .f32⟩
  | 87 => ⟨S4096x16x64, .f32⟩
  | 88 => ⟨S16x4096x4096, .f32⟩
  | 89 => ⟨S16x4096x4096, .f32⟩
  | 90 => ⟨S16x4096x4096, .f32⟩
  | 91 => ⟨S_, .f32⟩
  | 92 => ⟨S16x4096, .f32⟩
  | 93 => ⟨S16x4096x1, .f32⟩
  | 94 => ⟨S16x4096x1, .f32⟩
  | 95 => ⟨S16x4096x1, .f32⟩
  | 96 => ⟨S16x4096x4096, .f32⟩
  | 97 => ⟨S16x4096x4096, .f32⟩
  | 98 => ⟨S_, .f32⟩
  | 99 => ⟨S16x4096, .f32⟩
  | 100 => ⟨S16x4096x4096, .f32⟩
  | 101 => ⟨S16x4096x4096, .f32⟩
  | 102 => ⟨S16x4096x4096, .f32⟩
  | 103 => ⟨S16x4096x4096, .f32⟩
  | 104 => ⟨S_, .f32⟩
  | 105 => ⟨S16x4096, .f32⟩
  | 106 => ⟨S16x4096x1, .f32⟩
  | 107 => ⟨S16x4096x1, .f32⟩
  | 108 => ⟨S_, .f32⟩
  | 109 => ⟨S16x4096, .f32⟩
  | 110 => ⟨S16x4096, .f32⟩
  | 111 => ⟨S16x4096x4096, .f32⟩
  | 112 => ⟨S16x4096x4096, .f32⟩
  | 113 => ⟨S16x4096x4096, .f32⟩
  | 114 => ⟨S_, .f32⟩
  | 115 => ⟨S16x4096x4096, .f32⟩
  | 116 => ⟨S16x4096x4096, .f32⟩
  | 117 => ⟨S_, .f32⟩
  | 118 => ⟨S16x4096x4096, .f32⟩
  | 119 => ⟨S16x4096x4096, .f32⟩
  | 120 => ⟨S16x4096x64, .f32⟩
  | 121 => ⟨S4096x16x64, .f32⟩
  | 122 => ⟨S16x4096x64, .f32⟩
  | 123 => ⟨S4096x16x64, .f32⟩
  | 124 => ⟨S4096x1024, .f32⟩
  | 125 => ⟨S4096x1024, .f32⟩
  | 126 => ⟨S4096x1024, .f32⟩
  | 127 => ⟨S4096x3072, .f32⟩
  | _ => ⟨S4096x3072, .bf16⟩

abbrev hbmTy0_1 (i : Nat) : BufTy := match i % 128 with
  | 0 => ⟨S4096x3072, .bf16⟩
  | 1 => ⟨S256x16x3072, .bf16⟩
  | 2 => ⟨S16x256x3072, .bf16⟩
  | 3 => ⟨S4096x3072, .bf16⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_call0_v0 : Ref sig .tc := ⟨.hbm, 45, rfl⟩
abbrev main_v35_1 : Ref sig .tc := ⟨.hbm, 46, rfl⟩
abbrev main_call0_v2 : Ref sig .tc := ⟨.hbm, 47, rfl⟩
abbrev main_v35_0 : Ref sig .tc := ⟨.hbm, 48, rfl⟩
abbrev main_call0_cst : Ref sig .tc := ⟨.hbm, 49, rfl⟩
abbrev main_v35_2 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_8 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_9 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_10 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_11 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_call1_cst : Ref sig .tc := ⟨.hbm, 114, rfl⟩
abbrev main_call1_v0 : Ref sig .tc := ⟨.hbm, 115, rfl⟩
abbrev main_v91 : Ref sig .tc := ⟨.hbm, 116, rfl⟩
abbrev main_cst_12 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩

abbrev nD : Nat := 1
abbrev τ : Topo := Topo.v7x

variable {F : FTy → Type} [FloatOps F]
-- ==== GDown.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x1024, .bf16⟩
  | .hbm, ⟨11, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GDownRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== DDown.lean ====
abbrev S4096x1024 : Shape := ⟨2, ![4096, 1024]⟩
abbrev S1024x4096 : Shape := ⟨2, ![1024, 4096]⟩
abbrev S1x4096x1024 : Shape := ⟨3, ![1, 4096, 1024]⟩
abbrev S4096x4096 : Shape := ⟨2, ![4096, 4096]⟩
abbrev S_ : Shape := ⟨0, ![]⟩
abbrev S2048x1024 : Shape := ⟨2, ![2048, 1024]⟩
abbrev S1x1024x1024 : Shape := ⟨3, ![1, 1024, 1024]⟩
abbrev S256x1024 : Shape := ⟨2, ![256, 1024]⟩
abbrev S1024x1024 : Shape := ⟨2, ![1024, 1024]⟩

abbrev nBuf : Space → Nat
  | .hbm => 14
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S4096x1024, .bf16⟩
  | .hbm, ⟨6, _⟩ => ⟨S1x4096x1024, .bf16⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | .hbm, ⟨13, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg2 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg1.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DDownRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== GUp.lean ====
abbrev S4096x1024 : Shape := ⟨2, ![4096, 1024]⟩
abbrev S1024x4096 : Shape := ⟨2, ![1024, 4096]⟩
abbrev S4096x4096 : Shape := ⟨2, ![4096, 4096]⟩
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .bf16⟩
  | .hbm, ⟨3, _⟩ => ⟨S4096x1024, .bf16⟩
  | .hbm, ⟨4, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GUpRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .bf16⟩
  | .hbm, ⟨3, _⟩ => ⟨S4096x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DUp.lean ====
abbrev S4096x1024 : Shape := ⟨2, ![4096, 1024]⟩
abbrev S1024x4096 : Shape := ⟨2, ![1024, 4096]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S256x1024 : Shape := ⟨2, ![256, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .bf16⟩
  | .hbm, ⟨3, _⟩ => ⟨S1024x4096, .bf16⟩
  | .hbm, ⟨4, _⟩ => ⟨S1024x4x1024, .bf16⟩
  | .hbm, ⟨5, _⟩ => ⟨S4x1024x1024, .bf16⟩
  | .hbm, ⟨6, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg2 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg1.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DUpRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .bf16⟩
  | .hbm, ⟨3, _⟩ => ⟨S4096x4096, .f32⟩
  | .hbm, ⟨4, _⟩ => ⟨S4096x4096, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Up.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S2048x1024 : Shape := ⟨2, ![2048, 1024]⟩
abbrev S1x1024x1024 : Shape := ⟨3, ![1, 1024, 1024]⟩
abbrev S256x1024 : Shape := ⟨2, ![256, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4096, .bf16⟩
  | .hbm, ⟨4, _⟩ => ⟨S1024x4x1024, .bf16⟩
  | .hbm, ⟨5, _⟩ => ⟨S4x1024x1024, .bf16⟩
  | .hbm, ⟨6, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Down.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1x4096x1024 : Shape := ⟨3, ![1, 4096, 1024]⟩
abbrev S1024x2048 : Shape := ⟨2, ![1024, 2048]⟩
abbrev S1x2048x1024 : Shape := ⟨3, ![1, 2048, 1024]⟩
abbrev S1024x1024 : Shape := ⟨2, ![1024, 1024]⟩
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x1024, .bf16⟩
  | .hbm, ⟨10, _⟩ => ⟨S1x4096x1024, .bf16⟩
  | .hbm, ⟨11, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Spatial.lean ====
abbrev S4096x2048 : Shape := ⟨2, ![4096, 2048]⟩
abbrev S4096x1024 : Shape := ⟨2, ![4096, 1024]⟩
abbrev S1x1024 : Shape := ⟨2, ![1, 1024]⟩
abbrev S16x128x128 : Shape := ⟨3, ![16, 128, 128]⟩
abbrev S16x128 : Shape := ⟨2, ![16, 128]⟩
abbrev S_ : Shape := ⟨0, ![]⟩
abbrev S128x128 : Shape := ⟨2, ![128, 128]⟩
abbrev S8x2x128x128 : Shape := ⟨4, ![8, 2, 128, 128]⟩
abbrev S8x128x2x128 : Shape := ⟨4, ![8, 128, 2, 128]⟩
abbrev S8x128x256 : Shape := ⟨3, ![8, 128, 256]⟩
abbrev S128x16 : Shape := ⟨2, ![128, 16]⟩
abbrev S128x16x64 : Shape := ⟨3, ![128, 16, 64]⟩
abbrev S128x1024 : Shape := ⟨2, ![128, 1024]⟩
abbrev S1x2048 : Shape := ⟨2, ![1, 2048]⟩
abbrev S256x2048 : Shape := ⟨2, ![256, 2048]⟩
abbrev S256x1024 : Shape := ⟨2, ![256, 1024]⟩
abbrev S8x2048 : Shape := ⟨2, ![8, 2048]⟩
abbrev S8x1024 : Shape := ⟨2, ![8, 1024]⟩
abbrev S128 : Shape := ⟨1, ![128]⟩
abbrev S128x1 : Shape := ⟨2, ![128, 1]⟩
abbrev S1x128x256 : Shape := ⟨3, ![1, 128, 256]⟩
abbrev S128x256 : Shape := ⟨2, ![128, 256]⟩
abbrev S256x128 : Shape := ⟨2, ![256, 128]⟩
abbrev S8x128 : Shape := ⟨2, ![8, 128]⟩
abbrev S16x8x128 : Shape := ⟨3, ![16, 8, 128]⟩
abbrev S1x128x128 : Shape := ⟨3, ![1, 128, 128]⟩
abbrev S16x8x1024 : Shape := ⟨3, ![16, 8, 1024]⟩
abbrev S2048 : Shape := ⟨1, ![2048]⟩
abbrev S1024 : Shape := ⟨1, ![1024]⟩

abbrev nBuf : Space → Nat
  | .hbm => 39
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S16x128x128, .f32⟩
  | .hbm, ⟨5, _⟩ => ⟨S16x128, .f32⟩
  | .hbm, ⟨6, _⟩ => ⟨S_, .i1⟩
  | .hbm, ⟨7, _⟩ => ⟨S128x128, .i1⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .i1⟩
  | .hbm, ⟨15, _⟩ => ⟨S128x128, .i1⟩
  | .hbm, ⟨16, _⟩ => ⟨S128x128, .i1⟩
  | .hbm, ⟨17, _⟩ => ⟨S_, .f32⟩
  | .hbm, ⟨18, _⟩ => ⟨S_, .f32⟩
  | .hbm, ⟨19, _⟩ => ⟨S16x128x128, .i1⟩
  | .hbm, ⟨20, _⟩ => ⟨S16x128x128, .f32⟩
  | .hbm, ⟨21, _⟩ => ⟨S16x128x128, .f32⟩
  | .hbm, ⟨22, _⟩ => ⟨S16x128x128, .bf16⟩
  | .hbm, ⟨23, _⟩ => ⟨S8x2x128x128, .bf16⟩
  | .hbm, ⟨24, _⟩ => ⟨S8x128x2x128, .bf16⟩
  | .hbm, ⟨25, _⟩ => ⟨S8x128x256, .bf16⟩
  | .hbm, ⟨26, _⟩ => ⟨S16x128x128, .bf16⟩
  | .hbm, ⟨27, _⟩ => ⟨S8x2x128x128, .bf16⟩
  | .hbm, ⟨28, _⟩ => ⟨S8x128x2x128, .bf16⟩
  | .hbm, ⟨29, _⟩ => ⟨S8x128x256, .bf16⟩
  | .hbm, ⟨30, _⟩ => ⟨S128x16, .f32⟩
  | .hbm, ⟨31, _⟩ => ⟨S128x16x64, .f32⟩
  | .hbm, ⟨32, _⟩ => ⟨S128x1024, .f32⟩
  | .hbm, ⟨33, _⟩ => ⟨S4096x2048, .bf16⟩
  | .hbm, ⟨34, _⟩ => ⟨S16x128x128, .f32⟩
  | .hbm, ⟨35, _⟩ => ⟨S128x1024, .f32⟩
  | .hbm, ⟨36, _⟩ => ⟨S1x2048, .f32⟩
  | .hbm, ⟨37, _⟩ => ⟨S1x1024, .f32⟩
  | .hbm, ⟨38, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S8x128x256, .bf16⟩
  | .local _ .vmem, ⟨7, _⟩ => ⟨S8x128x256, .bf16⟩
  | .local _ .vmem, ⟨8, _⟩ => ⟨S128x1024, .f32⟩
  | .local _ .vmem, ⟨9, _⟩ => ⟨S256x2048, .bf16⟩
  | .local _ .vmem, ⟨10, _⟩ => ⟨S256x2048, .bf16⟩
  | .local _ .vmem, ⟨11, _⟩ => ⟨S16x128x128, .f32⟩
  | .local _ .vmem, ⟨12, _⟩ => ⟨S128x1024, .f32⟩
  | .local _ .vmem, ⟨13, _⟩ => ⟨S1x2048, .f32⟩
  | .local _ .vmem, ⟨14, _⟩ => ⟨S1x1024, .f32⟩
  | .local _ .vmem, ⟨15, _⟩ => ⟨S1x1024, .f32⟩
  | .local _ .vmem, ⟨16, _⟩ => ⟨S128x1024, .f32⟩
  | .local _ .vmem, ⟨17, _⟩ => ⟨S8x2048, .f32⟩
  | .local _ .vmem, ⟨18, _⟩ => ⟨S8x1024, .f32⟩
  | .local _ .vmem, ⟨19, _⟩ => ⟨S8x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v1 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14_0 : Ref sig .tc := ⟨.hbm, 33, rfl⟩
abbrev main_v14_1 : Ref sig .tc := ⟨.hbm, 34, rfl⟩
abbrev main_v14_2 : Ref sig .tc := ⟨.hbm, 35, rfl⟩
abbrev main_v14_3 : Ref sig .tc := ⟨.hbm, 36, rfl⟩
abbrev main_v14_4 : Ref sig .tc := ⟨.hbm, 37, rfl⟩
abbrev main_v14_5 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v1289 : BitVec 1 := Scalar.cmpi .eq arg0 c15_i32
  let v1290 : BitVec 32 := Scalar.extui v1289
  let c0_i32_715 : BitVec 32 := 0#32
  let v1291 : BitVec 1 := Scalar.cmpi .ne v1290 c0_i32_715
  v1291

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== SpatialRefIdeal.lean ====
abbrev S4096x2048 : Shape := ⟨2, ![4096, 2048]⟩
abbrev S4096x1024 : Shape := ⟨2, ![4096, 1024]⟩
abbrev S1x1024 : Shape := ⟨2, ![1, 1024]⟩
abbrev S16x128x128 : Shape := ⟨3, ![16, 128, 128]⟩
abbrev S16x128 : Shape := ⟨2, ![16, 128]⟩
abbrev S_ : Shape := ⟨0, ![]⟩
abbrev S128x128 : Shape := ⟨2, ![128, 128]⟩
abbrev S128x16 : Shape := ⟨2, ![128, 16]⟩
abbrev S128x16x64 : Shape := ⟨3, ![128, 16, 64]⟩
abbrev S128x1024 : Shape := ⟨2, ![128, 1024]⟩
abbrev S4096 : Shape := ⟨1, ![4096]⟩
abbrev S4096x1 : Shape := ⟨2, ![4096, 1]⟩
abbrev S32x128x16x64 : Shape := ⟨4, ![32, 128, 16, 64]⟩
abbrev S16x32x64x128 : Shape := ⟨4, ![16, 32, 64, 128]⟩
abbrev S32x128x1024 : Shape := ⟨3, ![32, 128, 1024]⟩
abbrev S1x128x1024 : Shape := ⟨3, ![1, 128, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S16x128x128, .f32⟩
  | .hbm, ⟨5, _⟩ => ⟨S16x128, .f32⟩
  | .hbm, ⟨6, _⟩ => ⟨S_, .i1⟩
  | .hbm, ⟨7, _⟩ => ⟨S128x128, .i1⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .i1⟩
  | .hbm, ⟨15, _⟩ => ⟨S128x128, .i1⟩
  | .hbm, ⟨16, _⟩ => ⟨S128x128, .i1⟩
  | .hbm, ⟨17, _⟩ => ⟨S_, .f32⟩
  | .hbm, ⟨18, _⟩ => ⟨S_, .f32⟩
  | .hbm, ⟨19, _⟩ => ⟨S16x128x128, .i1⟩
  | .hbm, ⟨20, _⟩ => ⟨S16x128x128, .f32⟩
  | .hbm, ⟨21, _⟩ => ⟨S16x128x128, .f32⟩
  | .hbm, ⟨22, _⟩ => ⟨S128x16, .f32⟩
  | .hbm, ⟨23, _⟩ => ⟨S128x16x64, .f32⟩
  | .hbm, ⟨24, _⟩ => ⟨S128x1024, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S32x128x16x64, .f32⟩
  | .hbm, ⟨72, _⟩ => ⟨S16x32x64x128, .f32⟩
  | .hbm, ⟨73, _⟩ => ⟨S32x128x16x64, .f32⟩
  | .hbm, ⟨74, _⟩ => ⟨S32x128x1024, .f32⟩
  | .hbm, ⟨75, _⟩ => ⟨S1x128x1024, .f32⟩
  | .hbm, ⟨76, _⟩ => ⟨S32x128x1024, .f32⟩
  | .hbm, ⟨77, _⟩ => ⟨S32x128x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S32x128x1024, .f32⟩
  | .hbm, ⟨82, _⟩ => ⟨S_, .f32⟩
  | .hbm, ⟨83, _⟩ => ⟨S128x1024, .f32⟩
  | .hbm, ⟨84, _⟩ => ⟨S1x128x1024, .f32⟩
  | .hbm, ⟨85, _⟩ => ⟨S_, .f32⟩
  | .hbm, ⟨86, _⟩ => ⟨S128x1024, .f32⟩
  | .hbm, ⟨87, _⟩ => ⟨S32x128x16x64, .f32⟩
  | .hbm, ⟨88, _⟩ => ⟨S16x32x64x128, .f32⟩
  | .hbm, ⟨89, _⟩ => ⟨S16x128x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v1 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_cst_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_4 : Ref sig .tc := ⟨.hbm, 44, rfl⟩
abbrev main_v21 : Ref sig .tc := ⟨.hbm, 45, rfl⟩
abbrev main_v22 : Ref sig .tc := ⟨.hbm, 46, rfl⟩
abbrev main_cst_5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_v29 : Ref sig .tc := ⟨.hbm, 55, rfl⟩
abbrev main_cst_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_8 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩

abbrev nD : Nat := 1
abbrev τ : Topo := Topo.v7x

variable {F : FTy → Type} [FloatOps F]
-- ==== Gated.lean ====
abbrev S4096x2048 : Shape := ⟨2, ![4096, 2048]⟩
abbrev S1x1024 : Shape := ⟨2, ![1, 1024]⟩
abbrev S16x128x128 : Shape := ⟨3, ![16, 128, 128]⟩
abbrev S16x128 : Shape := ⟨2, ![16, 128]⟩
abbrev S_ : Shape := ⟨0, ![]⟩
abbrev S128x128 : Shape := ⟨2, ![128, 128]⟩
abbrev S8x2x128x128 : Shape := ⟨4, ![8, 2, 128, 128]⟩
abbrev S8x128x2x128 : Shape := ⟨4, ![8, 128, 2, 128]⟩
abbrev S8x128x256 : Shape := ⟨3, ![8, 128, 256]⟩
abbrev S128x16 : Shape := ⟨2, ![128, 16]⟩
abbrev S128x16x64 : Shape := ⟨3, ![128, 16, 64]⟩
abbrev S128x1024 : Shape := ⟨2, ![128, 1024]⟩
abbrev S4096x1024 : Shape := ⟨2, ![4096, 1024]⟩
abbrev S256x2048 : Shape := ⟨2, ![256, 2048]⟩
abbrev S256x1024 : Shape := ⟨2, ![256, 1024]⟩
abbrev S128 : Shape := ⟨1, ![128]⟩
abbrev S128x1 : Shape := ⟨2, ![128, 1]⟩
abbrev S1x128x256 : Shape := ⟨3, ![1, 128, 256]⟩
abbrev S128x256 : Shape := ⟨2, ![128, 256]⟩
abbrev S256x128 : Shape := ⟨2, ![256, 128]⟩

abbrev nBuf : Space → Nat
  | .hbm => 29
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S1x1024, .f32⟩
  | .hbm, ⟨2, _⟩ => ⟨S1x1024, .f32⟩
  | .hbm, ⟨3, _⟩ => ⟨S16x128x128, .f32⟩
  | .hbm, ⟨4, _⟩ => ⟨S16x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S_, .f32⟩
  | .hbm, ⟨17, _⟩ => ⟨S_, .f32⟩
  | .hbm, ⟨18, _⟩ => ⟨S16x128x128, .i1⟩
  | .hbm, ⟨19, _⟩ => ⟨S16x128x128, .f32⟩
  | .hbm, ⟨20, _⟩ => ⟨S16x128x128, .f32⟩
  | .hbm, ⟨21, _⟩ => ⟨S16x128x128, .bf16⟩
  | .hbm, ⟨22, _⟩ => ⟨S8x2x128x128, .bf16⟩
  | .hbm, ⟨23, _⟩ => ⟨S8x128x2x128, .bf16⟩
  | .hbm, ⟨24, _⟩ => ⟨S8x128x256, .bf16⟩
  | .hbm, ⟨25, _⟩ => ⟨S128x16, .f32⟩
  | .hbm, ⟨26, _⟩ => ⟨S128x16x64, .f32⟩
  | .hbm, ⟨27, _⟩ => ⟨S128x1024, .f32⟩
  | .hbm, ⟨28, _⟩ => ⟨S4096x1024, .bf16⟩
  | .local _ .vmem, ⟨0, _⟩ => ⟨S256x2048, .f32⟩
  | .local _ .vmem, ⟨1, _⟩ => ⟨S256x2048, .f32⟩
  | .local _ .vmem, ⟨2, _⟩ => ⟨S1x1024, .f32⟩
  | .local _ .vmem, ⟨3, _⟩ => ⟨S1x1024, .f32⟩
  | .local _ .vmem, ⟨4, _⟩ => ⟨S8x128x256, .bf16⟩
  | .local _ .vmem, ⟨5, _⟩ => ⟨S128x1024, .f32⟩
  | .local _ .vmem, ⟨6, _⟩ => ⟨S256x1024, .bf16⟩
  | .local _ .vmem, ⟨7, _⟩ => ⟨S256x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GatedRefIdeal.lean ====
abbrev S4096x2048 : Shape := ⟨2, ![4096, 2048]⟩
abbrev S1x1024 : Shape := ⟨2, ![1, 1024]⟩
abbrev S16x128x128 : Shape := ⟨3, ![16, 128, 128]⟩
abbrev S16x128 : Shape := ⟨2, ![16, 128]⟩
abbrev S_ : Shape := ⟨0, ![]⟩
abbrev S128x128 : Shape := ⟨2, ![128, 128]⟩
abbrev S128x16 : Shape := ⟨2, ![128, 16]⟩
abbrev S128x16x64 : Shape := ⟨3, ![128, 16, 64]⟩
abbrev S128x1024 : Shape := ⟨2, ![128, 1024]⟩
abbrev S4096x1024 : Shape := ⟨2, ![4096, 1024]⟩
abbrev S4096 : Shape := ⟨1, ![4096]⟩
abbrev S4096x1 : Shape := ⟨2, ![4096, 1]⟩
abbrev S32x128x16x64 : Shape := ⟨4, ![32, 128, 16, 64]⟩
abbrev S16x32x64x128 : Shape := ⟨4, ![16, 32, 64, 128]⟩
abbrev S32x128x1024 : Shape := ⟨3, ![32, 128, 1024]⟩
abbrev S1x128x1024 : Shape := ⟨3, ![1, 128, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x1024, .f32⟩
  | .hbm, ⟨2, _⟩ => ⟨S1x1024, .f32⟩
  | .hbm, ⟨3, _⟩ => ⟨S16x128x128, .f32⟩
  | .hbm, ⟨4, _⟩ => ⟨S16x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S_, .f32⟩
  | .hbm, ⟨17, _⟩ => ⟨S_, .f32⟩
  | .hbm, ⟨18, _⟩ => ⟨S16x128x128, .i1⟩
  | .hbm, ⟨19, _⟩ => ⟨S16x128x128, .f32⟩
  | .hbm, ⟨20, _⟩ => ⟨S16x128x128, .f32⟩
  | .hbm, ⟨21, _⟩ => ⟨S128x16, .f32⟩
  | .hbm, ⟨22, _⟩ => ⟨S128x16x64, .f32⟩
  | .hbm, ⟨23, _⟩ => ⟨S128x1024, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S32x128x16x64, .f32⟩
  | .hbm, ⟨71, _⟩ => ⟨S16x32x64x128, .f32⟩
  | .hbm, ⟨72, _⟩ => ⟨S32x128x16x64, .f32⟩
  | .hbm, ⟨73, _⟩ => ⟨S32x128x1024, .f32⟩
  | .hbm, ⟨74, _⟩ => ⟨S1x128x1024, .f32⟩
  | .hbm, ⟨75, _⟩ => ⟨S32x128x1024, .f32⟩
  | .hbm, ⟨76, _⟩ => ⟨S32x128x1024, .f32⟩
  | .hbm, ⟨77, _⟩ => ⟨S4096x1024, .f32⟩
  | .hbm, ⟨78, _⟩ => ⟨S4096x1024, .f32⟩
  | .hbm, ⟨79, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== AIn.lean ====
abbrev S4096x1024 : Shape := ⟨2, ![4096, 1024]⟩
abbrev S1024x2048 : Shape := ⟨2, ![1024, 2048]⟩
abbrev S1x2048 : Shape := ⟨2, ![1, 2048]⟩
abbrev S1024x4x512 : Shape := ⟨3, ![1024, 4, 512]⟩
abbrev S4x1024x512 : Shape := ⟨3, ![4, 1024, 512]⟩
abbrev S4096x2048 : Shape := ⟨2, ![4096, 2048]⟩
abbrev S2048x1024 : Shape := ⟨2, ![2048, 1024]⟩
abbrev S1x1024x512 : Shape := ⟨3, ![1, 1024, 512]⟩
abbrev S1x512 : Shape := ⟨2, ![1, 512]⟩
abbrev S2048x512 : Shape := ⟨2, ![2048, 512]⟩
abbrev S256x1024 : Shape := ⟨2, ![256, 1024]⟩
abbrev S1024x512 : Shape := ⟨2, ![1024, 512]⟩
abbrev S256x512 : Shape := ⟨2, ![256, 512]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1x2048, .f32⟩
  | .hbm, ⟨3, _⟩ => ⟨S4096x1024, .bf16⟩
  | .hbm, ⟨4, _⟩ => ⟨S1024x2048, .bf16⟩
  | .hbm, ⟨5, _⟩ => ⟨S1024x4x512, .bf16⟩
  | .hbm, ⟨6, _⟩ => ⟨S4x1024x512, .bf16⟩
  | .hbm, ⟨7, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AInRefIdeal.lean ====
abbrev S4096x1024 : Shape := ⟨2, ![4096, 1024]⟩
abbrev S1024x2048 : Shape := ⟨2, ![1024, 2048]⟩
abbrev S1x2048 : Shape := ⟨2, ![1, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DAIn.lean ====
abbrev S4096x1024 : Shape := ⟨2, ![4096, 1024]⟩
abbrev S1024x2048 : Shape := ⟨2, ![1024, 2048]⟩
abbrev S4096x2048 : Shape := ⟨2, ![4096, 2048]⟩
abbrev S1024x4x512 : Shape := ⟨3, ![1024, 4, 512]⟩
abbrev S4x1024x512 : Shape := ⟨3, ![4, 1024, 512]⟩
abbrev S2048x512 : Shape := ⟨2, ![2048, 512]⟩
abbrev S1x1024x512 : Shape := ⟨3, ![1, 1024, 512]⟩
abbrev S2048x1024 : Shape := ⟨2, ![2048, 1024]⟩
abbrev S256x512 : Shape := ⟨2, ![256, 512]⟩
abbrev S1024x512 : Shape := ⟨2, ![1024, 512]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .bf16⟩
  | .hbm, ⟨3, _⟩ => ⟨S1024x2048, .bf16⟩
  | .hbm, ⟨4, _⟩ => ⟨S1024x4x512, .bf16⟩
  | .hbm, ⟨5, _⟩ => ⟨S4x1024x512, .bf16⟩
  | .hbm, ⟨6, _⟩ => ⟨S4096x1024, .f32⟩
  | .local _ .vmem, ⟨0, _⟩ => ⟨S2048x512, .bf16⟩
  | .local _ .vmem, ⟨1, _⟩ => ⟨S2048x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg2 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg1.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DAInRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GAIn.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .bf16⟩
  | .hbm, ⟨3, _⟩ => ⟨S4096x1024, .bf16⟩
  | .hbm, ⟨4, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GAInRefIdeal.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DOut.lean ====
abbrev S4096x1024 : Shape := ⟨2, ![4096, 1024]⟩
abbrev S1024x1024 : Shape := ⟨2, ![1024, 1024]⟩
abbrev S1x1024x1024 : Shape := ⟨3, ![1, 1024, 1024]⟩
abbrev S2048x1024 : Shape := ⟨2, ![2048, 1024]⟩
abbrev S256x1024 : Shape := ⟨2, ![256, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S1x1024x1024, .bf16⟩
  | .hbm, ⟨6, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .f32⟩
  | .local _ .vmem, ⟨4, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg2 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg1.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOutRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Qkv.lean ====
abbrev S4096x1024 : Shape := ⟨2, ![4096, 1024]⟩
abbrev S1024x9216 : Shape := ⟨2, ![1024, 9216]⟩
abbrev S1024x4x2304 : Shape := ⟨3, ![1024, 4, 2304]⟩
abbrev S4x1024x2304 : Shape := ⟨3, ![4, 1024, 2304]⟩
abbrev S4096x3072 : Shape := ⟨2, ![4096, 3072]⟩
abbrev S2048x1024 : Shape := ⟨2, ![2048, 1024]⟩
abbrev S1x1024x768 : Shape := ⟨3, ![1, 1024, 768]⟩
abbrev S2048x768 : Shape := ⟨2, ![2048, 768]⟩
abbrev S256x1024 : Shape := ⟨2, ![256, 1024]⟩
abbrev S1024x768 : Shape := ⟨2, ![1024, 768]⟩
abbrev S256x768 : Shape := ⟨2, ![256, 768]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x1024, .bf16⟩
  | .hbm, ⟨3, _⟩ => ⟨S1024x9216, .bf16⟩
  | .hbm, ⟨4, _⟩ => ⟨S1024x4x2304, .bf16⟩
  | .hbm, ⟨5, _⟩ => ⟨S4x1024x2304, .bf16⟩
  | .hbm, ⟨6, _⟩ => ⟨S4096x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x768, .bf16⟩
  | .local _ .vmem, ⟨5, _⟩ => ⟨S2048x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi arg1 c8_i32_4
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvIdeal.lean ====
abbrev S4096x1024 : Shape := ⟨2, ![4096, 1024]⟩
abbrev S1024x9216 : Shape := ⟨2, ![1024, 9216]⟩
abbrev S1024x4x2304 : Shape := ⟨3, ![1024, 4, 2304]⟩
abbrev S4x1024x2304 : Shape := ⟨3, ![4, 1024, 2304]⟩
abbrev S4096x3072 : Shape := ⟨2, ![4096, 3072]⟩
abbrev S2048x1024 : Shape := ⟨2, ![2048, 1024]⟩
abbrev S1x1024x768 : Shape := ⟨3, ![1, 1024, 768]⟩
abbrev S2048x768 : Shape := ⟨2, ![2048, 768]⟩
abbrev S256x1024 : Shape := ⟨2, ![256, 1024]⟩
abbrev S1024x768 : Shape := ⟨2, ![1024, 768]⟩
abbrev S256x768 : Shape := ⟨2, ![256, 768]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x1024, .bf16⟩
  | .hbm, ⟨3, _⟩ => ⟨S1024x9216, .bf16⟩
  | .hbm, ⟨4, _⟩ => ⟨S1024x4x2304, .bf16⟩
  | .hbm, ⟨5, _⟩ => ⟨S4x1024x2304, .bf16⟩
  | .hbm, ⟨6, _⟩ => ⟨S4096x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x768, .bf16⟩
  | .local _ .vmem, ⟨5, _⟩ => ⟨S2048x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi arg1 c8_i32_4
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S4096x1024 : Shape := ⟨2, ![4096, 1024]⟩
abbrev S1024x9216 : Shape := ⟨2, ![1024, 9216]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S1024x3072, .f32⟩
  | .hbm, ⟨3, _⟩ => ⟨S4096x3072, .f32⟩
  | .hbm, ⟨4, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DQkv.lean ====
abbrev S4096x1024 : Shape := ⟨2, ![4096, 1024]⟩
abbrev S1024x9216 : Shape := ⟨2, ![1024, 9216]⟩
abbrev S4096x3072 : Shape := ⟨2, ![4096, 3072]⟩
abbrev S1024x4x2304 : Shape := ⟨3, ![1024, 4, 2304]⟩
abbrev S4x1024x2304 : Shape := ⟨3, ![4, 1024, 2304]⟩
abbrev S2048x768 : Shape := ⟨2, ![2048, 768]⟩
abbrev S1x1024x768 : Shape := ⟨3, ![1, 1024, 768]⟩
abbrev S2048x1024 : Shape := ⟨2, ![2048, 1024]⟩
abbrev S256x768 : Shape := ⟨2, ![256, 768]⟩
abbrev S1024x768 : Shape := ⟨2, ![1024, 768]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .bf16⟩
  | .hbm, ⟨3, _⟩ => ⟨S1024x9216, .bf16⟩
  | .hbm, ⟨4, _⟩ => ⟨S1024x4x2304, .bf16⟩
  | .hbm, ⟨5, _⟩ => ⟨S4x1024x2304, .bf16⟩
  | .hbm, ⟨6, _⟩ => ⟨S4096x1024, .f32⟩
  | .local _ .vmem, ⟨0, _⟩ => ⟨S2048x768, .bf16⟩
  | .local _ .vmem, ⟨1, _⟩ => ⟨S2048x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg2 c8_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi arg2 c8_i32_4
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg1.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DQkvIdeal.lean ====
abbrev S4096x1024 : Shape := ⟨2, ![4096, 1024]⟩
abbrev S1024x9216 : Shape := ⟨2, ![1024, 9216]⟩
abbrev S4096x3072 : Shape := ⟨2, ![4096, 3072]⟩
abbrev S1024x4x2304 : Shape := ⟨3, ![1024, 4, 2304]⟩
abbrev S4x1024x2304 : Shape := ⟨3, ![4, 1024, 2304]⟩
abbrev S2048x768 : Shape := ⟨2, ![2048, 768]⟩
abbrev S1x1024x768 : Shape := ⟨3, ![1, 1024, 768]⟩
abbrev S2048x1024 : Shape := ⟨2, ![2048, 1024]⟩
abbrev S256x768 : Shape := ⟨2, ![256, 768]⟩
abbrev S1024x768 : Shape := ⟨2, ![1024, 768]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .bf16⟩
  | .hbm, ⟨3, _⟩ => ⟨S1024x9216, .bf16⟩
  | .hbm, ⟨4, _⟩ => ⟨S1024x4x2304, .bf16⟩
  | .hbm, ⟨5, _⟩ => ⟨S4x1024x2304, .bf16⟩
  | .hbm, ⟨6, _⟩ => ⟨S4096x1024, .f32⟩
  | .local _ .vmem, ⟨0, _⟩ => ⟨S2048x768, .bf16⟩
  | .local _ .vmem, ⟨1, _⟩ => ⟨S2048x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg2 c8_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi arg2 c8_i32_4
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg1.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DQkvRefIdeal.lean ====
abbrev S4096x1024 : Shape := ⟨2, ![4096, 1024]⟩
abbrev S1024x9216 : Shape := ⟨2, ![1024, 9216]⟩
abbrev S4096x3072 : Shape := ⟨2, ![4096, 3072]⟩
abbrev S1024x3072 : Shape := ⟨2, ![1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .bf16⟩
  | .hbm, ⟨3, _⟩ => ⟨S1024x3072, .f32⟩
  | .hbm, ⟨4, _⟩ => ⟨S4096x3072, .f32⟩
  | .hbm, ⟨5, _⟩ => ⟨S4096x3072, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Qkv0.lean ====
abbrev S4096x1024 : Shape := ⟨2, ![4096, 1024]⟩
abbrev S1024x9216 : Shape := ⟨2, ![1024, 9216]⟩
abbrev S1024x4x2304 : Shape := ⟨3, ![1024, 4, 2304]⟩
abbrev S4x1024x2304 : Shape := ⟨3, ![4, 1024, 2304]⟩
abbrev S4096x3072 : Shape := ⟨2, ![4096, 3072]⟩
abbrev S2048x1024 : Shape := ⟨2, ![2048, 1024]⟩
abbrev S1x1024x768 : Shape := ⟨3, ![1, 1024, 768]⟩
abbrev S2048x768 : Shape := ⟨2, ![2048, 768]⟩
abbrev S256x1024 : Shape := ⟨2, ![256, 1024]⟩
abbrev S1024x768 : Shape := ⟨2, ![1024, 768]⟩
abbrev S256x768 : Shape := ⟨2, ![256, 768]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x1024, .bf16⟩
  | .hbm, ⟨3, _⟩ => ⟨S1024x9216, .bf16⟩
  | .hbm, ⟨4, _⟩ => ⟨S1024x4x2304, .bf16⟩
  | .hbm, ⟨5, _⟩ => ⟨S4x1024x2304, .bf16⟩
  | .hbm, ⟨6, _⟩ => ⟨S4096x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x768, .bf16⟩
  | .local _ .vmem, ⟨5, _⟩ => ⟨S2048x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c3_i32 : BitVec 32 := 3#32
  let v1 : BitVec 32 := Scalar.divsi v0 c3_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi v0 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg1 c0_i32_5
  let c3_i32_6 : BitVec 32 := 3#32
  let c0_i32_7 : BitVec 32 := 0#32
  let v19 : BitVec 1 := Scalar.cmpi .eq c3_i32_6 c0_i32_7
  let c1_i32_8 : BitVec 32 := 1#32
  let v20 : BitVec 32 := Scalar.select v19 c1_i32_8 c3_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Qkv0Ideal.lean ====
abbrev S4096x1024 : Shape := ⟨2, ![4096, 1024]⟩
abbrev S1024x9216 : Shape := ⟨2, ![1024, 9216]⟩
abbrev S1024x4x2304 : Shape := ⟨3, ![1024, 4, 2304]⟩
abbrev S4x1024x2304 : Shape := ⟨3, ![4, 1024, 2304]⟩
abbrev S4096x3072 : Shape := ⟨2, ![4096, 3072]⟩
abbrev S2048x1024 : Shape := ⟨2, ![2048, 1024]⟩
abbrev S1x1024x768 : Shape := ⟨3, ![1, 1024, 768]⟩
abbrev S2048x768 : Shape := ⟨2, ![2048, 768]⟩
abbrev S256x1024 : Shape := ⟨2, ![256, 1024]⟩
abbrev S1024x768 : Shape := ⟨2, ![1024, 768]⟩
abbrev S256x768 : Shape := ⟨2, ![256, 768]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x1024, .bf16⟩
  | .hbm, ⟨3, _⟩ => ⟨S1024x9216, .bf16⟩
  | .hbm, ⟨4, _⟩ => ⟨S1024x4x2304, .bf16⟩
  | .hbm, ⟨5, _⟩ => ⟨S4x1024x2304, .bf16⟩
  | .hbm, ⟨6, _⟩ => ⟨S4096x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x768, .bf16⟩
  | .local _ .vmem, ⟨5, _⟩ => ⟨S2048x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c3_i32 : BitVec 32 := 3#32
  let v1 : BitVec 32 := Scalar.divsi v0 c3_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi v0 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg1 c0_i32_5
  let c3_i32_6 : BitVec 32 := 3#32
  let c0_i32_7 : BitVec 32 := 0#32
  let v19 : BitVec 1 := Scalar.cmpi .eq c3_i32_6 c0_i32_7
  let c1_i32_8 : BitVec 32 := 1#32
  let v20 : BitVec 32 := Scalar.select v19 c1_i32_8 c3_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Qkv0RefIdeal.lean ====
abbrev S4096x1024 : Shape := ⟨2, ![4096, 1024]⟩
abbrev S1024x9216 : Shape := ⟨2, ![1024, 9216]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S1024x3072, .f32⟩
  | .hbm, ⟨3, _⟩ => ⟨S4096x3072, .f32⟩
  | .hbm, ⟨4, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DQkv0.lean ====
abbrev S4096x1024 : Shape := ⟨2, ![4096, 1024]⟩
abbrev S1024x9216 : Shape := ⟨2, ![1024, 9216]⟩
abbrev S4096x3072 : Shape := ⟨2, ![4096, 3072]⟩
abbrev S1024x4x2304 : Shape := ⟨3, ![1024, 4, 2304]⟩
abbrev S4x1024x2304 : Shape := ⟨3, ![4, 1024, 2304]⟩
abbrev S2048x768 : Shape := ⟨2, ![2048, 768]⟩
abbrev S1x1024x768 : Shape := ⟨3, ![1, 1024, 768]⟩
abbrev S2048x1024 : Shape := ⟨2, ![2048, 1024]⟩
abbrev S256x768 : Shape := ⟨2, ![256, 768]⟩
abbrev S1024x768 : Shape := ⟨2, ![1024, 768]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .bf16⟩
  | .hbm, ⟨3, _⟩ => ⟨S1024x9216, .bf16⟩
  | .hbm, ⟨4, _⟩ => ⟨S1024x4x2304, .bf16⟩
  | .hbm, ⟨5, _⟩ => ⟨S4x1024x2304, .bf16⟩
  | .hbm, ⟨6, _⟩ => ⟨S4096x1024, .f32⟩
  | .local _ .vmem, ⟨0, _⟩ => ⟨S2048x768, .bf16⟩
  | .local _ .vmem, ⟨1, _⟩ => ⟨S2048x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c3_i32 : BitVec 32 := 3#32
  let v1 : BitVec 32 := Scalar.divsi v0 c3_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi v0 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg2 c0_i32_5
  let c3_i32_6 : BitVec 32 := 3#32
  let c0_i32_7 : BitVec 32 := 0#32
  let v19 : BitVec 1 := Scalar.cmpi .eq c3_i32_6 c0_i32_7
  let c1_i32_8 : BitVec 32 := 1#32
  let v20 : BitVec 32 := Scalar.select v19 c1_i32_8 c3_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v17.toNat, arg1.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DQkv0Ideal.lean ====
abbrev S4096x1024 : Shape := ⟨2, ![4096, 1024]⟩
abbrev S1024x9216 : Shape := ⟨2, ![1024, 9216]⟩
abbrev S4096x3072 : Shape := ⟨2, ![4096, 3072]⟩
abbrev S1024x4x2304 : Shape := ⟨3, ![1024, 4, 2304]⟩
abbrev S4x1024x2304 : Shape := ⟨3, ![4, 1024, 2304]⟩
abbrev S2048x768 : Shape := ⟨2, ![2048, 768]⟩
abbrev S1x1024x768 : Shape := ⟨3, ![1, 1024, 768]⟩
abbrev S2048x1024 : Shape := ⟨2, ![2048, 1024]⟩
abbrev S256x768 : Shape := ⟨2, ![256, 768]⟩
abbrev S1024x768 : Shape := ⟨2, ![1024, 768]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .bf16⟩
  | .hbm, ⟨3, _⟩ => ⟨S1024x9216, .bf16⟩
  | .hbm, ⟨4, _⟩ => ⟨S1024x4x2304, .bf16⟩
  | .hbm, ⟨5, _⟩ => ⟨S4x1024x2304, .bf16⟩
  | .hbm, ⟨6, _⟩ => ⟨S4096x1024, .f32⟩
  | .local _ .vmem, ⟨0, _⟩ => ⟨S2048x768, .bf16⟩
  | .local _ .vmem, ⟨1, _⟩ => ⟨S2048x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c3_i32 : BitVec 32 := 3#32
  let v1 : BitVec 32 := Scalar.divsi v0 c3_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi v0 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg2 c0_i32_5
  let c3_i32_6 : BitVec 32 := 3#32
  let c0_i32_7 : BitVec 32 := 0#32
  let v19 : BitVec 1 := Scalar.cmpi .eq c3_i32_6 c0_i32_7
  let c1_i32_8 : BitVec 32 := 1#32
  let v20 : BitVec 32 := Scalar.select v19 c1_i32_8 c3_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v17.toNat, arg1.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DQkv0RefIdeal.lean ====
abbrev S4096x1024 : Shape := ⟨2, ![4096, 1024]⟩
abbrev S1024x9216 : Shape := ⟨2, ![1024, 9216]⟩
abbrev S4096x3072 : Shape := ⟨2, ![4096, 3072]⟩
abbrev S1024x3072 : Shape := ⟨2, ![1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .bf16⟩
  | .hbm, ⟨3, _⟩ => ⟨S1024x3072, .f32⟩
  | .hbm, ⟨4, _⟩ => ⟨S4096x3072, .f32⟩
  | .hbm, ⟨5, _⟩ => ⟨S4096x3072, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Qkv1.lean ====
abbrev S4096x1024 : Shape := ⟨2, ![4096, 1024]⟩
abbrev S1024x9216 : Shape := ⟨2, ![1024, 9216]⟩
abbrev S1024x4x2304 : Shape := ⟨3, ![1024, 4, 2304]⟩
abbrev S4x1024x2304 : Shape := ⟨3, ![4, 1024, 2304]⟩
abbrev S4096x3072 : Shape := ⟨2, ![4096, 3072]⟩
abbrev S2048x1024 : Shape := ⟨2, ![2048, 1024]⟩
abbrev S1x1024x768 : Shape := ⟨3, ![1, 1024, 768]⟩
abbrev S2048x768 : Shape := ⟨2, ![2048, 768]⟩
abbrev S256x1024 : Shape := ⟨2, ![256, 1024]⟩
abbrev S1024x768 : Shape := ⟨2, ![1024, 768]⟩
abbrev S256x768 : Shape := ⟨2, ![256, 768]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x1024, .bf16⟩
  | .hbm, ⟨3, _⟩ => ⟨S1024x9216, .bf16⟩
  | .hbm, ⟨4, _⟩ => ⟨S1024x4x2304, .bf16⟩
  | .hbm, ⟨5, _⟩ => ⟨S4x1024x2304, .bf16⟩
  | .hbm, ⟨6, _⟩ => ⟨S4096x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x768, .bf16⟩
  | .local _ .vmem, ⟨5, _⟩ => ⟨S2048x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.addi arg1 c4_i32_4
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Qkv1RefIdeal.lean ====
abbrev S4096x1024 : Shape := ⟨2, ![4096, 1024]⟩
abbrev S1024x9216 : Shape := ⟨2, ![1024, 9216]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S1024x3072, .f32⟩
  | .hbm, ⟨3, _⟩ => ⟨S4096x3072, .f32⟩
  | .hbm, ⟨4, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DQkv1.lean ====
abbrev S4096x1024 : Shape := ⟨2, ![4096, 1024]⟩
abbrev S1024x9216 : Shape := ⟨2, ![1024, 9216]⟩
abbrev S4096x3072 : Shape := ⟨2, ![4096, 3072]⟩
abbrev S1024x4x2304 : Shape := ⟨3, ![1024, 4, 2304]⟩
abbrev S4x1024x2304 : Shape := ⟨3, ![4, 1024, 2304]⟩
abbrev S2048x768 : Shape := ⟨2, ![2048, 768]⟩
abbrev S1x1024x768 : Shape := ⟨3, ![1, 1024, 768]⟩
abbrev S2048x1024 : Shape := ⟨2, ![2048, 1024]⟩
abbrev S256x768 : Shape := ⟨2, ![256, 768]⟩
abbrev S1024x768 : Shape := ⟨2, ![1024, 768]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .bf16⟩
  | .hbm, ⟨3, _⟩ => ⟨S1024x9216, .bf16⟩
  | .hbm, ⟨4, _⟩ => ⟨S1024x4x2304, .bf16⟩
  | .hbm, ⟨5, _⟩ => ⟨S4x1024x2304, .bf16⟩
  | .hbm, ⟨6, _⟩ => ⟨S4096x1024, .f32⟩
  | .local _ .vmem, ⟨0, _⟩ => ⟨S2048x768, .bf16⟩
  | .local _ .vmem, ⟨1, _⟩ => ⟨S2048x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.addi arg2 c4_i32_4
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg1.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DQkv1RefIdeal.lean ====
abbrev S4096x1024 : Shape := ⟨2, ![4096, 1024]⟩
abbrev S1024x9216 : Shape := ⟨2, ![1024, 9216]⟩
abbrev S4096x3072 : Shape := ⟨2, ![4096, 3072]⟩
abbrev S1024x3072 : Shape := ⟨2, ![1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .bf16⟩
  | .hbm, ⟨3, _⟩ => ⟨S1024x3072, .f32⟩
  | .hbm, ⟨4, _⟩ => ⟨S4096x3072, .f32⟩
  | .hbm, ⟨5, _⟩ => ⟨S4096x3072, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GQkv1.lean ====
abbrev S4096x1024 : Shape := ⟨2, ![4096, 1024]⟩
abbrev S1024x9216 : Shape := ⟨2, ![1024, 9216]⟩
abbrev S4096x3072 : Shape := ⟨2, ![4096, 3072]⟩
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .bf16⟩
  | .hbm, ⟨3, _⟩ => ⟨S1024x9216, .bf16⟩
  | .hbm, ⟨4, _⟩ => ⟨S4096x1024, .bf16⟩
  | .hbm, ⟨5, _⟩ => ⟨S1024x9216, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GQkv1Ideal.lean ====
  let c3_i32 : BitVec 32 := 3#32
  let v0 : BitVec 32 := Scalar.addi arg1 c3_i32
-- ==== GQkv1RefIdeal.lean ====
abbrev S4096x1024 : Shape := ⟨2, ![4096, 1024]⟩
abbrev S1024x9216 : Shape := ⟨2, ![1024, 9216]⟩
abbrev S4096x3072 : Shape := ⟨2, ![4096, 3072]⟩
abbrev S1024x3072 : Shape := ⟨2, ![1024, 3072]⟩
abbrev S3072x1024 : Shape := ⟨2, ![3072, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .bf16⟩
  | .hbm, ⟨3, _⟩ => ⟨S1024x9216, .bf16⟩
  | .hbm, ⟨4, _⟩ => ⟨S1024x3072, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | .hbm, ⟨10, _⟩ => ⟨S1024x3072, .bf16⟩
  | .hbm, ⟨11, _⟩ => ⟨S1024x3072, .bf16⟩
  | .hbm, ⟨12, _⟩ => ⟨S1024x9216, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GQkv2.lean ====
abbrev S4096x1024 : Shape := ⟨2, ![4096, 1024]⟩
abbrev S1024x9216 : Shape := ⟨2, ![1024, 9216]⟩
abbrev S4096x3072 : Shape := ⟨2, ![4096, 3072]⟩
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .bf16⟩
  | .hbm, ⟨3, _⟩ => ⟨S1024x9216, .bf16⟩
  | .hbm, ⟨4, _⟩ => ⟨S4096x1024, .bf16⟩
  | .hbm, ⟨5, _⟩ => ⟨S1024x9216, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg1 c6_i32
  let c0_i32 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GQkv2RefIdeal.lean ====
abbrev S4096x1024 : Shape := ⟨2, ![4096, 1024]⟩
abbrev S1024x9216 : Shape := ⟨2, ![1024, 9216]⟩
abbrev S4096x3072 : Shape := ⟨2, ![4096, 3072]⟩
abbrev S1024x3072 : Shape := ⟨2, ![1024, 3072]⟩
abbrev S3072x1024 : Shape := ⟨2, ![3072, 1024]⟩
abbrev S1024x6144 : Shape := ⟨2, ![1024, 6144]⟩
abbrev S1024x0 : Shape := ⟨2, ![1024, 0]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .bf16⟩
  | .hbm, ⟨3, _⟩ => ⟨S1024x9216, .bf16⟩
  | .hbm, ⟨4, _⟩ => ⟨S1024x3072, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x6144, .bf16⟩
  | .hbm, ⟨10, _⟩ => ⟨S1024x3072, .bf16⟩
  | .hbm, ⟨11, _⟩ => ⟨S1024x0, .bf16⟩
  | .hbm, ⟨12, _⟩ => ⟨S1024x9216, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GAOut.lean ====
abbrev S4096x1024 : Shape := ⟨2, ![4096, 1024]⟩
abbrev S1024x1024 : Shape := ⟨2, ![1024, 1024]⟩
abbrev S2048x1024 : Shape := ⟨2, ![2048, 1024]⟩
abbrev S2048x256 : Shape := ⟨2, ![2048, 256]⟩
abbrev S256x1024 : Shape := ⟨2, ![256, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GAOutRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GBOut.lean ====
abbrev S4096x1024 : Shape := ⟨2, ![4096, 1024]⟩
abbrev S1024x1024 : Shape := ⟨2, ![1024, 1024]⟩
abbrev S1024x256 : Shape := ⟨2, ![1024, 256]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GBOutRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AOut.lean ====
abbrev S4096x1024 : Shape := ⟨2, ![4096, 1024]⟩
abbrev S1024x1024 : Shape := ⟨2, ![1024, 1024]⟩
abbrev S1x1024 : Shape := ⟨2, ![1, 1024]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .bf16⟩
  | .hbm, ⟨9, _⟩ => ⟨S1024x1024, .bf16⟩
  | .hbm, ⟨10, _⟩ => ⟨S1x1024x1024, .bf16⟩
  | .hbm, ⟨11, _⟩ => ⟨S4096x1024, .f32⟩
  | .hbm, ⟨12, _⟩ => ⟨S4096x1024, .f32⟩
  | .hbm, ⟨13, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== AOutRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== BOut.lean ====
abbrev S4096x1024 : Shape := ⟨2, ![4096, 1024]⟩
abbrev S1024x1024 : Shape := ⟨2, ![1024, 1024]⟩
abbrev S1x1024 : Shape := ⟨2, ![1, 1024]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S1x1024x1024, .bf16⟩
  | .hbm, ⟨10, _⟩ => ⟨S4096x1024, .f32⟩
  | .hbm, ⟨11, _⟩ => ⟨S4096x1024, .f32⟩
  | .hbm, ⟨12, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== BOutRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Join.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S8x1024 : Shape := ⟨2, ![8, 1024]⟩
abbrev S512x1024 : Shape := ⟨2, ![512, 1024]⟩
abbrev S64x8x1024 : Shape := ⟨3, ![64, 8, 1024]⟩
abbrev S512 : Shape := ⟨1, ![512]⟩
abbrev S512x1 : Shape := ⟨2, ![512, 1]⟩
abbrev S1024 : Shape := ⟨1, ![1024]⟩

abbrev nBuf : Space → Nat
  | .hbm => 46
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | .hbm, ⟨44, _⟩ => ⟨S8x1024, .f32⟩
  | .hbm, ⟨45, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S8x1024, .f32⟩
  | .local _ .vmem, ⟨18, _⟩ => ⟨S8x1024, .f32⟩
  | .local _ .vmem, ⟨19, _⟩ => ⟨S8x1024, .f32⟩
  | .local _ .vmem, ⟨20, _⟩ => ⟨S8x1024, .f32⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev main_v27_3 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v102 : BitVec 1 := Scalar.cmpi .eq arg0 c7_i32
  let v103 : BitVec 32 := Scalar.extui v102
  let c0_i32_58 : BitVec 32 := 0#32
  let v104 : BitVec 1 := Scalar.cmpi .ne v103 c0_i32_58
  v104

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== JoinRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S6x1024 : Shape := ⟨2, ![6, 1024]⟩
abbrev S8x1024 : Shape := ⟨2, ![8, 1024]⟩
abbrev S5x1024 : Shape := ⟨2, ![5, 1024]⟩

abbrev nBuf : Space → Nat
  | .hbm => 123
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S4096x1024, .f32⟩
  | .hbm, ⟨82, _⟩ => ⟨S4096x1024, .f32⟩
  | .hbm, ⟨83, _⟩ => ⟨S4096x1, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S_, .f32⟩
  | .hbm, ⟨97, _⟩ => ⟨S4096, .f32⟩
  | .hbm, ⟨98, _⟩ => ⟨S4096x1, .f32⟩
  | .hbm, ⟨99, _⟩ => ⟨S4096x1024, .f32⟩
  | .hbm, ⟨100, _⟩ => ⟨S4096x1, .f32⟩
  | .hbm, ⟨101, _⟩ => ⟨S_, .f32⟩
  | .hbm, ⟨102, _⟩ => ⟨S4096x1, .f32⟩
  | .hbm, ⟨103, _⟩ => ⟨S4096x1, .f32⟩
  | .hbm, ⟨104, _⟩ => ⟨S_, .f32⟩
  | .hbm, ⟨105, _⟩ => ⟨S4096, .f32⟩
  | .hbm, ⟨106, _⟩ => ⟨S4096x1024, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S_, .f32⟩
  | .hbm, ⟨112, _⟩ => ⟨S1024, .f32⟩
  | .hbm, ⟨113, _⟩ => ⟨S1x1024, .f32⟩
  | .hbm, ⟨114, _⟩ => ⟨S_, .f32⟩
  | .hbm, ⟨115, _⟩ => ⟨S4096x1024, .f32⟩
  | .hbm, ⟨116, _⟩ => ⟨S4096x1024, .f32⟩
  | .hbm, ⟨117, _⟩ => ⟨S_, .f32⟩
  | .hbm, ⟨118, _⟩ => ⟨S6x1024, .f32⟩
  | .hbm, ⟨119, _⟩ => ⟨S4096x1024, .bf16⟩
  | .hbm, ⟨120, _⟩ => ⟨S8x1024, .f32⟩
  | .hbm, ⟨121, _⟩ => ⟨S5x1024, .f32⟩
  | .hbm, ⟨122, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_17 : Ref sig .tc := ⟨.hbm, 101, rfl⟩
abbrev main_v74 : Ref sig .tc := ⟨.hbm, 102, rfl⟩
abbrev main_v75 : Ref sig .tc := ⟨.hbm, 103, rfl⟩
abbrev main_cst_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_19 : Ref sig .tc := ⟨.hbm, 111, rfl⟩
abbrev main_v82 : Ref sig .tc := ⟨.hbm, 112, rfl⟩
abbrev main_v83 : Ref sig .tc := ⟨.hbm, 113, rfl⟩
abbrev main_cst_20 : Ref sig .tc := ⟨.hbm, 114, rfl⟩
abbrev main_v84 : Ref sig .tc := ⟨.hbm, 115, rfl⟩
abbrev main_v85 : Ref sig .tc := ⟨.hbm, 116, rfl⟩
abbrev main_cst_21 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]
-- ==== Proof.Tile.lean ====
module

public import Idealize.ShloMosaic.Lib.Pipeline.ValueKit
public import Idealize.ShloMosaic.Lib.ValueIdx
public import Idealize.ShloMosaic.Lib.Pipeline.ReadBack
public import Idealize.ShloMosaic.PureOps.Ideal.Laws

/-! # One pass of the backward call's inner loop

The body of the backward call treats, for one block of 128 rows of a stream and one group of four heads, the keys of the
block against two blocks of queries: the block itself ("current") and the next block of the stream ("next"). The two
blocks and the two heads of a pair are stacked into 512 rows, the two pairs of heads lie side by side in 256 lanes. Here the
pass is written once as a function of the blocks it loads (`In`), over any interpretation of the floats; `Window.lean`
reads it over the extended reals. -/

@[expose] public section
noncomputable section
namespace Cert.Tile
open Idealize.ShloMosaic Idealize.ShloMosaic.TcCoe

abbrev S128x1 : Shape := ⟨2, ![128, 1]⟩
abbrev S128x128 : Shape := ⟨2, ![128, 128]⟩
abbrev S128x256 : Shape := ⟨2, ![128, 256]⟩
abbrev S256x256 : Shape := ⟨2, ![256, 256]⟩
abbrev S512x128 : Shape := ⟨2, ![512, 128]⟩
abbrev S512x256 : Shape := ⟨2, ![512, 256]⟩
abbrev S1x1x512x128 : Shape := ⟨4, ![1, 1, 512, 128]⟩

variable {F : FTy → Type} [FloatOps F]

/-- What one pass loads: per pair of heads the block's keys and values, the two blocks' queries and output cotangents, the
    rows' log-sums and corrected sums (all heads, in lanes), and per pair the table of biases of the two blocks. -/
structure In (F : FTy → Type) where
  kA : Vec F S128x128 .bf16
  kB : Vec F S128x128 .bf16
  vA : Vec F S128x128 .bf16
  vB : Vec F S128x128 .bf16
  qc : Vec F S128x256 .bf16
  qn : Vec F S128x256 .bf16
  gc : Vec F S128x256 .bf16
  gn : Vec F S128x256 .bf16
  lc : Vec F S128x128 .f32
  ln : Vec F S128x128 .f32
  dc : Vec F S128x128 .f32
  dn : Vec F S128x128 .f32
  tA : Vec F S1x1x512x128 .f32
  tB : Vec F S1x1x512x128 .f32

/-! ## Which head of its pair a lane belongs to -/

/-- The lane modulo 128, as the floor remainder is spelled. -/
def laneRem : IVec S128x256 32 :=
  let n : BitVec 32 := Scalar.select (Scalar.cmpi .eq 128#32 0#32) 1#32 128#32
  let r : IVec S128x256 32 := remsi (iota .tc S128x256 32 [1]) (broadcast S128x256 n)
  select (andi (xori (cmpi .slt r (broadcast S128x256 0#32))
      (broadcastTo S128x256 (broadcast S128x256 (Scalar.cmpi .slt n 0#32))))
      (cmpi .ne r (broadcast S128x256 0#32))) (addi r (broadcast S128x256 n)) r

/-- The truncated quotient of that by 64. -/
def laneQuot : IVec S128x256 32 := divsi laneRem (broadcast S128x256 64#32)

/-- Whether the truncated quotient is one more than the floor. -/
def laneFix : IVec S128x256 1 :=
  andi (cmpi .ne
      (subi (extui 32 (cmpi .sgt laneRem (broadcast S128x256 0#32))) (extui 32 (cmpi .slt laneRem (broadcast S128x256 0#32))))
      (broadcast S128x256 (Scalar.subi (Scalar.extui (Scalar.cmpi .sgt 64#32 0#32)) (Scalar.extui (Scalar.cmpi .slt 64#32 0#32)))))
    (cmpi .ne (remsi laneRem (broadcast S128x256 64#32)) (broadcast S128x256 0#32))

/-- The head of its pair a lane belongs to. -/
def headOfLane : IVec S128x256 32 := select laneFix (subi laneQuot (broadcast S128x256 1#32)) laneQuot

/-- The lanes of head `h` of their pair. -/
def laneIs (h : BitVec 32) : IVec S128x256 1 := cmpi .eq headOfLane (broadcast S128x256 h)

/-! ## The stacked operands -/

def zeroBlk : FVec F S128x128 .bf16 := broadcast S128x128 (Scalar.ofBits .bf16 0x0000#16)

/-- Four blocks of 128 rows, stacked. -/
def rows4 {α : Type} {n : Nat} (h : Shape.Concatenates [⟨2, ![128, n]⟩, ⟨2, ![128, n]⟩, ⟨2, ![128, n]⟩, ⟨2, ![128, n]⟩] ⟨2, ![512, n]⟩ 0)
    (a b c d : Shape.Idx ⟨2, ![128, n]⟩ → α) : Shape.Idx ⟨2, ![512, n]⟩ → α :=
  concatenate ⟨2, ![512, n]⟩ 0 [⟨⟨2, ![128, n]⟩, a⟩, ⟨⟨2, ![128, n]⟩, b⟩, ⟨⟨2, ![128, n]⟩, c⟩, ⟨⟨2, ![128, n]⟩, d⟩] h

/-- Two blocks of 128 lanes, side by side. -/
def lanes2 {α : Type} {n : Nat} (h : Shape.Concatenates [⟨2, ![n, 128]⟩, ⟨2, ![n, 128]⟩] ⟨2, ![n, 256]⟩ 1)
    (a b : Shape.Idx ⟨2, ![n, 128]⟩ → α) : Shape.Idx ⟨2, ![n, 256]⟩ → α :=
  concatenate ⟨2, ![n, 256]⟩ 1 [⟨⟨2, ![n, 128]⟩, a⟩, ⟨⟨2, ![n, 128]⟩, b⟩] h

theorem rows4_256 : Shape.Concatenates [S128x256, S128x256, S128x256, S128x256] S512x256 0 := by decide
theorem rows4_128 : Shape.Concatenates [S128x128, S128x128, S128x128, S128x128] S512x128 0 := by decide
theorem lanes2_128 : Shape.Concatenates [S128x128, S128x128] S128x256 1 := by decide
theorem lanes2_512 : Shape.Concatenates [S512x128, S512x128] S512x256 1 := by decide
theorem rows2_256 : Shape.Concatenates [S128x256, S128x256] S256x256 0 := by decide

/-- Two 128 × 128 blocks on the diagonal of a 256 × 256 block. -/
def diag (a b : Vec F S128x128 .bf16) : FVec F S256x256 .bf16 :=
  concatenate S256x256 0
    [⟨S128x256, lanes2 lanes2_128 (shapeCast S128x128 a) (zeroBlk (F := F))⟩,
     ⟨S128x256, lanes2 lanes2_128 (zeroBlk (F := F)) (shapeCast S128x128 b)⟩] rows2_256

/-- A block with the lanes outside head `h` of each pair zeroed. -/
def onHead (h : BitVec 32) (a : Vec F S128x256 .bf16) : FVec F S128x256 .bf16 :=
  select (laneIs h) (shapeCast S128x256 a) (broadcast S128x256 (Scalar.ofBits .bf16 0x0000#16))

/-- Current and next block, each once per head of a pair, stacked. -/
def stack (a b : Vec F S128x256 .bf16) : FVec F S512x256 .bf16 :=
  rows4 rows4_256 (onHead 0#32 a) (onHead 1#32 a) (onHead 0#32 b) (onHead 1#32 b)

/-- The bias of the two pairs, side by side. -/
def bias (a b : Vec F S1x1x512x128 .f32) : FVec F S512x256 .f32 :=
  lanes2 lanes2_512 (shapeCast S512x128 a) (shapeCast S512x128 b)

/-- Lane `o` of a block, spread over 128 lanes. -/
def col (a : FVec F S128x128 .f32) (o : Nat) (h : S128x128.Slices ![0, o] S128x1) : FVec F S128x128 .f32 :=
  broadcastTo S128x128 (shapeCast S128x1 (extractStridedSlice S128x1 ![0, o] a h))

/-- Four columns of a pair of heads, stacked in the rows' order. -/
def colStack (a b : FVec F S128x128 .f32) (o o' : Nat) (h : S128x128.Slices ![0, o] S128x1) (h' : S128x128.Slices ![0, o'] S128x1) :
    FVec F S512x128 .f32 :=
  rows4 rows4_128 (col a o h) (col a o' h') (col b o h) (col b o' h')

theorem slices_col (o : Nat) (h : o < 128) : S128x128.Slices ![0, o] S128x1 :=
  ⟨rfl, fun a => by fin_cases a <;> simp <;> omega⟩

/-- A per-row number of the four heads `o … o + 3`, spread over the rows and lanes of the stacked pass. -/
def colPairs (a b : Vec F S128x128 .f32) (o : Nat) (h : o + 3 < 128) : FVec F S512x256 .f32 :=
  lanes2 lanes2_512
    (colStack (shapeCast S128x128 a) (shapeCast S128x128 b) o (o + 1) (slices_col o (by omega)) (slices_col (o + 1) (by omega)))
    (colStack (shapeCast S128x128 a) (shapeCast S128x128 b) (o + 2) (o + 3) (slices_col (o + 2) (by omega)) (slices_col (o + 3) h))

/-! ## The products -/

/-- Both operands contracted on their second axis. -/
def dotRows : DotDims S512x256 S256x256 S512x256 := ⟨[1], [1], [0], [0], [], [], by decide⟩
/-- The ordinary product. -/
def dotPlain : DotDims S512x256 S256x256 S512x256 := ⟨[1], [0], [0], [1], [], [], by decide⟩
/-- Both operands contracted on their first axis. -/
def dotCols : DotDims S512x128 S512x128 S128x128 := ⟨[0], [0], [1], [1], [], [], by decide⟩

/-- Scores and bias. -/
def score (I : In F) : FVec F S512x256 .f32 :=
  addf (matmul dotRows none (mulf (stack I.qc I.qn) (broadcast S512x256 (Scalar.ofBits .bf16 0x3E00#16))) (diag I.kA I.kB)
    (constant S512x256 .f32 0x00000000#32)) (bias I.tA I.tB)

/-- The attention weights. -/
def prob (I : In F) (o : Nat) (h : o + 3 < 128) : FVec F S512x256 .f32 := exp (subf (score I) (colPairs I.lc I.ln o h))

/-- The cotangent of the scores. -/
def dscore (I : In F) (o : Nat) (h : o + 3 < 128) : FVec F S512x256 .f32 :=
  mulf (prob I o h) (subf (matmul dotRows none (stack I.gc I.gn) (diag I.vA I.vB) (constant S512x256 .f32 0x00000000#32))
    (colPairs I.dc I.dn o h))

/-- The products of the scores' cotangent with the keys. -/
def dqAll (I : In F) (o : Nat) (h : o + 3 < 128) : FVec F S512x256 .f32 :=
  matmul dotPlain none (truncf .bf16 (dscore I o h)) (diag I.kA I.kB) (constant S512x256 .f32 0x00000000#32)

/-- What the pass leaves for the next block's query gradient. -/
def carryOut (I : In F) (o : Nat) (h : o + 3 < 128) : FVec F S128x256 .f32 :=
  shapeCast S128x256 (select (laneIs 0#32) (extractStridedSlice S128x256 ![256, 0] (dqAll I o h))
    (extractStridedSlice S128x256 ![384, 0] (dqAll I o h)))

/-- The query gradient of the current block, with what the block before left. -/
def dqOut (I : In F) (o : Nat) (h : o + 3 < 128) (carry : Vec F S128x256 .f32) : FVec F S128x256 .bf16 :=
  truncf .bf16 (mulf (addf (select (laneIs 0#32) (extractStridedSlice S128x256 ![0, 0] (dqAll I o h))
    (extractStridedSlice S128x256 ![128, 0] (dqAll I o h))) carry) (broadcast S128x256 (Scalar.ofBits .f32 0x3E000000#32)))

theorem slices_pair (p : Fin 2) : S512x256.Slices ![0, 128 * p.val] S512x128 := by
  fin_cases p <;> decide

/-- The key gradient of pair `p`. -/
def dkOut (I : In F) (o : Nat) (h : o + 3 < 128) (p : Fin 2) : FVec F S128x128 .bf16 :=
  truncf .bf16 (mulf (matmul dotCols none
    (truncf .bf16 (extractStridedSlice S512x128 ![0, 128 * p.val] (dscore I o h) (slices_pair p)))
    (extractStridedSlice S512x128 ![0, 128 * p.val] (stack I.qc I.qn) (slices_pair p))
    (constant S128x128 .f32 0x00000000#32)) (broadcast S128x128 (Scalar.ofBits .f32 0x3E000000#32)))

/-- The value gradient of pair `p`. -/
def dvOut (I : In F) (o : Nat) (h : o + 3 < 128) (p : Fin 2) : FVec F S128x128 .bf16 :=
  truncf .bf16 (matmul dotCols none
    (truncf .bf16 (extractStridedSlice S512x128 ![0, 128 * p.val] (prob I o h) (slices_pair p)))
    (extractStridedSlice S512x128 ![0, 128 * p.val] (stack I.gc I.gn) (slices_pair p))
    (constant S128x128 .f32 0x00000000#32))

/-! ## A block of rows of the result

The result's columns are the three gradients side by side; a group of four heads owns 256 columns of each. -/

/-- An index of a matrix is determined by its two coordinates. -/
theorem eq_ix2_of {a b : Nat} (x : Shape.Idx ⟨2, ![a, b]⟩) (i : Fin a) (j : Fin b) (h0 : (x 0).val = i.val) (h1 : (x 1).val = j.val) :
    x = ValueIdx.ix2 i j := by
  obtain rfl : x 0 = i := Fin.ext h0
  obtain rfl : x 1 = j := Fin.ext h1
  exact ValueIdx.eq_ix2 x

theorem head_lt (g : Fin 4) : 4 * g.val + 3 < 128 := by have := g.isLt; omega

/-- Block row `s` and column `c` of the result, from the passes' loads `I` and what each found in the carry. -/
def outAt {n : Nat} (I : Fin n → Fin 4 → In F) (car : Fin n → Fin 4 → Vec F S128x256 .f32)
    (y : Shape.Idx ⟨2, ![128 * n, 3072]⟩) : F .bf16 :=
  have h0 : (y 0).val < 128 * n := (y 0).isLt
  have h1 : (y 1).val < 3072 := (y 1).isLt
  let s : Fin n := ⟨(y 0).val / 128, by omega⟩
  let r : Fin 128 := ⟨(y 0).val % 128, by omega⟩
  let g : Fin 4 := ⟨(y 1).val % 1024 / 256, by omega⟩
  if (y 1).val < 1024 then
    dqOut (I s g) (4 * g.val) (head_lt g) (car s g) (ValueIdx.ix2 r ⟨(y 1).val % 256, by omega⟩)
  else if (y 1).val < 2048 then
    dkOut (I s g) (4 * g.val) (head_lt g) ⟨(y 1).val / 128 % 2, by omega⟩ (ValueIdx.ix2 r ⟨(y 1).val % 128, by omega⟩)
  else
    dvOut (I s g) (4 * g.val) (head_lt g) ⟨(y 1).val / 128 % 2, by omega⟩ (ValueIdx.ix2 r ⟨(y 1).val % 128, by omega⟩)

section Out
variable {n : Nat} (I : Fin n → Fin 4 → In F) (car : Fin n → Fin 4 → Vec F S128x256 .f32)
  (y : Shape.Idx ⟨2, ![128 * n, 3072]⟩) (r o : Nat) (hr : r % 128 = 0)

include hr in
/-- The columns of the query gradient. -/
theorem outAt_dq (x : S128x256.Idx) (h0 : (y 0).val = r + (x 0).val) (h1 : (y 1).val = o + (x 1).val) (hn : r / 128 < n)
    (ho : o < 1024 ∧ o % 256 = 0) :
    dqOut (I ⟨r / 128, hn⟩ ⟨o / 256, by omega⟩) (4 * (o / 256)) (by omega) (car ⟨r / 128, hn⟩ ⟨o / 256, by omega⟩) x
      = outAt I car y := by
  have hx0 : (x 0).val < 128 := (x 0).isLt
  have hx1 : (x 1).val < 256 := (x 1).isLt
  have e1 : (y 0).val / 128 = r / 128 := by omega
  have e2 : (y 1).val % 1024 / 256 = o / 256 := by omega
  have e3 : x = ValueIdx.ix2 (⟨(y 0).val % 128, by omega⟩ : Fin 128) (⟨(y 1).val % 256, by omega⟩ : Fin 256) := by
    exact eq_ix2_of x _ _ (by dsimp only; omega) (by dsimp only; omega)
  unfold outAt
  rw [if_pos (by omega), ← e3]
  simp only [e1, e2]

include hr in
/-- The columns of the key gradient. -/
theorem outAt_dk (x : S128x128.Idx) (h0 : (y 0).val = r + (x 0).val) (h1 : (y 1).val = o + (x 1).val) (hn : r / 128 < n)
    (ho : 1024 ≤ o ∧ o < 2048 ∧ o % 128 = 0) :
    dkOut (I ⟨r / 128, hn⟩ ⟨(o - 1024) / 256, by omega⟩) (4 * ((o - 1024) / 256)) (by omega) ⟨o / 128 % 2, by omega⟩ x
      = outAt I car y := by
  have hx0 : (x 0).val < 128 := (x 0).isLt
  have hx1 : (x 1).val < 128 := (x 1).isLt
  have e1 : (y 0).val / 128 = r / 128 := by omega
  have e2 : (y 1).val % 1024 / 256 = (o - 1024) / 256 := by omega
  have e4 : (y 1).val / 128 % 2 = o / 128 % 2 := by omega
  have e3 : x = ValueIdx.ix2 (⟨(y 0).val % 128, by omega⟩ : Fin 128) (⟨(y 1).val % 128, by omega⟩ : Fin 128) := by
    exact eq_ix2_of x _ _ (by dsimp only; omega) (by dsimp only; omega)
  unfold outAt
  rw [if_neg (by omega), if_pos (by omega), ← e3]
  simp only [e1, e2, e4]

include hr in
/-- The columns of the value gradient. -/
theorem outAt_dv (x : S128x128.Idx) (h0 : (y 0).val = r + (x 0).val) (h1 : (y 1).val = o + (x 1).val) (hn : r / 128 < n)
    (ho : 2048 ≤ o ∧ o < 3072 ∧ o % 128 = 0) :
    dvOut (I ⟨r / 128, hn⟩ ⟨(o - 2048) / 256, by omega⟩) (4 * ((o - 2048) / 256)) (by omega) ⟨o / 128 % 2, by omega⟩ x
      = outAt I car y := by
  have hx0 : (x 0).val < 128 := (x 0).isLt
  have hx1 : (x 1).val < 128 := (x 1).isLt
  have e1 : (y 0).val / 128 = r / 128 := by omega
  have e2 : (y 1).val % 1024 / 256 = (o - 2048) / 256 := by omega
  have e4 : (y 1).val / 128 % 2 = o / 128 % 2 := by omega
  have e3 : x = ValueIdx.ix2 (⟨(y 0).val % 128, by omega⟩ : Fin 128) (⟨(y 1).val % 128, by omega⟩ : Fin 128) := by
    exact eq_ix2_of x _ _ (by dsimp only; omega) (by dsimp only; omega)
  unfold outAt
  rw [if_neg (by omega), if_neg (by omega), ← e3]
  simp only [e1, e2, e4]

/-! The same for a store through a box of the result block. -/

section Pieces
variable (inb : ∀ a, (![r, o] : Fin 2 → Nat) a + (![128, 128] : Fin 2 → Nat) a ≤ (⟨2, ![128 * n, 3072]⟩ : Shape).size a)
  (inb' : ∀ a, (![r, o] : Fin 2 → Nat) a + (![128, 256] : Fin 2 → Nat) a ≤ (⟨2, ![128 * n, 3072]⟩ : Shape).size a)

theorem emb_val {R C r o w : Nat} (inb : ∀ a, (![r, o] : Fin 2 → Nat) a + (![128, w] : Fin 2 → Nat) a ≤ (⟨2, ![R, C]⟩ : Shape).size a)
    (x : Shape.Idx ⟨2, ![128, w]⟩) :
    (((Rect.unit (s := ⟨2, ![R, C]⟩) ![r, o] ![128, w] inb).emb x) 0).val = r + (x 0).val
      ∧ (((Rect.unit (s := ⟨2, ![R, C]⟩) ![r, o] ![128, w] inb).emb x) 1).val = o + (x 1).val :=
  ⟨Rect.idx_unit_val (s := ⟨2, ![R, C]⟩) ![r, o] ![128, w] inb x (0 : Fin 2), Rect.idx_unit_val (s := ⟨2, ![R, C]⟩) ![r, o] ![128, w] inb x (1 : Fin 2)⟩

include hr in
theorem piece_dq (w : S128x256.Idx → F .bf16) (hn : r / 128 < n) (ho : o < 1024 ∧ o % 256 = 0)
    (hw : w = dqOut (I ⟨r / 128, hn⟩ ⟨o / 256, by omega⟩) (4 * (o / 256)) (by omega) (car ⟨r / 128, hn⟩ ⟨o / 256, by omega⟩)) :
    ∀ x : S128x256.Idx, w x = outAt I car ((Rect.unit (s := ⟨2, ![128 * n, 3072]⟩) ![r, o] ![128, 256] inb').emb x) := fun x => by
  rw [hw]; exact outAt_dq I car _ r o hr x (emb_val inb' x).1 (emb_val inb' x).2 hn ho

include hr in
theorem piece_dk (w : S128x128.Idx → F .bf16) (hn : r / 128 < n) (ho : 1024 ≤ o ∧ o < 2048 ∧ o % 128 = 0)
    (hw : w = dkOut (I ⟨r / 128, hn⟩ ⟨(o - 1024) / 256, by omega⟩) (4 * ((o - 1024) / 256)) (by omega) ⟨o / 128 % 2, by omega⟩) :
    ∀ x : S128x128.Idx, w x = outAt I car ((Rect.unit (s := ⟨2, ![128 * n, 3072]⟩) ![r, o] ![128, 128] inb).emb x) := fun x => by
  rw [hw]; exact outAt_dk I car _ r o hr x (emb_val inb x).1 (emb_val inb x).2 hn ho

include hr in
theorem piece_dv (w : S128x128.Idx → F .bf16) (hn : r / 128 < n) (ho : 2048 ≤ o ∧ o < 3072 ∧ o % 128 = 0)
    (hw : w = dvOut (I ⟨r / 128, hn⟩ ⟨(o - 2048) / 256, by omega⟩) (4 * ((o - 2048) / 256)) (by omega) ⟨o / 128 % 2, by omega⟩) :
    ∀ x : S128x128.Idx, w x = outAt I car ((Rect.unit (s := ⟨2, ![128 * n, 3072]⟩) ![r, o] ![128, 128] inb).emb x) := fun x => by
  rw [hw]; exact outAt_dv I car _ r o hr x (emb_val inb x).1 (emb_val inb x).2 hn ho

end Pieces
end Out

/-- What the passes of one block leave in the carry. -/
def carryAt (I : Fin 4 → In F) (y : Shape.Idx ⟨2, ![128, 1024]⟩) : F .f32 :=
  have h1 : (y 1).val < 1024 := (y 1).isLt
  let g : Fin 4 := ⟨(y 1).val / 256, by omega⟩
  carryOut (I g) (4 * g.val) (head_lt g) (ValueIdx.ix2 (n0 := 128) (y 0) ⟨(y 1).val % 256, by omega⟩)

theorem carryAt_eq (I : Fin 4 → In F) (y : Shape.Idx ⟨2, ![128, 1024]⟩) (o : Nat) (x : S128x256.Idx)
    (h0 : (y 0).val = 0 + (x 0).val) (h1 : (y 1).val = o + (x 1).val) (ho : o < 1024 ∧ o % 256 = 0) :
    carryOut (I ⟨o / 256, by omega⟩) (4 * (o / 256)) (by omega) x = carryAt I y := by
  have hx0 : (x 0).val < 128 := (x 0).isLt
  have hx1 : (x 1).val < 256 := (x 1).isLt
  have e2 : (y 1).val / 256 = o / 256 := by omega
  have e3 : x = ValueIdx.ix2 (n0 := 128) (y 0) (⟨(y 1).val % 256, by omega⟩ : Fin 256) := by
    exact eq_ix2_of x _ _ (by dsimp only; omega) (by dsimp only; omega)
  unfold carryAt
  rw [← e3]
  simp only [e2]

theorem piece_carry (I : Fin 4 → In F) (o : Nat)
    (inb : ∀ a, (![0, o] : Fin 2 → Nat) a + (![128, 256] : Fin 2 → Nat) a ≤ (⟨2, ![128, 1024]⟩ : Shape).size a)
    (w : S128x256.Idx → F .f32) (ho : o < 1024 ∧ o % 256 = 0)
    (hw : w = carryOut (I ⟨o / 256, by omega⟩) (4 * (o / 256)) (by omega)) :
    ∀ x : S128x256.Idx, w x = carryAt I ((Rect.unit (s := ⟨2, ![128, 1024]⟩) ![0, o] ![128, 256] inb).emb x) := fun x => by
  rw [hw]; exact carryAt_eq I _ o x (emb_val inb x).1 (emb_val inb x).2 ho

/-- Stores that are blocks of `G` and cover the buffer leave `G`, whatever was stored before them. -/
theorem canon_eq {Val : EltTy → Type} [∀ e, Nonempty (Val e)] {s : Shape} {e : EltTy} (G : s.Idx → Val e) (L L' : List (View.Piece Val s e))
    (h : View.PiecesOf G L) (hc : ∀ y, ∃ p ∈ L, y ∈ p.1.set) (y : s.Idx) : View.canon (L ++ L') y = G y :=
  View.canon_append_of_piecesOf G L' L h y (hc y)

theorem pieces_cons {Val : EltTy → Type} {s : Shape} {e : EltTy} (G : s.Idx → Val e) (p : View.Piece Val s e) (L : List (View.Piece Val s e))
    (h : ∀ x : p.1.shape.Idx, p.2 x = G (p.1.emb x)) (hL : View.PiecesOf G L) : View.PiecesOf G (p :: L) := ⟨h, hL⟩

theorem pieces_nil {Val : EltTy → Type} {s : Shape} {e : EltTy} (G : s.Idx → Val e) : View.PiecesOf G [] := trivial

/-- Stores that are blocks of `G` and cover the buffer leave `G`. -/
theorem canon_all {Val : EltTy → Type} [∀ e, Nonempty (Val e)] {s : Shape} {e : EltTy} (G : s.Idx → Val e) (L : List (View.Piece Val s e))
    (h : View.PiecesOf G L) (hc : ∀ y, ∃ p ∈ L, y ∈ p.1.set) (y : s.Idx) : View.canon L y = G y := by
  rw [← List.append_nil L]; exact canon_eq G L [] h hc y

end Cert.Tile
-- ==== Proof.Window.lean ====
module

public import proofs.«01_k».proof.Proof.Tile

/-! # One pass, read over the extended reals

Every number that a pass of `Tile.lean` leaves is a sum over one window of 128 keys or over two windows of 128 queries: the
zeroed lanes and the off-diagonal blocks of the stacked operands contribute nothing. -/

@[expose] public section
noncomputable section
namespace Cert.Tile
open Idealize.ShloMosaic hiding ix1 ix2 ix3 ix4 eq_ix2 eq_ix3
open Idealize.ShloMosaic.TcCoe Idealize.ShloMosaic.ValueIdx

/-! ## Coordinates -/

/-- The row of the stacked pass that is row `r` of window `w` (0 current, 1 next) for head `h` of a pair. -/
def row (w h : Fin 2) (r : Fin 128) : Fin 512 := ⟨r.val + 128 * (h.val + 2 * w.val), by omega⟩
/-- The lane of the two pairs that is lane `x` of pair `p`. -/
def lane (p : Fin 2) (x : Fin 128) : Fin 256 := ⟨x.val + 128 * p.val, by omega⟩
/-- The lane of a pair that is component `e` of head `h`. -/
def comp (h : Fin 2) (e : Fin 64) : Fin 128 := ⟨e.val + 64 * h.val, by omega⟩
/-- The head of its pair that lane `x` belongs to. -/
def headOf (x : Fin 128) : Fin 2 := ⟨x.val / 64, by omega⟩

theorem headOf_comp (h : Fin 2) (e : Fin 64) : headOf (comp h e) = h := Fin.ext (by simp only [headOf, comp]; omega)

section Sums
variable {M : Type} [AddCommMonoid M]

theorem sum_blocks (a b : Nat) (f : Fin (a * b) → M) :
    ∑ x, f x = ∑ i : Fin a, ∑ j : Fin b, f ⟨j.val + b * i.val, by
      have := i.isLt; have := j.isLt; calc j.val + b * i.val < b + b * i.val := by omega
        _ = b * (i.val + 1) := by ring
        _ ≤ b * a := Nat.mul_le_mul_left b (by omega)
        _ = a * b := Nat.mul_comm _ _⟩ := by
  rw [← Equiv.sum_comp finProdFinEquiv, Fintype.sum_prod_type]; rfl

theorem sum_lanes (f : Fin 256 → M) : ∑ x, f x = ∑ p : Fin 2, ∑ x : Fin 128, f (lane p x) := sum_blocks 2 128 f
theorem sum_comps (f : Fin 128 → M) : ∑ x, f x = ∑ h : Fin 2, ∑ e : Fin 64, f (comp h e) := sum_blocks 2 64 f
theorem sum_rows (f : Fin 512 → M) : ∑ x, f x = ∑ w : Fin 2, ∑ h : Fin 2, ∑ r : Fin 128, f (row w h r) := by
  have e := sum_blocks 4 128 f
  rw [e, sum_blocks 2 2]
  refine Finset.sum_congr rfl fun w _ => Finset.sum_congr rfl fun h _ => Finset.sum_congr rfl fun r _ => ?_
  exact congrArg f (Fin.ext (by simp only [row]))

end Sums

/-! ## The stacked operands at an index -/

section Read
variable {α : Type} {n : Nat}

theorem rows4_at (H : Shape.Concatenates [⟨2, ![128, n]⟩, ⟨2, ![128, n]⟩, ⟨2, ![128, n]⟩, ⟨2, ![128, n]⟩] ⟨2, ![512, n]⟩ 0)
    (a b : Fin 2 → Shape.Idx ⟨2, ![128, n]⟩ → α) (w h : Fin 2) (r : Fin 128) (x : Fin n) :
    rows4 H (a 0) (a 1) (b 0) (b 1) (ix2 (row w h r) x) = (if w = 0 then a h else b h) (ix2 r x) := by
  unfold rows4
  have hi : ∀ q : Fin (2 : Nat), q ≠ 0 → ((ix2 r x : Shape.Idx ⟨2, ![128, n]⟩) q).val = ((ix2 (row w h r) x : Shape.Idx ⟨2, ![512, n]⟩) q).val := by
    intro q hq; fin_cases q
    · exact absurd rfl hq
    · rfl
  let X : List ((s : Shape) × (s.Idx → α)) :=
    [⟨⟨2, ![128, n]⟩, a 0⟩, ⟨⟨2, ![128, n]⟩, a 1⟩, ⟨⟨2, ![128, n]⟩, b 0⟩, ⟨⟨2, ![128, n]⟩, b 1⟩]
  fin_cases w <;> fin_cases h
  · exact concatenate_apply_piece (t := ⟨2, ![512, n]⟩) 0 X H _ 0 (by show _ < 4; omega) _ (a 0) rfl rfl 0 rfl (ix2 r x) hi (by show 0 + r.val = r.val + 0; omega)
  · exact concatenate_apply_piece (t := ⟨2, ![512, n]⟩) 0 X H _ 1 (by show _ < 4; omega) _ (a 1) rfl rfl 128 rfl (ix2 r x) hi (by show 128 + r.val = r.val + 128; omega)
  · exact concatenate_apply_piece (t := ⟨2, ![512, n]⟩) 0 X H _ 2 (by show _ < 4; omega) _ (b 0) rfl rfl 256 rfl (ix2 r x) hi (by show 256 + r.val = r.val + 256; omega)
  · exact concatenate_apply_piece (t := ⟨2, ![512, n]⟩) 0 X H _ 3 (by show _ < 4; omega) _ (b 1) rfl rfl 384 rfl (ix2 r x) hi (by show 384 + r.val = r.val + 384; omega)

theorem lanes2_at (H : Shape.Concatenates [⟨2, ![n, 128]⟩, ⟨2, ![n, 128]⟩] ⟨2, ![n, 256]⟩ 1)
    (a b : Shape.Idx ⟨2, ![n, 128]⟩ → α) (p : Fin 2) (r : Fin n) (x : Fin 128) :
    lanes2 H a b (ix2 r (lane p x)) = (if p = 0 then a else b) (ix2 r x) := by
  unfold lanes2
  fin_cases p
  · exact concatenate_pair_apply_left _ _ _ H _ rfl (ix2 r x) (fun q => by fin_cases q <;> rfl)
  · exact concatenate_pair_apply_right _ _ _ H _ rfl rfl (ix2 r x)
      (fun q hq => by fin_cases q; · rfl
                      · exact absurd rfl hq) rfl

end Read

theorem headOfLane_eq : ∀ x : Fin 256, headOfLane (ix2 (0 : Fin 128) x) = BitVec.ofNat 32 (x.val % 128 / 64) := by
  decide +kernel

theorem headOfLane_row (r : Fin 128) (x : Fin 256) : headOfLane (ix2 r x) = headOfLane (ix2 (0 : Fin 128) x) := rfl

theorem laneIs_at (h : Fin 2) (r : Fin 128) (p : Fin 2) (x : Fin 128) :
    laneIs (BitVec.ofNat 32 h.val) (ix2 r (lane p x)) = if headOf x = h then 1#1 else 0#1 := by
  have e : laneIs (BitVec.ofNat 32 h.val) (ix2 r (lane p x))
      = Scalar.cmpi .eq (headOfLane (ix2 r (lane p x))) (BitVec.ofNat 32 h.val) := rfl
  rw [e, headOfLane_row, headOfLane_eq]
  have e2 : (lane p x).val % 128 / 64 = (headOf x).val := by simp only [lane, headOf]; omega
  rw [e2]
  generalize headOf x = h'
  clear e
  revert h h'; decide

/-- A select on a decided bit. -/
theorem select_bit {α : Type} (P : Prop) [Decidable P] (a b : α) : Scalar.select (if P then 1#1 else 0#1) a b = if P then a else b := by
  split <;> rfl

theorem zero_bf16 : (Scalar.ofBits .bf16 0x0000#16 : Ideal .bf16) = (0 : EReal) := by
  show Ideal.ofBits .bf16 0x0000#16 = 0
  simp [Ideal.ofBits, Ideal.ieee]

theorem onHead_at (h : Fin 2) (a : Vec Ideal S128x256 .bf16) (r : Fin 128) (p : Fin 2) (x : Fin 128) :
    (onHead (BitVec.ofNat 32 h.val) a (ix2 r (lane p x)) : EReal) = if headOf x = h then a (ix2 r (lane p x)) else 0 := by
  unfold onHead
  rw [select_apply, laneIs_at, select_bit, shapeCast_self]
  exact if_congr Iff.rfl rfl zero_bf16

theorem stack_at (a b : Vec Ideal S128x256 .bf16) (w h : Fin 2) (r : Fin 128) (p : Fin 2) (x : Fin 128) :
    (stack a b (ix2 (row w h r) (lane p x)) : EReal) = if headOf x = h then (if w = 0 then a else b) (ix2 r (lane p x)) else 0 := by
  have e := rows4_at rows4_256 (fun h : Fin 2 => onHead (BitVec.ofNat 32 h.val) a) (fun h : Fin 2 => onHead (BitVec.ofNat 32 h.val) b) w h r (lane p x)
  refine Eq.trans e ?_
  by_cases hw : w = 0
  · simp only [if_pos hw]; exact onHead_at h a r p x
  · simp only [if_neg hw]; exact onHead_at h b r p x

theorem diag_at (a b : Vec Ideal S128x128 .bf16) (p q : Fin 2) (j x : Fin 128) :
    (diag a b (ix2 (lane p j) (lane q x)) : EReal) = if p = q then (if p = 0 then a else b) (ix2 j x) else 0 := by
  have z : ∀ i, (zeroBlk (F := Ideal) i : EReal) = 0 := fun _ => zero_bf16
  unfold diag
  fin_cases p
  · refine (concatenate_pair_apply_left _ _ _ rows2_256 _ rfl (ix2 j (lane q x)) (fun k => by fin_cases k <;> rfl)).trans ?_
    refine (lanes2_at lanes2_128 _ _ q j x).trans ?_
    fin_cases q
    · simp [shapeCast_self]
    · simp [z]
  · refine (concatenate_pair_apply_right (t := S256x256) 0 _ _ rows2_256 _ rfl rfl (ix2 j (lane q x)) ?_ rfl).trans ?_
    · intro k hk
      fin_cases k
      · exact absurd rfl hk
      · rfl
    refine (lanes2_at lanes2_128 _ _ q j x).trans ?_
    fin_cases q
    · simp [z]
    · simp [shapeCast_self]

theorem bias_at (a b : Vec Ideal S1x1x512x128 .f32) (R : Fin 512) (p : Fin 2) (j : Fin 128) :
    bias a b (ix2 R (lane p j)) = (if p = 0 then a else b) (ix4 0 0 R j) := by
  have e : ∀ c : Vec Ideal S1x1x512x128 .f32, shapeCast S512x128 c (by decide) (ix2 R j) = c (ix4 0 0 R j) := fun c =>
    shapeCast_apply c _ _ _ (by simp [Shape.rowMajor_val_four, Shape.rowMajor_val_two])
  refine (lanes2_at lanes2_512 _ _ p R j).trans ?_
  by_cases hp : p = 0
  · simp only [if_pos hp]; exact e a
  · simp only [if_neg hp]; exact e b

theorem col_at (a : FVec Ideal S128x128 .f32) (o : Nat) (ho : o < 128) (h : S128x128.Slices ![0, o] S128x1) (r j : Fin 128) :
    col a o h (ix2 r j) = a (ix2 r ⟨o, ho⟩) := by
  unfold col
  refine (broadcastTo_apply _ _ (ix2 r j) (ix2 r (0 : Fin 1)) (fun k => by fin_cases k <;> rfl)).trans ?_
  rw [shapeCast_self]
  exact extractStridedSlice_apply _ _ h _ (ix2 r ⟨o, ho⟩) (fun k => by fin_cases k <;> simp [ix2])

theorem colPairs_at (a b : Vec Ideal S128x128 .f32) (o : Nat) (ho : o + 3 < 128) (w h : Fin 2) (r : Fin 128) (p : Fin 2) (j : Fin 128) :
    colPairs a b o ho (ix2 (row w h r) (lane p j)) = (if w = 0 then a else b) (ix2 r ⟨o + 2 * p.val + h.val, by omega⟩) := by
  have e : ∀ (o' : Nat) (h0 : S128x128.Slices ![0, o'] S128x1) (h1 : S128x128.Slices ![0, o' + 1] S128x1) (ho' : o' + 1 < 128),
      colStack (F := Ideal) (shapeCast S128x128 a) (shapeCast S128x128 b) o' (o' + 1) h0 h1 (ix2 (row w h r) j)
        = (if w = 0 then a else b) (ix2 r ⟨o' + h.val, by omega⟩) := by
    intro o' h0 h1 ho'
    have H : ∀ (h : Fin 2) (c : FVec Ideal S128x128 .f32),
        (if h = 0 then col c o' h0 else col c (o' + 1) h1) (ix2 r j) = c (ix2 r ⟨o' + h.val, by omega⟩) := by
      intro h c; fin_cases h
      · exact col_at c o' (by omega) h0 r j
      · exact col_at c (o' + 1) ho' h1 r j
    rw [shapeCast_self, shapeCast_self]
    refine (rows4_at rows4_128 (fun h : Fin 2 => if h = 0 then col (F := Ideal) a o' h0 else col (F := Ideal) a (o' + 1) h1)
      (fun h : Fin 2 => if h = 0 then col (F := Ideal) b o' h0 else col (F := Ideal) b (o' + 1) h1) w h r j).trans ?_
    by_cases hw : w = 0
    · simp only [if_pos hw]; exact H h a
    · simp only [if_neg hw]; exact H h b
  refine (lanes2_at lanes2_512 _ _ p (row w h r) j).trans ?_
  fin_cases p
  · exact e o _ _ (by omega)
  · exact e (o + 2) _ _ (by omega)

/-! ## The products at an index -/

theorem dotRows_at {φ ψ : FTy} (a : FVec Ideal S512x256 φ) (b : FVec Ideal S256x256 ψ) (R : Fin 512) (C : Fin 256) :
    (matmul dotRows none a b (constant S512x256 .f32 0x00000000#32) (ix2 R C) : EReal) = ∑ x : Fin 256, (a (ix2 R x) : EReal) * b (ix2 C x) := by
  simp only [matmul]
  rw [Ideal.matmul_constant_zero_apply, ← Equiv.sum_comp (contrEquiv1 dotRows 256 rfl rfl).symm]
  refine Finset.sum_congr rfl fun k _ => ?_
  have hk := contrEquiv1_symm_val dotRows 256 rfl rfl k
  congr 1
  · exact congrArg a (eq_ix2_of _ _ _ rfl hk)
  · exact congrArg b (eq_ix2_of _ _ _ rfl hk)

theorem dotPlain_at {φ ψ : FTy} (a : FVec Ideal S512x256 φ) (b : FVec Ideal S256x256 ψ) (R : Fin 512) (C : Fin 256) :
    (matmul dotPlain none a b (constant S512x256 .f32 0x00000000#32) (ix2 R C) : EReal) = ∑ x : Fin 256, (a (ix2 R x) : EReal) * b (ix2 x C) := by
  simp only [matmul]
  rw [Ideal.matmul_constant_zero_apply, ← Equiv.sum_comp (contrEquiv1 dotPlain 256 rfl rfl).symm]
  refine Finset.sum_congr rfl fun k _ => ?_
  have hk := contrEquiv1_symm_val dotPlain 256 rfl rfl k
  congr 1
  · exact congrArg a (eq_ix2_of _ _ _ rfl hk)
  · exact congrArg b (eq_ix2_of _ _ _ hk rfl)

theorem dotCols_at {φ ψ : FTy} (a : FVec Ideal S512x128 φ) (b : FVec Ideal S512x128 ψ) (j y : Fin 128) :
    (matmul dotCols none a b (constant S128x128 .f32 0x00000000#32) (ix2 j y) : EReal) = ∑ x : Fin 512, (a (ix2 x j) : EReal) * b (ix2 x y) := by
  simp only [matmul]
  rw [Ideal.matmul_constant_zero_apply, ← Equiv.sum_comp (contrEquiv1 dotCols 512 rfl rfl).symm]
  refine Finset.sum_congr rfl fun k _ => ?_
  have hk := contrEquiv1_symm_val dotCols 512 rfl rfl k
  congr 1
  · exact congrArg a (eq_ix2_of _ _ _ hk rfl)
  · exact congrArg b (eq_ix2_of _ _ _ hk rfl)

/-- A number times a stacked row's entries: only the lanes of the row's head count. -/
theorem sum_head (h : Fin 2) (f g : Fin 128 → EReal) (c : EReal → EReal) (hc : c 0 = 0) :
    ∑ x : Fin 128, c (if headOf x = h then f x else 0) * g x = ∑ e : Fin 64, c (f (comp h e)) * g (comp h e) := by
  rw [sum_comps]
  rw [Finset.sum_eq_single h]
  · simp [headOf_comp]
  · intro b _ hb
    exact Finset.sum_eq_zero fun e _ => by rw [headOf_comp, if_neg hb, hc, zero_mul]
  · simp

/-- A product with a block-diagonal operand: only the pair's own block counts. -/
theorem sum_pair (p : Fin 2) (f : Fin 2 → Fin 128 → EReal) (g : Fin 2 → Fin 128 → EReal) :
    ∑ q : Fin 2, ∑ x : Fin 128, f q x * (if p = q then g p x else 0) = ∑ x : Fin 128, f p x * g p x := by
  rw [Finset.sum_eq_single p]
  · simp
  · intro b _ hb
    exact Finset.sum_eq_zero fun e _ => by rw [if_neg (Ne.symm hb), mul_zero]
  · simp

/-! ## One pass -/

section Pass
variable (I : In Ideal) (o : Nat) (ho : o + 3 < 128)

/-- The keys of pair `p`. -/
def kOf (p : Fin 2) : S128x128.Idx → EReal := if p = 0 then I.kA else I.kB
/-- The values of pair `p`. -/
def vOf (p : Fin 2) : S128x128.Idx → EReal := if p = 0 then I.vA else I.vB
/-- The queries of window `w`. -/
def qOf (w : Fin 2) : S128x256.Idx → EReal := if w = 0 then I.qc else I.qn
/-- The output cotangents of window `w`. -/
def gOf (w : Fin 2) : S128x256.Idx → EReal := if w = 0 then I.gc else I.gn
/-- The log-sums of window `w`. -/
def lOf (w : Fin 2) : S128x128.Idx → EReal := if w = 0 then I.lc else I.ln
/-- The corrected sums of window `w`. -/
def dOf (w : Fin 2) : S128x128.Idx → EReal := if w = 0 then I.dc else I.dn
/-- The biases of pair `p`. -/
def tOf (p : Fin 2) : S1x1x512x128.Idx → EReal := if p = 0 then I.tA else I.tB

/-- The factor of the scores. -/
def eighth : EReal := ((1 / 8 : ℝ) : EReal)

theorem eighth_bf16 : (Scalar.ofBits .bf16 0x3E00#16 : Ideal .bf16) = eighth := by
  show Ideal.ofBits .bf16 0x3E00#16 = _
  simp [Ideal.ofBits, Ideal.ieee, eighth]
  rw [← EReal.coe_mul]
  norm_num

theorem eighth_f32 : (Scalar.ofBits .f32 0x3E000000#32 : Ideal .f32) = eighth := by
  show Ideal.ofBits .f32 0x3E000000#32 = _
  simp [Ideal.ofBits, Ideal.ieee, eighth]
  rw [← EReal.coe_mul]
  norm_num

/-- The head of the group that is head `h` of pair `p`. -/
def headLane (p h : Fin 2) : Fin 128 := ⟨o + 2 * p.val + h.val, by omega⟩

/-- The biased score of query `r` of window `w` and key `j`. -/
def scoreR (w p h : Fin 2) (r j : Fin 128) : EReal :=
  ∑ e : Fin 64, qOf I w (ix2 r (lane p (comp h e))) * eighth * kOf I p (ix2 j (comp h e)) + tOf I p (ix4 0 0 (row w h r) j)

/-- The attention weight of query `r` of window `w` and key `j`. -/
def probR (w p h : Fin 2) (r j : Fin 128) : EReal := Ideal.exp (scoreR I w p h r j - lOf I w (ix2 r (headLane o ho p h)))

/-- The cotangent of the score of query `r` of window `w` and key `j`. -/
def dscoreR (w p h : Fin 2) (r j : Fin 128) : EReal :=
  probR I o ho w p h r j * (∑ e : Fin 64, gOf I w (ix2 r (lane p (comp h e))) * vOf I p (ix2 j (comp h e)) - dOf I w (ix2 r (headLane o ho p h)))

theorem score_at (w p h : Fin 2) (r j : Fin 128) : (score I (ix2 (row w h r) (lane p j)) : EReal) = scoreR I w p h r j := by
  have e : (score I (ix2 (row w h r) (lane p j)) : EReal)
      = (matmul dotRows none (mulf (stack I.qc I.qn) (broadcast S512x256 (Scalar.ofBits .bf16 0x3E00#16))) (diag I.kA I.kB)
          (constant S512x256 .f32 0x00000000#32) (ix2 (row w h r) (lane p j)) : EReal) + bias I.tA I.tB (ix2 (row w h r) (lane p j)) := rfl
  rw [e, bias_at, dotRows_at, sum_lanes]
  unfold scoreR tOf
  congr 1
  have e2 : ∀ (q : Fin 2) (x : Fin 128), (mulf (stack I.qc I.qn) (broadcast S512x256 (Scalar.ofBits .bf16 0x3E00#16)) (ix2 (row w h r) (lane q x)) : EReal)
      = (if headOf x = h then qOf I w (ix2 r (lane q x)) else 0) * eighth := fun q x => by
    refine Eq.trans (congrArg₂ (· * ·) (stack_at I.qc I.qn w h r q x) eighth_bf16) rfl
  simp only [e2, diag_at]
  refine (sum_pair p (fun q x => (if headOf x = h then qOf I w (ix2 r (lane q x)) else 0) * eighth) (fun p x => kOf I p (ix2 j x))).trans ?_
  exact sum_head h (fun x => qOf I w (ix2 r (lane p x))) (fun x => kOf I p (ix2 j x)) (· * eighth) (zero_mul _)

theorem prob_at (w p h : Fin 2) (r j : Fin 128) : (prob I o ho (ix2 (row w h r) (lane p j)) : EReal) = probR I o ho w p h r j := by
  have e : (prob I o ho (ix2 (row w h r) (lane p j)) : EReal)
      = Ideal.exp ((score I (ix2 (row w h r) (lane p j)) : EReal) - colPairs I.lc I.ln o ho (ix2 (row w h r) (lane p j))) := rfl
  rw [e, score_at, colPairs_at]
  rfl

theorem dscore_at (w p h : Fin 2) (r j : Fin 128) : (dscore I o ho (ix2 (row w h r) (lane p j)) : EReal) = dscoreR I o ho w p h r j := by
  have e : (dscore I o ho (ix2 (row w h r) (lane p j)) : EReal)
      = (prob I o ho (ix2 (row w h r) (lane p j)) : EReal)
        * ((matmul dotRows none (stack I.gc I.gn) (diag I.vA I.vB) (constant S512x256 .f32 0x00000000#32) (ix2 (row w h r) (lane p j)) : EReal)
          - colPairs I.dc I.dn o ho (ix2 (row w h r) (lane p j))) := rfl
  rw [e, prob_at, colPairs_at, dotRows_at, sum_lanes]
  unfold dscoreR
  have e2 : ∀ (q : Fin 2) (x : Fin 128), (stack I.gc I.gn (ix2 (row w h r) (lane q x)) : EReal)
      = (if headOf x = h then gOf I w (ix2 r (lane q x)) else 0) := fun q x => stack_at I.gc I.gn w h r q x
  simp only [e2, diag_at]
  congr 1
  congr 1
  refine (sum_pair p (fun q x => (if headOf x = h then gOf I w (ix2 r (lane q x)) else 0)) (fun p x => vOf I p (ix2 j x))).trans ?_
  exact sum_head h (fun x => gOf I w (ix2 r (lane p x))) (fun x => vOf I p (ix2 j x)) (fun x => x) rfl

/-- The score cotangents' product with the keys, at a lane of pair `p`. -/
def dqR (w p h : Fin 2) (r x : Fin 128) : EReal := ∑ j : Fin 128, dscoreR I o ho w p h r j * kOf I p (ix2 j x)

theorem dqAll_at (w p h : Fin 2) (r x : Fin 128) : (dqAll I o ho (ix2 (row w h r) (lane p x)) : EReal) = dqR I o ho w p h r x := by
  unfold dqAll
  rw [dotPlain_at, sum_lanes]
  have e2 : ∀ (q : Fin 2) (j : Fin 128), (truncf .bf16 (dscore I o ho) (by decide) (ix2 (row w h r) (lane q j)) : EReal)
      = dscoreR I o ho w q h r j := fun q j => dscore_at I o ho w q h r j
  have e3 : ∀ (q : Fin 2) (j : Fin 128), (diag I.kA I.kB (ix2 (lane q j) (lane p x)) : EReal)
      = if p = q then kOf I p (ix2 j x) else 0 := fun q j => by
    rw [diag_at]
    by_cases h : q = p
    · subst h; rfl
    · rw [if_neg h, if_neg (Ne.symm h)]
  simp only [e2, e3]
  exact sum_pair p (fun q j => dscoreR I o ho w q h r j) (fun p j => kOf I p (ix2 j x))

theorem headSel_at (A B : FVec Ideal S128x256 .f32) (p : Fin 2) (r x : Fin 128) :
    (select (laneIs 0#32) A B (ix2 r (lane p x)) : EReal) = (if headOf x = 0 then A else B) (ix2 r (lane p x)) := by
  have e : (select (laneIs 0#32) A B (ix2 r (lane p x)) : EReal)
      = if laneIs 0#32 (ix2 r (lane p x)) = 1#1 then A (ix2 r (lane p x)) else B (ix2 r (lane p x)) := rfl
  rw [e, show (0#32 : BitVec 32) = BitVec.ofNat 32 (0 : Fin 2).val from rfl, laneIs_at]
  by_cases h : headOf x = 0
  · simp [h]
  · simp [h]

theorem slice_at (off : Nat) (a : FVec Ideal S512x256 .f32) (hs : S512x256.Slices ![off, 0] S128x256) (R : Fin 512) (r : Fin 128) (c : Fin 256)
    (hR : R.val = off + r.val) : extractStridedSlice S128x256 ![off, 0] a hs (ix2 r c) = a (ix2 R c) :=
  extractStridedSlice_apply _ _ hs _ (ix2 R c) (fun k => by fin_cases k <;> simp [ix2, hR])

theorem carryOut_at (p : Fin 2) (r x : Fin 128) : (carryOut I o ho (ix2 r (lane p x)) : EReal) = dqR I o ho 1 p (headOf x) r x := by
  unfold carryOut
  rw [shapeCast_self, headSel_at]
  by_cases h : headOf x = 0
  · rw [if_pos h, h, slice_at 256 _ _ (row 1 0 r) r _ (by simp [row]; omega), dqAll_at]
  · have h1 : headOf x = 1 := by omega
    rw [if_neg h, h1, slice_at 384 _ _ (row 1 1 r) r _ (by simp [row]; omega), dqAll_at]

theorem dqOut_at (car : Vec Ideal S128x256 .f32) (p : Fin 2) (r x : Fin 128) :
    (dqOut I o ho car (ix2 r (lane p x)) : EReal) = (dqR I o ho 0 p (headOf x) r x + car (ix2 r (lane p x))) * eighth := by
  have e : (dqOut I o ho car (ix2 r (lane p x)) : EReal)
      = ((select (laneIs 0#32) (extractStridedSlice S128x256 ![0, 0] (dqAll I o ho)) (extractStridedSlice S128x256 ![128, 0] (dqAll I o ho)) (ix2 r (lane p x)) : EReal)
        + car (ix2 r (lane p x))) * (Scalar.ofBits .f32 0x3E000000#32 : Ideal .f32) := rfl
  rw [e, headSel_at, eighth_f32]
  congr 2
  by_cases h : headOf x = 0
  · rw [if_pos h, h, slice_at 0 _ _ (row 0 0 r) r _ (by simp [row]), dqAll_at]
  · have h1 : headOf x = 1 := by omega
    rw [if_neg h, h1, slice_at 128 _ _ (row 0 1 r) r _ (by simp [row]; omega), dqAll_at]

theorem half_at {φ : FTy} (a : FVec Ideal S512x256 φ) (p : Fin 2) (R : Fin 512) (j : Fin 128) :
    extractStridedSlice S512x128 ![0, 128 * p.val] a (slices_pair p) (ix2 R j) = a (ix2 R (lane p j)) :=
  extractStridedSlice_apply _ _ (slices_pair p) _ (ix2 R (lane p j)) (fun k => by fin_cases k <;> simp [ix2, lane]; omega)

theorem sum_heads (x : Fin 2) (f g : Fin 2 → Fin 2 → Fin 128 → EReal) :
    ∑ w : Fin 2, ∑ h : Fin 2, ∑ r : Fin 128, f w h r * (if x = h then g w h r else 0) = ∑ r : Fin 128, f 0 x r * g 0 x r + ∑ r : Fin 128, f 1 x r * g 1 x r := by
  have e : ∀ w, ∑ h : Fin 2, ∑ r : Fin 128, f w h r * (if x = h then g w h r else 0) = ∑ r : Fin 128, f w x r * g w x r := fun w => by
    rw [Finset.sum_eq_single x]
    · simp
    · intro b _ hb
      exact Finset.sum_eq_zero fun e _ => by rw [if_neg (Ne.symm hb), mul_zero]
    · simp
  simp only [e, Fin.sum_univ_two]

/-- The key gradient before its factor. -/
def dkR (p : Fin 2) (j y : Fin 128) : EReal :=
  ∑ r : Fin 128, dscoreR I o ho 0 p (headOf y) r j * qOf I 0 (ix2 r (lane p y)) + ∑ r : Fin 128, dscoreR I o ho 1 p (headOf y) r j * qOf I 1 (ix2 r (lane p y))

/-- The value gradient. -/
def dvR (p : Fin 2) (j y : Fin 128) : EReal :=
  ∑ r : Fin 128, probR I o ho 0 p (headOf y) r j * gOf I 0 (ix2 r (lane p y)) + ∑ r : Fin 128, probR I o ho 1 p (headOf y) r j * gOf I 1 (ix2 r (lane p y))

theorem dkOut_at (p : Fin 2) (j y : Fin 128) : (dkOut I o ho p (ix2 j y) : EReal) = dkR I o ho p j y * eighth := by
  have e : (dkOut I o ho p (ix2 j y) : EReal)
      = (matmul dotCols none
    (truncf .bf16 (extractStridedSlice S512x128 ![0, 128 * p.val] (dscore I o ho) (slices_pair p)))
    (extractStridedSlice S512x128 ![0, 128 * p.val] (stack I.qc I.qn) (slices_pair p))
    (constant S128x128 .f32 0x00000000#32) (ix2 j y) : EReal) * (Scalar.ofBits .f32 0x3E000000#32 : Ideal .f32) := rfl
  rw [e, eighth_f32, dotCols_at, sum_rows]
  have e1 : ∀ (w h : Fin 2) (r : Fin 128), (truncf .bf16 (extractStridedSlice S512x128 ![0, 128 * p.val] (dscore I o ho) (slices_pair p)) (by decide) (ix2 (row w h r) j) : EReal)
      = dscoreR I o ho w p h r j := fun w h r => (half_at (dscore I o ho) p (row w h r) j).trans (dscore_at I o ho w p h r j)
  have e2 : ∀ (w h : Fin 2) (r : Fin 128), (extractStridedSlice S512x128 ![0, 128 * p.val] (stack I.qc I.qn) (slices_pair p) (ix2 (row w h r) y) : EReal)
      = if headOf y = h then qOf I w (ix2 r (lane p y)) else 0 := fun w h r => (half_at _ p (row w h r) y).trans (stack_at I.qc I.qn w h r p y)
  simp only [e1, e2]
  exact congrArg (· * eighth) (sum_heads (headOf y) (fun w h r => dscoreR I o ho w p h r j) (fun w _ r => qOf I w (ix2 r (lane p y))))

theorem dvOut_at (p : Fin 2) (j y : Fin 128) : (dvOut I o ho p (ix2 j y) : EReal) = dvR I o ho p j y := by
  have e : (dvOut I o ho p (ix2 j y) : EReal)
      = (matmul dotCols none
    (truncf .bf16 (extractStridedSlice S512x128 ![0, 128 * p.val] (prob I o ho) (slices_pair p)))
    (extractStridedSlice S512x128 ![0, 128 * p.val] (stack I.gc I.gn) (slices_pair p))
    (constant S128x128 .f32 0x00000000#32) (ix2 j y) : EReal) := rfl
  rw [e, dotCols_at, sum_rows]
  have e1 : ∀ (w h : Fin 2) (r : Fin 128), (truncf .bf16 (extractStridedSlice S512x128 ![0, 128 * p.val] (prob I o ho) (slices_pair p)) (by decide) (ix2 (row w h r) j) : EReal)
      = probR I o ho w p h r j := fun w h r => (half_at (prob I o ho) p (row w h r) j).trans (prob_at I o ho w p h r j)
  have e2 : ∀ (w h : Fin 2) (r : Fin 128), (extractStridedSlice S512x128 ![0, 128 * p.val] (stack I.gc I.gn) (slices_pair p) (ix2 (row w h r) y) : EReal)
      = if headOf y = h then gOf I w (ix2 r (lane p y)) else 0 := fun w h r => (half_at _ p (row w h r) y).trans (stack_at I.gc I.gn w h r p y)
  simp only [e1, e2]
  exact sum_heads (headOf y) (fun w h r => probR I o ho w p h r j) (fun w _ r => gOf I w (ix2 r (lane p y)))

end Pass

end Cert.Tile
-- ==== Proof.Whole.lean ====
module

public import proofs.«01_k».proof.Proof.Window

/-! # The whole launch, in real numbers

Where the arrays hold real numbers, a pass over a block of keys holds real numbers too, and the launch's gradients are
sums over all rows with the pairs of rows that attend to each other. Rows are counted in stream order; a row attends to
itself and to the 128 rows before it in its stream. -/

@[expose] public section
noncomputable section
namespace Cert.Tile
open Idealize.ShloMosaic hiding ix1 ix2 ix3 ix4 eq_ix2 eq_ix3
open Idealize.ShloMosaic.TcCoe ValueIdx

/-- The numbers of a launch: queries, keys, values and cotangents by row and column, log-sums and corrected sums by row
and head, biases by head and distance; the number of blocks of a stream. -/
structure Num where
  (q k v g L E b : Nat → Nat → ℝ)
  nb : Nat

namespace Num
variable (n : Num)

/-- A row attends to itself and to the 128 rows before it in its stream. -/
def near (ρ κ : Nat) : Prop := κ ≤ ρ ∧ ρ ≤ κ + 128 ∧ ρ / (128 * n.nb) = κ / (128 * n.nb)
instance (ρ κ : Nat) : Decidable (n.near ρ κ) := by unfold near; infer_instance

/-- The attention weight. -/
def p (ρ κ H : Nat) : ℝ :=
  Real.exp (∑ e : Fin 64, n.q ρ (64 * H + e.val) * (1 / 8) * n.k κ (64 * H + e.val) + n.b H (ρ - κ) - n.L ρ H)
/-- The cotangent of the score. -/
def d (ρ κ H : Nat) : ℝ := n.p ρ κ H * (∑ e : Fin 64, n.g ρ (64 * H + e.val) * n.v κ (64 * H + e.val) - n.E ρ H)

/-- The three gradients, by row and column. -/
def dq (ρ c : Nat) : ℝ := (∑ κ ∈ Finset.range 4096, if n.near ρ κ then n.d ρ κ (c / 64) * n.k κ c else 0) * (1 / 8)
def dk (κ c : Nat) : ℝ := (∑ ρ ∈ Finset.range 4096, if n.near ρ κ then n.d ρ κ (c / 64) * n.q ρ c else 0) * (1 / 8)
def dv (κ c : Nat) : ℝ := ∑ ρ ∈ Finset.range 4096, if n.near ρ κ then n.p ρ κ (c / 64) * n.g ρ c else 0

/-- Block `B` is the last of its stream. -/
def last (B : Nat) : Prop := n.nb ∣ B + 1
instance (B : Nat) : Decidable (n.last B) := by unfold last; infer_instance

/-- The pairs of a pass: of the keys' own block (window 0), and of the block after it. -/
def cond (B : Nat) (w : Fin 2) (r j : Nat) : Prop := if w = 0 then j ≤ r else ¬ n.last B ∧ r ≤ j
instance (B : Nat) (w : Fin 2) (r j : Nat) : Decidable (n.cond B w r j) := by unfold cond; infer_instance

theorem near_iff {B b r j : Nat} (hr : r < 128) (hj : j < 128) :
    n.near (128 * b + r) (128 * B + j) ↔ (b = B ∧ j ≤ r) ∨ (b = B + 1 ∧ ¬ n.last B ∧ r ≤ j) := by
  unfold near last
  have e : ∀ b r, r < 128 → (128 * b + r) / (128 * n.nb) = b / n.nb := fun b r h => by
    rw [← Nat.div_div_eq_div_mul, show (128 * b + r) / 128 = b by omega]
  rw [e b r hr, e B j hj]
  constructor
  · rintro ⟨h1, h2, h3⟩
    rcases Nat.lt_trichotomy b B with h | h | h
    · omega
    · left; omega
    · have hb : b = B + 1 := by omega
      subst hb
      rw [Nat.succ_div] at h3
      right
      refine ⟨rfl, fun hd => ?_, by omega⟩
      rw [if_pos hd] at h3; omega
  · rintro (⟨rfl, h⟩ | ⟨rfl, h, h'⟩)
    · exact ⟨by omega, by omega, rfl⟩
    · exact ⟨by omega, by omega, by rw [Nat.succ_div, if_neg h]; rfl⟩

theorem sum_rows_blocks (f : Nat → ℝ) : ∑ ρ ∈ Finset.range 4096, f ρ = ∑ b ∈ Finset.range 32, ∑ r : Fin 128, f (128 * b + r.val) := by
  have h : ∀ k, ∑ ρ ∈ Finset.range (128 * k), f ρ = ∑ b ∈ Finset.range k, ∑ r : Fin 128, f (128 * b + r.val) := fun k => by
    induction k with
    | zero => simp
    | succ k ih =>
      rw [Nat.mul_succ, Finset.sum_range_add, ih, Finset.sum_range (n := 128)]
      exact (Finset.sum_range_succ _ _).symm
  exact h 32

/-- The sum over the queries of a key: its own block's and the next block's. -/
theorem sum_queries {B N : Nat} (hB : B < 32) (hN : ¬ n.last B → N = B + 1) (h31 : n.last 31) (f : Nat → ℝ) (j : Fin 128) :
    ∑ ρ ∈ Finset.range 4096, (if n.near ρ (128 * B + j.val) then f ρ else 0)
      = ∑ r : Fin 128, (if n.cond B 0 r j then f (128 * B + r.val) else 0) + ∑ r : Fin 128, (if n.cond B 1 r j then f (128 * N + r.val) else 0) := by
  rw [sum_rows_blocks]
  have e : ∀ b, (∑ r : Fin 128, if n.near (128 * b + r.val) (128 * B + j.val) then f (128 * b + r.val) else 0)
      = (if b = B then ∑ r : Fin 128, (if n.cond B 0 r j then f (128 * B + r.val) else 0) else 0)
        + (if b = B + 1 then ∑ r : Fin 128, (if n.cond B 1 r j then f (128 * N + r.val) else 0) else 0) := by
    intro b
    simp only [n.near_iff (Fin.isLt _) j.isLt]
    by_cases h0 : b = B
    · subst h0; simp [cond]
    · by_cases h1 : b = B + 1
      · subst h1
        by_cases hl : n.last B
        · simp [cond, hl]
        · simp [cond, hl, hN hl]
      · simp [h0, h1]
  simp only [e, Finset.sum_add_distrib, Finset.sum_ite_eq', Finset.mem_range, if_pos hB]
  by_cases h : B + 1 < 32
  · rw [if_pos h]
  · have : B = 31 := by omega
    subst this
    simp [cond, h31]

/-- The sum over the keys of a query: its own block's and those of the block before it. -/
theorem sum_keys {B : Nat} (hB : B < 32) (f : Nat → ℝ) (r : Fin 128) :
    ∑ κ ∈ Finset.range 4096, (if n.near (128 * B + r.val) κ then f κ else 0)
      = ∑ j : Fin 128, (if n.cond B 0 r j then f (128 * B + j.val) else 0)
        + if B = 0 then 0 else ∑ j : Fin 128, (if n.cond (B - 1) 1 r j then f (128 * (B - 1) + j.val) else 0) := by
  rw [sum_rows_blocks]
  rcases B with _ | B
  · have e : ∀ b, (∑ j : Fin 128, if n.near (128 * 0 + r.val) (128 * b + j.val) then f (128 * b + j.val) else 0)
        = (if b = 0 then ∑ j : Fin 128, (if n.cond 0 0 r j then f (128 * 0 + j.val) else 0) else 0) := by
      intro b
      simp only [n.near_iff r.isLt (Fin.isLt _)]
      by_cases h0 : b = 0
      · subst h0; simp [cond]
      · simp [h0, Ne.symm h0]
    simp only [e, Finset.sum_ite_eq', Finset.mem_range, if_pos hB, if_true, add_zero]
  · have e : ∀ b, (∑ j : Fin 128, if n.near (128 * (B + 1) + r.val) (128 * b + j.val) then f (128 * b + j.val) else 0)
        = (if b = B + 1 then ∑ j : Fin 128, (if n.cond (B + 1) 0 r j then f (128 * (B + 1) + j.val) else 0) else 0)
          + (if b = B then ∑ j : Fin 128, (if n.cond B 1 r j then f (128 * B + j.val) else 0) else 0) := by
      intro b
      simp only [n.near_iff r.isLt (Fin.isLt _)]
      by_cases h0 : b = B + 1
      · subst h0; simp [cond]
      · by_cases h1 : b = B
        · subst h1; simp [cond]
        · have h2 : ¬ B = b := fun h => h1 h.symm
          have h3 : ¬ B + 1 = b := fun h => h0 h.symm
          simp [h0, h1, h2, h3]
    simp only [e, Finset.sum_add_distrib, Finset.sum_ite_eq', Finset.mem_range, if_pos hB, if_pos (show B < 32 by omega)]
    rw [if_neg (by omega)]
    rfl

end Num

/-! ## A pass on real numbers -/

/-- The rows of the pass over block `B`: the block's own, or those of block `N` after it. -/
def rowOf (B N : Nat) (w : Fin 2) (r : Fin 128) : Nat := 128 * (if w = 0 then B else N) + r.val

/-- The pass over block `B` for the four heads `4 G …` loads the launch's numbers. -/
structure Reads (I : In Ideal) (n : Num) (B N G : Nat) : Prop where
  k : ∀ (p : Fin 2) (j x : Fin 128), kOf I p (ix2 j x) = ((n.k (128 * B + j.val) (256 * G + 128 * p.val + x.val) : ℝ) : EReal)
  v : ∀ (p : Fin 2) (j x : Fin 128), vOf I p (ix2 j x) = ((n.v (128 * B + j.val) (256 * G + 128 * p.val + x.val) : ℝ) : EReal)
  q : ∀ (w : Fin 2) (r : Fin 128) (y : Fin 256), qOf I w (ix2 r y) = ((n.q (rowOf B N w r) (256 * G + y.val) : ℝ) : EReal)
  g : ∀ (w : Fin 2) (r : Fin 128) (y : Fin 256), gOf I w (ix2 r y) = ((n.g (rowOf B N w r) (256 * G + y.val) : ℝ) : EReal)
  l : ∀ (w : Fin 2) (r y : Fin 128), y.val < 16 → lOf I w (ix2 r y) = ((n.L (rowOf B N w r) y.val : ℝ) : EReal)
  e : ∀ (w : Fin 2) (r y : Fin 128), y.val < 16 → dOf I w (ix2 r y) = ((n.E (rowOf B N w r) y.val : ℝ) : EReal)
  t : ∀ (p w h : Fin 2) (r j : Fin 128), tOf I p (ix4 0 0 (row w h r) j)
    = if n.cond B w r j then ((n.b (4 * G + 2 * p.val + h.val) (rowOf B N w r - (128 * B + j.val)) : ℝ) : EReal) else ⊥

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (P : Prop) [Decidable P] (a : ℝ) : ((if P then a else 0 : ℝ) : EReal) = if P then (a : EReal) else 0 := by
  split <;> rfl

section Pass
variable {I : In Ideal} {n : Num} {B N G : Nat} (R : Reads I n B N G) (hG : G < 4) (ho : 4 * G + 3 < 128)

/-- The head that is head `h` of pair `p` of the group. -/
def headAt (G : Nat) (p h : Fin 2) : Nat := 4 * G + 2 * p.val + h.val

include R in
theorem score_real (w p h : Fin 2) (r j : Fin 128) : scoreR I w p h r j
    = ((∑ e : Fin 64, n.q (rowOf B N w r) (64 * headAt G p h + e.val) * (1 / 8) * n.k (128 * B + j.val) (64 * headAt G p h + e.val) : ℝ) : EReal)
      + if n.cond B w r j then ((n.b (headAt G p h) (rowOf B N w r - (128 * B + j.val)) : ℝ) : EReal) else ⊥ := by
  unfold scoreR
  rw [R.t, coe_sum]
  congr 1
  refine Finset.sum_congr rfl fun e _ => ?_
  rw [R.q, R.k, eighth, EReal.coe_mul, EReal.coe_mul]
  have e1 : 256 * G + (lane p (comp h e)).val = 64 * headAt G p h + e.val := by simp only [lane, comp, headAt]; omega
  have e2 : 256 * G + 128 * p.val + (comp h e).val = 64 * headAt G p h + e.val := by simp only [comp, headAt]; omega
  rw [e1, e2]

include R hG in
theorem prob_real (w p h : Fin 2) (r j : Fin 128) : probR I (4 * G) ho w p h r j
    = ((if n.cond B w r j then n.p (rowOf B N w r) (128 * B + j.val) (headAt G p h) else 0 : ℝ) : EReal) := by
  unfold probR
  rw [score_real R, R.l _ _ _ (by simp only [headLane]; omega)]
  have e1 : (headLane (4 * G) ho p h).val = headAt G p h := rfl
  rw [e1]
  by_cases hc : n.cond B w r j
  · rw [if_pos hc, if_pos hc, ← EReal.coe_add, ← EReal.coe_sub]; rfl
  · rw [if_neg hc, if_neg hc, EReal.add_bot, sub_eq_add_neg, EReal.bot_add]; rfl

include R hG in
theorem dscore_real (w p h : Fin 2) (r j : Fin 128) : dscoreR I (4 * G) ho w p h r j
    = ((if n.cond B w r j then n.d (rowOf B N w r) (128 * B + j.val) (headAt G p h) else 0 : ℝ) : EReal) := by
  unfold dscoreR
  rw [prob_real R hG, R.e _ _ _ (by simp only [headLane]; omega)]
  have e1 : (headLane (4 * G) ho p h).val = headAt G p h := rfl
  have e3 : ∑ e : Fin 64, gOf I w (ix2 r (lane p (comp h e))) * vOf I p (ix2 j (comp h e))
      = ((∑ e : Fin 64, n.g (rowOf B N w r) (64 * headAt G p h + e.val) * n.v (128 * B + j.val) (64 * headAt G p h + e.val) : ℝ) : EReal) := by
    rw [coe_sum]
    refine Finset.sum_congr rfl fun e _ => ?_
    rw [R.g, R.v, EReal.coe_mul]
    have e1 : 256 * G + (lane p (comp h e)).val = 64 * headAt G p h + e.val := by simp only [lane, comp, headAt]; omega
    have e2 : 256 * G + 128 * p.val + (comp h e).val = 64 * headAt G p h + e.val := by simp only [comp, headAt]; omega
    rw [e1, e2]
  rw [e1, e3, ← EReal.coe_sub, ← EReal.coe_mul]
  congr 1
  by_cases hc : n.cond B w r j
  · rw [if_pos hc, if_pos hc]; rfl
  · rw [if_neg hc, if_neg hc, zero_mul]

/-- The column of the result that is lane `x` of pair `p` of the group. -/
def colAt (G : Nat) (p : Fin 2) (x : Fin 128) : Nat := 256 * G + 128 * p.val + x.val

theorem colAt_div (p : Fin 2) (x : Fin 128) : colAt G p x / 64 = headAt G p (headOf x) := by
  simp only [colAt, headAt, headOf]; omega

include R hG in
theorem dq_real (w p : Fin 2) (r x : Fin 128) : dqR I (4 * G) ho w p (headOf x) r x
    = ((∑ j : Fin 128, if n.cond B w r j then n.d (rowOf B N w r) (128 * B + j.val) (colAt G p x / 64) * n.k (128 * B + j.val) (colAt G p x) else 0 : ℝ) : EReal) := by
  unfold dqR
  rw [coe_sum]
  refine Finset.sum_congr rfl fun j _ => ?_
  rw [dscore_real R hG, R.k, ← EReal.coe_mul, ite_mul, zero_mul, colAt_div]
  rfl

include R hG in
theorem dk_real (p : Fin 2) (j x : Fin 128) : dkR I (4 * G) ho p j x
    = ((∑ r : Fin 128, (if n.cond B 0 r j then n.d (128 * B + r.val) (128 * B + j.val) (colAt G p x / 64) * n.q (128 * B + r.val) (colAt G p x) else 0)
      + ∑ r : Fin 128, (if n.cond B 1 r j then n.d (128 * N + r.val) (128 * B + j.val) (colAt G p x / 64) * n.q (128 * N + r.val) (colAt G p x) else 0) : ℝ) : EReal) := by
  unfold dkR
  have e1 : 256 * G + (lane p x).val = colAt G p x := by simp only [lane, colAt]; omega
  rw [EReal.coe_add, coe_sum, coe_sum]
  congr 1
  all_goals
    refine Finset.sum_congr rfl fun r _ => ?_
    rw [dscore_real R hG, R.q, ← EReal.coe_mul, ite_mul, zero_mul, colAt_div, e1]
    rfl

include R hG in
theorem dv_real (p : Fin 2) (j x : Fin 128) : dvR I (4 * G) ho p j x
    = ((∑ r : Fin 128, (if n.cond B 0 r j then n.p (128 * B + r.val) (128 * B + j.val) (colAt G p x / 64) * n.g (128 * B + r.val) (colAt G p x) else 0)
      + ∑ r : Fin 128, (if n.cond B 1 r j then n.p (128 * N + r.val) (128 * B + j.val) (colAt G p x / 64) * n.g (128 * N + r.val) (colAt G p x) else 0) : ℝ) : EReal) := by
  unfold dvR
  have e1 : 256 * G + (lane p x).val = colAt G p x := by simp only [lane, colAt]; omega
  rw [EReal.coe_add, coe_sum, coe_sum]
  congr 1
  all_goals
    refine Finset.sum_congr rfl fun r _ => ?_
    rw [prob_real R hG, R.g, ← EReal.coe_mul, ite_mul, zero_mul, colAt_div, e1]
    rfl

end Pass

/-! ## The rows of a block -/

/-- What the blocks before block `B` leave for its query gradient. -/
def Num.left (n : Num) (B r c : Nat) : ℝ :=
  if B = 0 then 0 else ∑ j : Fin 128, if n.cond (B - 1) 1 r j then n.d (128 * B + r) (128 * (B - 1) + j.val) (c / 64) * n.k (128 * (B - 1) + j.val) c else 0

section Block
variable {I : In Ideal} {n : Num} {B N G : Nat} (R : Reads I n B N G) (hG : G < 4) (ho : 4 * G + 3 < 128)
  (hB : B < 32) (hN : ¬ n.last B → N = B + 1) (h31 : n.last 31)

include R hG hN in
/-- The carry a pass leaves. -/
theorem carryOut_real (p : Fin 2) (r x : Fin 128) : (carryOut I (4 * G) ho (ix2 r (lane p x)) : EReal) = ((n.left (B + 1) r.val (colAt G p x) : ℝ) : EReal) := by
  rw [carryOut_at, dq_real R hG]
  congr 1
  unfold Num.left
  rw [if_neg (by omega)]
  refine Finset.sum_congr rfl fun j _ => ?_
  by_cases hl : n.last B
  · have h : ¬ n.cond B 1 r j := fun h => h.1 hl
    exact (if_neg h).trans (if_neg h).symm
  · simp [rowOf, hN hl]

include R hG hB in
/-- The query gradient, where the carry holds what the blocks before left. -/
theorem dqOut_real (car : Vec Ideal S128x256 .f32) (p : Fin 2) (r x : Fin 128)
    (hc : (car (ix2 r (lane p x)) : EReal) = ((n.left B r.val (colAt G p x) : ℝ) : EReal)) :
    (dqOut I (4 * G) ho car (ix2 r (lane p x)) : EReal) = ((n.dq (128 * B + r.val) (colAt G p x) : ℝ) : EReal) := by
  rw [dqOut_at, dq_real R hG, hc, ← EReal.coe_add, eighth, ← EReal.coe_mul]
  congr 1
  unfold Num.dq
  rw [n.sum_keys hB (fun κ => n.d (128 * B + r.val) κ (colAt G p x / 64) * n.k κ (colAt G p x))]
  rfl

include R hG hB hN h31 in
/-- The key gradient. -/
theorem dkOut_real (p : Fin 2) (j x : Fin 128) :
    (dkOut I (4 * G) ho p (ix2 j x) : EReal) = ((n.dk (128 * B + j.val) (colAt G p x) : ℝ) : EReal) := by
  rw [dkOut_at, dk_real R hG, eighth, ← EReal.coe_mul]
  congr 1
  unfold Num.dk
  rw [n.sum_queries hB hN h31 (fun ρ => n.d ρ (128 * B + j.val) (colAt G p x / 64) * n.q ρ (colAt G p x))]

include R hG hB hN h31 in
/-- The value gradient. -/
theorem dvOut_real (p : Fin 2) (j x : Fin 128) :
    (dvOut I (4 * G) ho p (ix2 j x) : EReal) = ((n.dv (128 * B + j.val) (colAt G p x) : ℝ) : EReal) := by
  rw [dvOut_at, dv_real R hG]
  congr 1
  unfold Num.dv
  rw [n.sum_queries hB hN h31 (fun ρ => n.p ρ (128 * B + j.val) (colAt G p x / 64) * n.g ρ (colAt G p x))]

end Block

end Cert.Tile
-- ==== Proof.Math.lean ====
module

public import proofs.«01_k».proof.Proof.Whole

/-! # The gradient of a dilated window of attention, in real numbers

`Step` holds the numbers of one branch by position: its gradients are written as sums over all positions, with zero weight
outside the window. `Step.num` puts the rows in stream order; the sums there run over the 128 rows before or after. -/

@[expose] public section
noncomputable section
namespace Cert.Tile
open Finset

/-- Queries, keys, values and cotangents by position and column, the log-sum's cotangents by position and head, the slopes
    by head, the maximum subtracted of a row's scores by head and position. -/
structure Step where
  q : Nat → Nat → ℝ
  k : Nat → Nat → ℝ
  v : Nat → Nat → ℝ
  g : Nat → Nat → ℝ
  dl : Nat → Nat → ℝ
  sl : Nat → ℝ
  M : Nat → Nat → ℝ
  dil : Nat
  hdil : dil = 16 ∨ dil = 4 ∨ dil = 1

namespace Step
variable (a : Step)

/-- Position `u` is in the window of position `t`. -/
def valid (t u : Nat) : Prop := u ≤ t ∧ t - u ≤ 128 * a.dil ∧ (t - u) % a.dil = 0
instance (t u : Nat) : Decidable (a.valid t u) := by unfold valid; infer_instance

def s (h t u : Nat) : ℝ := (∑ e : Fin 64, a.q t (64 * h + e.val) * a.k u (64 * h + e.val)) * (1 / 8) + (-a.sl h) * ((t : ℝ) - (u : ℝ))
/-- The weight of `u` for `t` before it is divided by the row's sum. -/
def w (h t u : Nat) : ℝ := if a.valid t u then Real.exp (a.s h t u - a.M h t) else 0
def W (h t : Nat) : ℝ := ∑ u ∈ range 4096, a.w h t u
def lse (h t : Nat) : ℝ := a.M h t + Real.log (a.W h t)
def pn (h t u : Nat) : ℝ := a.w h t u / a.W h t
def o (t c : Nat) : ℝ := ∑ u ∈ range 4096, a.v u c * a.pn (c / 64) t u
/-- The cotangent of a weight. -/
def dpn (h t u : Nat) : ℝ := ∑ e : Fin 64, a.g t (64 * h + e.val) * a.v u (64 * h + e.val)
/-- The part of a score's cotangent that is the same for all keys of a row. -/
def E (h t : Nat) : ℝ := (∑ e : Fin 64, a.g t (64 * h + e.val) * a.o t (64 * h + e.val)) - a.dl t h
def ds (h t u : Nat) : ℝ := a.pn h t u * (a.dpn h t u - a.E h t)

/-- The gradients at a position and a column. -/
def DQ (t c : Nat) : ℝ := (∑ u ∈ range 4096, a.ds (c / 64) t u * a.k u c) * (1 / 8)
def DK (u c : Nat) : ℝ := (∑ t ∈ range 4096, a.ds (c / 64) t u * a.q t c) * (1 / 8)
def DV (u c : Nat) : ℝ := ∑ t ∈ range 4096, a.pn (c / 64) t u * a.g t c

theorem valid_self (t : Nat) : a.valid t t := ⟨le_rfl, by omega, by simp⟩

theorem w_nonneg (h t u : Nat) : 0 ≤ a.w h t u := by
  unfold w; split_ifs
  · exact (Real.exp_pos _).le
  · exact le_rfl

theorem W_pos (h t : Nat) (ht : t < 4096) : 0 < a.W h t := by
  refine Finset.sum_pos' (fun u _ => a.w_nonneg h t u) ⟨t, mem_range.2 ht, ?_⟩
  unfold w; rw [if_pos (a.valid_self t)]; exact Real.exp_pos _

theorem sum_pn (h t : Nat) (ht : t < 4096) : ∑ u ∈ range 4096, a.pn h t u = 1 := by
  unfold pn; rw [← Finset.sum_div]; exact div_self (a.W_pos h t ht).ne'

theorem pn_eq (h t u : Nat) (ht : t < 4096) : a.pn h t u = if a.valid t u then Real.exp (a.s h t u - a.lse h t) else 0 := by
  unfold pn w lse
  split_ifs
  · rw [← sub_sub, Real.exp_sub (a.s h t u - a.M h t), Real.exp_log (a.W_pos h t ht)]
  · exact zero_div _

/-- The row's product of cotangent and output is the weights' mean of their cotangents. -/
theorem sum_go (h t : Nat) : ∑ e : Fin 64, a.g t (64 * h + e.val) * a.o t (64 * h + e.val) = ∑ u ∈ range 4096, a.dpn h t u * a.pn h t u := by
  unfold o dpn
  simp only [Finset.mul_sum, Finset.sum_mul]
  rw [Finset.sum_comm]
  refine Finset.sum_congr rfl fun u _ => Finset.sum_congr rfl fun e _ => ?_
  have : (64 * h + e.val) / 64 = h := by omega
  rw [this]; ring

/-- The cotangents of a row's scores, with the log-sum's cotangent taken in, sum to it. -/
theorem sum_ds (h t : Nat) (ht : t < 4096) : ∑ u ∈ range 4096, a.ds h t u = a.dl t h := by
  have e : ∀ u, a.ds h t u = a.dpn h t u * a.pn h t u - a.pn h t u * a.E h t := fun u => by unfold ds; ring
  simp only [e, Finset.sum_sub_distrib, ← Finset.sum_mul]
  rw [a.sum_pn h t ht, ← a.sum_go h t, E]; ring

/-! ## Stream order -/

/-- The position of row `R` of the stream order. -/
def pos (R : Nat) : Nat := R % (4096 / a.dil) * a.dil + R / (4096 / a.dil)
/-- The row of a position. -/
def unpos (t : Nat) : Nat := t % a.dil * (4096 / a.dil) + t / a.dil

theorem pos_lt (R : Nat) (h : R < 4096) : a.pos R < 4096 := by
  unfold pos; rcases a.hdil with e | e | e <;> rw [e] <;> omega
theorem unpos_lt (t : Nat) (h : t < 4096) : a.unpos t < 4096 := by
  unfold unpos; rcases a.hdil with e | e | e <;> rw [e] <;> omega
theorem unpos_pos (R : Nat) (h : R < 4096) : a.unpos (a.pos R) = R := by
  unfold unpos pos; rcases a.hdil with e | e | e <;> rw [e] <;> omega
theorem pos_unpos (t : Nat) (h : t < 4096) : a.pos (a.unpos t) = t := by
  unfold unpos pos; rcases a.hdil with e | e | e <;> rw [e] <;> omega

theorem sum_pos (f : Nat → ℝ) : ∑ t ∈ range 4096, f t = ∑ R ∈ range 4096, f (a.pos R) :=
  (Finset.sum_bij' (fun R _ => a.pos R) (fun t _ => a.unpos t) (fun R h => mem_range.2 (a.pos_lt R (mem_range.1 h)))
    (fun t h => mem_range.2 (a.unpos_lt t (mem_range.1 h))) (fun R h => a.unpos_pos R (mem_range.1 h))
    (fun t h => a.pos_unpos t (mem_range.1 h)) (fun _ _ => rfl)).symm

/-- The numbers of the launch: the rows in stream order. -/
def num : Num where
  q ρ c := a.q (a.pos ρ) c
  k ρ c := a.k (a.pos ρ) c
  v ρ c := a.v (a.pos ρ) c
  g ρ c := a.g (a.pos ρ) c
  L ρ h := a.lse h (a.pos ρ)
  E ρ h := a.E h (a.pos ρ)
  b h d := -a.sl h * ((a.dil : ℝ) * (d : ℝ))
  nb := 32 / a.dil

/-- One stream and a distance of at most 128 rows: a distance of at most 128 strides and a multiple of the stride. -/
theorem near_iff_valid (d n : Nat) (hd : (d = 16 ∧ n = 256) ∨ (d = 4 ∧ n = 1024) ∨ (d = 1 ∧ n = 4096)) (ρ κ : Nat) (hρ : ρ < 4096) (hκ : κ < 4096) :
    (κ ≤ ρ ∧ ρ ≤ κ + 128 ∧ ρ / n = κ / n) ↔ (κ % n * d + κ / n ≤ ρ % n * d + ρ / n
      ∧ (ρ % n * d + ρ / n) - (κ % n * d + κ / n) ≤ 128 * d ∧ ((ρ % n * d + ρ / n) - (κ % n * d + κ / n)) % d = 0) := by
  rcases hd with ⟨e, f⟩ | ⟨e, f⟩ | ⟨e, f⟩ <;> subst e f
  · constructor
    · rintro ⟨h1, h2, h3⟩; refine ⟨?_, ?_, ?_⟩ <;> omega
    · rintro ⟨h1, h2, h3⟩; have h4 : ρ / 256 = κ / 256 := by omega
      refine ⟨?_, ?_, h4⟩ <;> omega
  · constructor
    · rintro ⟨h1, h2, h3⟩; refine ⟨?_, ?_, ?_⟩ <;> omega
    · rintro ⟨h1, h2, h3⟩; have h4 : ρ / 1024 = κ / 1024 := by omega
      refine ⟨?_, ?_, h4⟩ <;> omega
  · constructor
    · rintro ⟨h1, h2, h3⟩; refine ⟨?_, ?_, ?_⟩ <;> omega
    · rintro ⟨h1, h2, h3⟩; have h4 : ρ / 4096 = κ / 4096 := by omega
      refine ⟨?_, ?_, h4⟩ <;> omega

theorem near_valid (ρ κ : Nat) (hρ : ρ < 4096) (hκ : κ < 4096) : a.num.near ρ κ ↔ a.valid (a.pos ρ) (a.pos κ) := by
  have e : 128 * (32 / a.dil) = 4096 / a.dil := by rcases a.hdil with e | e | e <;> rw [e]
  have h := near_iff_valid a.dil (4096 / a.dil) (by rcases a.hdil with e | e | e <;> simp [e]) ρ κ hρ hκ
  rw [← e] at h
  unfold Num.near valid pos
  rw [← e]
  exact h

theorem pos_sub (ρ κ : Nat) (h : a.num.near ρ κ) : ((a.pos ρ : ℕ) : ℝ) - ((a.pos κ : ℕ) : ℝ) = (a.dil : ℝ) * ((ρ - κ : ℕ) : ℝ) := by
  have e : a.pos ρ = a.pos κ + a.dil * (ρ - κ) := by
    unfold Num.near num at h
    unfold pos
    rcases a.hdil with e | e | e <;> simp only [e] at h ⊢ <;> omega
  rw [e]; push_cast; ring

theorem p_eq (ρ κ h : Nat) (hρ : ρ < 4096) (hκ : κ < 4096) :
    (if a.num.near ρ κ then a.num.p ρ κ h else 0) = a.pn h (a.pos ρ) (a.pos κ) := by
  rw [a.pn_eq h _ _ (a.pos_lt ρ hρ)]
  by_cases hn : a.num.near ρ κ
  · rw [if_pos hn, if_pos ((a.near_valid ρ κ hρ hκ).1 hn)]
    unfold Num.p
    refine congrArg Real.exp ?_
    unfold s
    rw [a.pos_sub ρ κ hn, Finset.sum_mul]
    show _ - a.lse h (a.pos ρ) = _ - a.lse h (a.pos ρ)
    refine congrArg (· - a.lse h (a.pos ρ)) ?_
    show _ + -a.sl h * ((a.dil : ℝ) * ((ρ - κ : ℕ) : ℝ)) = _
    refine congrArg (· + -a.sl h * ((a.dil : ℝ) * ((ρ - κ : ℕ) : ℝ))) (Finset.sum_congr rfl fun e _ => ?_)
    show a.q _ _ * (1 / 8) * a.k _ _ = _
    ring
  · rw [if_neg hn, if_neg (fun h' => hn ((a.near_valid ρ κ hρ hκ).2 h'))]

theorem d_eq (ρ κ h : Nat) (hρ : ρ < 4096) (hκ : κ < 4096) :
    (if a.num.near ρ κ then a.num.d ρ κ h else 0) = a.ds h (a.pos ρ) (a.pos κ) := by
  unfold ds
  rw [← a.p_eq ρ κ h hρ hκ]
  split_ifs
  · rfl
  · exact (zero_mul _).symm

theorem dq_eq (ρ c : Nat) (hρ : ρ < 4096) : a.num.dq ρ c = a.DQ (a.pos ρ) c := by
  unfold Num.dq DQ
  rw [a.sum_pos fun u => a.ds (c / 64) (a.pos ρ) u * a.k u c]
  refine congrArg (· * (1 / 8 : ℝ)) (Finset.sum_congr rfl fun κ hκ => ?_)
  rw [← a.d_eq ρ κ _ hρ (mem_range.1 hκ), ite_mul, zero_mul]; rfl

theorem dk_eq (κ c : Nat) (hκ : κ < 4096) : a.num.dk κ c = a.DK (a.pos κ) c := by
  unfold Num.dk DK
  rw [a.sum_pos fun t => a.ds (c / 64) t (a.pos κ) * a.q t c]
  refine congrArg (· * (1 / 8 : ℝ)) (Finset.sum_congr rfl fun ρ hρ => ?_)
  rw [← a.d_eq ρ κ _ (mem_range.1 hρ) hκ, ite_mul, zero_mul]; rfl

theorem dv_eq (κ c : Nat) (hκ : κ < 4096) : a.num.dv κ c = a.DV (a.pos κ) c := by
  unfold Num.dv DV
  rw [a.sum_pos fun t => a.pn (c / 64) t (a.pos κ) * a.g t c]
  refine Finset.sum_congr rfl fun ρ hρ => ?_
  rw [← a.p_eq ρ κ _ (mem_range.1 hρ) hκ, ite_mul, zero_mul]; rfl

end Step
end Cert.Tile
-- ==== Proof.Ref.lean ====
module

public import proofs.«01_k».proof.Proof.Math
public import proofs.«01_k».proof.Proof.Gen.ReferenceIdeal.Read
public import Idealize.ShloMosaic.Lib.WordCmp

/-! # The reference, one operation at a time, as real numbers

Where the arguments hold real numbers, so does every array of the reference but the masked scores; each is named here by
the real number of `Step` it holds. -/

@[expose] public section
set_option maxRecDepth 16384
noncomputable section
namespace Cert.ReferenceIdeal.Read
open Idealize.ShloMosaic hiding ix1 ix2 ix3 ix4 eq_ix2 eq_ix3
open Cert.ReferenceIdeal.Gen Idealize.ShloMosaic.TcCoe Idealize.ShloMosaic.WordCmp ValueIdx
open Cert.Tile (Step)
open Finset (range mem_range)

/-- Arguments that hold the numbers of `a`. -/
structure Given (x0 : (⟨S4096x3072, .bf16⟩ : BufTy).Contents (Elt Ideal)) (x1 : (⟨S4096x1024, .bf16⟩ : BufTy).Contents (Elt Ideal))
    (x2 : (⟨S4096x16, .f32⟩ : BufTy).Contents (Elt Ideal)) (x3 : (⟨S16, .f32⟩ : BufTy).Contents (Elt Ideal)) (a : Step) : Prop where
  q : ∀ (i : S4096x3072.Idx) (c : Nat), c < 1024 → (i 1).val = c → (x0 i : EReal) = ((a.q (i 0).val c : ℝ) : EReal)
  k : ∀ (i : S4096x3072.Idx) (c : Nat), c < 1024 → (i 1).val = 1024 + c → (x0 i : EReal) = ((a.k (i 0).val c : ℝ) : EReal)
  v : ∀ (i : S4096x3072.Idx) (c : Nat), c < 1024 → (i 1).val = 2048 + c → (x0 i : EReal) = ((a.v (i 0).val c : ℝ) : EReal)
  g : ∀ (i : S4096x1024.Idx), (x1 i : EReal) = ((a.g (i 0).val (i 1).val : ℝ) : EReal)
  d : ∀ (i : S4096x16.Idx), (x2 i : EReal) = ((a.dl (i 0).val (i 1).val : ℝ) : EReal)
  s : ∀ (i : S16.Idx), (x3 i : EReal) = ((a.sl (i 0).val : ℝ) : EReal)
  dil : a.dil = 16
  M : ∀ (i : S16x4096.Idx), a.M (i 0).val (i 1).val = (val_main_v36 (F := Ideal) x0 x3 i : EReal).toReal

variable {x0 : (⟨S4096x3072, .bf16⟩ : BufTy).Contents (Elt Ideal)} {x1 : (⟨S4096x1024, .bf16⟩ : BufTy).Contents (Elt Ideal)}
  {x2 : (⟨S4096x16, .f32⟩ : BufTy).Contents (Elt Ideal)} {x3 : (⟨S16, .f32⟩ : BufTy).Contents (Elt Ideal)} {a : Step} (H : Given x0 x1 x2 x3 a)

theorem eighth_word : Ideal.ofBits .f32 0x3E000000#32 = ((1 / 8 : ℝ) : EReal) := by
  simp [Ideal.ofBits, Ideal.ieee]; rw [← EReal.coe_mul]; norm_num
theorem zero_word : Ideal.ofBits .f32 0x00000000#32 = ((0 : ℝ) : EReal) := by simp [Ideal.ofBits, Ideal.ieee]
theorem one_word : Ideal.ofBits .f32 0x3F800000#32 = ((1 : ℝ) : EReal) := by
  simp [Ideal.ofBits, Ideal.ieee]; rw [← EReal.coe_mul]; norm_num
theorem lowest_word : Ideal.ofBits .f32 0xFF800000#32 = (⊥ : EReal) := by simp [Ideal.ofBits, Ideal.ieee]

theorem ediv {x y : EReal} {r s : ℝ} (hs : s ≠ 0) (hx : x = (r : EReal)) (hy : y = (s : EReal)) : Ideal.div x y = ((r / s : ℝ) : EReal) := by
  rw [hx, hy, Ideal.div_coe hs, ← EReal.coe_mul, mul_one_div]
theorem emul {x y : EReal} {r s : ℝ} (hx : x = (r : EReal)) (hy : y = (s : EReal)) : x * y = ((r * s : ℝ) : EReal) := by
  rw [hx, hy, ← EReal.coe_mul]
theorem eadd {x y : EReal} {r s : ℝ} (hx : x = (r : EReal)) (hy : y = (s : EReal)) : x + y = ((r + s : ℝ) : EReal) := by
  rw [hx, hy, ← EReal.coe_add]
theorem eneg {x : EReal} {r : ℝ} (hx : x = (r : EReal)) : -x = ((-r : ℝ) : EReal) := by rw [hx, ← EReal.coe_neg]
theorem esum {n : Nat} {f : Fin n → EReal} (g : Nat → ℝ) (h : ∀ k, f k = ((g k.val : ℝ) : EReal)) : ∑ k, f k = ((∑ k ∈ range n, g k : ℝ) : EReal) := by
  rw [Finset.sum_range, Cert.Tile.coe_sum]; exact Finset.sum_congr rfl fun k _ => h k
theorem esumF {n : Nat} {f : Fin n → EReal} (g : Fin n → ℝ) (h : ∀ k, f k = ((g k : ℝ) : EReal)) : ∑ k, f k = ((∑ k, g k : ℝ) : EReal) := by
  rw [Cert.Tile.coe_sum]; exact Finset.sum_congr rfl fun k _ => h k
theorem esum0 {x y : EReal} {r : ℝ} (hx : x = ((0 : ℝ) : EReal)) (hy : y = (r : EReal)) : x + y = (r : EReal) := by
  rw [eadd hx hy, zero_add]

/-! ## Queries, keys, values, cotangents -/

include H in
theorem r4 (i : S4096x16x64.Idx) : (val_main_v4 (F := Ideal) x0 i : EReal) = ((a.q (i 0).val (64 * (i 1).val + (i 2).val) : ℝ) : EReal) := by
  have h1 : (i 1).val < 16 := (i 1).isLt
  have h2 : (i 2).val < 64 := (i 2).isLt
  rw [val_main_v4_apply, val_main_v1_apply, val_main_v0_apply]
  refine (H.q (idx_main_v1 (idx_main_v4 i)) (64 * (i 1).val + (i 2).val) (by omega) ?_).trans (congrArg (fun t => ((a.q t (64 * (i 1).val + (i 2).val) : ℝ) : EReal)) ?_)
  · show (((i 0).val * 16 + (i 1).val) * 64 + (i 2).val) % 1024 = _; omega
  · show (((i 0).val * 16 + (i 1).val) * 64 + (i 2).val) / 1024 = _; omega
include H in
theorem r5 (i : S4096x16x64.Idx) : (val_main_v5 (F := Ideal) x0 i : EReal) = ((a.k (i 0).val (64 * (i 1).val + (i 2).val) : ℝ) : EReal) := by
  have h1 : (i 1).val < 16 := (i 1).isLt
  have h2 : (i 2).val < 64 := (i 2).isLt
  rw [val_main_v5_apply, val_main_v2_apply, val_main_v0_apply]
  refine (H.k (idx_main_v2 (idx_main_v5 i)) (64 * (i 1).val + (i 2).val) (by omega) ?_).trans (congrArg (fun t => ((a.k t (64 * (i 1).val + (i 2).val) : ℝ) : EReal)) ?_)
  · show 1024 + (((i 0).val * 16 + (i 1).val) * 64 + (i 2).val) % 1024 = _; omega
  · show (((i 0).val * 16 + (i 1).val) * 64 + (i 2).val) / 1024 = _; omega
include H in
theorem r6 (i : S4096x16x64.Idx) : (val_main_v6 (F := Ideal) x0 i : EReal) = ((a.v (i 0).val (64 * (i 1).val + (i 2).val) : ℝ) : EReal) := by
  have h1 : (i 1).val < 16 := (i 1).isLt
  have h2 : (i 2).val < 64 := (i 2).isLt
  rw [val_main_v6_apply, val_main_v3_apply, val_main_v0_apply]
  refine (H.v (idx_main_v3 (idx_main_v6 i)) (64 * (i 1).val + (i 2).val) (by omega) ?_).trans (congrArg (fun t => ((a.v t (64 * (i 1).val + (i 2).val) : ℝ) : EReal)) ?_)
  · show 2048 + (((i 0).val * 16 + (i 1).val) * 64 + (i 2).val) % 1024 = _; omega
  · show (((i 0).val * 16 + (i 1).val) * 64 + (i 2).val) / 1024 = _; omega
include H in
theorem r65 (i : S16x64x4096.Idx) : (val_main_v65 (F := Ideal) x1 i : EReal) = ((a.g (i 2).val (64 * (i 0).val + (i 1).val) : ℝ) : EReal) := by
  have h1 : (i 0).val < 16 := (i 0).isLt
  have h2 : (i 1).val < 64 := (i 1).isLt
  rw [val_main_v65_apply, val_main_v61_apply, val_main_v60_apply]
  refine (H.g (idx_main_v61 (idx_main_v65 i))).trans (congrArg₂ (fun t c => ((a.g t c : ℝ) : EReal)) ?_ ?_)
  · show (((i 2).val * 16 + (i 0).val) * 64 + (i 1).val) / 1024 = _; omega
  · show (((i 2).val * 16 + (i 0).val) * 64 + (i 1).val) % 1024 = _; omega

/-! ## The window and the scores -/

theorem r16 (i : S4096x4096.Idx) : (val_main_v16 (F := Ideal) i).toInt = ((i 0).val : ℤ) - ((i 1).val : ℤ) := by
  have h0 : (i 0).val < 4096 := (i 0).isLt
  have h1 : (i 1).val < 4096 := (i 1).isLt
  rw [val_main_v16_apply, val_main_v14_apply, val_main_v15_apply, val_main_v11_apply, val_main_v13_apply, val_main_v10_apply, val_main_v12_apply]
  show (BitVec.ofNat 32 (i 0).val - BitVec.ofNat 32 (i 1).val).toInt = _
  rw [BitVec.toInt_sub, BitVec.toInt_ofNat', BitVec.toInt_ofNat']
  simp only [Int.bmod_def]
  omega

theorem r26 (i : S4096x4096.Idx) (hd : a.dil = 16) : val_main_v26 (F := Ideal) i = if a.valid (i 0).val (i 1).val then 1#1 else 0#1 := by
  have h0 : (i 0).val < 4096 := (i 0).isLt
  have h1 : (i 1).val < 4096 := (i 1).isLt
  have e := r16 i
  have e1 : val_main_v18 (F := Ideal) i = BitVec.ofBool (decide ((0 : ℤ) ≤ ((i 0).val : ℤ) - ((i 1).val : ℤ))) := by
    rw [val_main_v18_apply, val_main_v17_apply, val_main_c_apply, cmpi_sge_eq, e]; rfl
  have e2 : val_main_v20 (F := Ideal) i = BitVec.ofBool (decide (((i 0).val : ℤ) - ((i 1).val : ℤ) ≤ 2048)) := by
    rw [val_main_v20_apply, val_main_v19_apply, val_main_c_0_apply, cmpi_sle_eq, e]; rfl
  have e3 : val_main_v25 (F := Ideal) i = BitVec.ofBool (decide (Int.tmod (((i 0).val : ℤ) - ((i 1).val : ℤ)) 16 = 0)) := by
    rw [val_main_v25_apply, val_main_v24_apply, val_main_c_2_apply, val_main_v23_apply, val_main_v22_apply, val_main_c_1_apply, cmpi_eq_eq]
    refine congrArg BitVec.ofBool (decide_eq_decide.2 ?_)
    have s : IntOp.remsi .host (val_main_v16 (F := Ideal) i) 16#32 = (val_main_v16 (F := Ideal) i).srem 16#32 := by
      unfold IntOp.remsi
      refine if_neg ?_
      unfold IntOp.SDivCorner
      rintro (h | ⟨-, h⟩)
      · exact absurd h (by decide)
      · exact absurd h (by decide)
    rw [s, ← BitVec.toInt_inj, BitVec.toInt_srem, e]
    rfl
  rw [val_main_v26_apply, val_main_v21_apply, e1, e2, e3]
  have hw : a.valid (i 0).val (i 1).val ↔ (i 1).val ≤ (i 0).val ∧ (i 0).val - (i 1).val ≤ 128 * 16 ∧ ((i 0).val - (i 1).val) % 16 = 0 := by
    unfold Step.valid; rw [hd]
  rw [if_congr hw rfl rfl]
  by_cases hv : (i 1).val ≤ (i 0).val ∧ (i 0).val - (i 1).val ≤ 128 * 16 ∧ ((i 0).val - (i 1).val) % 16 = 0
  · rw [if_pos hv, decide_eq_true (by omega), decide_eq_true (by omega), decide_eq_true (by
      have : ((i 0).val : ℤ) - ((i 1).val : ℤ) = (((i 0).val - (i 1).val : ℕ) : ℤ) := by omega
      rw [this, Int.tmod_eq_emod_of_nonneg (by omega)]; omega)]
    rfl
  · rw [if_neg hv]
    by_cases c1 : (0 : ℤ) ≤ ((i 0).val : ℤ) - ((i 1).val : ℤ)
    · by_cases c2 : ((i 0).val : ℤ) - ((i 1).val : ℤ) ≤ 2048
      · rw [decide_eq_false (p := Int.tmod _ 16 = 0) (by
          rw [Int.tmod_eq_emod_of_nonneg c1]; omega)]
        generalize BitVec.ofBool _ = x; generalize BitVec.ofBool (decide (_ ≤ (2048 : ℤ))) = y
        revert x y; decide
      · rw [decide_eq_false c2]
        generalize BitVec.ofBool (decide ((0 : ℤ) ≤ _)) = x; generalize BitVec.ofBool (decide (_ = (0 : ℤ))) = y
        revert x y; decide
    · rw [decide_eq_false c1]
      generalize BitVec.ofBool (decide (_ ≤ (2048 : ℤ))) = x; generalize BitVec.ofBool (decide (_ = (0 : ℤ))) = y
      revert x y; decide

include H in
theorem r34 (i : S16x4096x4096.Idx) : (val_main_v34 (F := Ideal) x0 x3 i : EReal) = ((a.s (i 0).val (i 1).val (i 2).val : ℝ) : EReal) := by
  rw [val_main_v34_apply, val_main_v9_apply, val_main_v7_apply, val_main_v8_apply, val_main_cst_apply, val_main_v33_apply,
    val_main_v31_apply, val_main_v28_apply, val_main_v27_apply, val_main_v32_apply, val_main_v30_apply, val_main_v29_apply]
  refine eadd (emul (esumF _ fun e => emul (r4 H _) (r5 H _)) eighth_word) (emul (eneg (H.s _)) ?_)
  show (((val_main_v16 (F := Ideal) _).toInt : ℝ) : EReal) = _
  rw [r16]
  push_cast
  rfl

include H in
theorem r35_1 (i : S16x4096x4096.Idx) : val_main_v35_1 (F := Ideal) i = if a.valid (i 1).val (i 2).val then 1#1 else 0#1 := by
  rw [val_main_v35_1_apply]; exact r26 _ H.dil

include H in
theorem r35 (i : S16x4096x4096.Idx) : (val_main_v35_0 (F := Ideal) x0 x3 i : EReal)
    = if a.valid (i 1).val (i 2).val then ((a.s (i 0).val (i 1).val (i 2).val : ℝ) : EReal) else ⊥ := by
  rw [val_main_v35_0_apply, r35_1 H, val_main_call0_v2_apply, val_main_call0_v0_apply, val_main_cst_3_apply]
  by_cases hv : a.valid (i 1).val (i 2).val
  · rw [if_pos hv, if_pos hv]; exact r34 H i
  · rw [if_neg hv, if_neg hv]; exact lowest_word

/-- A row's maximum is one of its masked scores and no less than any. -/
theorem r36_fold (i : S16x4096.Idx) : (∀ u : Fin 4096, (val_main_v35_0 (F := Ideal) x0 x3 (ix3 (i 0) (i 1) u) : EReal) ≤ val_main_v36 (F := Ideal) x0 x3 i)
    ∧ ((val_main_v36 (F := Ideal) x0 x3 i : EReal) ≤ ⊥ ∨ ∃ u : Fin 4096, (val_main_v36 (F := Ideal) x0 x3 i : EReal) ≤ val_main_v35_0 (F := Ideal) x0 x3 (ix3 (i 0) (i 1) u)) := by
  unfold val_main_v36
  generalize val_main_v35_0 (F := Ideal) x0 x3 = y
  have e : (Host.reduce (FloatOps.maximumf (F := Ideal) (φ := .f32)) y (val_main_cst_4 (F := Ideal)) reducesTo_S16x4096x4096_S16x4096_d2 h_S_ i : EReal)
      = (Finset.univ : Finset (Fin 4096)).fold max (⊥ : EReal) (fun u => y (ix3 (i 0) (i 1) u)) := by
    rw [Host.reduce_eq_fold_single (α := Ideal .f32) (FloatOps.maximumf (F := Ideal) (φ := .f32)) y _ reducesTo_S16x4096x4096_S16x4096_d2 (by decide) h_S_ i]
    rw [show (val_main_cst_4 (F := Ideal) (Shape.Idx.first h_S_) : EReal) = ⊥ from lowest_word]
    refine Finset.fold_congr (op := max) fun u _ => ?_
    exact congrArg y (funext fun b => Fin.ext (by match b with | ⟨0, _⟩ => rfl | ⟨1, _⟩ => rfl | ⟨2, _⟩ => rfl))
  rw [e]
  constructor
  · intro u
    exact Finset.le_fold_max _ |>.2 (Or.inr ⟨u, Finset.mem_univ u, le_rfl⟩)
  · rcases (Finset.le_fold_max _).1 (le_refl ((Finset.univ : Finset (Fin 4096)).fold max (⊥ : EReal) (fun u => y (ix3 (i 0) (i 1) u)))) with h | ⟨u, -, h⟩
    · exact Or.inl h
    · exact Or.inr ⟨u, h⟩

include H in
theorem r36 (i : S16x4096.Idx) : (val_main_v36 (F := Ideal) x0 x3 i : EReal) = ((a.M (i 0).val (i 1).val : ℝ) : EReal)
    ∧ ∃ u : Fin 4096, (val_main_v35_0 (F := Ideal) x0 x3 (ix3 (i 0) (i 1) u) : EReal) = val_main_v36 (F := Ideal) x0 x3 i := by
  obtain ⟨hle, hge⟩ := r36_fold (x0 := x0) (x3 := x3) i
  have hs := hle (i 1)
  rw [r35 H, if_pos (a.valid_self _)] at hs
  have hb : ¬ (val_main_v36 (F := Ideal) x0 x3 i : EReal) ≤ ⊥ := fun h => absurd (hs.trans h) (by simp)
  obtain ⟨u, hu⟩ := hge.resolve_left hb
  have e := le_antisymm (hle u) hu
  refine ⟨?_, u, e⟩
  rw [H.M i, ← e, r35 H]
  by_cases hv : a.valid ((ix3 (i 0) (i 1) u : S16x4096x4096.Idx) 1).val ((ix3 (i 0) (i 1) u : S16x4096x4096.Idx) 2).val
  · rw [if_pos hv]; rfl
  · rw [r35 H, if_neg hv] at hu
    exact absurd hu hb

end Cert.ReferenceIdeal.Read
-- ==== Proof.Grad.lean ====
module

public import proofs.«01_k».proof.Proof.Ref

/-! # The reference's softmax, its gradient and its result, as real numbers -/

@[expose] public section
set_option maxRecDepth 16384
noncomputable section
namespace Cert.ReferenceIdeal.Read
open Idealize.ShloMosaic hiding ix1 ix2 ix3 ix4 eq_ix2 eq_ix3
open Cert.ReferenceIdeal.Gen Idealize.ShloMosaic.TcCoe Idealize.ShloMosaic.WordCmp ValueIdx
open Cert.Tile (Step)
open Finset (range mem_range)

variable {x0 : (⟨S4096x3072, .bf16⟩ : BufTy).Contents (Elt Ideal)} {x1 : (⟨S4096x1024, .bf16⟩ : BufTy).Contents (Elt Ideal)}
  {x2 : (⟨S4096x16, .f32⟩ : BufTy).Contents (Elt Ideal)} {x3 : (⟨S16, .f32⟩ : BufTy).Contents (Elt Ideal)} {a : Step} (H : Given x0 x1 x2 x3 a)

/-! ## The softmax -/

include H in
theorem r45 (i : S16x4096x4096.Idx) : (val_main_v45 (F := Ideal) x0 x3 i : EReal) = ((a.w (i 0).val (i 1).val (i 2).val : ℝ) : EReal) := by
  rw [val_main_v45_apply, val_main_v44_apply, val_main_v43_apply, val_main_v42_apply]
  show Ideal.exp ((val_main_v35_0 (F := Ideal) x0 x3 i : EReal) - (val_main_v36 (F := Ideal) x0 x3 _ : EReal)) = _
  rw [r35 H, (r36 H _).1]
  unfold Step.w
  by_cases hv : a.valid (i 1).val (i 2).val
  · rw [if_pos hv, if_pos hv, ← EReal.coe_sub]; rfl
  · rw [if_neg hv, if_neg hv, EReal.bot_sub]; rfl

include H in
theorem r46 (i : S16x4096.Idx) : (val_main_v46 (F := Ideal) x0 x3 i : EReal) = ((a.W (i 0).val (i 1).val : ℝ) : EReal) := by
  rw [val_main_v46_apply]
  exact esum0 zero_word (esum (fun u => a.w (i 0).val (i 1).val u) fun k => r45 H _)

include H in
theorem r47 (i : S16x4096x1.Idx) : (val_main_v47 (F := Ideal) x0 x3 i : EReal) = ((a.W (i 0).val (i 1).val : ℝ) : EReal) := by
  rw [val_main_v47_apply]; exact r46 H _

theorem W_ne {n : Nat} (h : Nat) (t : Fin n) (hn : n = 4096) : a.W h t.val ≠ 0 := (a.W_pos h t.val (by omega)).ne'

include H in
theorem r49 (i : S16x4096x4096.Idx) : (val_main_v49 (F := Ideal) x0 x3 i : EReal) = ((a.pn (i 0).val (i 1).val (i 2).val : ℝ) : EReal) := by
  rw [val_main_v49_apply, val_main_v48_apply]
  exact ediv (W_ne (a := a) _ (i 1) rfl) (r45 H _) (r47 H _)

include H in
theorem r52 (i : S16x4096x1.Idx) : (val_main_v52 (F := Ideal) x0 x3 i : EReal)
    = ((1 / (a.W (i 0).val (i 1).val * a.W (i 0).val (i 1).val) : ℝ) : EReal) := by
  rw [val_main_v52_apply, val_main_v51_apply, val_main_cst_7_apply, val_main_v50_apply]
  exact ediv (mul_ne_zero (W_ne (a := a) _ (i 1) rfl) (W_ne (a := a) _ (i 1) rfl)) one_word (emul (r47 H i) (r47 H i))

/-- The log-sum-exp of each row. -/
theorem r58 (H : Given x0 x1 x2 x3 a) (i : S4096x16.Idx) : (val_main_v58 (F := Ideal) x0 x3 i : EReal) = ((a.lse (i 1).val (i 0).val : ℝ) : EReal) := by
  have h0 : (i 0).val < 4096 := (i 0).isLt
  have h1 : (i 1).val < 16 := (i 1).isLt
  rw [val_main_v58_apply, val_main_v57_apply, val_main_v56_apply, val_main_v42_apply, val_main_v55_apply]
  have e : ∀ j : S16x4096x1.Idx, (FloatOps.addf (F := Ideal) (φ := .f32) (val_main_v36 (F := Ideal) x0 x3 (idx_main_v42 j)) (FloatOps.hostUnary .log (val_main_v47 (F := Ideal) x0 x3 j)) : EReal)
      = ((a.lse (j 0).val (j 1).val : ℝ) : EReal) := fun j => by
    refine eadd (r36 H _).1 ?_
    show Ideal.log (val_main_v47 (F := Ideal) x0 x3 j : EReal) = _
    rw [r47 H]
    exact if_neg (not_le.2 (a.W_pos _ _ (j 1).isLt))
  refine (e _).trans (congrArg₂ (fun h t => ((a.lse h t : ℝ) : EReal)) ?_ ?_)
  · show ((i 1).val * 4096 + (i 0).val) / 4096 = _; omega
  · show ((i 1).val * 4096 + (i 0).val) / 1 % 4096 = _; omega

/-- The attention's output. -/
theorem r59 (H : Given x0 x1 x2 x3 a) (i : S4096x1024.Idx) : (val_main_v59 (F := Ideal) x0 x3 i : EReal) = ((a.o (i 0).val (i 1).val : ℝ) : EReal) := by
  have h0 : (i 0).val < 4096 := (i 0).isLt
  have h1 : (i 1).val < 1024 := (i 1).isLt
  rw [val_main_v59_apply, val_main_v54_apply, val_main_v53_apply]
  have e0 : ((i 0).val * 1024 + (i 1).val) / 1024 = (i 0).val := by omega
  have e1 : ((i 0).val * 1024 + (i 1).val) / 64 % 16 = (i 1).val / 64 := by omega
  have e2 : 64 * (((i 0).val * 1024 + (i 1).val) / 64 % 16) + ((i 0).val * 1024 + (i 1).val) % 64 = (i 1).val := by omega
  refine esum (fun u => a.v u (i 1).val * a.pn ((i 1).val / 64) (i 0).val u) fun k => ?_
  refine emul ((r6 H _).trans (congrArg (fun c => ((a.v k.val c : ℝ) : EReal)) e2)) ((r49 H _).trans (congrArg₂ (fun h t => ((a.pn h t k.val : ℝ) : EReal)) e1 e0))

/-! ## The gradient of the scores -/

include H in
theorem r66 (i : S16x4096x4096.Idx) : (val_main_v66 (F := Ideal) x0 x1 i : EReal) = ((a.dpn (i 0).val (i 1).val (i 2).val : ℝ) : EReal) := by
  rw [val_main_v66_apply]
  exact esumF _ fun e => emul (r65 H _) (r6 H _)

include H in
theorem r63 (i : S16x4096x1.Idx) : (val_main_v63 (F := Ideal) x2 i : EReal) = ((a.dl (i 1).val (i 0).val : ℝ) : EReal) := by
  rw [val_main_v63_apply, val_main_v62_apply]; exact H.d _

/-- The derivative with respect to a weight, as the reference composes it, times the weight. -/
theorem ds_eq (h t u : Nat) (ht : t < 4096) :
    (a.dpn h t u / a.W h t + (a.dl t h / a.W h t + -∑ k ∈ range 4096, a.dpn h t k * (1 / (a.W h t * a.W h t)) * a.w h t k)) * a.w h t u = a.ds h t u := by
  have hW := (a.W_pos h t ht).ne'
  unfold Step.ds Step.E
  rw [a.sum_go]
  have : ∑ k ∈ range 4096, a.dpn h t k * (1 / (a.W h t * a.W h t)) * a.w h t k = (∑ k ∈ range 4096, a.dpn h t k * a.pn h t k) / a.W h t := by
    rw [Finset.sum_div]
    refine Finset.sum_congr rfl fun k _ => ?_
    unfold Step.pn
    field_simp
  rw [this]
  generalize ∑ k ∈ range 4096, a.dpn h t k * a.pn h t k = S
  unfold Step.pn
  field_simp
  ring

theorem at73 (j : S16x4096.Idx) : idx_main_v73 (idx_main_v78 j 0) = j := funext fun b => Fin.ext (by
  have h0 : (j 0).val < 16 := (j 0).isLt
  have h1 : (j 1).val < 4096 := (j 1).isLt
  match b with
  | ⟨0, _⟩ => show (((j 0).val * 4096 + (j 1).val) * 1 + 0) / 4096 = (j 0).val; omega
  | ⟨1, _⟩ => show (((j 0).val * 4096 + (j 1).val) * 1 + 0) % 4096 = (j 1).val; omega)
theorem at84 (j : S16x4096.Idx) : idx_main_v84 (idx_main_v86 j 0) = j := at73 j

include H in
theorem r81 (i : S16x4096x4096.Idx) : (val_main_v81 (F := Ideal) x0 x1 x2 x3 i : EReal) = ((a.ds (i 0).val (i 1).val (i 2).val : ℝ) : EReal) := by
  rw [← ds_eq (a := a) _ _ _ (i 1).isLt, val_main_v81_apply, val_main_v80_apply, val_main_v77_apply, val_main_v76_apply, val_main_v79_apply, val_main_v78_apply, Fin.sum_univ_one,
    val_main_v75_apply, val_main_v64_apply, val_main_v74_apply, val_main_v73_apply, at73, val_main_v72_apply]
  refine emul (eadd (ediv (W_ne (a := a) _ (i 1) rfl) (r66 H i) (r47 H _)) (esum0 zero_word (eadd (ediv (W_ne (a := a) _ (i 1) rfl) (r63 H _) (r47 H _)) (eneg (esum0 zero_word ?_))))) (r45 H i)
  refine esum (fun k => a.dpn (i 0).val (i 1).val k * (1 / (a.W (i 0).val (i 1).val * a.W (i 0).val (i 1).val)) * a.w (i 0).val (i 1).val k) fun k => ?_
  rw [val_main_v71_apply, val_main_v70_apply, val_main_v69_apply]
  exact emul (emul (r66 H _) (r52 H _)) (r45 H _)

include H in
theorem r86 (i : S16x4096.Idx) : (val_main_v86 (F := Ideal) x0 x1 x2 x3 i : EReal) = ((0 : ℝ) : EReal) := by
  rw [val_main_v86_apply, Fin.sum_univ_one, val_main_v85_apply, val_main_v84_apply, at84, val_main_v83_apply]
  refine esum0 zero_word ((eadd (r63 H _) (esum0 zero_word (esum (fun k => -a.ds (i 0).val (i 1).val k) fun k => ?_))).trans ?_)
  · rw [val_main_v82_apply]; exact eneg (r81 H _)
  · refine congrArg (fun r : ℝ => (r : EReal)) ?_
    rw [Finset.sum_neg_distrib, a.sum_ds _ _ (i 1).isLt]
    exact add_neg_cancel _

/-! ## The row maximum's share: nothing -/

/-- Whether a score is its row's maximum, as a number. -/
def tie (x0 : (⟨S4096x3072, .bf16⟩ : BufTy).Contents (Elt Ideal)) (x3 : (⟨S16, .f32⟩ : BufTy).Contents (Elt Ideal)) (i : S16x4096x4096.Idx) : ℝ :=
  ((val_main_v39 (F := Ideal) x0 x3 i).toNat : ℝ)
theorem r40 (i : S16x4096x4096.Idx) : (val_main_v40 (F := Ideal) x0 x3 i : EReal) = ((tie x0 x3 i : ℝ) : EReal) := by
  rw [val_main_v40_apply]; rfl

include H in
theorem tie_pos (i : S16x4096.Idx) : 0 < ∑ k : Fin 4096, tie x0 x3 (idx_main_v41 i k) := by
  obtain ⟨u, hu⟩ := (r36 H i).2
  refine Finset.sum_pos' (fun k _ => Nat.cast_nonneg _) ⟨u, Finset.mem_univ u, ?_⟩
  have e : val_main_v39 (F := Ideal) x0 x3 (idx_main_v41 i u) = 1#1 := by
    rw [val_main_v39_apply, val_main_v38_apply, val_main_v37_apply]
    have h0 : (i 0).val < 16 := (i 0).isLt
    have h1 : (i 1).val < 4096 := (i 1).isLt
    have e1 : idx_main_v37 (idx_main_v38 (idx_main_v41 i u)) = i := funext fun b => Fin.ext (by
      match b with
      | ⟨0, _⟩ => show (((i 0).val * 4096 + (i 1).val) * 1 + 0) / 4096 = (i 0).val; omega
      | ⟨1, _⟩ => show (((i 0).val * 4096 + (i 1).val) * 1 + 0) % 4096 = (i 1).val; omega)
    have e2 : idx_main_v41 i u = ix3 (i 0) (i 1) u := funext fun b => Fin.ext (by match b with | ⟨0, _⟩ => rfl | ⟨1, _⟩ => rfl | ⟨2, _⟩ => rfl)
    rw [e1, e2]
    show BitVec.ofBool (decide ((val_main_v35_0 (F := Ideal) x0 x3 (ix3 (i 0) (i 1) u) : EReal) = val_main_v36 (F := Ideal) x0 x3 i)) = _
    rw [decide_eq_true hu]; rfl
  unfold tie
  rw [e]; norm_num

include H in
theorem r89 (i : S16x4096x4096.Idx) : (val_main_v89 (F := Ideal) x0 x1 x2 x3 i : EReal) = ((0 : ℝ) : EReal) := by
  rw [val_main_v89_apply, val_main_v88_apply, val_main_v87_apply]
  refine (emul (s := tie x0 x3 i) (ediv (tie_pos H (idx_main_v88 i)).ne' (r86 H _) ?_) (r40 i)).trans (by rw [zero_div, zero_mul])
  rw [val_main_v41_apply]
  exact esum0 zero_word (esumF _ fun k => r40 _)

include H in
theorem r93 (i : S16x4096x4096.Idx) : (val_main_v93 (F := Ideal) x0 x1 x2 x3 i : EReal) = ((a.ds (i 0).val (i 1).val (i 2).val * (1 / 8) : ℝ) : EReal) := by
  rw [val_main_v93_apply, val_main_v92_apply, val_main_cst_12_apply, val_main_v91_apply, r35_1 H]
  refine emul ?_ eighth_word
  by_cases hv : a.valid (i 1).val (i 2).val
  · rw [if_pos hv]
    show (val_main_v90 (F := Ideal) x0 x1 x2 x3 i : EReal) = _
    rw [val_main_v90_apply]
    exact (eadd (r81 H i) (r89 H i)).trans (by rw [add_zero])
  · rw [if_neg hv]
    refine zero_word.trans (congrArg (fun r : ℝ => (r : EReal)) ?_)
    unfold Step.ds Step.pn Step.w
    rw [if_neg hv]; simp

/-! ## The three gradients -/

include H in
theorem r100 (i : S4096x1024.Idx) : (val_main_v100 (F := Ideal) x0 x1 x2 x3 i : EReal) = ((a.DQ (i 0).val (i 1).val : ℝ) : EReal) := by
  have h0 : (i 0).val < 4096 := (i 0).isLt
  have h1 : (i 1).val < 1024 := (i 1).isLt
  rw [val_main_v100_apply, val_main_v97_apply, val_main_v96_apply]
  have e0 : ((i 0).val * 1024 + (i 1).val) / 1024 = (i 0).val := by omega
  have e1 : ((i 0).val * 1024 + (i 1).val) / 64 % 16 = (i 1).val / 64 := by omega
  have e2 : 64 * (((i 0).val * 1024 + (i 1).val) / 64 % 16) + ((i 0).val * 1024 + (i 1).val) % 64 = (i 1).val := by omega
  refine (esum (fun u => a.ds ((i 1).val / 64) (i 0).val u * (1 / 8) * a.k u (i 1).val) fun k => ?_).trans (congrArg (fun r : ℝ => (r : EReal)) ?_)
  · exact emul ((r93 H _).trans (congrArg₂ (fun h t => ((a.ds h t k.val * (1 / 8) : ℝ) : EReal)) e1 e0)) ((r5 H _).trans (congrArg (fun c => ((a.k k.val c : ℝ) : EReal)) e2))
  · unfold Step.DQ
    rw [Finset.sum_mul]
    exact Finset.sum_congr rfl fun u _ => by ring

include H in
theorem r99 (i : S4096x1024.Idx) : (val_main_v99 (F := Ideal) x0 x1 x2 x3 i : EReal) = ((a.DK (i 0).val (i 1).val : ℝ) : EReal) := by
  have h0 : (i 0).val < 4096 := (i 0).isLt
  have h1 : (i 1).val < 1024 := (i 1).isLt
  rw [val_main_v99_apply, val_main_v95_apply, val_main_v94_apply]
  have e0 : ((i 0).val * 1024 + (i 1).val) / 1024 = (i 0).val := by omega
  have e1 : ((i 0).val * 1024 + (i 1).val) / 64 % 16 = (i 1).val / 64 := by omega
  have e2 : 64 * (((i 0).val * 1024 + (i 1).val) / 64 % 16) + ((i 0).val * 1024 + (i 1).val) % 64 = (i 1).val := by omega
  refine (esum (fun t => a.ds ((i 1).val / 64) t (i 0).val * (1 / 8) * a.q t (i 1).val) fun k => ?_).trans (congrArg (fun r : ℝ => (r : EReal)) ?_)
  · exact emul ((r93 H _).trans (congrArg₂ (fun h u => ((a.ds h k.val u * (1 / 8) : ℝ) : EReal)) e1 e0)) ((r4 H _).trans (congrArg (fun c => ((a.q k.val c : ℝ) : EReal)) e2))
  · unfold Step.DK
    rw [Finset.sum_mul]
    exact Finset.sum_congr rfl fun u _ => by ring

include H in
theorem r98 (i : S4096x1024.Idx) : (val_main_v98 (F := Ideal) x0 x1 x3 i : EReal) = ((a.DV (i 0).val (i 1).val : ℝ) : EReal) := by
  have h0 : (i 0).val < 4096 := (i 0).isLt
  have h1 : (i 1).val < 1024 := (i 1).isLt
  rw [val_main_v98_apply, val_main_v68_apply, val_main_v67_apply]
  have e0 : ((i 0).val * 1024 + (i 1).val) / 1024 = (i 0).val := by omega
  have e1 : ((i 0).val * 1024 + (i 1).val) / 64 % 16 = (i 1).val / 64 := by omega
  have e2 : 64 * (((i 0).val * 1024 + (i 1).val) / 64 % 16) + ((i 0).val * 1024 + (i 1).val) % 64 = (i 1).val := by omega
  refine (esum (fun t => a.g t (i 1).val * a.pn ((i 1).val / 64) t (i 0).val) fun k => ?_).trans (congrArg (fun r : ℝ => (r : EReal)) ?_)
  · exact emul ((r65 H _).trans (congrArg (fun c => ((a.g k.val c : ℝ) : EReal)) e2)) ((r49 H _).trans (congrArg₂ (fun h u => ((a.pn h k.val u : ℝ) : EReal)) e1 e0))
  · unfold Step.DV
    exact Finset.sum_congr rfl fun u _ => by ring

end Cert.ReferenceIdeal.Read
-- ==== Proof.Blocks.lean ====
module

public import proofs.«01_k».proof.Proof.Gen.KernelIdeal.Value
public import proofs.«01_k».proof.Proof.Tile

/-! # What one grid step stores

A grid step treats two blocks of 128 rows. Its stores into the result block and into the carry are the passes of
`Tile.lean`, each on its own loads. -/

@[expose] public section
set_option maxRecDepth 16384
noncomputable section
namespace Cert.KernelIdeal.Value
open Idealize.ShloMosaic Idealize.ShloMosaic.TcCoe Idealize.SL.Sem
open Idealize.ShloMosaic.Pipeline (Dat)
variable {F : FTy → Type} [FloatOps F]
variable (m : (ℓ : Loc nD τ sig) → Buf (Elt F) ℓ) (c : Dev nD) (t : Fin cfg0.N)

/-- A box of 128 rows lies inside its block. -/
theorem box_inb {R C r o w : Nat} (h0 : r + 128 ≤ R) (h1 : o + w ≤ C) :
    ∀ a, (![r, o] : Fin 2 → Nat) a + (![128, w] : Fin 2 → Nat) a ≤ (⟨2, ![R, C]⟩ : Shape).size a := by
  intro a; fin_cases a <;> simp <;> omega

theorem table_inb {g : Nat} (h : g < 8) :
    ∀ a, (![1, g, 0, 0] : Fin 4 → Nat) a + (![1, 1, 512, 128] : Fin 4 → Nat) a ≤ S2x8x512x128.size a := by
  intro a; fin_cases a <;> simp [S2x8x512x128] <;> omega

/-- A box of 128 rows of a window's block. -/
abbrev box {R C : Nat} {φ : EltTy} (X : Vec F ⟨2, ![R, C]⟩ φ) (w r o : Nat) (h0 : r + 128 ≤ R) (h1 : o + w ≤ C) :
    Vec F ⟨2, ![128, w]⟩ φ :=
  View.ld X (Rect.unit (s := ⟨2, ![R, C]⟩) ![r, o] ![128, w] (box_inb h0 h1))

/-- What the passes over a block that is not the step's last load. -/
def inFirst (s : Nat) (hs : s < 1) (g : Fin 4) : Tile.In F where
  kA := box (Gen.iblk m c 0 t) 128 (128 * s) (256 * g.val) (by omega) (by omega)
  kB := box (Gen.iblk m c 0 t) 128 (128 * s) (256 * g.val + 128) (by omega) (by omega)
  vA := box (Gen.iblk m c 1 t) 128 (128 * s) (256 * g.val) (by omega) (by omega)
  vB := box (Gen.iblk m c 1 t) 128 (128 * s) (256 * g.val + 128) (by omega) (by omega)
  qc := box (Gen.iblk m c 2 t) 256 (128 * s) (256 * g.val) (by omega) (by omega)
  qn := box (Gen.iblk m c 2 t) 256 (128 * (s + 1)) (256 * g.val) (by omega) (by omega)
  gc := box (Gen.iblk m c 4 t) 256 (128 * s) (256 * g.val) (by omega) (by omega)
  gn := box (Gen.iblk m c 4 t) 256 (128 * (s + 1)) (256 * g.val) (by omega) (by omega)
  lc := box (Gen.iblk m c 6 t) 128 (128 * s) 0 (by omega) (by omega)
  ln := box (Gen.iblk m c 6 t) 128 (128 * (s + 1)) 0 (by omega) (by omega)
  dc := box (Gen.iblk m c 8 t) 128 (128 * s) 0 (by omega) (by omega)
  dn := box (Gen.iblk m c 8 t) 128 (128 * (s + 1)) 0 (by omega) (by omega)
  tA := View.ld (Gen.iblk m c 10 t) (Rect.unit (s := S2x8x512x128) ![1, 2 * g.val, 0, 0] ![1, 1, 512, 128] (table_inb (by omega)))
  tB := View.ld (Gen.iblk m c 10 t) (Rect.unit (s := S2x8x512x128) ![1, 2 * g.val + 1, 0, 0] ![1, 1, 512, 128] (table_inb (by omega)))

/-- The bias tables of the passes over a step's last block, per pair of heads. -/
def lastTable (p : Fin 8) : Vec F Tile.S1x1x512x128 .f32 :=
  match p with
  | 0 => View.ld (Gen.iblk m c 10 t) (Rect.unit (s := S2x8x512x128) (k0_off1 (grid0.coords t)) ![1, 1, 512, 128] (Gen.k0_off1_inb _))
  | 1 => View.ld (Gen.iblk m c 10 t) (Rect.unit (s := S2x8x512x128) (k0_off2 (grid0.coords t)) ![1, 1, 512, 128] (Gen.k0_off2_inb _))
  | 2 => View.ld (Gen.iblk m c 10 t) (Rect.unit (s := S2x8x512x128) (k0_off3 (grid0.coords t)) ![1, 1, 512, 128] (Gen.k0_off3_inb _))
  | 3 => View.ld (Gen.iblk m c 10 t) (Rect.unit (s := S2x8x512x128) (k0_off4 (grid0.coords t)) ![1, 1, 512, 128] (Gen.k0_off4_inb _))
  | 4 => View.ld (Gen.iblk m c 10 t) (Rect.unit (s := S2x8x512x128) (k0_off5 (grid0.coords t)) ![1, 1, 512, 128] (Gen.k0_off5_inb _))
  | 5 => View.ld (Gen.iblk m c 10 t) (Rect.unit (s := S2x8x512x128) (k0_off6 (grid0.coords t)) ![1, 1, 512, 128] (Gen.k0_off6_inb _))
  | 6 => View.ld (Gen.iblk m c 10 t) (Rect.unit (s := S2x8x512x128) (k0_off7 (grid0.coords t)) ![1, 1, 512, 128] (Gen.k0_off7_inb _))
  | 7 => View.ld (Gen.iblk m c 10 t) (Rect.unit (s := S2x8x512x128) (k0_off8 (grid0.coords t)) ![1, 1, 512, 128] (Gen.k0_off8_inb _))

/-- What the passes over a step's last block load. -/
def inLast (g : Fin 4) : Tile.In F where
  kA := box (Gen.iblk m c 0 t) 128 128 (256 * g.val) (by omega) (by omega)
  kB := box (Gen.iblk m c 0 t) 128 128 (256 * g.val + 128) (by omega) (by omega)
  vA := box (Gen.iblk m c 1 t) 128 128 (256 * g.val) (by omega) (by omega)
  vB := box (Gen.iblk m c 1 t) 128 128 (256 * g.val + 128) (by omega) (by omega)
  qc := box (Gen.iblk m c 2 t) 256 128 (256 * g.val) (by omega) (by omega)
  qn := box (Gen.iblk m c 3 t) 256 0 (256 * g.val) (by omega) (by omega)
  gc := box (Gen.iblk m c 4 t) 256 128 (256 * g.val) (by omega) (by omega)
  gn := box (Gen.iblk m c 5 t) 256 0 (256 * g.val) (by omega) (by omega)
  lc := box (Gen.iblk m c 6 t) 128 128 0 (by omega) (by omega)
  ln := Gen.iblk m c 7 t
  dc := box (Gen.iblk m c 8 t) 128 128 0 (by omega) (by omega)
  dn := Gen.iblk m c 9 t
  tA := lastTable m c t ⟨2 * g.val, by omega⟩
  tB := lastTable m c t ⟨2 * g.val + 1, by omega⟩

/-- The loads of the passes over block `s` of the step. -/
def inStep (s : Fin 2) : Fin 4 → Tile.In F :=
  if h : s.val < 1 then inFirst m c t s.val h else inLast m c t

/-- What the passes over block `s` of the step find in the carry, which held `car` when the step began. -/
def carStep (car : Vec F S128x1024 .f32) (s : Fin 2) (g : Fin 4) : Vec F Tile.S128x256 .f32 :=
  if s.val = 0 then box car 256 0 (256 * g.val) (by omega) (by omega)
  else Tile.carryOut (inStep m c t ⟨s.val - 1, by omega⟩ g) (4 * g.val) (Tile.head_lt g)

attribute [local irreducible] Gen.iblk

/-- What a step that is not the first stores in the result block. -/
theorem outB (h : ¬ t.val % 16 = 0) (y : S256x3072.Idx) :
    (Gen.outsAt0 m c t.val t.isLt).1 y
      = Tile.outAt (n := 2) (inStep m c t) (carStep m c t (Gen.outsAt0 m c (t.val - 1) (by have := t.isLt; omega)).2) y := by
  rw [Gen.outsAt0_B m c t h]
  frame_out
  refine Tile.canon_all (Val := Elt F) (s := S256x3072) (e := .bf16) (Tile.outAt (n := 2) _ _) _ ?_ ?_ y
  · repeat' (first | exact Tile.pieces_nil _ | refine Tile.pieces_cons _ _ _ ?_ ?_)
    all_goals first
      | (refine Tile.piece_dv (n := 2) _ _ _ _ (by decide) (by decide) _ (by decide) (by decide) ?_; rfl)
      | (refine Tile.piece_dk (n := 2) _ _ _ _ (by decide) (by decide) _ (by decide) (by decide) ?_; rfl)
      | (refine Tile.piece_dq (n := 2) _ _ _ _ (by decide) (by decide) _ (by decide) (by decide) ?_
         dsimp only
         first
         | (rw [read_unread_whole]; rfl)
         | (iterate 3 (try rw [View.readCov_skip _ _ _ _ _ (by decide)])
            rw [View.readCov_cons_toLoadRect]; rfl))
  · exact View.cover_of_tiledBy _ ![128, 128] (by sl_kernel_rfl)

/-- What a step that is not the first leaves in the carry. -/
theorem carryB (h : ¬ t.val % 16 = 0) (y : S128x1024.Idx) :
    (Gen.outsAt0 m c t.val t.isLt).2 y = Tile.carryAt (inLast m c t) y := by
  rw [Gen.outsAt0_B m c t h]
  frame_out
  refine Tile.canon_eq (Val := Elt F) (s := S128x1024) (e := .f32) (Tile.carryAt _) (_ :: _ :: _ :: _ :: []) _ ?_ ?_ y
  · repeat' (first | exact Tile.pieces_nil _ | refine Tile.pieces_cons _ _ _ ?_ ?_)
    all_goals (refine Tile.piece_carry _ _ (by decide) _ (by decide) ?_; rfl)
  · exact View.cover_of_tiledBy _ ![128, 256] (by sl_kernel_rfl)

/-- The carry before the first step: zeros. -/
def zeroCar : Vec F S128x1024 .f32 := fun _ => Scalar.ofBits .f32 0x00000000#32

/-- What the first step stores in the result block. -/
theorem outA (h : t.val % 16 = 0) (y : S256x3072.Idx) :
    (Gen.outsAt0 m c t.val t.isLt).1 y = Tile.outAt (n := 2) (inStep m c t) (carStep m c t zeroCar) y := by
  rw [Gen.outsAt0_A m c t h]
  frame_out
  refine Tile.canon_all (Val := Elt F) (s := S256x3072) (e := .bf16) (Tile.outAt (n := 2) _ _) _ ?_ ?_ y
  · repeat' (first | exact Tile.pieces_nil _ | refine Tile.pieces_cons _ _ _ ?_ ?_)
    all_goals first
      | (refine Tile.piece_dv (n := 2) _ _ _ _ (by decide) (by decide) _ (by decide) (by decide) ?_; rfl)
      | (refine Tile.piece_dk (n := 2) _ _ _ _ (by decide) (by decide) _ (by decide) (by decide) ?_; rfl)
      | (refine Tile.piece_dq (n := 2) _ _ _ _ (by decide) (by decide) _ (by decide) (by decide) ?_
         dsimp only
         iterate 3 (try rw [View.readCov_skip _ _ _ _ _ (by decide)])
         first
         | (rw [View.readCov_cons_toLoadRect]; rfl)
         | (rw [View.readCov_fill _ _ _ _ _ (by decide)]; rfl))
  · exact View.cover_of_tiledBy _ ![128, 128] (by sl_kernel_rfl)

/-- What the first step leaves in the carry. -/
theorem carryA (h : t.val % 16 = 0) (y : S128x1024.Idx) :
    (Gen.outsAt0 m c t.val t.isLt).2 y = Tile.carryAt (inLast m c t) y := by
  rw [Gen.outsAt0_A m c t h]
  frame_out
  refine Tile.canon_eq (Val := Elt F) (s := S128x1024) (e := .f32) (Tile.carryAt _) (_ :: _ :: _ :: _ :: []) _ ?_ ?_ y
  · repeat' (first | exact Tile.pieces_nil _ | refine Tile.pieces_cons _ _ _ ?_ ?_)
    all_goals (refine Tile.piece_carry _ _ (by decide) _ (by decide) ?_; rfl)
  · exact View.cover_of_tiledBy _ ![128, 256] (by sl_kernel_rfl)

end Cert.KernelIdeal.Value
-- ==== Proof.Loads.lean ====
module

public import proofs.«01_k».proof.Proof.Blocks
public import proofs.«01_k».proof.Proof.Window

/-! # The loads as places of the whole arrays

The passes over block `B` read rows `128 B …` of the arrays in stream order, and rows `128 (B + 1) …` for the block
after it (block `B` again where `B` is the last of its stream). -/

@[expose] public section
set_option maxRecDepth 16384
noncomputable section
namespace Cert.KernelIdeal.Value
open Idealize.ShloMosaic hiding ix1 ix2 ix3 ix4 eq_ix2 eq_ix3
open Idealize.ShloMosaic.TcCoe Idealize.SL.Sem ValueIdx
open Idealize.ShloMosaic.Pipeline (Dat)
variable {F : FTy → Type} [FloatOps F]
variable (m : (ℓ : Loc nD τ sig) → Buf (Elt F) ℓ) (c : Dev nD) (t : Fin cfg0.N)

/-- The queries, keys and values, the cotangents, the log-sums, the corrected sums and the biases the call is given. -/
def arrQkv : S4096x3072.Idx → F .bf16 := Gen.V m c main_v67
def arrDo : S4096x1024.Idx → F .bf16 := Gen.V m c main_v70
def arrLse : S4096x128.Idx → F .f32 := Gen.V m c main_v60
def arrDd : S4096x128.Idx → F .f32 := Gen.V m c main_v64
def arrTb : S2x8x512x128.Idx → F .f32 := Gen.V m c main_v114

theorem idx_facts : ∀ t : Fin cfg0.N,
    (win0_0.index t = ![t.val, 1] ∧ win0_1.index t = ![t.val, 2] ∧ win0_2.index t = ![t.val, 0] ∧ win0_3.index t = ![2 * t.val + 1, 0])
    ∧ (win0_4.index t = ![t.val, 0] ∧ win0_5.index t = ![2 * t.val + 1, 0] ∧ win0_6.index t = ![t.val, 0] ∧ win0_7.index t = ![2 * t.val + 1, 0])
    ∧ (win0_8.index t = ![t.val, 0] ∧ win0_9.index t = ![2 * t.val + 1, 0] ∧ win0_10.index t = ![0, 0, 0, 0]) := by
  decide +kernel

theorem off_facts : ∀ t : Fin cfg0.N,
    (k0_off1 (grid0.coords t) = ![0, 0, 0, 0] ∧ k0_off2 (grid0.coords t) = ![0, 1, 0, 0] ∧ k0_off3 (grid0.coords t) = ![0, 2, 0, 0] ∧ k0_off4 (grid0.coords t) = ![0, 3, 0, 0])
    ∧ (k0_off5 (grid0.coords t) = ![0, 4, 0, 0] ∧ k0_off6 (grid0.coords t) = ![0, 5, 0, 0] ∧ k0_off7 (grid0.coords t) = ![0, 6, 0, 0] ∧ k0_off8 (grid0.coords t) = ![0, 7, 0, 0]) := by
  decide +kernel

theorem N16 : cfg0.N = 16 := by decide +kernel

/-- Row `R` of the step's own rows. -/
def rowG (R : Fin 256) : Fin 4096 := ⟨256 * t.val + R.val, by have := Nat.lt_of_lt_of_eq t.isLt N16; omega⟩
/-- Row `R` of the block after the step's last. -/
def rowN (R : Fin 128) : Fin 4096 := ⟨128 * (2 * t.val + 1) + R.val, by have := Nat.lt_of_lt_of_eq t.isLt N16; omega⟩

theorem iblk0 (R : Fin 256) (x : Fin 1024) : Gen.iblk m c 0 t (ix2 R x) = arrQkv m c (ix2 (rowG t R) ⟨1024 + x.val, by omega⟩) := by
  blk_ext [Gen.iblk, arrQkv, (idx_facts t).1.1]
  exact congrArg (· + R.val) (Nat.mul_comm _ _)
theorem iblk1 (R : Fin 256) (x : Fin 1024) : Gen.iblk m c 1 t (ix2 R x) = arrQkv m c (ix2 (rowG t R) ⟨2048 + x.val, by omega⟩) := by
  blk_ext [Gen.iblk, arrQkv, (idx_facts t).1.2.1]
  exact congrArg (· + R.val) (Nat.mul_comm _ _)
theorem iblk2 (R : Fin 256) (x : Fin 1024) : Gen.iblk m c 2 t (ix2 R x) = arrQkv m c (ix2 (rowG t R) ⟨0 + x.val, by omega⟩) := by
  blk_ext [Gen.iblk, arrQkv, (idx_facts t).1.2.2.1]
  exact congrArg (· + R.val) (Nat.mul_comm _ _)
theorem iblk3 (R : Fin 128) (x : Fin 1024) : Gen.iblk m c 3 t (ix2 R x) = arrQkv m c (ix2 (rowN t R) ⟨0 + x.val, by omega⟩) := by
  blk_ext [Gen.iblk, arrQkv, (idx_facts t).1.2.2.2]
  exact congrArg (· + R.val) (Nat.mul_comm _ _)
theorem iblk4 (R : Fin 256) (x : Fin 1024) : Gen.iblk m c 4 t (ix2 R x) = arrDo m c (ix2 (rowG t R) x) := by
  blk_ext [Gen.iblk, arrDo, (idx_facts t).2.1.1]
  exact congrArg (· + R.val) (Nat.mul_comm _ _)
theorem iblk5 (R : Fin 128) (x : Fin 1024) : Gen.iblk m c 5 t (ix2 R x) = arrDo m c (ix2 (rowN t R) x) := by
  blk_ext [Gen.iblk, arrDo, (idx_facts t).2.1.2.1]
  exact congrArg (· + R.val) (Nat.mul_comm _ _)
theorem iblk6 (R : Fin 256) (x : Fin 128) : Gen.iblk m c 6 t (ix2 R x) = arrLse m c (ix2 (rowG t R) x) := by
  blk_ext [Gen.iblk, arrLse, (idx_facts t).2.1.2.2.1]
  exact congrArg (· + R.val) (Nat.mul_comm _ _)
theorem iblk7 (R : Fin 128) (x : Fin 128) : Gen.iblk m c 7 t (ix2 R x) = arrLse m c (ix2 (rowN t R) x) := by
  blk_ext [Gen.iblk, arrLse, (idx_facts t).2.1.2.2.2]
  exact congrArg (· + R.val) (Nat.mul_comm _ _)
theorem iblk8 (R : Fin 256) (x : Fin 128) : Gen.iblk m c 8 t (ix2 R x) = arrDd m c (ix2 (rowG t R) x) := by
  blk_ext [Gen.iblk, arrDd, (idx_facts t).2.2.1]
  exact congrArg (· + R.val) (Nat.mul_comm _ _)
theorem iblk9 (R : Fin 128) (x : Fin 128) : Gen.iblk m c 9 t (ix2 R x) = arrDd m c (ix2 (rowN t R) x) := by
  blk_ext [Gen.iblk, arrDd, (idx_facts t).2.2.2.1]
  exact congrArg (· + R.val) (Nat.mul_comm _ _)
theorem iblk10 (v : Fin 2) (p : Fin 8) (R : Fin 512) (j : Fin 128) : Gen.iblk m c 10 t (ix4 v p R j) = arrTb m c (ix4 v p R j) := by
  blk_ext [Gen.iblk, arrTb, (idx_facts t).2.2.2.2]

theorem box_at {R C : Nat} {φ : EltTy} (X : Vec F ⟨2, ![R, C]⟩ φ) (w r o : Nat) (h0 : r + 128 ≤ R) (h1 : o + w ≤ C) (y : Fin 128) (x : Fin w) :
    box X w r o h0 h1 (ix2 y x) = X (ix2 ⟨r + y.val, by omega⟩ ⟨o + x.val, by omega⟩) :=
  View.ld_unit_apply_of X _ _ _ _ _ (fun a => by fin_cases a <;> rfl)

theorem tab_at (X : Vec F S2x8x512x128 .f32) (v : Fin 2) (p : Fin 8) (off : Fin 4 → Nat) (e : off = ![v.val, p.val, 0, 0])
    (h : ∀ a, off a + (![1, 1, 512, 128] : Fin 4 → Nat) a ≤ S2x8x512x128.size a) (R : Fin 512) (j : Fin 128) :
    View.ld X (Rect.unit (s := S2x8x512x128) off ![1, 1, 512, 128] h) (ix4 0 0 R j) = X (ix4 v p R j) := by
  subst e
  exact View.ld_unit_apply_of X _ _ _ _ _ (fun a => by fin_cases a <;> simp [ix4])

end Cert.KernelIdeal.Value
-- ==== Proof.Result.lean ====
module

public import proofs.«01_k».proof.Proof.Loads
public import proofs.«01_k».proof.Proof.Whole

/-! # What the launch leaves in its result

Where the arrays it is given hold real numbers, the result holds the launch's three gradients side by side. -/

@[expose] public section
set_option maxRecDepth 16384
noncomputable section
namespace Cert.KernelIdeal.Value
open Idealize.ShloMosaic hiding ix1 ix2 ix3 ix4 eq_ix2 eq_ix3
open Idealize.ShloMosaic.TcCoe Idealize.SL.Sem ValueIdx
open Idealize.ShloMosaic.Pipeline (Dat)
open Cert.Tile (Num Reads row lane comp rowOf colAt)
variable (m : (ℓ : Loc nD τ sig) → Buf (Elt Ideal) ℓ) (c : Dev nD)

/-- The arrays the call is given hold the numbers of `n`. -/
structure Holds (n : Num) : Prop where
  nb : n.nb = 2
  q : ∀ (R : Fin 4096) (x : Fin 1024) (C : Fin 3072), C.val = x.val → (arrQkv m c (ix2 R C) : EReal) = ((n.q R.val x.val : ℝ) : EReal)
  k : ∀ (R : Fin 4096) (x : Fin 1024) (C : Fin 3072), C.val = 1024 + x.val → (arrQkv m c (ix2 R C) : EReal) = ((n.k R.val x.val : ℝ) : EReal)
  v : ∀ (R : Fin 4096) (x : Fin 1024) (C : Fin 3072), C.val = 2048 + x.val → (arrQkv m c (ix2 R C) : EReal) = ((n.v R.val x.val : ℝ) : EReal)
  g : ∀ (R : Fin 4096) (x : Fin 1024), (arrDo m c (ix2 R x) : EReal) = ((n.g R.val x.val : ℝ) : EReal)
  l : ∀ (R : Fin 4096) (h : Fin 128), h.val < 16 → (arrLse m c (ix2 R h) : EReal) = ((n.L R.val h.val : ℝ) : EReal)
  e : ∀ (R : Fin 4096) (h : Fin 128), h.val < 16 → (arrDd m c (ix2 R h) : EReal) = ((n.E R.val h.val : ℝ) : EReal)
  t : ∀ (v : Fin 2) (p : Fin 8) (w h : Fin 2) (r j : Fin 128), (arrTb m c (ix4 v p (row w h r) j) : EReal)
    = if (if w = 0 then j.val ≤ r.val else v = 1 ∧ r.val ≤ j.val)
      then ((n.b (2 * p.val + h.val) ((if w = 0 then 0 else 128) + r.val - j.val) : ℝ) : EReal) else ⊥

variable {m c} {n : Num} (H : Holds m c n) (t : Fin cfg0.N)

theorem t_lt : t.val < 16 := Nat.lt_of_lt_of_eq t.isLt N16

theorem last_even {B : Nat} (hn : n.nb = 2) : n.last (2 * B + 1) := by unfold Num.last; rw [hn]; omega
theorem not_last_even {B : Nat} (hn : n.nb = 2) : ¬ n.last (2 * B) := by unfold Num.last; rw [hn]; omega

include H in
theorem tab_real (B N : Nat) (v : Fin 2) (p : Fin 8) (w h : Fin 2) (r j : Fin 128) (hv : v = 1 ↔ ¬ n.last B) (hN : ¬ n.last B → N = B + 1) :
    (arrTb m c (ix4 v p (row w h r) j) : EReal)
      = if n.cond B w r j then ((n.b (2 * p.val + h.val) (rowOf B N w r - (128 * B + j.val)) : ℝ) : EReal) else ⊥ := by
  rw [H.t]
  have e : (if w = 0 then j.val ≤ r.val else v = 1 ∧ r.val ≤ j.val) ↔ n.cond B w r j := by
    unfold Num.cond
    by_cases hw : w = 0
    · simp only [if_pos hw]
    · simp only [if_neg hw, hv]
  by_cases hc : n.cond B w r j
  · rw [if_pos (e.2 hc), if_pos hc]
    have e2 : (if w = 0 then 0 else 128) + r.val - j.val = rowOf B N w r - (128 * B + j.val) := by
      unfold rowOf
      unfold Num.cond at hc
      by_cases hw : w = 0
      · simp only [if_pos hw]; omega
      · simp only [if_neg hw] at hc ⊢; rw [hN hc.1]; omega
    rw [e2]
  · rw [if_neg (fun h => hc (e.1 h)), if_neg hc]

attribute [local irreducible] Gen.iblk

include H in
theorem boxK (r o : Nat) (h0 : r + 128 ≤ 256) (h1 : o + 128 ≤ 1024) (y : Fin 128) (x : Fin 128) (ρ γ : Nat) (hρ : 256 * t.val + (r + y.val) = ρ) (hγ : o + x.val = γ) :
    (box (Gen.iblk m c 0 t) 128 r o h0 h1 (ix2 y x) : EReal) = ((n.k ρ γ : ℝ) : EReal) := by
  subst hρ hγ
  exact (box_at _ _ _ _ _ _ y x).trans ((iblk0 m c t _ _).trans (H.k _ ⟨o + x.val, by omega⟩ _ rfl))

include H in
theorem boxV (r o : Nat) (h0 : r + 128 ≤ 256) (h1 : o + 128 ≤ 1024) (y : Fin 128) (x : Fin 128) (ρ γ : Nat) (hρ : 256 * t.val + (r + y.val) = ρ) (hγ : o + x.val = γ) :
    (box (Gen.iblk m c 1 t) 128 r o h0 h1 (ix2 y x) : EReal) = ((n.v ρ γ : ℝ) : EReal) := by
  subst hρ hγ
  exact (box_at _ _ _ _ _ _ y x).trans ((iblk1 m c t _ _).trans (H.v _ ⟨o + x.val, by omega⟩ _ rfl))

include H in
theorem boxQ (r o : Nat) (h0 : r + 128 ≤ 256) (h1 : o + 256 ≤ 1024) (y : Fin 128) (x : Fin 256) (ρ γ : Nat) (hρ : 256 * t.val + (r + y.val) = ρ) (hγ : o + x.val = γ) :
    (box (Gen.iblk m c 2 t) 256 r o h0 h1 (ix2 y x) : EReal) = ((n.q ρ γ : ℝ) : EReal) := by
  subst hρ hγ
  exact (box_at _ _ _ _ _ _ y x).trans ((iblk2 m c t _ _).trans (H.q _ ⟨o + x.val, by omega⟩ _ (Nat.zero_add _)))

include H in
theorem boxG (r o : Nat) (h0 : r + 128 ≤ 256) (h1 : o + 256 ≤ 1024) (y : Fin 128) (x : Fin 256) (ρ γ : Nat) (hρ : 256 * t.val + (r + y.val) = ρ) (hγ : o + x.val = γ) :
    (box (Gen.iblk m c 4 t) 256 r o h0 h1 (ix2 y x) : EReal) = ((n.g ρ γ : ℝ) : EReal) := by
  subst hρ hγ
  exact (box_at _ _ _ _ _ _ y x).trans ((iblk4 m c t _ _).trans (H.g _ _))

include H in
theorem boxQn (o : Nat) (h1 : o + 256 ≤ 1024) (y : Fin 128) (x : Fin 256) (ρ γ : Nat) (hρ : 128 * (2 * t.val + 1) + y.val = ρ) (hγ : o + x.val = γ) :
    (box (Gen.iblk m c 3 t) 256 0 o (by decide) h1 (ix2 y x) : EReal) = ((n.q ρ γ : ℝ) : EReal) := by
  subst hρ hγ
  refine (box_at _ _ _ _ _ _ y x).trans ((iblk3 m c t _ _).trans ((H.q _ ⟨o + x.val, by omega⟩ _ (Nat.zero_add _)).trans ?_))
  simp only [rowN, Nat.zero_add]

include H in
theorem boxGn (o : Nat) (h1 : o + 256 ≤ 1024) (y : Fin 128) (x : Fin 256) (ρ γ : Nat) (hρ : 128 * (2 * t.val + 1) + y.val = ρ) (hγ : o + x.val = γ) :
    (box (Gen.iblk m c 5 t) 256 0 o (by decide) h1 (ix2 y x) : EReal) = ((n.g ρ γ : ℝ) : EReal) := by
  subst hρ hγ
  refine (box_at _ _ _ _ _ _ y x).trans ((iblk5 m c t _ _).trans ((H.g _ _).trans ?_))
  simp only [rowN, Nat.zero_add]

include H in
theorem boxL (r : Nat) (h0 : r + 128 ≤ 256) (y : Fin 128) (x : Fin 128) (hx : x.val < 16) (ρ : Nat) (hρ : 256 * t.val + (r + y.val) = ρ) :
    (box (Gen.iblk m c 6 t) 128 r 0 h0 (by decide) (ix2 y x) : EReal) = ((n.L ρ x.val : ℝ) : EReal) := by
  subst hρ
  refine (box_at _ _ _ _ _ _ y x).trans ((iblk6 m c t _ _).trans ((H.l _ _ (by simpa using hx)).trans ?_))
  simp only [rowG, Nat.zero_add]

include H in
theorem boxE (r : Nat) (h0 : r + 128 ≤ 256) (y : Fin 128) (x : Fin 128) (hx : x.val < 16) (ρ : Nat) (hρ : 256 * t.val + (r + y.val) = ρ) :
    (box (Gen.iblk m c 8 t) 128 r 0 h0 (by decide) (ix2 y x) : EReal) = ((n.E ρ x.val : ℝ) : EReal) := by
  subst hρ
  refine (box_at _ _ _ _ _ _ y x).trans ((iblk8 m c t _ _).trans ((H.e _ _ (by simpa using hx)).trans ?_))
  simp only [rowG, Nat.zero_add]

include H in
theorem tabReal (B N : Nat) (v : Fin 2) (p : Fin 8) (off : Fin 4 → Nat) (e : off = ![v.val, p.val, 0, 0])
    (h : ∀ a, off a + (![1, 1, 512, 128] : Fin 4 → Nat) a ≤ S2x8x512x128.size a) (w k : Fin 2) (r j : Fin 128) (hv : v = 1 ↔ ¬ n.last B) (hN : ¬ n.last B → N = B + 1)
    (b : Nat) (hb : 2 * p.val + k.val = b) :
    (View.ld (Gen.iblk m c 10 t) (Rect.unit (s := S2x8x512x128) off ![1, 1, 512, 128] h) (ix4 0 0 (row w k r) j) : EReal)
      = if n.cond B w r j then ((n.b b (rowOf B N w r - (128 * B + j.val)) : ℝ) : EReal) else ⊥ := by
  subst hb
  exact (tab_at (Gen.iblk m c 10 t) v p off e h _ _).trans ((iblk10 m c t v p _ j).trans (tab_real H B N v p w k r j hv hN))

include H in
theorem reads_first (g : Fin 4) : Reads (inFirst m c t 0 (by decide) g) n (2 * t.val) (2 * t.val + 1) g.val := by
  refine ⟨?_, ?_, ?_, ?_, ?_, ?_, ?_⟩
  · intro p j x
    fin_cases p
    · exact boxK H t (128 * 0) (256 * g.val) (by omega) (by omega) j x _ _ (by omega) (by simp)
    · exact boxK H t (128 * 0) (256 * g.val + 128) (by omega) (by omega) j x _ _ (by omega) (by simp)
  · intro p j x
    fin_cases p
    · exact boxV H t (128 * 0) (256 * g.val) (by omega) (by omega) j x _ _ (by omega) (by simp)
    · exact boxV H t (128 * 0) (256 * g.val + 128) (by omega) (by omega) j x _ _ (by omega) (by simp)
  · intro w r y
    fin_cases w
    · exact boxQ H t (128 * 0) (256 * g.val) (by omega) (by omega) r y _ _ (by simp [rowOf]; omega) rfl
    · exact boxQ H t (128 * (0 + 1)) (256 * g.val) (by omega) (by omega) r y _ _ (by simp [rowOf]; omega) rfl
  · intro w r y
    fin_cases w
    · exact boxG H t (128 * 0) (256 * g.val) (by omega) (by omega) r y _ _ (by simp [rowOf]; omega) rfl
    · exact boxG H t (128 * (0 + 1)) (256 * g.val) (by omega) (by omega) r y _ _ (by simp [rowOf]; omega) rfl
  · intro w r y hy
    fin_cases w
    · exact boxL H t (128 * 0) (by omega) r y hy _ (by simp [rowOf]; omega)
    · exact boxL H t (128 * (0 + 1)) (by omega) r y hy _ (by simp [rowOf]; omega)
  · intro w r y hy
    fin_cases w
    · exact boxE H t (128 * 0) (by omega) r y hy _ (by simp [rowOf]; omega)
    · exact boxE H t (128 * (0 + 1)) (by omega) r y hy _ (by simp [rowOf]; omega)
  · intro p w h r j
    have hv : (1 : Fin 2) = 1 ↔ ¬ n.last (2 * t.val) := by simp [not_last_even H.nb]
    fin_cases p
    · exact tabReal H t _ _ 1 ⟨2 * g.val, by omega⟩ _ rfl _ w h r j hv (fun _ => rfl) _ (by simp; omega)
    · exact tabReal H t _ _ 1 ⟨2 * g.val + 1, by omega⟩ _ rfl _ w h r j hv (fun _ => rfl) _ (by simp; omega)

include H in
theorem lastTable_real (p : Fin 8) (w k : Fin 2) (r j : Fin 128) (b : Nat) (hb : 2 * p.val + k.val = b) :
    (lastTable m c t p (ix4 0 0 (row w k r) j) : EReal)
      = if n.cond (2 * t.val + 1) w r j then ((n.b b (rowOf (2 * t.val + 1) (2 * t.val + 1) w r - (128 * (2 * t.val + 1) + j.val)) : ℝ) : EReal) else ⊥ := by
  have hl := last_even (B := t.val) H.nb
  have hv : (0 : Fin 2) = 1 ↔ ¬ n.last (2 * t.val + 1) := by simp [hl]
  obtain ⟨⟨o1, o2, o3, o4⟩, o5, o6, o7, o8⟩ := off_facts t
  fin_cases p
  · exact tabReal H t _ _ 0 0 _ o1 _ w k r j hv (fun h => absurd hl h) _ hb
  · exact tabReal H t _ _ 0 1 _ o2 _ w k r j hv (fun h => absurd hl h) _ hb
  · exact tabReal H t _ _ 0 2 _ o3 _ w k r j hv (fun h => absurd hl h) _ hb
  · exact tabReal H t _ _ 0 3 _ o4 _ w k r j hv (fun h => absurd hl h) _ hb
  · exact tabReal H t _ _ 0 4 _ o5 _ w k r j hv (fun h => absurd hl h) _ hb
  · exact tabReal H t _ _ 0 5 _ o6 _ w k r j hv (fun h => absurd hl h) _ hb
  · exact tabReal H t _ _ 0 6 _ o7 _ w k r j hv (fun h => absurd hl h) _ hb
  · exact tabReal H t _ _ 0 7 _ o8 _ w k r j hv (fun h => absurd hl h) _ hb

include H in
theorem reads_last (g : Fin 4) : Reads (inLast m c t g) n (2 * t.val + 1) (2 * t.val + 1) g.val := by
  refine ⟨?_, ?_, ?_, ?_, ?_, ?_, ?_⟩
  · intro p j x
    fin_cases p
    · exact boxK H t 128 (256 * g.val) (by omega) (by omega) j x _ _ (by omega) (by simp)
    · exact boxK H t 128 (256 * g.val + 128) (by omega) (by omega) j x _ _ (by omega) (by simp)
  · intro p j x
    fin_cases p
    · exact boxV H t 128 (256 * g.val) (by omega) (by omega) j x _ _ (by omega) (by simp)
    · exact boxV H t 128 (256 * g.val + 128) (by omega) (by omega) j x _ _ (by omega) (by simp)
  · intro w r y
    fin_cases w
    · exact boxQ H t 128 (256 * g.val) (by omega) (by omega) r y _ _ (by simp [rowOf]; omega) rfl
    · exact boxQn H t (256 * g.val) (by omega) r y _ _ (by simp [rowOf]) rfl
  · intro w r y
    fin_cases w
    · exact boxG H t 128 (256 * g.val) (by omega) (by omega) r y _ _ (by simp [rowOf]; omega) rfl
    · exact boxGn H t (256 * g.val) (by omega) r y _ _ (by simp [rowOf]) rfl
  · intro w r y hy
    fin_cases w
    · exact boxL H t 128 (by omega) r y hy _ (by simp [rowOf]; omega)
    · exact (iblk7 m c t r y).trans (H.l _ _ hy)
  · intro w r y hy
    fin_cases w
    · exact boxE H t 128 (by omega) r y hy _ (by simp [rowOf]; omega)
    · exact (iblk9 m c t r y).trans (H.e _ _ hy)
  · intro p w h r j
    fin_cases p
    · exact lastTable_real H t ⟨2 * g.val, by omega⟩ w h r j _ (by simp; omega)
    · exact lastTable_real H t ⟨2 * g.val + 1, by omega⟩ w h r j _ (by simp; omega)

include H in
theorem reads (s : Fin 2) (g : Fin 4) : Reads (inStep m c t s g) n (2 * t.val + s.val) (2 * t.val + 1) g.val := by
  fin_cases s
  · exact reads_first H t g
  · exact reads_last H t g

/-- The three gradients side by side. -/
def grad (n : Num) (R C : Nat) : ℝ :=
  if C < 1024 then n.dq R C else if C < 2048 then n.dk R (C - 1024) else n.dv R (C - 2048)

/-- What a step leaves in the carry. -/
theorem carry_real (I : Fin 4 → Tile.In Ideal) (B N : Nat) (hI : ∀ g : Fin 4, Reads (I g) n B N g.val) (hN : ¬ n.last B → N = B + 1) (y : S128x1024.Idx) :
    (Tile.carryAt I y : EReal) = ((n.left (B + 1) (y 0).val (y 1).val : ℝ) : EReal) := by
  have h1 : (y 1).val < 1024 := (y 1).isLt
  let g : Fin 4 := ⟨(y 1).val / 256, by omega⟩
  let p : Fin 2 := ⟨(y 1).val % 256 / 128, by omega⟩
  let x : Fin 128 := ⟨(y 1).val % 128, by omega⟩
  have ex : (⟨(y 1).val % 256, by omega⟩ : Fin 256) = lane p x := Fin.ext (by simp only [lane, p, x]; omega)
  have e : Tile.carryAt I y = Tile.carryOut (I g) (4 * g.val) (Tile.head_lt g) (ix2 (n0 := 128) (y 0) (lane p x)) :=
    congrArg (fun z => Tile.carryOut (I g) (4 * g.val) (Tile.head_lt g) (ix2 (n0 := 128) (y 0) z)) ex
  refine e.trans ((Tile.carryOut_real (hI g) g.isLt _ hN p (y 0) x).trans ?_)
  congr 2
  simp only [colAt, g, p, x]; omega

include H in
theorem step_carry (y : S128x1024.Idx) : ((Gen.outsAt0 m c t.val t.isLt).2 y : EReal) = ((n.left (2 * t.val + 2) (y 0).val (y 1).val : ℝ) : EReal) := by
  have h := carry_real (inLast m c t) (2 * t.val + 1) (2 * t.val + 1) (reads_last H t) (fun h => absurd (last_even H.nb) h) y
  by_cases h0 : t.val % 16 = 0
  · exact (carryA m c t h0 y).trans h
  · exact (carryB m c t h0 y).trans h

include H in
theorem out_real (car : Vec Ideal S128x1024 .f32)
    (hcar : ∀ y : S128x1024.Idx, (car y : EReal) = ((n.left (2 * t.val) (y 0).val (y 1).val : ℝ) : EReal)) (y : S256x3072.Idx) :
    (Tile.outAt (n := 2) (inStep m c t) (carStep m c t car) y : EReal) = ((grad n (256 * t.val + (y 0).val) (y 1).val : ℝ) : EReal) := by
  have ht := t_lt t
  have h0 : (y 0).val < 256 := (y 0).isLt
  have h1 : (y 1).val < 3072 := (y 1).isLt
  have h31 : n.last 31 := last_even (B := 15) H.nb
  have hN : ∀ s : Fin 2, ¬ n.last (2 * t.val + s.val) → 2 * t.val + 1 = 2 * t.val + s.val + 1 := fun s h => by
    fin_cases s
    · rfl
    · exact absurd (last_even H.nb) h
  have hr : 128 * (2 * t.val + (y 0).val / 128) + (y 0).val % 128 = 256 * t.val + (y 0).val := by omega
  unfold Tile.outAt grad
  dsimp only
  by_cases c1 : (y 1).val < 1024
  · rw [if_pos c1, if_pos c1]
    have e : (⟨(y 1).val % 256, by omega⟩ : Fin 256) = lane ⟨(y 1).val % 256 / 128, by omega⟩ ⟨(y 1).val % 128, by omega⟩ := Fin.ext (by simp only [lane]; omega)
    have ec : colAt ((y 1).val % 1024 / 256) ⟨(y 1).val % 256 / 128, by omega⟩ ⟨(y 1).val % 128, by omega⟩ = (y 1).val := by simp only [colAt]; omega
    rw [e, Tile.dqOut_real (reads H t _ _) (by dsimp only; omega) _ (by dsimp only; omega)]
    · dsimp only
      rw [ec, hr]
    · dsimp only
      rw [ec]
      unfold carStep
      by_cases hs : (y 0).val / 128 = 0
      · rw [if_pos hs]
        refine (box_at _ _ _ _ _ _ _ _).trans ((hcar _).trans ?_)
        have e1 : 256 * ((y 1).val % 1024 / 256) + (lane ⟨(y 1).val % 256 / 128, by omega⟩ ⟨(y 1).val % 128, by omega⟩).val = (y 1).val := by simp only [lane]; omega
        have e2 : 2 * t.val + (y 0).val / 128 = 2 * t.val := by omega
        rw [e2]
        exact congrArg₂ (fun a b => ((n.left (2 * t.val) a b : ℝ) : EReal)) (Nat.zero_add _) e1
      · rw [if_neg hs, Tile.carryOut_real (reads H t _ _) (by dsimp only; omega) _ (hN _)]
        dsimp only
        rw [ec]
        congr 2
        omega
  · rw [if_neg c1, if_neg c1]
    by_cases c2 : (y 1).val < 2048
    · rw [if_pos c2, if_pos c2, Tile.dkOut_real (reads H t _ _) (by dsimp only; omega) _ (by dsimp only; omega) (hN _) h31]
      dsimp only
      rw [hr]
      congr 2
      simp only [colAt]; omega
    · rw [if_neg c2, if_neg c2, Tile.dvOut_real (reads H t _ _) (by dsimp only; omega) _ (by dsimp only; omega) (hN _) h31]
      dsimp only
      rw [hr]
      congr 2
      simp only [colAt]; omega

include H in
theorem step_out (y : S256x3072.Idx) : ((Gen.outsAt0 m c t.val t.isLt).1 y : EReal) = ((grad n (256 * t.val + (y 0).val) (y 1).val : ℝ) : EReal) := by
  by_cases h0 : t.val % 16 = 0
  · refine (outA m c t h0 y).trans (out_real H t zeroCar (fun z => ?_) y)
    have ht := t_lt t
    have e : t.val = 0 := by omega
    rw [e]
    show (Ideal.ofBits .f32 0x00000000#32 : EReal) = _
    simp [Ideal.ofBits, Ideal.ieee, Num.left]
  · refine (outB m c t h0 y).trans (out_real H t _ (fun z => ?_) y)
    have e := step_carry H ⟨t.val - 1, by have := t.isLt; omega⟩ z
    refine e.trans ?_
    congr 2
    dsimp only; omega

include H in
/-- The launch's result. -/
theorem result_real (i : S4096x3072.Idx) : (G11 m c i : EReal) = ((grad n (i 0).val (i 1).val : ℝ) : EReal) := by
  have h0 : (i 0).val < 4096 := (i 0).isLt
  have h1 : (i 1).val < 3072 := (i 1).isLt
  have hp : pt11Of i = (i 0).val / 256 := by
    show 1 * ((i 0).val / 256 - 0) + 1 * ((i 1).val / 3072 - 0) = _
    omega
  have hN : pt11Of i < cfg0.N := by rw [N16, hp]; omega
  have e : (G11 m c i : EReal) = (Gen.outsAt0 m c (pt11Of i) hN).1 (loc11Of i) := by
    unfold G11
    rw [dif_pos hN, outsAt0_sweep m c (pt11Of i) hN]
  rw [e]
  refine (step_out H ⟨pt11Of i, hN⟩ (loc11Of i)).trans ?_
  have e0 : (loc11Of i 0).val = (i 0).val % 256 := rfl
  have e1 : (loc11Of i 1).val = (i 1).val % 3072 := rfl
  rw [e0, e1]
  dsimp only
  rw [hp, Nat.mod_eq_of_lt h1, Nat.div_add_mod]

end Cert.KernelIdeal.Value
-- ==== Proof.Host.lean ====
module

public import proofs.«01_k».proof.Proof.Result
public import proofs.«01_k».proof.Proof.Gen.ReferenceIdeal.Read
public import Idealize.ShloMosaic.Lib.StableHlo.ReadAt
public import Idealize.ShloMosaic.Lib.KernelVsHost

/-! # The arrays the call is given, from the arguments

The rows are put in stream order before the call; the log-sums and the outputs are the reference's own. -/

@[expose] public section
set_option maxRecDepth 16384
noncomputable section
namespace Cert.KernelIdeal.Value
open Idealize.ShloMosaic hiding ix1 ix2 ix3 ix4 eq_ix2 eq_ix3
open Idealize.ShloMosaic.TcCoe Idealize.SL.Sem ValueIdx
open Cert.Tile (row)
open Cert.ReferenceIdeal.Read (val_main_v58 val_main_v59)
variable {F : FTy → Type} [FloatOps F]
variable (m : (ℓ : Loc nD τ sig) → Buf (Elt F) ℓ) (c : Dev nD)

/-- The arguments. -/
def argQkv : S4096x3072.Idx → F .bf16 := m ((c : Thread nD τ).loc main_arg0)
def argDo : S4096x1024.Idx → F .bf16 := m ((c : Thread nD τ).loc main_arg1)
def argDl : S4096x16.Idx → F .f32 := m ((c : Thread nD τ).loc main_arg2)
def argSl : S16.Idx → F .f32 := m ((c : Thread nD τ).loc main_arg3)

/-- A number per head, widened to 128 lanes and put in stream order. -/
def laid (a : S4096x16.Idx → F .f32) : S4096x128.Idx → F .f32 :=
  shapeCast S4096x128 (transpose S16x256x128 [1, 0, 2] (shapeCast S256x16x128
    (pad S4096x128 ![0, 0] ![0, 112] ![0, 0] a (sitofp .f32 (constantI S_ 32 0#32)) Gen.pads_S4096x16_S4096x128_000_01120 Gen.h_S_)
    Gen.shapeCasts_S4096x128_S256x16x128) Gen.transposes_S256x16x128_S16x256x128_1_0_2) Gen.shapeCasts_S16x256x128_S4096x128

/-- A row's product of cotangent and output, summed head by head, less the log-sum's cotangent. -/
def corrected (o : S4096x1024.Idx → F .f32) (x1 : S4096x1024.Idx → F .bf16) (x2 : S4096x16.Idx → F .f32) : S4096x16.Idx → F .f32 :=
  subf (Host.reduceAdd (shapeCast S4096x16x64 (mulf (extf .f32 x1 Gen.bitsLt_bf16_f32) o) Gen.shapeCasts_S4096x1024_S4096x16x64)
    (constant S_ .f32 0x00000000#32) Gen.reducesTo_S4096x16x64_S4096x16_d2 Gen.h_S_) x2

/-- The biases of a block's own keys, of the block before's, and of none. -/
def biasOf (mask : S128x128.Idx → BitVec 1) (dist : S128x128.Idx → BitVec 32) (sl : S16.Idx → F .f32) : S16x128x128.Idx → F .f32 :=
  select (broadcastInDim S16x128x128 ![1, 2] Gen.bcast_S128x128_S16x128x128_1_2 mask)
    (mulf (broadcastInDim S16x128x128 ![0, 1, 2] Gen.bcast_S16x1x1_S16x128x128_0_1_2 (Host.negf (broadcastInDim S16x1x1 ![0] Gen.bcast_S16_S16x1x1_0 sl)))
      (broadcastInDim S16x128x128 ![0, 1, 2] Gen.bcast_S1x128x128_S16x128x128_0_1_2 (broadcastInDim S1x128x128 ![1, 2] Gen.bcast_S128x128_S1x128x128_1_2
        (mulf (broadcastInDim S128x128 ![] Gen.bcast_S_S128x128 (constant S_ .f32 0x41800000#32)) (sitofp .f32 dist)))))
    (broadcastInDim S16x128x128 ![] Gen.bcast_S_S16x128x128 (constant S_ .f32 0xFF800000#32))
def rowI : S128x128.Idx → BitVec 32 := iotaInDim S128x128 32 0
def colI : S128x128.Idx → BitVec 32 := iotaInDim S128x128 32 1
def biasOwn (sl : S16.Idx → F .f32) : S16x128x128.Idx → F .f32 := biasOf (cmpi .sle colI rowI) (subi rowI colI) sl
def biasFar (sl : S16.Idx → F .f32) : S16x128x128.Idx → F .f32 :=
  biasOf (cmpi .sge colI rowI) (subi (addi (broadcastInDim S128x128 ![] Gen.bcast_S_S128x128 (constantI S_ 32 128#32)) rowI) colI) sl
def biasNone : S16x128x128.Idx → F .f32 := broadcastInDim S16x128x128 ![] Gen.bcast_S_S16x128x128 (constant S_ .f32 0xFF800000#32)

/-- Two tables of biases one above the other. -/
def above (a b : S16x128x128.Idx → F .f32) : S1x8x512x128.Idx → F .f32 :=
  broadcastInDim S1x8x512x128 ![1, 2, 3] Gen.bcast_S8x512x128_S1x8x512x128_1_2_3
    (concatenate S8x512x128 1 [⟨S8x256x128, shapeCast S8x256x128 a Gen.shapeCasts_S16x128x128_S8x256x128⟩,
      ⟨S8x256x128, shapeCast S8x256x128 b Gen.shapeCasts_S16x128x128_S8x256x128⟩] Gen.concatenates_S8x256x128_S8x256x128_S8x512x128_d1)
def table (sl : S16.Idx → F .f32) : S2x8x512x128.Idx → F .f32 :=
  concatenate S2x8x512x128 0 [⟨S1x8x512x128, above (biasOwn sl) biasNone⟩, ⟨S1x8x512x128, above (biasOwn sl) (biasFar sl)⟩]
    Gen.concatenates_S1x8x512x128_S1x8x512x128_S2x8x512x128_d0

theorem arrQkv_eq : arrQkv m c = shapeCast S4096x3072 (transpose S16x256x3072 [1, 0, 2] (shapeCast S256x16x3072 (argQkv m c)
    Gen.shapeCasts_S4096x3072_S256x16x3072) Gen.transposes_S256x16x3072_S16x256x3072_1_0_2) Gen.shapeCasts_S16x256x3072_S4096x3072 := by
  unfold arrQkv Gen.V
  after_reads_simp
  rfl

theorem arrDo_eq : arrDo m c = shapeCast S4096x1024 (transpose S16x256x1024 [1, 0, 2] (shapeCast S256x16x1024 (argDo m c)
    Gen.shapeCasts_S4096x1024_S256x16x1024) Gen.transposes_S256x16x1024_S16x256x1024_1_0_2) Gen.shapeCasts_S16x256x1024_S4096x1024 := by
  unfold arrDo Gen.V
  after_reads_simp
  rfl

theorem arrLse_eq : arrLse m c = laid (val_main_v58 (F := F) (argQkv m c) (argSl m c)) := by
  unfold arrLse Gen.V
  after_reads_simp
  simp -implicitDefEqProofs only [StableHlo.TRef.toBuf, StableHlo.TRef.ofBuf, cast_cast, cast_eq]
  rfl

theorem arrDd_eq : arrDd m c = laid (corrected (val_main_v59 (F := F) (argQkv m c) (argSl m c)) (argDo m c) (argDl m c)) := by
  unfold arrDd Gen.V
  after_reads_simp
  simp -implicitDefEqProofs only [StableHlo.TRef.toBuf, StableHlo.TRef.ofBuf, cast_cast, cast_eq]
  rfl

theorem arrTb_eq : arrTb m c = table (argSl m c) := by
  unfold arrTb Gen.V
  after_reads_simp
  refine congrArg₂ (fun a b => concatenate S2x8x512x128 0 [⟨S1x8x512x128, a⟩, ⟨S1x8x512x128, b⟩]
    Gen.concatenates_S1x8x512x128_S1x8x512x128_S2x8x512x128_d0) ?_ ?_
  all_goals
    after_reads_simp
    refine congrArg (fun y : S8x512x128.Idx → F .f32 => broadcastInDim S1x8x512x128 ![1, 2, 3] Gen.bcast_S8x512x128_S1x8x512x128_1_2_3 y) ?_
    refine congrArg₂ (fun a b => concatenate S8x512x128 1 [⟨S8x256x128, a⟩, ⟨S8x256x128, b⟩] Gen.concatenates_S8x256x128_S8x256x128_S8x512x128_d1) ?_ ?_
    all_goals
      after_reads_simp
      try simp -implicitDefEqProofs only [StableHlo.TRef.toBuf, StableHlo.TRef.ofBuf, cast_cast, cast_eq]
      rfl

/-- The position of row `R` of the stream order: the rows of one residue modulo 16 together, in order. -/
def pos (R : Fin 4096) : Fin 4096 := ⟨R.val % 256 * 16 + R.val / 256, by omega⟩

/-- Rows split as `256 × 16`, the two axes exchanged and joined again: stream order. -/
theorem stream_at {α : Type} {C : Nat} (a : (⟨2, ![4096, C]⟩ : Shape).Idx → α)
    (h1 : (⟨2, ![4096, C]⟩ : Shape).ShapeCasts ⟨3, ![256, 16, C]⟩) (h2 : (⟨3, ![256, 16, C]⟩ : Shape).Transposes [1, 0, 2] ⟨3, ![16, 256, C]⟩)
    (h3 : (⟨3, ![16, 256, C]⟩ : Shape).ShapeCasts ⟨2, ![4096, C]⟩) (R : Fin 4096) (x : Fin C) :
    shapeCast ⟨2, ![4096, C]⟩ (transpose ⟨3, ![16, 256, C]⟩ [1, 0, 2] (shapeCast ⟨3, ![256, 16, C]⟩ a h1) h2) h3 (ix2 R x)
      = a (ix2 (pos R) x) := by
  rw [shapeCast_apply _ h3 (ix2 R x) (ix3 (⟨R.val / 256, by omega⟩ : Fin 16) (⟨R.val % 256, by omega⟩ : Fin 256) x) (by
    rewrite [Shape.rowMajor_val_two, Shape.rowMajor_val_three]
    show (R.val / 256 * 256 + R.val % 256) * C + x.val = R.val * C + x.val
    rw [Nat.div_add_mod'])]
  rw [transpose_apply [1, 0, 2] _ h2 _ (ix3 (⟨R.val % 256, by omega⟩ : Fin 256) (⟨R.val / 256, by omega⟩ : Fin 16) x)
    (fun b => match b with | ⟨0, _⟩ => rfl | ⟨1, _⟩ => rfl | ⟨2, _⟩ => rfl)]
  exact shapeCast_apply a h1 _ (ix2 (pos R) x) (by
    rewrite [Shape.rowMajor_val_two, Shape.rowMajor_val_three]
    rfl)

theorem arrQkv_at (R : Fin 4096) (x : Fin 3072) : arrQkv m c (ix2 R x) = argQkv m c (ix2 (pos R) x) := by
  rw [arrQkv_eq]; exact stream_at _ _ _ _ R x
theorem arrDo_at (R : Fin 4096) (x : Fin 1024) : arrDo m c (ix2 R x) = argDo m c (ix2 (pos R) x) := by
  rw [arrDo_eq]; exact stream_at _ _ _ _ R x

theorem laid_at (a : S4096x16.Idx → F .f32) (R : Fin 4096) (h : Fin 128) (hh : h.val < 16) :
    laid a (ix2 R h) = a (ix2 (pos R) (⟨h.val, hh⟩ : Fin 16)) := by
  unfold laid
  refine (stream_at _ _ _ _ R h).trans ?_
  exact pad_apply_of_inside _ _ _ _ _ _ _ _ _ (fun b => match b with
    | ⟨0, _⟩ => by show (pos R).val = 0 + (pos R).val * (0 + 1); omega
    | ⟨1, _⟩ => by show h.val = 0 + h.val * (0 + 1); omega)

theorem corrected_at (o : S4096x1024.Idx → Ideal .f32) (x1 : S4096x1024.Idx → Ideal .bf16) (x2 : S4096x16.Idx → Ideal .f32) (R : Fin 4096) (h : Fin 16) :
    (corrected o x1 x2 (ix2 R h) : EReal)
      = (∑ e : Fin 64, (x1 (ix2 R (⟨64 * h.val + e.val, by omega⟩ : Fin 1024)) : EReal) * o (ix2 R (⟨64 * h.val + e.val, by omega⟩ : Fin 1024))) - x2 (ix2 R h) := by
  have e1 : ∀ y : S4096x16x64.Idx → Ideal .f32, (Host.reduceAdd y (constant (F := Ideal) S_ .f32 0x00000000#32) Gen.reducesTo_S4096x16x64_S4096x16_d2 Gen.h_S_ (ix2 R h) : EReal)
      = ∑ e : Fin 64, (y (ix3 R h e) : EReal) := by
    intro y
    simp only [Host.reduceAdd, Ideal.hostReduceAdd_def]
    rw [Ideal.hostReduceAdd_single Gen.reducesTo_S4096x16x64_S4096x16_d2 (by decide)]
    have z : (constant (F := Ideal) S_ .f32 0x00000000#32 (Shape.Idx.first Gen.h_S_) : EReal) = 0 := by
      show Ideal.ofBits .f32 0x00000000#32 = 0
      simp [Ideal.ofBits, Ideal.ieee]
    refine Eq.trans (congrArg (· + _) z) ((zero_add _).trans (Finset.sum_congr rfl fun e _ => ?_))
    exact congrArg y (funext fun a => Fin.ext (by match a with | ⟨0, _⟩ => rfl | ⟨1, _⟩ => rfl | ⟨2, _⟩ => rfl))
  unfold corrected
  refine congrArg (· - (x2 (ix2 R h) : EReal)) ((e1 _).trans (Finset.sum_congr rfl fun e _ => ?_))
  exact (shapeCast_apply _ Gen.shapeCasts_S4096x1024_S4096x16x64 (ix3 R h e) (ix2 R (⟨64 * h.val + e.val, by omega⟩ : Fin 1024)) (by
    rewrite [Shape.rowMajor_val_two, Shape.rowMajor_val_three]
    show R.val * 1024 + (64 * h.val + e.val) = (R.val * 16 + h.val) * 64 + e.val
    omega))

/-! ## The biases -/

theorem own_words : ∀ r j : Fin 128, (cmpi .sle colI rowI (ix2 r j) = if j.val ≤ r.val then 1#1 else 0#1)
    ∧ (subi rowI colI (ix2 r j)).toInt = (r.val : ℤ) - (j.val : ℤ) := by decide +kernel
theorem far_words : ∀ r j : Fin 128, (cmpi .sge colI rowI (ix2 r j) = if r.val ≤ j.val then 1#1 else 0#1)
    ∧ (subi (addi (broadcastInDim S128x128 ![] Gen.bcast_S_S128x128 (constantI S_ 32 128#32)) rowI) colI (ix2 r j)).toInt
      = 128 + (r.val : ℤ) - (j.val : ℤ) := by decide +kernel

theorem lowest : Ideal.ofBits .f32 0xFF800000#32 = (⊥ : EReal) := by simp [Ideal.ofBits, Ideal.ieee]
theorem sixteen : Ideal.ofBits .f32 0x41800000#32 = ((16 : ℝ) : EReal) := by
  simp [Ideal.ofBits, Ideal.ieee]; rw [← EReal.coe_mul]; norm_num

theorem biasOf_at (mask : S128x128.Idx → BitVec 1) (dist : S128x128.Idx → BitVec 32) (sl : S16.Idx → Ideal .f32) (s : ℝ) (H : Fin 16) (r j : Fin 128)
    (hs : (sl (ix1 H) : EReal) = (s : EReal)) (p : Prop) [Decidable p] (hm : mask (ix2 r j) = if p then 1#1 else 0#1) (d : Nat)
    (hd : p → (dist (ix2 r j)).toInt = d) :
    (biasOf mask dist sl (ix3 H r j) : EReal) = if p then ((-s * (16 * (d : ℝ)) : ℝ) : EReal) else ⊥ := by
  have em : broadcastInDim S16x128x128 ![1, 2] Gen.bcast_S128x128_S16x128x128_1_2 mask (ix3 H r j) = mask (ix2 r j) :=
    broadcastInDim_apply _ _ _ _ _ (fun a => match a with | ⟨0, _⟩ => rfl | ⟨1, _⟩ => rfl)
  have es : broadcastInDim S16x128x128 ![0, 1, 2] Gen.bcast_S16x1x1_S16x128x128_0_1_2 (Host.negf (F := Ideal) (φ := .f32) (broadcastInDim S16x1x1 ![0] Gen.bcast_S16_S16x1x1_0 sl)) (ix3 H r j)
      = ((-s : ℝ) : EReal) := by
    refine (broadcastInDim_apply _ _ _ _ (ix3 H (0 : Fin 1) (0 : Fin 1)) (fun a => match a with | ⟨0, _⟩ => rfl | ⟨1, _⟩ => rfl | ⟨2, _⟩ => rfl)).trans ?_
    refine Eq.trans (congrArg (fun y : EReal => -y) ((broadcastInDim_apply _ _ sl _ (ix1 H) (fun a => match a with | ⟨0, _⟩ => rfl)).trans hs)) ?_
    exact (EReal.coe_neg s).symm
  have ed : ∀ y : S128x128.Idx → Ideal .f32, broadcastInDim S16x128x128 ![0, 1, 2] Gen.bcast_S1x128x128_S16x128x128_0_1_2 (broadcastInDim S1x128x128 ![1, 2] Gen.bcast_S128x128_S1x128x128_1_2 y) (ix3 H r j)
      = y (ix2 r j) := by
    intro y
    refine (broadcastInDim_apply _ _ _ _ (ix3 (0 : Fin 1) r j) (fun a => match a with | ⟨0, _⟩ => rfl | ⟨1, _⟩ => rfl | ⟨2, _⟩ => rfl)).trans ?_
    exact broadcastInDim_apply _ _ _ _ (ix2 r j) (fun a => match a with | ⟨0, _⟩ => rfl | ⟨1, _⟩ => rfl)
  unfold biasOf
  refine (select_apply _ _ _ _).trans ?_
  rw [em, hm]
  by_cases hp : p
  · rw [if_pos hp, if_pos hp]
    refine Eq.trans (congrArg₂ (fun a b : EReal => a * b) es (ed _)) ?_
    refine Eq.trans (congrArg (fun b : EReal => ((-s : ℝ) : EReal) * b) (show _ = ((16 : ℝ) : EReal) * (((d : ℝ)) : EReal) from ?_)) ?_
    · refine congrArg₂ (fun a b : EReal => a * b) sixteen ?_
      show (((dist (ix2 r j)).toInt : ℝ) : EReal) = _
      rw [hd hp]; rfl
    · rw [← EReal.coe_mul, ← EReal.coe_mul]
  · rw [if_neg hp, if_neg hp]
    exact lowest

variable (sl : S16.Idx → Ideal .f32) (s : ℝ) (H : Fin 16) (r j : Fin 128) (hs : (sl (ix1 H) : EReal) = (s : EReal))

include hs in
theorem biasOwn_at : (biasOwn sl (ix3 H r j) : EReal) = if j.val ≤ r.val then ((-s * (16 * ((r.val - j.val : ℕ) : ℝ)) : ℝ) : EReal) else ⊥ :=
  biasOf_at _ _ sl s H r j hs _ (own_words r j).1 _ (fun h => by rw [(own_words r j).2]; omega)
include hs in
theorem biasFar_at : (biasFar sl (ix3 H r j) : EReal) = if r.val ≤ j.val then ((-s * (16 * ((128 + r.val - j.val : ℕ) : ℝ)) : ℝ) : EReal) else ⊥ :=
  biasOf_at _ _ sl s H r j hs _ (far_words r j).1 _ (fun h => by rw [(far_words r j).2]; omega)
theorem biasNone_at : (biasNone (F := Ideal) (ix3 H r j) : EReal) = ⊥ := lowest

variable (x y : S16x128x128.Idx → Ideal .f32)
theorem above_at (u : Fin 1) (p : Fin 8) (w h : Fin 2) (H : Fin 16) (hH : H.val = 2 * p.val + h.val) (r j : Fin 128) :
    (above x y (ix4 u p (row w h r) j) : EReal) = if w = 0 then x (ix3 H r j) else y (ix3 H r j) := by
  unfold above
  refine (broadcastInDim_apply _ _ _ _ (ix3 p (row w h r) j) (fun a => match a with | ⟨0, _⟩ => rfl | ⟨1, _⟩ => rfl | ⟨2, _⟩ => rfl)).trans ?_
  have half : ∀ z : S16x128x128.Idx → Ideal .f32, shapeCast S8x256x128 z Gen.shapeCasts_S16x128x128_S8x256x128
      (ix3 p (⟨128 * h.val + r.val, by omega⟩ : Fin 256) j) = z (ix3 H r j) := fun z =>
    shapeCast_apply z _ _ _ (by
      rewrite [Shape.rowMajor_val_three, Shape.rowMajor_val_three]
      show (H.val * 128 + r.val) * 128 + j.val = (p.val * 256 + (128 * h.val + r.val)) * 128 + j.val
      omega)
  by_cases hw : w = 0
  · subst hw
    rw [if_pos rfl]
    refine Eq.trans (concatenate_pair_apply_left (t := S8x512x128) 1 (shapeCast S8x256x128 x Gen.shapeCasts_S16x128x128_S8x256x128)
      (shapeCast S8x256x128 y Gen.shapeCasts_S16x128x128_S8x256x128) _ (ix3 p (row 0 h r) j) rfl
      (ix3 p (⟨128 * h.val + r.val, by omega⟩ : Fin 256) j) (fun b => ?_)) (half x)
    match b with
    | ⟨0, _⟩ => rfl
    | ⟨1, _⟩ => show 128 * h.val + r.val = r.val + 128 * (h.val + 2 * 0); omega
    | ⟨2, _⟩ => rfl
  · have hw1 : w = 1 := by omega
    subst hw1
    rw [if_neg hw]
    refine Eq.trans (concatenate_pair_apply_right (t := S8x512x128) 1 (shapeCast S8x256x128 x Gen.shapeCasts_S16x128x128_S8x256x128)
      (shapeCast S8x256x128 y Gen.shapeCasts_S16x128x128_S8x256x128) _ (ix3 p (row 1 h r) j) rfl rfl
      (ix3 p (⟨128 * h.val + r.val, by omega⟩ : Fin 256) j) (fun b hb => ?_) ?_) (half y)
    · match b with
      | ⟨0, _⟩ => rfl
      | ⟨1, _⟩ => exact absurd rfl hb
      | ⟨2, _⟩ => rfl
    · show 128 * h.val + r.val + 256 = r.val + 128 * (h.val + 2 * 1); omega

theorem table_at (sl : S16.Idx → Ideal .f32) (v : Fin 2) (p : Fin 8) (w h : Fin 2) (r j : Fin 128) (H : Fin 16) (hH : H.val = 2 * p.val + h.val)
    (s : ℝ) (hs : (sl (ix1 H) : EReal) = (s : EReal)) :
    (table sl (ix4 v p (row w h r) j) : EReal) = if (if w = 0 then j.val ≤ r.val else v = 1 ∧ r.val ≤ j.val)
      then ((-s * (16 * (((if w = 0 then 0 else 128) + r.val - j.val : ℕ) : ℝ)) : ℝ) : EReal) else ⊥ := by
  unfold table
  have e : (concatenate S2x8x512x128 0 [⟨S1x8x512x128, above (biasOwn sl) biasNone⟩, ⟨S1x8x512x128, above (biasOwn sl) (biasFar sl)⟩]
      Gen.concatenates_S1x8x512x128_S1x8x512x128_S2x8x512x128_d0 (ix4 v p (row w h r) j) : EReal)
      = if w = 0 then biasOwn sl (ix3 H r j) else (if v = 0 then biasNone (F := Ideal) (ix3 H r j) else biasFar sl (ix3 H r j)) := by
    by_cases hv : v = 0
    · subst hv
      rw [if_pos rfl]
      refine Eq.trans (concatenate_pair_apply_left (t := S2x8x512x128) 0 (above (biasOwn sl) biasNone) (above (biasOwn sl) (biasFar sl)) _
        (ix4 (0 : Fin 2) p (row w h r) j) rfl (ix4 (0 : Fin 1) p (row w h r) j) (fun b => ?_)) (above_at _ _ 0 p w h H hH r j)
      match b with
      | ⟨0, _⟩ => rfl
      | ⟨1, _⟩ => rfl
      | ⟨2, _⟩ => rfl
      | ⟨3, _⟩ => rfl
    · have hv1 : v = 1 := by omega
      subst hv1
      rw [if_neg hv]
      refine Eq.trans (concatenate_pair_apply_right (t := S2x8x512x128) 0 (above (biasOwn sl) biasNone) (above (biasOwn sl) (biasFar sl)) _
        (ix4 (1 : Fin 2) p (row w h r) j) rfl rfl (ix4 (0 : Fin 1) p (row w h r) j) (fun b hb => ?_) rfl) (above_at _ _ 0 p w h H hH r j)
      match b with
      | ⟨0, _⟩ => exact absurd rfl hb
      | ⟨1, _⟩ => rfl
      | ⟨2, _⟩ => rfl
      | ⟨3, _⟩ => rfl
  refine e.trans ?_
  by_cases hw : w = 0
  · simp only [if_pos hw, Nat.zero_add]
    exact biasOwn_at sl s H r j hs
  · simp only [if_neg hw]
    by_cases hv : v = 0
    · rw [if_pos hv, if_neg (by rw [hv]; simp)]
      exact biasNone_at H r j
    · have hv1 : v = 1 := by omega
      rw [if_neg hv]
      simp only [hv1, true_and]
      exact biasFar_at sl s H r j hs

end Cert.KernelIdeal.Value
-- ==== Proof.Equation.lean ====
module

public import proofs.«01_k».proof.Proof.Grad
public import proofs.«01_k».proof.Proof.Host
public import proofs.«01_k».proof.Proof.Gen.Pre_finite
public import Idealize.ShloMosaic.Lib.Pipeline.Value

/-! # The call's result is the reference's, over the reals

Finite arguments hold real numbers (`stepOf`). The arrays the call is given hold the same numbers in stream order, and so both
results hold `grad` of them. -/

@[expose] public section
set_option maxRecDepth 16384
noncomputable section
namespace Cert.KernelIdeal.Value
open Idealize.ShloMosaic hiding ix1 ix2 ix3 ix4 eq_ix2 eq_ix3
open Idealize.ShloMosaic.TcCoe Idealize.SL.Sem ValueIdx
open Cert.Tile (row Step Num)
open Cert.ReferenceIdeal.Read
variable (m : (ℓ : Loc nD τ sig) → Buf (Elt Ideal) ℓ) (c : Dev nD)

/-! ## Finite arguments -/

theorem inf_word : Ideal.ofBits .f32 0x7F800000#32 = (⊤ : EReal) := by simp [Ideal.ofBits, Ideal.ieee]

/-- A number whose absolute value is less than infinity is real. -/
theorem real_of_abs_lt (x : EReal) (h : BitVec.ofBool (decide (max x (-x) < Ideal.ofBits .f32 0x7F800000#32)) = 1#1) : x = ((x.toReal : ℝ) : EReal) := by
  rw [inf_word] at h
  have hlt : max x (-x) < ⊤ := by
    by_contra hn
    rw [decide_eq_false hn] at h
    exact absurd h (by decide)
  refine (EReal.coe_toReal ?_ ?_).symm
  · rintro rfl; simp at hlt
  · rintro rfl; simp at hlt

/-- All four arguments hold real numbers. -/
structure Finite : Prop where
  qkv : ∀ i, (argQkv m c i : EReal) = (((argQkv m c i : EReal).toReal : ℝ) : EReal)
  do_ : ∀ i, (argDo m c i : EReal) = (((argDo m c i : EReal).toReal : ℝ) : EReal)
  dl : ∀ i, (argDl m c i : EReal) = (((argDl m c i : EReal).toReal : ℝ) : EReal)
  sl : ∀ i, (argSl m c i : EReal) = (((argSl m c i : EReal).toReal : ℝ) : EReal)

theorem finite_of_pre (h : (Cert.Pre_finite.fn (F := Ideal) (argQkv m c) (argDo m c) (argDl m c) (argSl m c)).1 = (fun _ => 1#1)
    ∧ (Cert.Pre_finite.fn (F := Ideal) (argQkv m c) (argDo m c) (argDl m c) (argSl m c)).2.1 = (fun _ => 1#1)
    ∧ (Cert.Pre_finite.fn (F := Ideal) (argQkv m c) (argDo m c) (argDl m c) (argSl m c)).2.2.1 = (fun _ => 1#1)
    ∧ (Cert.Pre_finite.fn (F := Ideal) (argQkv m c) (argDo m c) (argDl m c) (argSl m c)).2.2.2 = (fun _ => 1#1)) : Finite m c :=
  ⟨fun i => real_of_abs_lt _ (congrFun h.1 i), fun i => real_of_abs_lt _ (congrFun h.2.1 i),
    fun i => real_of_abs_lt _ (congrFun h.2.2.1 i), fun i => real_of_abs_lt _ (congrFun h.2.2.2 i)⟩

/-! ## The numbers of the arguments -/

def stepOf : Step where
  q t x := (argQkv m c (ix2 (⟨t % 4096, by omega⟩ : Fin 4096) (⟨x % 1024, by omega⟩ : Fin 3072)) : EReal).toReal
  k t x := (argQkv m c (ix2 (⟨t % 4096, by omega⟩ : Fin 4096) (⟨1024 + x % 1024, by omega⟩ : Fin 3072)) : EReal).toReal
  v t x := (argQkv m c (ix2 (⟨t % 4096, by omega⟩ : Fin 4096) (⟨2048 + x % 1024, by omega⟩ : Fin 3072)) : EReal).toReal
  g t x := (argDo m c (ix2 (⟨t % 4096, by omega⟩ : Fin 4096) (⟨x % 1024, by omega⟩ : Fin 1024)) : EReal).toReal
  dl t h := (argDl m c (ix2 (⟨t % 4096, by omega⟩ : Fin 4096) (⟨h % 16, by omega⟩ : Fin 16)) : EReal).toReal
  sl h := (argSl m c (ix1 (⟨h % 16, by omega⟩ : Fin 16)) : EReal).toReal
  M h t := (val_main_v36 (F := Ideal) (argQkv m c) (argSl m c) (ix2 (⟨h % 16, by omega⟩ : Fin 16) (⟨t % 4096, by omega⟩ : Fin 4096)) : EReal).toReal
  dil := 16
  hdil := Or.inl rfl

theorem ix2_mod {A B : Nat} (i : (⟨2, ![A, B]⟩ : Shape).Idx) (x : Fin B) (y : Nat) (hA : y % A < A) (hy : (i 0).val = y) (hx : (i 1).val = x.val) :
    i = ix2 (⟨y % A, hA⟩ : Fin A) x := by
  subst hy
  refine funext fun b => Fin.ext ?_
  match b with
  | ⟨0, _⟩ => exact (Nat.mod_eq_of_lt (i 0).isLt).symm
  | ⟨1, _⟩ => exact hx

variable {m c} (hf : Finite m c)

attribute [local irreducible] val_main_v36 val_main_v58 val_main_v59

include hf in
theorem given : Given (argQkv m c) (argDo m c) (argDl m c) (argSl m c) (stepOf m c) where
  q i x hx h := by
    rw [hf.qkv i]
    exact congrArg (fun j => (((argQkv m c j : EReal).toReal : ℝ) : EReal)) (ix2_mod i (⟨x % 1024, by omega⟩ : Fin 3072) (i 0).val (by omega) rfl (by show _ = x % 1024; omega))
  k i x hx h := by
    rw [hf.qkv i]
    exact congrArg (fun j => (((argQkv m c j : EReal).toReal : ℝ) : EReal)) (ix2_mod i (⟨1024 + x % 1024, by omega⟩ : Fin 3072) (i 0).val (by omega) rfl (by show _ = 1024 + x % 1024; omega))
  v i x hx h := by
    rw [hf.qkv i]
    exact congrArg (fun j => (((argQkv m c j : EReal).toReal : ℝ) : EReal)) (ix2_mod i (⟨2048 + x % 1024, by omega⟩ : Fin 3072) (i 0).val (by omega) rfl (by show _ = 2048 + x % 1024; omega))
  g i := by
    have h1 : (i 1).val < 1024 := (i 1).isLt
    rw [hf.do_ i]
    exact congrArg (fun j => (((argDo m c j : EReal).toReal : ℝ) : EReal)) (ix2_mod i (⟨(i 1).val % 1024, by omega⟩ : Fin 1024) (i 0).val (by omega) rfl (by show _ = (i 1).val % 1024; omega))
  d i := by
    have h1 : (i 1).val < 16 := (i 1).isLt
    rw [hf.dl i]
    exact congrArg (fun j => (((argDl m c j : EReal).toReal : ℝ) : EReal)) (ix2_mod i (⟨(i 1).val % 16, by omega⟩ : Fin 16) (i 0).val (by omega) rfl (by show _ = (i 1).val % 16; omega))
  s i := by
    have h0 : (i 0).val < 16 := (i 0).isLt
    rw [hf.sl i]
    refine congrArg (fun j => (((argSl m c j : EReal).toReal : ℝ) : EReal)) (funext fun b => Fin.ext ?_)
    match b with
    | ⟨0, _⟩ => show (i 0).val = (i 0).val % 16; omega
  dil := rfl
  M i := by
    have h1 : (i 1).val < 4096 := (i 1).isLt
    exact congrArg (fun j => (val_main_v36 (F := Ideal) (argQkv m c) (argSl m c) j : EReal).toReal)
      (ix2_mod i (⟨(i 1).val % 4096, by omega⟩ : Fin 4096) (i 0).val (by omega) rfl (by show _ = (i 1).val % 4096; omega)).symm

theorem pos_val (a : Step) (ha : a.dil = 16) (R : Fin 4096) : (pos R).val = a.pos R.val := by
  unfold Step.pos; rw [ha]; rfl

/-- The arrays the call is given hold the numbers of the arguments in stream order. -/
theorem holds (a : Step) (G : Given (argQkv m c) (argDo m c) (argDl m c) (argSl m c) a) : Holds m c a.num where
  nb := by show 32 / a.dil = 2; rw [G.dil]
  q R x C h := (arrQkv_at m c R C).trans ((G.q (ix2 (pos R) C) x.val x.isLt h).trans (congrArg (fun t => ((a.q t x.val : ℝ) : EReal)) (pos_val a G.dil R)))
  k R x C h := (arrQkv_at m c R C).trans ((G.k (ix2 (pos R) C) x.val x.isLt h).trans (congrArg (fun t => ((a.k t x.val : ℝ) : EReal)) (pos_val a G.dil R)))
  v R x C h := (arrQkv_at m c R C).trans ((G.v (ix2 (pos R) C) x.val x.isLt h).trans (congrArg (fun t => ((a.v t x.val : ℝ) : EReal)) (pos_val a G.dil R)))
  g R x := (arrDo_at m c R x).trans ((G.g (ix2 (pos R) x)).trans (congrArg (fun t => ((a.g t x.val : ℝ) : EReal)) (pos_val a G.dil R)))
  l R h hh := by
    rw [arrLse_eq, laid_at _ R h hh]
    exact (r58 G (ix2 (pos R) (⟨h.val, hh⟩ : Fin 16))).trans (congrArg (fun t => ((a.lse h.val t : ℝ) : EReal)) (pos_val a G.dil R))
  e R h hh := by
    rw [arrDd_eq, laid_at _ R h hh, corrected_at, G.d]
    rw [esumF (fun e : Fin 64 => a.g (pos R).val (64 * h.val + e.val) * a.o (pos R).val (64 * h.val + e.val))
      (fun e => emul (G.g _) (r59 G _)), ← EReal.coe_sub]
    exact congrArg (fun t => ((a.E h.val t : ℝ) : EReal)) (pos_val a G.dil R)
  t v p w h r j := by
    rw [arrTb_eq]
    have hH : 2 * p.val + h.val < 16 := by omega
    refine (table_at (argSl m c) v p w h r j ⟨2 * p.val + h.val, hH⟩ rfl (a.sl (2 * p.val + h.val)) (G.s (ix1 (⟨2 * p.val + h.val, hH⟩ : Fin 16)))).trans ?_
    show _ = if _ then ((-a.sl (2 * p.val + h.val) * ((a.dil : ℝ) * (((if w = 0 then 0 else 128) + r.val - j.val : ℕ) : ℝ)) : ℝ) : EReal) else ⊥
    rw [G.dil, Nat.cast_ofNat]

/-! ## The reference's result -/

include hf in
theorem ref_cat (t : Fin 4096) (x : Fin 3072) : (val_main_v101 (F := Ideal) (argQkv m c) (argDo m c) (argDl m c) (argSl m c) (ix2 t x) : EReal)
    = ((if x.val < 1024 then (stepOf m c).DQ t.val x.val else if x.val < 2048 then (stepOf m c).DK t.val (x.val - 1024) else (stepOf m c).DV t.val (x.val - 2048) : ℝ) : EReal) := by
  unfold val_main_v101
  by_cases h1 : x.val < 1024
  · rw [if_pos h1]
    refine (concatenate_apply_piece (t := Cert.ReferenceIdeal.S4096x3072) 1 _ _ (ix2 t x) 0 (by simp) Cert.ReferenceIdeal.S4096x1024 _ rfl rfl 0 rfl
      (ix2 t (⟨x.val, h1⟩ : Fin 1024)) (fun b hb => ?_) (Nat.zero_add _)).trans (r100 (given hf) _)
    match b with
    | ⟨0, _⟩ => rfl
    | ⟨1, _⟩ => exact absurd rfl hb
  · rw [if_neg h1]
    by_cases h2 : x.val < 2048
    · rw [if_pos h2]
      refine (concatenate_apply_piece (t := Cert.ReferenceIdeal.S4096x3072) 1 _ _ (ix2 t x) 1 (by simp) Cert.ReferenceIdeal.S4096x1024 _ rfl rfl 1024 rfl
        (ix2 t (⟨x.val - 1024, by omega⟩ : Fin 1024)) (fun b hb => ?_) (by show 1024 + (x.val - 1024) = x.val; omega)).trans (r99 (given hf) _)
      match b with
      | ⟨0, _⟩ => rfl
      | ⟨1, _⟩ => exact absurd rfl hb
    · rw [if_neg h2]
      refine (concatenate_apply_piece (t := Cert.ReferenceIdeal.S4096x3072) 1 _ _ (ix2 t x) 2 (by simp) Cert.ReferenceIdeal.S4096x1024 _ rfl rfl 2048 rfl
        (ix2 t (⟨x.val - 2048, by omega⟩ : Fin 1024)) (fun b hb => ?_) (by show 2048 + (x.val - 2048) = x.val; omega)).trans (r98 (given hf) _)
      match b with
      | ⟨0, _⟩ => rfl
      | ⟨1, _⟩ => exact absurd rfl hb

include hf in
theorem ref_real (R : Fin 4096) (x : Fin 3072) : (val_main_v105 (F := Ideal) (argQkv m c) (argDo m c) (argDl m c) (argSl m c) (ix2 R x) : EReal)
    = ((grad (stepOf m c).num R.val x.val : ℝ) : EReal) := by
  have e : val_main_v105 (F := Ideal) (argQkv m c) (argDo m c) (argDl m c) (argSl m c) (ix2 R x)
      = val_main_v102 (F := Ideal) (argQkv m c) (argDo m c) (argDl m c) (argSl m c) (ix2 (pos R) x) := by
    unfold val_main_v105 val_main_v104 val_main_v103
    exact stream_at _ _ _ _ R x
  rw [e, val_main_v102_apply]
  refine (ref_cat hf (pos R) x).trans (congrArg (fun r : ℝ => (r : EReal)) ?_)
  unfold grad
  rw [pos_val (stepOf m c) rfl]
  rw [(stepOf m c).dq_eq _ _ R.isLt, (stepOf m c).dk_eq _ _ R.isLt, (stepOf m c).dv_eq _ _ R.isLt]

include hf in
/-- The call's result is the reference's. -/
theorem result_eq : G11 m c = val_main_v105 (F := Ideal) (argQkv m c) (argDo m c) (argDl m c) (argSl m c) := by
  funext i
  have hi : i = ix2 (⟨(i 0).val, (i 0).isLt⟩ : Fin 4096) (⟨(i 1).val, (i 1).isLt⟩ : Fin 3072) := funext fun b => Fin.ext (by match b with | ⟨0, _⟩ => rfl | ⟨1, _⟩ => rfl)
  exact ((result_real (holds _ (given hf)) i).trans (ref_real hf (⟨(i 0).val, (i 0).isLt⟩ : Fin 4096) (⟨(i 1).val, (i 1).isLt⟩ : Fin 3072)).symm).trans
    (congrArg (val_main_v105 (F := Ideal) (argQkv m c) (argDo m c) (argDl m c) (argSl m c)) hi.symm)

end Cert.KernelIdeal.Value
-- ==== Proof.Mm.lean ====
module

public import proofs.«01_k».proof.Proof.Window

/-! # One block of a product

The products of the feed-forward block are computed block by block of the result, 256 rows at a time, and where the
contracted axis is long in several steps that add up. Here is what one such step adds, over the extended reals. `tn`
contracts both operands' rows, `nt` both operands' columns, `nn` is the ordinary product; the second operand of the latter
two is a slab of a three-dimensional array. -/

@[expose] public section
set_option maxRecDepth 16384
noncomputable section
namespace Cert.Mm
open Idealize.ShloMosaic hiding ix1 ix2 ix3 ix4 eq_ix2 eq_ix3
open Idealize.ShloMosaic.TcCoe ValueIdx
open Cert.Tile (eq_ix2_of)

variable {K M N : Nat}

/-- Both operands contracted on their first axis. -/
abbrev dimsTn (wf : DotDims.WF ⟨2, ![K, 256]⟩ ⟨2, ![K, N]⟩ ⟨2, ![256, N]⟩ [0] [0] [1] [1] [] []) :
    DotDims ⟨2, ![K, 256]⟩ ⟨2, ![K, N]⟩ ⟨2, ![256, N]⟩ := ⟨[0], [0], [1], [1], [], [], wf⟩
/-- Both operands contracted on their second axis. -/
abbrev dimsNt (wf : DotDims.WF ⟨2, ![256, K]⟩ ⟨2, ![N, K]⟩ ⟨2, ![256, N]⟩ [1] [1] [0] [0] [] []) :
    DotDims ⟨2, ![256, K]⟩ ⟨2, ![N, K]⟩ ⟨2, ![256, N]⟩ := ⟨[1], [1], [0], [0], [], [], wf⟩
/-- The ordinary product. -/
abbrev dimsNn (wf : DotDims.WF ⟨2, ![256, K]⟩ ⟨2, ![K, N]⟩ ⟨2, ![256, N]⟩ [1] [0] [0] [1] [] []) :
    DotDims ⟨2, ![256, K]⟩ ⟨2, ![K, N]⟩ ⟨2, ![256, N]⟩ := ⟨[1], [0], [0], [1], [], [], wf⟩

theorem dotTn_at (wf) {φ ψ : FTy} (a : FVec Ideal ⟨2, ![K, 256]⟩ φ) (b : FVec Ideal ⟨2, ![K, N]⟩ ψ) (y : Shape.Idx ⟨2, ![256, N]⟩) :
    (matmul (dimsTn wf) none a b (constant ⟨2, ![256, N]⟩ .f32 0x00000000#32) y : EReal)
      = ∑ x : Fin K, (a (ix2 x (y 0)) : EReal) * b (ix2 x (y 1)) := by
  simp only [matmul]
  rw [Ideal.matmul_constant_zero_apply, ← Equiv.sum_comp (contrEquiv1 (dimsTn wf) K rfl rfl).symm]
  refine Finset.sum_congr rfl fun k _ => ?_
  have hk := contrEquiv1_symm_val (dimsTn wf) K rfl rfl k
  congr 1
  · exact congrArg a (eq_ix2_of _ _ _ hk rfl)
  · exact congrArg b (eq_ix2_of _ _ _ hk rfl)

theorem dotNt_at (wf) {φ ψ : FTy} (a : FVec Ideal ⟨2, ![256, K]⟩ φ) (b : FVec Ideal ⟨2, ![N, K]⟩ ψ) (y : Shape.Idx ⟨2, ![256, N]⟩) :
    (matmul (dimsNt wf) none a b (constant ⟨2, ![256, N]⟩ .f32 0x00000000#32) y : EReal)
      = ∑ x : Fin K, (a (ix2 (y 0) x) : EReal) * b (ix2 (y 1) x) := by
  simp only [matmul]
  rw [Ideal.matmul_constant_zero_apply, ← Equiv.sum_comp (contrEquiv1 (dimsNt wf) K rfl rfl).symm]
  refine Finset.sum_congr rfl fun k _ => ?_
  have hk := contrEquiv1_symm_val (dimsNt wf) K rfl rfl k
  congr 1
  · exact congrArg a (eq_ix2_of _ _ _ rfl hk)
  · exact congrArg b (eq_ix2_of _ _ _ rfl hk)

theorem dotNn_at (wf) {φ ψ : FTy} (a : FVec Ideal ⟨2, ![256, K]⟩ φ) (b : FVec Ideal ⟨2, ![K, N]⟩ ψ) (y : Shape.Idx ⟨2, ![256, N]⟩) :
    (matmul (dimsNn wf) none a b (constant ⟨2, ![256, N]⟩ .f32 0x00000000#32) y : EReal)
      = ∑ x : Fin K, (a (ix2 (y 0) x) : EReal) * b (ix2 x (y 1)) := by
  simp only [matmul]
  rw [Ideal.matmul_constant_zero_apply, ← Equiv.sum_comp (contrEquiv1 (dimsNn wf) K rfl rfl).symm]
  refine Finset.sum_congr rfl fun k _ => ?_
  have hk := contrEquiv1_symm_val (dimsNn wf) K rfl rfl k
  congr 1
  · exact congrArg a (eq_ix2_of _ _ _ rfl hk)
  · exact congrArg b (eq_ix2_of _ _ _ hk rfl)

/-! ## What a step adds at an index of its block -/

/-- Both blocks contracted on their rows. -/
def tn (A : Shape.Idx ⟨2, ![K, M]⟩ → EReal) (B : Shape.Idx ⟨2, ![K, N]⟩ → EReal) (y : Shape.Idx ⟨2, ![M, N]⟩) : EReal :=
  ∑ x : Fin K, A (ix2 x (y 0)) * B (ix2 x (y 1))
/-- A block and a slab contracted on their columns. -/
def nt (A : Shape.Idx ⟨2, ![M, K]⟩ → EReal) (B : Shape.Idx ⟨3, ![1, N, K]⟩ → EReal) (y : Shape.Idx ⟨2, ![M, N]⟩) : EReal :=
  ∑ x : Fin K, A (ix2 (y 0) x) * B (ix3 0 (y 1) x)
/-- A block times a slab. -/
def nn (A : Shape.Idx ⟨2, ![M, K]⟩ → EReal) (B : Shape.Idx ⟨3, ![1, K, N]⟩ → EReal) (y : Shape.Idx ⟨2, ![M, N]⟩) : EReal :=
  ∑ x : Fin K, A (ix2 (y 0) x) * B (ix3 0 x (y 1))

/-- Indices that agree number by number. -/
theorem at2 {α : Type} {R C : Nat} (X : Shape.Idx ⟨2, ![R, C]⟩ → α) {r r' : Fin R} {x x' : Fin C} (hr : r.val = r'.val) (hx : x.val = x'.val) :
    X (ix2 r x) = X (ix2 r' x') := by rw [Fin.ext hr, Fin.ext hx]
theorem at3 {α : Type} {Q R C : Nat} (X : Shape.Idx ⟨3, ![Q, R, C]⟩ → α) {q q' : Fin Q} {r r' : Fin R} {x x' : Fin C} (hq : q.val = q'.val) (hr : r.val = r'.val)
    (hx : x.val = x'.val) : X (ix3 q r x) = X (ix3 q' r' x') := by rw [Fin.ext hq, Fin.ext hr, Fin.ext hx]

/-- A slab is its matrix. -/
theorem slab_at {α : Type} {R C : Nat} (b : Shape.Idx ⟨3, ![1, R, C]⟩ → α) (h : (⟨3, ![1, R, C]⟩ : Shape).ShapeCasts ⟨2, ![R, C]⟩) (r : Fin R) (x : Fin C) :
    shapeCast ⟨2, ![R, C]⟩ b h (ix2 r x) = b (ix3 0 r x) :=
  shapeCast_apply b h _ _ (by
    rewrite [Shape.rowMajor_val_two, Shape.rowMajor_val_three]
    show (0 * R + r.val) * C + x.val = r.val * C + x.val
    rw [Nat.zero_mul, Nat.zero_add])

/-- A matrix as one slab. -/
theorem slab_of {α : Type} {R C : Nat} (w : Shape.Idx ⟨2, ![R, C]⟩ → α) (h : (⟨2, ![R, C]⟩ : Shape).ShapeCasts ⟨3, ![1, R, C]⟩) (r : Fin R) (x : Fin C) :
    shapeCast ⟨3, ![1, R, C]⟩ w h (ix3 0 r x) = w (ix2 r x) :=
  shapeCast_apply w h _ _ (by
    rewrite [Shape.rowMajor_val_two, Shape.rowMajor_val_three]
    show r.val * C + x.val = (0 * R + r.val) * C + x.val
    rw [Nat.zero_mul, Nat.zero_add])

/-- A matrix in slabs of columns. -/
theorem slabs_at {α : Type} {R S C : Nat} (w : Shape.Idx ⟨2, ![R, S * C]⟩ → α) (h1 : (⟨2, ![R, S * C]⟩ : Shape).ShapeCasts ⟨3, ![R, S, C]⟩)
    (h2 : (⟨3, ![R, S, C]⟩ : Shape).Transposes [1, 0, 2] ⟨3, ![S, R, C]⟩) (s : Fin S) (r : Fin R) (x : Fin C) :
    transpose ⟨3, ![S, R, C]⟩ [1, 0, 2] (shapeCast ⟨3, ![R, S, C]⟩ w h1) h2 (ix3 s r x)
      = w (ix2 r ⟨C * s.val + x.val, by
          have := s.isLt; have := x.isLt
          calc C * s.val + x.val < C * s.val + C := by omega
            _ = C * (s.val + 1) := by ring
            _ ≤ C * S := Nat.mul_le_mul_left C (by omega)
            _ = S * C := Nat.mul_comm _ _⟩) := by
  rw [transpose_apply [1, 0, 2] _ h2 _ (ix3 r s x) (fun b => match b with | ⟨0, _⟩ => rfl | ⟨1, _⟩ => rfl | ⟨2, _⟩ => rfl)]
  exact shapeCast_apply w h1 _ _ (by
    rewrite [Shape.rowMajor_val_two, Shape.rowMajor_val_three]
    show r.val * (S * C) + (C * s.val + x.val) = (r.val * S + s.val) * C + x.val
    ring)

variable (o : Nat) (inb' : ∀ a, (![o, 0] : Fin 2 → Nat) a + (![256, N] : Fin 2 → Nat) a ≤ (⟨2, ![M, N]⟩ : Shape).size a)

/-- The rows `o …` of a block of the result, at their own index. -/
theorem at_box {φ : EltTy} (X : Vec Ideal ⟨2, ![M, N]⟩ φ) (x : Shape.Idx ⟨2, ![256, N]⟩) :
    View.ld X (Rect.unit (s := ⟨2, ![M, N]⟩) ![o, 0] ![256, N] inb') x = X ((Rect.unit (s := ⟨2, ![M, N]⟩) ![o, 0] ![256, N] inb').emb x) := rfl

theorem box_row (x : Shape.Idx ⟨2, ![256, N]⟩) : (((Rect.unit (s := ⟨2, ![M, N]⟩) ![o, 0] ![256, N] inb').emb x) 0).val = o + (x 0).val :=
  Rect.idx_unit_val (s := ⟨2, ![M, N]⟩) ![o, 0] ![256, N] inb' x (0 : Fin 2)
theorem box_col (x : Shape.Idx ⟨2, ![256, N]⟩) : (((Rect.unit (s := ⟨2, ![M, N]⟩) ![o, 0] ![256, N] inb').emb x) 1).val = 0 + (x 1).val :=
  Rect.idx_unit_val (s := ⟨2, ![M, N]⟩) ![o, 0] ![256, N] inb' x (1 : Fin 2)
theorem box_col' (x : Shape.Idx ⟨2, ![256, N]⟩) : (((Rect.unit (s := ⟨2, ![M, N]⟩) ![o, 0] ![256, N] inb').emb x) 1) = (x 1) :=
  Fin.ext ((box_col o inb' x).trans (Nat.zero_add _))

theorem piece_tn (wf) (A : Vec Ideal ⟨2, ![K, M]⟩ .bf16) (B : Vec Ideal ⟨2, ![K, N]⟩ .bf16)
    (inb : ∀ a, (![0, o] : Fin 2 → Nat) a + (![K, 256] : Fin 2 → Nat) a ≤ (⟨2, ![K, M]⟩ : Shape).size a) (x : Shape.Idx ⟨2, ![256, N]⟩) :
    (matmul (F := Ideal) (φ₁ := .bf16) (φ₂ := .bf16) (dimsTn wf) none (View.ld A (Rect.unit (s := ⟨2, ![K, M]⟩) ![0, o] ![K, 256] inb) : FVec Ideal ⟨2, ![K, 256]⟩ .bf16) (B : FVec Ideal ⟨2, ![K, N]⟩ .bf16) (constant ⟨2, ![256, N]⟩ .f32 0x00000000#32) x : EReal)
      = tn A B ((Rect.unit (s := ⟨2, ![M, N]⟩) ![o, 0] ![256, N] inb').emb x) := by
  rw [dotTn_at]
  refine Finset.sum_congr rfl fun k _ => ?_
  refine congrArg₂ (fun a b : EReal => a * b) ?_ (congrArg (fun j => (B (ix2 k j) : EReal)) (box_col' o inb' x).symm)
  exact View.ld_unit_apply_of A _ _ _ _ _ (fun a => by
    match a with
    | ⟨0, _⟩ => exact (Nat.zero_add _).symm
    | ⟨1, _⟩ => exact box_row o inb' x)

/-- The rows `o …` of the first operand. -/
theorem rows_at (A : Vec Ideal ⟨2, ![M, K]⟩ .bf16)
    (inb : ∀ a, (![o, 0] : Fin 2 → Nat) a + (![256, K] : Fin 2 → Nat) a ≤ (⟨2, ![M, K]⟩ : Shape).size a) (x : Shape.Idx ⟨2, ![256, N]⟩) (k : Fin K) :
    View.ld A (Rect.unit (s := ⟨2, ![M, K]⟩) ![o, 0] ![256, K] inb) (ix2 (x 0) k)
      = A (ix2 (((Rect.unit (s := ⟨2, ![M, N]⟩) ![o, 0] ![256, N] inb').emb x) 0) k) :=
  View.ld_unit_apply_of A _ _ _ _ _ (fun a => by
    match a with
    | ⟨0, _⟩ => exact box_row o inb' x
    | ⟨1, _⟩ => exact (Nat.zero_add _).symm)

theorem piece_nt (wf hs) (A : Vec Ideal ⟨2, ![M, K]⟩ .bf16) (B : Vec Ideal ⟨3, ![1, N, K]⟩ .bf16)
    (inb : ∀ a, (![o, 0] : Fin 2 → Nat) a + (![256, K] : Fin 2 → Nat) a ≤ (⟨2, ![M, K]⟩ : Shape).size a) (x : Shape.Idx ⟨2, ![256, N]⟩) :
    (matmul (F := Ideal) (φ₁ := .bf16) (φ₂ := .bf16) (dimsNt wf) none (View.ld A (Rect.unit (s := ⟨2, ![M, K]⟩) ![o, 0] ![256, K] inb) : FVec Ideal ⟨2, ![256, K]⟩ .bf16)
      (shapeCast ⟨2, ![N, K]⟩ B hs : FVec Ideal ⟨2, ![N, K]⟩ .bf16)
      (constant ⟨2, ![256, N]⟩ .f32 0x00000000#32) x : EReal) = nt A B ((Rect.unit (s := ⟨2, ![M, N]⟩) ![o, 0] ![256, N] inb').emb x) := by
  rw [dotNt_at]
  refine Finset.sum_congr rfl fun k _ => ?_
  exact congrArg₂ (fun a b : EReal => a * b) (rows_at o inb' A inb x k)
    ((slab_at B hs _ _).trans (congrArg (fun j => (B (ix3 0 j k) : EReal)) (box_col' o inb' x).symm))

theorem piece_nn (wf hs) (A : Vec Ideal ⟨2, ![M, K]⟩ .bf16) (B : Vec Ideal ⟨3, ![1, K, N]⟩ .bf16)
    (inb : ∀ a, (![o, 0] : Fin 2 → Nat) a + (![256, K] : Fin 2 → Nat) a ≤ (⟨2, ![M, K]⟩ : Shape).size a) (x : Shape.Idx ⟨2, ![256, N]⟩) :
    (matmul (F := Ideal) (φ₁ := .bf16) (φ₂ := .bf16) (dimsNn wf) none (View.ld A (Rect.unit (s := ⟨2, ![M, K]⟩) ![o, 0] ![256, K] inb) : FVec Ideal ⟨2, ![256, K]⟩ .bf16)
      (shapeCast ⟨2, ![K, N]⟩ B hs : FVec Ideal ⟨2, ![K, N]⟩ .bf16)
      (constant ⟨2, ![256, N]⟩ .f32 0x00000000#32) x : EReal) = nn A B ((Rect.unit (s := ⟨2, ![M, N]⟩) ![o, 0] ![256, N] inb').emb x) := by
  rw [dotNn_at]
  refine Finset.sum_congr rfl fun k _ => ?_
  exact congrArg₂ (fun a b : EReal => a * b) (rows_at o inb' A inb x k)
    ((slab_at B hs _ _).trans (congrArg (fun j => (B (ix3 0 k j) : EReal)) (box_col' o inb' x).symm))

end Cert.Mm
-- ==== Proof.Hidden.lean ====
module

public import proofs.«01_k».proof.Proof.Gen.UpRefIdeal.Read
public import proofs.«01_k».proof.Proof.Mm

/-! # The hidden layer

`max (h w, 0)²`, over the extended reals, and the square root that recovers `max (h w, 0)` from it. -/

@[expose] public section
set_option maxRecDepth 16384
noncomputable section
namespace Cert.Mm
open Idealize.ShloMosaic hiding ix1 ix2 ix3 ix4 eq_ix2 eq_ix3
open Idealize.ShloMosaic.TcCoe ValueIdx
open Cert.UpRefIdeal
open Cert.Tile (eq_ix2_of)

/-- The square of the positive part. -/
def sq (u : EReal) : EReal := max u 0 * max u 0

/-- The squaring as the call does it, at one index. -/
theorem sq_of {s : Shape} (a : FVec Ideal s .f32) (x : s.Idx) (u : EReal) (e : (a x : EReal) = u) :
    (mulf (maximumf a (broadcast s (Scalar.ofBits (F := Ideal) .f32 0x00000000#32))) (maximumf a (broadcast s (Scalar.ofBits (F := Ideal) .f32 0x00000000#32))) x : EReal)
      = sq u := by
  have z : (Scalar.ofBits (F := Ideal) .f32 0x00000000#32 : EReal) = 0 := Ideal.ofBits_zero_f32
  show max (a x : EReal) (Scalar.ofBits (F := Ideal) .f32 0x00000000#32 : EReal) * max (a x : EReal) (Scalar.ofBits (F := Ideal) .f32 0x00000000#32 : EReal) = _
  rw [e, z]
  rfl

/-- The square root gives the positive part back. -/
theorem sqrt_sq (u : EReal) : Ideal.sqrt (sq u) = max u 0 := by
  unfold sq
  induction u using EReal.rec with
  | bot =>
    have e : Ideal.sqrt (0 : EReal) = 0 := by
      have := Ideal.sqrt_coe 0
      simpa using this
    simpa using e
  | top => simp
  | coe r =>
    have e : max ((r : ℝ) : EReal) 0 = ((max r 0 : ℝ) : EReal) := (EReal.coe_strictMono.monotone.map_max (a := r) (b := 0)).symm
    rw [e, ← EReal.coe_mul, Ideal.sqrt_coe, if_neg (not_lt.mpr (mul_self_nonneg _)), Real.sqrt_mul_self (le_max_right _ _)]

/-- A product's share of the derivative: times twice the positive part. -/
def scaled (p r : EReal) : EReal := p * ((Scalar.ofBits (F := Ideal) .f32 0x40000000#32 : EReal) * r)

/-- Where the positive part is zero the share is zero, so nothing need be selected. -/
theorem scaled_of (p u : EReal) :
    (Scalar.select (FloatOps.cmpf (F := Ideal) (φ := .f32) .ogt u (Ideal.ofBits .f32 0x00000000#32)) (scaled p (max u 0)) (Ideal.ofBits .f32 0x00000000#32) : EReal)
      = scaled p (max u 0) := by
  rw [Ideal.ofBits_zero_f32]
  by_cases h : 0 < u
  · have e : FloatOps.cmpf (F := Ideal) (φ := .f32) .ogt u (0 : EReal) = 1#1 := by simp [FloatOps.cmpf, Ideal.cmp, h]
    rw [e]; rfl
  · have e : FloatOps.cmpf (F := Ideal) (φ := .f32) .ogt u (0 : EReal) = 0#1 := by simp [FloatOps.cmpf, Ideal.cmp, h]
    rw [e]
    show (0 : EReal) = _
    rw [scaled, max_eq_right (not_lt.mp h), mul_zero, mul_zero]

/-- The ordinary product. -/
def mul {M K N : Nat} (A : Shape.Idx ⟨2, ![M, K]⟩ → EReal) (B : Shape.Idx ⟨2, ![K, N]⟩ → EReal) (y : Shape.Idx ⟨2, ![M, N]⟩) : EReal :=
  ∑ k : Fin K, A (ix2 (y 0) k) * B (ix2 k (y 1))

/-- The hidden layer. -/
def hid (h : S4096x1024.Idx → EReal) (w : S1024x4096.Idx → EReal) (y : S4096x4096.Idx) : EReal :=
  sq (mul (M := 4096) (K := 1024) (N := 4096) h w y)

theorem pre_eq (h : S4096x1024.Idx → EReal) (w : S1024x4096.Idx → EReal) (y : S4096x4096.Idx) :
    (Read.val_main_v0 (F := Ideal) h w y : EReal) = mul (M := 4096) (K := 1024) (N := 4096) h w y :=
  (Read.val_main_v0_apply h w y).trans (Finset.sum_congr rfl fun k _ =>
    congrArg₂ (fun a b : EReal => a * b) (congrArg h (eq_ix2_of _ _ _ rfl rfl)) (congrArg w (eq_ix2_of _ _ _ rfl rfl)))

theorem hid_eq (h : S4096x1024.Idx → EReal) (w : S1024x4096.Idx → EReal) :
    (Read.val_main_v2 (F := Ideal) h w : S4096x4096.Idx → EReal) = hid h w := by
  funext y
  have e : (Read.val_main_v1 (F := Ideal) h w y : EReal) = max (mul (M := 4096) (K := 1024) (N := 4096) h w y) 0 := by
    rw [Read.val_main_v1_apply, pre_eq, Read.val_main_call0_v0_apply, Read.val_main_call0_cst_apply]
    exact congrArg (max _) Ideal.ofBits_zero_f32
  rw [Read.val_main_v2_apply, e]
  rfl

end Cert.Mm
-- ==== Proof.GDown.lean ====
module

public import proofs.«01_k».proof.Defs
public import proofs.«01_k».proof.Proof.Gen.GDownIdeal.Value
public import proofs.«01_k».proof.Proof.Gen.GDownRefIdeal.Run
public import proofs.«01_k».proof.Proof.Gen.GDownRefIdeal.Read
public import Idealize.ShloMosaic.Lib.StableHlo.ReadAt
public import Idealize.ShloMosaic.Adequacy
public import Idealize.ShloMosaic.Init
public import Idealize.ShloMosaic.Lib.Quiescent
public import proofs.«01_k».proof.Proof.Hidden

/-! # The gradient of the second weight -/

@[expose] public section
set_option maxRecDepth 16384
noncomputable section
namespace Cert.GDownIdeal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

/-- The first step of a block leaves its product in the accumulator. -/
theorem first (h : t.val % 2 = 0) (y : S1024x1024.Idx) :
    ((Gen.outsAt0 m c t.val t.isLt).2 y : EReal) = Mm.tn (K := 2048) (M := 1024) (N := 1024) (Gen.iblk m c 0 t) (Gen.iblk m c 1 t) y := by
  rw [Gen.outsAt0_A m c t h (by omega)]
  frame_out
  refine Tile.canon_all (Val := Elt Ideal) (s := S1024x1024) (e := .f32) (Mm.tn (K := 2048) (M := 1024) (N := 1024) _ _) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, shapeCast_self]
      exact Mm.piece_tn _ _ _ _ _ _ x
  · exact View.cover_of_tiledBy _ ![256, 1024] (by sl_kernel_rfl)

/-- The last step adds its product and stores the sum. -/
theorem last (h : t.val % 2 = 1) (y : S1024x1024.Idx) :
    ((Gen.outsAt0 m c t.val t.isLt).1 y : EReal)
      = (Gen.outsAt0 m c (t.val - 1) (by have := t.isLt; omega)).2 y + Mm.tn (K := 2048) (M := 1024) (N := 1024) (Gen.iblk m c 0 t) (Gen.iblk m c 1 t) y := by
  rw [Gen.outsAt0_B m c t (by omega) h]
  frame_out
  refine Tile.canon_all (Val := Elt Ideal) (s := S1024x1024) (e := .bf16)
    (fun y => _ + Mm.tn (K := 2048) (M := 1024) (N := 1024) _ _ y) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, shapeCast_self]
      refine congrArg₂ (fun a b : EReal => a + b) ?_ (Mm.piece_tn _ _ _ _ _ _ x)
      rw [read_unread_whole]
      rfl
  · exact View.cover_of_tiledBy _ ![256, 1024] (by sl_kernel_rfl)

/-- The hidden layer and the block's cotangent, as the call is given them. -/
def arrR : S4096x4096.Idx → EReal := Gen.V m c main_v3
def arrDy : S4096x1024.Idx → EReal := Gen.V m c main_v4

theorem idx_facts : ∀ t : Fin cfg0.N, win0_0.index t = ![t.val % 2, t.val / 2] ∧ win0_1.index t = ![t.val % 2, 0] := by decide +kernel
theorem N8 : cfg0.N = 8 := by decide +kernel

theorem iblk0 (k : Fin 2048) (r : Fin 1024) : (Gen.iblk m c 0 t (ix2 k r) : EReal)
    = arrR m c (ix2 ⟨2048 * (t.val % 2) + k.val, by omega⟩ ⟨1024 * (t.val / 2) + r.val, by have := Nat.lt_of_lt_of_eq t.isLt N8; omega⟩) := by
  blk_ext [Gen.iblk, arrR, (idx_facts t).1]
  · exact congrArg (· + k.val) (Nat.mul_comm _ _)
  · exact congrArg (· + r.val) (Nat.mul_comm _ _)
theorem iblk1 (k : Fin 2048) (r : Fin 1024) : (Gen.iblk m c 1 t (ix2 k r) : EReal)
    = arrDy m c (ix2 ⟨2048 * (t.val % 2) + k.val, by omega⟩ r) := by
  blk_ext [Gen.iblk, arrDy, (idx_facts t).2]
  exact congrArg (· + k.val) (Nat.mul_comm _ _)

/-- The result at an index: the whole contraction. -/
theorem result_eq : (G2 m c : S4096x1024.Idx → EReal) = Mm.tn (K := 4096) (M := 4096) (N := 1024) (arrR m c) (arrDy m c) := by
  funext y
  have b0 : (y 0).val < 4096 := (y 0).isLt
  have b1 : (y 1).val < 1024 := (y 1).isLt
  have hp : pt2Of y = 2 * ((y 0).val / 1024) + 1 := by
    show 2 * (1 * ((y 0).val / 1024 - 0) + 1 * ((y 1).val / 1024 - 0)) + 1 = _
    omega
  have hN : pt2Of y < cfg0.N := by rw [hp, N8]; omega
  have h0 : (loc2Of y 0).val = (y 0).val % 1024 := rfl
  have h1 : (loc2Of y 1).val = (y 1).val % 1024 := rfl
  unfold G2
  rw [dif_pos hN, ← outsAt0_sweep m c _ hN]
  have e := last m c ⟨_, hN⟩ (by dsimp only; omega) (loc2Of y)
  rw [first m c ⟨_, by dsimp only; omega⟩ (by dsimp only; omega)] at e
  refine e.trans ?_
  unfold Mm.tn
  refine Eq.trans ?_ (Tile.sum_blocks 2 2048 (fun k : Fin 4096 => arrR m c (ix2 k (y 0)) * arrDy m c (ix2 k (y 1)))).symm
  rw [Fin.sum_univ_two]
  refine congrArg₂ (fun a b : EReal => a + b) (Finset.sum_congr rfl fun k _ => ?_) (Finset.sum_congr rfl fun k _ => ?_)
  all_goals
    refine congrArg₂ (fun a b : EReal => a * b) ((iblk0 m c _ _ _).trans (Mm.at2 _ ?_ ?_)) ((iblk1 m c _ _ _).trans (Mm.at2 _ ?_ ?_))
    all_goals
      simp only [hp, h0, h1, Fin.val_zero, Fin.val_one]
      omega

theorem arrR_eq : arrR m c = Mm.hid (m ((c : Thread nD τ).loc main_arg0)) (m ((c : Thread nD τ).loc main_arg1)) := by
  refine Eq.trans ?_ (Mm.hid_eq _ _)
  unfold arrR Gen.V
  after_reads_simp
  simp -implicitDefEqProofs only [StableHlo.TRef.toBuf, StableHlo.TRef.ofBuf, cast_cast, cast_eq]
  rfl
theorem arrDy_eq : arrDy m c = m ((c : Thread nD τ).loc main_arg3) := by
  unfold arrDy Gen.V
  after_reads_simp
  rfl

/-- The derivative of the product, read as one contraction. -/
theorem reference_eq (h : S4096x1024.Idx → EReal) (w : S1024x4096.Idx → EReal) (dy : S4096x1024.Idx → EReal) :
    (Cert.GDownRefIdeal.Read.val_main_v6 (F := Ideal) h w dy : S4096x1024.Idx → EReal) = Mm.tn (K := 4096) (M := 4096) (N := 1024) (Mm.hid h w) dy := by
  funext y
  rw [Cert.GDownRefIdeal.Read.val_main_v6_apply, Cert.GDownRefIdeal.Read.val_main_v5_apply]
  refine (Cert.GDownRefIdeal.Read.val_main_v4_apply h w dy _).trans (Finset.sum_congr rfl fun k _ => ?_)
  refine (mul_comm _ _).trans ?_
  refine congrArg₂ (fun a b : EReal => a * b) ?_ (congrArg dy (Tile.eq_ix2_of _ _ _ rfl rfl))
  exact (congrFun (Mm.hid_eq h w) _).trans (congrArg (Mm.hid h w) (Tile.eq_ix2_of _ _ _ rfl rfl))

end Cert.GDownIdeal.Value

namespace Cert.Proof
open Idealize.ShloMosaic Idealize.SL.Sem Idealize.ShloMosaic.StableHlo

theorem frame_GDownRef : quiescent_GDownRefIdeal := fun m ρ _ =>
  (θ_run Cert.GDownRefIdeal.defs _ _).mono (fun r h => ⟨fun c => (h c).2, sem_eq_zero_of_no_sems (by decide) r.2⟩)
    (Cert.GDownRefIdeal.Value.run (F := Ideal) m ρ)

theorem algebraic_GDown : algebraic_GDownIdeal_GDownRefIdeal := by
  intro m ρ m' ρ' _ hagree
  refine ⟨_, Cert.GDownIdeal.Value.run (F := Ideal) m ρ, ?_⟩
  refine (θ_run Cert.GDownRefIdeal.defs _ _).mono (fun _ h c => ⟨?_, (h c).2⟩) (Cert.GDownRefIdeal.Value.run (F := Ideal) m' ρ')
  obtain ⟨e0, e1, -, e3⟩ := hagree c
  refine ((h c).1.trans (Cert.GDownRefIdeal.Read.val_main_v6_eq (F := Ideal) _ _ _)).trans ?_
  rw [e0, e1, e3]
  refine (Cert.GDownIdeal.Value.reference_eq _ _ _).trans ?_
  refine Eq.trans ?_ (Cert.GDownIdeal.Value.result_eq m c).symm
  rw [Cert.GDownIdeal.Value.arrR_eq, Cert.GDownIdeal.Value.arrDy_eq]

end Cert.Proof
-- ==== Proof.DDown.lean ====
module

public import proofs.«01_k».proof.Defs
public import proofs.«01_k».proof.Proof.Gen.DDownIdeal.Value
public import proofs.«01_k».proof.Proof.Gen.DDownRefIdeal.Run
public import proofs.«01_k».proof.Proof.Gen.DDownRefIdeal.Read
public import Idealize.ShloMosaic.Lib.StableHlo.ReadAt
public import Idealize.ShloMosaic.Adequacy
public import Idealize.ShloMosaic.Init
public import Idealize.ShloMosaic.Lib.Quiescent
public import proofs.«01_k».proof.Proof.Hidden

/-! # The gradient of the first product -/

@[expose] public section
set_option maxRecDepth 16384
noncomputable section
namespace Cert.DDownIdeal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

theorem N8 : cfg0.N = 8 := by decide +kernel

/-- What a step stores. -/
theorem out (A : Vec Ideal S2048x1024 .bf16) (B : Vec Ideal S1x1024x1024 .bf16) (R : Vec Ideal S2048x1024 .bf16) (y : S2048x1024.Idx) :
    (Gen.out0_3 A B R y : EReal) = Mm.scaled (Mm.nt (K := 1024) (M := 2048) (N := 1024) A B y) (Ideal.sqrt (R y)) := by
  unfold Gen.out0_3
  have w : View.ld B Gen.r0_1 = B := View.ld_unit_zero (funext fun a => match a with | ⟨0, _⟩ => rfl | ⟨1, _⟩ => rfl | ⟨2, _⟩ => rfl) _ _
  rw [w]
  refine Tile.canon_all (Val := Elt Ideal) (s := S2048x1024) (e := .bf16)
    (fun y => Mm.scaled (Mm.nt (K := 1024) (M := 2048) (N := 1024) A B y) (Ideal.sqrt (R y))) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, shapeCast_self]
      exact congrArg₂ Mm.scaled (Mm.piece_nt _ _ _ _ _ _ _ x) rfl
  · exact View.cover_of_tiledBy _ ![256, 1024] (by sl_kernel_rfl)

/-- The block's cotangent, the second weight as one slab and the hidden layer, as the call is given them. -/
def arrDy : S4096x1024.Idx → EReal := Gen.V m c main_v0
def arrW : S1x4096x1024.Idx → EReal := Gen.V m c main_v2
def arrR : S4096x4096.Idx → EReal := Gen.V m c main_v6

theorem idx_facts : ∀ t : Fin cfg0.N, (win0_0.index t = ![t.val / 4, 0] ∧ win0_1.index t = ![0, t.val % 4, 0])
    ∧ (win0_2.index t = ![t.val / 4, t.val % 4] ∧ win0_3.index t = ![t.val / 4, t.val % 4]) := by decide +kernel

theorem iblk0 (r : Fin 2048) (k : Fin 1024) : (Gen.iblk m c 0 t (ix2 r k) : EReal)
    = arrDy m c (ix2 ⟨2048 * (t.val / 4) + r.val, by have := Nat.lt_of_lt_of_eq t.isLt N8; omega⟩ k) := by
  blk_ext [Gen.iblk, arrDy, (idx_facts t).1.1]
  exact congrArg (· + r.val) (Nat.mul_comm _ _)
theorem iblk1 (r : Fin 1024) (k : Fin 1024) : (Gen.iblk m c 1 t (ix3 0 r k) : EReal) = arrW m c (ix3 0 ⟨1024 * (t.val % 4) + r.val, by omega⟩ k) := by
  blk_ext [Gen.iblk, arrW, (idx_facts t).1.2]
  exact congrArg (· + r.val) (Nat.mul_comm _ _)
theorem iblk2 (r : Fin 2048) (k : Fin 1024) : (Gen.iblk m c 2 t (ix2 r k) : EReal)
    = arrR m c (ix2 ⟨2048 * (t.val / 4) + r.val, by have := Nat.lt_of_lt_of_eq t.isLt N8; omega⟩ ⟨1024 * (t.val % 4) + k.val, by omega⟩) := by
  blk_ext [Gen.iblk, arrR, (idx_facts t).2.1]
  · exact congrArg (· + r.val) (Nat.mul_comm _ _)
  · exact congrArg (· + k.val) (Nat.mul_comm _ _)

theorem arrDy_eq : arrDy m c = m ((c : Thread nD τ).loc main_arg3) := by
  unfold arrDy Gen.V
  after_reads_simp
  rfl
theorem arrW_at (k : Fin 4096) (r : Fin 1024) : arrW m c (ix3 0 k r) = m ((c : Thread nD τ).loc main_arg2) (ix2 k r) := by
  have e : arrW m c = shapeCast S1x4096x1024 (m ((c : Thread nD τ).loc main_arg2)) Gen.shapeCasts_S4096x1024_S1x4096x1024 := by
    unfold arrW Gen.V
    after_reads_simp
    rfl
  rw [e]
  exact Mm.slab_of _ _ _ _
theorem arrR_eq : arrR m c = Mm.hid (m ((c : Thread nD τ).loc main_arg0)) (m ((c : Thread nD τ).loc main_arg1)) := by
  refine Eq.trans ?_ (Mm.hid_eq _ _)
  unfold arrR Gen.V
  after_reads_simp
  simp -implicitDefEqProofs only [StableHlo.TRef.toBuf, StableHlo.TRef.ofBuf, cast_cast, cast_eq]
  rfl

theorem flush_all : ∀ t : Fin cfg0.N, (cfg0.win 3).flush t = true := by decide +kernel

theorem mem_blk (i : S4096x4096.Idx) : i ∈ ((cfg0.win 3).blk t).view.set
    ↔ ∀ a : Fin 2, win0_3.index t a * S2048x1024.size a ≤ (i a).val ∧ (i a).val < win0_3.index t a * S2048x1024.size a + S2048x1024.size a := by
  show i ∈ ((View.whole main_v7).slice (win0_3.rect t)).set ↔ _
  rw [View.set_slice_whole, Rect.mem_set_unit]
  exact Iff.rfl

theorem covered (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  refine ⟨⟨4 * ((i 0).val / 2048) + (i 1).val / 1024, by rw [N8]; omega⟩, flush_all _, ?_⟩
  rw [mem_blk]
  have e := (idx_facts ⟨4 * ((i 0).val / 2048) + (i 1).val / 1024, by rw [N8]; omega⟩).2.2
  have q0 := congrFun e 0
  have q1 := congrFun e 1
  intro a
  match a with
  | ⟨0, _⟩ =>
    show win0_3.index _ (0 : Fin 2) * 2048 ≤ (i 0).val ∧ (i 0).val < win0_3.index _ (0 : Fin 2) * 2048 + 2048
    rw [q0]
    show (4 * ((i 0).val / 2048) + (i 1).val / 1024) / 4 * 2048 ≤ _ ∧ _ < (4 * ((i 0).val / 2048) + (i 1).val / 1024) / 4 * 2048 + 2048
    omega
  | ⟨1, _⟩ =>
    show win0_3.index _ (1 : Fin 2) * 1024 ≤ (i 1).val ∧ (i 1).val < win0_3.index _ (1 : Fin 2) * 1024 + 1024
    rw [q1]
    show (4 * ((i 0).val / 2048) + (i 1).val / 1024) % 4 * 1024 ≤ _ ∧ _ < (4 * ((i 0).val / 2048) + (i 1).val / 1024) % 4 * 1024 + 1024
    omega

/-- The derivative at an index: the product with the second weight, times twice the positive part. -/
def G (h : S4096x1024.Idx → EReal) (w : S1024x4096.Idx → EReal) (v dy : S4096x1024.Idx → EReal) (y : S4096x4096.Idx) : EReal :=
  Mm.scaled (∑ k : Fin 1024, dy (ix2 (y 0) k) * v (ix2 (y 1) k)) (max (Mm.mul (M := 4096) (K := 1024) (N := 4096) h w y) 0)

theorem result_eq : ((Gen.dats m 0 c).arrAt 3 cfg0.N : S4096x4096.Idx → EReal)
    = G (m ((c : Thread nD τ).loc main_arg0)) (m ((c : Thread nD τ).loc main_arg1)) (m ((c : Thread nD τ).loc main_arg2)) (m ((c : Thread nD τ).loc main_arg3)) := by
  refine (Gen.dats m 0 c).arrAt_eq_of_cover 3 _ (fun t _ => ?_) covered
  rw [flushed3]
  funext y
  have hb0 : (((cfg0.win 3).blk t).view.emb y 0).val = win0_3.index t (0 : Fin 2) * 2048 + 1 * (y 0).val := rfl
  have hb1 : (((cfg0.win 3).blk t).view.emb y 1).val = win0_3.index t (1 : Fin 2) * 1024 + 1 * (y 1).val := rfl
  have q0 : win0_3.index t (0 : Fin 2) = t.val / 4 := congrFun (idx_facts t).2.2 0
  have q1 : win0_3.index t (1 : Fin 2) = t.val % 4 := congrFun (idx_facts t).2.2 1
  have x0 : ((cfg0.win 3).xinj (grid0.coords t) y 0).val = (y 0).val := rfl
  have x1 : ((cfg0.win 3).xinj (grid0.coords t) y 1).val = (y 1).val := rfl
  show (Gen.out0_3 (Gen.iblk m c 0 t) (Gen.iblk m c 1 t) (Gen.iblk m c 2 t) ((cfg0.win 3).xinj (grid0.coords t) y) : EReal)
    = G _ _ _ _ (((cfg0.win 3).blk t).view.emb y)
  refine (out _ _ _ _).trans (congrArg₂ Mm.scaled (Finset.sum_congr rfl fun k _ => ?_) ?_)
  · refine congrArg₂ (fun a b : EReal => a * b) (((iblk0 m c t _ _).trans (congrFun (arrDy_eq m c) _)).trans (Mm.at2 _ ?_ ?_))
      (((iblk1 m c t _ _).trans (arrW_at m c _ _)).trans (Mm.at2 _ ?_ ?_))
    all_goals
      simp only [hb0, hb1, q0, q1, x0, x1]
      try omega
  · refine Eq.trans (congrArg Ideal.sqrt ?_) (Mm.sqrt_sq _)
    rw [eq_ix2 ((cfg0.win 3).xinj (grid0.coords t) y)]
    refine ((iblk2 m c t _ _).trans (congrFun (arrR_eq m c) _)).trans ?_
    refine congrArg (Mm.hid _ _) (Tile.eq_ix2_of _ _ _ ?_ ?_).symm
    all_goals
      simp only [hb0, hb1, q0, q1, x0, x1]
      omega

/-- The derivative as the reference computes it: nothing where the product is not positive. -/
theorem reference_eq (h : S4096x1024.Idx → EReal) (w : S1024x4096.Idx → EReal) (v dy : S4096x1024.Idx → EReal) :
    (Cert.DDownRefIdeal.Read.val_main_v13 (F := Ideal) h w v dy : S4096x4096.Idx → EReal) = G h w v dy := by
  funext y
  have e0 : (Cert.DDownRefIdeal.Read.val_main_v0 (F := Ideal) h w y : EReal) = Mm.mul (M := 4096) (K := 1024) (N := 4096) h w y := Mm.pre_eq h w y
  have e1 : (Cert.DDownRefIdeal.Read.val_main_v1 (F := Ideal) h w y : EReal) = max (Mm.mul (M := 4096) (K := 1024) (N := 4096) h w y) 0 := by
    rw [Cert.DDownRefIdeal.Read.val_main_v1_apply, e0]
    exact congrArg (max _) Ideal.ofBits_zero_f32
  have e9 : (Cert.DDownRefIdeal.Read.val_main_v9 (F := Ideal) v dy y : EReal) = ∑ k : Fin 1024, dy (ix2 (y 0) k) * v (ix2 (y 1) k) :=
    (Cert.DDownRefIdeal.Read.val_main_v9_apply v dy y).trans (Finset.sum_congr rfl fun k _ =>
      congrArg₂ (fun a b : EReal => a * b) (congrArg dy (Tile.eq_ix2_of _ _ _ rfl rfl)) (congrArg v (Tile.eq_ix2_of _ _ _ rfl rfl)))
  rw [Cert.DDownRefIdeal.Read.val_main_v13_apply, Cert.DDownRefIdeal.Read.val_main_v12_apply, Cert.DDownRefIdeal.Read.val_main_v10_apply,
    Cert.DDownRefIdeal.Read.val_main_v7_apply, Cert.DDownRefIdeal.Read.val_main_v3_apply, e0, e1, e9]
  exact Mm.scaled_of _ _

end Cert.DDownIdeal.Value

namespace Cert.Proof
open Idealize.ShloMosaic Idealize.SL.Sem Idealize.ShloMosaic.StableHlo

theorem frame_DDownRef : quiescent_DDownRefIdeal := fun m ρ _ =>
  (θ_run Cert.DDownRefIdeal.defs _ _).mono (fun r h => ⟨fun c => (h c).2, sem_eq_zero_of_no_sems (by decide) r.2⟩)
    (Cert.DDownRefIdeal.Value.run (F := Ideal) m ρ)

theorem algebraic_DDown : algebraic_DDownIdeal_DDownRefIdeal := by
  intro m ρ m' ρ' _ hagree
  refine ⟨_, Cert.DDownIdeal.Value.run_blocks (F := Ideal) m ρ, ?_⟩
  refine (θ_run Cert.DDownRefIdeal.defs _ _).mono (fun _ h c => ⟨?_, (h c).2⟩) (Cert.DDownRefIdeal.Value.run (F := Ideal) m' ρ')
  obtain ⟨e0, e1, e2, e3⟩ := hagree c
  refine ((h c).1.trans (Cert.DDownRefIdeal.Read.val_main_v13_eq (F := Ideal) _ _ _ _)).trans ?_
  rw [e0, e1, e2, e3]
  exact (Cert.DDownIdeal.Value.reference_eq _ _ _ _).trans (Cert.DDownIdeal.Value.result_eq m c).symm

end Cert.Proof
-- ==== Proof.GUp.lean ====
module

public import proofs.«01_k».proof.Defs
public import proofs.«01_k».proof.Proof.Gen.GUpIdeal.Value
public import proofs.«01_k».proof.Proof.Gen.GUpRefIdeal.Run
public import proofs.«01_k».proof.Proof.Gen.GUpRefIdeal.Read
public import Idealize.ShloMosaic.Lib.StableHlo.ReadAt
public import Idealize.ShloMosaic.Adequacy
public import Idealize.ShloMosaic.Init
public import Idealize.ShloMosaic.Lib.Quiescent
public import proofs.«01_k».proof.Proof.Mm

/-! # The gradient of the first weight: the launch's result -/

@[expose] public section
set_option maxRecDepth 16384
noncomputable section
namespace Cert.GUpIdeal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

/-- The first step of a block leaves its product in the accumulator. -/
theorem first (h : t.val % 2 = 0) (y : S1024x1024.Idx) :
    ((Gen.outsAt0 m c t.val t.isLt).2 y : EReal) = Mm.tn (K := 2048) (M := 1024) (N := 1024) (Gen.iblk m c 0 t) (Gen.iblk m c 1 t) y := by
  rw [Gen.outsAt0_A m c t h (by omega)]
  frame_out
  refine Tile.canon_all (Val := Elt Ideal) (s := S1024x1024) (e := .f32) (Mm.tn (K := 2048) (M := 1024) (N := 1024) _ _) _ ?_ ?_ y
  · repeat' (first | exact Tile.pieces_nil _ | refine Tile.pieces_cons _ _ _ ?_ ?_)
    all_goals
      intro x
      simp only [Gen.k0_pay3, Gen.k0_pay4, Gen.k0_pay5, Gen.k0_pay6, shapeCast_self]
      exact Mm.piece_tn _ _ _ _ _ _ x
  · exact View.cover_of_tiledBy _ ![256, 1024] (by sl_kernel_rfl)

/-- The last step adds its product and stores the sum. -/
theorem last (h : t.val % 2 = 1) (y : S1024x1024.Idx) :
    ((Gen.outsAt0 m c t.val t.isLt).1 y : EReal)
      = (Gen.outsAt0 m c (t.val - 1) (by have := t.isLt; omega)).2 y + Mm.tn (K := 2048) (M := 1024) (N := 1024) (Gen.iblk m c 0 t) (Gen.iblk m c 1 t) y := by
  rw [Gen.outsAt0_B m c t (by omega) h]
  frame_out
  refine Tile.canon_all (Val := Elt Ideal) (s := S1024x1024) (e := .bf16)
    (fun y => _ + Mm.tn (K := 2048) (M := 1024) (N := 1024) _ _ y) _ ?_ ?_ y
  · repeat' (first | exact Tile.pieces_nil _ | refine Tile.pieces_cons _ _ _ ?_ ?_)
    all_goals
      intro x
      simp only [Gen.k0_pay2, Gen.k0_pay10, Gen.k0_pay11, Gen.k0_pay12, shapeCast_self]
      refine congrArg₂ (fun a b : EReal => a + b) ?_ (Mm.piece_tn _ _ _ _ _ _ x)
      rw [read_unread_whole]
      rfl
  · exact View.cover_of_tiledBy _ ![256, 1024] (by sl_kernel_rfl)

/-- The block's rows and the hidden layer's gradient, as the call is given them. -/
def arrH : S4096x1024.Idx → EReal := Gen.V m c main_v0
def arrDa : S4096x4096.Idx → EReal := Gen.V m c main_arg2

theorem idx_facts : ∀ t : Fin cfg0.N, win0_0.index t = ![t.val % 2, 0] ∧ win0_1.index t = ![t.val % 2, t.val / 2] := by decide +kernel
theorem N8 : cfg0.N = 8 := by decide +kernel

theorem iblk0 (k : Fin 2048) (r : Fin 1024) : (Gen.iblk m c 0 t (ix2 k r) : EReal)
    = arrH m c (ix2 ⟨2048 * (t.val % 2) + k.val, by omega⟩ r) := by
  blk_ext [Gen.iblk, arrH, (idx_facts t).1]
  exact congrArg (· + k.val) (Nat.mul_comm _ _)
theorem iblk1 (k : Fin 2048) (r : Fin 1024) : (Gen.iblk m c 1 t (ix2 k r) : EReal)
    = arrDa m c (ix2 ⟨2048 * (t.val % 2) + k.val, by omega⟩ ⟨1024 * (t.val / 2) + r.val, by have := Nat.lt_of_lt_of_eq t.isLt N8; omega⟩) := by
  blk_ext [Gen.iblk, arrDa, (idx_facts t).2]
  · exact congrArg (· + k.val) (Nat.mul_comm _ _)
  · exact congrArg (· + r.val) (Nat.mul_comm _ _)

/-- The result at an index: the whole contraction. -/
theorem result_eq : (G2 m c : S1024x4096.Idx → EReal) = Mm.tn (K := 4096) (M := 1024) (N := 4096) (arrH m c) (arrDa m c) := by
  funext y
  have b0 : (y 0).val < 1024 := (y 0).isLt
  have b1 : (y 1).val < 4096 := (y 1).isLt
  have hp : pt2Of y = 2 * ((y 1).val / 1024) + 1 := by
    show 2 * (4 * ((y 0).val / 1024 - 0) + 1 * ((y 1).val / 1024 - 0)) + 1 = _
    omega
  have hN : pt2Of y < cfg0.N := by rw [hp, N8]; omega
  have h0 : (loc2Of y 0).val = (y 0).val % 1024 := rfl
  have h1 : (loc2Of y 1).val = (y 1).val % 1024 := rfl
  unfold G2
  rw [dif_pos hN, ← outsAt0_sweep m c _ hN]
  have e := last m c ⟨_, hN⟩ (by dsimp only; omega) (loc2Of y)
  rw [first m c ⟨_, by dsimp only; omega⟩ (by dsimp only; omega)] at e
  refine e.trans ?_
  unfold Mm.tn
  refine Eq.trans ?_ (Tile.sum_blocks 2 2048 (fun k : Fin 4096 => arrH m c (ix2 k (y 0)) * arrDa m c (ix2 k (y 1)))).symm
  rw [Fin.sum_univ_two]
  refine congrArg₂ (fun a b : EReal => a + b) (Finset.sum_congr rfl fun k _ => ?_) (Finset.sum_congr rfl fun k _ => ?_)
  all_goals
    refine congrArg₂ (fun a b : EReal => a * b) ((iblk0 m c _ _ _).trans (Mm.at2 _ ?_ ?_)) ((iblk1 m c _ _ _).trans (Mm.at2 _ ?_ ?_))
    all_goals
      simp only [hp, h0, h1, Fin.val_zero, Fin.val_one]
      omega

theorem arrH_eq : arrH m c = m ((c : Thread nD τ).loc main_arg0) := by
  unfold arrH Gen.V
  after_reads_simp
  rfl

/-- The derivative of the product, read as one contraction. -/
theorem reference_eq (h : S4096x1024.Idx → EReal) (da : S4096x4096.Idx → EReal) :
    (Cert.GUpRefIdeal.Read.val_main_v4 (F := Ideal) h da : S1024x4096.Idx → EReal) = Mm.tn (K := 4096) (M := 1024) (N := 4096) h da := by
  funext y
  rw [Cert.GUpRefIdeal.Read.val_main_v4_apply, Cert.GUpRefIdeal.Read.val_main_v3_apply]
  refine (Cert.GUpRefIdeal.Read.val_main_v2_apply h da _).trans (Finset.sum_congr rfl fun k _ => ?_)
  refine (mul_comm _ _).trans ?_
  exact congrArg₂ (fun a b : EReal => a * b) (congrArg h (Tile.eq_ix2_of _ _ _ rfl rfl)) (congrArg da (Tile.eq_ix2_of _ _ _ rfl rfl))

end Cert.GUpIdeal.Value

namespace Cert.Proof
open Idealize.ShloMosaic Idealize.SL.Sem Idealize.ShloMosaic.StableHlo

theorem frame_GUpRef : quiescent_GUpRefIdeal := fun m ρ _ =>
  (θ_run Cert.GUpRefIdeal.defs _ _).mono (fun r h => ⟨fun c => (h c).2, sem_eq_zero_of_no_sems (by decide) r.2⟩)
    (Cert.GUpRefIdeal.Value.run (F := Ideal) m ρ)

theorem algebraic_GUp : algebraic_GUpIdeal_GUpRefIdeal := by
  intro m ρ m' ρ' _ hagree
  refine ⟨_, Cert.GUpIdeal.Value.run (F := Ideal) m ρ, ?_⟩
  refine (θ_run Cert.GUpRefIdeal.defs _ _).mono (fun _ h c => ⟨?_, (h c).2⟩) (Cert.GUpRefIdeal.Value.run (F := Ideal) m' ρ')
  obtain ⟨e0, -, e2⟩ := hagree c
  refine ((h c).1.trans (Cert.GUpRefIdeal.Read.val_main_v4_eq (F := Ideal) _ _)).trans ?_
  rw [e0, e2]
  refine (Cert.GUpIdeal.Value.reference_eq _ _).trans ?_
  refine Eq.trans ?_ (Cert.GUpIdeal.Value.result_eq m c).symm
  rw [Cert.GUpIdeal.Value.arrH_eq]
  exact congrArg _ (Cert.GUpIdeal.Gen.V_main_arg2 m c).symm

end Cert.Proof
-- ==== Proof.DUp.lean ====
module

public import proofs.«01_k».proof.Defs
public import proofs.«01_k».proof.Proof.Gen.DUpIdeal.Value
public import proofs.«01_k».proof.Proof.Gen.DUpRefIdeal.Run
public import proofs.«01_k».proof.Proof.Gen.DUpRefIdeal.Read
public import Idealize.ShloMosaic.Lib.StableHlo.ReadAt
public import Idealize.ShloMosaic.Adequacy
public import Idealize.ShloMosaic.Init
public import Idealize.ShloMosaic.Lib.Quiescent
public import proofs.«01_k».proof.Proof.Hidden

/-! # The gradient of the block's rows through the first weight -/

@[expose] public section
set_option maxRecDepth 16384
noncomputable section
namespace Cert.DUpIdeal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

theorem N8 : cfg0.N = 8 := by decide +kernel

/-- What a step adds. -/
def part (y : S2048x1024.Idx) : EReal := Mm.nt (K := 1024) (M := 2048) (N := 1024) (Gen.iblk m c 0 t) (Gen.iblk m c 1 t) y

/-- The first step of a block leaves its product in the accumulator. -/
theorem first (h : t.val % 4 = 0) (y : S2048x1024.Idx) : ((Gen.outsAt0 m c t.val t.isLt).2 y : EReal) = part m c t y := by
  rw [Gen.outsAt0_A m c t h (by omega) (by omega)]
  frame_out
  refine Tile.canon_all (Val := Elt Ideal) (s := S2048x1024) (e := .f32) (part m c t) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, Gen.k0_pay14, Gen.k0_pay15, Gen.k0_pay16, Gen.k0_pay17, Gen.k0_pay18, Gen.k0_pay19, Gen.k0_pay20, Gen.k0_pay21, Gen.k0_pay22, Gen.k0_pay23, Gen.k0_pay24, Gen.k0_pay25, Gen.k0_pay26, Gen.k0_pay27, shapeCast_self]
      exact Mm.piece_nt _ _ _ _ _ _ _ x
  · exact View.cover_of_tiledBy _ ![256, 1024] (by sl_kernel_rfl)

/-- A step between adds its product to the accumulator. -/
theorem mid (h : 1 ≤ t.val % 4 ∧ t.val % 4 ≤ 2) (y : S2048x1024.Idx) : ((Gen.outsAt0 m c t.val t.isLt).2 y : EReal)
    = (Gen.outsAt0 m c (t.val - 1) (by have := t.isLt; omega)).2 y + part m c t y := by
  rw [Gen.outsAt0_B m c t (by omega) h (by omega)]
  frame_out
  refine Tile.canon_all (Val := Elt Ideal) (s := S2048x1024) (e := .f32) (fun y => _ + part m c t y) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, Gen.k0_pay14, Gen.k0_pay15, Gen.k0_pay16, Gen.k0_pay17, Gen.k0_pay18, Gen.k0_pay19, Gen.k0_pay20, Gen.k0_pay21, Gen.k0_pay22, Gen.k0_pay23, Gen.k0_pay24, Gen.k0_pay25, Gen.k0_pay26, Gen.k0_pay27, shapeCast_self]
      refine congrArg₂ (fun a b : EReal => a + b) ?_ (Mm.piece_nt _ _ _ _ _ _ _ x)
      rw [read_unread_whole]
      rfl
  · exact View.cover_of_tiledBy _ ![256, 1024] (by sl_kernel_rfl)

/-- The last step adds its product and stores the sum. -/
theorem last (h : t.val % 4 = 3) (y : S2048x1024.Idx) : ((Gen.outsAt0 m c t.val t.isLt).1 y : EReal)
    = (Gen.outsAt0 m c (t.val - 1) (by have := t.isLt; omega)).2 y + part m c t y := by
  rw [Gen.outsAt0_C m c t (by omega) (by omega) h]
  frame_out
  refine Tile.canon_all (Val := Elt Ideal) (s := S2048x1024) (e := .f32) (fun y => _ + part m c t y) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, Gen.k0_pay14, Gen.k0_pay15, Gen.k0_pay16, Gen.k0_pay17, Gen.k0_pay18, Gen.k0_pay19, Gen.k0_pay20, Gen.k0_pay21, Gen.k0_pay22, Gen.k0_pay23, Gen.k0_pay24, Gen.k0_pay25, Gen.k0_pay26, Gen.k0_pay27, shapeCast_self]
      refine congrArg₂ (fun a b : EReal => a + b) ?_ (Mm.piece_nt _ _ _ _ _ _ _ x)
      rw [read_unread_whole]
      rfl
  · exact View.cover_of_tiledBy _ ![256, 1024] (by sl_kernel_rfl)

/-- The hidden layer's gradient and the weight in four slabs of columns, as the call is given them. -/
def arrDa : S4096x4096.Idx → EReal := Gen.V m c main_arg2
def arrW : S4x1024x1024.Idx → EReal := Gen.V m c main_v2

theorem idx_facts : ∀ t : Fin cfg0.N, win0_0.index t = ![t.val / 4, t.val % 4] ∧ win0_1.index t = ![t.val % 4, 0, 0] := by decide +kernel

theorem iblk0 (r : Fin 2048) (k : Fin 1024) : (Gen.iblk m c 0 t (ix2 r k) : EReal)
    = arrDa m c (ix2 ⟨2048 * (t.val / 4) + r.val, by have := Nat.lt_of_lt_of_eq t.isLt N8; omega⟩ ⟨1024 * (t.val % 4) + k.val, by omega⟩) := by
  blk_ext [Gen.iblk, arrDa, (idx_facts t).1]
  · exact congrArg (· + r.val) (Nat.mul_comm _ _)
  · exact congrArg (· + k.val) (Nat.mul_comm _ _)
theorem iblk1 (r : Fin 1024) (k : Fin 1024) : (Gen.iblk m c 1 t (ix3 0 r k) : EReal) = arrW m c (ix3 ⟨t.val % 4, by omega⟩ r k) := by
  blk_ext [Gen.iblk, arrW, (idx_facts t).2]

/-- The weight's slabs are its blocks of columns. -/
theorem arrW_at (s : Fin 4) (r k : Fin 1024) :
    arrW m c (ix3 s r k) = m ((c : Thread nD τ).loc main_arg1) (ix2 r ⟨1024 * s.val + k.val, by omega⟩) := by
  have e : arrW m c = transpose S4x1024x1024 [1, 0, 2] (shapeCast S1024x4x1024 (m ((c : Thread nD τ).loc main_arg1)) Gen.shapeCasts_S1024x4096_S1024x4x1024)
      Gen.transposes_S1024x4x1024_S4x1024x1024_1_0_2 := by
    unfold arrW Gen.V
    after_reads_simp
    rfl
  rw [e]
  exact Mm.slabs_at _ _ _ _ _ _

/-- The result at an index: the whole contraction. -/
theorem result_eq : (G2 m c : S4096x1024.Idx → EReal)
    = fun y => ∑ k : Fin 4096, arrDa m c (ix2 (y 0) k) * m ((c : Thread nD τ).loc main_arg1) (ix2 (y 1) k) := by
  funext y
  have b0 : (y 0).val < 4096 := (y 0).isLt
  have b1 : (y 1).val < 1024 := (y 1).isLt
  have hp : pt2Of y = 4 * ((y 0).val / 2048) + 3 := by
    show 4 * (1 * ((y 0).val / 2048 - 0) + 1 * ((y 1).val / 1024 - 0)) + 3 = _
    omega
  have hN : pt2Of y < cfg0.N := by rw [hp, N8]; omega
  have h0 : (loc2Of y 0).val = (y 0).val % 2048 := rfl
  have h1 : (loc2Of y 1).val = (y 1).val % 1024 := rfl
  have v3 : (3 : Fin 4).val = 3 := rfl
  unfold G2
  rw [dif_pos hN, ← outsAt0_sweep m c _ hN]
  have e := last m c ⟨_, hN⟩ (by dsimp only; omega) (loc2Of y)
  rw [mid m c ⟨_, by dsimp only; omega⟩ (by dsimp only; omega), mid m c ⟨_, by dsimp only; omega⟩ (by dsimp only; omega),
    first m c ⟨_, by dsimp only; omega⟩ (by dsimp only; omega)] at e
  refine e.trans ?_
  unfold part Mm.nt
  refine Eq.trans ?_ (Tile.sum_blocks 4 1024 (fun k : Fin 4096 => arrDa m c (ix2 (y 0) k) * m ((c : Thread nD τ).loc main_arg1) (ix2 (y 1) k))).symm
  rw [Fin.sum_univ_four]
  refine congrArg₂ (fun a b : EReal => a + b) (congrArg₂ (fun a b : EReal => a + b) (congrArg₂ (fun a b : EReal => a + b)
    (Finset.sum_congr rfl fun k _ => ?_) (Finset.sum_congr rfl fun k _ => ?_)) (Finset.sum_congr rfl fun k _ => ?_)) (Finset.sum_congr rfl fun k _ => ?_)
  all_goals
    refine congrArg₂ (fun a b : EReal => a * b) ((iblk0 m c _ _ _).trans (Mm.at2 _ ?_ ?_)) (((iblk1 m c _ _ _).trans (arrW_at m c _ _ _)).trans (Mm.at2 _ ?_ ?_))
    all_goals
      simp only [hp, h0, h1, Fin.val_zero, Fin.val_one, Fin.val_two, v3]
      omega

/-- The derivative of the product, read as one contraction. -/
theorem reference_eq (w : S1024x4096.Idx → EReal) (da : S4096x4096.Idx → EReal) (y : S4096x1024.Idx) :
    (Cert.DUpRefIdeal.Read.val_main_v2 (F := Ideal) w da y : EReal) = ∑ k : Fin 4096, da (ix2 (y 0) k) * w (ix2 (y 1) k) :=
  (Cert.DUpRefIdeal.Read.val_main_v2_apply w da y).trans (Finset.sum_congr rfl fun k _ =>
    congrArg₂ (fun a b : EReal => a * b) (congrArg da (Tile.eq_ix2_of _ _ _ rfl rfl)) (congrArg w (Tile.eq_ix2_of _ _ _ rfl rfl)))

end Cert.DUpIdeal.Value

namespace Cert.Proof
open Idealize.ShloMosaic Idealize.SL.Sem Idealize.ShloMosaic.StableHlo

theorem frame_DUpRef : quiescent_DUpRefIdeal := fun m ρ _ =>
  (θ_run Cert.DUpRefIdeal.defs _ _).mono (fun r h => ⟨fun c => (h c).2, sem_eq_zero_of_no_sems (by decide) r.2⟩)
    (Cert.DUpRefIdeal.Value.run (F := Ideal) m ρ)

theorem algebraic_DUp : algebraic_DUpIdeal_DUpRefIdeal := by
  intro m ρ m' ρ' _ hagree
  refine ⟨_, Cert.DUpIdeal.Value.run (F := Ideal) m ρ, ?_⟩
  refine (θ_run Cert.DUpRefIdeal.defs _ _).mono (fun _ h c => ⟨?_, (h c).2⟩) (Cert.DUpRefIdeal.Value.run (F := Ideal) m' ρ')
  obtain ⟨-, e1, e2⟩ := hagree c
  refine ((h c).1.trans (Cert.DUpRefIdeal.Read.val_main_v2_eq (F := Ideal) _ _)).trans ?_
  rw [e1, e2]
  refine (funext (Cert.DUpIdeal.Value.reference_eq _ _)).trans ?_
  refine Eq.trans ?_ (Cert.DUpIdeal.Value.result_eq m c).symm
  unfold Cert.DUpIdeal.Value.arrDa
  rw [Cert.DUpIdeal.Gen.V_main_arg2]
  rfl

end Cert.Proof
-- ==== Proof.Up.lean ====
module

public import proofs.«01_k».proof.Defs
public import proofs.«01_k».proof.Proof.Gen.UpIdeal.Value
public import proofs.«01_k».proof.Proof.Gen.UpRefIdeal.Run
public import proofs.«01_k».proof.Proof.Gen.UpRefIdeal.Read
public import Idealize.ShloMosaic.Lib.StableHlo.ReadAt
public import Idealize.ShloMosaic.Adequacy
public import Idealize.ShloMosaic.Init
public import Idealize.ShloMosaic.Lib.Quiescent
public import proofs.«01_k».proof.Proof.Hidden

/-! # The hidden layer -/

@[expose] public section
set_option maxRecDepth 16384
noncomputable section
namespace Cert.UpIdeal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

theorem N8 : cfg0.N = 8 := by decide +kernel

/-- What a step stores. -/
theorem out (A : Vec Ideal S2048x1024 .bf16) (B : Vec Ideal S1x1024x1024 .bf16) (y : S2048x1024.Idx) :
    (Gen.out0_2 A B y : EReal) = Mm.sq (Mm.nn (K := 1024) (M := 2048) (N := 1024) A B y) := by
  unfold Gen.out0_2
  have w : View.ld B Gen.r0_1 = B := View.ld_unit_zero (funext fun a => match a with | ⟨0, _⟩ => rfl | ⟨1, _⟩ => rfl | ⟨2, _⟩ => rfl) _ _
  rw [w]
  refine Tile.canon_all (Val := Elt Ideal) (s := S2048x1024) (e := .bf16) (fun y => Mm.sq (Mm.nn (K := 1024) (M := 2048) (N := 1024) A B y)) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, shapeCast_self]
      exact Mm.sq_of _ _ _ (Mm.piece_nn _ _ _ _ _ _ _ x)
  · exact View.cover_of_tiledBy _ ![256, 1024] (by sl_kernel_rfl)

/-- The block's rows and the weight in four slabs of columns, as the call is given them. -/
def arrH : S4096x1024.Idx → EReal := Gen.V m c main_v0
def arrW : S4x1024x1024.Idx → EReal := Gen.V m c main_v3

theorem idx_facts : ∀ t : Fin cfg0.N, win0_0.index t = ![t.val / 4, 0] ∧ win0_1.index t = ![t.val % 4, 0, 0] ∧ win0_2.index t = ![t.val / 4, t.val % 4] := by
  decide +kernel

theorem iblk0 (r : Fin 2048) (k : Fin 1024) : (Gen.iblk m c 0 t (ix2 r k) : EReal)
    = arrH m c (ix2 ⟨2048 * (t.val / 4) + r.val, by have := Nat.lt_of_lt_of_eq t.isLt N8; omega⟩ k) := by
  blk_ext [Gen.iblk, arrH, (idx_facts t).1]
  exact congrArg (· + r.val) (Nat.mul_comm _ _)
theorem iblk1 (k : Fin 1024) (r : Fin 1024) : (Gen.iblk m c 1 t (ix3 0 k r) : EReal) = arrW m c (ix3 ⟨t.val % 4, by omega⟩ k r) := by
  blk_ext [Gen.iblk, arrW, (idx_facts t).2.1]

theorem arrH_eq : arrH m c = m ((c : Thread nD τ).loc main_arg0) := by
  unfold arrH Gen.V
  after_reads_simp
  rfl
/-- The weight's slabs are its blocks of columns. -/
theorem arrW_at (s : Fin 4) (r k : Fin 1024) :
    arrW m c (ix3 s r k) = m ((c : Thread nD τ).loc main_arg1) (ix2 r ⟨1024 * s.val + k.val, by omega⟩) := by
  have e : arrW m c = transpose S4x1024x1024 [1, 0, 2] (shapeCast S1024x4x1024 (m ((c : Thread nD τ).loc main_arg1)) Gen.shapeCasts_S1024x4096_S1024x4x1024)
      Gen.transposes_S1024x4x1024_S4x1024x1024_1_0_2 := by
    unfold arrW Gen.V
    after_reads_simp
    rfl
  rw [e]
  exact Mm.slabs_at _ _ _ _ _ _

theorem flush_all : ∀ t : Fin cfg0.N, (cfg0.win 2).flush t = true := by decide +kernel

theorem mem_blk (i : S4096x4096.Idx) : i ∈ ((cfg0.win 2).blk t).view.set
    ↔ ∀ a : Fin 2, win0_2.index t a * S2048x1024.size a ≤ (i a).val ∧ (i a).val < win0_2.index t a * S2048x1024.size a + S2048x1024.size a := by
  show i ∈ ((View.whole main_v4).slice (win0_2.rect t)).set ↔ _
  rw [View.set_slice_whole, Rect.mem_set_unit]
  exact Iff.rfl

theorem covered (i : S4096x4096.Idx) : ∃ t : Fin cfg0.N, (cfg0.win 2).flush t = true ∧ i ∈ ((cfg0.win 2).blk t).view.set := by
  have h0 : (i 0).val < 4096 := (i 0).isLt
  have h1 : (i 1).val < 4096 := (i 1).isLt
  refine ⟨⟨4 * ((i 0).val / 2048) + (i 1).val / 1024, by rw [N8]; omega⟩, flush_all _, ?_⟩
  rw [mem_blk]
  have e := (idx_facts ⟨4 * ((i 0).val / 2048) + (i 1).val / 1024, by rw [N8]; omega⟩).2.2
  have q0 := congrFun e 0
  have q1 := congrFun e 1
  intro a
  match a with
  | ⟨0, _⟩ =>
    show win0_2.index _ (0 : Fin 2) * 2048 ≤ (i 0).val ∧ (i 0).val < win0_2.index _ (0 : Fin 2) * 2048 + 2048
    rw [q0]
    show (4 * ((i 0).val / 2048) + (i 1).val / 1024) / 4 * 2048 ≤ _ ∧ _ < (4 * ((i 0).val / 2048) + (i 1).val / 1024) / 4 * 2048 + 2048
    omega
  | ⟨1, _⟩ =>
    show win0_2.index _ (1 : Fin 2) * 1024 ≤ (i 1).val ∧ (i 1).val < win0_2.index _ (1 : Fin 2) * 1024 + 1024
    rw [q1]
    show (4 * ((i 0).val / 2048) + (i 1).val / 1024) % 4 * 1024 ≤ _ ∧ _ < (4 * ((i 0).val / 2048) + (i 1).val / 1024) % 4 * 1024 + 1024
    omega

/-- The result: the hidden layer. -/
theorem result_eq : ((Gen.dats m 0 c).arrAt 2 cfg0.N : S4096x4096.Idx → EReal)
    = Mm.hid (m ((c : Thread nD τ).loc main_arg0)) (m ((c : Thread nD τ).loc main_arg1)) := by
  refine (Gen.dats m 0 c).arrAt_eq_of_cover 2 _ (fun t _ => ?_) covered
  rw [flushed2]
  funext y
  have hb0 : (((cfg0.win 2).blk t).view.emb y 0).val = win0_2.index t (0 : Fin 2) * 2048 + 1 * (y 0).val := rfl
  have hb1 : (((cfg0.win 2).blk t).view.emb y 1).val = win0_2.index t (1 : Fin 2) * 1024 + 1 * (y 1).val := rfl
  have q0 : win0_2.index t (0 : Fin 2) = t.val / 4 := congrFun (idx_facts t).2.2 0
  have q1 : win0_2.index t (1 : Fin 2) = t.val % 4 := congrFun (idx_facts t).2.2 1
  have x0 : ((cfg0.win 2).xinj (grid0.coords t) y 0).val = (y 0).val := rfl
  have x1 : ((cfg0.win 2).xinj (grid0.coords t) y 1).val = (y 1).val := rfl
  show (Gen.out0_2 (Gen.iblk m c 0 t) (Gen.iblk m c 1 t) ((cfg0.win 2).xinj (grid0.coords t) y) : EReal)
    = Mm.hid _ _ (((cfg0.win 2).blk t).view.emb y)
  refine (out _ _ _).trans (congrArg Mm.sq ?_)
  refine Finset.sum_congr rfl fun k _ => ?_
  refine congrArg₂ (fun a b : EReal => a * b) (((iblk0 m c t _ _).trans (congrFun (arrH_eq m c) _)).trans (Mm.at2 _ ?_ ?_))
    (((iblk1 m c t _ _).trans (arrW_at m c _ _ _)).trans (Mm.at2 _ ?_ ?_))
  all_goals
    simp only [hb0, hb1, q0, q1, x0, x1]
    try omega

end Cert.UpIdeal.Value

namespace Cert.Proof
open Idealize.ShloMosaic Idealize.SL.Sem Idealize.ShloMosaic.StableHlo

theorem frame_UpRef : quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

theorem algebraic_Up : algebraic_UpIdeal_UpRefIdeal := by
  intro m ρ m' ρ' _ hagree
  refine ⟨_, Cert.UpIdeal.Value.run_blocks (F := Ideal) m ρ, ?_⟩
  refine (θ_run Cert.UpRefIdeal.defs _ _).mono (fun _ h c => ⟨?_, (h c).2⟩) (Cert.UpRefIdeal.Value.run (F := Ideal) m' ρ')
  obtain ⟨e0, e1⟩ := hagree c
  refine ((h c).1.trans (Cert.UpRefIdeal.Read.val_main_v3_eq (F := Ideal) _ _)).trans ?_
  rw [e0, e1]
  exact (Cert.Mm.hid_eq _ _).trans (Cert.UpIdeal.Value.result_eq m c).symm

end Cert.Proof
-- ==== Proof.Down.lean ====
module

public import proofs.«01_k».proof.Defs
public import proofs.«01_k».proof.Proof.Gen.DownIdeal.Value
public import proofs.«01_k».proof.Proof.Gen.DownRefIdeal.Run
public import proofs.«01_k».proof.Proof.Gen.DownRefIdeal.Read
public import Idealize.ShloMosaic.Lib.StableHlo.ReadAt
public import Idealize.ShloMosaic.Adequacy
public import Idealize.ShloMosaic.Init
public import Idealize.ShloMosaic.Lib.Quiescent
public import proofs.«01_k».proof.Proof.Hidden

/-! # The second product of the feed-forward block -/

@[expose] public section
set_option maxRecDepth 16384
noncomputable section
namespace Cert.DownIdeal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

theorem N8 : cfg0.N = 8 := by decide +kernel

/-- What a step adds. -/
def part (y : S1024x1024.Idx) : EReal := Mm.nn (K := 2048) (M := 1024) (N := 1024) (Gen.iblk m c 0 t) (Gen.iblk m c 1 t) y

/-- The first step of a block leaves its product in the accumulator. -/
theorem first (h : t.val % 2 = 0) (y : S1024x1024.Idx) : ((Gen.outsAt0 m c t.val t.isLt).2 y : EReal) = part m c t y := by
  rw [Gen.outsAt0_A m c t h (by omega)]
  frame_out
  refine Tile.canon_all (Val := Elt Ideal) (s := S1024x1024) (e := .f32) (part m c t) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, Gen.k0_pay14, Gen.k0_pay15, shapeCast_self]
      exact Mm.piece_nn _ _ _ _ _ _ _ x
  · exact View.cover_of_tiledBy _ ![256, 1024] (by sl_kernel_rfl)

/-- The last step adds its product and stores the sum. -/
theorem last (h : t.val % 2 = 1) (y : S1024x1024.Idx) : ((Gen.outsAt0 m c t.val t.isLt).1 y : EReal)
    = (Gen.outsAt0 m c (t.val - 1) (by have := t.isLt; omega)).2 y + part m c t y := by
  rw [Gen.outsAt0_B m c t (by omega) h]
  frame_out
  refine Tile.canon_all (Val := Elt Ideal) (s := S1024x1024) (e := .f32) (fun y => _ + part m c t y) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, Gen.k0_pay14, Gen.k0_pay15, shapeCast_self]
      refine congrArg₂ (fun a b : EReal => a + b) ?_ (Mm.piece_nn _ _ _ _ _ _ _ x)
      rw [read_unread_whole]
      rfl
  · exact View.cover_of_tiledBy _ ![256, 1024] (by sl_kernel_rfl)

/-- The hidden layer and the weight as one slab, as the call is given them. -/
def arrR : S4096x4096.Idx → EReal := Gen.V m c main_v3
def arrW : S1x4096x1024.Idx → EReal := Gen.V m c main_v5

theorem idx_facts : ∀ t : Fin cfg0.N, win0_0.index t = ![t.val / 2, t.val % 2] ∧ win0_1.index t = ![0, t.val % 2, 0] := by decide +kernel

theorem iblk0 (r : Fin 1024) (k : Fin 2048) : (Gen.iblk m c 0 t (ix2 r k) : EReal)
    = arrR m c (ix2 ⟨1024 * (t.val / 2) + r.val, by have := Nat.lt_of_lt_of_eq t.isLt N8; omega⟩ ⟨2048 * (t.val % 2) + k.val, by omega⟩) := by
  blk_ext [Gen.iblk, arrR, (idx_facts t).1]
  · exact congrArg (· + r.val) (Nat.mul_comm _ _)
  · exact congrArg (· + k.val) (Nat.mul_comm _ _)
theorem iblk1 (k : Fin 2048) (r : Fin 1024) : (Gen.iblk m c 1 t (ix3 0 k r) : EReal) = arrW m c (ix3 0 ⟨2048 * (t.val % 2) + k.val, by omega⟩ r) := by
  blk_ext [Gen.iblk, arrW, (idx_facts t).2]
  exact congrArg (· + k.val) (Nat.mul_comm _ _)

theorem arrW_at (k : Fin 4096) (r : Fin 1024) : arrW m c (ix3 0 k r) = m ((c : Thread nD τ).loc main_arg2) (ix2 k r) := by
  have e : arrW m c = shapeCast S1x4096x1024 (m ((c : Thread nD τ).loc main_arg2)) Gen.shapeCasts_S4096x1024_S1x4096x1024 := by
    unfold arrW Gen.V
    after_reads_simp
    rfl
  rw [e]
  exact Mm.slab_of _ _ _ _
theorem arrR_eq : arrR m c = Mm.hid (m ((c : Thread nD τ).loc main_arg0)) (m ((c : Thread nD τ).loc main_arg1)) := by
  refine Eq.trans ?_ (Mm.hid_eq _ _)
  unfold arrR Gen.V
  after_reads_simp
  simp -implicitDefEqProofs only [StableHlo.TRef.toBuf, StableHlo.TRef.ofBuf, cast_cast, cast_eq]
  rfl

/-- The result at an index: the whole contraction. -/
theorem result_eq : (G2 m c : S4096x1024.Idx → EReal) = Mm.mul (M := 4096) (K := 4096) (N := 1024) (arrR m c) (m ((c : Thread nD τ).loc main_arg2)) := by
  funext y
  have b0 : (y 0).val < 4096 := (y 0).isLt
  have b1 : (y 1).val < 1024 := (y 1).isLt
  have hp : pt2Of y = 2 * ((y 0).val / 1024) + 1 := by
    show 2 * (1 * ((y 0).val / 1024 - 0) + 1 * ((y 1).val / 1024 - 0)) + 1 = _
    omega
  have hN : pt2Of y < cfg0.N := by rw [hp, N8]; omega
  have h0 : (loc2Of y 0).val = (y 0).val % 1024 := rfl
  have h1 : (loc2Of y 1).val = (y 1).val % 1024 := rfl
  unfold G2
  rw [dif_pos hN, ← outsAt0_sweep m c _ hN]
  have e := last m c ⟨_, hN⟩ (by dsimp only; omega) (loc2Of y)
  rw [first m c ⟨_, by dsimp only; omega⟩ (by dsimp only; omega)] at e
  refine e.trans ?_
  unfold part Mm.nn Mm.mul
  refine Eq.trans ?_ (Tile.sum_blocks 2 2048 (fun k : Fin 4096 => arrR m c (ix2 (y 0) k) * m ((c : Thread nD τ).loc main_arg2) (ix2 k (y 1)))).symm
  rw [Fin.sum_univ_two]
  refine congrArg₂ (fun a b : EReal => a + b) (Finset.sum_congr rfl fun k _ => ?_) (Finset.sum_congr rfl fun k _ => ?_)
  all_goals
    refine congrArg₂ (fun a b : EReal => a * b) ((iblk0 m c _ _ _).trans (Mm.at2 _ ?_ ?_)) (((iblk1 m c _ _ _).trans (arrW_at m c _ _)).trans (Mm.at2 _ ?_ ?_))
    all_goals
      simp only [hp, h0, h1, Fin.val_zero, Fin.val_one]
      omega

/-- The product of the hidden layer, read as one contraction. -/
theorem reference_eq (h : S4096x1024.Idx → EReal) (w : S1024x4096.Idx → EReal) (v : S4096x1024.Idx → EReal) :
    (Cert.DownRefIdeal.Read.val_main_v3 (F := Ideal) h w v : S4096x1024.Idx → EReal) = Mm.mul (M := 4096) (K := 4096) (N := 1024) (Mm.hid h w) v := by
  funext y
  refine (Cert.DownRefIdeal.Read.val_main_v3_apply h w v y).trans (Finset.sum_congr rfl fun k _ => ?_)
  refine congrArg₂ (fun a b : EReal => a * b) ?_ (congrArg v (Tile.eq_ix2_of _ _ _ rfl rfl))
  exact (congrFun (Mm.hid_eq h w) _).trans (congrArg (Mm.hid h w) (Tile.eq_ix2_of _ _ _ rfl rfl))

end Cert.DownIdeal.Value

namespace Cert.Proof
open Idealize.ShloMosaic Idealize.SL.Sem Idealize.ShloMosaic.StableHlo

theorem frame_DownRef : quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem algebraic_Down : algebraic_DownIdeal_DownRefIdeal := by
  intro m ρ m' ρ' _ hagree
  refine ⟨_, Cert.DownIdeal.Value.run (F := Ideal) m ρ, ?_⟩
  refine (θ_run Cert.DownRefIdeal.defs _ _).mono (fun _ h c => ⟨?_, (h c).2⟩) (Cert.DownRefIdeal.Value.run (F := Ideal) m' ρ')
  obtain ⟨e0, e1, e2⟩ := hagree c
  refine ((h c).1.trans (Cert.DownRefIdeal.Read.val_main_v3_eq (F := Ideal) _ _ _)).trans ?_
  rw [e0, e1, e2]
  refine (Cert.DownIdeal.Value.reference_eq _ _ _).trans ?_
  refine Eq.trans ?_ (Cert.DownIdeal.Value.result_eq m c).symm
  rw [Cert.DownIdeal.Value.arrR_eq]

end Cert.Proof
-- ==== Proof.Gate.lean ====
module

public import proofs.«01_k».proof.Proof.Mm
public import proofs.«01_k».proof.Proof.Window

/-! # One chunk of the spatial gating

A chunk of the gating is 128 rows of 1024 channels. Here are its activation, its normalisation, the gradient that reaches
the mixed rows, and what the chunk adds to the gradients of the mixing matrices: written over any interpretation of the
floats as the call computes them, two matrices of 64 channels side by side, and read over the extended reals. -/

@[expose] public section
set_option maxRecDepth 16384
noncomputable section
namespace Cert.Gate
open Idealize.ShloMosaic hiding ix1 ix2 ix3 ix4 eq_ix2 eq_ix3
open Idealize.ShloMosaic.TcCoe ValueIdx
open Cert.Tile (eq_ix2_of)

abbrev S128 : Shape := ⟨1, ![128]⟩
abbrev S128x1 : Shape := ⟨2, ![128, 1]⟩
abbrev S128x128 : Shape := ⟨2, ![128, 128]⟩
abbrev S256x128 : Shape := ⟨2, ![256, 128]⟩
abbrev S128x1024 : Shape := ⟨2, ![128, 1024]⟩
abbrev S1x1024 : Shape := ⟨2, ![1, 1024]⟩
abbrev S1x128x128 : Shape := ⟨3, ![1, 128, 128]⟩
abbrev S16x128x128 : Shape := ⟨3, ![16, 128, 128]⟩

section
variable {F : FTy → Type} [FloatOps F]

/-- The activation. -/
def act (x : Vec F S128x1024 .f32) : FVec F S128x1024 .f32 :=
  mulf (mulf (broadcast S128x1024 (Scalar.ofBits .f32 0x3F000000#32)) x)
    (addf (broadcast S128x1024 (Scalar.ofBits .f32 0x3F800000#32))
      (tanh (mulf (broadcast S128x1024 (Scalar.ofBits .f32 0x3F4C422A#32))
        (addf x (mulf (broadcast S128x1024 (Scalar.ofBits .f32 0x3D372713#32)) (mulf (mulf x x) x))))))

/-- The mean of each row, as a column. -/
def mean (a : FVec F S128x1024 .f32) (h : S128x1024.Reduces [1] S128) (h' : S128.ShapeCasts S128x1) : FVec F S128x1 .f32 :=
  divf (shapeCast S128x1 (multiReduction .add [1] S128 a 0x00000000#32 h (.inl rfl) rfl) h') (broadcast S128x1 (Scalar.ofBits .f32 0x44800000#32))

/-- The rows with their mean taken off. -/
def center (a : FVec F S128x1024 .f32) (h : S128x1024.Reduces [1] S128) (h' : S128.ShapeCasts S128x1) (hb : S128x1.Broadcasts S128x1024) : FVec F S128x1024 .f32 :=
  subf a (broadcastTo S128x1024 (mean a h h') hb)

/-- The normalised rows, with gain and offset. -/
def norm (a : FVec F S128x1024 .f32) (g b : Vec F S1x1024 .f32) (h : S128x1024.Reduces [1] S128) (h' : S128.ShapeCasts S128x1)
    (hb : S128x1.Broadcasts S128x1024) (hg : S1x1024.Broadcasts S128x1024) : FVec F S128x1024 .f32 :=
  addf (mulf (mulf (center a h h' hb)
      (broadcastTo S128x1024 (rsqrt (addf (mean (mulf (center a h h' hb) (center a h h' hb)) h h') (broadcast S128x1 (Scalar.ofBits .f32 0x3727C5AC#32)))) hb))
    (broadcastTo S128x1024 g hg)) (broadcastTo S128x1024 b hg)

/-- 128 lanes from lane `o`, once with the upper half zeroed and below it once with the lower half zeroed. -/
def split (o : Nat) (d : FVec F S128x1024 .f32) (hs : S128x1024.Slices ![0, o] S128x128) (hi : S128x128.Iotas .tc 32 [1])
    (hc : Shape.Concatenates [S128x128, S128x128] S256x128 0) : FVec F S256x128 .f32 :=
  concatenate S256x128 0
    [⟨S128x128, select (cmpi .slt (iota .tc S128x128 32 [1] hi) (broadcast S128x128 64#32)) (extractStridedSlice S128x128 ![0, o] d hs)
        (broadcast S128x128 (Scalar.ofBits .f32 0x00000000#32))⟩,
     ⟨S128x128, select (cmpi .slt (iota .tc S128x128 32 [1] hi) (broadcast S128x128 64#32)) (broadcast S128x128 (Scalar.ofBits .f32 0x00000000#32))
        (extractStridedSlice S128x128 ![0, o] d hs)⟩] hc

/-- The two gradients of the matrices whose channels begin at lane `o`, one below the other. -/
def grad (o : Nat) (n d : FVec F S128x1024 .f32) (hs : S128x1024.Slices ![0, o] S128x128) (hi : S128x128.Iotas .tc 32 [1])
    (hc : Shape.Concatenates [S128x128, S128x128] S256x128 0) (hw : DotDims.WF S256x128 S128x128 S256x128 [1] [1] [0] [0] [] [])
    (ht : FTy.bits .bf16 < FTy.bits .f32) : FVec F S256x128 .f32 :=
  matmul (Mm.dimsNt (K := 128) (N := 128) hw) none (truncf .bf16 (split o d hs hi hc) ht) (truncf .bf16 (extractStridedSlice S128x128 ![0, o] n hs) ht)
    (constant S256x128 .f32 0x00000000#32)

/-- 128 rows of `w` from row `r`, added to what was there. -/
def added (r : Nat) (old : Vec F S1x128x128 .f32) (w : FVec F S256x128 .f32) (h : S1x128x128.ShapeCasts S128x128) (h' : S128x128.ShapeCasts S1x128x128)
    (hr : S256x128.Slices ![r, 0] S128x128) : FVec F S1x128x128 .f32 :=
  shapeCast S1x128x128 (addf (shapeCast S128x128 old h) (extractStridedSlice S128x128 ![r, 0] w hr)) h'

end

/-! ## Over the extended reals -/

abbrev lit (w : BitVec 32) : EReal := Ideal.ofBits .f32 w

/-- The activation of one number. -/
def act1 (x : EReal) : EReal :=
  lit 0x3F000000#32 * x * (lit 0x3F800000#32 + Ideal.tanh (lit 0x3F4C422A#32 * (x + lit 0x3D372713#32 * (x * x * x))))

theorem act_at (x : Vec Ideal S128x1024 .f32) (i : S128x1024.Idx) : (act x i : EReal) = act1 (x i) := rfl

def mean1 (a : Fin 1024 → EReal) : EReal := Ideal.div (∑ k, a k) (lit 0x44800000#32)
def cen1 (a : Fin 1024 → EReal) (k : Fin 1024) : EReal := a k - mean1 a

/-- One row normalised. -/
def norm1 (a : Fin 1024 → EReal) (g b : EReal) (k : Fin 1024) : EReal :=
  cen1 a k * Ideal.rsqrt (mean1 (fun j => cen1 a j * cen1 a j) + lit 0x3727C5AC#32) * g + b

theorem mean_at (a : FVec Ideal S128x1024 .f32) (h h') (r : Fin 128) : (mean a h h' (ix2 r 0) : EReal) = mean1 (fun k => a (ix2 r k)) := by
  have e : shapeCast S128x1 (multiReduction .add [1] S128 a 0x00000000#32 h (.inl rfl) rfl) h' (ix2 r 0)
      = multiReduction .add [1] S128 a 0x00000000#32 h (.inl rfl) rfl (ix1 r) :=
    shapeCast_apply _ h' _ _ (by
      rewrite [Shape.rowMajor_val_one, Shape.rowMajor_val_two]
      show r.val = r.val * 1 + 0
      omega)
  have e2 : (multiReduction .add [1] S128 a 0x00000000#32 h (.inl rfl) rfl (ix1 r) : EReal) = ∑ k : Fin 1024, (a (ix2 r k) : EReal) := by
    refine (Ideal.multiReduction_add_single a _ h (.inl rfl) rfl (ix1 r)).trans ?_
    refine Finset.sum_congr rfl fun k _ => congrArg a ?_
    exact eq_ix2_of _ _ _ rfl rfl
  show Ideal.div _ _ = _
  exact congrArg (fun u : EReal => Ideal.div u (lit 0x44800000#32)) (e.trans e2)

theorem column_at (v : FVec Ideal S128x1 .f32) (hb : S128x1.Broadcasts S128x1024) (r : Fin 128) (k : Fin 1024) :
    (broadcastTo S128x1024 v hb (ix2 r k) : EReal) = v (ix2 r 0) :=
  congrArg v (eq_ix2_of _ _ _ rfl rfl)

theorem line_at (v : Vec Ideal S1x1024 .f32) (hb : S1x1024.Broadcasts S128x1024) (r : Fin 128) (k : Fin 1024) :
    (broadcastTo S128x1024 v hb (ix2 r k) : EReal) = v (ix2 0 k) :=
  congrArg v (eq_ix2_of _ _ _ rfl rfl)

theorem center_at (a : FVec Ideal S128x1024 .f32) (h h' hb) (r : Fin 128) (k : Fin 1024) :
    (center a h h' hb (ix2 r k) : EReal) = cen1 (fun k => a (ix2 r k)) k := by
  show (a (ix2 r k) : EReal) - broadcastTo S128x1024 (mean a h h') hb (ix2 r k) = _
  rw [column_at, mean_at]
  rfl

theorem norm_at (a : FVec Ideal S128x1024 .f32) (g b : Vec Ideal S1x1024 .f32) (h h' hb hg) (r : Fin 128) (k : Fin 1024) :
    (norm a g b h h' hb hg (ix2 r k) : EReal) = norm1 (fun k => a (ix2 r k)) (g (ix2 0 k)) (b (ix2 0 k)) k := by
  show (center a h h' hb (ix2 r k) : EReal)
      * broadcastTo S128x1024 (rsqrt (addf (mean (mulf (center a h h' hb) (center a h h' hb)) h h') (broadcast S128x1 (Scalar.ofBits .f32 0x3727C5AC#32)))) hb (ix2 r k)
      * broadcastTo S128x1024 g hg (ix2 r k) + broadcastTo S128x1024 b hg (ix2 r k) = _
  rw [column_at, line_at, line_at, center_at]
  show _ * Ideal.rsqrt ((mean (mulf (center a h h' hb) (center a h h' hb)) h h' (ix2 r 0) : EReal) + _) * _ + _ = _
  rw [mean_at]
  have e : (fun k => (mulf (center a h h' hb) (center a h h' hb) (ix2 r k) : EReal)) = fun j => cen1 (fun k => a (ix2 r k)) j * cen1 (fun k => a (ix2 r k)) j :=
    funext fun j => congrArg₂ (fun u v : EReal => u * v) (center_at a h h' hb r j) (center_at a h h' hb r j)
  rw [e]
  rfl

/-- What a chunk adds to the gradient of matrix `y 0`: the contraction over its 64 channels. -/
def step (n d : S128x1024.Idx → EReal) (y : S16x128x128.Idx) : EReal :=
  ∑ k : Fin 64, d (ix2 (y 1) ⟨64 * (y 0).val + k.val, by have : (y 0).val < 16 := (y 0).isLt; omega⟩)
    * n (ix2 (y 2) ⟨64 * (y 0).val + k.val, by have : (y 0).val < 16 := (y 0).isLt; omega⟩)

theorem low : ∀ x : Fin 128, Scalar.cmpi .slt (BitVec.ofNat 32 x.val) 64#32 = if x.val < 64 then 1#1 else 0#1 := by decide +kernel

theorem slice_at (o : Nat) (ho : o + 128 ≤ 1024) (d : FVec Ideal S128x1024 .f32) (hs : S128x1024.Slices ![0, o] S128x128) (r x : Fin 128) :
    (extractStridedSlice S128x128 ![0, o] d hs (ix2 r x) : EReal) = d (ix2 r ⟨o + x.val, by omega⟩) :=
  congrArg d (eq_ix2_of _ _ _ (Nat.zero_add _) rfl)

theorem below_at {α : Type} (a b : S128x128.Idx → α) (hc : Shape.Concatenates [S128x128, S128x128] S256x128 0) (e : Fin 2) (r x : Fin 128) :
    concatenate S256x128 0 [⟨S128x128, a⟩, ⟨S128x128, b⟩] hc (ix2 ⟨128 * e.val + r.val, by omega⟩ x) = (if e = 0 then a else b) (ix2 r x) := by
  obtain rfl | rfl : e = 0 ∨ e = 1 := by revert e; decide
  · exact concatenate_pair_apply_left _ _ _ hc _ rfl (ix2 r x)
      (fun q => by fin_cases q; · show r.val = 128 * 0 + r.val; omega
                   · rfl)
  · exact concatenate_pair_apply_right _ _ _ hc _ rfl rfl (ix2 r x)
      (fun q hq => by fin_cases q; · exact absurd rfl hq
                      · rfl) (by show r.val + 128 = 128 * 1 + r.val; omega)

theorem split_at (o : Nat) (ho : o + 128 ≤ 1024) (d : FVec Ideal S128x1024 .f32) (hs hi hc) (e : Fin 2) (r x : Fin 128) :
    (split o d hs hi hc (ix2 ⟨128 * e.val + r.val, by omega⟩ x) : EReal) = if x.val / 64 = e.val then (d (ix2 r ⟨o + x.val, by omega⟩) : EReal) else 0 := by
  have hz : Ideal.ofBits .f32 0x00000000#32 = (0 : EReal) := Ideal.ofBits_zero_f32
  have hsl := slice_at o ho d hs r x
  have hb : (cmpi .slt (iota .tc S128x128 32 [1] hi) (broadcast S128x128 64#32)) (ix2 r x) = if x.val < 64 then 1#1 else 0#1 := by
    show Scalar.cmpi .slt (iota .tc S128x128 32 [1] hi (ix2 r x)) 64#32 = _
    rw [iota_single_apply]
    exact low x
  have hx := x.isLt
  unfold split
  rw [below_at]
  obtain rfl | rfl : e = 0 ∨ e = 1 := by revert e; decide
  · rw [if_pos rfl, select_apply, hb, Tile.select_bit, hsl]
    exact (if_congr (by show x.val < 64 ↔ x.val / 64 = 0; omega) rfl hz)
  · rw [if_neg (by decide), select_apply, hb, Tile.select_bit, hsl]
    by_cases h : x.val < 64
    · rw [if_pos h, if_neg (by show ¬ x.val / 64 = 1; omega)]
      exact hz
    · rw [if_neg h, if_pos (by show x.val / 64 = 1; omega)]

theorem grad_at (o : Nat) (ho : o + 128 ≤ 1024) (n d : FVec Ideal S128x1024 .f32) (hs hi hc hw ht) (e : Fin 2) (r x : Fin 128) :
    (grad o n d hs hi hc hw ht (ix2 ⟨128 * e.val + r.val, by omega⟩ x) : EReal)
      = ∑ k : Fin 64, d (ix2 r ⟨o + 64 * e.val + k.val, by omega⟩) * n (ix2 x ⟨o + 64 * e.val + k.val, by omega⟩) := by
  unfold grad
  rw [Mm.dotNt_at]
  have h1 : ∀ k : Fin 128, ((truncf .bf16 (split o d hs hi hc) ht (ix2 ⟨128 * e.val + r.val, by omega⟩ k) : EReal)
        * truncf .bf16 (extractStridedSlice S128x128 ![0, o] n hs) ht (ix2 x k))
      = (if k.val / 64 = e.val then (d (ix2 r ⟨o + k.val, by omega⟩) : EReal) else 0) * n (ix2 x ⟨o + k.val, by omega⟩) := fun k =>
    congrArg₂ (fun u v : EReal => u * v) (split_at o ho d hs hi hc e r k) (slice_at o ho n hs x k)
  refine (Finset.sum_congr rfl fun k _ => h1 k).trans ?_
  rw [Tile.sum_blocks 2 64]
  refine (Fintype.sum_eq_single e fun e' he => Finset.sum_eq_zero fun k _ => ?_).trans (Finset.sum_congr rfl fun k _ => ?_)
  · rw [if_neg (by
      show ¬ (k.val + 64 * e'.val) / 64 = e.val
      intro hh
      exact he (Fin.ext (by have := k.isLt; omega))), zero_mul]
  · rw [if_pos (by
      show (k.val + 64 * e.val) / 64 = e.val
      have := k.isLt; omega)]
    have hk : (⟨o + (k.val + 64 * e.val), by have := k.isLt; have := e.isLt; omega⟩ : Fin 1024) = ⟨o + 64 * e.val + k.val, by have := k.isLt; have := e.isLt; omega⟩ :=
      Fin.ext (by show o + (k.val + 64 * e.val) = o + 64 * e.val + k.val; omega)
    exact congrArg (fun j : Fin 1024 => (d (ix2 r j) : EReal) * n (ix2 x j)) hk

/-- A block of the store, of matrix `q` at lane `o + 64 e`. -/
theorem added_at (o q : Nat) (ho : o + 128 ≤ 1024) (e : Fin 2) (hq : o + 64 * e.val = 64 * q) (n d : FVec Ideal S128x1024 .f32) (hs hi hc hw ht)
    (h h' hr) (inb) (old : S16x128x128.Idx → EReal) (w : Vec Ideal S1x128x128 .f32)
    (hv : ∀ x : S1x128x128.Idx, (w x : EReal) = old ((Rect.unit (s := S16x128x128) ![q, 0, 0] ![1, 128, 128] inb).emb x)) (x : S1x128x128.Idx) :
    (added (128 * e.val) w (grad o n d hs hi hc hw ht) h h' hr x : EReal)
      = old ((Rect.unit (s := S16x128x128) ![q, 0, 0] ![1, 128, 128] inb).emb x) + step n d ((Rect.unit (s := S16x128x128) ![q, 0, 0] ![1, 128, 128] inb).emb x) := by
  obtain ⟨x0, r, k, rfl⟩ : ∃ x0 r k, x = ix3 x0 r k := ⟨x 0, x 1, x 2, ValueIdx.eq_ix3 x⟩
  obtain rfl : x0 = 0 := Subsingleton.elim _ _
  have he := e.isLt
  unfold added
  refine (Mm.slab_of _ h' r k).trans ?_
  have e1 : (shapeCast S128x128 w h (ix2 r k) : EReal) = _ := (Mm.slab_at w h r k).trans (hv _)
  have e2 : (extractStridedSlice S128x128 ![128 * e.val, 0] (grad o n d hs hi hc hw ht) hr (ix2 r k) : EReal) = _ :=
    (congrArg (grad o n d hs hi hc hw ht) (eq_ix2_of _ ⟨128 * e.val + r.val, by have := r.isLt; omega⟩ k rfl (Nat.zero_add _))).trans
      (grad_at o ho n d hs hi hc hw ht e r k)
  refine (congrArg₂ (fun u v : EReal => u + v) e1 e2).trans (congrArg (fun v : EReal => old _ + v) (Finset.sum_congr rfl fun j _ => ?_))
  exact congrArg₂ (fun u v : EReal => u * v)
    (congrArg d (eq_ix2_of _ _ _ (by show 0 + 1 * r.val = r.val; omega) (by show 64 * (q + 1 * 0) + j.val = o + 64 * e.val + j.val; omega)).symm)
    (congrArg n (eq_ix2_of _ _ _ (by show 0 + 1 * k.val = k.val; omega) (by show 64 * (q + 1 * 0) + j.val = o + 64 * e.val + j.val; omega)).symm)

/-- The store of matrix `q`: what was there, and what the chunk adds. -/
theorem store_at (r o q : Nat) (hq : q < 16 ∧ r = 128 * (q % 2) ∧ o = 128 * (q / 2)) (n d : FVec Ideal S128x1024 .f32) (hs hi hc hw ht h h' hr) (inb)
    (old : S16x128x128.Idx → EReal) (w : Vec Ideal S1x128x128 .f32)
    (hv : ∀ x : S1x128x128.Idx, (w x : EReal) = old ((Rect.unit (s := S16x128x128) ![q, 0, 0] ![1, 128, 128] inb).emb x)) (x : S1x128x128.Idx) :
    (added r w (grad o n d hs hi hc hw ht) h h' hr x : EReal)
      = old ((Rect.unit (s := S16x128x128) ![q, 0, 0] ![1, 128, 128] inb).emb x) + step n d ((Rect.unit (s := S16x128x128) ![q, 0, 0] ![1, 128, 128] inb).emb x) := by
  obtain ⟨hq, rfl, rfl⟩ := hq
  exact added_at (128 * (q / 2)) q (by omega) ⟨q % 2, by omega⟩ (by show 128 * (q / 2) + 64 * (q % 2) = 64 * q; omega) n d hs hi hc hw ht h h' hr inb old w hv x

end Cert.Gate
-- ==== Proof.SpatialStep.lean ====
module

public import proofs.«01_k».proof.Defs
public import proofs.«01_k».proof.Proof.Gen.SpatialIdeal.Value
public import proofs.«01_k».proof.Proof.Gate

@[expose] public section
set_option maxRecDepth 16384
noncomputable section
namespace Cert.SpatialIdeal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

theorem box2048 (q : Fin 2) (h : Fin 2) : ∀ a, (![128 * q.val, 1024 * h.val] : Fin 2 → Nat) a + (![128, 1024] : Fin 2 → Nat) a ≤ S256x2048.size a := by
  revert q h; decide
theorem box1024 (q : Fin 2) : ∀ a, (![128 * q.val, 0] : Fin 2 → Nat) a + (![128, 1024] : Fin 2 → Nat) a ≤ S256x1024.size a := by
  revert q; decide

/-- The two halves of a chunk of the projection, and the gradient that reaches it. -/
def half (q h : Fin 2) : Vec Ideal S128x1024 .f32 := View.ld (Gen.iblk m c 0 t : Vec Ideal S256x2048 .f32) (Rect.unit (s := S256x2048) ![128 * q.val, 1024 * h.val] ![128, 1024] (box2048 q h))
def reach (q : Fin 2) : Vec Ideal S128x1024 .f32 := View.ld (Gen.iblk m c 1 t : Vec Ideal S256x1024 .f32) (Rect.unit (s := S256x1024) ![128 * q.val, 0] ![128, 1024] (box1024 q))

/-- The gradient of the mixed rows of a chunk. -/
def dz (q : Fin 2) : FVec Ideal S128x1024 .f32 := mulf (reach m c t q) (Gate.act (half m c t q 0))

/-- The normalised half of a chunk. -/
def vn (q : Fin 2) : FVec Ideal S128x1024 .f32 :=
  Gate.norm (Gate.act (half m c t q 1)) (Gen.iblk m c 2 t : Vec Ideal S1x1024 .f32) (Gen.iblk m c 3 t : Vec Ideal S1x1024 .f32)
    Gen.reduces_S128x1024_S128 Gen.shapeCasts_S128_S128x1 Gen.broadcasts_S128x1_S128x1024 Gen.broadcasts_S1x1024_S128x1024

section
open Cert.SpatialIdeal.Gen
variable (x g : Vec Ideal S128x1024 .f32) (a b : Vec Ideal S1x1024 .f32)

/-- The normalised activation of a chunk, and the gradient of its mixed rows, as the call computes them for its first chunk and for its second. -/
def normed : FVec Ideal S128x1024 .f32 :=
  Gate.norm (Gate.act x) a b reduces_S128x1024_S128 shapeCasts_S128_S128x1 broadcasts_S128x1_S128x1024 broadcasts_S1x1024_S128x1024
theorem normed0 : k0_pay19 (k0_pay18 x (k0_pay12 x) k0_pay13) a b = normed x a b := rfl
theorem normed1 : k0_pay118 (k0_pay111 x) a b = normed x a b := rfl
theorem reached0 : k0_pay20 (k0_pay10 x) g = mulf g (Gate.act x) := rfl
theorem reached1 : k0_pay119 (k0_pay108 x (k0_pay106 x) k0_pay107) g = mulf g (Gate.act x) := rfl
end

/-- A chunk's part of the matrices' gradients added to `f`. -/
def plus (f : S16x128x128.Idx → EReal) (q : Fin 2) (y : S16x128x128.Idx) : EReal := f y + Gate.step (vn m c t q) (dz m c t q) y

/-- The gradients before a step that is not the first. -/
def before8 (h : t.val % 16 ≠ 0) : S16x128x128.Idx → EReal := (Gen.outsAt0 m c (t.val - 1) (by have := t.isLt; omega)).2.1
def before9 (h : t.val % 16 ≠ 0) : S128x1024.Idx → EReal := (Gen.outsAt0 m c (t.val - 1) (by have := t.isLt; omega)).2.2.1

theorem mid9 (h : t.val % 16 ≠ 0) (h' : t.val % 16 ≠ 15) (y : S128x1024.Idx) :
    ((Gen.outsAt0 m c t.val t.isLt).2.2.1 y : EReal) = before9 m c t h y + dz m c t 0 y + dz m c t 1 y := by
  rw [Gen.outsAt0_B m c t (by omega) (by omega)]
  frame_out
  simp only [Gen.k0_pay120, Gen.k0_pay21, shapeCast_self]
  rfl

theorem last9 (h : t.val % 16 = 15) (y : S128x1024.Idx) :
    ((Gen.outsAt0 m c t.val t.isLt).2.2.1 y : EReal) = before9 m c t (by omega) y + dz m c t 0 y + dz m c t 1 y := by
  rw [Gen.outsAt0_C m c t (by omega) (by omega)]
  frame_out
  simp only [Gen.k0_pay120, Gen.k0_pay21, shapeCast_self]
  rfl

theorem first9 (h : t.val % 16 = 0) (y : S128x1024.Idx) :
    ((Gen.outsAt0 m c t.val t.isLt).2.2.1 y : EReal) = 0 + dz m c t 0 y + dz m c t 1 y := by
  rw [Gen.outsAt0_A m c t (by omega) (by omega)]
  frame_out
  simp only [Gen.k0_pay120, Gen.k0_pay21, Gen.k0_pay5, shapeCast_self]
  refine congrArg (fun a : EReal => a + dz m c t 0 y + dz m c t 1 y) ?_
  exact Ideal.ofBits_zero_f32

theorem pieces_cons {Val : EltTy → Type} {s : Shape} {e : EltTy} (G : s.Idx → Val e) (r : Rect s) (v : r.shape.Idx → Val e) (L : List (View.Piece Val s e))
    (h : ∀ x : r.shape.Idx, v x = G (r.emb x)) (hL : View.PiecesOf G L) : View.PiecesOf G (⟨r, v⟩ :: L) := ⟨h, hL⟩

theorem mid8 (h : t.val % 16 ≠ 0) (h' : t.val % 16 ≠ 15) (y : S16x128x128.Idx) :
    ((Gen.outsAt0 m c t.val t.isLt).2.1 y : EReal) = plus m c t (plus m c t (before8 m c t h) 0) 1 y := by
  rw [Gen.outsAt0_B m c t (by omega) (by omega)]
  frame_out
  simp only [normed0, normed1, reached0, reached1]
  refine Tile.canon_eq (Val := Elt Ideal) (s := S16x128x128) (e := .f32) (plus m c t (plus m c t (before8 m c t h) 0) 1)
    (_ :: _ :: _ :: _ :: _ :: _ :: _ :: _ :: _ :: _ :: _ :: _ :: _ :: _ :: _ :: _ :: []) _ ?_ ?_ y
  · repeat' (first | exact Tile.pieces_nil _ | refine pieces_cons _ _ _ _ ?_ ?_)
    all_goals
      intro x
      refine Gate.store_at _ _ _ (by decide) (vn m c t 1) (dz m c t 1) _ _ _ _ _ _ _ _ _ (plus m c t (before8 m c t h) 0) _ ?_ x
      intro x
      iterate 15 rw [View.readCov_skip _ _ _ _ _ (by decide)]
      rw [View.readCov_cons_toLoadRect]
      refine Gate.store_at _ _ _ (by decide) (vn m c t 0) (dz m c t 0) _ _ _ _ _ _ _ _ _ (before8 m c t h) _ ?_ x
      intro x
      rfl
  · exact View.cover_of_tiledBy _ ![1, 128, 128] (by sl_kernel_rfl)

theorem last8 (h : t.val % 16 = 15) (y : S16x128x128.Idx) :
    ((Gen.outsAt0 m c t.val t.isLt).2.1 y : EReal) = plus m c t (plus m c t (before8 m c t (by omega)) 0) 1 y := by
  rw [Gen.outsAt0_C m c t (by omega) (by omega)]
  frame_out
  simp only [normed0, normed1, reached0, reached1]
  refine Tile.canon_eq (Val := Elt Ideal) (s := S16x128x128) (e := .f32) (plus m c t (plus m c t (before8 m c t _) 0) 1)
    (_ :: _ :: _ :: _ :: _ :: _ :: _ :: _ :: _ :: _ :: _ :: _ :: _ :: _ :: _ :: _ :: []) _ ?_ ?_ y
  · repeat' (first | exact Tile.pieces_nil _ | refine pieces_cons _ _ _ _ ?_ ?_)
    all_goals
      intro x
      refine Gate.store_at _ _ _ (by decide) (vn m c t 1) (dz m c t 1) _ _ _ _ _ _ _ _ _ (plus m c t (before8 m c t (by omega)) 0) _ ?_ x
      intro x
      iterate 15 rw [View.readCov_skip _ _ _ _ _ (by decide)]
      rw [View.readCov_cons_toLoadRect]
      refine Gate.store_at _ _ _ (by decide) (vn m c t 0) (dz m c t 0) _ _ _ _ _ _ _ _ _ (before8 m c t (by omega)) _ ?_ x
      intro x
      rfl
  · exact View.cover_of_tiledBy _ ![1, 128, 128] (by sl_kernel_rfl)

theorem first8 (h : t.val % 16 = 0) (y : S16x128x128.Idx) :
    ((Gen.outsAt0 m c t.val t.isLt).2.1 y : EReal) = plus m c t (plus m c t (fun _ => 0) 0) 1 y := by
  rw [Gen.outsAt0_A m c t (by omega) (by omega)]
  frame_out
  simp only [normed0, normed1, reached0, reached1]
  refine Tile.canon_eq (Val := Elt Ideal) (s := S16x128x128) (e := .f32) (plus m c t (plus m c t (fun _ => 0) 0) 1)
    (_ :: _ :: _ :: _ :: _ :: _ :: _ :: _ :: _ :: _ :: _ :: _ :: _ :: _ :: _ :: _ :: []) _ ?_ ?_ y
  · repeat' (first | exact Tile.pieces_nil _ | refine pieces_cons _ _ _ _ ?_ ?_)
    all_goals
      intro x
      refine Gate.store_at _ _ _ (by decide) (vn m c t 1) (dz m c t 1) _ _ _ _ _ _ _ _ _ (plus m c t (fun _ => 0) 0) _ ?_ x
      intro x
      iterate 15 rw [View.readCov_skip _ _ _ _ _ (by decide)]
      rw [View.readCov_cons_toLoadRect]
      refine Gate.store_at _ _ _ (by decide) (vn m c t 0) (dz m c t 0) _ _ _ _ _ _ _ _ _ (fun _ => 0) _ ?_ x
      intro x
      repeat rw [View.readCov_skip _ _ _ _ _ (by decide)]
      rw [View.readCov_fill _ _ _ _ _ (by decide)]
      exact Ideal.ofBits_zero_f32
  · exact View.cover_of_tiledBy _ ![1, 128, 128] (by sl_kernel_rfl)
end Cert.SpatialIdeal.Value
-- ==== Proof.SpatialRead.lean ====
module

public import proofs.«01_k».proof.Proof.SpatialStep
public import Idealize.ShloMosaic.Lib.StableHlo.ReadAt

/-! # The gradients the spatial gating's call leaves, as sums over the chunks -/

@[expose] public section
set_option maxRecDepth 16384
noncomputable section
namespace Cert.SpatialIdeal.Value
open Idealize.ShloMosaic hiding ix1 ix2 ix3 ix4 eq_ix2 eq_ix3
open Idealize.ShloMosaic.TcCoe Idealize.SL.Sem ValueIdx
open Idealize.ShloMosaic.Pipeline (Dat)

theorem N16 : cfg0.N = 16 := by decide +kernel

section
variable (u : S4096x2048.Idx → EReal) (d : S4096x1024.Idx → EReal) (g b : S1x1024.Idx → EReal)

/-- Row `r` of chunk `i`. -/
def row (i : Nat) (r : Fin 128) : Fin 4096 := ⟨(128 * i + r.val) % 4096, Nat.mod_lt _ (by decide)⟩

/-- The gradient that reaches the mixed rows of chunk `i`, and the chunk's normalised rows. -/
def dzOf (i : Nat) (y : S128x1024.Idx) : EReal :=
  d (ix2 (row i (y 0)) (y 1)) * Gate.act1 (u (ix2 (row i (y 0)) ⟨(y 1).val, by have : (y 1).val < 1024 := (y 1).isLt; omega⟩))
def vnOf (i : Nat) (y : S128x1024.Idx) : EReal :=
  Gate.norm1 (fun k => Gate.act1 (u (ix2 (row i (y 0)) ⟨1024 + k.val, by omega⟩))) (g (ix2 0 (y 1))) (b (ix2 0 (y 1))) (y 1)
end

variable (m : (ℓ : Loc nD τ sig) → Buf (Elt Ideal) ℓ) (c : Dev nD) (t : Fin cfg0.N)

def argU : S4096x2048.Idx → EReal := m ((c : Thread nD τ).loc main_arg0)
def argD : S4096x1024.Idx → EReal := m ((c : Thread nD τ).loc main_arg1)
def argG : S1x1024.Idx → EReal := m ((c : Thread nD τ).loc main_arg2)
def argB : S1x1024.Idx → EReal := m ((c : Thread nD τ).loc main_arg3)

theorem idx_facts : ∀ t : Fin cfg0.N, win0_0.index t = ![t.val, 0] ∧ win0_1.index t = ![t.val, 0] ∧ win0_2.index t = ![0, 0] ∧ win0_3.index t = ![0, 0] := by
  decide +kernel

theorem iblk0 (r : Fin 256) (k : Fin 2048) : (Gen.iblk m c 0 t (ix2 r k) : EReal) = argU m c (ix2 ⟨256 * t.val + r.val, by have := Nat.lt_of_lt_of_eq t.isLt N16; omega⟩ k) := by
  unfold argU
  rw [← Gen.V_main_arg0 m c]
  blk_ext [Gen.iblk, (idx_facts t).1]
  exact congrArg (· + r.val) (Nat.mul_comm _ _)
theorem iblk1 (r : Fin 256) (k : Fin 1024) : (Gen.iblk m c 1 t (ix2 r k) : EReal) = argD m c (ix2 ⟨256 * t.val + r.val, by have := Nat.lt_of_lt_of_eq t.isLt N16; omega⟩ k) := by
  unfold argD
  rw [← Gen.V_main_arg1 m c]
  blk_ext [Gen.iblk, (idx_facts t).2.1]
  exact congrArg (· + r.val) (Nat.mul_comm _ _)
theorem iblk2 (k : Fin 1024) : (Gen.iblk m c 2 t (ix2 0 k) : EReal) = argG m c (ix2 0 k) := by
  unfold argG
  rw [← Gen.V_main_arg2 m c]
  blk_ext [Gen.iblk, (idx_facts t).2.2.1]
theorem iblk3 (k : Fin 1024) : (Gen.iblk m c 3 t (ix2 0 k) : EReal) = argB m c (ix2 0 k) := by
  unfold argB
  rw [← Gen.V_main_arg3 m c]
  blk_ext [Gen.iblk, (idx_facts t).2.2.2]

theorem half_at (q h : Fin 2) (r : Fin 128) (k : Fin 1024) :
    (half m c t q h (ix2 r k) : EReal) = argU m c (ix2 (row (2 * t.val + q.val) r) ⟨1024 * h.val + k.val, by omega⟩) := by
  have ht := Nat.lt_of_lt_of_eq t.isLt N16
  have e : (half m c t q h (ix2 r k) : EReal) = Gen.iblk m c 0 t (ix2 ⟨128 * q.val + r.val, by omega⟩ ⟨1024 * h.val + k.val, by omega⟩) :=
    View.ld_unit_apply_of (Gen.iblk m c 0 t : Vec Ideal S256x2048 .f32) _ _ _ _ _ (fun a => by fin_cases a <;> rfl)
  rw [e, iblk0]
  refine Mm.at2 _ ?_ rfl
  show 256 * t.val + (128 * q.val + r.val) = (128 * (2 * t.val + q.val) + r.val) % 4096
  omega

theorem reach_at (q : Fin 2) (r : Fin 128) (k : Fin 1024) : (reach m c t q (ix2 r k) : EReal) = argD m c (ix2 (row (2 * t.val + q.val) r) k) := by
  have ht := Nat.lt_of_lt_of_eq t.isLt N16
  have e : (reach m c t q (ix2 r k) : EReal) = Gen.iblk m c 1 t (ix2 ⟨128 * q.val + r.val, by omega⟩ k) :=
    View.ld_unit_apply_of (Gen.iblk m c 1 t : Vec Ideal S256x1024 .f32) _ _ _ _ _ (fun a => by
      fin_cases a
      · rfl
      · exact (Nat.zero_add _).symm)
  rw [e, iblk1]
  refine Mm.at2 _ ?_ rfl
  show 256 * t.val + (128 * q.val + r.val) = (128 * (2 * t.val + q.val) + r.val) % 4096
  omega

theorem dz_eq (q : Fin 2) : (dz m c t q : S128x1024.Idx → EReal) = dzOf (argU m c) (argD m c) (2 * t.val + q.val) := by
  funext y
  obtain ⟨r, k, rfl⟩ : ∃ r k, y = ix2 r k := ⟨y 0, y 1, ValueIdx.eq_ix2 y⟩
  show (reach m c t q (ix2 r k) : EReal) * Gate.act1 (half m c t q 0 (ix2 r k)) = _
  rw [reach_at, half_at]
  exact congrArg (fun v => _ * Gate.act1 v) (Mm.at2 _ rfl (by show 1024 * 0 + k.val = k.val; omega))

theorem vn_eq (q : Fin 2) : (vn m c t q : S128x1024.Idx → EReal) = vnOf (argU m c) (argG m c) (argB m c) (2 * t.val + q.val) := by
  funext y
  obtain ⟨r, k, rfl⟩ : ∃ r k, y = ix2 r k := ⟨y 0, y 1, ValueIdx.eq_ix2 y⟩
  refine (Gate.norm_at _ _ _ _ _ _ _ r k).trans ?_
  have e : (fun j => (Gate.act (half m c t q 1) (ix2 r j) : EReal)) = fun j : Fin 1024 => Gate.act1 (argU m c (ix2 (row (2 * t.val + q.val) r) ⟨1024 + j.val, by omega⟩)) :=
    funext fun j => congrArg Gate.act1 (half_at m c t q 1 r j)
  rw [e, iblk2, iblk3]
  rfl

/-- What chunk `i` adds to the matrices' gradients. -/
def stepOf (i : Nat) : S16x128x128.Idx → EReal := Gate.step (vnOf (argU m c) (argG m c) (argB m c) i) (dzOf (argU m c) (argD m c) i)

/-- After step `n` the two results hold the sums over the chunks so far. -/
theorem sums (n : Nat) (hn : n < cfg0.N) :
    (∀ y, ((Gen.outsAt0 m c n hn).2.1 y : EReal) = ∑ i ∈ Finset.range (2 * n + 2), stepOf m c i y)
    ∧ ∀ y, ((Gen.outsAt0 m c n hn).2.2.1 y : EReal) = ∑ i ∈ Finset.range (2 * n + 2), dzOf (argU m c) (argD m c) i y := by
  have hN := Nat.lt_of_lt_of_eq hn N16
  induction n with
  | zero =>
    constructor
    · intro y
      refine (first8 m c ⟨0, hn⟩ rfl y).trans ?_
      unfold plus
      rw [dz_eq, dz_eq, vn_eq, vn_eq, Finset.sum_range_succ, Finset.sum_range_succ]
      rfl
    · intro y
      refine (first9 m c ⟨0, hn⟩ rfl y).trans ?_
      rw [dz_eq, dz_eq, Finset.sum_range_succ, Finset.sum_range_succ]
      rfl
  | succ n ih =>
    obtain ⟨h8, h9⟩ := ih (by omega) (by omega)
    have hne : (⟨n + 1, hn⟩ : Fin cfg0.N).val % 16 ≠ 0 := by show (n + 1) % 16 ≠ 0; omega
    constructor
    · intro y
      have e : ((Gen.outsAt0 m c (n + 1) hn).2.1 y : EReal) = plus m c ⟨n + 1, hn⟩ (plus m c ⟨n + 1, hn⟩ (before8 m c ⟨n + 1, hn⟩ hne) 0) 1 y := by
        by_cases h : (n + 1) % 16 = 15
        · exact last8 m c ⟨n + 1, hn⟩ h y
        · exact mid8 m c ⟨n + 1, hn⟩ hne h y
      refine e.trans ?_
      unfold plus
      rw [dz_eq, dz_eq, vn_eq, vn_eq, show 2 * (n + 1) + 2 = (2 * n + 2) + 1 + 1 from rfl, Finset.sum_range_succ, Finset.sum_range_succ]
      exact congrArg (fun v : EReal => v + stepOf m c (2 * n + 2) y + stepOf m c (2 * n + 3) y) (h8 y)
    · intro y
      have e : ((Gen.outsAt0 m c (n + 1) hn).2.2.1 y : EReal) = before9 m c ⟨n + 1, hn⟩ hne y + dz m c ⟨n + 1, hn⟩ 0 y + dz m c ⟨n + 1, hn⟩ 1 y := by
        by_cases h : (n + 1) % 16 = 15
        · exact last9 m c ⟨n + 1, hn⟩ h y
        · exact mid9 m c ⟨n + 1, hn⟩ hne h y
      refine e.trans ?_
      rw [dz_eq, dz_eq, show 2 * (n + 1) + 2 = (2 * n + 2) + 1 + 1 from rfl, Finset.sum_range_succ, Finset.sum_range_succ]
      exact congrArg (fun v : EReal => v + dzOf (argU m c) (argD m c) (2 * n + 2) y + dzOf (argU m c) (argD m c) (2 * n + 3) y) (h9 y)

/-- The two results. -/
theorem result8 : (G8 m c : S16x128x128.Idx → EReal) = fun y => ∑ i : Fin 32, stepOf m c i.val y := by
  funext y
  have h15 : 15 < cfg0.N := lt_of_lt_of_eq (by decide) N16.symm
  rw [G8_last, ← outsAt0_sweep m c 15 h15]
  exact ((sums m c 15 h15).1 y).trans (Finset.sum_range _)

theorem result9 : (G9 m c : S128x1024.Idx → EReal) = fun y => ∑ i : Fin 32, dzOf (argU m c) (argD m c) i.val y := by
  funext y
  have h15 : 15 < cfg0.N := lt_of_lt_of_eq (by decide) N16.symm
  rw [G9_last, ← outsAt0_sweep m c 15 h15]
  exact ((sums m c 15 h15).2 y).trans (Finset.sum_range _)

end Cert.SpatialIdeal.Value
-- ==== Proof.SpatialRef.lean ====
module

public import proofs.«01_k».proof.Proof.SpatialRead
public import proofs.«01_k».proof.Proof.Gen.SpatialRefIdeal.Run
public import proofs.«01_k».proof.Proof.Gen.SpatialRefIdeal.Read
public import Idealize.ShloMosaic.Lib.TwoAxisContraction
public import Idealize.ShloMosaic.Adequacy
public import Idealize.ShloMosaic.Init
public import Idealize.ShloMosaic.Lib.Quiescent

/-! # The derivative of the spatial gating, read as sums over the chunks -/

@[expose] public section
set_option maxRecDepth 16384
noncomputable section
namespace Cert.SpatialIdeal.Value
open Idealize.ShloMosaic hiding ix1 ix2 ix3 ix4 eq_ix2 eq_ix3
open Idealize.ShloMosaic.TcCoe Idealize.SL.Sem ValueIdx
open Cert.SpatialRefIdeal.Read

variable (u : S4096x2048.Idx → EReal) (d : S4096x1024.Idx → EReal) (g b : S1x1024.Idx → EReal)

/-- The reference's activation is the call's: one product associated otherwise. -/
theorem refAct (i : S4096x2048.Idx) : (val_main_v18 (F := Ideal) u i : EReal) = Gate.act1 (u i) := by
  have e : (val_main_v18 (F := Ideal) u i : EReal) = u i * (Gate.lit 0x3F000000#32 * (Gate.lit 0x3F800000#32
      + Ideal.tanh (Gate.lit 0x3F4C422A#32 * (u i + Gate.lit 0x3D372713#32 * (u i * u i * u i))))) := by
    rw [val_main_v18_apply, val_main_v17_apply, val_main_v16_apply, val_main_v15_apply, val_main_v14_apply, val_main_v13_apply,
      val_main_v12_apply, val_main_v11_apply, val_main_v10_apply, val_main_v9_apply, val_main_v8_apply]
    rfl
  rw [e]
  unfold Gate.act1
  rw [← mul_assoc, mul_comm (u i)]

/-- The two halves of the activated rows. -/
theorem refFirst (r : Fin 4096) (k : Fin 1024) : (val_main_v19 (F := Ideal) u (ix2 r k) : EReal) = Gate.act1 (u (ix2 r ⟨k.val, by omega⟩)) := by
  rw [val_main_v19_apply]
  exact (refAct u _).trans (congrArg (fun i => Gate.act1 (u i)) (Tile.eq_ix2_of _ _ _ rfl rfl))
theorem refSecond (r : Fin 4096) (k : Fin 1024) : (val_main_v20 (F := Ideal) u (ix2 r k) : EReal) = Gate.act1 (u (ix2 r ⟨1024 + k.val, by omega⟩)) := by
  rw [val_main_v20_apply]
  exact (refAct u _).trans (congrArg (fun i => Gate.act1 (u i)) (Tile.eq_ix2_of _ _ _ rfl rfl))

/-- The second half's row. -/
def half2 (r : Fin 4096) (k : Fin 1024) : EReal := Gate.act1 (u (ix2 r ⟨1024 + k.val, by omega⟩))

theorem refMean (i : Cert.SpatialRefIdeal.S4096x1.Idx) : (val_main_v24 (F := Ideal) u i : EReal) = Gate.mean1 (half2 u (i 0)) := by
  rw [val_main_v24_apply, val_main_v22_apply, val_main_v21_apply]
  refine congrArg (fun v => Ideal.div v (Gate.lit 0x44800000#32)) ?_
  refine (congrArg (· + _) Ideal.ofBits_zero_f32).trans ((zero_add _).trans (Finset.sum_congr rfl fun k _ => ?_))
  exact (congrArg (val_main_v20 (F := Ideal) u) (Tile.eq_ix2_of _ (i 0) k rfl rfl)).trans (refSecond u _ _)

theorem refCen (r : Fin 4096) (k : Fin 1024) : (val_main_v26 (F := Ideal) u (ix2 r k) : EReal) = Gate.cen1 (half2 u r) k := by
  rw [val_main_v26_apply, val_main_v25_apply]
  exact congrArg₂ (fun a b : EReal => a - b) (refSecond u r k) (refMean u _)

theorem refCen' (r : Fin 4096) (k : Fin 1024) : (val_main_v33 (F := Ideal) u (ix2 r k) : EReal) = Gate.cen1 (half2 u r) k := by
  rw [val_main_v33_apply, val_main_v32_apply]
  exact congrArg₂ (fun a b : EReal => a - b) (refSecond u r k) (refMean u _)

theorem refVar (i : Cert.SpatialRefIdeal.S4096x1.Idx) : (val_main_v31 (F := Ideal) u i : EReal)
    = Gate.mean1 (fun j => Gate.cen1 (half2 u (i 0)) j * Gate.cen1 (half2 u (i 0)) j) := by
  rw [val_main_v31_apply, val_main_v29_apply, val_main_v28_apply]
  refine congrArg (fun v => Ideal.div v (Gate.lit 0x44800000#32)) ?_
  refine (congrArg (· + _) Ideal.ofBits_zero_f32).trans ((zero_add _).trans (Finset.sum_congr rfl fun k _ => ?_))
  have e : (val_main_v27 (F := Ideal) u (ix2 (i 0) k) : EReal) = _ := congrArg (fun v : EReal => v * v) (refCen u (i 0) k)
  exact (congrArg (val_main_v27 (F := Ideal) u) (Tile.eq_ix2_of _ (i 0) k rfl rfl)).trans e

/-- The normalised rows. -/
theorem refNorm (r : Fin 4096) (k : Fin 1024) : (val_main_v42 (F := Ideal) u g b (ix2 r k) : EReal)
    = Gate.norm1 (half2 u r) (g (ix2 0 k)) (b (ix2 0 k)) k := by
  rw [val_main_v42_apply, val_main_v40_apply, val_main_v41_apply, val_main_v39_apply, val_main_v38_apply, val_main_v37_apply,
    val_main_v36_apply, val_main_v35_apply, val_main_v34_apply]
  refine congrArg₂ (fun a b : EReal => a + b) (congrArg₂ (fun a b : EReal => a * b) (congrArg₂ (fun a b : EReal => a * b) (refCen' u r k)
    (congrArg (fun v : EReal => Ideal.rsqrt (v + Gate.lit 0x3727C5AC#32)) (refVar u _))) (congrArg g (Tile.eq_ix2_of _ _ _ rfl rfl))) (congrArg b (Tile.eq_ix2_of _ _ _ rfl rfl))

/-- The gradient of the mixed rows, chunk by chunk. -/
theorem refChunk (j : Cert.SpatialRefIdeal.S32x128x1024.Idx) : (val_main_v53 (F := Ideal) u d j : EReal) = dzOf u d (j 0).val (ix2 (j 1) (j 2)) := by
  have h0 : (j 0).val < 32 := (j 0).isLt
  have h1 : (j 1).val < 128 := (j 1).isLt
  have h2 : (j 2).val < 1024 := (j 2).isLt
  rw [val_main_v53_apply, Tile.eq_ix2_of (idx_main_v53 j) (row (j 0).val (j 1)) (j 2)
    (by show (((j 0).val * 128 + (j 1).val) * 1024 + (j 2).val) / 1024 = (128 * (j 0).val + (j 1).val) % 4096; omega)
    (by show (((j 0).val * 128 + (j 1).val) * 1024 + (j 2).val) % 1024 = (j 2).val; omega), val_main_v52_apply]
  refine (congrArg (fun v : EReal => v * d _) (refFirst u _ _)).trans ?_
  exact mul_comm _ _

/-- The bias's gradient is the sum over the chunks. -/
theorem refBias (y : S128x1024.Idx) : (val_main_v56 (F := Ideal) u d y : EReal) = ∑ i : Fin 32, dzOf u d i.val y := by
  have h0 : (y 0).val < 128 := (y 0).isLt
  have h1 : (y 1).val < 1024 := (y 1).isLt
  rw [val_main_v56_apply]
  refine (congrArg (· + _) Ideal.ofBits_zero_f32).trans ((zero_add _).trans ?_)
  rw [Fin.sum_univ_one, val_main_v55_apply, Tile.eq_ix2_of (idx_main_v55 (idx_main_v56 y 0)) (y 0) (y 1)
    (by show ((0 * 128 + (y 0).val) * 1024 + (y 1).val) / 1024 = (y 0).val; omega)
    (by show ((0 * 128 + (y 0).val) * 1024 + (y 1).val) % 1024 = (y 1).val; omega), val_main_v54_apply]
  refine (congrArg (· + _) Ideal.ofBits_zero_f32).trans ((zero_add _).trans (Finset.sum_congr rfl fun k _ => ?_))
  exact (refChunk u d _).trans (congrArg (dzOf u d k.val) (Tile.eq_ix2_of _ _ _ rfl rfl).symm)

/-- The two operands of the matrices' gradient at an index. -/
theorem refLeft (h : Fin 16) (i : Fin 32) (k : Fin 64) (t : Fin 128) (j : Cert.SpatialRefIdeal.S16x32x64x128.Idx)
    (e0 : (j 0).val = h.val) (e1 : (j 1).val = i.val) (e2 : (j 2).val = k.val) (e3 : (j 3).val = t.val) :
    (val_main_v58 (F := Ideal) u d j : EReal) = dzOf u d i.val (ix2 t ⟨64 * h.val + k.val, by omega⟩) := by
  rw [val_main_v58_apply, val_main_v57_apply]
  refine (refChunk u d _).trans ?_
  have c0 : (idx_main_v57 (idx_main_v58 j) 0).val = i.val := by
    show ((((j 1).val * 128 + (j 3).val) * 16 + (j 0).val) * 64 + (j 2).val) / 131072 = i.val
    omega
  have c : ix2 (idx_main_v57 (idx_main_v58 j) 1) (idx_main_v57 (idx_main_v58 j) 2) = (ix2 t ⟨64 * h.val + k.val, by omega⟩ : S128x1024.Idx) := by
    refine Tile.eq_ix2_of _ _ _ ?_ ?_
    · show ((((j 1).val * 128 + (j 3).val) * 16 + (j 0).val) * 64 + (j 2).val) / 1024 % 128 = t.val
      omega
    · show ((((j 1).val * 128 + (j 3).val) * 16 + (j 0).val) * 64 + (j 2).val) % 1024 = 64 * h.val + k.val
      omega
  exact congrArg₂ (fun n y => dzOf u d n y) c0 c

theorem refRight (h : Fin 16) (i : Fin 32) (k : Fin 64) (t : Fin 128) (j : Cert.SpatialRefIdeal.S32x128x16x64.Idx)
    (e0 : (j 0).val = i.val) (e1 : (j 1).val = t.val) (e2 : (j 2).val = h.val) (e3 : (j 3).val = k.val) :
    (val_main_v43 (F := Ideal) u g b j : EReal) = vnOf u g b i.val (ix2 t ⟨64 * h.val + k.val, by omega⟩) := by
  rw [val_main_v43_apply, Tile.eq_ix2_of (idx_main_v43 j) (row i.val t) ⟨64 * h.val + k.val, by omega⟩
    (by show ((((j 0).val * 128 + (j 1).val) * 16 + (j 2).val) * 64 + (j 3).val) / 1024 = (128 * i.val + t.val) % 4096; omega)
    (by show ((((j 0).val * 128 + (j 1).val) * 16 + (j 2).val) * 64 + (j 3).val) % 1024 = 64 * h.val + k.val; omega)]
  exact refNorm u g b _ _

abbrev D59 := Cert.SpatialRefIdeal.dot_S16x32x64x128_S32x128x16x64_S16x128x128_12_03_3_1_0_2

/-- The matrices' gradient is the sum over the chunks of the step's products. -/
theorem refMatrix (y : S16x128x128.Idx) : (val_main_v59 (F := Ideal) u d g b y : EReal)
    = ∑ i : Fin 32, Gate.step (vnOf u g b i.val) (dzOf u d i.val) y := by
  have e : (val_main_v59 (F := Ideal) u d g b y : EReal) = ∑ q : D59.contr.Idx,
      val_main_v58 (F := Ideal) u d (D59.lhsIdx y q) * val_main_v43 (F := Ideal) u g b (D59.rhsIdx y q) := by
    unfold val_main_v59
    simp only [Host.dotGeneral]
    exact Ideal.dotGeneral_apply _ _ _ _ _ _
  rw [e, sum_contr2 D59 32 64 rfl rfl rfl]
  refine Finset.sum_congr rfl fun i _ => Finset.sum_congr rfl fun k _ => ?_
  have q0 := contrEquiv2_symm_val0 D59 32 64 rfl rfl rfl (i, k)
  have q1 := contrEquiv2_symm_val1 D59 32 64 rfl rfl rfl (i, k)
  generalize (contrEquiv2 D59 32 64 rfl rfl rfl).symm (i, k) = q at q0 q1 ⊢
  refine congrArg₂ (fun a b : EReal => a * b) (refLeft u d (y 0) i k (y 1) _ ?_ ?_ ?_ ?_) (refRight u g b (y 0) i k (y 2) _ ?_ ?_ ?_ ?_)
  · rfl
  · exact q0
  · exact q1
  · rfl
  · exact q0
  · rfl
  · rfl
  · exact q1

end Cert.SpatialIdeal.Value

namespace Cert.Proof
open Idealize.ShloMosaic Idealize.SL.Sem Idealize.ShloMosaic.StableHlo

theorem frame_SpatialRef : quiescent_SpatialRefIdeal := fun m ρ _ =>
  (θ_run Cert.SpatialRefIdeal.defs _ _).mono (fun r h => ⟨fun c => (h c).2.2, sem_eq_zero_of_no_sems (by decide) r.2⟩)
    (Cert.SpatialRefIdeal.Value.run (F := Ideal) m ρ)

theorem algebraic_Spatial : algebraic_SpatialIdeal_SpatialRefIdeal := by
  intro m ρ m' ρ' _ hagree
  refine ⟨_, _, (θ_run Cert.SpatialIdeal.defs _ _).mono (fun r h c => ⟨(h c).2.1, (h c).2.2.1, (h c).2.2.2.2.2.2⟩)
    (Cert.SpatialIdeal.Value.run (F := Ideal) m ρ), ?_⟩
  refine (θ_run Cert.SpatialRefIdeal.defs _ _).mono (fun _ h c => ⟨?_, ?_, (h c).2.2⟩) (Cert.SpatialRefIdeal.Value.run (F := Ideal) m' ρ')
  · obtain ⟨e0, e1, e2, e3, -, -⟩ := hagree c
    refine ((h c).1.trans (Cert.SpatialRefIdeal.Read.val_main_v59_eq (F := Ideal) _ _)).trans ?_
    rw [e0, e1, e2, e3]
    exact (funext (Cert.SpatialIdeal.Value.refMatrix _ _ _ _)).trans (Cert.SpatialIdeal.Value.result8 m c).symm
  · obtain ⟨e0, e1, -, -, -, -⟩ := hagree c
    refine ((h c).2.1.trans (Cert.SpatialRefIdeal.Read.val_main_v56_eq (F := Ideal) _ _)).trans ?_
    rw [e0, e1]
    exact (funext (Cert.SpatialIdeal.Value.refBias _ _)).trans (Cert.SpatialIdeal.Value.result9 m c).symm

end Cert.Proof
-- ==== Proof.Gating.lean ====
module

public import proofs.«01_k».proof.Proof.Gate

/-! # The spatial gating of one chunk

The rows of a chunk are mixed by the causal matrices, two matrices side by side for each 128 channels; the bias is added
and the result multiplied with the first half's activation. Here is one such product as the call computes it, over any
interpretation of the floats, and what it is over the extended reals: at a channel only its own matrix contributes. -/

@[expose] public section
set_option maxRecDepth 16384
noncomputable section
namespace Cert.Gating
open Idealize.ShloMosaic hiding ix1 ix2 ix3 ix4 eq_ix2 eq_ix3
open Idealize.ShloMosaic.TcCoe ValueIdx
open Cert.Tile (eq_ix2_of)
open Cert.Gate (S128x128 S128x1024 S256x128 S1x1024 act1 norm1)

abbrev S128x256 : Shape := ⟨2, ![128, 256]⟩
abbrev S1x128x256 : Shape := ⟨3, ![1, 128, 256]⟩
abbrev S8x128x256 : Shape := ⟨3, ![8, 128, 256]⟩
abbrev S16x128x128 : Shape := ⟨3, ![16, 128, 128]⟩
abbrev S8x2x128x128 : Shape := ⟨4, ![8, 2, 128, 128]⟩
abbrev S8x128x2x128 : Shape := ⟨4, ![8, 128, 2, 128]⟩
abbrev S256x1024 : Shape := ⟨2, ![256, 1024]⟩
abbrev S256x2048 : Shape := ⟨2, ![256, 2048]⟩

/-- The product of two matrices side by side with the rows below each other. -/
abbrev dims (wf : DotDims.WF S128x256 S256x128 S128x128 [1] [0] [0] [1] [] []) : DotDims S128x256 S256x128 S128x128 := ⟨[1], [0], [0], [1], [], [], wf⟩

/-- The gated rows of the 128 channels from channel `o`. -/
def lanes {F : FTy → Type} [FloatOps F] (o : Nat) (u n : FVec F S128x1024 .f32) (w : Vec F S1x128x256 .bf16) (b : Vec F S128x128 .f32)
    (hs : S128x1024.Slices ![0, o] S128x128) (hi : S128x128.Iotas .tc 32 [1]) (hc : Shape.Concatenates [S128x128, S128x128] S256x128 0)
    (wf : DotDims.WF S128x256 S256x128 S128x128 [1] [0] [0] [1] [] []) (ht : FTy.bits .bf16 < FTy.bits .f32) (hw : S1x128x256.ShapeCasts S128x256)
    (hb : S128x128.ShapeCasts S128x128) : FVec F S128x128 .bf16 :=
  truncf .bf16 (mulf (extractStridedSlice S128x128 ![0, o] u hs)
    (addf (matmul (dims wf) none (shapeCast S128x256 w hw) (truncf .bf16 (Gate.split o n hs hi hc) ht) (constant S128x128 .f32 0x00000000#32))
      (shapeCast S128x128 b hb))) ht

theorem dot_at (wf) {φ ψ : FTy} (a : FVec Ideal S128x256 φ) (b : FVec Ideal S256x128 ψ) (y : S128x128.Idx) :
    (matmul (dims wf) none a b (constant S128x128 .f32 0x00000000#32) y : EReal) = ∑ x : Fin 256, (a (ix2 (y 0) x) : EReal) * b (ix2 x (y 1)) := by
  simp only [matmul]
  rw [Ideal.matmul_constant_zero_apply, ← Equiv.sum_comp (contrEquiv1 (dims wf) 256 rfl rfl).symm]
  refine Finset.sum_congr rfl fun k _ => ?_
  have hk := contrEquiv1_symm_val (dims wf) 256 rfl rfl k
  congr 1
  · exact congrArg a (eq_ix2_of _ _ _ rfl hk)
  · exact congrArg b (eq_ix2_of _ _ _ hk rfl)

/-- At a channel only the half of its own matrix contributes. -/
theorem mixed_at (o : Nat) (ho : o + 128 ≤ 1024) (n : FVec Ideal S128x1024 .f32) (w : Vec Ideal S1x128x256 .bf16) (hs hi hc wf ht hw) (r x : Fin 128) :
    (matmul (φ₁ := .bf16) (φ₂ := .bf16) (dims wf) none (shapeCast S128x256 w hw) (truncf .bf16 (Gate.split o n hs hi hc) ht) (constant S128x128 .f32 0x00000000#32) (ix2 r x) : EReal)
      = ∑ s : Fin 128, (w (ix3 0 r ⟨128 * (x.val / 64) + s.val, by omega⟩) : EReal) * n (ix2 s ⟨o + x.val, by omega⟩) := by
  rw [dot_at]
  have h1 : ∀ (e : Fin 2) (s : Fin 128), (shapeCast S128x256 w hw (ix2 r ⟨s.val + 128 * e.val, by omega⟩) : EReal)
        * truncf .bf16 (Gate.split o n hs hi hc) ht (ix2 ⟨s.val + 128 * e.val, by omega⟩ x)
      = (w (ix3 0 r ⟨128 * e.val + s.val, by omega⟩) : EReal) * (if x.val / 64 = e.val then (n (ix2 s ⟨o + x.val, by omega⟩) : EReal) else 0) := fun e s =>
    congrArg₂ (fun u v : EReal => u * v) ((Mm.slab_at w hw r _).trans (Mm.at3 _ rfl rfl (Nat.add_comm _ _)))
      ((Mm.at2 (Gate.split o n hs hi hc) (Nat.add_comm _ _) rfl).trans (Gate.split_at o ho n hs hi hc e s x))
  rw [Tile.sum_blocks 2 128]
  refine (Finset.sum_congr rfl fun e _ => Finset.sum_congr rfl fun s _ => h1 e s).trans ?_
  refine (Fintype.sum_eq_single ⟨x.val / 64, by omega⟩ fun e he => Finset.sum_eq_zero fun s _ => ?_).trans (Finset.sum_congr rfl fun s _ => ?_)
  · rw [if_neg (fun hh => he (Fin.ext hh.symm)), mul_zero]
  · rw [if_pos rfl]

theorem lanes_at (o : Nat) (ho : o + 128 ≤ 1024) (u n : FVec Ideal S128x1024 .f32) (w : Vec Ideal S1x128x256 .bf16) (b : Vec Ideal S128x128 .f32)
    (hs hi hc wf ht hw hb) (r x : Fin 128) :
    (lanes o u n w b hs hi hc wf ht hw hb (ix2 r x) : EReal)
      = u (ix2 r ⟨o + x.val, by omega⟩)
        * ((∑ s : Fin 128, (w (ix3 0 r ⟨128 * (x.val / 64) + s.val, by omega⟩) : EReal) * n (ix2 s ⟨o + x.val, by omega⟩)) + b (ix2 r x)) := by
  have e : (shapeCast S128x128 b hb (ix2 r x) : EReal) = b (ix2 r x) := congrFun (shapeCast_self b hb) _
  exact congrArg₂ (fun u v : EReal => u * v) (Gate.slice_at o ho u hs r x)
    (congrArg₂ (fun u v : EReal => u + v) (mixed_at o ho n w hs hi hc wf ht hw r x) e)

/-! ## A block of two chunks -/

/-- The gated rows of a block of `R` rows, from the projection's rows, the matrices by group of channels, and the bias. -/
def gatedOf {R : Nat} (X : Shape.Idx ⟨2, ![R, 2048]⟩ → EReal) (g b : S1x1024.Idx → EReal) (W : Fin 16 → Fin 128 → Fin 128 → EReal) (B : S128x1024.Idx → EReal)
    (row : Fin 128 → Fin R) (p : Fin R) (r : Fin 128) (k : Fin 1024) : EReal :=
  act1 (X (ix2 p ⟨k.val, by omega⟩))
    * ((∑ s : Fin 128, W ⟨k.val / 64, by omega⟩ r s * norm1 (fun j => act1 (X (ix2 (row s) ⟨1024 + j.val, by omega⟩))) (g (ix2 0 k)) (b (ix2 0 k)) k) + B (ix2 r k))

/-- Matrix `h` of the eight pairs. -/
def ofPairs (W : S8x128x256.Idx → EReal) (h : Fin 16) (t s : Fin 128) : EReal :=
  W (ix3 ⟨h.val / 2, by omega⟩ t ⟨128 * (h.val % 2) + s.val, by omega⟩)

/-- The gated rows of a block of two chunks. -/
def block (X : S256x2048.Idx → EReal) (g b : S1x1024.Idx → EReal) (W : S8x128x256.Idx → EReal) (B : S128x1024.Idx → EReal) (y : S256x1024.Idx) : EReal :=
  gatedOf X g b (ofPairs W) B (fun s => ⟨128 * ((y 0).val / 128) + s.val, by have : (y 0).val < 256 := (y 0).isLt; omega⟩) (y 0)
    ⟨(y 0).val % 128, by omega⟩ (y 1)

/-- The 128 channels `j` of chunk `q`. -/
theorem piece (q j : Nat) (hq : q < 2) (hj : j < 8) (X : Vec Ideal S256x2048 .f32) (g b : Vec Ideal S1x1024 .f32) (W : Vec Ideal S8x128x256 .bf16) (B : Vec Ideal S128x1024 .f32)
    (i0 : ∀ a, (![128 * q, 0] : Fin 2 → Nat) a + (![128, 1024] : Fin 2 → Nat) a ≤ S256x2048.size a)
    (i1 : ∀ a, (![128 * q, 1024] : Fin 2 → Nat) a + (![128, 1024] : Fin 2 → Nat) a ≤ S256x2048.size a)
    (iw : ∀ a, (![j, 0, 0] : Fin 3 → Nat) a + (![1, 128, 256] : Fin 3 → Nat) a ≤ S8x128x256.size a)
    (ib : ∀ a, (![0, 128 * j] : Fin 2 → Nat) a + (![128, 128] : Fin 2 → Nat) a ≤ S128x1024.size a)
    (io : ∀ a, (![128 * q, 128 * j] : Fin 2 → Nat) a + (![128, 128] : Fin 2 → Nat) a ≤ S256x1024.size a)
    (h h' hbr hg hs hi hc wf ht hw hb) (x : S128x128.Idx) :
    (lanes (128 * j) (Gate.act (View.ld X (Rect.unit (s := S256x2048) ![128 * q, 0] ![128, 1024] i0)))
        (Gate.norm (Gate.act (View.ld X (Rect.unit (s := S256x2048) ![128 * q, 1024] ![128, 1024] i1))) g b h h' hbr hg)
        (View.ld W (Rect.unit (s := S8x128x256) ![j, 0, 0] ![1, 128, 256] iw)) (View.ld B (Rect.unit (s := S128x1024) ![0, 128 * j] ![128, 128] ib))
        hs hi hc wf ht hw hb x : EReal)
      = block X g b W B ((Rect.unit (s := S256x1024) ![128 * q, 128 * j] ![128, 128] io).emb x) := by
  obtain ⟨r, k, rfl⟩ : ∃ r k, x = ix2 r k := ⟨x 0, x 1, ValueIdx.eq_ix2 x⟩
  have hr := r.isLt
  have hk := k.isLt
  have e : (Rect.unit (s := S256x1024) ![128 * q, 128 * j] ![128, 128] io).emb (ix2 r k) = ix2 (⟨128 * q + r.val, by omega⟩ : Fin 256) (⟨128 * j + k.val, by omega⟩ : Fin 1024) :=
    eq_ix2_of _ _ _ (by show 128 * q + 1 * r.val = _; rw [Nat.one_mul]) (by show 128 * j + 1 * k.val = _; rw [Nat.one_mul])
  rw [e]
  refine (lanes_at (128 * j) (by omega) _ _ _ _ hs hi hc wf ht hw hb r k).trans ?_
  unfold block gatedOf ofPairs
  refine congrArg₂ (fun u v : EReal => u * v) (congrArg act1 ?_) (congrArg₂ (fun u v : EReal => u + v) (Finset.sum_congr rfl fun s _ => congrArg₂ (fun u v : EReal => u * v) ?_ ?_) ?_)
  · exact View.ld_unit_apply_of X _ _ _ _ _ (fun a => by
      match a with
      | ⟨0, _⟩ => rfl
      | ⟨1, _⟩ => exact (Nat.zero_add _).symm)
  · exact View.ld_unit_apply_of W _ _ _ _ _ (fun a => by
      match a with
      | ⟨0, _⟩ => show (128 * j + k.val) / 64 / 2 = j + 0; omega
      | ⟨1, _⟩ => show (128 * q + r.val) % 128 = 0 + r.val; omega
      | ⟨2, _⟩ => show 128 * ((128 * j + k.val) / 64 % 2) + s.val = 0 + (128 * (k.val / 64) + s.val); omega)
  · refine (Gate.norm_at _ g b h h' hbr hg s _).trans ?_
    have ea : (fun j' : Fin 1024 => (Gate.act (View.ld X (Rect.unit (s := S256x2048) ![128 * q, 1024] ![128, 1024] i1)) (ix2 s j') : EReal))
        = fun j' : Fin 1024 => act1 (X (ix2 ⟨128 * ((128 * q + r.val) / 128) + s.val, by omega⟩ ⟨1024 + j'.val, by omega⟩)) :=
      funext fun j' => congrArg act1 (View.ld_unit_apply_of X _ _ _ _ _ (fun a => by
        match a with
        | ⟨0, _⟩ => show 128 * ((128 * q + r.val) / 128) + s.val = 128 * q + s.val; omega
        | ⟨1, _⟩ => rfl))
    rw [ea]
  · exact View.ld_unit_apply_of B _ _ _ _ _ (fun a => by
      match a with
      | ⟨0, _⟩ => show (128 * q + r.val) % 128 = 0 + r.val; omega
      | ⟨1, _⟩ => rfl)

/-- The matrices in pairs side by side. -/
theorem pairs_at {α : Type} (w : S16x128x128.Idx → α) (h1 : S16x128x128.ShapeCasts S8x2x128x128) (h2 : S8x2x128x128.Transposes [0, 2, 1, 3] S8x128x2x128)
    (h3 : S8x128x2x128.ShapeCasts S8x128x256) (h : Fin 16) (t s : Fin 128) :
    shapeCast S8x128x256 (transpose S8x128x2x128 [0, 2, 1, 3] (shapeCast S8x2x128x128 w h1) h2) h3
      (ix3 ⟨h.val / 2, by omega⟩ t ⟨128 * (h.val % 2) + s.val, by omega⟩) = w (ix3 h t s) := by
  have hh := h.isLt
  have ht := t.isLt
  have hs := s.isLt
  rw [shapeCast_apply _ h3 _ (ix4 (⟨h.val / 2, by omega⟩ : Fin 8) t (⟨h.val % 2, by omega⟩ : Fin 2) s) (by
      rewrite [Shape.rowMajor_val_three, Shape.rowMajor_val_four]
      show ((h.val / 2 * 128 + t.val) * 2 + h.val % 2) * 128 + s.val = (h.val / 2 * 128 + t.val) * 256 + (128 * (h.val % 2) + s.val)
      omega),
    transpose_apply [0, 2, 1, 3] _ h2 _ (ix4 (⟨h.val / 2, by omega⟩ : Fin 8) (⟨h.val % 2, by omega⟩ : Fin 2) t s)
      (fun b => match b with | ⟨0, _⟩ => rfl | ⟨1, _⟩ => rfl | ⟨2, _⟩ => rfl | ⟨3, _⟩ => rfl)]
  exact shapeCast_apply w h1 _ _ (by
    rewrite [Shape.rowMajor_val_three, Shape.rowMajor_val_four]
    show (h.val * 128 + t.val) * 128 + s.val = ((h.val / 2 * 2 + h.val % 2) * 128 + t.val) * 128 + s.val
    omega)

end Cert.Gating
-- ==== Proof.Gated.lean ====
module

public import proofs.«01_k».proof.Defs
public import proofs.«01_k».proof.Proof.Gen.GatedIdeal.Value
public import proofs.«01_k».proof.Proof.Gen.GatedRefIdeal.Run
public import proofs.«01_k».proof.Proof.Gen.GatedRefIdeal.Read
public import Idealize.ShloMosaic.Lib.StableHlo.ReadAt
public import Idealize.ShloMosaic.Adequacy
public import Idealize.ShloMosaic.Init
public import Idealize.ShloMosaic.Lib.Quiescent
public import proofs.«01_k».proof.Proof.Gating
public import proofs.«01_k».proof.Proof.SpatialRef

/-! # The spatial gating's forward call

A grid point gates two chunks, 128 channels at a time. -/

@[expose] public section
set_option maxRecDepth 16384
noncomputable section
namespace Cert.GatedIdeal.Value
open Idealize.ShloMosaic hiding ix1 ix2 ix3 ix4 eq_ix2 eq_ix3
open Idealize.ShloMosaic.TcCoe Idealize.SL.Sem ValueIdx
open Idealize.ShloMosaic.Pipeline (Dat)
open Cert.Gating (block gatedOf ofPairs piece)
variable (m : (ℓ : Loc nD τ sig) → Buf (Elt Ideal) ℓ) (c : Dev nD) (t : Fin cfg0.N)

attribute [local irreducible] Gen.iblk

theorem N16 : cfg0.N = 16 := by decide +kernel

/-! ## What a grid point stores -/

section
variable (X : Vec Ideal S256x2048 .f32) (g b : Vec Ideal S1x1024 .f32) (W : Vec Ideal S8x128x256 .bf16) (B : Vec Ideal S128x1024 .f32)

theorem whole_row (v : Vec Ideal S1x1024 .f32) : View.ld v Gen.r0_2 = v :=
  View.ld_unit_zero (funext fun a => match a with | ⟨0, _⟩ => rfl | ⟨1, _⟩ => rfl) _ _

theorem out (y : S256x1024.Idx) : (Gen.out0_5 X g b W B y : EReal) = block X g b W B y := by
  unfold Gen.out0_5 Gen.k0_pay54 Gen.k0_pay53 Gen.k0_pay52 Gen.k0_pay51 Gen.k0_pay50 Gen.k0_pay49 Gen.k0_pay48 Gen.k0_pay47
  simp only [whole_row]
  refine Tile.canon_all (Val := Elt Ideal) (s := S256x1024) (e := .bf16) (block X g b W B) _ ?_ ?_ y
  · refine Tile.pieces_cons _ _ _ (fun x => piece 1 7 (by decide) (by decide) X g b W B _ _ _ _ (by decide) _ _ _ _ _ _ _ _ _ _ _ x) ?_
    refine Tile.pieces_cons _ _ _ (fun x => piece 1 6 (by decide) (by decide) X g b W B _ _ _ _ (by decide) _ _ _ _ _ _ _ _ _ _ _ x) ?_
    refine Tile.pieces_cons _ _ _ (fun x => piece 1 5 (by decide) (by decide) X g b W B _ _ _ _ (by decide) _ _ _ _ _ _ _ _ _ _ _ x) ?_
    refine Tile.pieces_cons _ _ _ (fun x => piece 1 4 (by decide) (by decide) X g b W B _ _ _ _ (by decide) _ _ _ _ _ _ _ _ _ _ _ x) ?_
    refine Tile.pieces_cons _ _ _ (fun x => piece 1 3 (by decide) (by decide) X g b W B _ _ _ _ (by decide) _ _ _ _ _ _ _ _ _ _ _ x) ?_
    refine Tile.pieces_cons _ _ _ (fun x => piece 1 2 (by decide) (by decide) X g b W B _ _ _ _ (by decide) _ _ _ _ _ _ _ _ _ _ _ x) ?_
    refine Tile.pieces_cons _ _ _ (fun x => piece 1 1 (by decide) (by decide) X g b W B _ _ _ _ (by decide) _ _ _ _ _ _ _ _ _ _ _ x) ?_
    refine Tile.pieces_cons _ _ _ (fun x => piece 1 0 (by decide) (by decide) X g b W B _ _ _ _ (by decide) _ _ _ _ _ _ _ _ _ _ _ x) ?_
    refine Tile.pieces_cons _ _ _ (fun x => piece 0 7 (by decide) (by decide) X g b W B _ _ _ _ (by decide) _ _ _ _ _ _ _ _ _ _ _ x) ?_
    refine Tile.pieces_cons _ _ _ (fun x => piece 0 6 (by decide) (by decide) X g b W B _ _ _ _ (by decide) _ _ _ _ _ _ _ _ _ _ _ x) ?_
    refine Tile.pieces_cons _ _ _ (fun x => piece 0 5 (by decide) (by decide) X g b W B _ _ _ _ (by decide) _ _ _ _ _ _ _ _ _ _ _ x) ?_
    refine Tile.pieces_cons _ _ _ (fun x => piece 0 4 (by decide) (by decide) X g b W B _ _ _ _ (by decide) _ _ _ _ _ _ _ _ _ _ _ x) ?_
    refine Tile.pieces_cons _ _ _ (fun x => piece 0 3 (by decide) (by decide) X g b W B _ _ _ _ (by decide) _ _ _ _ _ _ _ _ _ _ _ x) ?_
    refine Tile.pieces_cons _ _ _ (fun x => piece 0 2 (by decide) (by decide) X g b W B _ _ _ _ (by decide) _ _ _ _ _ _ _ _ _ _ _ x) ?_
    refine Tile.pieces_cons _ _ _ (fun x => piece 0 1 (by decide) (by decide) X g b W B _ _ _ _ (by decide) _ _ _ _ _ _ _ _ _ _ _ x) ?_
    exact Tile.pieces_cons _ _ _ (fun x => piece 0 0 (by decide) (by decide) X g b W B _ _ _ _ (by decide) _ _ _ _ _ _ _ _ _ _ _ x) (Tile.pieces_nil _)
  · exact View.cover_of_tiledBy _ ![128, 128] (by sl_kernel_rfl)
end

/-! ## What a grid point reads -/

/-- The matrices in pairs and the bias by channel, as the call is given them. -/
def arrW : S8x128x256.Idx → EReal := Gen.V m c main_v6
def arrB : S128x1024.Idx → EReal := Gen.V m c main_v9

theorem idx_facts : ∀ t : Fin cfg0.N, win0_0.index t = ![t.val, 0] ∧ win0_1.index t = ![0, 0] ∧ win0_2.index t = ![0, 0] ∧ win0_3.index t = ![0, 0, 0]
    ∧ win0_4.index t = ![0, 0] ∧ win0_5.index t = ![t.val, 0] := by
  decide +kernel

theorem iblk0 (r : Fin 256) (k : Fin 2048) : (Gen.iblk m c 0 t (ix2 r k) : EReal)
    = m ((c : Thread nD τ).loc main_arg0) (ix2 ⟨256 * t.val + r.val, by have := Nat.lt_of_lt_of_eq t.isLt N16; omega⟩ k) := by
  rw [← Gen.V_main_arg0 m c]
  blk_ext [Gen.iblk, (idx_facts t).1]
  exact congrArg (· + r.val) (Nat.mul_comm _ _)
theorem iblk1 (k : Fin 1024) : (Gen.iblk m c 1 t (ix2 0 k) : EReal) = m ((c : Thread nD τ).loc main_arg1) (ix2 0 k) := by
  rw [← Gen.V_main_arg1 m c]
  blk_ext [Gen.iblk, (idx_facts t).2.1]
theorem iblk2 (k : Fin 1024) : (Gen.iblk m c 2 t (ix2 0 k) : EReal) = m ((c : Thread nD τ).loc main_arg2) (ix2 0 k) := by
  rw [← Gen.V_main_arg2 m c]
  blk_ext [Gen.iblk, (idx_facts t).2.2.1]
theorem iblk3 (j : Fin 8) (r : Fin 128) (k : Fin 256) : (Gen.iblk m c 3 t (ix3 j r k) : EReal) = arrW m c (ix3 j r k) := by
  blk_ext [Gen.iblk, arrW, (idx_facts t).2.2.2.1]
theorem iblk4 (r : Fin 128) (k : Fin 1024) : (Gen.iblk m c 4 t (ix2 r k) : EReal) = arrB m c (ix2 r k) := by
  blk_ext [Gen.iblk, arrB, (idx_facts t).2.2.2.2.1]

/-- The causal matrices and the bias by channel, as the reference has them. -/
def matrices : S16x128x128.Idx → EReal := Cert.GatedRefIdeal.Read.val_main_v2 (F := Ideal) (m ((c : Thread nD τ).loc main_arg3))
def biases : S128x1024.Idx → EReal := Cert.GatedRefIdeal.Read.val_main_v5 (F := Ideal) (m ((c : Thread nD τ).loc main_arg4))

theorem arrW_at (h : Fin 16) (r s : Fin 128) : ofPairs (arrW m c) h r s = matrices m c (ix3 h r s) := by
  have e : arrW m c = shapeCast S8x128x256 (transpose S8x128x2x128 [0, 2, 1, 3] (shapeCast S8x2x128x128 (matrices m c) Gen.shapeCasts_S16x128x128_S8x2x128x128)
      Gen.transposes_S8x2x128x128_S8x128x2x128_0_2_1_3) Gen.shapeCasts_S8x128x2x128_S8x128x256 := by
    unfold arrW Gen.V
    after_reads_simp
    rfl
  unfold ofPairs
  rw [e]
  exact Gating.pairs_at _ _ _ _ h r s
theorem arrB_eq : arrB m c = biases m c := by
  unfold arrB Gen.V
  after_reads_simp
  rfl

/-! ## The result -/

/-- The gated rows. -/
def gated (u : S4096x2048.Idx → EReal) (g b : S1x1024.Idx → EReal) (w : S16x128x128.Idx → EReal) (bias : S128x1024.Idx → EReal) (y : S4096x1024.Idx) : EReal :=
  gatedOf u g b (fun h r s => w (ix3 h r s)) bias (fun s => ⟨128 * ((y 0).val / 128) + s.val, by have : (y 0).val < 4096 := (y 0).isLt; omega⟩) (y 0)
    ⟨(y 0).val % 128, by omega⟩ (y 1)

theorem flush_all : ∀ t : Fin cfg0.N, (cfg0.win 5).flush t = true := by decide +kernel

theorem covered (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  have ht : (i 0).val / 256 < cfg0.N := by rw [N16]; omega
  refine ⟨⟨(i 0).val / 256, ht⟩, flush_all _, ?_⟩
  show i ∈ ((View.whole main_v10).slice (win0_5.rect ⟨(i 0).val / 256, ht⟩)).set
  rw [View.set_slice_whole, Rect.mem_set_unit]
  have e := (idx_facts ⟨(i 0).val / 256, ht⟩).2.2.2.2.2
  have q0 := congrFun e 0
  have q1 := congrFun e 1
  intro a
  match a with
  | ⟨0, _⟩ =>
    show win0_5.index _ (0 : Fin 2) * 256 ≤ (i 0).val ∧ (i 0).val < win0_5.index _ (0 : Fin 2) * 256 + 256
    rw [q0]
    show (i 0).val / 256 * 256 ≤ _ ∧ _ < (i 0).val / 256 * 256 + 256
    omega
  | ⟨1, _⟩ =>
    show win0_5.index _ (1 : Fin 2) * 1024 ≤ (i 1).val ∧ (i 1).val < win0_5.index _ (1 : Fin 2) * 1024 + 1024
    rw [q1]
    show 0 * 1024 ≤ _ ∧ _ < 0 * 1024 + 1024
    omega

/-- What a point stores, at row `r` of its block and channel `k`. -/
theorem block_at (r : Fin 256) (k : Fin 1024) (p : Fin 4096) (hp : p.val = 256 * t.val + r.val) :
    block (Gen.iblk m c 0 t) (Gen.iblk m c 1 t) (Gen.iblk m c 2 t) (Gen.iblk m c 3 t) (Gen.iblk m c 4 t) (ix2 r k)
      = gated (m ((c : Thread nD τ).loc main_arg0)) (m ((c : Thread nD τ).loc main_arg1)) (m ((c : Thread nD τ).loc main_arg2)) (matrices m c) (biases m c) (ix2 p k) := by
  have ht := Nat.lt_of_lt_of_eq t.isLt N16
  have hr := r.isLt
  have hv : (fun s : Fin 128 => Gate.norm1 (fun j => Gate.act1 (Gen.iblk m c 0 t (ix2 (⟨128 * (r.val / 128) + s.val, by omega⟩ : Fin 256) (⟨1024 + j.val, by omega⟩ : Fin 2048))))
        (Gen.iblk m c 1 t (ix2 0 k)) (Gen.iblk m c 2 t (ix2 0 k)) k)
      = fun s : Fin 128 => Gate.norm1 (fun j => Gate.act1 (m ((c : Thread nD τ).loc main_arg0) (ix2 (⟨128 * (p.val / 128) + s.val, by omega⟩ : Fin 4096) (⟨1024 + j.val, by omega⟩ : Fin 2048))))
        (m ((c : Thread nD τ).loc main_arg1) (ix2 0 k)) (m ((c : Thread nD τ).loc main_arg2) (ix2 0 k)) k := by
    funext s
    have e : (fun j : Fin 1024 => Gate.act1 (Gen.iblk m c 0 t (ix2 (⟨128 * (r.val / 128) + s.val, by omega⟩ : Fin 256) (⟨1024 + j.val, by omega⟩ : Fin 2048))))
        = fun j : Fin 1024 => Gate.act1 (m ((c : Thread nD τ).loc main_arg0) (ix2 (⟨128 * (p.val / 128) + s.val, by omega⟩ : Fin 4096) (⟨1024 + j.val, by omega⟩ : Fin 2048))) :=
      funext fun j => congrArg Gate.act1 ((iblk0 m c t _ _).trans (Mm.at2 _ (by show 256 * t.val + (128 * (r.val / 128) + s.val) = 128 * (p.val / 128) + s.val; omega) rfl))
    rw [e, iblk1, iblk2]
  have hw : ∀ (h : Fin 16) (x s : Fin 128), ofPairs (Gen.iblk m c 3 t) h x s = matrices m c (ix3 h x s) := fun h x s =>
    (iblk3 m c t _ _ _).trans (arrW_at m c h x s)
  unfold block gated gatedOf
  refine congrArg₂ (fun u v : EReal => u * v) (congrArg Gate.act1 ((iblk0 m c t _ _).trans (Mm.at2 _ hp.symm rfl)))
    (congrArg₂ (fun u v : EReal => u + v) (Finset.sum_congr rfl fun s _ => congrArg₂ (fun u v : EReal => u * v) ((hw _ _ _).trans (Mm.at3 _ rfl ?_ rfl)) (congrFun hv s))
      ((iblk4 m c t _ _).trans ((congrFun (arrB_eq m c) _).trans (Mm.at2 _ ?_ rfl))))
  all_goals
    show r.val % 128 = p.val % 128
    omega

theorem result_eq : ((Gen.dats m 0 c).arrAt 5 cfg0.N : S4096x1024.Idx → EReal)
    = gated (m ((c : Thread nD τ).loc main_arg0)) (m ((c : Thread nD τ).loc main_arg1)) (m ((c : Thread nD τ).loc main_arg2)) (matrices m c) (biases m c) := by
  refine (Gen.dats m 0 c).arrAt_eq_of_cover 5 _ (fun t _ => ?_) covered
  rw [flushed5]
  funext y
  have hb0 : (((cfg0.win 5).blk t).view.emb y 0).val = win0_5.index t (0 : Fin 2) * 256 + 1 * (y 0).val := rfl
  have hb1 : (((cfg0.win 5).blk t).view.emb y 1).val = win0_5.index t (1 : Fin 2) * 1024 + 1 * (y 1).val := rfl
  have q0 : win0_5.index t (0 : Fin 2) = t.val := congrFun (idx_facts t).2.2.2.2.2 0
  have q1 : win0_5.index t (1 : Fin 2) = 0 := congrFun (idx_facts t).2.2.2.2.2 1
  have ht := Nat.lt_of_lt_of_eq t.isLt N16
  have y0 : (y 0).val < 256 := (y 0).isLt
  have y1 : (y 1).val < 1024 := (y 1).isLt
  refine (out _ _ _ _ _ ((cfg0.win 5).xinj (grid0.coords t) y)).trans ?_
  have el : (cfg0.win 5).xinj (grid0.coords t) y = (ix2 ⟨(y 0).val, y0⟩ ⟨(y 1).val, y1⟩ : S256x1024.Idx) := Tile.eq_ix2_of _ _ _ rfl rfl
  have er : ((cfg0.win 5).blk t).view.emb y = (ix2 ⟨256 * t.val + (y 0).val, by omega⟩ ⟨(y 1).val, y1⟩ : S4096x1024.Idx) := Tile.eq_ix2_of _ _ _
    (by rw [hb0, q0]; show t.val * 256 + 1 * (y 0).val = 256 * t.val + (y 0).val; omega) (by rw [hb1, q1]; show 0 * 1024 + 1 * (y 1).val = (y 1).val; omega)
  refine (congrArg (block _ _ _ _ _) el).trans ((block_at m c t ⟨(y 0).val, y0⟩ ⟨(y 1).val, y1⟩ ⟨256 * t.val + (y 0).val, by omega⟩ rfl).trans ?_)
  exact (congrArg (gated _ _ _ _ _) er).symm

/-! ## The reference -/

section
open Cert.GatedRefIdeal.Read
variable (u : S4096x2048.Idx → EReal) (g b : S1x1024.Idx → EReal) (w : S16x128x128.Idx → EReal) (bs : S16x128.Idx → EReal)

theorem same19 : (val_main_v19 (F := Ideal) u : S4096x1024.Idx → EReal) = Cert.SpatialRefIdeal.Read.val_main_v19 (F := Ideal) u := rfl
theorem same42 : (val_main_v42 (F := Ideal) u g b : S4096x1024.Idx → EReal) = Cert.SpatialRefIdeal.Read.val_main_v42 (F := Ideal) u g b := rfl

/-- The normalised rows of chunk `i`. -/
theorem refRows (i : Fin 32) (s : Fin 128) (k : Fin 1024) (j : Cert.GatedRefIdeal.S32x128x16x64.Idx)
    (e0 : (j 0).val = i.val) (e1 : (j 1).val = s.val) (e2 : (j 2).val = k.val / 64) (e3 : (j 3).val = k.val % 64) :
    (val_main_v43 (F := Ideal) u g b j : EReal)
      = Gate.norm1 (fun x => Gate.act1 (u (ix2 ⟨128 * i.val + s.val, by omega⟩ ⟨1024 + x.val, by omega⟩))) (g (ix2 0 k)) (b (ix2 0 k)) k := by
  rw [val_main_v43_apply, Tile.eq_ix2_of (idx_main_v43 j) (⟨128 * i.val + s.val, by omega⟩ : Fin 4096) k
    (by show ((((j 0).val * 128 + (j 1).val) * 16 + (j 2).val) * 64 + (j 3).val) / 1024 = 128 * i.val + s.val; omega)
    (by show ((((j 0).val * 128 + (j 1).val) * 16 + (j 2).val) * 64 + (j 3).val) % 1024 = k.val; omega), same42]
  exact Cert.SpatialIdeal.Value.refNorm u g b _ _

/-- The mixed rows. -/
theorem refMixed (i : Fin 32) (r : Fin 128) (k : Fin 1024) (j : Cert.GatedRefIdeal.S32x128x1024.Idx)
    (e0 : (j 0).val = i.val) (e1 : (j 1).val = r.val) (e2 : (j 2).val = k.val) :
    (val_main_v46 (F := Ideal) u g b w j : EReal)
      = ∑ s : Fin 128, val_main_v2 (F := Ideal) w (ix3 (⟨k.val / 64, by omega⟩ : Fin 16) r s)
        * Gate.norm1 (fun x => Gate.act1 (u (ix2 ⟨128 * i.val + s.val, by omega⟩ ⟨1024 + x.val, by omega⟩))) (g (ix2 0 k)) (b (ix2 0 k)) k := by
  rw [val_main_v46_apply, val_main_v45_apply, val_main_v44_apply]
  refine Finset.sum_congr rfl fun s _ => ?_
  have hr := r.isLt
  have hk := k.isLt
  have hi := i.isLt
  refine (congrArg₂ (fun a b : EReal => a * b) (refRows u g b i s k _ ?_ rfl ?_ ?_) (congrArg (val_main_v2 (F := Ideal) w) ?_)).trans (mul_comm _ _)
  · show (((j 0).val * 128 + (j 1).val) * 1024 + (j 2).val) / 131072 = i.val
    omega
  · show (((j 0).val * 128 + (j 1).val) * 1024 + (j 2).val) / 64 % 16 = k.val / 64
    omega
  · show (((j 0).val * 128 + (j 1).val) * 1024 + (j 2).val) % 64 = k.val % 64
    omega
  · refine funext fun a => Fin.ext ?_
    match a with
    | ⟨0, _⟩ =>
      show (((j 0).val * 128 + (j 1).val) * 1024 + (j 2).val) / 64 % 16 = k.val / 64
      omega
    | ⟨1, _⟩ =>
      show (((j 0).val * 128 + (j 1).val) * 1024 + (j 2).val) / 1024 % 128 = r.val
      omega
    | ⟨2, _⟩ => rfl

/-- The reference, read as the gated rows. -/
theorem reference_eq : (val_main_v52 (F := Ideal) u g b w bs : S4096x1024.Idx → EReal)
    = gated u g b (val_main_v2 (F := Ideal) w) (val_main_v5 (F := Ideal) bs) := by
  funext y
  obtain ⟨p, k, rfl⟩ : ∃ p k, y = ix2 p k := ⟨y 0, y 1, ValueIdx.eq_ix2 y⟩
  have hp := p.isLt
  have hk := k.isLt
  have c0 : ((idx_main_v50 (ix2 p k)) 0).val = p.val / 128 := by
    show (p.val * 1024 + k.val) / 131072 = p.val / 128
    omega
  have c1 : ((idx_main_v50 (ix2 p k)) 1).val = p.val % 128 := by
    show (p.val * 1024 + k.val) / 1024 % 128 = p.val % 128
    omega
  have c2 : ((idx_main_v50 (ix2 p k)) 2).val = k.val := by
    show (p.val * 1024 + k.val) % 1024 = k.val
    omega
  have e : (val_main_v52 (F := Ideal) u g b w bs (ix2 p k) : EReal) = val_main_v19 (F := Ideal) u (ix2 p k) * val_main_v50 (F := Ideal) u g b w bs (ix2 p k) := rfl
  rw [e, same19, val_main_v50_apply, val_main_v49_apply, val_main_v48_apply, val_main_v47_apply]
  exact congrArg₂ (fun a b : EReal => a * b) (Cert.SpatialIdeal.Value.refFirst u p k) (congrArg₂ (fun a b : EReal => a + b)
    (refMixed u g b w (⟨p.val / 128, by omega⟩ : Fin 32) (⟨p.val % 128, by omega⟩ : Fin 128) k _ c0 c1 c2)
    (congrArg (val_main_v5 (F := Ideal) bs) (Tile.eq_ix2_of _ (⟨p.val % 128, by omega⟩ : Fin 128) k c1 c2)))
end

end Cert.GatedIdeal.Value

namespace Cert.Proof
open Idealize.ShloMosaic Idealize.SL.Sem Idealize.ShloMosaic.StableHlo

theorem frame_GatedRef : quiescent_GatedRefIdeal := fun m ρ _ =>
  (θ_run Cert.GatedRefIdeal.defs _ _).mono (fun r h => ⟨fun c => (h c).2, sem_eq_zero_of_no_sems (by decide) r.2⟩)
    (Cert.GatedRefIdeal.Value.run (F := Ideal) m ρ)

theorem algebraic_Gated : algebraic_GatedIdeal_GatedRefIdeal := by
  intro m ρ m' ρ' _ hagree
  refine ⟨_, Cert.GatedIdeal.Value.run_blocks (F := Ideal) m ρ, ?_⟩
  refine (θ_run Cert.GatedRefIdeal.defs _ _).mono (fun _ h c => ⟨?_, (h c).2⟩) (Cert.GatedRefIdeal.Value.run (F := Ideal) m' ρ')
  obtain ⟨e0, e1, e2, e3, e4⟩ := hagree c
  refine ((h c).1.trans (Cert.GatedRefIdeal.Read.val_main_v52_eq (F := Ideal) _ _)).trans ?_
  rw [e0, e1, e2, e3, e4]
  exact (Cert.GatedIdeal.Value.reference_eq _ _ _ _ _).trans (Cert.GatedIdeal.Value.result_eq m c).symm

end Cert.Proof
-- ==== Proof.AIn.lean ====
module

public import proofs.«01_k».proof.Defs
public import proofs.«01_k».proof.Proof.Gen.AInIdeal.Value
public import proofs.«01_k».proof.Proof.Gen.AInRefIdeal.Run
public import proofs.«01_k».proof.Proof.Gen.AInRefIdeal.Read
public import Idealize.ShloMosaic.Lib.StableHlo.ReadAt
public import Idealize.ShloMosaic.Adequacy
public import Idealize.ShloMosaic.Init
public import Idealize.ShloMosaic.Lib.Quiescent
public import proofs.«01_k».proof.Proof.Hidden

/-! # The gated layer's input projection -/

@[expose] public section
set_option maxRecDepth 16384
noncomputable section
namespace Cert.AInIdeal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

theorem N8 : cfg0.N = 8 := by decide +kernel

/-- The bias on every row of a block. -/
theorem bias_at (C : Vec Ideal S1x512 .f32) (h) (x : S256x512.Idx) : broadcastTo S256x512 C h x = C (ix2 0 (x 1)) :=
  congrArg C (Tile.eq_ix2_of _ _ _ rfl rfl)

/-- What a step stores. -/
theorem out (A : Vec Ideal S2048x1024 .bf16) (B : Vec Ideal S1x1024x512 .bf16) (C : Vec Ideal S1x512 .f32) (y : S2048x512.Idx) :
    (Gen.out0_3 A B C y : EReal) = Mm.nn (K := 1024) (M := 2048) (N := 512) A B y + C (ix2 0 (y 1)) := by
  unfold Gen.out0_3
  have w : View.ld B Gen.r0_1 = B := View.ld_unit_zero (funext fun a => match a with | ⟨0, _⟩ => rfl | ⟨1, _⟩ => rfl | ⟨2, _⟩ => rfl) _ _
  have w2 : View.ld C Gen.r0_2 = C := View.ld_unit_zero (funext fun a => match a with | ⟨0, _⟩ => rfl | ⟨1, _⟩ => rfl) _ _
  rw [w, w2]
  refine Tile.canon_all (Val := Elt Ideal) (s := S2048x512) (e := .f32) (fun y => Mm.nn (K := 1024) (M := 2048) (N := 512) A B y + C (ix2 0 (y 1))) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, shapeCast_self]
      exact congrArg₂ (fun a b : EReal => a + b) (Mm.piece_nn _ _ _ _ _ _ _ x) ((bias_at C _ x).trans (congrArg (fun j => (C (ix2 0 j) : EReal)) (Mm.box_col' (M := 2048) (N := 512) _ _ x).symm))
  · exact View.cover_of_tiledBy _ ![256, 512] (by sl_kernel_rfl)

/-- The layer's rows and the weight in four slabs of columns, as the call is given them. -/
def arrH : S4096x1024.Idx → EReal := Gen.V m c main_v0
def arrW : S4x1024x512.Idx → EReal := Gen.V m c main_v3

theorem idx_facts : ∀ t : Fin cfg0.N, win0_0.index t = ![t.val / 4, 0] ∧ win0_1.index t = ![t.val % 4, 0, 0] ∧ win0_3.index t = ![t.val / 4, t.val % 4] ∧ win0_2.index t = ![0, t.val % 4] := by
  decide +kernel

theorem iblk0 (r : Fin 2048) (k : Fin 1024) : (Gen.iblk m c 0 t (ix2 r k) : EReal)
    = arrH m c (ix2 ⟨2048 * (t.val / 4) + r.val, by have := Nat.lt_of_lt_of_eq t.isLt N8; omega⟩ k) := by
  blk_ext [Gen.iblk, arrH, (idx_facts t).1]
  exact congrArg (· + r.val) (Nat.mul_comm _ _)
theorem iblk1 (k : Fin 1024) (r : Fin 512) : (Gen.iblk m c 1 t (ix3 0 k r) : EReal) = arrW m c (ix3 ⟨t.val % 4, by omega⟩ k r) := by
  blk_ext [Gen.iblk, arrW, (idx_facts t).2.1]

theorem iblk2 (r : Fin 512) : (Gen.iblk m c 2 t (ix2 0 r) : EReal) = m ((c : Thread nD τ).loc main_arg2) (ix2 0 ⟨512 * (t.val % 4) + r.val, by omega⟩) := by
  rw [← Gen.V_main_arg2 m c]
  blk_ext [Gen.iblk, (idx_facts t).2.2.2]
  exact congrArg (· + r.val) (Nat.mul_comm _ _)

theorem arrH_eq : arrH m c = m ((c : Thread nD τ).loc main_arg0) := by
  unfold arrH Gen.V
  after_reads_simp
  rfl
/-- The weight's slabs are its blocks of columns. -/
theorem arrW_at (s : Fin 4) (r : Fin 1024) (k : Fin 512) :
    arrW m c (ix3 s r k) = m ((c : Thread nD τ).loc main_arg1) (ix2 r ⟨512 * s.val + k.val, by omega⟩) := by
  have e : arrW m c = transpose S4x1024x512 [1, 0, 2] (shapeCast S1024x4x512 (m ((c : Thread nD τ).loc main_arg1)) Gen.shapeCasts_S1024x2048_S1024x4x512)
      Gen.transposes_S1024x4x512_S4x1024x512_1_0_2 := by
    unfold arrW Gen.V
    after_reads_simp
    rfl
  rw [e]
  exact Mm.slabs_at _ _ _ _ _ _

theorem flush_all : ∀ t : Fin cfg0.N, (cfg0.win 3).flush t = true := by decide +kernel

theorem mem_blk (i : S4096x2048.Idx) : i ∈ ((cfg0.win 3).blk t).view.set
    ↔ ∀ a : Fin 2, win0_3.index t a * S2048x512.size a ≤ (i a).val ∧ (i a).val < win0_3.index t a * S2048x512.size a + S2048x512.size a := by
  show i ∈ ((View.whole main_v4).slice (win0_3.rect t)).set ↔ _
  rw [View.set_slice_whole, Rect.mem_set_unit]
  exact Iff.rfl

theorem covered (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  refine ⟨⟨4 * ((i 0).val / 2048) + (i 1).val / 512, by rw [N8]; omega⟩, flush_all _, ?_⟩
  rw [mem_blk]
  have e := (idx_facts ⟨4 * ((i 0).val / 2048) + (i 1).val / 512, by rw [N8]; omega⟩).2.2.1
  have q0 := congrFun e 0
  have q1 := congrFun e 1
  intro a
  match a with
  | ⟨0, _⟩ =>
    show win0_3.index _ (0 : Fin 2) * 2048 ≤ (i 0).val ∧ (i 0).val < win0_3.index _ (0 : Fin 2) * 2048 + 2048
    rw [q0]
    show (4 * ((i 0).val / 2048) + (i 1).val / 512) / 4 * 2048 ≤ _ ∧ _ < (4 * ((i 0).val / 2048) + (i 1).val / 512) / 4 * 2048 + 2048
    omega
  | ⟨1, _⟩ =>
    show win0_3.index _ (1 : Fin 2) * 512 ≤ (i 1).val ∧ (i 1).val < win0_3.index _ (1 : Fin 2) * 512 + 512
    rw [q1]
    show (4 * ((i 0).val / 2048) + (i 1).val / 512) % 4 * 512 ≤ _ ∧ _ < (4 * ((i 0).val / 2048) + (i 1).val / 512) % 4 * 512 + 512
    omega

/-- The rows times the weight, with the bias added. -/
def projected (h : S4096x1024.Idx → EReal) (w : S1024x2048.Idx → EReal) (b : S1x2048.Idx → EReal) (y : S4096x2048.Idx) : EReal :=
  (∑ k : Fin 1024, h (ix2 (y 0) k) * w (ix2 k (y 1))) + b (ix2 0 (y 1))

/-- The result: the gated layer's input projection. -/
theorem result_eq : ((Gen.dats m 0 c).arrAt 3 cfg0.N : S4096x2048.Idx → EReal)
    = projected (m ((c : Thread nD τ).loc main_arg0)) (m ((c : Thread nD τ).loc main_arg1)) (m ((c : Thread nD τ).loc main_arg2)) := by
  refine (Gen.dats m 0 c).arrAt_eq_of_cover 3 _ (fun t _ => ?_) covered
  rw [flushed3]
  funext y
  have hb0 : (((cfg0.win 3).blk t).view.emb y 0).val = win0_3.index t (0 : Fin 2) * 2048 + 1 * (y 0).val := rfl
  have hb1 : (((cfg0.win 3).blk t).view.emb y 1).val = win0_3.index t (1 : Fin 2) * 512 + 1 * (y 1).val := rfl
  have q0 : win0_3.index t (0 : Fin 2) = t.val / 4 := congrFun (idx_facts t).2.2.1 0
  have q1 : win0_3.index t (1 : Fin 2) = t.val % 4 := congrFun (idx_facts t).2.2.1 1
  have x0 : ((cfg0.win 3).xinj (grid0.coords t) y 0).val = (y 0).val := rfl
  have x1 : ((cfg0.win 3).xinj (grid0.coords t) y 1).val = (y 1).val := rfl
  show (Gen.out0_3 (Gen.iblk m c 0 t) (Gen.iblk m c 1 t) (Gen.iblk m c 2 t) ((cfg0.win 3).xinj (grid0.coords t) y) : EReal)
    = projected _ _ _ (((cfg0.win 3).blk t).view.emb y)
  refine (out _ _ _ _).trans (congrArg₂ (fun a b : EReal => a + b) (Finset.sum_congr rfl fun k _ => ?_) ((iblk2 m c t _).trans (Mm.at2 _ rfl ?_)))
  · refine congrArg₂ (fun a b : EReal => a * b) (((iblk0 m c t _ _).trans (congrFun (arrH_eq m c) _)).trans (Mm.at2 _ ?_ ?_))
      (((iblk1 m c t _ _).trans (arrW_at m c _ _ _)).trans (Mm.at2 _ ?_ ?_))
    all_goals
      simp only [hb0, hb1, q0, q1, x0, x1]
      try omega
  · simp only [hb1, q1, x1]
    omega

/-- The reference, read as that sum. -/
theorem reference_eq (h : S4096x1024.Idx → EReal) (w : S1024x2048.Idx → EReal) (b : S1x2048.Idx → EReal) :
    (Cert.AInRefIdeal.Read.val_main_v2 (F := Ideal) h w b : S4096x2048.Idx → EReal) = projected h w b := by
  funext y
  rw [Cert.AInRefIdeal.Read.val_main_v2_apply, Cert.AInRefIdeal.Read.val_main_v1_apply]
  refine congrArg₂ (fun a b : EReal => a + b) ((Cert.AInRefIdeal.Read.val_main_v0_apply h w _).trans (Finset.sum_congr rfl fun k _ => ?_))
    (congrArg b (Tile.eq_ix2_of _ _ _ rfl rfl))
  exact congrArg₂ (fun a b : EReal => a * b) (congrArg h (Tile.eq_ix2_of _ _ _ rfl rfl)) (congrArg w (Tile.eq_ix2_of _ _ _ rfl rfl))

end Cert.AInIdeal.Value

namespace Cert.Proof
open Idealize.ShloMosaic Idealize.SL.Sem Idealize.ShloMosaic.StableHlo

theorem frame_AInRef : quiescent_AInRefIdeal := fun m ρ _ =>
  (θ_run Cert.AInRefIdeal.defs _ _).mono (fun r h => ⟨fun c => (h c).2, sem_eq_zero_of_no_sems (by decide) r.2⟩)
    (Cert.AInRefIdeal.Value.run (F := Ideal) m ρ)

theorem algebraic_AIn : algebraic_AInIdeal_AInRefIdeal := by
  intro m ρ m' ρ' _ hagree
  refine ⟨_, Cert.AInIdeal.Value.run_blocks (F := Ideal) m ρ, ?_⟩
  refine (θ_run Cert.AInRefIdeal.defs _ _).mono (fun _ h c => ⟨?_, (h c).2⟩) (Cert.AInRefIdeal.Value.run (F := Ideal) m' ρ')
  obtain ⟨e0, e1, e2⟩ := hagree c
  refine ((h c).1.trans (Cert.AInRefIdeal.Read.val_main_v2_eq (F := Ideal) _ _ _)).trans ?_
  rw [e0, e1, e2]
  exact (Cert.AInIdeal.Value.reference_eq _ _ _).trans (Cert.AInIdeal.Value.result_eq m c).symm

end Cert.Proof
-- ==== Proof.DAIn.lean ====
module

public import proofs.«01_k».proof.Defs
public import proofs.«01_k».proof.Proof.Gen.DAInIdeal.Value
public import proofs.«01_k».proof.Proof.Gen.DAInRefIdeal.Run
public import proofs.«01_k».proof.Proof.Gen.DAInRefIdeal.Read
public import Idealize.ShloMosaic.Lib.StableHlo.ReadAt
public import Idealize.ShloMosaic.Adequacy
public import Idealize.ShloMosaic.Init
public import Idealize.ShloMosaic.Lib.Quiescent
public import proofs.«01_k».proof.Proof.Hidden

/-! # The gradient of the gated layer's input projection through its rows -/

@[expose] public section
set_option maxRecDepth 16384
noncomputable section
namespace Cert.DAInIdeal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

theorem N8 : cfg0.N = 8 := by decide +kernel

/-- What a step adds. -/
def part (y : S2048x1024.Idx) : EReal := Mm.nt (K := 512) (M := 2048) (N := 1024) (Gen.iblk m c 0 t) (Gen.iblk m c 1 t) y

/-- The first step of a block leaves its product in the accumulator. -/
theorem first (h : t.val % 4 = 0) (y : S2048x1024.Idx) : ((Gen.outsAt0 m c t.val t.isLt).2 y : EReal) = part m c t y := by
  rw [Gen.outsAt0_A m c t h (by omega) (by omega)]
  frame_out
  refine Tile.canon_all (Val := Elt Ideal) (s := S2048x1024) (e := .f32) (part m c t) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, Gen.k0_pay14, Gen.k0_pay15, Gen.k0_pay16, Gen.k0_pay17, Gen.k0_pay18, Gen.k0_pay19, Gen.k0_pay20, Gen.k0_pay21, Gen.k0_pay22, Gen.k0_pay23, Gen.k0_pay24, Gen.k0_pay25, Gen.k0_pay26, Gen.k0_pay27, shapeCast_self]
      exact Mm.piece_nt _ _ _ _ _ _ _ x
  · exact View.cover_of_tiledBy _ ![256, 1024] (by sl_kernel_rfl)

/-- A step between adds its product to the accumulator. -/
theorem mid (h : 1 ≤ t.val % 4 ∧ t.val % 4 ≤ 2) (y : S2048x1024.Idx) : ((Gen.outsAt0 m c t.val t.isLt).2 y : EReal)
    = (Gen.outsAt0 m c (t.val - 1) (by have := t.isLt; omega)).2 y + part m c t y := by
  rw [Gen.outsAt0_B m c t (by omega) h (by omega)]
  frame_out
  refine Tile.canon_all (Val := Elt Ideal) (s := S2048x1024) (e := .f32) (fun y => _ + part m c t y) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, Gen.k0_pay14, Gen.k0_pay15, Gen.k0_pay16, Gen.k0_pay17, Gen.k0_pay18, Gen.k0_pay19, Gen.k0_pay20, Gen.k0_pay21, Gen.k0_pay22, Gen.k0_pay23, Gen.k0_pay24, Gen.k0_pay25, Gen.k0_pay26, Gen.k0_pay27, shapeCast_self]
      refine congrArg₂ (fun a b : EReal => a + b) ?_ (Mm.piece_nt _ _ _ _ _ _ _ x)
      rw [read_unread_whole]
      rfl
  · exact View.cover_of_tiledBy _ ![256, 1024] (by sl_kernel_rfl)

/-- The last step adds its product and stores the sum. -/
theorem last (h : t.val % 4 = 3) (y : S2048x1024.Idx) : ((Gen.outsAt0 m c t.val t.isLt).1 y : EReal)
    = (Gen.outsAt0 m c (t.val - 1) (by have := t.isLt; omega)).2 y + part m c t y := by
  rw [Gen.outsAt0_C m c t (by omega) (by omega) h]
  frame_out
  refine Tile.canon_all (Val := Elt Ideal) (s := S2048x1024) (e := .f32) (fun y => _ + part m c t y) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, Gen.k0_pay14, Gen.k0_pay15, Gen.k0_pay16, Gen.k0_pay17, Gen.k0_pay18, Gen.k0_pay19, Gen.k0_pay20, Gen.k0_pay21, Gen.k0_pay22, Gen.k0_pay23, Gen.k0_pay24, Gen.k0_pay25, Gen.k0_pay26, Gen.k0_pay27, shapeCast_self]
      refine congrArg₂ (fun a b : EReal => a + b) ?_ (Mm.piece_nt _ _ _ _ _ _ _ x)
      rw [read_unread_whole]
      rfl
  · exact View.cover_of_tiledBy _ ![256, 1024] (by sl_kernel_rfl)

/-- The projection's gradient and the weight in four slabs of columns, as the call is given them. -/
def arrDy : S4096x2048.Idx → EReal := Gen.V m c main_arg2
def arrW : S4x1024x512.Idx → EReal := Gen.V m c main_v2

theorem idx_facts : ∀ t : Fin cfg0.N, win0_0.index t = ![t.val / 4, t.val % 4] ∧ win0_1.index t = ![t.val % 4, 0, 0] := by decide +kernel

theorem iblk0 (r : Fin 2048) (k : Fin 512) : (Gen.iblk m c 0 t (ix2 r k) : EReal)
    = arrDy m c (ix2 ⟨2048 * (t.val / 4) + r.val, by have := Nat.lt_of_lt_of_eq t.isLt N8; omega⟩ ⟨512 * (t.val % 4) + k.val, by omega⟩) := by
  blk_ext [Gen.iblk, arrDy, (idx_facts t).1]
  · exact congrArg (· + r.val) (Nat.mul_comm _ _)
  · exact congrArg (· + k.val) (Nat.mul_comm _ _)
theorem iblk1 (r : Fin 1024) (k : Fin 512) : (Gen.iblk m c 1 t (ix3 0 r k) : EReal) = arrW m c (ix3 ⟨t.val % 4, by omega⟩ r k) := by
  blk_ext [Gen.iblk, arrW, (idx_facts t).2]

/-- The weight's slabs are its blocks of columns. -/
theorem arrW_at (s : Fin 4) (r : Fin 1024) (k : Fin 512) :
    arrW m c (ix3 s r k) = m ((c : Thread nD τ).loc main_arg1) (ix2 r ⟨512 * s.val + k.val, by omega⟩) := by
  have e : arrW m c = transpose S4x1024x512 [1, 0, 2] (shapeCast S1024x4x512 (m ((c : Thread nD τ).loc main_arg1)) Gen.shapeCasts_S1024x2048_S1024x4x512)
      Gen.transposes_S1024x4x512_S4x1024x512_1_0_2 := by
    unfold arrW Gen.V
    after_reads_simp
    rfl
  rw [e]
  exact Mm.slabs_at _ _ _ _ _ _

/-- The result at an index: the whole contraction. -/
theorem result_eq : (G2 m c : S4096x1024.Idx → EReal)
    = fun y => ∑ k : Fin 2048, arrDy m c (ix2 (y 0) k) * m ((c : Thread nD τ).loc main_arg1) (ix2 (y 1) k) := by
  funext y
  have b0 : (y 0).val < 4096 := (y 0).isLt
  have b1 : (y 1).val < 1024 := (y 1).isLt
  have hp : pt2Of y = 4 * ((y 0).val / 2048) + 3 := by
    show 4 * (1 * ((y 0).val / 2048 - 0) + 1 * ((y 1).val / 1024 - 0)) + 3 = _
    omega
  have hN : pt2Of y < cfg0.N := by rw [hp, N8]; omega
  have h0 : (loc2Of y 0).val = (y 0).val % 2048 := rfl
  have h1 : (loc2Of y 1).val = (y 1).val % 1024 := rfl
  have v3 : (3 : Fin 4).val = 3 := rfl
  unfold G2
  rw [dif_pos hN, ← outsAt0_sweep m c _ hN]
  have e := last m c ⟨_, hN⟩ (by dsimp only; omega) (loc2Of y)
  rw [mid m c ⟨_, by dsimp only; omega⟩ (by dsimp only; omega), mid m c ⟨_, by dsimp only; omega⟩ (by dsimp only; omega),
    first m c ⟨_, by dsimp only; omega⟩ (by dsimp only; omega)] at e
  refine e.trans ?_
  unfold part Mm.nt
  refine Eq.trans ?_ (Tile.sum_blocks 4 512 (fun k : Fin 2048 => arrDy m c (ix2 (y 0) k) * m ((c : Thread nD τ).loc main_arg1) (ix2 (y 1) k))).symm
  rw [Fin.sum_univ_four]
  refine congrArg₂ (fun a b : EReal => a + b) (congrArg₂ (fun a b : EReal => a + b) (congrArg₂ (fun a b : EReal => a + b)
    (Finset.sum_congr rfl fun k _ => ?_) (Finset.sum_congr rfl fun k _ => ?_)) (Finset.sum_congr rfl fun k _ => ?_)) (Finset.sum_congr rfl fun k _ => ?_)
  all_goals
    refine congrArg₂ (fun a b : EReal => a * b) ((iblk0 m c _ _ _).trans (Mm.at2 _ ?_ ?_)) (((iblk1 m c _ _ _).trans (arrW_at m c _ _ _)).trans (Mm.at2 _ ?_ ?_))
    all_goals
      simp only [hp, h0, h1, Fin.val_zero, Fin.val_one, Fin.val_two, v3]
      omega

/-- The derivative of the product, read as one contraction. -/
theorem reference_eq (w : S1024x2048.Idx → EReal) (dy : S4096x2048.Idx → EReal) (y : S4096x1024.Idx) :
    (Cert.DAInRefIdeal.Read.val_main_v2 (F := Ideal) w dy y : EReal) = ∑ k : Fin 2048, dy (ix2 (y 0) k) * w (ix2 (y 1) k) :=
  (Cert.DAInRefIdeal.Read.val_main_v2_apply w dy y).trans (Finset.sum_congr rfl fun k _ =>
    congrArg₂ (fun a b : EReal => a * b) (congrArg dy (Tile.eq_ix2_of _ _ _ rfl rfl)) (congrArg w (Tile.eq_ix2_of _ _ _ rfl rfl)))

end Cert.DAInIdeal.Value

namespace Cert.Proof
open Idealize.ShloMosaic Idealize.SL.Sem Idealize.ShloMosaic.StableHlo

theorem frame_DAInRef : quiescent_DAInRefIdeal := fun m ρ _ =>
  (θ_run Cert.DAInRefIdeal.defs _ _).mono (fun r h => ⟨fun c => (h c).2, sem_eq_zero_of_no_sems (by decide) r.2⟩)
    (Cert.DAInRefIdeal.Value.run (F := Ideal) m ρ)

theorem algebraic_DAIn : algebraic_DAInIdeal_DAInRefIdeal := by
  intro m ρ m' ρ' _ hagree
  refine ⟨_, Cert.DAInIdeal.Value.run (F := Ideal) m ρ, ?_⟩
  refine (θ_run Cert.DAInRefIdeal.defs _ _).mono (fun _ h c => ⟨?_, (h c).2⟩) (Cert.DAInRefIdeal.Value.run (F := Ideal) m' ρ')
  obtain ⟨-, e1, e2⟩ := hagree c
  refine ((h c).1.trans (Cert.DAInRefIdeal.Read.val_main_v2_eq (F := Ideal) _ _)).trans ?_
  rw [e1, e2]
  refine (funext (Cert.DAInIdeal.Value.reference_eq _ _)).trans ?_
  refine Eq.trans ?_ (Cert.DAInIdeal.Value.result_eq m c).symm
  unfold Cert.DAInIdeal.Value.arrDy
  rw [Cert.DAInIdeal.Gen.V_main_arg2]
  rfl

end Cert.Proof
-- ==== Proof.GAIn.lean ====
module

public import proofs.«01_k».proof.Defs
public import proofs.«01_k».proof.Proof.Gen.GAInIdeal.Value
public import proofs.«01_k».proof.Proof.Gen.GAInRefIdeal.Run
public import proofs.«01_k».proof.Proof.Gen.GAInRefIdeal.Read
public import Idealize.ShloMosaic.Lib.StableHlo.ReadAt
public import Idealize.ShloMosaic.Adequacy
public import Idealize.ShloMosaic.Init
public import Idealize.ShloMosaic.Lib.Quiescent
public import proofs.«01_k».proof.Proof.Mm

/-! # The gradient of the gated layer's input weight -/

@[expose] public section
set_option maxRecDepth 16384
noncomputable section
namespace Cert.GAInIdeal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

/-- The first step of a block leaves its product in the accumulator. -/
theorem first (h : t.val % 2 = 0) (y : S1024x1024.Idx) :
    ((Gen.outsAt0 m c t.val t.isLt).2 y : EReal) = Mm.tn (K := 2048) (M := 1024) (N := 1024) (Gen.iblk m c 0 t) (Gen.iblk m c 1 t) y := by
  rw [Gen.outsAt0_A m c t h (by omega)]
  frame_out
  refine Tile.canon_all (Val := Elt Ideal) (s := S1024x1024) (e := .f32) (Mm.tn (K := 2048) (M := 1024) (N := 1024) _ _) _ ?_ ?_ y
  · repeat' (first | exact Tile.pieces_nil _ | refine Tile.pieces_cons _ _ _ ?_ ?_)
    all_goals
      intro x
      simp only [Gen.k0_pay3, Gen.k0_pay4, Gen.k0_pay5, Gen.k0_pay6, shapeCast_self]
      exact Mm.piece_tn _ _ _ _ _ _ x
  · exact View.cover_of_tiledBy _ ![256, 1024] (by sl_kernel_rfl)

/-- The last step adds its product and stores the sum. -/
theorem last (h : t.val % 2 = 1) (y : S1024x1024.Idx) :
    ((Gen.outsAt0 m c t.val t.isLt).1 y : EReal)
      = (Gen.outsAt0 m c (t.val - 1) (by have := t.isLt; omega)).2 y + Mm.tn (K := 2048) (M := 1024) (N := 1024) (Gen.iblk m c 0 t) (Gen.iblk m c 1 t) y := by
  rw [Gen.outsAt0_B m c t (by omega) h]
  frame_out
  refine Tile.canon_all (Val := Elt Ideal) (s := S1024x1024) (e := .bf16)
    (fun y => _ + Mm.tn (K := 2048) (M := 1024) (N := 1024) _ _ y) _ ?_ ?_ y
  · repeat' (first | exact Tile.pieces_nil _ | refine Tile.pieces_cons _ _ _ ?_ ?_)
    all_goals
      intro x
      simp only [Gen.k0_pay2, Gen.k0_pay10, Gen.k0_pay11, Gen.k0_pay12, shapeCast_self]
      refine congrArg₂ (fun a b : EReal => a + b) ?_ (Mm.piece_tn _ _ _ _ _ _ x)
      rw [read_unread_whole]
      rfl
  · exact View.cover_of_tiledBy _ ![256, 1024] (by sl_kernel_rfl)

/-- The layer's rows and the projection's gradient, as the call is given them. -/
def arrH : S4096x1024.Idx → EReal := Gen.V m c main_v0
def arrDy : S4096x2048.Idx → EReal := Gen.V m c main_arg2

theorem idx_facts : ∀ t : Fin cfg0.N, win0_0.index t = ![t.val % 2, 0] ∧ win0_1.index t = ![t.val % 2, t.val / 2] := by decide +kernel
theorem N4 : cfg0.N = 4 := by decide +kernel

theorem iblk0 (k : Fin 2048) (r : Fin 1024) : (Gen.iblk m c 0 t (ix2 k r) : EReal)
    = arrH m c (ix2 ⟨2048 * (t.val % 2) + k.val, by omega⟩ r) := by
  blk_ext [Gen.iblk, arrH, (idx_facts t).1]
  exact congrArg (· + k.val) (Nat.mul_comm _ _)
theorem iblk1 (k : Fin 2048) (r : Fin 1024) : (Gen.iblk m c 1 t (ix2 k r) : EReal)
    = arrDy m c (ix2 ⟨2048 * (t.val % 2) + k.val, by omega⟩ ⟨1024 * (t.val / 2) + r.val, by have := Nat.lt_of_lt_of_eq t.isLt N4; omega⟩) := by
  blk_ext [Gen.iblk, arrDy, (idx_facts t).2]
  · exact congrArg (· + k.val) (Nat.mul_comm _ _)
  · exact congrArg (· + r.val) (Nat.mul_comm _ _)

/-- The result at an index: the whole contraction. -/
theorem result_eq : (G2 m c : S1024x2048.Idx → EReal) = Mm.tn (K := 4096) (M := 1024) (N := 2048) (arrH m c) (arrDy m c) := by
  funext y
  have b0 : (y 0).val < 1024 := (y 0).isLt
  have b1 : (y 1).val < 2048 := (y 1).isLt
  have hp : pt2Of y = 2 * ((y 1).val / 1024) + 1 := by
    show 2 * (2 * ((y 0).val / 1024 - 0) + 1 * ((y 1).val / 1024 - 0)) + 1 = _
    omega
  have hN : pt2Of y < cfg0.N := by rw [hp, N4]; omega
  have h0 : (loc2Of y 0).val = (y 0).val % 1024 := rfl
  have h1 : (loc2Of y 1).val = (y 1).val % 1024 := rfl
  unfold G2
  rw [dif_pos hN, ← outsAt0_sweep m c _ hN]
  have e := last m c ⟨_, hN⟩ (by dsimp only; omega) (loc2Of y)
  rw [first m c ⟨_, by dsimp only; omega⟩ (by dsimp only; omega)] at e
  refine e.trans ?_
  unfold Mm.tn
  refine Eq.trans ?_ (Tile.sum_blocks 2 2048 (fun k : Fin 4096 => arrH m c (ix2 k (y 0)) * arrDy m c (ix2 k (y 1)))).symm
  rw [Fin.sum_univ_two]
  refine congrArg₂ (fun a b : EReal => a + b) (Finset.sum_congr rfl fun k _ => ?_) (Finset.sum_congr rfl fun k _ => ?_)
  all_goals
    refine congrArg₂ (fun a b : EReal => a * b) ((iblk0 m c _ _ _).trans (Mm.at2 _ ?_ ?_)) ((iblk1 m c _ _ _).trans (Mm.at2 _ ?_ ?_))
    all_goals
      simp only [hp, h0, h1, Fin.val_zero, Fin.val_one]
      omega

theorem arrH_eq : arrH m c = m ((c : Thread nD τ).loc main_arg0) := by
  unfold arrH Gen.V
  after_reads_simp
  rfl

/-- The derivative of the product, read as one contraction. -/
theorem reference_eq (h : S4096x1024.Idx → EReal) (dy : S4096x2048.Idx → EReal) :
    (Cert.GAInRefIdeal.Read.val_main_v4 (F := Ideal) h dy : S1024x2048.Idx → EReal) = Mm.tn (K := 4096) (M := 1024) (N := 2048) h dy := by
  funext y
  rw [Cert.GAInRefIdeal.Read.val_main_v4_apply, Cert.GAInRefIdeal.Read.val_main_v3_apply]
  refine (Cert.GAInRefIdeal.Read.val_main_v2_apply h dy _).trans (Finset.sum_congr rfl fun k _ => ?_)
  refine (mul_comm _ _).trans ?_
  exact congrArg₂ (fun a b : EReal => a * b) (congrArg h (Tile.eq_ix2_of _ _ _ rfl rfl)) (congrArg dy (Tile.eq_ix2_of _ _ _ rfl rfl))

end Cert.GAInIdeal.Value

namespace Cert.Proof
open Idealize.ShloMosaic Idealize.SL.Sem Idealize.ShloMosaic.StableHlo

theorem frame_GAInRef : quiescent_GAInRefIdeal := fun m ρ _ =>
  (θ_run Cert.GAInRefIdeal.defs _ _).mono (fun r h => ⟨fun c => (h c).2, sem_eq_zero_of_no_sems (by decide) r.2⟩)
    (Cert.GAInRefIdeal.Value.run (F := Ideal) m ρ)

theorem algebraic_GAIn : algebraic_GAInIdeal_GAInRefIdeal := by
  intro m ρ m' ρ' _ hagree
  refine ⟨_, Cert.GAInIdeal.Value.run (F := Ideal) m ρ, ?_⟩
  refine (θ_run Cert.GAInRefIdeal.defs _ _).mono (fun _ h c => ⟨?_, (h c).2⟩) (Cert.GAInRefIdeal.Value.run (F := Ideal) m' ρ')
  obtain ⟨e0, -, e2⟩ := hagree c
  refine ((h c).1.trans (Cert.GAInRefIdeal.Read.val_main_v4_eq (F := Ideal) _ _)).trans ?_
  rw [e0, e2]
  refine (Cert.GAInIdeal.Value.reference_eq _ _).trans ?_
  refine Eq.trans ?_ (Cert.GAInIdeal.Value.result_eq m c).symm
  rw [Cert.GAInIdeal.Value.arrH_eq]
  exact congrArg _ (Cert.GAInIdeal.Gen.V_main_arg2 m c).symm

end Cert.Proof
-- ==== Proof.DOut.lean ====
module

public import proofs.«01_k».proof.Defs
public import proofs.«01_k».proof.Proof.Gen.DOutIdeal.Value
public import proofs.«01_k».proof.Proof.Gen.DOutRefIdeal.Run
public import proofs.«01_k».proof.Proof.Gen.DOutRefIdeal.Read
public import Idealize.ShloMosaic.Lib.StableHlo.ReadAt
public import Idealize.ShloMosaic.Adequacy
public import Idealize.ShloMosaic.Init
public import Idealize.ShloMosaic.Lib.Quiescent
public import proofs.«01_k».proof.Proof.Hidden

/-! # The gradient of a layer's rows through its output projection -/

@[expose] public section
set_option maxRecDepth 16384
noncomputable section
namespace Cert.DOutIdeal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

theorem N2 : cfg0.N = 2 := by decide +kernel

/-- What a step stores. -/
theorem out (A : Vec Ideal S2048x1024 .bf16) (B : Vec Ideal S1x1024x1024 .bf16) (y : S2048x1024.Idx) :
    (Gen.out0_2 A B y : EReal) = Mm.nt (K := 1024) (M := 2048) (N := 1024) A B y := by
  unfold Gen.out0_2
  have w : View.ld B Gen.r0_1 = B := View.ld_unit_zero (funext fun a => match a with | ⟨0, _⟩ => rfl | ⟨1, _⟩ => rfl | ⟨2, _⟩ => rfl) _ _
  rw [w]
  refine Tile.canon_all (Val := Elt Ideal) (s := S2048x1024) (e := .f32) (Mm.nt (K := 1024) (M := 2048) (N := 1024) A B) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, shapeCast_self]
      exact Mm.piece_nt _ _ _ _ _ _ _ x
  · exact View.cover_of_tiledBy _ ![256, 1024] (by sl_kernel_rfl)

/-- The result's gradient and the weight as one slab, as the call is given them. -/
def arrDy : S4096x1024.Idx → EReal := Gen.V m c main_v0
def arrW : S1x1024x1024.Idx → EReal := Gen.V m c main_v2

theorem idx_facts : ∀ t : Fin cfg0.N, win0_0.index t = ![t.val, 0] ∧ win0_1.index t = ![0, 0, 0] ∧ win0_2.index t = ![t.val, 0] := by
  decide +kernel

theorem iblk0 (r : Fin 2048) (k : Fin 1024) : (Gen.iblk m c 0 t (ix2 r k) : EReal)
    = arrDy m c (ix2 ⟨2048 * t.val + r.val, by have := Nat.lt_of_lt_of_eq t.isLt N2; omega⟩ k) := by
  blk_ext [Gen.iblk, arrDy, (idx_facts t).1]
  exact congrArg (· + r.val) (Nat.mul_comm _ _)
theorem iblk1 (k : Fin 1024) (r : Fin 1024) : (Gen.iblk m c 1 t (ix3 0 k r) : EReal) = arrW m c (ix3 0 k r) := by
  blk_ext [Gen.iblk, arrW, (idx_facts t).2.1]

theorem arrDy_eq : arrDy m c = m ((c : Thread nD τ).loc main_arg2) := by
  unfold arrDy Gen.V
  after_reads_simp
  rfl
/-- The slab is the weight. -/
theorem arrW_at (r k : Fin 1024) : arrW m c (ix3 0 r k) = m ((c : Thread nD τ).loc main_arg1) (ix2 r k) := by
  unfold arrW Gen.V
  after_reads_simp
  exact congrArg (m ((c : Thread nD τ).loc main_arg1)) (Tile.eq_ix2_of _ _ _ rfl rfl)

theorem flush_all : ∀ t : Fin cfg0.N, (cfg0.win 2).flush t = true := by decide +kernel

theorem mem_blk (i : S4096x1024.Idx) : i ∈ ((cfg0.win 2).blk t).view.set
    ↔ ∀ a : Fin 2, win0_2.index t a * S2048x1024.size a ≤ (i a).val ∧ (i a).val < win0_2.index t a * S2048x1024.size a + S2048x1024.size a := by
  show i ∈ ((View.whole main_v3).slice (win0_2.rect t)).set ↔ _
  rw [View.set_slice_whole, Rect.mem_set_unit]
  exact Iff.rfl

theorem covered (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  refine ⟨⟨(i 0).val / 2048, by rw [N2]; omega⟩, flush_all _, ?_⟩
  rw [mem_blk]
  have e := (idx_facts ⟨(i 0).val / 2048, by rw [N2]; omega⟩).2.2
  have q0 := congrFun e 0
  have q1 := congrFun e 1
  intro a
  match a with
  | ⟨0, _⟩ =>
    show win0_2.index _ (0 : Fin 2) * 2048 ≤ (i 0).val ∧ (i 0).val < win0_2.index _ (0 : Fin 2) * 2048 + 2048
    rw [q0]
    show ((i 0).val / 2048) * 2048 ≤ _ ∧ _ < ((i 0).val / 2048) * 2048 + 2048
    omega
  | ⟨1, _⟩ =>
    show win0_2.index _ (1 : Fin 2) * 1024 ≤ (i 1).val ∧ (i 1).val < win0_2.index _ (1 : Fin 2) * 1024 + 1024
    rw [q1]
    show 0 * 1024 ≤ _ ∧ _ < 0 * 1024 + 1024
    omega

/-- The gradient contracted with the weight's columns. -/
def through (w : S1024x1024.Idx → EReal) (dy : S4096x1024.Idx → EReal) (y : S4096x1024.Idx) : EReal := ∑ k : Fin 1024, dy (ix2 (y 0) k) * w (ix2 (y 1) k)

/-- The result: the gradient of the projection's rows. -/
theorem result_eq : ((Gen.dats m 0 c).arrAt 2 cfg0.N : S4096x1024.Idx → EReal)
    = through (m ((c : Thread nD τ).loc main_arg1)) (m ((c : Thread nD τ).loc main_arg2)) := by
  refine (Gen.dats m 0 c).arrAt_eq_of_cover 2 _ (fun t _ => ?_) covered
  rw [flushed2]
  funext y
  have hb0 : (((cfg0.win 2).blk t).view.emb y 0).val = win0_2.index t (0 : Fin 2) * 2048 + 1 * (y 0).val := rfl
  have hb1 : (((cfg0.win 2).blk t).view.emb y 1).val = win0_2.index t (1 : Fin 2) * 1024 + 1 * (y 1).val := rfl
  have q0 : win0_2.index t (0 : Fin 2) = t.val := congrFun (idx_facts t).2.2 0
  have q1 : win0_2.index t (1 : Fin 2) = 0 := congrFun (idx_facts t).2.2 1
  have x0 : ((cfg0.win 2).xinj (grid0.coords t) y 0).val = (y 0).val := rfl
  have x1 : ((cfg0.win 2).xinj (grid0.coords t) y 1).val = (y 1).val := rfl
  show (Gen.out0_2 (Gen.iblk m c 0 t) (Gen.iblk m c 1 t) ((cfg0.win 2).xinj (grid0.coords t) y) : EReal)
    = through _ _ (((cfg0.win 2).blk t).view.emb y)
  refine (out _ _ _).trans (Finset.sum_congr rfl fun k _ => ?_)
  refine congrArg₂ (fun a b : EReal => a * b) (((iblk0 m c t _ _).trans (congrFun (arrDy_eq m c) _)).trans (Mm.at2 _ ?_ ?_))
    (((iblk1 m c t _ _).trans (arrW_at m c _ _)).trans (Mm.at2 _ ?_ ?_))
  all_goals
    simp only [hb0, hb1, q0, q1, x0, x1]
    try omega

/-- The derivative of the product, read as one contraction. -/
theorem reference_eq (w : S1024x1024.Idx → EReal) (dy : S4096x1024.Idx → EReal) :
    (Cert.DOutRefIdeal.Read.val_main_v1 (F := Ideal) w dy : S4096x1024.Idx → EReal) = through w dy :=
  funext fun y => (Cert.DOutRefIdeal.Read.val_main_v1_apply w dy y).trans (Finset.sum_congr rfl fun k _ =>
    congrArg₂ (fun a b : EReal => a * b) (congrArg dy (Tile.eq_ix2_of _ _ _ rfl rfl)) (congrArg w (Tile.eq_ix2_of _ _ _ rfl rfl)))

end Cert.DOutIdeal.Value

namespace Cert.Proof
open Idealize.ShloMosaic Idealize.SL.Sem Idealize.ShloMosaic.StableHlo

theorem frame_DOutRef : quiescent_DOutRefIdeal := fun m ρ _ =>
  (θ_run Cert.DOutRefIdeal.defs _ _).mono (fun r h => ⟨fun c => (h c).2, sem_eq_zero_of_no_sems (by decide) r.2⟩)
    (Cert.DOutRefIdeal.Value.run (F := Ideal) m ρ)

theorem algebraic_DOut : algebraic_DOutIdeal_DOutRefIdeal := by
  intro m ρ m' ρ' _ hagree
  refine ⟨_, Cert.DOutIdeal.Value.run_blocks (F := Ideal) m ρ, ?_⟩
  refine (θ_run Cert.DOutRefIdeal.defs _ _).mono (fun _ h c => ⟨?_, (h c).2⟩) (Cert.DOutRefIdeal.Value.run (F := Ideal) m' ρ')
  obtain ⟨-, e1, e2⟩ := hagree c
  refine ((h c).1.trans (Cert.DOutRefIdeal.Read.val_main_v1_eq (F := Ideal) _ _)).trans ?_
  rw [e1, e2]
  exact (Cert.DOutIdeal.Value.reference_eq _ _).trans (Cert.DOutIdeal.Value.result_eq m c).symm

end Cert.Proof
-- ==== Proof.Qkv.lean ====
module

public import proofs.«01_k».proof.Defs
public import proofs.«01_k».proof.Proof.Gen.QkvIdeal.Value
public import proofs.«01_k».proof.Proof.Gen.QkvRefIdeal.Run
public import proofs.«01_k».proof.Proof.Gen.QkvRefIdeal.Read
public import Idealize.ShloMosaic.Lib.StableHlo.ReadAt
public import Idealize.ShloMosaic.Adequacy
public import Idealize.ShloMosaic.Init
public import Idealize.ShloMosaic.Lib.Quiescent
public import proofs.«01_k».proof.Proof.Hidden

/-! # The queries, keys and values of the third branch -/

@[expose] public section
set_option maxRecDepth 16384
noncomputable section
namespace Cert.QkvIdeal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

theorem N8 : cfg0.N = 8 := by decide +kernel

/-- What a step stores. -/
theorem out (A : Vec Ideal S2048x1024 .bf16) (B : Vec Ideal S1x1024x768 .bf16) (y : S2048x768.Idx) :
    (Gen.out0_2 A B y : EReal) = Mm.nn (K := 1024) (M := 2048) (N := 768) A B y := by
  unfold Gen.out0_2
  have w : View.ld B Gen.r0_1 = B := View.ld_unit_zero (funext fun a => match a with | ⟨0, _⟩ => rfl | ⟨1, _⟩ => rfl | ⟨2, _⟩ => rfl) _ _
  rw [w]
  refine Tile.canon_all (Val := Elt Ideal) (s := S2048x768) (e := .bf16) (Mm.nn (K := 1024) (M := 2048) (N := 768) A B) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, shapeCast_self]
      exact Mm.piece_nn _ _ _ _ _ _ _ x
  · exact View.cover_of_tiledBy _ ![256, 768] (by sl_kernel_rfl)

/-- The layer's rows and the weight in four slabs of columns, as the call is given them. -/
def arrH : S4096x1024.Idx → EReal := Gen.V m c main_v0
def arrW : S4x1024x2304.Idx → EReal := Gen.V m c main_v3

theorem idx_facts : ∀ t : Fin cfg0.N, win0_0.index t = ![t.val / 4, 0] ∧ win0_1.index t = ![(t.val % 4 + 8) / 3, 0, (t.val % 4 + 8) % 3] ∧ win0_2.index t = ![t.val / 4, t.val % 4] := by
  decide +kernel

theorem iblk0 (r : Fin 2048) (k : Fin 1024) : (Gen.iblk m c 0 t (ix2 r k) : EReal)
    = arrH m c (ix2 ⟨2048 * (t.val / 4) + r.val, by have := Nat.lt_of_lt_of_eq t.isLt N8; omega⟩ k) := by
  blk_ext [Gen.iblk, arrH, (idx_facts t).1]
  exact congrArg (· + r.val) (Nat.mul_comm _ _)
theorem iblk1 (k : Fin 1024) (r : Fin 768) : (Gen.iblk m c 1 t (ix3 0 k r) : EReal)
    = arrW m c (ix3 ⟨(t.val % 4 + 8) / 3, by omega⟩ k ⟨768 * ((t.val % 4 + 8) % 3) + r.val, by omega⟩) := by
  blk_ext [Gen.iblk, arrW, (idx_facts t).2.1]
  exact congrArg (· + r.val) (Nat.mul_comm _ _)

theorem arrH_eq : arrH m c = m ((c : Thread nD τ).loc main_arg0) := by
  unfold arrH Gen.V
  after_reads_simp
  rfl
/-- The weight's slabs are its blocks of columns. -/
theorem arrW_at (s : Fin 4) (r : Fin 1024) (k : Fin 2304) :
    arrW m c (ix3 s r k) = m ((c : Thread nD τ).loc main_arg1) (ix2 r ⟨2304 * s.val + k.val, by omega⟩) := by
  have e : arrW m c = transpose S4x1024x2304 [1, 0, 2] (shapeCast S1024x4x2304 (m ((c : Thread nD τ).loc main_arg1)) Gen.shapeCasts_S1024x9216_S1024x4x2304)
      Gen.transposes_S1024x4x2304_S4x1024x2304_1_0_2 := by
    unfold arrW Gen.V
    after_reads_simp
    rfl
  rw [e]
  exact Mm.slabs_at _ _ _ _ _ _

theorem flush_all : ∀ t : Fin cfg0.N, (cfg0.win 2).flush t = true := by decide +kernel

theorem mem_blk (i : S4096x3072.Idx) : i ∈ ((cfg0.win 2).blk t).view.set
    ↔ ∀ a : Fin 2, win0_2.index t a * S2048x768.size a ≤ (i a).val ∧ (i a).val < win0_2.index t a * S2048x768.size a + S2048x768.size a := by
  show i ∈ ((View.whole main_v4).slice (win0_2.rect t)).set ↔ _
  rw [View.set_slice_whole, Rect.mem_set_unit]
  exact Iff.rfl

theorem covered (i : S4096x3072.Idx) : ∃ t : Fin cfg0.N, (cfg0.win 2).flush t = true ∧ i ∈ ((cfg0.win 2).blk t).view.set := by
  have h0 : (i 0).val < 4096 := (i 0).isLt
  have h1 : (i 1).val < 3072 := (i 1).isLt
  refine ⟨⟨4 * ((i 0).val / 2048) + (i 1).val / 768, by rw [N8]; omega⟩, flush_all _, ?_⟩
  rw [mem_blk]
  have e := (idx_facts ⟨4 * ((i 0).val / 2048) + (i 1).val / 768, by rw [N8]; omega⟩).2.2
  have q0 := congrFun e 0
  have q1 := congrFun e 1
  intro a
  match a with
  | ⟨0, _⟩ =>
    show win0_2.index _ (0 : Fin 2) * 2048 ≤ (i 0).val ∧ (i 0).val < win0_2.index _ (0 : Fin 2) * 2048 + 2048
    rw [q0]
    show (4 * ((i 0).val / 2048) + (i 1).val / 768) / 4 * 2048 ≤ _ ∧ _ < (4 * ((i 0).val / 2048) + (i 1).val / 768) / 4 * 2048 + 2048
    omega
  | ⟨1, _⟩ =>
    show win0_2.index _ (1 : Fin 2) * 768 ≤ (i 1).val ∧ (i 1).val < win0_2.index _ (1 : Fin 2) * 768 + 768
    rw [q1]
    show (4 * ((i 0).val / 2048) + (i 1).val / 768) % 4 * 768 ≤ _ ∧ _ < (4 * ((i 0).val / 2048) + (i 1).val / 768) % 4 * 768 + 768
    omega

/-- The rows times the columns of the weight from 6144 on. -/
def projected (h : S4096x1024.Idx → EReal) (w : S1024x9216.Idx → EReal) (y : S4096x3072.Idx) : EReal :=
  ∑ k : Fin 1024, h (ix2 (y 0) k) * w (ix2 k ⟨6144 + (y 1).val, by have : (y 1).val < 3072 := (y 1).isLt; omega⟩)

/-- The result: the third branch's queries, keys and values. -/
theorem result_eq : ((Gen.dats m 0 c).arrAt 2 cfg0.N : S4096x3072.Idx → EReal)
    = projected (m ((c : Thread nD τ).loc main_arg0)) (m ((c : Thread nD τ).loc main_arg1)) := by
  refine (Gen.dats m 0 c).arrAt_eq_of_cover 2 _ (fun t _ => ?_) covered
  rw [flushed2]
  funext y
  have hb0 : (((cfg0.win 2).blk t).view.emb y 0).val = win0_2.index t (0 : Fin 2) * 2048 + 1 * (y 0).val := rfl
  have hb1 : (((cfg0.win 2).blk t).view.emb y 1).val = win0_2.index t (1 : Fin 2) * 768 + 1 * (y 1).val := rfl
  have q0 : win0_2.index t (0 : Fin 2) = t.val / 4 := congrFun (idx_facts t).2.2 0
  have q1 : win0_2.index t (1 : Fin 2) = t.val % 4 := congrFun (idx_facts t).2.2 1
  have x0 : ((cfg0.win 2).xinj (grid0.coords t) y 0).val = (y 0).val := rfl
  have x1 : ((cfg0.win 2).xinj (grid0.coords t) y 1).val = (y 1).val := rfl
  show (Gen.out0_2 (Gen.iblk m c 0 t) (Gen.iblk m c 1 t) ((cfg0.win 2).xinj (grid0.coords t) y) : EReal)
    = projected _ _ (((cfg0.win 2).blk t).view.emb y)
  refine (out _ _ _).trans (Finset.sum_congr rfl fun k _ => ?_)
  refine congrArg₂ (fun a b : EReal => a * b) (((iblk0 m c t _ _).trans (congrFun (arrH_eq m c) _)).trans (Mm.at2 _ ?_ ?_))
    (((iblk1 m c t _ _).trans (arrW_at m c _ _ _)).trans (Mm.at2 _ ?_ ?_))
  all_goals
    simp only [hb0, hb1, q0, q1, x0, x1]
    try omega

/-- The reference, read as that product. -/
theorem reference_eq (h : S4096x1024.Idx → EReal) (w : S1024x9216.Idx → EReal) :
    (Cert.QkvRefIdeal.Read.val_main_v2 (F := Ideal) h w : S4096x3072.Idx → EReal) = projected h w := by
  funext y
  rw [Cert.QkvRefIdeal.Read.val_main_v2_apply]
  refine (Cert.QkvRefIdeal.Read.val_main_v1_apply h w _).trans (Finset.sum_congr rfl fun k _ => ?_)
  exact congrArg₂ (fun a b : EReal => a * b) (congrArg h (Tile.eq_ix2_of _ _ _ rfl rfl))
    ((Cert.QkvRefIdeal.Read.val_main_v0_apply (F := Ideal) w _).trans (congrArg w (Tile.eq_ix2_of _ _ _ rfl rfl)))

end Cert.QkvIdeal.Value

namespace Cert.Proof
open Idealize.ShloMosaic Idealize.SL.Sem Idealize.ShloMosaic.StableHlo

theorem frame_QkvRef : quiescent_QkvRefIdeal := fun m ρ _ =>
  (θ_run Cert.QkvRefIdeal.defs _ _).mono (fun r h => ⟨fun c => (h c).2, sem_eq_zero_of_no_sems (by decide) r.2⟩)
    (Cert.QkvRefIdeal.Value.run (F := Ideal) m ρ)

theorem algebraic_Qkv : algebraic_QkvIdeal_QkvRefIdeal := by
  intro m ρ m' ρ' _ hagree
  refine ⟨_, Cert.QkvIdeal.Value.run_blocks (F := Ideal) m ρ, ?_⟩
  refine (θ_run Cert.QkvRefIdeal.defs _ _).mono (fun _ h c => ⟨?_, (h c).2⟩) (Cert.QkvRefIdeal.Value.run (F := Ideal) m' ρ')
  obtain ⟨e0, e1⟩ := hagree c
  refine ((h c).1.trans (Cert.QkvRefIdeal.Read.val_main_v2_eq (F := Ideal) _ _)).trans ?_
  rw [e0, e1]
  exact (Cert.QkvIdeal.Value.reference_eq _ _).trans (Cert.QkvIdeal.Value.result_eq m c).symm

end Cert.Proof
-- ==== Proof.DQkv.lean ====
module

public import proofs.«01_k».proof.Defs
public import proofs.«01_k».proof.Proof.Gen.DQkvIdeal.Value
public import proofs.«01_k».proof.Proof.Gen.DQkvRefIdeal.Run
public import proofs.«01_k».proof.Proof.Gen.DQkvRefIdeal.Read
public import Idealize.ShloMosaic.Lib.StableHlo.ReadAt
public import Idealize.ShloMosaic.Adequacy
public import Idealize.ShloMosaic.Init
public import Idealize.ShloMosaic.Lib.Quiescent
public import proofs.«01_k».proof.Proof.Hidden

/-! # The gradient of the attention's rows through the third branch's projection -/

@[expose] public section
set_option maxRecDepth 16384
noncomputable section
namespace Cert.DQkvIdeal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

theorem N8 : cfg0.N = 8 := by decide +kernel

/-- What a step adds. -/
def part (y : S2048x1024.Idx) : EReal := Mm.nt (K := 768) (M := 2048) (N := 1024) (Gen.iblk m c 0 t) (Gen.iblk m c 1 t) y

/-- The first step of a block leaves its product in the accumulator. -/
theorem first (h : t.val % 4 = 0) (y : S2048x1024.Idx) : ((Gen.outsAt0 m c t.val t.isLt).2 y : EReal) = part m c t y := by
  rw [Gen.outsAt0_A m c t h (by omega) (by omega)]
  frame_out
  refine Tile.canon_all (Val := Elt Ideal) (s := S2048x1024) (e := .f32) (part m c t) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, Gen.k0_pay14, Gen.k0_pay15, Gen.k0_pay16, Gen.k0_pay17, Gen.k0_pay18, Gen.k0_pay19, Gen.k0_pay20, Gen.k0_pay21, Gen.k0_pay22, Gen.k0_pay23, Gen.k0_pay24, Gen.k0_pay25, Gen.k0_pay26, Gen.k0_pay27, shapeCast_self]
      exact Mm.piece_nt _ _ _ _ _ _ _ x
  · exact View.cover_of_tiledBy _ ![256, 1024] (by sl_kernel_rfl)

/-- A step between adds its product to the accumulator. -/
theorem mid (h : 1 ≤ t.val % 4 ∧ t.val % 4 ≤ 2) (y : S2048x1024.Idx) : ((Gen.outsAt0 m c t.val t.isLt).2 y : EReal)
    = (Gen.outsAt0 m c (t.val - 1) (by have := t.isLt; omega)).2 y + part m c t y := by
  rw [Gen.outsAt0_B m c t (by omega) h (by omega)]
  frame_out
  refine Tile.canon_all (Val := Elt Ideal) (s := S2048x1024) (e := .f32) (fun y => _ + part m c t y) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, Gen.k0_pay14, Gen.k0_pay15, Gen.k0_pay16, Gen.k0_pay17, Gen.k0_pay18, Gen.k0_pay19, Gen.k0_pay20, Gen.k0_pay21, Gen.k0_pay22, Gen.k0_pay23, Gen.k0_pay24, Gen.k0_pay25, Gen.k0_pay26, Gen.k0_pay27, shapeCast_self]
      refine congrArg₂ (fun a b : EReal => a + b) ?_ (Mm.piece_nt _ _ _ _ _ _ _ x)
      rw [read_unread_whole]
      rfl
  · exact View.cover_of_tiledBy _ ![256, 1024] (by sl_kernel_rfl)

/-- The last step adds its product and stores the sum. -/
theorem last (h : t.val % 4 = 3) (y : S2048x1024.Idx) : ((Gen.outsAt0 m c t.val t.isLt).1 y : EReal)
    = (Gen.outsAt0 m c (t.val - 1) (by have := t.isLt; omega)).2 y + part m c t y := by
  rw [Gen.outsAt0_C m c t (by omega) (by omega) h]
  frame_out
  refine Tile.canon_all (Val := Elt Ideal) (s := S2048x1024) (e := .f32) (fun y => _ + part m c t y) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, Gen.k0_pay14, Gen.k0_pay15, Gen.k0_pay16, Gen.k0_pay17, Gen.k0_pay18, Gen.k0_pay19, Gen.k0_pay20, Gen.k0_pay21, Gen.k0_pay22, Gen.k0_pay23, Gen.k0_pay24, Gen.k0_pay25, Gen.k0_pay26, Gen.k0_pay27, shapeCast_self]
      refine congrArg₂ (fun a b : EReal => a + b) ?_ (Mm.piece_nt _ _ _ _ _ _ _ x)
      rw [read_unread_whole]
      rfl
  · exact View.cover_of_tiledBy _ ![256, 1024] (by sl_kernel_rfl)

/-- The gradient of the queries, keys and values, and the weight in four slabs of columns, as the call is given them. -/
def arrDy : S4096x3072.Idx → EReal := Gen.V m c main_arg2
def arrW : S4x1024x2304.Idx → EReal := Gen.V m c main_v2

theorem idx_facts : ∀ t : Fin cfg0.N, win0_0.index t = ![t.val / 4, t.val % 4] ∧ win0_1.index t = ![(t.val % 4 + 8) / 3, 0, (t.val % 4 + 8) % 3] := by decide +kernel

theorem iblk0 (r : Fin 2048) (k : Fin 768) : (Gen.iblk m c 0 t (ix2 r k) : EReal)
    = arrDy m c (ix2 ⟨2048 * (t.val / 4) + r.val, by have := Nat.lt_of_lt_of_eq t.isLt N8; omega⟩ ⟨768 * (t.val % 4) + k.val, by omega⟩) := by
  blk_ext [Gen.iblk, arrDy, (idx_facts t).1]
  · exact congrArg (· + r.val) (Nat.mul_comm _ _)
  · exact congrArg (· + k.val) (Nat.mul_comm _ _)
theorem iblk1 (r : Fin 1024) (k : Fin 768) : (Gen.iblk m c 1 t (ix3 0 r k) : EReal) =
    arrW m c (ix3 ⟨(t.val % 4 + 8) / 3, by omega⟩ r ⟨768 * ((t.val % 4 + 8) % 3) + k.val, by omega⟩) := by
  blk_ext [Gen.iblk, arrW, (idx_facts t).2]
  exact congrArg (· + k.val) (Nat.mul_comm _ _)

/-- The weight's slabs are its blocks of columns. -/
theorem arrW_at (s : Fin 4) (r : Fin 1024) (k : Fin 2304) :
    arrW m c (ix3 s r k) = m ((c : Thread nD τ).loc main_arg1) (ix2 r ⟨2304 * s.val + k.val, by omega⟩) := by
  have e : arrW m c = transpose S4x1024x2304 [1, 0, 2] (shapeCast S1024x4x2304 (m ((c : Thread nD τ).loc main_arg1)) Gen.shapeCasts_S1024x9216_S1024x4x2304)
      Gen.transposes_S1024x4x2304_S4x1024x2304_1_0_2 := by
    unfold arrW Gen.V
    after_reads_simp
    rfl
  rw [e]
  exact Mm.slabs_at _ _ _ _ _ _

/-- The result at an index: the whole contraction. -/
theorem result_eq : (G2 m c : S4096x1024.Idx → EReal)
    = fun y => ∑ k : Fin 3072, arrDy m c (ix2 (y 0) k) * m ((c : Thread nD τ).loc main_arg1) (ix2 (y 1) ⟨6144 + k.val, by omega⟩) := by
  funext y
  have b0 : (y 0).val < 4096 := (y 0).isLt
  have b1 : (y 1).val < 1024 := (y 1).isLt
  have hp : pt2Of y = 4 * ((y 0).val / 2048) + 3 := by
    show 4 * (1 * ((y 0).val / 2048 - 0) + 1 * ((y 1).val / 1024 - 0)) + 3 = _
    omega
  have hN : pt2Of y < cfg0.N := by rw [hp, N8]; omega
  have h0 : (loc2Of y 0).val = (y 0).val % 2048 := rfl
  have h1 : (loc2Of y 1).val = (y 1).val % 1024 := rfl
  have v3 : (3 : Fin 4).val = 3 := rfl
  unfold G2
  rw [dif_pos hN, ← outsAt0_sweep m c _ hN]
  have e := last m c ⟨_, hN⟩ (by dsimp only; omega) (loc2Of y)
  rw [mid m c ⟨_, by dsimp only; omega⟩ (by dsimp only; omega), mid m c ⟨_, by dsimp only; omega⟩ (by dsimp only; omega),
    first m c ⟨_, by dsimp only; omega⟩ (by dsimp only; omega)] at e
  refine e.trans ?_
  unfold part Mm.nt
  refine Eq.trans ?_ (Tile.sum_blocks 4 768 (fun k : Fin 3072 => arrDy m c (ix2 (y 0) k) * m ((c : Thread nD τ).loc main_arg1) (ix2 (y 1) ⟨6144 + k.val, by omega⟩))).symm
  rw [Fin.sum_univ_four]
  refine congrArg₂ (fun a b : EReal => a + b) (congrArg₂ (fun a b : EReal => a + b) (congrArg₂ (fun a b : EReal => a + b)
    (Finset.sum_congr rfl fun k _ => ?_) (Finset.sum_congr rfl fun k _ => ?_)) (Finset.sum_congr rfl fun k _ => ?_)) (Finset.sum_congr rfl fun k _ => ?_)
  all_goals
    refine congrArg₂ (fun a b : EReal => a * b) ((iblk0 m c _ _ _).trans (Mm.at2 _ ?_ ?_)) (((iblk1 m c _ _ _).trans (arrW_at m c _ _ _)).trans (Mm.at2 _ ?_ ?_))
    all_goals
      simp only [hp, h0, h1, Fin.val_zero, Fin.val_one, Fin.val_two, v3]
      omega

/-- The derivative of the product, read as one contraction. -/
theorem reference_eq (w : S1024x9216.Idx → EReal) (dy : S4096x3072.Idx → EReal) (y : S4096x1024.Idx) :
    (Cert.DQkvRefIdeal.Read.val_main_v3 (F := Ideal) w dy y : EReal) = ∑ k : Fin 3072, dy (ix2 (y 0) k) * w (ix2 (y 1) ⟨6144 + k.val, by omega⟩) :=
  (Cert.DQkvRefIdeal.Read.val_main_v3_apply w dy y).trans (Finset.sum_congr rfl fun k _ =>
    congrArg₂ (fun a b : EReal => a * b) (congrArg dy (Tile.eq_ix2_of _ _ _ rfl rfl)) ((Cert.DQkvRefIdeal.Read.val_main_v0_apply (F := Ideal) w _).trans (congrArg w (Tile.eq_ix2_of _ _ _ rfl rfl))))

end Cert.DQkvIdeal.Value

namespace Cert.Proof
open Idealize.ShloMosaic Idealize.SL.Sem Idealize.ShloMosaic.StableHlo

theorem frame_DQkvRef : quiescent_DQkvRefIdeal := fun m ρ _ =>
  (θ_run Cert.DQkvRefIdeal.defs _ _).mono (fun r h => ⟨fun c => (h c).2, sem_eq_zero_of_no_sems (by decide) r.2⟩)
    (Cert.DQkvRefIdeal.Value.run (F := Ideal) m ρ)

theorem algebraic_DQkv : algebraic_DQkvIdeal_DQkvRefIdeal := by
  intro m ρ m' ρ' _ hagree
  refine ⟨_, Cert.DQkvIdeal.Value.run (F := Ideal) m ρ, ?_⟩
  refine (θ_run Cert.DQkvRefIdeal.defs _ _).mono (fun _ h c => ⟨?_, (h c).2⟩) (Cert.DQkvRefIdeal.Value.run (F := Ideal) m' ρ')
  obtain ⟨-, e1, e2⟩ := hagree c
  refine ((h c).1.trans (Cert.DQkvRefIdeal.Read.val_main_v3_eq (F := Ideal) _ _)).trans ?_
  rw [e1, e2]
  refine (funext (Cert.DQkvIdeal.Value.reference_eq _ _)).trans ?_
  refine Eq.trans ?_ (Cert.DQkvIdeal.Value.result_eq m c).symm
  unfold Cert.DQkvIdeal.Value.arrDy
  rw [Cert.DQkvIdeal.Gen.V_main_arg2]
  rfl

end Cert.Proof
-- ==== Proof.Qkv0.lean ====
module

public import proofs.«01_k».proof.Defs
public import proofs.«01_k».proof.Proof.Gen.Qkv0Ideal.Value
public import proofs.«01_k».proof.Proof.Gen.Qkv0RefIdeal.Run
public import proofs.«01_k».proof.Proof.Gen.Qkv0RefIdeal.Read
public import Idealize.ShloMosaic.Lib.StableHlo.ReadAt
public import Idealize.ShloMosaic.Adequacy
public import Idealize.ShloMosaic.Init
public import Idealize.ShloMosaic.Lib.Quiescent
public import proofs.«01_k».proof.Proof.Hidden

/-! # The queries, keys and values of the first branch -/

@[expose] public section
set_option maxRecDepth 16384
noncomputable section
namespace Cert.Qkv0Ideal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

theorem N8 : cfg0.N = 8 := by decide +kernel

/-- What a step stores. -/
theorem out (A : Vec Ideal S2048x1024 .bf16) (B : Vec Ideal S1x1024x768 .bf16) (y : S2048x768.Idx) :
    (Gen.out0_2 A B y : EReal) = Mm.nn (K := 1024) (M := 2048) (N := 768) A B y := by
  unfold Gen.out0_2
  have w : View.ld B Gen.r0_1 = B := View.ld_unit_zero (funext fun a => match a with | ⟨0, _⟩ => rfl | ⟨1, _⟩ => rfl | ⟨2, _⟩ => rfl) _ _
  rw [w]
  refine Tile.canon_all (Val := Elt Ideal) (s := S2048x768) (e := .bf16) (Mm.nn (K := 1024) (M := 2048) (N := 768) A B) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, shapeCast_self]
      exact Mm.piece_nn _ _ _ _ _ _ _ x
  · exact View.cover_of_tiledBy _ ![256, 768] (by sl_kernel_rfl)

/-- The layer's rows and the weight in four slabs of columns, as the call is given them. -/
def arrH : S4096x1024.Idx → EReal := Gen.V m c main_v0
def arrW : S4x1024x2304.Idx → EReal := Gen.V m c main_v3

theorem idx_facts : ∀ t : Fin cfg0.N, win0_0.index t = ![t.val / 4, 0] ∧ win0_1.index t = ![(t.val % 4 + 0) / 3, 0, (t.val % 4 + 0) % 3] ∧ win0_2.index t = ![t.val / 4, t.val % 4] := by
  decide +kernel

theorem iblk0 (r : Fin 2048) (k : Fin 1024) : (Gen.iblk m c 0 t (ix2 r k) : EReal)
    = arrH m c (ix2 ⟨2048 * (t.val / 4) + r.val, by have := Nat.lt_of_lt_of_eq t.isLt N8; omega⟩ k) := by
  blk_ext [Gen.iblk, arrH, (idx_facts t).1]
  exact congrArg (· + r.val) (Nat.mul_comm _ _)
theorem iblk1 (k : Fin 1024) (r : Fin 768) : (Gen.iblk m c 1 t (ix3 0 k r) : EReal)
    = arrW m c (ix3 ⟨(t.val % 4 + 0) / 3, by omega⟩ k ⟨768 * ((t.val % 4 + 0) % 3) + r.val, by omega⟩) := by
  blk_ext [Gen.iblk, arrW, (idx_facts t).2.1]
  exact congrArg (· + r.val) (Nat.mul_comm _ _)

theorem arrH_eq : arrH m c = m ((c : Thread nD τ).loc main_arg0) := by
  unfold arrH Gen.V
  after_reads_simp
  rfl
/-- The weight's slabs are its blocks of columns. -/
theorem arrW_at (s : Fin 4) (r : Fin 1024) (k : Fin 2304) :
    arrW m c (ix3 s r k) = m ((c : Thread nD τ).loc main_arg1) (ix2 r ⟨2304 * s.val + k.val, by omega⟩) := by
  have e : arrW m c = transpose S4x1024x2304 [1, 0, 2] (shapeCast S1024x4x2304 (m ((c : Thread nD τ).loc main_arg1)) Gen.shapeCasts_S1024x9216_S1024x4x2304)
      Gen.transposes_S1024x4x2304_S4x1024x2304_1_0_2 := by
    unfold arrW Gen.V
    after_reads_simp
    rfl
  rw [e]
  exact Mm.slabs_at _ _ _ _ _ _

theorem flush_all : ∀ t : Fin cfg0.N, (cfg0.win 2).flush t = true := by decide +kernel

theorem mem_blk (i : S4096x3072.Idx) : i ∈ ((cfg0.win 2).blk t).view.set
    ↔ ∀ a : Fin 2, win0_2.index t a * S2048x768.size a ≤ (i a).val ∧ (i a).val < win0_2.index t a * S2048x768.size a + S2048x768.size a := by
  show i ∈ ((View.whole main_v4).slice (win0_2.rect t)).set ↔ _
  rw [View.set_slice_whole, Rect.mem_set_unit]
  exact Iff.rfl

theorem covered (i : S4096x3072.Idx) : ∃ t : Fin cfg0.N, (cfg0.win 2).flush t = true ∧ i ∈ ((cfg0.win 2).blk t).view.set := by
  have h0 : (i 0).val < 4096 := (i 0).isLt
  have h1 : (i 1).val < 3072 := (i 1).isLt
  refine ⟨⟨4 * ((i 0).val / 2048) + (i 1).val / 768, by rw [N8]; omega⟩, flush_all _, ?_⟩
  rw [mem_blk]
  have e := (idx_facts ⟨4 * ((i 0).val / 2048) + (i 1).val / 768, by rw [N8]; omega⟩).2.2
  have q0 := congrFun e 0
  have q1 := congrFun e 1
  intro a
  match a with
  | ⟨0, _⟩ =>
    show win0_2.index _ (0 : Fin 2) * 2048 ≤ (i 0).val ∧ (i 0).val < win0_2.index _ (0 : Fin 2) * 2048 + 2048
    rw [q0]
    show (4 * ((i 0).val / 2048) + (i 1).val / 768) / 4 * 2048 ≤ _ ∧ _ < (4 * ((i 0).val / 2048) + (i 1).val / 768) / 4 * 2048 + 2048
    omega
  | ⟨1, _⟩ =>
    show win0_2.index _ (1 : Fin 2) * 768 ≤ (i 1).val ∧ (i 1).val < win0_2.index _ (1 : Fin 2) * 768 + 768
    rw [q1]
    show (4 * ((i 0).val / 2048) + (i 1).val / 768) % 4 * 768 ≤ _ ∧ _ < (4 * ((i 0).val / 2048) + (i 1).val / 768) % 4 * 768 + 768
    omega

/-- The rows times the columns of the weight before 3072. -/
def projected (h : S4096x1024.Idx → EReal) (w : S1024x9216.Idx → EReal) (y : S4096x3072.Idx) : EReal :=
  ∑ k : Fin 1024, h (ix2 (y 0) k) * w (ix2 k ⟨(y 1).val, by have : (y 1).val < 3072 := (y 1).isLt; omega⟩)

/-- The result: the first branch's queries, keys and values. -/
theorem result_eq : ((Gen.dats m 0 c).arrAt 2 cfg0.N : S4096x3072.Idx → EReal)
    = projected (m ((c : Thread nD τ).loc main_arg0)) (m ((c : Thread nD τ).loc main_arg1)) := by
  refine (Gen.dats m 0 c).arrAt_eq_of_cover 2 _ (fun t _ => ?_) covered
  rw [flushed2]
  funext y
  have hb0 : (((cfg0.win 2).blk t).view.emb y 0).val = win0_2.index t (0 : Fin 2) * 2048 + 1 * (y 0).val := rfl
  have hb1 : (((cfg0.win 2).blk t).view.emb y 1).val = win0_2.index t (1 : Fin 2) * 768 + 1 * (y 1).val := rfl
  have q0 : win0_2.index t (0 : Fin 2) = t.val / 4 := congrFun (idx_facts t).2.2 0
  have q1 : win0_2.index t (1 : Fin 2) = t.val % 4 := congrFun (idx_facts t).2.2 1
  have x0 : ((cfg0.win 2).xinj (grid0.coords t) y 0).val = (y 0).val := rfl
  have x1 : ((cfg0.win 2).xinj (grid0.coords t) y 1).val = (y 1).val := rfl
  show (Gen.out0_2 (Gen.iblk m c 0 t) (Gen.iblk m c 1 t) ((cfg0.win 2).xinj (grid0.coords t) y) : EReal)
    = projected _ _ (((cfg0.win 2).blk t).view.emb y)
  refine (out _ _ _).trans (Finset.sum_congr rfl fun k _ => ?_)
  refine congrArg₂ (fun a b : EReal => a * b) (((iblk0 m c t _ _).trans (congrFun (arrH_eq m c) _)).trans (Mm.at2 _ ?_ ?_))
    (((iblk1 m c t _ _).trans (arrW_at m c _ _ _)).trans (Mm.at2 _ ?_ ?_))
  all_goals
    simp only [hb0, hb1, q0, q1, x0, x1]
    try omega

/-- The reference, read as that product. -/
theorem reference_eq (h : S4096x1024.Idx → EReal) (w : S1024x9216.Idx → EReal) :
    (Cert.Qkv0RefIdeal.Read.val_main_v2 (F := Ideal) h w : S4096x3072.Idx → EReal) = projected h w := by
  funext y
  rw [Cert.Qkv0RefIdeal.Read.val_main_v2_apply]
  refine (Cert.Qkv0RefIdeal.Read.val_main_v1_apply h w _).trans (Finset.sum_congr rfl fun k _ => ?_)
  exact congrArg₂ (fun a b : EReal => a * b) (congrArg h (Tile.eq_ix2_of _ _ _ rfl rfl))
    ((Cert.Qkv0RefIdeal.Read.val_main_v0_apply (F := Ideal) w _).trans (congrArg w (Tile.eq_ix2_of _ _ _ rfl rfl)))

end Cert.Qkv0Ideal.Value

namespace Cert.Proof
open Idealize.ShloMosaic Idealize.SL.Sem Idealize.ShloMosaic.StableHlo

theorem frame_Qkv0Ref : quiescent_Qkv0RefIdeal := fun m ρ _ =>
  (θ_run Cert.Qkv0RefIdeal.defs _ _).mono (fun r h => ⟨fun c => (h c).2, sem_eq_zero_of_no_sems (by decide) r.2⟩)
    (Cert.Qkv0RefIdeal.Value.run (F := Ideal) m ρ)

theorem algebraic_Qkv0 : algebraic_Qkv0Ideal_Qkv0RefIdeal := by
  intro m ρ m' ρ' _ hagree
  refine ⟨_, Cert.Qkv0Ideal.Value.run_blocks (F := Ideal) m ρ, ?_⟩
  refine (θ_run Cert.Qkv0RefIdeal.defs _ _).mono (fun _ h c => ⟨?_, (h c).2⟩) (Cert.Qkv0RefIdeal.Value.run (F := Ideal) m' ρ')
  obtain ⟨e0, e1⟩ := hagree c
  refine ((h c).1.trans (Cert.Qkv0RefIdeal.Read.val_main_v2_eq (F := Ideal) _ _)).trans ?_
  rw [e0, e1]
  exact (Cert.Qkv0Ideal.Value.reference_eq _ _).trans (Cert.Qkv0Ideal.Value.result_eq m c).symm

end Cert.Proof
-- ==== Proof.DQkv0.lean ====
module

public import proofs.«01_k».proof.Defs
public import proofs.«01_k».proof.Proof.Gen.DQkv0Ideal.Value
public import proofs.«01_k».proof.Proof.Gen.DQkv0RefIdeal.Run
public import proofs.«01_k».proof.Proof.Gen.DQkv0RefIdeal.Read
public import Idealize.ShloMosaic.Lib.StableHlo.ReadAt
public import Idealize.ShloMosaic.Adequacy
public import Idealize.ShloMosaic.Init
public import Idealize.ShloMosaic.Lib.Quiescent
public import proofs.«01_k».proof.Proof.Hidden

/-! # The gradient of the attention's rows through the first branch's projection -/

@[expose] public section
set_option maxRecDepth 16384
noncomputable section
namespace Cert.DQkv0Ideal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

theorem N8 : cfg0.N = 8 := by decide +kernel

/-- What a step adds. -/
def part (y : S2048x1024.Idx) : EReal := Mm.nt (K := 768) (M := 2048) (N := 1024) (Gen.iblk m c 0 t) (Gen.iblk m c 1 t) y

/-- The first step of a block leaves its product in the accumulator. -/
theorem first (h : t.val % 4 = 0) (y : S2048x1024.Idx) : ((Gen.outsAt0 m c t.val t.isLt).2 y : EReal) = part m c t y := by
  rw [Gen.outsAt0_A m c t h (by omega) (by omega)]
  frame_out
  refine Tile.canon_all (Val := Elt Ideal) (s := S2048x1024) (e := .f32) (part m c t) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, Gen.k0_pay14, Gen.k0_pay15, Gen.k0_pay16, Gen.k0_pay17, Gen.k0_pay18, Gen.k0_pay19, Gen.k0_pay20, Gen.k0_pay21, Gen.k0_pay22, Gen.k0_pay23, Gen.k0_pay24, Gen.k0_pay25, Gen.k0_pay26, Gen.k0_pay27, shapeCast_self]
      exact Mm.piece_nt _ _ _ _ _ _ _ x
  · exact View.cover_of_tiledBy _ ![256, 1024] (by sl_kernel_rfl)

/-- A step between adds its product to the accumulator. -/
theorem mid (h : 1 ≤ t.val % 4 ∧ t.val % 4 ≤ 2) (y : S2048x1024.Idx) : ((Gen.outsAt0 m c t.val t.isLt).2 y : EReal)
    = (Gen.outsAt0 m c (t.val - 1) (by have := t.isLt; omega)).2 y + part m c t y := by
  rw [Gen.outsAt0_B m c t (by omega) h (by omega)]
  frame_out
  refine Tile.canon_all (Val := Elt Ideal) (s := S2048x1024) (e := .f32) (fun y => _ + part m c t y) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, Gen.k0_pay14, Gen.k0_pay15, Gen.k0_pay16, Gen.k0_pay17, Gen.k0_pay18, Gen.k0_pay19, Gen.k0_pay20, Gen.k0_pay21, Gen.k0_pay22, Gen.k0_pay23, Gen.k0_pay24, Gen.k0_pay25, Gen.k0_pay26, Gen.k0_pay27, shapeCast_self]
      refine congrArg₂ (fun a b : EReal => a + b) ?_ (Mm.piece_nt _ _ _ _ _ _ _ x)
      rw [read_unread_whole]
      rfl
  · exact View.cover_of_tiledBy _ ![256, 1024] (by sl_kernel_rfl)

/-- The last step adds its product and stores the sum. -/
theorem last (h : t.val % 4 = 3) (y : S2048x1024.Idx) : ((Gen.outsAt0 m c t.val t.isLt).1 y : EReal)
    = (Gen.outsAt0 m c (t.val - 1) (by have := t.isLt; omega)).2 y + part m c t y := by
  rw [Gen.outsAt0_C m c t (by omega) (by omega) h]
  frame_out
  refine Tile.canon_all (Val := Elt Ideal) (s := S2048x1024) (e := .f32) (fun y => _ + part m c t y) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, Gen.k0_pay14, Gen.k0_pay15, Gen.k0_pay16, Gen.k0_pay17, Gen.k0_pay18, Gen.k0_pay19, Gen.k0_pay20, Gen.k0_pay21, Gen.k0_pay22, Gen.k0_pay23, Gen.k0_pay24, Gen.k0_pay25, Gen.k0_pay26, Gen.k0_pay27, shapeCast_self]
      refine congrArg₂ (fun a b : EReal => a + b) ?_ (Mm.piece_nt _ _ _ _ _ _ _ x)
      rw [read_unread_whole]
      rfl
  · exact View.cover_of_tiledBy _ ![256, 1024] (by sl_kernel_rfl)

/-- The gradient of the queries, keys and values, and the weight in four slabs of columns, as the call is given them. -/
def arrDy : S4096x3072.Idx → EReal := Gen.V m c main_arg2
def arrW : S4x1024x2304.Idx → EReal := Gen.V m c main_v2

theorem idx_facts : ∀ t : Fin cfg0.N, win0_0.index t = ![t.val / 4, t.val % 4] ∧ win0_1.index t = ![(t.val % 4 + 0) / 3, 0, (t.val % 4 + 0) % 3] := by decide +kernel

theorem iblk0 (r : Fin 2048) (k : Fin 768) : (Gen.iblk m c 0 t (ix2 r k) : EReal)
    = arrDy m c (ix2 ⟨2048 * (t.val / 4) + r.val, by have := Nat.lt_of_lt_of_eq t.isLt N8; omega⟩ ⟨768 * (t.val % 4) + k.val, by omega⟩) := by
  blk_ext [Gen.iblk, arrDy, (idx_facts t).1]
  · exact congrArg (· + r.val) (Nat.mul_comm _ _)
  · exact congrArg (· + k.val) (Nat.mul_comm _ _)
theorem iblk1 (r : Fin 1024) (k : Fin 768) : (Gen.iblk m c 1 t (ix3 0 r k) : EReal) =
    arrW m c (ix3 ⟨(t.val % 4 + 0) / 3, by omega⟩ r ⟨768 * ((t.val % 4 + 0) % 3) + k.val, by omega⟩) := by
  blk_ext [Gen.iblk, arrW, (idx_facts t).2]
  exact congrArg (· + k.val) (Nat.mul_comm _ _)

/-- The weight's slabs are its blocks of columns. -/
theorem arrW_at (s : Fin 4) (r : Fin 1024) (k : Fin 2304) :
    arrW m c (ix3 s r k) = m ((c : Thread nD τ).loc main_arg1) (ix2 r ⟨2304 * s.val + k.val, by omega⟩) := by
  have e : arrW m c = transpose S4x1024x2304 [1, 0, 2] (shapeCast S1024x4x2304 (m ((c : Thread nD τ).loc main_arg1)) Gen.shapeCasts_S1024x9216_S1024x4x2304)
      Gen.transposes_S1024x4x2304_S4x1024x2304_1_0_2 := by
    unfold arrW Gen.V
    after_reads_simp
    rfl
  rw [e]
  exact Mm.slabs_at _ _ _ _ _ _

/-- The result at an index: the whole contraction. -/
theorem result_eq : (G2 m c : S4096x1024.Idx → EReal)
    = fun y => ∑ k : Fin 3072, arrDy m c (ix2 (y 0) k) * m ((c : Thread nD τ).loc main_arg1) (ix2 (y 1) ⟨k.val, by omega⟩) := by
  funext y
  have b0 : (y 0).val < 4096 := (y 0).isLt
  have b1 : (y 1).val < 1024 := (y 1).isLt
  have hp : pt2Of y = 4 * ((y 0).val / 2048) + 3 := by
    show 4 * (1 * ((y 0).val / 2048 - 0) + 1 * ((y 1).val / 1024 - 0)) + 3 = _
    omega
  have hN : pt2Of y < cfg0.N := by rw [hp, N8]; omega
  have h0 : (loc2Of y 0).val = (y 0).val % 2048 := rfl
  have h1 : (loc2Of y 1).val = (y 1).val % 1024 := rfl
  have v3 : (3 : Fin 4).val = 3 := rfl
  unfold G2
  rw [dif_pos hN, ← outsAt0_sweep m c _ hN]
  have e := last m c ⟨_, hN⟩ (by dsimp only; omega) (loc2Of y)
  rw [mid m c ⟨_, by dsimp only; omega⟩ (by dsimp only; omega), mid m c ⟨_, by dsimp only; omega⟩ (by dsimp only; omega),
    first m c ⟨_, by dsimp only; omega⟩ (by dsimp only; omega)] at e
  refine e.trans ?_
  unfold part Mm.nt
  refine Eq.trans ?_ (Tile.sum_blocks 4 768 (fun k : Fin 3072 => arrDy m c (ix2 (y 0) k) * m ((c : Thread nD τ).loc main_arg1) (ix2 (y 1) ⟨k.val, by omega⟩))).symm
  rw [Fin.sum_univ_four]
  refine congrArg₂ (fun a b : EReal => a + b) (congrArg₂ (fun a b : EReal => a + b) (congrArg₂ (fun a b : EReal => a + b)
    (Finset.sum_congr rfl fun k _ => ?_) (Finset.sum_congr rfl fun k _ => ?_)) (Finset.sum_congr rfl fun k _ => ?_)) (Finset.sum_congr rfl fun k _ => ?_)
  all_goals
    refine congrArg₂ (fun a b : EReal => a * b) ((iblk0 m c _ _ _).trans (Mm.at2 _ ?_ ?_)) (((iblk1 m c _ _ _).trans (arrW_at m c _ _ _)).trans (Mm.at2 _ ?_ ?_))
    all_goals
      simp only [hp, h0, h1, Fin.val_zero, Fin.val_one, Fin.val_two, v3]
      omega

/-- The derivative of the product, read as one contraction. -/
theorem reference_eq (w : S1024x9216.Idx → EReal) (dy : S4096x3072.Idx → EReal) (y : S4096x1024.Idx) :
    (Cert.DQkv0RefIdeal.Read.val_main_v3 (F := Ideal) w dy y : EReal) = ∑ k : Fin 3072, dy (ix2 (y 0) k) * w (ix2 (y 1) ⟨k.val, by omega⟩) :=
  (Cert.DQkv0RefIdeal.Read.val_main_v3_apply w dy y).trans (Finset.sum_congr rfl fun k _ =>
    congrArg₂ (fun a b : EReal => a * b) (congrArg dy (Tile.eq_ix2_of _ _ _ rfl rfl)) ((Cert.DQkv0RefIdeal.Read.val_main_v0_apply (F := Ideal) w _).trans (congrArg w (Tile.eq_ix2_of _ _ _ rfl rfl))))

end Cert.DQkv0Ideal.Value

namespace Cert.Proof
open Idealize.ShloMosaic Idealize.SL.Sem Idealize.ShloMosaic.StableHlo

theorem frame_DQkv0Ref : quiescent_DQkv0RefIdeal := fun m ρ _ =>
  (θ_run Cert.DQkv0RefIdeal.defs _ _).mono (fun r h => ⟨fun c => (h c).2, sem_eq_zero_of_no_sems (by decide) r.2⟩)
    (Cert.DQkv0RefIdeal.Value.run (F := Ideal) m ρ)

theorem algebraic_DQkv0 : algebraic_DQkv0Ideal_DQkv0RefIdeal := by
  intro m ρ m' ρ' _ hagree
  refine ⟨_, Cert.DQkv0Ideal.Value.run (F := Ideal) m ρ, ?_⟩
  refine (θ_run Cert.DQkv0RefIdeal.defs _ _).mono (fun _ h c => ⟨?_, (h c).2⟩) (Cert.DQkv0RefIdeal.Value.run (F := Ideal) m' ρ')
  obtain ⟨-, e1, e2⟩ := hagree c
  refine ((h c).1.trans (Cert.DQkv0RefIdeal.Read.val_main_v3_eq (F := Ideal) _ _)).trans ?_
  rw [e1, e2]
  refine (funext (Cert.DQkv0Ideal.Value.reference_eq _ _)).trans ?_
  refine Eq.trans ?_ (Cert.DQkv0Ideal.Value.result_eq m c).symm
  unfold Cert.DQkv0Ideal.Value.arrDy
  rw [Cert.DQkv0Ideal.Gen.V_main_arg2]
  rfl

end Cert.Proof
-- ==== Proof.Qkv1.lean ====
module

public import proofs.«01_k».proof.Defs
public import proofs.«01_k».proof.Proof.Gen.Qkv1Ideal.Value
public import proofs.«01_k».proof.Proof.Gen.Qkv1RefIdeal.Run
public import proofs.«01_k».proof.Proof.Gen.Qkv1RefIdeal.Read
public import Idealize.ShloMosaic.Lib.StableHlo.ReadAt
public import Idealize.ShloMosaic.Adequacy
public import Idealize.ShloMosaic.Init
public import Idealize.ShloMosaic.Lib.Quiescent
public import proofs.«01_k».proof.Proof.Hidden

/-! # The queries, keys and values of the second branch -/

@[expose] public section
set_option maxRecDepth 16384
noncomputable section
namespace Cert.Qkv1Ideal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

theorem N8 : cfg0.N = 8 := by decide +kernel

/-- What a step stores. -/
theorem out (A : Vec Ideal S2048x1024 .bf16) (B : Vec Ideal S1x1024x768 .bf16) (y : S2048x768.Idx) :
    (Gen.out0_2 A B y : EReal) = Mm.nn (K := 1024) (M := 2048) (N := 768) A B y := by
  unfold Gen.out0_2
  have w : View.ld B Gen.r0_1 = B := View.ld_unit_zero (funext fun a => match a with | ⟨0, _⟩ => rfl | ⟨1, _⟩ => rfl | ⟨2, _⟩ => rfl) _ _
  rw [w]
  refine Tile.canon_all (Val := Elt Ideal) (s := S2048x768) (e := .bf16) (Mm.nn (K := 1024) (M := 2048) (N := 768) A B) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, shapeCast_self]
      exact Mm.piece_nn _ _ _ _ _ _ _ x
  · exact View.cover_of_tiledBy _ ![256, 768] (by sl_kernel_rfl)

/-- The layer's rows and the weight in four slabs of columns, as the call is given them. -/
def arrH : S4096x1024.Idx → EReal := Gen.V m c main_v0
def arrW : S4x1024x2304.Idx → EReal := Gen.V m c main_v3

theorem idx_facts : ∀ t : Fin cfg0.N, win0_0.index t = ![t.val / 4, 0] ∧ win0_1.index t = ![(t.val % 4 + 4) / 3, 0, (t.val % 4 + 4) % 3] ∧ win0_2.index t = ![t.val / 4, t.val % 4] := by
  decide +kernel

theorem iblk0 (r : Fin 2048) (k : Fin 1024) : (Gen.iblk m c 0 t (ix2 r k) : EReal)
    = arrH m c (ix2 ⟨2048 * (t.val / 4) + r.val, by have := Nat.lt_of_lt_of_eq t.isLt N8; omega⟩ k) := by
  blk_ext [Gen.iblk, arrH, (idx_facts t).1]
  exact congrArg (· + r.val) (Nat.mul_comm _ _)
theorem iblk1 (k : Fin 1024) (r : Fin 768) : (Gen.iblk m c 1 t (ix3 0 k r) : EReal)
    = arrW m c (ix3 ⟨(t.val % 4 + 4) / 3, by omega⟩ k ⟨768 * ((t.val % 4 + 4) % 3) + r.val, by omega⟩) := by
  blk_ext [Gen.iblk, arrW, (idx_facts t).2.1]
  exact congrArg (· + r.val) (Nat.mul_comm _ _)

theorem arrH_eq : arrH m c = m ((c : Thread nD τ).loc main_arg0) := by
  unfold arrH Gen.V
  after_reads_simp
  rfl
/-- The weight's slabs are its blocks of columns. -/
theorem arrW_at (s : Fin 4) (r : Fin 1024) (k : Fin 2304) :
    arrW m c (ix3 s r k) = m ((c : Thread nD τ).loc main_arg1) (ix2 r ⟨2304 * s.val + k.val, by omega⟩) := by
  have e : arrW m c = transpose S4x1024x2304 [1, 0, 2] (shapeCast S1024x4x2304 (m ((c : Thread nD τ).loc main_arg1)) Gen.shapeCasts_S1024x9216_S1024x4x2304)
      Gen.transposes_S1024x4x2304_S4x1024x2304_1_0_2 := by
    unfold arrW Gen.V
    after_reads_simp
    rfl
  rw [e]
  exact Mm.slabs_at _ _ _ _ _ _

theorem flush_all : ∀ t : Fin cfg0.N, (cfg0.win 2).flush t = true := by decide +kernel

theorem mem_blk (i : S4096x3072.Idx) : i ∈ ((cfg0.win 2).blk t).view.set
    ↔ ∀ a : Fin 2, win0_2.index t a * S2048x768.size a ≤ (i a).val ∧ (i a).val < win0_2.index t a * S2048x768.size a + S2048x768.size a := by
  show i ∈ ((View.whole main_v4).slice (win0_2.rect t)).set ↔ _
  rw [View.set_slice_whole, Rect.mem_set_unit]
  exact Iff.rfl

theorem covered (i : S4096x3072.Idx) : ∃ t : Fin cfg0.N, (cfg0.win 2).flush t = true ∧ i ∈ ((cfg0.win 2).blk t).view.set := by
  have h0 : (i 0).val < 4096 := (i 0).isLt
  have h1 : (i 1).val < 3072 := (i 1).isLt
  refine ⟨⟨4 * ((i 0).val / 2048) + (i 1).val / 768, by rw [N8]; omega⟩, flush_all _, ?_⟩
  rw [mem_blk]
  have e := (idx_facts ⟨4 * ((i 0).val / 2048) + (i 1).val / 768, by rw [N8]; omega⟩).2.2
  have q0 := congrFun e 0
  have q1 := congrFun e 1
  intro a
  match a with
  | ⟨0, _⟩ =>
    show win0_2.index _ (0 : Fin 2) * 2048 ≤ (i 0).val ∧ (i 0).val < win0_2.index _ (0 : Fin 2) * 2048 + 2048
    rw [q0]
    show (4 * ((i 0).val / 2048) + (i 1).val / 768) / 4 * 2048 ≤ _ ∧ _ < (4 * ((i 0).val / 2048) + (i 1).val / 768) / 4 * 2048 + 2048
    omega
  | ⟨1, _⟩ =>
    show win0_2.index _ (1 : Fin 2) * 768 ≤ (i 1).val ∧ (i 1).val < win0_2.index _ (1 : Fin 2) * 768 + 768
    rw [q1]
    show (4 * ((i 0).val / 2048) + (i 1).val / 768) % 4 * 768 ≤ _ ∧ _ < (4 * ((i 0).val / 2048) + (i 1).val / 768) % 4 * 768 + 768
    omega

/-- The rows times the columns of the weight from 3072 on. -/
def projected (h : S4096x1024.Idx → EReal) (w : S1024x9216.Idx → EReal) (y : S4096x3072.Idx) : EReal :=
  ∑ k : Fin 1024, h (ix2 (y 0) k) * w (ix2 k ⟨3072 + (y 1).val, by have : (y 1).val < 3072 := (y 1).isLt; omega⟩)

/-- The result: the second branch's queries, keys and values. -/
theorem result_eq : ((Gen.dats m 0 c).arrAt 2 cfg0.N : S4096x3072.Idx → EReal)
    = projected (m ((c : Thread nD τ).loc main_arg0)) (m ((c : Thread nD τ).loc main_arg1)) := by
  refine (Gen.dats m 0 c).arrAt_eq_of_cover 2 _ (fun t _ => ?_) covered
  rw [flushed2]
  funext y
  have hb0 : (((cfg0.win 2).blk t).view.emb y 0).val = win0_2.index t (0 : Fin 2) * 2048 + 1 * (y 0).val := rfl
  have hb1 : (((cfg0.win 2).blk t).view.emb y 1).val = win0_2.index t (1 : Fin 2) * 768 + 1 * (y 1).val := rfl
  have q0 : win0_2.index t (0 : Fin 2) = t.val / 4 := congrFun (idx_facts t).2.2 0
  have q1 : win0_2.index t (1 : Fin 2) = t.val % 4 := congrFun (idx_facts t).2.2 1
  have x0 : ((cfg0.win 2).xinj (grid0.coords t) y 0).val = (y 0).val := rfl
  have x1 : ((cfg0.win 2).xinj (grid0.coords t) y 1).val = (y 1).val := rfl
  show (Gen.out0_2 (Gen.iblk m c 0 t) (Gen.iblk m c 1 t) ((cfg0.win 2).xinj (grid0.coords t) y) : EReal)
    = projected _ _ (((cfg0.win 2).blk t).view.emb y)
  refine (out _ _ _).trans (Finset.sum_congr rfl fun k _ => ?_)
  refine congrArg₂ (fun a b : EReal => a * b) (((iblk0 m c t _ _).trans (congrFun (arrH_eq m c) _)).trans (Mm.at2 _ ?_ ?_))
    (((iblk1 m c t _ _).trans (arrW_at m c _ _ _)).trans (Mm.at2 _ ?_ ?_))
  all_goals
    simp only [hb0, hb1, q0, q1, x0, x1]
    try omega

/-- The reference, read as that product. -/
theorem reference_eq (h : S4096x1024.Idx → EReal) (w : S1024x9216.Idx → EReal) :
    (Cert.Qkv1RefIdeal.Read.val_main_v2 (F := Ideal) h w : S4096x3072.Idx → EReal) = projected h w := by
  funext y
  rw [Cert.Qkv1RefIdeal.Read.val_main_v2_apply]
  refine (Cert.Qkv1RefIdeal.Read.val_main_v1_apply h w _).trans (Finset.sum_congr rfl fun k _ => ?_)
  exact congrArg₂ (fun a b : EReal => a * b) (congrArg h (Tile.eq_ix2_of _ _ _ rfl rfl))
    ((Cert.Qkv1RefIdeal.Read.val_main_v0_apply (F := Ideal) w _).trans (congrArg w (Tile.eq_ix2_of _ _ _ rfl rfl)))

end Cert.Qkv1Ideal.Value

namespace Cert.Proof
open Idealize.ShloMosaic Idealize.SL.Sem Idealize.ShloMosaic.StableHlo

theorem frame_Qkv1Ref : quiescent_Qkv1RefIdeal := fun m ρ _ =>
  (θ_run Cert.Qkv1RefIdeal.defs _ _).mono (fun r h => ⟨fun c => (h c).2, sem_eq_zero_of_no_sems (by decide) r.2⟩)
    (Cert.Qkv1RefIdeal.Value.run (F := Ideal) m ρ)

theorem algebraic_Qkv1 : algebraic_Qkv1Ideal_Qkv1RefIdeal := by
  intro m ρ m' ρ' _ hagree
  refine ⟨_, Cert.Qkv1Ideal.Value.run_blocks (F := Ideal) m ρ, ?_⟩
  refine (θ_run Cert.Qkv1RefIdeal.defs _ _).mono (fun _ h c => ⟨?_, (h c).2⟩) (Cert.Qkv1RefIdeal.Value.run (F := Ideal) m' ρ')
  obtain ⟨e0, e1⟩ := hagree c
  refine ((h c).1.trans (Cert.Qkv1RefIdeal.Read.val_main_v2_eq (F := Ideal) _ _)).trans ?_
  rw [e0, e1]
  exact (Cert.Qkv1Ideal.Value.reference_eq _ _).trans (Cert.Qkv1Ideal.Value.result_eq m c).symm

end Cert.Proof
-- ==== Proof.DQkv1.lean ====
module

public import proofs.«01_k».proof.Defs
public import proofs.«01_k».proof.Proof.Gen.DQkv1Ideal.Value
public import proofs.«01_k».proof.Proof.Gen.DQkv1RefIdeal.Run
public import proofs.«01_k».proof.Proof.Gen.DQkv1RefIdeal.Read
public import Idealize.ShloMosaic.Lib.StableHlo.ReadAt
public import Idealize.ShloMosaic.Adequacy
public import Idealize.ShloMosaic.Init
public import Idealize.ShloMosaic.Lib.Quiescent
public import proofs.«01_k».proof.Proof.Hidden

/-! # The gradient of the attention's rows through the second branch's projection -/

@[expose] public section
set_option maxRecDepth 16384
noncomputable section
namespace Cert.DQkv1Ideal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

theorem N8 : cfg0.N = 8 := by decide +kernel

/-- What a step adds. -/
def part (y : S2048x1024.Idx) : EReal := Mm.nt (K := 768) (M := 2048) (N := 1024) (Gen.iblk m c 0 t) (Gen.iblk m c 1 t) y

/-- The first step of a block leaves its product in the accumulator. -/
theorem first (h : t.val % 4 = 0) (y : S2048x1024.Idx) : ((Gen.outsAt0 m c t.val t.isLt).2 y : EReal) = part m c t y := by
  rw [Gen.outsAt0_A m c t h (by omega) (by omega)]
  frame_out
  refine Tile.canon_all (Val := Elt Ideal) (s := S2048x1024) (e := .f32) (part m c t) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, Gen.k0_pay14, Gen.k0_pay15, Gen.k0_pay16, Gen.k0_pay17, Gen.k0_pay18, Gen.k0_pay19, Gen.k0_pay20, Gen.k0_pay21, Gen.k0_pay22, Gen.k0_pay23, Gen.k0_pay24, Gen.k0_pay25, Gen.k0_pay26, Gen.k0_pay27, shapeCast_self]
      exact Mm.piece_nt _ _ _ _ _ _ _ x
  · exact View.cover_of_tiledBy _ ![256, 1024] (by sl_kernel_rfl)

/-- A step between adds its product to the accumulator. -/
theorem mid (h : 1 ≤ t.val % 4 ∧ t.val % 4 ≤ 2) (y : S2048x1024.Idx) : ((Gen.outsAt0 m c t.val t.isLt).2 y : EReal)
    = (Gen.outsAt0 m c (t.val - 1) (by have := t.isLt; omega)).2 y + part m c t y := by
  rw [Gen.outsAt0_B m c t (by omega) h (by omega)]
  frame_out
  refine Tile.canon_all (Val := Elt Ideal) (s := S2048x1024) (e := .f32) (fun y => _ + part m c t y) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, Gen.k0_pay14, Gen.k0_pay15, Gen.k0_pay16, Gen.k0_pay17, Gen.k0_pay18, Gen.k0_pay19, Gen.k0_pay20, Gen.k0_pay21, Gen.k0_pay22, Gen.k0_pay23, Gen.k0_pay24, Gen.k0_pay25, Gen.k0_pay26, Gen.k0_pay27, shapeCast_self]
      refine congrArg₂ (fun a b : EReal => a + b) ?_ (Mm.piece_nt _ _ _ _ _ _ _ x)
      rw [read_unread_whole]
      rfl
  · exact View.cover_of_tiledBy _ ![256, 1024] (by sl_kernel_rfl)

/-- The last step adds its product and stores the sum. -/
theorem last (h : t.val % 4 = 3) (y : S2048x1024.Idx) : ((Gen.outsAt0 m c t.val t.isLt).1 y : EReal)
    = (Gen.outsAt0 m c (t.val - 1) (by have := t.isLt; omega)).2 y + part m c t y := by
  rw [Gen.outsAt0_C m c t (by omega) (by omega) h]
  frame_out
  refine Tile.canon_all (Val := Elt Ideal) (s := S2048x1024) (e := .f32) (fun y => _ + part m c t y) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, Gen.k0_pay14, Gen.k0_pay15, Gen.k0_pay16, Gen.k0_pay17, Gen.k0_pay18, Gen.k0_pay19, Gen.k0_pay20, Gen.k0_pay21, Gen.k0_pay22, Gen.k0_pay23, Gen.k0_pay24, Gen.k0_pay25, Gen.k0_pay26, Gen.k0_pay27, shapeCast_self]
      refine congrArg₂ (fun a b : EReal => a + b) ?_ (Mm.piece_nt _ _ _ _ _ _ _ x)
      rw [read_unread_whole]
      rfl
  · exact View.cover_of_tiledBy _ ![256, 1024] (by sl_kernel_rfl)

/-- The gradient of the queries, keys and values, and the weight in four slabs of columns, as the call is given them. -/
def arrDy : S4096x3072.Idx → EReal := Gen.V m c main_arg2
def arrW : S4x1024x2304.Idx → EReal := Gen.V m c main_v2

theorem idx_facts : ∀ t : Fin cfg0.N, win0_0.index t = ![t.val / 4, t.val % 4] ∧ win0_1.index t = ![(t.val % 4 + 4) / 3, 0, (t.val % 4 + 4) % 3] := by decide +kernel

theorem iblk0 (r : Fin 2048) (k : Fin 768) : (Gen.iblk m c 0 t (ix2 r k) : EReal)
    = arrDy m c (ix2 ⟨2048 * (t.val / 4) + r.val, by have := Nat.lt_of_lt_of_eq t.isLt N8; omega⟩ ⟨768 * (t.val % 4) + k.val, by omega⟩) := by
  blk_ext [Gen.iblk, arrDy, (idx_facts t).1]
  · exact congrArg (· + r.val) (Nat.mul_comm _ _)
  · exact congrArg (· + k.val) (Nat.mul_comm _ _)
theorem iblk1 (r : Fin 1024) (k : Fin 768) : (Gen.iblk m c 1 t (ix3 0 r k) : EReal) =
    arrW m c (ix3 ⟨(t.val % 4 + 4) / 3, by omega⟩ r ⟨768 * ((t.val % 4 + 4) % 3) + k.val, by omega⟩) := by
  blk_ext [Gen.iblk, arrW, (idx_facts t).2]
  exact congrArg (· + k.val) (Nat.mul_comm _ _)

/-- The weight's slabs are its blocks of columns. -/
theorem arrW_at (s : Fin 4) (r : Fin 1024) (k : Fin 2304) :
    arrW m c (ix3 s r k) = m ((c : Thread nD τ).loc main_arg1) (ix2 r ⟨2304 * s.val + k.val, by omega⟩) := by
  have e : arrW m c = transpose S4x1024x2304 [1, 0, 2] (shapeCast S1024x4x2304 (m ((c : Thread nD τ).loc main_arg1)) Gen.shapeCasts_S1024x9216_S1024x4x2304)
      Gen.transposes_S1024x4x2304_S4x1024x2304_1_0_2 := by
    unfold arrW Gen.V
    after_reads_simp
    rfl
  rw [e]
  exact Mm.slabs_at _ _ _ _ _ _

/-- The result at an index: the whole contraction. -/
theorem result_eq : (G2 m c : S4096x1024.Idx → EReal)
    = fun y => ∑ k : Fin 3072, arrDy m c (ix2 (y 0) k) * m ((c : Thread nD τ).loc main_arg1) (ix2 (y 1) ⟨3072 + k.val, by omega⟩) := by
  funext y
  have b0 : (y 0).val < 4096 := (y 0).isLt
  have b1 : (y 1).val < 1024 := (y 1).isLt
  have hp : pt2Of y = 4 * ((y 0).val / 2048) + 3 := by
    show 4 * (1 * ((y 0).val / 2048 - 0) + 1 * ((y 1).val / 1024 - 0)) + 3 = _
    omega
  have hN : pt2Of y < cfg0.N := by rw [hp, N8]; omega
  have h0 : (loc2Of y 0).val = (y 0).val % 2048 := rfl
  have h1 : (loc2Of y 1).val = (y 1).val % 1024 := rfl
  have v3 : (3 : Fin 4).val = 3 := rfl
  unfold G2
  rw [dif_pos hN, ← outsAt0_sweep m c _ hN]
  have e := last m c ⟨_, hN⟩ (by dsimp only; omega) (loc2Of y)
  rw [mid m c ⟨_, by dsimp only; omega⟩ (by dsimp only; omega), mid m c ⟨_, by dsimp only; omega⟩ (by dsimp only; omega),
    first m c ⟨_, by dsimp only; omega⟩ (by dsimp only; omega)] at e
  refine e.trans ?_
  unfold part Mm.nt
  refine Eq.trans ?_ (Tile.sum_blocks 4 768 (fun k : Fin 3072 => arrDy m c (ix2 (y 0) k) * m ((c : Thread nD τ).loc main_arg1) (ix2 (y 1) ⟨3072 + k.val, by omega⟩))).symm
  rw [Fin.sum_univ_four]
  refine congrArg₂ (fun a b : EReal => a + b) (congrArg₂ (fun a b : EReal => a + b) (congrArg₂ (fun a b : EReal => a + b)
    (Finset.sum_congr rfl fun k _ => ?_) (Finset.sum_congr rfl fun k _ => ?_)) (Finset.sum_congr rfl fun k _ => ?_)) (Finset.sum_congr rfl fun k _ => ?_)
  all_goals
    refine congrArg₂ (fun a b : EReal => a * b) ((iblk0 m c _ _ _).trans (Mm.at2 _ ?_ ?_)) (((iblk1 m c _ _ _).trans (arrW_at m c _ _ _)).trans (Mm.at2 _ ?_ ?_))
    all_goals
      simp only [hp, h0, h1, Fin.val_zero, Fin.val_one, Fin.val_two, v3]
      omega

/-- The derivative of the product, read as one contraction. -/
theorem reference_eq (w : S1024x9216.Idx → EReal) (dy : S4096x3072.Idx → EReal) (y : S4096x1024.Idx) :
    (Cert.DQkv1RefIdeal.Read.val_main_v3 (F := Ideal) w dy y : EReal) = ∑ k : Fin 3072, dy (ix2 (y 0) k) * w (ix2 (y 1) ⟨3072 + k.val, by omega⟩) :=
  (Cert.DQkv1RefIdeal.Read.val_main_v3_apply w dy y).trans (Finset.sum_congr rfl fun k _ =>
    congrArg₂ (fun a b : EReal => a * b) (congrArg dy (Tile.eq_ix2_of _ _ _ rfl rfl)) ((Cert.DQkv1RefIdeal.Read.val_main_v0_apply (F := Ideal) w _).trans (congrArg w (Tile.eq_ix2_of _ _ _ rfl rfl))))

end Cert.DQkv1Ideal.Value

namespace Cert.Proof
open Idealize.ShloMosaic Idealize.SL.Sem Idealize.ShloMosaic.StableHlo

theorem frame_DQkv1Ref : quiescent_DQkv1RefIdeal := fun m ρ _ =>
  (θ_run Cert.DQkv1RefIdeal.defs _ _).mono (fun r h => ⟨fun c => (h c).2, sem_eq_zero_of_no_sems (by decide) r.2⟩)
    (Cert.DQkv1RefIdeal.Value.run (F := Ideal) m ρ)

theorem algebraic_DQkv1 : algebraic_DQkv1Ideal_DQkv1RefIdeal := by
  intro m ρ m' ρ' _ hagree
  refine ⟨_, Cert.DQkv1Ideal.Value.run (F := Ideal) m ρ, ?_⟩
  refine (θ_run Cert.DQkv1RefIdeal.defs _ _).mono (fun _ h c => ⟨?_, (h c).2⟩) (Cert.DQkv1RefIdeal.Value.run (F := Ideal) m' ρ')
  obtain ⟨-, e1, e2⟩ := hagree c
  refine ((h c).1.trans (Cert.DQkv1RefIdeal.Read.val_main_v3_eq (F := Ideal) _ _)).trans ?_
  rw [e1, e2]
  refine (funext (Cert.DQkv1Ideal.Value.reference_eq _ _)).trans ?_
  refine Eq.trans ?_ (Cert.DQkv1Ideal.Value.result_eq m c).symm
  unfold Cert.DQkv1Ideal.Value.arrDy
  rw [Cert.DQkv1Ideal.Gen.V_main_arg2]
  rfl

end Cert.Proof
-- ==== Proof.Columns.lean ====
module

public import proofs.«01_k».proof.Proof.Window

/-! # Three matrices side by side, at an index -/

@[expose] public section
noncomputable section
namespace Cert.Columns
open Idealize.ShloMosaic hiding ix1 ix2 ix3 ix4 eq_ix2 eq_ix3
open ValueIdx

variable {α : Type} {R A B C N : Nat} (x : Shape.Idx ⟨2, ![R, A]⟩ → α) (z : Shape.Idx ⟨2, ![R, B]⟩ → α) (w : Shape.Idx ⟨2, ![R, C]⟩ → α)
  (h : Shape.Concatenates [⟨2, ![R, A]⟩, ⟨2, ![R, B]⟩, ⟨2, ![R, C]⟩] ⟨2, ![R, N]⟩ 1) (y : Shape.Idx ⟨2, ![R, N]⟩)

theorem left (e : (y 1).val < A) :
    concatenate ⟨2, ![R, N]⟩ 1 [⟨_, x⟩, ⟨_, z⟩, ⟨_, w⟩] h y = x (ix2 (y 0) ⟨(y 1).val, e⟩) :=
  concatenate_apply_piece _ _ _ y 0 (by show 0 < 3; omega) _ x rfl rfl 0 rfl _ (fun b hb => match b with
    | ⟨0, _⟩ => rfl
    | ⟨1, _⟩ => absurd rfl hb) (Nat.zero_add _)

theorem mid (e : A ≤ (y 1).val) (e' : (y 1).val - A < B) :
    concatenate ⟨2, ![R, N]⟩ 1 [⟨_, x⟩, ⟨_, z⟩, ⟨_, w⟩] h y = z (ix2 (y 0) ⟨(y 1).val - A, e'⟩) :=
  concatenate_apply_piece _ _ _ y 1 (by show 1 < 3; omega) _ z rfl rfl A rfl _ (fun b hb => match b with
    | ⟨0, _⟩ => rfl
    | ⟨1, _⟩ => absurd rfl hb) (Nat.add_sub_cancel' e)

theorem right (e : A + B ≤ (y 1).val) (e' : (y 1).val - (A + B) < C) :
    concatenate ⟨2, ![R, N]⟩ 1 [⟨_, x⟩, ⟨_, z⟩, ⟨_, w⟩] h y = w (ix2 (y 0) ⟨(y 1).val - (A + B), e'⟩) :=
  concatenate_apply_piece _ _ _ y 2 (by show 2 < 3; omega) _ w rfl rfl (A + B) rfl _ (fun b hb => match b with
    | ⟨0, _⟩ => rfl
    | ⟨1, _⟩ => absurd rfl hb) (Nat.add_sub_cancel' e)

end Cert.Columns
-- ==== Proof.GQkv1.lean ====
module

public import proofs.«01_k».proof.Defs
public import proofs.«01_k».proof.Proof.Gen.GQkv1Ideal.Value
public import proofs.«01_k».proof.Proof.Gen.GQkv1RefIdeal.Run
public import proofs.«01_k».proof.Proof.Gen.GQkv1RefIdeal.Read
public import Idealize.ShloMosaic.Lib.StableHlo.ReadAt
public import Idealize.ShloMosaic.Adequacy
public import Idealize.ShloMosaic.Init
public import Idealize.ShloMosaic.Lib.Quiescent
public import proofs.«01_k».proof.Proof.Mm
public import proofs.«01_k».proof.Proof.Columns

/-! # The gradient of the second branch's part of the attention's input weight

The call writes its columns into the array it is given and leaves the others. The reference puts the
derivative between the other columns of the array. -/

@[expose] public section
set_option maxRecDepth 16384
noncomputable section
namespace Cert.GQkv1Ideal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

/-- The first step of a block leaves its product in the accumulator. -/
theorem first (h : t.val % 2 = 0) (y : S1024x1024.Idx) :
    ((Gen.outsAt0 m c t.val t.isLt).2 y : EReal) = Mm.tn (K := 2048) (M := 1024) (N := 1024) (Gen.iblk m c 0 t) (Gen.iblk m c 1 t) y := by
  rw [Gen.outsAt0_A m c t h (by omega)]
  frame_out
  refine Tile.canon_all (Val := Elt Ideal) (s := S1024x1024) (e := .f32) (Mm.tn (K := 2048) (M := 1024) (N := 1024) _ _) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, shapeCast_self]
      exact Mm.piece_tn _ _ _ _ _ _ x
  · exact View.cover_of_tiledBy _ ![256, 1024] (by sl_kernel_rfl)

/-- The last step adds its product and stores the sum. -/
theorem last (h : t.val % 2 = 1) (y : S1024x1024.Idx) :
    ((Gen.outsAt0 m c t.val t.isLt).1 y : EReal)
      = (Gen.outsAt0 m c (t.val - 1) (by have := t.isLt; omega)).2 y + Mm.tn (K := 2048) (M := 1024) (N := 1024) (Gen.iblk m c 0 t) (Gen.iblk m c 1 t) y := by
  rw [Gen.outsAt0_B m c t (by omega) h]
  frame_out
  refine Tile.canon_all (Val := Elt Ideal) (s := S1024x1024) (e := .bf16)
    (fun y => _ + Mm.tn (K := 2048) (M := 1024) (N := 1024) _ _ y) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, shapeCast_self]
      refine congrArg₂ (fun a b : EReal => a + b) ?_ (Mm.piece_tn _ _ _ _ _ _ x)
      rw [read_unread_whole]
      rfl
  · exact View.cover_of_tiledBy _ ![256, 1024] (by sl_kernel_rfl)

/-- The layer's rows and the projection's gradient, as the call is given them. -/
def arrH : S4096x1024.Idx → EReal := Gen.V m c main_v0
def arrDy : S4096x3072.Idx → EReal := Gen.V m c main_arg2

theorem idx_facts : ∀ t : Fin cfg0.N, win0_0.index t = ![t.val % 2, 0] ∧ win0_1.index t = ![t.val % 2, t.val / 2] ∧ win0_2.index t = ![0, t.val / 2 + 3] := by decide +kernel
theorem flush_iff : ∀ t : Fin cfg0.N, (cfg0.win 2).flush t = true ↔ t.val % 2 = 1 := by decide +kernel
theorem N6 : cfg0.N = 6 := by decide +kernel

theorem iblk0 (k : Fin 2048) (r : Fin 1024) : (Gen.iblk m c 0 t (ix2 k r) : EReal)
    = arrH m c (ix2 ⟨2048 * (t.val % 2) + k.val, by omega⟩ r) := by
  blk_ext [Gen.iblk, arrH, (idx_facts t).1]
  exact congrArg (· + k.val) (Nat.mul_comm _ _)
theorem iblk1 (k : Fin 2048) (r : Fin 1024) : (Gen.iblk m c 1 t (ix2 k r) : EReal)
    = arrDy m c (ix2 ⟨2048 * (t.val % 2) + k.val, by omega⟩ ⟨1024 * (t.val / 2) + r.val, by have := Nat.lt_of_lt_of_eq t.isLt N6; omega⟩) := by
  blk_ext [Gen.iblk, arrDy, (idx_facts t).2.1]
  · exact congrArg (· + k.val) (Nat.mul_comm _ _)
  · exact congrArg (· + r.val) (Nat.mul_comm _ _)

theorem arrH_eq : arrH m c = m ((c : Thread nD τ).loc main_arg0) := by
  unfold arrH Gen.V
  after_reads_simp
  rfl

/-- The array with the branch's columns replaced by the gradient. -/
def filled (h : S4096x1024.Idx → EReal) (dy : S4096x3072.Idx → EReal) (g : S1024x9216.Idx → EReal) (y : S1024x9216.Idx) : EReal :=
  if e : 3072 ≤ (y 1).val ∧ (y 1).val < 3072 + 3072 then ∑ k : Fin 4096, h (ix2 k (y 0)) * dy (ix2 k ⟨(y 1).val - 3072, by omega⟩) else g y

/-- What a point writes back is its block of that array. -/
theorem flushed_eq (g : S1024x9216.Idx → EReal) (hf : (cfg0.win 2).flush t = true) :
    (Gen.dats m 0 c).flushed 2 t = ((cfg0.win 2).blk t).view.read (Elt Ideal) (filled (arrH m c) (arrDy m c) g) := by
  have hN := Nat.lt_of_lt_of_eq t.isLt N6
  have hc := (flush_iff t).mp hf
  rw [flushed2]
  funext y
  have l0 : (y 0).val < 1024 := (y 0).isLt
  have l1 : (y 1).val < 1024 := (y 1).isLt
  have hb0 : (((cfg0.win 2).blk t).view.emb y 0).val = win0_2.index t (0 : Fin 2) * 1024 + 1 * (y 0).val := rfl
  have hb1 : (((cfg0.win 2).blk t).view.emb y 1).val = win0_2.index t (1 : Fin 2) * 1024 + 1 * (y 1).val := rfl
  have q0 : win0_2.index t (0 : Fin 2) = 0 := congrFun (idx_facts t).2.2 0
  have q1 : win0_2.index t (1 : Fin 2) = t.val / 2 + 3 := congrFun (idx_facts t).2.2 1
  have x0 : ((cfg0.win 2).xinj (grid0.coords t) y 0).val = (y 0).val := rfl
  have x1 : ((cfg0.win 2).xinj (grid0.coords t) y 1).val = (y 1).val := rfl
  rw [q0] at hb0
  rw [q1] at hb1
  show ((Gen.outsAt0 m c t.val t.isLt).1 ((cfg0.win 2).xinj (grid0.coords t) y) : EReal)
    = filled _ _ _ (((cfg0.win 2).blk t).view.emb y)
  have e := last m c t hc ((cfg0.win 2).xinj (grid0.coords t) y)
  rw [first m c ⟨t.val - 1, by omega⟩ (by dsimp only; omega)] at e
  refine e.trans ?_
  unfold filled
  rw [dif_pos (by omega)]
  unfold Mm.tn
  refine Eq.trans ?_ (Tile.sum_blocks 2 2048 (fun k : Fin 4096 => arrH m c (ix2 k (((cfg0.win 2).blk t).view.emb y 0))
    * arrDy m c (ix2 k ⟨(((cfg0.win 2).blk t).view.emb y 1).val - 3072, by omega⟩))).symm
  rw [Fin.sum_univ_two]
  refine congrArg₂ (fun a b : EReal => a + b) (Finset.sum_congr rfl fun k _ => ?_) (Finset.sum_congr rfl fun k _ => ?_)
  all_goals
    refine congrArg₂ (fun a b : EReal => a * b) ((iblk0 m c _ _ _).trans (Mm.at2 _ ?_ ?_)) ((iblk1 m c _ _ _).trans (Mm.at2 _ ?_ ?_))
    all_goals
      simp only [hb0, hb1, x0, x1, Fin.val_zero, Fin.val_one]
      omega

theorem mem_blk (i : S1024x9216.Idx) : i ∈ ((cfg0.win 2).blk t).view.set
    ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- The array before the call is the argument. -/
theorem entry_eq : (Gen.V m c main_v1 : S1024x9216.Idx → EReal) = m ((c : Thread nD τ).loc main_arg3) := by
  unfold Gen.V
  after_reads_simp
  rfl

/-- The result: the branch's columns hold the gradient, the others what they held. -/
theorem result_eq : ((Gen.dats m 0 c).arrAt 2 cfg0.N : S1024x9216.Idx → EReal)
    = filled (m ((c : Thread nD τ).loc main_arg0)) (m ((c : Thread nD τ).loc main_arg2)) (m ((c : Thread nD τ).loc main_arg3)) := by
  rw [← arrH_eq m c, ← entry_eq m c, show m ((c : Thread nD τ).loc main_arg2) = arrDy m c from (Gen.V_main_arg2 m c).symm]
  funext i
  have h0 : (i 0).val < 1024 := (i 0).isLt
  by_cases h : 3072 ≤ (i 1).val ∧ (i 1).val < 3072 + 3072
  · refine (Gen.dats m 0 c).arrAt_apply_of_mem 2 _ (fun t hf => flushed_eq m c t _ hf) cfg0.N
      ⟨2 * (((i 1).val - 3072) / 1024) + 1, by rw [N6]; omega⟩ i (Fin.isLt _) ((flush_iff _).mpr (by dsimp only; omega)) ?_
    rw [mem_blk]
    have e := (idx_facts ⟨2 * (((i 1).val - 3072) / 1024) + 1, by rw [N6]; omega⟩).2.2
    have q0 := congrFun e 0
    have q1 := congrFun e 1
    intro a
    match a with
    | ⟨0, _⟩ =>
      show win0_2.index _ (0 : Fin 2) * 1024 ≤ (i 0).val ∧ (i 0).val < win0_2.index _ (0 : Fin 2) * 1024 + 1024
      rw [q0]
      show 0 * 1024 ≤ _ ∧ _ < 0 * 1024 + 1024
      omega
    | ⟨1, _⟩ =>
      show win0_2.index _ (1 : Fin 2) * 1024 ≤ (i 1).val ∧ (i 1).val < win0_2.index _ (1 : Fin 2) * 1024 + 1024
      rw [q1]
      show ((2 * (((i 1).val - 3072) / 1024) + 1) / 2 + 3) * 1024 ≤ _ ∧ _ < ((2 * (((i 1).val - 3072) / 1024) + 1) / 2 + 3) * 1024 + 1024
      omega
  · refine (entry2 m c i fun t hf hm => h ?_).trans (show filled _ _ _ i = _ from dif_neg h).symm
    have e := (mem_blk t i).mp hm (1 : Fin 2)
    have q1 : win0_2.index t (1 : Fin 2) = t.val / 2 + 3 := congrFun (idx_facts t).2.2 1
    rw [q1] at e
    have hN := Nat.lt_of_lt_of_eq t.isLt N6
    have z : S1024x1024.size (1 : Fin 2) = 1024 := rfl
    rw [z] at e
    omega

/-- The derivative of the product, read as one contraction. -/
theorem derivative_at (h : S4096x1024.Idx → EReal) (dy : S4096x3072.Idx → EReal) (y : Cert.GQkv1RefIdeal.S1024x3072.Idx) :
    (Cert.GQkv1RefIdeal.Read.val_main_v6 (F := Ideal) h dy y : EReal) = ∑ k : Fin 4096, h (ix2 k (y 0)) * dy (ix2 k (y 1)) := by
  rw [Cert.GQkv1RefIdeal.Read.val_main_v6_apply, Cert.GQkv1RefIdeal.Read.val_main_v4_apply]
  refine (Cert.GQkv1RefIdeal.Read.val_main_v3_apply h dy _).trans (Finset.sum_congr rfl fun k _ => ?_)
  refine (mul_comm _ _).trans ?_
  exact congrArg₂ (fun a b : EReal => a * b) (congrArg h (Tile.eq_ix2_of _ _ _ rfl rfl))
    ((Cert.GQkv1RefIdeal.Read.val_main_v2_apply (F := Ideal) dy _).trans (congrArg dy (Tile.eq_ix2_of _ _ _ rfl rfl)))

/-- The columns behind the branch's, at an index. -/
theorem after_at (g : S1024x9216.Idx → EReal) (p : Cert.GQkv1RefIdeal.S1024x3072.Idx) :
    (Cert.GQkv1RefIdeal.Read.val_main_v7 (F := Ideal) g p : EReal)
      = g (ix2 (p 0) ⟨6144 + (p 1).val, Nat.add_lt_add_left (show (p 1).val < 3072 from (p 1).isLt) 6144⟩) :=
  (Cert.GQkv1RefIdeal.Read.val_main_v7_apply (F := Ideal) g p).trans (congrArg g (Tile.eq_ix2_of _ _ _ rfl rfl))

/-- The reference is the same array. -/
theorem reference_eq (h : S4096x1024.Idx → EReal) (dy : S4096x3072.Idx → EReal) (g : S1024x9216.Idx → EReal) :
    (Cert.GQkv1RefIdeal.Read.val_main_v8 (F := Ideal) h dy g : S1024x9216.Idx → EReal) = filled h dy g := by
  funext y
  have b : (y 1).val < 9216 := (y 1).isLt
  unfold filled
  by_cases e : 3072 ≤ (y 1).val ∧ (y 1).val < 3072 + 3072
  · rw [dif_pos e]
    exact (Columns.mid (A := 3072) (B := 3072) (C := 3072) (N := 9216) _ _ _ _ y e.1 (by omega)).trans (derivative_at h dy _)
  · rw [dif_neg e]
    by_cases l : (y 1).val < 3072
    · refine (Columns.left (A := 3072) (B := 3072) (C := 3072) (N := 9216) _ _ _ _ y (by omega)).trans ((Cert.GQkv1RefIdeal.Read.val_main_v5_apply (F := Ideal) g _).trans ?_)
      exact congrArg g ((Tile.eq_ix2_of _ _ _ rfl rfl).trans (Tile.eq_ix2_of y _ _ rfl rfl).symm)
    · refine (Columns.right (A := 3072) (B := 3072) (C := 3072) (N := 9216) _ _ _ _ y (by omega) (by omega)).trans ((after_at g _).trans ?_)
      refine congrArg g (Tile.eq_ix2_of y _ _ rfl ?_).symm
      show (y 1).val = 6144 + ((y 1).val - (3072 + 3072))
      omega

end Cert.GQkv1Ideal.Value

namespace Cert.Proof
open Idealize.ShloMosaic Idealize.SL.Sem Idealize.ShloMosaic.StableHlo

theorem frame_GQkv1Ref : quiescent_GQkv1RefIdeal := fun m ρ _ =>
  (θ_run Cert.GQkv1RefIdeal.defs _ _).mono (fun r h => ⟨fun c => (h c).2, sem_eq_zero_of_no_sems (by decide) r.2⟩)
    (Cert.GQkv1RefIdeal.Value.run (F := Ideal) m ρ)

theorem algebraic_GQkv1 : algebraic_GQkv1Ideal_GQkv1RefIdeal := by
  intro m ρ m' ρ' _ hagree
  refine ⟨_, Cert.GQkv1Ideal.Value.run_blocks (F := Ideal) m ρ, ?_⟩
  refine (θ_run Cert.GQkv1RefIdeal.defs _ _).mono (fun _ h c => ⟨?_, (h c).2⟩) (Cert.GQkv1RefIdeal.Value.run (F := Ideal) m' ρ')
  obtain ⟨e0, -, e2, e3⟩ := hagree c
  refine ((h c).1.trans (Cert.GQkv1RefIdeal.Read.val_main_v8_eq (F := Ideal) _ _ _)).trans ?_
  rw [e0, e2, e3]
  exact (Cert.GQkv1Ideal.Value.reference_eq _ _ _).trans (Cert.GQkv1Ideal.Value.result_eq m c).symm

end Cert.Proof
-- ==== Proof.GQkv2.lean ====
module

public import proofs.«01_k».proof.Defs
public import proofs.«01_k».proof.Proof.Gen.GQkv2Ideal.Value
public import proofs.«01_k».proof.Proof.Gen.GQkv2RefIdeal.Run
public import proofs.«01_k».proof.Proof.Gen.GQkv2RefIdeal.Read
public import Idealize.ShloMosaic.Lib.StableHlo.ReadAt
public import Idealize.ShloMosaic.Adequacy
public import Idealize.ShloMosaic.Init
public import Idealize.ShloMosaic.Lib.Quiescent
public import proofs.«01_k».proof.Proof.Mm
public import proofs.«01_k».proof.Proof.Columns

/-! # The gradient of the third branch's part of the attention's input weight

The call writes its columns into the array it is given and leaves the others. The reference puts the
derivative between the other columns of the array. -/

@[expose] public section
set_option maxRecDepth 16384
noncomputable section
namespace Cert.GQkv2Ideal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

/-- The first step of a block leaves its product in the accumulator. -/
theorem first (h : t.val % 2 = 0) (y : S1024x1024.Idx) :
    ((Gen.outsAt0 m c t.val t.isLt).2 y : EReal) = Mm.tn (K := 2048) (M := 1024) (N := 1024) (Gen.iblk m c 0 t) (Gen.iblk m c 1 t) y := by
  rw [Gen.outsAt0_A m c t h (by omega)]
  frame_out
  refine Tile.canon_all (Val := Elt Ideal) (s := S1024x1024) (e := .f32) (Mm.tn (K := 2048) (M := 1024) (N := 1024) _ _) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, shapeCast_self]
      exact Mm.piece_tn _ _ _ _ _ _ x
  · exact View.cover_of_tiledBy _ ![256, 1024] (by sl_kernel_rfl)

/-- The last step adds its product and stores the sum. -/
theorem last (h : t.val % 2 = 1) (y : S1024x1024.Idx) :
    ((Gen.outsAt0 m c t.val t.isLt).1 y : EReal)
      = (Gen.outsAt0 m c (t.val - 1) (by have := t.isLt; omega)).2 y + Mm.tn (K := 2048) (M := 1024) (N := 1024) (Gen.iblk m c 0 t) (Gen.iblk m c 1 t) y := by
  rw [Gen.outsAt0_B m c t (by omega) h]
  frame_out
  refine Tile.canon_all (Val := Elt Ideal) (s := S1024x1024) (e := .bf16)
    (fun y => _ + Mm.tn (K := 2048) (M := 1024) (N := 1024) _ _ y) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, shapeCast_self]
      refine congrArg₂ (fun a b : EReal => a + b) ?_ (Mm.piece_tn _ _ _ _ _ _ x)
      rw [read_unread_whole]
      rfl
  · exact View.cover_of_tiledBy _ ![256, 1024] (by sl_kernel_rfl)

/-- The layer's rows and the projection's gradient, as the call is given them. -/
def arrH : S4096x1024.Idx → EReal := Gen.V m c main_v0
def arrDy : S4096x3072.Idx → EReal := Gen.V m c main_arg2

theorem idx_facts : ∀ t : Fin cfg0.N, win0_0.index t = ![t.val % 2, 0] ∧ win0_1.index t = ![t.val % 2, t.val / 2] ∧ win0_2.index t = ![0, t.val / 2 + 6] := by decide +kernel
theorem flush_iff : ∀ t : Fin cfg0.N, (cfg0.win 2).flush t = true ↔ t.val % 2 = 1 := by decide +kernel
theorem N6 : cfg0.N = 6 := by decide +kernel

theorem iblk0 (k : Fin 2048) (r : Fin 1024) : (Gen.iblk m c 0 t (ix2 k r) : EReal)
    = arrH m c (ix2 ⟨2048 * (t.val % 2) + k.val, by omega⟩ r) := by
  blk_ext [Gen.iblk, arrH, (idx_facts t).1]
  exact congrArg (· + k.val) (Nat.mul_comm _ _)
theorem iblk1 (k : Fin 2048) (r : Fin 1024) : (Gen.iblk m c 1 t (ix2 k r) : EReal)
    = arrDy m c (ix2 ⟨2048 * (t.val % 2) + k.val, by omega⟩ ⟨1024 * (t.val / 2) + r.val, by have := Nat.lt_of_lt_of_eq t.isLt N6; omega⟩) := by
  blk_ext [Gen.iblk, arrDy, (idx_facts t).2.1]
  · exact congrArg (· + k.val) (Nat.mul_comm _ _)
  · exact congrArg (· + r.val) (Nat.mul_comm _ _)

theorem arrH_eq : arrH m c = m ((c : Thread nD τ).loc main_arg0) := by
  unfold arrH Gen.V
  after_reads_simp
  rfl

/-- The array with the branch's columns replaced by the gradient. -/
def filled (h : S4096x1024.Idx → EReal) (dy : S4096x3072.Idx → EReal) (g : S1024x9216.Idx → EReal) (y : S1024x9216.Idx) : EReal :=
  if e : 6144 ≤ (y 1).val ∧ (y 1).val < 6144 + 3072 then ∑ k : Fin 4096, h (ix2 k (y 0)) * dy (ix2 k ⟨(y 1).val - 6144, by omega⟩) else g y

/-- What a point writes back is its block of that array. -/
theorem flushed_eq (g : S1024x9216.Idx → EReal) (hf : (cfg0.win 2).flush t = true) :
    (Gen.dats m 0 c).flushed 2 t = ((cfg0.win 2).blk t).view.read (Elt Ideal) (filled (arrH m c) (arrDy m c) g) := by
  have hN := Nat.lt_of_lt_of_eq t.isLt N6
  have hc := (flush_iff t).mp hf
  rw [flushed2]
  funext y
  have l0 : (y 0).val < 1024 := (y 0).isLt
  have l1 : (y 1).val < 1024 := (y 1).isLt
  have hb0 : (((cfg0.win 2).blk t).view.emb y 0).val = win0_2.index t (0 : Fin 2) * 1024 + 1 * (y 0).val := rfl
  have hb1 : (((cfg0.win 2).blk t).view.emb y 1).val = win0_2.index t (1 : Fin 2) * 1024 + 1 * (y 1).val := rfl
  have q0 : win0_2.index t (0 : Fin 2) = 0 := congrFun (idx_facts t).2.2 0
  have q1 : win0_2.index t (1 : Fin 2) = t.val / 2 + 6 := congrFun (idx_facts t).2.2 1
  have x0 : ((cfg0.win 2).xinj (grid0.coords t) y 0).val = (y 0).val := rfl
  have x1 : ((cfg0.win 2).xinj (grid0.coords t) y 1).val = (y 1).val := rfl
  rw [q0] at hb0
  rw [q1] at hb1
  show ((Gen.outsAt0 m c t.val t.isLt).1 ((cfg0.win 2).xinj (grid0.coords t) y) : EReal)
    = filled _ _ _ (((cfg0.win 2).blk t).view.emb y)
  have e := last m c t hc ((cfg0.win 2).xinj (grid0.coords t) y)
  rw [first m c ⟨t.val - 1, by omega⟩ (by dsimp only; omega)] at e
  refine e.trans ?_
  unfold filled
  rw [dif_pos (by omega)]
  unfold Mm.tn
  refine Eq.trans ?_ (Tile.sum_blocks 2 2048 (fun k : Fin 4096 => arrH m c (ix2 k (((cfg0.win 2).blk t).view.emb y 0))
    * arrDy m c (ix2 k ⟨(((cfg0.win 2).blk t).view.emb y 1).val - 6144, by omega⟩))).symm
  rw [Fin.sum_univ_two]
  refine congrArg₂ (fun a b : EReal => a + b) (Finset.sum_congr rfl fun k _ => ?_) (Finset.sum_congr rfl fun k _ => ?_)
  all_goals
    refine congrArg₂ (fun a b : EReal => a * b) ((iblk0 m c _ _ _).trans (Mm.at2 _ ?_ ?_)) ((iblk1 m c _ _ _).trans (Mm.at2 _ ?_ ?_))
    all_goals
      simp only [hb0, hb1, x0, x1, Fin.val_zero, Fin.val_one]
      omega

theorem mem_blk (i : S1024x9216.Idx) : i ∈ ((cfg0.win 2).blk t).view.set
    ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- The array before the call is the argument. -/
theorem entry_eq : (Gen.V m c main_v1 : S1024x9216.Idx → EReal) = m ((c : Thread nD τ).loc main_arg3) := by
  unfold Gen.V
  after_reads_simp
  rfl

/-- The result: the branch's columns hold the gradient, the others what they held. -/
theorem result_eq : ((Gen.dats m 0 c).arrAt 2 cfg0.N : S1024x9216.Idx → EReal)
    = filled (m ((c : Thread nD τ).loc main_arg0)) (m ((c : Thread nD τ).loc main_arg2)) (m ((c : Thread nD τ).loc main_arg3)) := by
  rw [← arrH_eq m c, ← entry_eq m c, show m ((c : Thread nD τ).loc main_arg2) = arrDy m c from (Gen.V_main_arg2 m c).symm]
  funext i
  have h0 : (i 0).val < 1024 := (i 0).isLt
  by_cases h : 6144 ≤ (i 1).val ∧ (i 1).val < 6144 + 3072
  · refine (Gen.dats m 0 c).arrAt_apply_of_mem 2 _ (fun t hf => flushed_eq m c t _ hf) cfg0.N
      ⟨2 * (((i 1).val - 6144) / 1024) + 1, by rw [N6]; omega⟩ i (Fin.isLt _) ((flush_iff _).mpr (by dsimp only; omega)) ?_
    rw [mem_blk]
    have e := (idx_facts ⟨2 * (((i 1).val - 6144) / 1024) + 1, by rw [N6]; omega⟩).2.2
    have q0 := congrFun e 0
    have q1 := congrFun e 1
    intro a
    match a with
    | ⟨0, _⟩ =>
      show win0_2.index _ (0 : Fin 2) * 1024 ≤ (i 0).val ∧ (i 0).val < win0_2.index _ (0 : Fin 2) * 1024 + 1024
      rw [q0]
      show 0 * 1024 ≤ _ ∧ _ < 0 * 1024 + 1024
      omega
    | ⟨1, _⟩ =>
      show win0_2.index _ (1 : Fin 2) * 1024 ≤ (i 1).val ∧ (i 1).val < win0_2.index _ (1 : Fin 2) * 1024 + 1024
      rw [q1]
      show ((2 * (((i 1).val - 6144) / 1024) + 1) / 2 + 6) * 1024 ≤ _ ∧ _ < ((2 * (((i 1).val - 6144) / 1024) + 1) / 2 + 6) * 1024 + 1024
      omega
  · refine (entry2 m c i fun t hf hm => h ?_).trans (show filled _ _ _ i = _ from dif_neg h).symm
    have e := (mem_blk t i).mp hm (1 : Fin 2)
    have q1 : win0_2.index t (1 : Fin 2) = t.val / 2 + 6 := congrFun (idx_facts t).2.2 1
    rw [q1] at e
    have hN := Nat.lt_of_lt_of_eq t.isLt N6
    have z : S1024x1024.size (1 : Fin 2) = 1024 := rfl
    rw [z] at e
    omega

/-- The derivative of the product, read as one contraction. -/
theorem derivative_at (h : S4096x1024.Idx → EReal) (dy : S4096x3072.Idx → EReal) (y : Cert.GQkv2RefIdeal.S1024x3072.Idx) :
    (Cert.GQkv2RefIdeal.Read.val_main_v6 (F := Ideal) h dy y : EReal) = ∑ k : Fin 4096, h (ix2 k (y 0)) * dy (ix2 k (y 1)) := by
  rw [Cert.GQkv2RefIdeal.Read.val_main_v6_apply, Cert.GQkv2RefIdeal.Read.val_main_v4_apply]
  refine (Cert.GQkv2RefIdeal.Read.val_main_v3_apply h dy _).trans (Finset.sum_congr rfl fun k _ => ?_)
  refine (mul_comm _ _).trans ?_
  exact congrArg₂ (fun a b : EReal => a * b) (congrArg h (Tile.eq_ix2_of _ _ _ rfl rfl))
    ((Cert.GQkv2RefIdeal.Read.val_main_v2_apply (F := Ideal) dy _).trans (congrArg dy (Tile.eq_ix2_of _ _ _ rfl rfl)))

/-- The reference is the same array. -/
theorem reference_eq (h : S4096x1024.Idx → EReal) (dy : S4096x3072.Idx → EReal) (g : S1024x9216.Idx → EReal) :
    (Cert.GQkv2RefIdeal.Read.val_main_v8 (F := Ideal) h dy g : S1024x9216.Idx → EReal) = filled h dy g := by
  funext y
  have b : (y 1).val < 9216 := (y 1).isLt
  unfold filled
  by_cases e : 6144 ≤ (y 1).val ∧ (y 1).val < 6144 + 3072
  · rw [dif_pos e]
    exact (Columns.mid (A := 6144) (B := 3072) (C := 0) (N := 9216) _ _ _ _ y e.1 (by omega)).trans (derivative_at h dy _)
  · rw [dif_neg e]
    refine (Columns.left (A := 6144) (B := 3072) (C := 0) (N := 9216) _ _ _ _ y (by omega)).trans ((Cert.GQkv2RefIdeal.Read.val_main_v5_apply (F := Ideal) g _).trans ?_)
    exact congrArg g ((Tile.eq_ix2_of _ _ _ rfl rfl).trans (Tile.eq_ix2_of y _ _ rfl rfl).symm)

end Cert.GQkv2Ideal.Value

namespace Cert.Proof
open Idealize.ShloMosaic Idealize.SL.Sem Idealize.ShloMosaic.StableHlo

theorem frame_GQkv2Ref : quiescent_GQkv2RefIdeal := fun m ρ _ =>
  (θ_run Cert.GQkv2RefIdeal.defs _ _).mono (fun r h => ⟨fun c => (h c).2, sem_eq_zero_of_no_sems (by decide) r.2⟩)
    (Cert.GQkv2RefIdeal.Value.run (F := Ideal) m ρ)

theorem algebraic_GQkv2 : algebraic_GQkv2Ideal_GQkv2RefIdeal := by
  intro m ρ m' ρ' _ hagree
  refine ⟨_, Cert.GQkv2Ideal.Value.run_blocks (F := Ideal) m ρ, ?_⟩
  refine (θ_run Cert.GQkv2RefIdeal.defs _ _).mono (fun _ h c => ⟨?_, (h c).2⟩) (Cert.GQkv2RefIdeal.Value.run (F := Ideal) m' ρ')
  obtain ⟨e0, -, e2, e3⟩ := hagree c
  refine ((h c).1.trans (Cert.GQkv2RefIdeal.Read.val_main_v8_eq (F := Ideal) _ _ _)).trans ?_
  rw [e0, e2, e3]
  exact (Cert.GQkv2Ideal.Value.reference_eq _ _ _).trans (Cert.GQkv2Ideal.Value.result_eq m c).symm

end Cert.Proof
-- ==== Proof.GAOut.lean ====
module

public import proofs.«01_k».proof.Defs
public import proofs.«01_k».proof.Proof.Gen.GAOutIdeal.Value
public import proofs.«01_k».proof.Proof.Gen.GAOutRefIdeal.Run
public import proofs.«01_k».proof.Proof.Gen.GAOutRefIdeal.Read
public import Idealize.ShloMosaic.Lib.StableHlo.ReadAt
public import Idealize.ShloMosaic.Adequacy
public import Idealize.ShloMosaic.Init
public import Idealize.ShloMosaic.Lib.Quiescent
public import proofs.«01_k».proof.Proof.Mm

/-! # The gradient of the gated layer's output weight -/

@[expose] public section
set_option maxRecDepth 16384
noncomputable section
namespace Cert.GAOutIdeal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

/-- The first step of a block leaves its product in the accumulator. -/
theorem first (h : t.val % 2 = 0) (y : S1024x1024.Idx) :
    ((Gen.outsAt0 m c t.val t.isLt).2 y : EReal) = Mm.tn (K := 2048) (M := 1024) (N := 1024) (Gen.iblk m c 0 t) (Gen.iblk m c 1 t) y := by
  rw [Gen.outsAt0_A m c t h (by omega)]
  frame_out
  refine Tile.canon_all (Val := Elt Ideal) (s := S1024x1024) (e := .f32) (Mm.tn (K := 2048) (M := 1024) (N := 1024) _ _) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, shapeCast_self]
      exact Mm.piece_tn _ _ _ _ _ _ x
  · exact View.cover_of_tiledBy _ ![256, 1024] (by sl_kernel_rfl)

/-- The last step adds its product and stores the sum. -/
theorem last (h : t.val % 2 = 1) (y : S1024x1024.Idx) :
    ((Gen.outsAt0 m c t.val t.isLt).1 y : EReal)
      = (Gen.outsAt0 m c (t.val - 1) (by have := t.isLt; omega)).2 y + Mm.tn (K := 2048) (M := 1024) (N := 1024) (Gen.iblk m c 0 t) (Gen.iblk m c 1 t) y := by
  rw [Gen.outsAt0_B m c t (by omega) h]
  frame_out
  refine Tile.canon_all (Val := Elt Ideal) (s := S1024x1024) (e := .bf16)
    (fun y => _ + Mm.tn (K := 2048) (M := 1024) (N := 1024) _ _ y) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, shapeCast_self]
      refine congrArg₂ (fun a b : EReal => a + b) ?_ (Mm.piece_tn _ _ _ _ _ _ x)
      rw [read_unread_whole]
      rfl
  · exact View.cover_of_tiledBy _ ![256, 1024] (by sl_kernel_rfl)

/-- The layer's rows and the projection's gradient, as the call is given them. -/
def arrH : S4096x1024.Idx → EReal := Gen.V m c main_v0
def arrDy : S4096x1024.Idx → EReal := Gen.V m c main_v1

theorem idx_facts : ∀ t : Fin cfg0.N, win0_0.index t = ![t.val % 2, 0] ∧ win0_1.index t = ![t.val % 2, 0] := by decide +kernel
theorem N2 : cfg0.N = 2 := by decide +kernel

theorem iblk0 (k : Fin 2048) (r : Fin 1024) : (Gen.iblk m c 0 t (ix2 k r) : EReal)
    = arrH m c (ix2 ⟨2048 * (t.val % 2) + k.val, by omega⟩ r) := by
  blk_ext [Gen.iblk, arrH, (idx_facts t).1]
  exact congrArg (· + k.val) (Nat.mul_comm _ _)
theorem iblk1 (k : Fin 2048) (r : Fin 1024) : (Gen.iblk m c 1 t (ix2 k r) : EReal)
    = arrDy m c (ix2 ⟨2048 * (t.val % 2) + k.val, by omega⟩ r) := by
  blk_ext [Gen.iblk, arrDy, (idx_facts t).2]
  exact congrArg (· + k.val) (Nat.mul_comm _ _)

/-- The result at an index: the whole contraction. -/
theorem result_eq : (G2 m c : S1024x1024.Idx → EReal) = Mm.tn (K := 4096) (M := 1024) (N := 1024) (arrH m c) (arrDy m c) := by
  funext y
  have b0 : (y 0).val < 1024 := (y 0).isLt
  have b1 : (y 1).val < 1024 := (y 1).isLt
  have hp : pt2Of y = 1 := by
    show 2 * (1 * ((y 0).val / 1024 - 0) + 1 * ((y 1).val / 1024 - 0)) + 1 = _
    omega
  have hN : pt2Of y < cfg0.N := by rw [hp, N2]; omega
  have h0 : (loc2Of y 0).val = (y 0).val % 1024 := rfl
  have h1 : (loc2Of y 1).val = (y 1).val % 1024 := rfl
  unfold G2
  rw [dif_pos hN, ← outsAt0_sweep m c _ hN]
  have e := last m c ⟨_, hN⟩ (by dsimp only; omega) (loc2Of y)
  rw [first m c ⟨_, by dsimp only; omega⟩ (by dsimp only; omega)] at e
  refine e.trans ?_
  unfold Mm.tn
  refine Eq.trans ?_ (Tile.sum_blocks 2 2048 (fun k : Fin 4096 => arrH m c (ix2 k (y 0)) * arrDy m c (ix2 k (y 1)))).symm
  rw [Fin.sum_univ_two]
  refine congrArg₂ (fun a b : EReal => a + b) (Finset.sum_congr rfl fun k _ => ?_) (Finset.sum_congr rfl fun k _ => ?_)
  all_goals
    refine congrArg₂ (fun a b : EReal => a * b) ((iblk0 m c _ _ _).trans (Mm.at2 _ ?_ ?_)) ((iblk1 m c _ _ _).trans (Mm.at2 _ ?_ ?_))
    all_goals
      simp only [hp, h0, h1, Fin.val_zero, Fin.val_one]
      omega

theorem arrH_eq : arrH m c = m ((c : Thread nD τ).loc main_arg0) := by
  unfold arrH Gen.V
  after_reads_simp
  rfl
theorem arrDy_eq : arrDy m c = m ((c : Thread nD τ).loc main_arg2) := by
  unfold arrDy Gen.V
  after_reads_simp
  rfl

/-- The derivative of the product, read as one contraction. -/
theorem reference_eq (h : S4096x1024.Idx → EReal) (dy : S4096x1024.Idx → EReal) :
    (Cert.GAOutRefIdeal.Read.val_main_v3 (F := Ideal) h dy : S1024x1024.Idx → EReal) = Mm.tn (K := 4096) (M := 1024) (N := 1024) h dy := by
  funext y
  rw [Cert.GAOutRefIdeal.Read.val_main_v3_apply, Cert.GAOutRefIdeal.Read.val_main_v2_apply]
  refine (Cert.GAOutRefIdeal.Read.val_main_v1_apply h dy _).trans (Finset.sum_congr rfl fun k _ => ?_)
  refine (mul_comm _ _).trans ?_
  exact congrArg₂ (fun a b : EReal => a * b) (congrArg h (Tile.eq_ix2_of _ _ _ rfl rfl)) (congrArg dy (Tile.eq_ix2_of _ _ _ rfl rfl))

end Cert.GAOutIdeal.Value

namespace Cert.Proof
open Idealize.ShloMosaic Idealize.SL.Sem Idealize.ShloMosaic.StableHlo

theorem frame_GAOutRef : quiescent_GAOutRefIdeal := fun m ρ _ =>
  (θ_run Cert.GAOutRefIdeal.defs _ _).mono (fun r h => ⟨fun c => (h c).2, sem_eq_zero_of_no_sems (by decide) r.2⟩)
    (Cert.GAOutRefIdeal.Value.run (F := Ideal) m ρ)

theorem algebraic_GAOut : algebraic_GAOutIdeal_GAOutRefIdeal := by
  intro m ρ m' ρ' _ hagree
  refine ⟨_, Cert.GAOutIdeal.Value.run (F := Ideal) m ρ, ?_⟩
  refine (θ_run Cert.GAOutRefIdeal.defs _ _).mono (fun _ h c => ⟨?_, (h c).2⟩) (Cert.GAOutRefIdeal.Value.run (F := Ideal) m' ρ')
  obtain ⟨e0, -, e2⟩ := hagree c
  refine ((h c).1.trans (Cert.GAOutRefIdeal.Read.val_main_v3_eq (F := Ideal) _ _)).trans ?_
  rw [e0, e2]
  refine (Cert.GAOutIdeal.Value.reference_eq _ _).trans ?_
  refine Eq.trans ?_ (Cert.GAOutIdeal.Value.result_eq m c).symm
  rw [Cert.GAOutIdeal.Value.arrH_eq, Cert.GAOutIdeal.Value.arrDy_eq]

end Cert.Proof
-- ==== Proof.GBOut.lean ====
module

public import proofs.«01_k».proof.Defs
public import proofs.«01_k».proof.Proof.Gen.GBOutIdeal.Value
public import proofs.«01_k».proof.Proof.Gen.GBOutRefIdeal.Run
public import proofs.«01_k».proof.Proof.Gen.GBOutRefIdeal.Read
public import Idealize.ShloMosaic.Lib.StableHlo.ReadAt
public import Idealize.ShloMosaic.Adequacy
public import Idealize.ShloMosaic.Init
public import Idealize.ShloMosaic.Lib.Quiescent
public import proofs.«01_k».proof.Proof.Hidden

/-! # The gradient of the attention layer's output weight -/

@[expose] public section
set_option maxRecDepth 16384
noncomputable section
namespace Cert.GBOutIdeal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

theorem N4 : cfg0.N = 4 := by decide +kernel

/-- What a step adds. -/
def part (y : S1024x1024.Idx) : EReal := Mm.tn (K := 1024) (M := 1024) (N := 1024) (Gen.iblk m c 0 t) (Gen.iblk m c 1 t) y

/-- The first step of a block leaves its product in the accumulator. -/
theorem first (h : t.val % 4 = 0) (y : S1024x1024.Idx) : ((Gen.outsAt0 m c t.val t.isLt).2 y : EReal) = part m c t y := by
  rw [Gen.outsAt0_A m c t h (by omega) (by omega)]
  frame_out
  refine Tile.canon_all (Val := Elt Ideal) (s := S1024x1024) (e := .f32) (part m c t) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, shapeCast_self]
      exact Mm.piece_tn _ _ _ _ _ _ x
  · exact View.cover_of_tiledBy _ ![256, 1024] (by sl_kernel_rfl)

/-- A step between adds its product to the accumulator. -/
theorem mid (h : 1 ≤ t.val % 4 ∧ t.val % 4 ≤ 2) (y : S1024x1024.Idx) : ((Gen.outsAt0 m c t.val t.isLt).2 y : EReal)
    = (Gen.outsAt0 m c (t.val - 1) (by have := t.isLt; omega)).2 y + part m c t y := by
  rw [Gen.outsAt0_B m c t (by omega) h (by omega)]
  frame_out
  refine Tile.canon_all (Val := Elt Ideal) (s := S1024x1024) (e := .f32) (fun y => _ + part m c t y) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, shapeCast_self]
      refine congrArg₂ (fun a b : EReal => a + b) ?_ (Mm.piece_tn _ _ _ _ _ _ x)
      rw [read_unread_whole]
      rfl
  · exact View.cover_of_tiledBy _ ![256, 1024] (by sl_kernel_rfl)

/-- The last step adds its product and stores the sum. -/
theorem last (h : t.val % 4 = 3) (y : S1024x1024.Idx) : ((Gen.outsAt0 m c t.val t.isLt).1 y : EReal)
    = (Gen.outsAt0 m c (t.val - 1) (by have := t.isLt; omega)).2 y + part m c t y := by
  rw [Gen.outsAt0_C m c t (by omega) (by omega) h]
  frame_out
  refine Tile.canon_all (Val := Elt Ideal) (s := S1024x1024) (e := .bf16) (fun y => _ + part m c t y) _ ?_ ?_ y
  · repeat' (first | exact Tile.pieces_nil _ | refine Tile.pieces_cons _ _ _ ?_ ?_)
    all_goals
      intro x
      simp only [Gen.k0_pay1, Gen.k0_pay2, Gen.k0_pay3, Gen.k0_pay4, Gen.k0_pay5, Gen.k0_pay6, Gen.k0_pay7, Gen.k0_pay8, Gen.k0_pay9, Gen.k0_pay10, Gen.k0_pay11, Gen.k0_pay12, Gen.k0_pay13, shapeCast_self]
      refine congrArg₂ (fun a b : EReal => a + b) ?_ (Mm.piece_tn _ _ _ _ _ _ x)
      rw [read_unread_whole]
      rfl
  · exact View.cover_of_tiledBy _ ![256, 1024] (by sl_kernel_rfl)

/-- The attention's rows and the output's gradient, as the call is given them. -/
def arrO : S4096x1024.Idx → EReal := Gen.V m c main_arg0
def arrDy : S4096x1024.Idx → EReal := Gen.V m c main_v0

theorem idx_facts : ∀ t : Fin cfg0.N, win0_0.index t = ![t.val, 0] ∧ win0_1.index t = ![t.val, 0] := by decide +kernel

theorem iblk0 (k : Fin 1024) (r : Fin 1024) : (Gen.iblk m c 0 t (ix2 k r) : EReal)
    = arrO m c (ix2 ⟨1024 * t.val + k.val, by have := Nat.lt_of_lt_of_eq t.isLt N4; omega⟩ r) := by
  blk_ext [Gen.iblk, arrO, (idx_facts t).1]
  exact congrArg (· + k.val) (Nat.mul_comm _ _)
theorem iblk1 (k : Fin 1024) (r : Fin 1024) : (Gen.iblk m c 1 t (ix2 k r) : EReal)
    = arrDy m c (ix2 ⟨1024 * t.val + k.val, by have := Nat.lt_of_lt_of_eq t.isLt N4; omega⟩ r) := by
  blk_ext [Gen.iblk, arrDy, (idx_facts t).2]
  exact congrArg (· + k.val) (Nat.mul_comm _ _)

/-- The result at an index: the whole contraction. -/
theorem result_eq : (G2 m c : S1024x1024.Idx → EReal) = Mm.tn (K := 4096) (M := 1024) (N := 1024) (arrO m c) (arrDy m c) := by
  funext y
  have b0 : (y 0).val < 1024 := (y 0).isLt
  have b1 : (y 1).val < 1024 := (y 1).isLt
  have hp : pt2Of y = 3 := by
    show 4 * (1 * ((y 0).val / 1024 - 0) + 1 * ((y 1).val / 1024 - 0)) + 3 = _
    omega
  have hN : pt2Of y < cfg0.N := by rw [hp, N4]; omega
  have h0 : (loc2Of y 0).val = (y 0).val % 1024 := rfl
  have h1 : (loc2Of y 1).val = (y 1).val % 1024 := rfl
  have v3 : (3 : Fin 4).val = 3 := rfl
  unfold G2
  rw [dif_pos hN, ← outsAt0_sweep m c _ hN]
  have e := last m c ⟨_, hN⟩ (by dsimp only; omega) (loc2Of y)
  rw [mid m c ⟨_, by dsimp only; omega⟩ (by dsimp only; omega), mid m c ⟨_, by dsimp only; omega⟩ (by dsimp only; omega),
    first m c ⟨_, by dsimp only; omega⟩ (by dsimp only; omega)] at e
  refine e.trans ?_
  unfold part Mm.tn
  refine Eq.trans ?_ (Tile.sum_blocks 4 1024 (fun k : Fin 4096 => arrO m c (ix2 k (y 0)) * arrDy m c (ix2 k (y 1)))).symm
  rw [Fin.sum_univ_four]
  refine congrArg₂ (fun a b : EReal => a + b) (congrArg₂ (fun a b : EReal => a + b) (congrArg₂ (fun a b : EReal => a + b)
    (Finset.sum_congr rfl fun k _ => ?_) (Finset.sum_congr rfl fun k _ => ?_)) (Finset.sum_congr rfl fun k _ => ?_)) (Finset.sum_congr rfl fun k _ => ?_)
  all_goals
    refine congrArg₂ (fun a b : EReal => a * b) ((iblk0 m c _ _ _).trans (Mm.at2 _ ?_ ?_)) ((iblk1 m c _ _ _).trans (Mm.at2 _ ?_ ?_))
    all_goals
      simp only [hp, h0, h1, Fin.val_zero, Fin.val_one, Fin.val_two, v3]
      omega

theorem arrDy_eq : arrDy m c = m ((c : Thread nD τ).loc main_arg2) := by
  unfold arrDy Gen.V
  after_reads_simp
  rfl

/-- The derivative of the product, read as one contraction. -/
theorem reference_eq (h : S4096x1024.Idx → EReal) (dy : S4096x1024.Idx → EReal) :
    (Cert.GBOutRefIdeal.Read.val_main_v3 (F := Ideal) h dy : S1024x1024.Idx → EReal) = Mm.tn (K := 4096) (M := 1024) (N := 1024) h dy := by
  funext y
  rw [Cert.GBOutRefIdeal.Read.val_main_v3_apply, Cert.GBOutRefIdeal.Read.val_main_v2_apply]
  refine (Cert.GBOutRefIdeal.Read.val_main_v1_apply h dy _).trans (Finset.sum_congr rfl fun k _ => ?_)
  refine (mul_comm _ _).trans ?_
  exact congrArg₂ (fun a b : EReal => a * b) (congrArg h (Tile.eq_ix2_of _ _ _ rfl rfl)) (congrArg dy (Tile.eq_ix2_of _ _ _ rfl rfl))

end Cert.GBOutIdeal.Value

namespace Cert.Proof
open Idealize.ShloMosaic Idealize.SL.Sem Idealize.ShloMosaic.StableHlo

theorem frame_GBOutRef : quiescent_GBOutRefIdeal := fun m ρ _ =>
  (θ_run Cert.GBOutRefIdeal.defs _ _).mono (fun r h => ⟨fun c => (h c).2, sem_eq_zero_of_no_sems (by decide) r.2⟩)
    (Cert.GBOutRefIdeal.Value.run (F := Ideal) m ρ)

theorem algebraic_GBOut : algebraic_GBOutIdeal_GBOutRefIdeal := by
  intro m ρ m' ρ' _ hagree
  refine ⟨_, Cert.GBOutIdeal.Value.run (F := Ideal) m ρ, ?_⟩
  refine (θ_run Cert.GBOutRefIdeal.defs _ _).mono (fun _ h c => ⟨?_, (h c).2⟩) (Cert.GBOutRefIdeal.Value.run (F := Ideal) m' ρ')
  obtain ⟨e0, -, e2⟩ := hagree c
  refine ((h c).1.trans (Cert.GBOutRefIdeal.Read.val_main_v3_eq (F := Ideal) _ _)).trans ?_
  rw [e0, e2]
  refine (Cert.GBOutIdeal.Value.reference_eq _ _).trans ?_
  refine Eq.trans ?_ (Cert.GBOutIdeal.Value.result_eq m c).symm
  rw [Cert.GBOutIdeal.Value.arrDy_eq]
  exact congrArg (fun h => Mm.tn h _) (Cert.GBOutIdeal.Gen.V_main_arg0 m c).symm

end Cert.Proof
-- ==== Proof.NormRow.lean ====
module

public import proofs.«01_k».proof.Proof.Gate
public import proofs.«01_k».proof.Proof.Ref

/-! # The gradient of one normalised row

A row of 1024 numbers `z` is centred and divided by the square root of its variance; `a` is the gradient that reaches the
normalised row. The gradient of `z` is written twice: with the two means taken off (`grad1`), and as differentiation of the mean,
the variance and the reciprocal root gives it, term by term (`chain1`). Of real numbers the two are the same. -/

@[expose] public section
noncomputable section
namespace Cert.NormRow
open Idealize.ShloMosaic hiding ix1 ix2 ix3 ix4 eq_ix2 eq_ix3
open Cert.Gate (lit mean1 cen1)
open Cert.ReferenceIdeal.Read (ediv emul eadd eneg esumF)

variable (z a : Fin 1024 → EReal)

/-- The variance with the small number that keeps it off zero, its reciprocal root, and the normalised row. -/
def var1 : EReal := mean1 (fun j => cen1 z j * cen1 z j) + lit 0x3727C5AC#32
def root1 : EReal := Ideal.rsqrt (var1 z)
def hat1 (k : Fin 1024) : EReal := cen1 z k * root1 z

/-- The gradient of the row, with the means taken off. -/
def grad1 (k : Fin 1024) : EReal := root1 z * ((a k - mean1 a) - hat1 z k * mean1 (fun j => a j * hat1 z j))

/-- The gradient of the variance. -/
def dvar1 : EReal := Ideal.div ((∑ j, cen1 z j * a j) * (lit 0xBF000000#32 * Ideal.div (root1 z) (var1 z))) (lit 0x44800000#32)

/-- What reaches the row through the variance. -/
def spread1 (k : Fin 1024) : EReal := dvar1 z a * (lit 0x40000000#32 * cen1 z k)

/-- The gradient of the row, by the chain rule: directly, through the variance, and through the mean. -/
def chain1 (k : Fin 1024) : EReal :=
  a k * root1 z + spread1 z a k + Ideal.div ((∑ j, -(a j * root1 z)) + ∑ j, -spread1 z a j) (lit 0x44800000#32)

theorem word_n : lit 0x44800000#32 = ((1024 : ℝ) : EReal) := by
  simp [lit, Ideal.ofBits, Ideal.ieee]; rw [← EReal.coe_mul]; norm_num
theorem word_two : lit 0x40000000#32 = ((2 : ℝ) : EReal) := by
  simp [lit, Ideal.ofBits, Ideal.ieee]; rw [← EReal.coe_mul]; norm_num
theorem word_half : lit 0xBF000000#32 = ((-(1 / 2) : ℝ) : EReal) := by
  simp [lit, Ideal.ofBits, Ideal.ieee]; rw [← EReal.coe_mul]; norm_num
theorem word_eps : ∃ e : ℝ, 0 < e ∧ lit 0x3727C5AC#32 = (e : EReal) := by
  refine ⟨_, ?_, by simp [lit, Ideal.ofBits, Ideal.ieee]; rw [← EReal.coe_mul]⟩
  positivity
theorem word_alpha : ∃ e : ℝ, lit 0x3FB504F3#32 = (e : EReal) := by
  refine ⟨_, by simp [lit, Ideal.ofBits, Ideal.ieee]; rw [← EReal.coe_mul]⟩

theorem esub {x y : EReal} {r s : ℝ} (hx : x = (r : EReal)) (hy : y = (s : EReal)) : x - y = ((r - s : ℝ) : EReal) := by
  rw [hx, hy, ← EReal.coe_sub]

section
variable {z a} (x b : Fin 1024 → ℝ)

theorem mean_real (hz : ∀ k, z k = (x k : EReal)) : mean1 z = (((∑ k, x k) / 1024 : ℝ) : EReal) :=
  ediv (by norm_num) (esumF x hz) word_n

/-- The identity, of real numbers: `r` is the reciprocal root of `v`, `d` sums to zero. -/
theorem identity (d b : Fin 1024 → ℝ) (r v : ℝ) (hd : ∑ k, d k = 0) (hv : v ≠ 0) (hr : r * r * v = 1) (k : Fin 1024) :
    r * ((b k - (∑ j, b j) / 1024) - d k * r * ((∑ j, b j * (d j * r)) / 1024))
      = b k * r + (∑ j, d j * b j) * (-(1 / 2) * (r / v)) / 1024 * (2 * d k)
        + ((∑ j, -(b j * r)) + ∑ j, -((∑ j, d j * b j) * (-(1 / 2) * (r / v)) / 1024 * (2 * d j))) / 1024 := by
  have e1 : ∑ j, b j * (d j * r) = (∑ j, d j * b j) * r := by
    rw [Finset.sum_mul]
    exact Finset.sum_congr rfl fun j _ => by ring
  have e2 : ∑ j, -(b j * r) = -(∑ j, b j) * r := by
    rw [Finset.sum_neg_distrib, ← Finset.sum_mul, neg_mul]
  have e3 : ∀ w : ℝ, ∑ j, -(w * (2 * d j)) = 0 := fun w => by
    rw [Finset.sum_neg_distrib, ← Finset.mul_sum, ← Finset.mul_sum, hd, mul_zero, mul_zero, neg_zero]
  have e4 : r / v = r * r * r := by
    rw [div_eq_iff hv]
    linear_combination (-r) * hr
  rw [e1, e2, e3, e4]
  ring

theorem grad_eq_chain (hz : ∀ k, z k = (x k : EReal)) (ha : ∀ k, a k = (b k : EReal)) (k : Fin 1024) : grad1 z a k = chain1 z a k := by
  obtain ⟨e, he, hw⟩ := word_eps
  obtain ⟨μ, hμ⟩ : ∃ μ : ℝ, μ = (∑ k, x k) / 1024 := ⟨_, rfl⟩
  obtain ⟨d, hd⟩ : ∃ d : Fin 1024 → ℝ, d = fun k => x k - μ := ⟨_, rfl⟩
  have hc : ∀ k, cen1 z k = (d k : EReal) := fun k => by
    rw [hd]; exact esub (hz k) ((mean_real x hz).trans (by rw [hμ]))
  have hsum : ∑ k, d k = 0 := by
    rw [hd, Finset.sum_sub_distrib, Finset.sum_const, Finset.card_univ, Fintype.card_fin, hμ, nsmul_eq_mul]
    push_cast
    ring
  obtain ⟨v, hv⟩ : ∃ v : ℝ, v = (∑ k, d k * d k) / 1024 + e := ⟨_, rfl⟩
  have hvar : var1 z = (v : EReal) := by
    rw [hv]; exact eadd (mean_real (fun k => d k * d k) fun k => emul (hc k) (hc k)) hw
  have hpos : 0 < v := by
    rw [hv]
    have : 0 ≤ ∑ k, d k * d k := Finset.sum_nonneg fun k _ => mul_self_nonneg _
    positivity
  obtain ⟨r, hr⟩ : ∃ r : ℝ, r = (Real.sqrt v)⁻¹ := ⟨_, rfl⟩
  have hroot : root1 z = (r : EReal) := by
    unfold root1
    rw [hvar, Ideal.rsqrt_coe, if_neg (not_lt.mpr hpos.le), if_neg hpos.ne', hr]
  have hrr : r * r * v = 1 := by
    have h := Real.mul_self_sqrt hpos.le
    have h0 : Real.sqrt v ≠ 0 := (Real.sqrt_pos.mpr hpos).ne'
    rw [hr]
    field_simp
    rw [sq]; exact h.symm
  have hhat : ∀ k, hat1 z k = ((d k * r : ℝ) : EReal) := fun k => emul (hc k) hroot
  have hdv : dvar1 z a = (((∑ j, d j * b j) * (-(1 / 2) * (r / v)) / 1024 : ℝ) : EReal) :=
    ediv (by norm_num) (emul (esumF (fun j => d j * b j) fun j => emul (hc j) (ha j)) (emul word_half (ediv hpos.ne' hroot hvar))) word_n
  have hs : ∀ k, spread1 z a k = (((∑ j, d j * b j) * (-(1 / 2) * (r / v)) / 1024 * (2 * d k) : ℝ) : EReal) := fun k =>
    emul hdv (emul word_two (hc k))
  have hl : grad1 z a k = _ := emul hroot (esub (esub (ha k) (mean_real b ha)) (emul (hhat k)
    (mean_real (fun j => b j * (d j * r)) fun j => emul (ha j) (hhat j))))
  have hr' : chain1 z a k = _ := eadd (eadd (emul (ha k) hroot) (hs k)) (ediv (by norm_num)
    (eadd (esumF _ fun j => eneg (emul (ha j) hroot)) (esumF _ fun j => eneg (hs j))) word_n)
  rw [hl, hr', identity d b r v hsum hpos.ne' hrr k]

end
end Cert.NormRow
-- ==== Proof.NormRows.lean ====
module

public import proofs.«01_k».proof.Proof.NormRow

/-! # Rows normalised in a block, and column sums folded to eight rows

The operations of a call on a block of `R` rows of 1024 numbers, written over any interpretation of the floats, and read row by
row over the extended reals. -/

@[expose] public section
set_option maxRecDepth 16384
noncomputable section
namespace Cert.NormRow
open Idealize.ShloMosaic hiding ix1 ix2 ix3 ix4 eq_ix2 eq_ix3
open Idealize.ShloMosaic.TcCoe ValueIdx
open Cert.Gate (lit mean1 cen1)
open Cert.Tile (eq_ix2_of)

section
variable {F : FTy → Type} [FloatOps F] {R : Nat}
variable (h : (⟨2, ![R, 1024]⟩ : Shape).Reduces [1] ⟨1, ![R]⟩) (h' : (⟨1, ![R]⟩ : Shape).ShapeCasts ⟨2, ![R, 1]⟩)
  (hb : (⟨2, ![R, 1]⟩ : Shape).Broadcasts ⟨2, ![R, 1024]⟩) (hg : (⟨2, ![1, 1024]⟩ : Shape).Broadcasts ⟨2, ![R, 1024]⟩)

/-- The mean of each row, as a column. -/
def mean (a : FVec F ⟨2, ![R, 1024]⟩ .f32) : FVec F ⟨2, ![R, 1]⟩ .f32 :=
  divf (shapeCast ⟨2, ![R, 1]⟩ (multiReduction .add [1] ⟨1, ![R]⟩ a 0x00000000#32 h (.inl rfl) rfl) h') (broadcast ⟨2, ![R, 1]⟩ (Scalar.ofBits .f32 0x44800000#32))

/-- The rows with their means taken off. -/
def center (a : FVec F ⟨2, ![R, 1024]⟩ .f32) : FVec F ⟨2, ![R, 1024]⟩ .f32 := subf a (broadcastTo ⟨2, ![R, 1024]⟩ (mean h h' a) hb)

/-- The reciprocal roots of the rows' variances, as a column. -/
def root (z : FVec F ⟨2, ![R, 1024]⟩ .f32) : FVec F ⟨2, ![R, 1]⟩ .f32 :=
  rsqrt (addf (mean h h' (mulf (center h h' hb z) (center h h' hb z))) (broadcast ⟨2, ![R, 1]⟩ (Scalar.ofBits .f32 0x3727C5AC#32)))

/-- The normalised rows. -/
def hat (z : FVec F ⟨2, ![R, 1024]⟩ .f32) : FVec F ⟨2, ![R, 1024]⟩ .f32 := mulf (center h h' hb z) (broadcastTo ⟨2, ![R, 1024]⟩ (root h h' hb z) hb)

/-- The gradient of the rows. -/
def grad (z a : FVec F ⟨2, ![R, 1024]⟩ .f32) : FVec F ⟨2, ![R, 1024]⟩ .f32 :=
  mulf (broadcastTo ⟨2, ![R, 1024]⟩ (root h h' hb z) hb)
    (subf (center h h' hb a) (mulf (hat h h' hb z) (broadcastTo ⟨2, ![R, 1024]⟩ (mean h h' (mulf a (hat h h' hb z))) hb)))

/-- The rows that are normalised: the scaled stream and the gated output of a block. -/
def mixed (y x : Vec F ⟨2, ![R, 1024]⟩ .f32) (α : F .f32) (g : Vec F ⟨2, ![1, 1024]⟩ .f32) : FVec F ⟨2, ![R, 1024]⟩ .f32 :=
  addf (mulf (broadcast ⟨2, ![R, 1024]⟩ α) x) (mulf (broadcastTo ⟨2, ![R, 1024]⟩ g hg) y)

end

section
variable {R : Nat}
variable (h : (⟨2, ![R, 1024]⟩ : Shape).Reduces [1] ⟨1, ![R]⟩) (h' : (⟨1, ![R]⟩ : Shape).ShapeCasts ⟨2, ![R, 1]⟩)
  (hb : (⟨2, ![R, 1]⟩ : Shape).Broadcasts ⟨2, ![R, 1024]⟩) (hg : (⟨2, ![1, 1024]⟩ : Shape).Broadcasts ⟨2, ![R, 1024]⟩)

theorem mean_at (a : FVec Ideal ⟨2, ![R, 1024]⟩ .f32) (r : Fin R) : (mean h h' a (ix2 r 0) : EReal) = mean1 (fun k => a (ix2 r k)) := by
  have e : shapeCast ⟨2, ![R, 1]⟩ (multiReduction .add [1] ⟨1, ![R]⟩ a 0x00000000#32 h (.inl rfl) rfl) h' (ix2 r 0)
      = multiReduction .add [1] ⟨1, ![R]⟩ a 0x00000000#32 h (.inl rfl) rfl (ix1 r) :=
    shapeCast_apply _ h' _ _ (by
      rewrite [Shape.rowMajor_val_one, Shape.rowMajor_val_two]
      show r.val = r.val * 1 + 0
      omega)
  have e2 : (multiReduction .add [1] ⟨1, ![R]⟩ a 0x00000000#32 h (.inl rfl) rfl (ix1 r) : EReal) = ∑ k : Fin 1024, (a (ix2 r k) : EReal) := by
    refine (Ideal.multiReduction_add_single a _ h (.inl rfl) rfl (ix1 r)).trans ?_
    refine Finset.sum_congr rfl fun k _ => congrArg a ?_
    exact eq_ix2_of _ _ _ rfl rfl
  show Ideal.div _ _ = _
  exact congrArg (fun u : EReal => Ideal.div u (lit 0x44800000#32)) (e.trans e2)

theorem column_at {α : Type} (v : Shape.Idx ⟨2, ![R, 1]⟩ → α) (r : Fin R) (k : Fin 1024) : broadcastTo ⟨2, ![R, 1024]⟩ v hb (ix2 r k) = v (ix2 r 0) :=
  broadcastTo_apply v hb _ _ fun a => match a with
    | ⟨0, _⟩ => by
      show r.val = if R = 1 then 0 else r.val
      have := r.isLt
      split <;> omega
    | ⟨1, _⟩ => rfl

theorem line_at {α : Type} (v : Shape.Idx ⟨2, ![1, 1024]⟩ → α) (r : Fin R) (k : Fin 1024) : broadcastTo ⟨2, ![R, 1024]⟩ v hg (ix2 r k) = v (ix2 0 k) :=
  broadcastTo_apply v hg _ _ fun a => match a with
    | ⟨0, _⟩ => rfl
    | ⟨1, _⟩ => rfl

theorem center_at (a : FVec Ideal ⟨2, ![R, 1024]⟩ .f32) (r : Fin R) (k : Fin 1024) : (center h h' hb a (ix2 r k) : EReal) = cen1 (fun k => a (ix2 r k)) k := by
  show (a (ix2 r k) : EReal) - broadcastTo ⟨2, ![R, 1024]⟩ (mean h h' a) hb (ix2 r k) = _
  rw [column_at, mean_at]
  rfl

theorem root_at (z : FVec Ideal ⟨2, ![R, 1024]⟩ .f32) (r : Fin R) : (root h h' hb z (ix2 r 0) : EReal) = root1 (fun k => z (ix2 r k)) := by
  show Ideal.rsqrt ((mean h h' (mulf (center h h' hb z) (center h h' hb z)) (ix2 r 0) : EReal) + _) = _
  rw [mean_at]
  have e : (fun k => (mulf (center h h' hb z) (center h h' hb z) (ix2 r k) : EReal)) = fun j => cen1 (fun k => z (ix2 r k)) j * cen1 (fun k => z (ix2 r k)) j :=
    funext fun j => congrArg₂ (fun u v : EReal => u * v) (center_at h h' hb z r j) (center_at h h' hb z r j)
  rw [e]
  rfl

theorem hat_at (z : FVec Ideal ⟨2, ![R, 1024]⟩ .f32) (r : Fin R) (k : Fin 1024) : (hat h h' hb z (ix2 r k) : EReal) = hat1 (fun k => z (ix2 r k)) k :=
  congrArg₂ (fun u v : EReal => u * v) (center_at h h' hb z r k) ((column_at hb (root h h' hb z) r k).trans (root_at h h' hb z r))

theorem grad_at (z a : FVec Ideal ⟨2, ![R, 1024]⟩ .f32) (r : Fin R) (k : Fin 1024) :
    (grad h h' hb z a (ix2 r k) : EReal) = grad1 (fun k => z (ix2 r k)) (fun k => a (ix2 r k)) k := by
  have e : (fun k => (mulf a (hat h h' hb z) (ix2 r k) : EReal)) = fun j => a (ix2 r j) * hat1 (fun k => z (ix2 r k)) j :=
    funext fun j => congrArg (fun u : EReal => a (ix2 r j) * u) (hat_at h h' hb z r j)
  have em := (column_at hb (mean h h' (mulf a (hat h h' hb z))) r k).trans ((mean_at h h' _ r).trans (congrArg mean1 e))
  refine congrArg₂ (fun u v : EReal => u * v) ((column_at hb (root h h' hb z) r k).trans (root_at h h' hb z r)) ?_
  exact congrArg₂ (fun u v : EReal => u - v) (center_at h h' hb a r k) (congrArg₂ (fun u v : EReal => u * v) (hat_at h h' hb z r k) em)

theorem mixed_at (y x : Vec Ideal ⟨2, ![R, 1024]⟩ .f32) (α : EReal) (g : Vec Ideal ⟨2, ![1, 1024]⟩ .f32) (r : Fin R) (k : Fin 1024) :
    (mixed (F := Ideal) hg y x α g (ix2 r k) : EReal) = α * x (ix2 r k) + g (ix2 0 k) * y (ix2 r k) :=
  congrArg (fun u : EReal => α * x (ix2 r k) + u * y (ix2 r k)) (line_at hg g r k)

end

/-! ## Column sums -/

abbrev S512x1024 : Shape := ⟨2, ![512, 1024]⟩
abbrev S64x8x1024 : Shape := ⟨3, ![64, 8, 1024]⟩
abbrev S8x1024 : Shape := ⟨2, ![8, 1024]⟩
abbrev S1x1024 : Shape := ⟨2, ![1, 1024]⟩
abbrev S1024 : Shape := ⟨1, ![1024]⟩

/-- The 512 rows of a block added up in groups, one group per remainder modulo eight. -/
def fold8 {F : FTy → Type} [FloatOps F] (a : FVec F S512x1024 .f32) (h : S512x1024.ShapeCasts S64x8x1024) (h' : S64x8x1024.Reduces [0] S8x1024) : FVec F S8x1024 .f32 :=
  multiReduction .add [0] S8x1024 (shapeCast S64x8x1024 a h) 0x00000000#32 h' (.inl rfl) rfl

/-- The eight rows added up. -/
def total {F : FTy → Type} [FloatOps F] (a : FVec F S8x1024 .f32) (h : S8x1024.Reduces [0] S1024) (h' : S1024.ShapeCasts S1x1024) : FVec F S1x1024 .f32 :=
  shapeCast S1x1024 (multiReduction .add [0] S1024 a 0x00000000#32 h (.inl rfl) rfl) h'

theorem fold8_at (a : FVec Ideal S512x1024 .f32) (h h') (p : Fin 8) (k : Fin 1024) :
    (fold8 a h h' (ix2 p k) : EReal) = ∑ j : Fin 64, a (ix2 ⟨p.val + 8 * j.val, by omega⟩ k) := by
  refine (Ideal.multiReduction_add_single (shapeCast S64x8x1024 a h) _ h' (.inl rfl) rfl (ix2 p k)).trans ?_
  refine Finset.sum_congr rfl fun j _ => ?_
  refine shapeCast_apply a h _ _ ?_
  rewrite [Shape.rowMajor_val_two, Shape.rowMajor_val_three]
  show (p.val + 8 * j.val) * 1024 + k.val = (j.val * 8 + p.val) * 1024 + k.val
  omega

theorem total_at (a : FVec Ideal S8x1024 .f32) (h h') (k : Fin 1024) : (total a h h' (ix2 0 k) : EReal) = ∑ p : Fin 8, a (ix2 p k) := by
  have e : shapeCast S1x1024 (multiReduction .add [0] S1024 a 0x00000000#32 h (.inl rfl) rfl) h' (ix2 0 k)
      = multiReduction .add [0] S1024 a 0x00000000#32 h (.inl rfl) rfl (ix1 k) :=
    shapeCast_apply _ h' _ _ (by
      rewrite [Shape.rowMajor_val_one, Shape.rowMajor_val_two]
      show k.val = 0 * 1024 + k.val
      omega)
  refine e.trans ((Ideal.multiReduction_add_single a _ h (.inl rfl) rfl (ix1 k)).trans (Finset.sum_congr rfl fun p _ => congrArg a ?_))
  exact eq_ix2_of _ _ _ rfl rfl

/-- 4096 rows in eight blocks of 64 groups of eight. -/
theorem sum_rows (f : Fin 4096 → EReal) :
    ∑ p : Fin 8, ∑ t : Fin 8, ∑ j : Fin 64, f ⟨512 * t.val + (p.val + 8 * j.val), by omega⟩ = ∑ r, f r := by
  rw [Finset.sum_comm, Cert.Tile.sum_blocks 8 512 f]
  refine Finset.sum_congr rfl fun t _ => ?_
  rw [Finset.sum_comm, Cert.Tile.sum_blocks 64 8 (fun i : Fin 512 => f ⟨i.val + 512 * t.val, by omega⟩)]
  refine Finset.sum_congr rfl fun j _ => Finset.sum_congr rfl fun p _ => congrArg f (Fin.ext ?_)
  show 512 * t.val + (p.val + 8 * j.val) = p.val + 8 * j.val + 512 * t.val
  omega

/-- A store of row `k` of eight rows, laid over other stores. -/
theorem canon_row {k : Nat} (inb : ∀ a, (![k, 0] : Fin 2 → Nat) a + (![1, 1024] : Fin 2 → Nat) a ≤ S8x1024.size a) (v : S1x1024.Idx → Elt Ideal .f32)
    (L : List (View.Piece (Elt Ideal) S8x1024 .f32)) (y : S8x1024.Idx) :
    View.canon (⟨Rect.unit (s := S8x1024) ![k, 0] ![1, 1024] inb, v⟩ :: L) y = if (y 0).val = k then v (ix2 0 (y 1)) else View.canon L y := by
  have h1 : (y 1).val < 1024 := (y 1).isLt
  by_cases h : (y 0).val = k
  · rw [if_pos h]
    have e : y = (Rect.unit (s := S8x1024) ![k, 0] ![1, 1024] inb).emb (ix2 (0 : Fin 1) (y 1)) := by
      funext a
      fin_cases a
      · exact Fin.ext (h.trans (by show k = k + 1 * 0; omega))
      · exact Fin.ext (by show (y 1).val = 0 + 1 * (y 1).val; omega)
    exact (congrArg _ e).trans (View.canon_cons_emb _ _ _ _)
  · rw [if_neg h]
    refine View.canon_cons_of_not_mem _ _ fun hm => h ?_
    have := (Rect.mem_set_unit (inb := inb).1 hm) 0
    have a : k ≤ (y 0).val ∧ (y 0).val < k + 1 := this
    omega

end Cert.NormRow
-- ==== Proof.JoinStep.lean ====
module

public import proofs.«01_k».proof.Defs
public import proofs.«01_k».proof.Proof.Gen.JoinIdeal.Value
public import proofs.«01_k».proof.Proof.NormRows

/-! # One block of rows of the normalisation's backward call

What one grid point computes of its 512 rows: the gradient that reaches the normalised rows (`reach`), the normalised rows, the
gradient of the rows themselves, and the column sums it adds to five running sums. -/

@[expose] public section
set_option maxRecDepth 16384
noncomputable section
namespace Cert.JoinIdeal.Value
open Idealize.ShloMosaic hiding ix1 ix2 ix3 ix4 eq_ix2 eq_ix3
open Idealize.ShloMosaic.TcCoe Idealize.SL.Sem ValueIdx
open Idealize.ShloMosaic.Pipeline (Dat)
variable (m : (ℓ : Loc nD τ sig) → Buf (Elt Ideal) ℓ) (c : Dev nD) (t : Fin cfg0.N)

attribute [local irreducible] Gen.iblk

/-- The blocks a point reads. -/
def bDxr : Vec Ideal S512x1024 .f32 := Gen.iblk m c 0 t
def bDh : Vec Ideal S512x1024 .f32 := Gen.iblk m c 1 t
def bX : Vec Ideal S512x1024 .f32 := Gen.iblk m c 2 t
def bScale : Vec Ideal S1x1024 .f32 := Gen.iblk m c 3 t
def bIn : Vec Ideal S512x1024 .f32 := Gen.iblk m c 4 t
def bY : Vec Ideal S512x1024 .f32 := Gen.iblk m c 5 t
def bGate : Vec Ideal S1x1024 .f32 := Gen.iblk m c 6 t
def bGain : Vec Ideal S1x1024 .f32 := Gen.iblk m c 7 t

section
open Cert.JoinIdeal.Gen
variable (dxr dh y x : Vec Ideal S512x1024 .f32) (sc gate g : Vec Ideal S1x1024 .f32)

/-- The gradient that reaches the normalised rows after their gain and offset. -/
def reachOf : FVec Ideal S512x1024 .f32 :=
  addf dxr (mulf dh (broadcastTo S512x1024 (addf (broadcast S1x1024 (Scalar.ofBits (F := Ideal) .f32 0x3F800000#32)) sc) broadcasts_S1x1024_S512x1024))
def rowsOf : FVec Ideal S512x1024 .f32 := NormRow.mixed broadcasts_S1x1024_S512x1024 y x (Scalar.ofBits (F := Ideal) .f32 0x3FB504F3#32) gate
def hatOf : FVec Ideal S512x1024 .f32 := NormRow.hat reduces_S512x1024_S512 shapeCasts_S512_S512x1 broadcasts_S512x1_S512x1024 (rowsOf y x gate)
def gradOf : FVec Ideal S512x1024 .f32 := NormRow.grad reduces_S512x1024_S512 shapeCasts_S512_S512x1 broadcasts_S512x1_S512x1024 (rowsOf y x gate)
  (mulf (reachOf dxr dh sc) (broadcastTo S512x1024 g broadcasts_S1x1024_S512x1024))
/-- Column sums of a block, folded to eight rows. -/
def foldOf (a : FVec Ideal S512x1024 .f32) : FVec Ideal S8x1024 .f32 := NormRow.fold8 a shapeCasts_S512x1024_S64x8x1024 reduces_S64x8x1024_S8x1024

theorem pay13_eq : k0_pay13 dh dxr sc = reachOf dxr dh sc := rfl
theorem pay18_eq : k0_pay18 y x (Scalar.ofBits (F := Ideal) .f32 0x3FB504F3#32) gate = hatOf y x gate := rfl
theorem pay19_eq : k0_pay19 (reachOf dxr dh sc) y x (Scalar.ofBits (F := Ideal) .f32 0x3FB504F3#32) gate g = gradOf dxr dh y x sc gate g := rfl
end

/-- The point's gradient after gain and offset, normalised rows, and gradient of the rows. -/
def reach : FVec Ideal S512x1024 .f32 := reachOf (bDxr m c t) (bDh m c t) (bScale m c t)
def hatB : FVec Ideal S512x1024 .f32 := hatOf (bY m c t) (bIn m c t) (bGate m c t)
def gradB : FVec Ideal S512x1024 .f32 := gradOf (bDxr m c t) (bDh m c t) (bY m c t) (bIn m c t) (bScale m c t) (bGate m c t) (bGain m c t)

/-- The five arrays whose column sums the call keeps, in the order of its running sums. -/
def part : Fin 5 → FVec Ideal S512x1024 .f32 := ![bDh m c t, mulf (bDh m c t) (bX m c t), mulf (reach m c t) (hatB m c t), reach m c t, mulf (gradB m c t) (bY m c t)]

/-- The five running sums after point `n`. -/
def acc (n : Nat) (hn : n < cfg0.N) : Fin 5 → S8x1024.Idx → EReal :=
  ![(Gen.outsAt0 m c n hn).2.2.2.2.1, (Gen.outsAt0 m c n hn).2.2.2.2.2.1, (Gen.outsAt0 m c n hn).2.2.2.2.2.2.1,
    (Gen.outsAt0 m c n hn).2.2.2.2.2.2.2.1, (Gen.outsAt0 m c n hn).2.2.2.2.2.2.2.2]

theorem acc_next (h : t.val % 8 ≠ 0) (i : Fin 5) (y : S8x1024.Idx) :
    acc m c t.val t.isLt i y = acc m c (t.val - 1) (by have := t.isLt; omega) i y + foldOf (part m c t i) y := by
  unfold acc
  by_cases h' : t.val % 8 = 7
  · rw [Gen.outsAt0_C m c t (by omega) h']
    frame_out
    simp only [pay13_eq, pay18_eq, pay19_eq, Gen.k0_pay14, Gen.k0_pay15, Gen.k0_pay22, Gen.k0_pay23, Gen.k0_pay24, shapeCast_self, read_unread_whole]
    fin_cases i <;> rfl
  · rw [Gen.outsAt0_B m c t (by omega) h']
    frame_out
    simp only [pay13_eq, pay18_eq, pay19_eq, Gen.k0_pay14, Gen.k0_pay15, Gen.k0_pay22, Gen.k0_pay23, Gen.k0_pay24, shapeCast_self, read_unread_whole]
    fin_cases i <;> rfl

theorem acc_first (h : t.val % 8 = 0) (i : Fin 5) (y : S8x1024.Idx) : acc m c t.val t.isLt i y = foldOf (part m c t i) y := by
  unfold acc
  rw [Gen.outsAt0_A m c t (by omega) (by omega)]
  frame_out
  simp only [pay13_eq, pay18_eq, pay19_eq, Gen.k0_pay14, Gen.k0_pay15, Gen.k0_pay22, Gen.k0_pay23, Gen.k0_pay24,
    Gen.k0_pay8, Gen.k0_pay9, Gen.k0_pay10, Gen.k0_pay11, Gen.k0_pay12, shapeCast_self]
  refine Eq.trans ?_ (zero_add _)
  fin_cases i <;> exact congrArg (fun a : EReal => a + foldOf _ y) Ideal.ofBits_zero_f32

theorem outs8 (y : S512x1024.Idx) : ((Gen.outsAt0 m c t.val t.isLt).1 y : EReal) = Gate.lit 0x3FB504F3#32 * gradB m c t y := by
  by_cases h : t.val % 8 = 0
  · rw [Gen.outsAt0_A m c t (by omega) (by omega)]
    frame_out
    simp only [pay13_eq, pay18_eq, pay19_eq, Gen.k0_pay20, shapeCast_self]
    rfl
  by_cases h' : t.val % 8 = 7
  · rw [Gen.outsAt0_C m c t (by omega) (by omega)]
    frame_out
    simp only [pay13_eq, pay18_eq, pay19_eq, Gen.k0_pay20, shapeCast_self]
    rfl
  · rw [Gen.outsAt0_B m c t (by omega) (by omega)]
    frame_out
    simp only [pay13_eq, pay18_eq, pay19_eq, Gen.k0_pay20, shapeCast_self]
    rfl

theorem outs9 (y : S512x1024.Idx) : ((Gen.outsAt0 m c t.val t.isLt).2.1 y : EReal)
    = broadcastTo S512x1024 (bGate m c t) Gen.broadcasts_S1x1024_S512x1024 y * gradB m c t y := by
  by_cases h : t.val % 8 = 0
  · rw [Gen.outsAt0_A m c t (by omega) (by omega)]
    frame_out
    simp only [pay13_eq, pay18_eq, pay19_eq, Gen.k0_pay21, shapeCast_self]
    rfl
  by_cases h' : t.val % 8 = 7
  · rw [Gen.outsAt0_C m c t (by omega) (by omega)]
    frame_out
    simp only [pay13_eq, pay18_eq, pay19_eq, Gen.k0_pay21, shapeCast_self]
    rfl
  · rw [Gen.outsAt0_B m c t (by omega) (by omega)]
    frame_out
    simp only [pay13_eq, pay18_eq, pay19_eq, Gen.k0_pay21, shapeCast_self]
    rfl

/-- The eight rows of a running sum added up. -/
def totalOf (a : S8x1024.Idx → EReal) : S1x1024.Idx → EReal := NormRow.total (F := Ideal) a Gen.reduces_S8x1024_S1024 Gen.shapeCasts_S1024_S1x1024

theorem outs10 (h : t.val % 8 = 7) (y : S8x1024.Idx) : ((Gen.outsAt0 m c t.val t.isLt).2.2.1 y : EReal)
    = if (y 0).val = 1 then totalOf (acc m c t.val t.isLt 1) (ix2 0 (y 1)) else if (y 0).val = 0 then totalOf (acc m c t.val t.isLt 0) (ix2 0 (y 1)) else 0 := by
  unfold acc
  rw [Gen.outsAt0_C m c t (by omega) (by omega)]
  frame_out
  refine (NormRow.canon_row _ _ _ y).trans (if_congr Iff.rfl rfl ((NormRow.canon_row _ _ _ y).trans (if_congr Iff.rfl rfl ?_)))
  rw [View.canon_cons_unit_lit _ _ _ (by decide)]
  exact Ideal.ofBits_zero_f32

theorem outs11 (h : t.val % 8 = 7) (y : S8x1024.Idx) : ((Gen.outsAt0 m c t.val t.isLt).2.2.2.1 y : EReal)
    = if (y 0).val = 2 then totalOf (acc m c t.val t.isLt 4) (ix2 0 (y 1)) else if (y 0).val = 1 then totalOf (acc m c t.val t.isLt 3) (ix2 0 (y 1))
      else if (y 0).val = 0 then totalOf (acc m c t.val t.isLt 2) (ix2 0 (y 1)) else 0 := by
  unfold acc
  rw [Gen.outsAt0_C m c t (by omega) (by omega)]
  frame_out
  refine (NormRow.canon_row _ _ _ y).trans (if_congr Iff.rfl rfl ((NormRow.canon_row _ _ _ y).trans (if_congr Iff.rfl rfl
    ((NormRow.canon_row _ _ _ y).trans (if_congr Iff.rfl rfl ?_)))))
  rw [View.canon_cons_unit_lit _ _ _ (by decide)]
  exact Ideal.ofBits_zero_f32

end Cert.JoinIdeal.Value
-- ==== Proof.JoinRead.lean ====
module

public import proofs.«01_k».proof.Proof.JoinStep
public import proofs.«01_k».proof.Proof.Gen.JoinRefIdeal.Run
public import proofs.«01_k».proof.Proof.Gen.JoinRefIdeal.Read
public import Idealize.ShloMosaic.Lib.StableHlo.ReadAt

/-! # The normalisation's backward call, row by row -/

@[expose] public section
set_option maxRecDepth 16384
noncomputable section
namespace Cert.JoinIdeal.Value
open Idealize.ShloMosaic hiding ix1 ix2 ix3 ix4 eq_ix2 eq_ix3
open Idealize.ShloMosaic.TcCoe Idealize.SL.Sem ValueIdx
open Idealize.ShloMosaic.Pipeline (Dat)

variable (m : (ℓ : Loc nD τ sig) → Buf (Elt Ideal) ℓ) (c : Dev nD) (t : Fin cfg0.N)

/-- The normalised and modulated rows the host computes before the call. -/
def arrX : S4096x1024.Idx → EReal := Gen.V m c main_v26

theorem arrX_eq : arrX m c = Cert.JoinRefIdeal.Read.val_main_v31 (F := Ideal) (m ((c : Thread nD τ).loc main_arg0)) (m ((c : Thread nD τ).loc main_arg1))
  (m ((c : Thread nD τ).loc main_arg2)) (m ((c : Thread nD τ).loc main_arg3)) (m ((c : Thread nD τ).loc main_arg4)) := by
  unfold arrX Gen.V
  after_reads_simp
  rfl

theorem N8 : cfg0.N = 8 := by decide +kernel

section
variable (x y dxr dh X : S4096x1024.Idx → EReal) (gate g sc : S1x1024.Idx → EReal)

/-- Row `r` of the sum that is normalised, the gradient after gain and offset, and the gradient that leaves the normalisation. -/
def zRow (r : Fin 4096) (k : Fin 1024) : EReal := Gate.lit 0x3FB504F3#32 * x (ix2 r k) + gate (ix2 0 k) * y (ix2 r k)
def oRow (r : Fin 4096) (k : Fin 1024) : EReal := dxr (ix2 r k) + dh (ix2 r k) * (Gate.lit 0x3F800000#32 + sc (ix2 0 k))
def gRow (r : Fin 4096) (k : Fin 1024) : EReal := NormRow.grad1 (zRow x y gate r) (fun j => oRow dxr dh sc r j * g (ix2 0 j)) k

/-- The arrays whose column sums are kept. -/
def cols : Fin 5 → Fin 4096 → Fin 1024 → EReal :=
  ![fun r k => dh (ix2 r k), fun r k => dh (ix2 r k) * X (ix2 r k), fun r k => oRow dxr dh sc r k * NormRow.hat1 (zRow x y gate r) k,
    fun r k => oRow dxr dh sc r k, fun r k => gRow x y dxr dh gate g sc r k * y (ix2 r k)]
end

def argX : S4096x1024.Idx → EReal := m ((c : Thread nD τ).loc main_arg0)
def argY : S4096x1024.Idx → EReal := m ((c : Thread nD τ).loc main_arg1)
def argGate : S1x1024.Idx → EReal := m ((c : Thread nD τ).loc main_arg2)
def argGain : S1x1024.Idx → EReal := m ((c : Thread nD τ).loc main_arg3)
def argScale : S1x1024.Idx → EReal := m ((c : Thread nD τ).loc main_arg5)
def argDxr : S4096x1024.Idx → EReal := m ((c : Thread nD τ).loc main_arg7)
def argDh : S4096x1024.Idx → EReal := m ((c : Thread nD τ).loc main_arg8)

theorem idx_facts : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![0, 0] ∧ win0_7.index t = ![0, 0] := by
  decide +kernel

/-- Row `r` of block `n`. -/
def at512 (n : Nat) (r : Fin 512) : Fin 4096 := ⟨(512 * n + r.val) % 4096, Nat.mod_lt _ (by decide)⟩

theorem at512_val (r : Fin 512) : t.val * 512 + r.val = (at512 t.val r).val := by
  have := Nat.lt_of_lt_of_eq t.isLt N8
  show _ = (512 * t.val + r.val) % 4096
  omega

theorem bDxr_at (r : Fin 512) (k : Fin 1024) : (bDxr m c t (ix2 r k) : EReal) = argDxr m c (ix2 (at512 t.val r) k) := by
  unfold argDxr bDxr
  rw [← Gen.V_main_arg7 m c]
  blk_ext [Gen.iblk, (idx_facts t).1]
  exact at512_val t r
theorem bDh_at (r : Fin 512) (k : Fin 1024) : (bDh m c t (ix2 r k) : EReal) = argDh m c (ix2 (at512 t.val r) k) := by
  unfold argDh bDh
  rw [← Gen.V_main_arg8 m c]
  blk_ext [Gen.iblk, (idx_facts t).2.1]
  exact at512_val t r
theorem bX_at (r : Fin 512) (k : Fin 1024) : (bX m c t (ix2 r k) : EReal) = arrX m c (ix2 (at512 t.val r) k) := by
  unfold arrX bX
  blk_ext [Gen.iblk, (idx_facts t).2.2.1]
  exact at512_val t r
theorem bScale_at (k : Fin 1024) : (bScale m c t (ix2 0 k) : EReal) = argScale m c (ix2 0 k) := by
  unfold argScale bScale
  rw [← Gen.V_main_arg5 m c]
  blk_ext [Gen.iblk, (idx_facts t).2.2.2.1]
theorem bIn_at (r : Fin 512) (k : Fin 1024) : (bIn m c t (ix2 r k) : EReal) = argX m c (ix2 (at512 t.val r) k) := by
  unfold argX bIn
  rw [← Gen.V_main_arg0 m c]
  blk_ext [Gen.iblk, (idx_facts t).2.2.2.2.1]
  exact at512_val t r
theorem bY_at (r : Fin 512) (k : Fin 1024) : (bY m c t (ix2 r k) : EReal) = argY m c (ix2 (at512 t.val r) k) := by
  unfold argY bY
  rw [← Gen.V_main_arg1 m c]
  blk_ext [Gen.iblk, (idx_facts t).2.2.2.2.2.1]
  exact at512_val t r
theorem bGate_at (k : Fin 1024) : (bGate m c t (ix2 0 k) : EReal) = argGate m c (ix2 0 k) := by
  unfold argGate bGate
  rw [← Gen.V_main_arg2 m c]
  blk_ext [Gen.iblk, (idx_facts t).2.2.2.2.2.2.1]
theorem bGain_at (k : Fin 1024) : (bGain m c t (ix2 0 k) : EReal) = argGain m c (ix2 0 k) := by
  unfold argGain bGain
  rw [← Gen.V_main_arg3 m c]
  blk_ext [Gen.iblk, (idx_facts t).2.2.2.2.2.2.2]

/-- The arguments' rows. -/
def zArg : Fin 4096 → Fin 1024 → EReal := zRow (argX m c) (argY m c) (argGate m c)
def oArg : Fin 4096 → Fin 1024 → EReal := oRow (argDxr m c) (argDh m c) (argScale m c)
def gArg : Fin 4096 → Fin 1024 → EReal := gRow (argX m c) (argY m c) (argDxr m c) (argDh m c) (argGate m c) (argGain m c) (argScale m c)
def colArg : Fin 5 → Fin 4096 → Fin 1024 → EReal :=
  cols (argX m c) (argY m c) (argDxr m c) (argDh m c) (arrX m c) (argGate m c) (argGain m c) (argScale m c)

theorem reach_at (r : Fin 512) (k : Fin 1024) : (reach m c t (ix2 r k) : EReal) = oArg m c (at512 t.val r) k := by
  show (bDxr m c t (ix2 r k) : EReal) + bDh m c t (ix2 r k) * broadcastTo S512x1024 (addf (broadcast S1x1024 (Scalar.ofBits (F := Ideal) .f32 0x3F800000#32)) (bScale m c t)) Gen.broadcasts_S1x1024_S512x1024 (ix2 r k) = _
  rw [bDxr_at, bDh_at, NormRow.line_at]
  exact congrArg (fun v : EReal => argDxr m c _ + argDh m c _ * (Gate.lit 0x3F800000#32 + v)) (bScale_at m c t k)

theorem rows_at (r : Fin 512) (k : Fin 1024) : (rowsOf (bY m c t) (bIn m c t) (bGate m c t) (ix2 r k) : EReal) = zArg m c (at512 t.val r) k := by
  refine (NormRow.mixed_at _ _ _ _ _ r k).trans ?_
  rw [bIn_at, bY_at, bGate_at]
  rfl

theorem hat_at (r : Fin 512) (k : Fin 1024) : (hatB m c t (ix2 r k) : EReal) = NormRow.hat1 (zArg m c (at512 t.val r)) k :=
  (NormRow.hat_at _ _ _ _ r k).trans (congrArg (fun z => NormRow.hat1 z k) (funext fun j => rows_at m c t r j))

theorem grad_at (r : Fin 512) (k : Fin 1024) : (gradB m c t (ix2 r k) : EReal) = gArg m c (at512 t.val r) k := by
  refine (NormRow.grad_at _ _ _ _ _ r k).trans ?_
  show _ = NormRow.grad1 (zArg m c (at512 t.val r)) (fun j => oArg m c (at512 t.val r) j * argGain m c (ix2 0 j)) k
  refine congrArg₂ (fun z a : Fin 1024 → EReal => NormRow.grad1 z a k) (funext fun j => rows_at m c t r j) (funext fun j => ?_)
  refine congrArg₂ (fun a b : EReal => a * b) (reach_at m c t r j) ?_
  exact (NormRow.line_at _ _ r j).trans (bGain_at m c t j)

theorem part_at (i : Fin 5) (r : Fin 512) (k : Fin 1024) : (part m c t i (ix2 r k) : EReal) = colArg m c i (at512 t.val r) k := by
  fin_cases i
  · exact bDh_at m c t r k
  · exact congrArg₂ (fun a b : EReal => a * b) (bDh_at m c t r k) (bX_at m c t r k)
  · exact congrArg₂ (fun a b : EReal => a * b) (reach_at m c t r k) (hat_at m c t r k)
  · exact reach_at m c t r k
  · exact congrArg₂ (fun a b : EReal => a * b) (grad_at m c t r k) (bY_at m c t r k)

/-- What block `n` adds to row `p` of running sum `i`. -/
def addend (i : Fin 5) (p : Fin 8) (k : Fin 1024) (n : Nat) : EReal := ∑ j : Fin 64, colArg m c i (at512 n ⟨p.val + 8 * j.val, by omega⟩) k

theorem fold_at (i : Fin 5) (p : Fin 8) (k : Fin 1024) : (foldOf (part m c t i) (ix2 p k) : EReal) = addend m c i p k t.val :=
  (NormRow.fold8_at _ _ _ p k).trans (Finset.sum_congr rfl fun _ _ => part_at m c t i _ k)

/-- After point `n` the running sums hold the blocks so far. -/
theorem acc_at (i : Fin 5) (p : Fin 8) (k : Fin 1024) (n : Nat) (hn : n < cfg0.N) : acc m c n hn i (ix2 p k) = ∑ s ∈ Finset.range (n + 1), addend m c i p k s := by
  have hN := Nat.lt_of_lt_of_eq hn N8
  induction n with
  | zero =>
    rw [Finset.sum_range_one]
    exact (acc_first m c ⟨0, hn⟩ rfl i _).trans (fold_at m c ⟨0, hn⟩ i p k)
  | succ n ih =>
    rw [Finset.sum_range_succ]
    refine (acc_next m c ⟨n + 1, hn⟩ (by show (n + 1) % 8 ≠ 0; omega) i _).trans ?_
    exact congrArg₂ (fun a b : EReal => a + b) (ih (by omega) (by omega)) (fold_at m c ⟨n + 1, hn⟩ i p k)

theorem total_eq (i : Fin 5) (k : Fin 1024) (h7 : 7 < cfg0.N) : totalOf (acc m c 7 h7 i) (ix2 0 k) = ∑ r, colArg m c i r k := by
  refine (NormRow.total_at _ _ _ k).trans ?_
  rw [← NormRow.sum_rows (fun r => colArg m c i r k)]
  refine Finset.sum_congr rfl fun p _ => ?_
  rw [acc_at, Finset.sum_range]
  refine Finset.sum_congr rfl fun s _ => Finset.sum_congr rfl fun j _ => ?_
  refine congrArg (fun r => colArg m c i r k) (Fin.ext ?_)
  show (512 * s.val + (p.val + 8 * j.val)) % 4096 = _
  exact Nat.mod_eq_of_lt (by omega)

/-- The four results. -/
theorem result8 (r : Fin 4096) (k : Fin 1024) : (G8 m c (ix2 r k) : EReal) = Gate.lit 0x3FB504F3#32 * gArg m c r k := by
  have hp : pt8Of (ix2 r k : S4096x1024.Idx) = r.val / 512 := by
    show 1 * (r.val / 512 - 0) + 1 * (k.val / 1024 - 0) = _
    omega
  have hlt : pt8Of (ix2 r k : S4096x1024.Idx) < cfg0.N := by rw [hp]; exact Nat.lt_of_lt_of_eq (by omega) N8.symm
  have hl : loc8Of (ix2 r k : S4096x1024.Idx) = ix2 (⟨r.val % 512, by omega⟩ : Fin 512) k :=
    Tile.eq_ix2_of _ _ _ rfl (Nat.mod_eq_of_lt k.isLt)
  unfold G8
  rw [dif_pos hlt, ← outsAt0_sweep m c _ hlt]
  refine (outs8 m c ⟨_, hlt⟩ _).trans ?_
  rw [hl, grad_at]
  refine congrArg (fun s => Gate.lit 0x3FB504F3#32 * gArg m c s k) (Fin.ext ?_)
  show (512 * pt8Of (ix2 r k : S4096x1024.Idx) + r.val % 512) % 4096 = r.val
  rw [hp]
  omega

theorem result9 (r : Fin 4096) (k : Fin 1024) : (G9 m c (ix2 r k) : EReal) = argGate m c (ix2 0 k) * gArg m c r k := by
  have hp : pt9Of (ix2 r k : S4096x1024.Idx) = r.val / 512 := by
    show 1 * (r.val / 512 - 0) + 1 * (k.val / 1024 - 0) = _
    omega
  have hlt : pt9Of (ix2 r k : S4096x1024.Idx) < cfg0.N := by rw [hp]; exact Nat.lt_of_lt_of_eq (by omega) N8.symm
  have hl : loc9Of (ix2 r k : S4096x1024.Idx) = ix2 (⟨r.val % 512, by omega⟩ : Fin 512) k :=
    Tile.eq_ix2_of _ _ _ rfl (Nat.mod_eq_of_lt k.isLt)
  unfold G9
  rw [dif_pos hlt, ← outsAt0_sweep m c _ hlt]
  refine (outs9 m c ⟨_, hlt⟩ _).trans ?_
  rw [hl, grad_at, NormRow.line_at, bGate_at]
  refine congrArg (fun s => argGate m c (ix2 0 k) * gArg m c s k) (Fin.ext ?_)
  show (512 * pt9Of (ix2 r k : S4096x1024.Idx) + r.val % 512) % 4096 = r.val
  rw [hp]
  omega

theorem last10 (n : Nat) (hn : n < cfg0.N) (h : n % 8 = 7) (y : S8x1024.Idx) : ((Gen.outsAt0 m c n hn).2.2.1 y : EReal)
    = if (y 0).val = 1 then totalOf (acc m c n hn 1) (ix2 0 (y 1)) else if (y 0).val = 0 then totalOf (acc m c n hn 0) (ix2 0 (y 1)) else 0 :=
  outs10 m c ⟨n, hn⟩ h y

theorem last11 (n : Nat) (hn : n < cfg0.N) (h : n % 8 = 7) (y : S8x1024.Idx) : ((Gen.outsAt0 m c n hn).2.2.2.1 y : EReal)
    = if (y 0).val = 2 then totalOf (acc m c n hn 4) (ix2 0 (y 1)) else if (y 0).val = 1 then totalOf (acc m c n hn 3) (ix2 0 (y 1))
      else if (y 0).val = 0 then totalOf (acc m c n hn 2) (ix2 0 (y 1)) else 0 :=
  outs11 m c ⟨n, hn⟩ h y

theorem result10 (y : S8x1024.Idx) : (G10 m c y : EReal)
    = if (y 0).val = 1 then ∑ r, colArg m c 1 r (y 1) else if (y 0).val = 0 then ∑ r, colArg m c 0 r (y 1) else 0 := by
  have h7 : 7 < cfg0.N := lt_of_lt_of_eq (by decide) N8.symm
  rw [← total_eq m c 1 (y 1) h7, ← total_eq m c 0 (y 1) h7, G10_last, ← outsAt0_sweep m c 7 h7]
  exact last10 m c 7 h7 (by decide) y

theorem result11 (y : S8x1024.Idx) : (G11 m c y : EReal)
    = if (y 0).val = 2 then ∑ r, colArg m c 4 r (y 1) else if (y 0).val = 1 then ∑ r, colArg m c 3 r (y 1)
      else if (y 0).val = 0 then ∑ r, colArg m c 2 r (y 1) else 0 := by
  have h7 : 7 < cfg0.N := lt_of_lt_of_eq (by decide) N8.symm
  rw [← total_eq m c 4 (y 1) h7, ← total_eq m c 3 (y 1) h7, ← total_eq m c 2 (y 1) h7, G11_last, ← outsAt0_sweep m c 7 h7]
  exact last11 m c 7 h7 (by decide) y

end Cert.JoinIdeal.Value
-- ==== Proof.Stack.lean ====
module

public import proofs.«01_k».proof.Proof.Window

/-! # Matrices stacked on one another, at an index -/

@[expose] public section
noncomputable section
namespace Cert.Stack
open Idealize.ShloMosaic hiding ix1 ix2 ix3 ix4 eq_ix2 eq_ix3
open ValueIdx

variable {α : Type} {N R : Nat}

/-- The row at `y` is row `y 0 - pre` of the matrix with `pre` rows above it. -/
theorem piece (L : List ((s : Shape) × (s.Idx → α))) (h : Shape.Concatenates (L.map (·.1)) ⟨2, ![R, N]⟩ 0) (y : Shape.Idx ⟨2, ![R, N]⟩) (k : Nat) (hk : k < L.length)
    {E : Nat} (x : Shape.Idx ⟨2, ![E, N]⟩ → α) (hx : L[k] = ⟨_, x⟩) (pre : Nat)
    (hp : (((L.take k).map (·.1)).map fun s => if h : s.rank = (⟨2, ![R, N]⟩ : Shape).rank then s.size ((0 : Fin 2).cast h.symm) else 0).sum = pre)
    (e : pre ≤ (y 0).val) (e' : (y 0).val - pre < E) : concatenate ⟨2, ![R, N]⟩ 0 L h y = x (ix2 ⟨(y 0).val - pre, e'⟩ (y 1)) :=
  concatenate_apply_piece _ _ _ y k hk _ x hx rfl pre hp _ (fun b hb => match b with
    | ⟨0, _⟩ => absurd rfl hb
    | ⟨1, _⟩ => rfl) (Nat.add_sub_cancel' e)

section
variable {A B C D : Nat} (x : Shape.Idx ⟨2, ![A, N]⟩ → α) (z : Shape.Idx ⟨2, ![B, N]⟩ → α) (w : Shape.Idx ⟨2, ![C, N]⟩ → α) (v : Shape.Idx ⟨2, ![D, N]⟩ → α)
  (y : Shape.Idx ⟨2, ![R, N]⟩)

section
variable (h : Shape.Concatenates [⟨2, ![A, N]⟩, ⟨2, ![B, N]⟩, ⟨2, ![C, N]⟩] ⟨2, ![R, N]⟩ 0)
theorem first3 (e' : (y 0).val < A) : concatenate ⟨2, ![R, N]⟩ 0 [⟨_, x⟩, ⟨_, z⟩, ⟨_, w⟩] h y = x (ix2 ⟨(y 0).val, e'⟩ (y 1)) :=
  piece _ _ y 0 (by show 0 < 3; omega) x rfl 0 rfl (Nat.zero_le _) e'
theorem second3 (e : A ≤ (y 0).val) (e' : (y 0).val - A < B) : concatenate ⟨2, ![R, N]⟩ 0 [⟨_, x⟩, ⟨_, z⟩, ⟨_, w⟩] h y = z (ix2 ⟨(y 0).val - A, e'⟩ (y 1)) :=
  piece _ _ y 1 (by show 1 < 3; omega) z rfl A rfl e e'
theorem third3 (e : A + B ≤ (y 0).val) (e' : (y 0).val - (A + B) < C) :
    concatenate ⟨2, ![R, N]⟩ 0 [⟨_, x⟩, ⟨_, z⟩, ⟨_, w⟩] h y = w (ix2 ⟨(y 0).val - (A + B), e'⟩ (y 1)) :=
  piece _ _ y 2 (by show 2 < 3; omega) w rfl (A + B) rfl e e'
end

variable (h : Shape.Concatenates [⟨2, ![A, N]⟩, ⟨2, ![B, N]⟩, ⟨2, ![C, N]⟩, ⟨2, ![D, N]⟩] ⟨2, ![R, N]⟩ 0)
theorem first4 (e' : (y 0).val < A) : concatenate ⟨2, ![R, N]⟩ 0 [⟨_, x⟩, ⟨_, z⟩, ⟨_, w⟩, ⟨_, v⟩] h y = x (ix2 ⟨(y 0).val, e'⟩ (y 1)) :=
  piece _ _ y 0 (by show 0 < 4; omega) x rfl 0 rfl (Nat.zero_le _) e'
theorem second4 (e : A ≤ (y 0).val) (e' : (y 0).val - A < B) : concatenate ⟨2, ![R, N]⟩ 0 [⟨_, x⟩, ⟨_, z⟩, ⟨_, w⟩, ⟨_, v⟩] h y = z (ix2 ⟨(y 0).val - A, e'⟩ (y 1)) :=
  piece _ _ y 1 (by show 1 < 4; omega) z rfl A rfl e e'
theorem third4 (e : A + B ≤ (y 0).val) (e' : (y 0).val - (A + B) < C) :
    concatenate ⟨2, ![R, N]⟩ 0 [⟨_, x⟩, ⟨_, z⟩, ⟨_, w⟩, ⟨_, v⟩] h y = w (ix2 ⟨(y 0).val - (A + B), e'⟩ (y 1)) :=
  piece _ _ y 2 (by show 2 < 4; omega) w rfl (A + B) rfl e e'
theorem fourth4 (e : A + (B + C) ≤ (y 0).val) (e' : (y 0).val - (A + (B + C)) < D) :
    concatenate ⟨2, ![R, N]⟩ 0 [⟨_, x⟩, ⟨_, z⟩, ⟨_, w⟩, ⟨_, v⟩] h y = v (ix2 ⟨(y 0).val - (A + (B + C)), e'⟩ (y 1)) :=
  piece _ _ y 3 (by show 3 < 4; omega) v rfl (A + (B + C)) rfl e e'
end

end Cert.Stack
-- ==== Proof.JoinRef.lean ====
module

public import proofs.«01_k».proof.Proof.JoinRead
public import proofs.«01_k».proof.Proof.Stack
public import proofs.«01_k».proof.Proof.Equation
public import proofs.«01_k».proof.Proof.Gen.Pre_finite_join

/-! # The normalisation's reference, row by row, and the equation

The reference differentiates the normalisation by the chain rule; row by row that is `NormRow.chain1`. Of finite arguments it is the
gradient the call computes. -/

@[expose] public section
set_option maxRecDepth 16384
noncomputable section
namespace Cert.JoinIdeal.Value
open Idealize.ShloMosaic hiding ix1 ix2 ix3 ix4 eq_ix2 eq_ix3
open Idealize.ShloMosaic.TcCoe Idealize.SL.Sem ValueIdx
open Cert.JoinRefIdeal.Read Cert.NormRow
open Cert.Gate (lit mean1 cen1)

section
variable (x y dxr dh : Cert.JoinRefIdeal.S4096x1024.Idx → EReal) (gate g b sc : Cert.JoinRefIdeal.S1x1024.Idx → EReal)

theorem refZ (r : Fin 4096) (k : Fin 1024) : (val_main_v4 (F := Ideal) x y gate (ix2 r k) : EReal) = zRow x y gate r k := by
  rw [val_main_v4_apply, val_main_v1_apply, val_main_v3_apply, val_main_v2_apply, val_main_v0_apply (F := Ideal)]
  exact congrArg (fun v : EReal => lit 0x3FB504F3#32 * x (ix2 r k) + v * y (ix2 r k)) (congrArg gate (Tile.eq_ix2_of _ _ _ rfl rfl))

theorem refMean' (i : Cert.JoinRefIdeal.S4096x1.Idx) : (val_main_v8 (F := Ideal) x y gate i : EReal) = mean1 (zRow x y gate (i 0)) := by
  rw [val_main_v8_apply, val_main_v6_apply, val_main_v5_apply]
  refine congrArg (fun v => Ideal.div v (lit 0x44800000#32)) ?_
  refine (congrArg (· + _) Ideal.ofBits_zero_f32).trans ((zero_add _).trans (Finset.sum_congr rfl fun k _ => ?_))
  exact (congrArg (val_main_v4 (F := Ideal) x y gate) (Tile.eq_ix2_of _ (i 0) k rfl rfl)).trans (refZ x y gate _ _)

theorem refCen1 (r : Fin 4096) (k : Fin 1024) : (val_main_v10 (F := Ideal) x y gate (ix2 r k) : EReal) = cen1 (zRow x y gate r) k := by
  rw [val_main_v10_apply, val_main_v9_apply]
  exact congrArg₂ (fun a b : EReal => a - b) (refZ x y gate r k) (refMean' x y gate _)
theorem refCen2 (r : Fin 4096) (k : Fin 1024) : (val_main_v19 (F := Ideal) x y gate (ix2 r k) : EReal) = cen1 (zRow x y gate r) k := by
  rw [val_main_v19_apply, val_main_v18_apply]
  exact congrArg₂ (fun a b : EReal => a - b) (refZ x y gate r k) (refMean' x y gate _)

theorem refVar1 (i : Cert.JoinRefIdeal.S4096x1.Idx) : (val_main_v21 (F := Ideal) x y gate i : EReal) = var1 (zRow x y gate (i 0)) := by
  rw [val_main_v21_apply, val_main_v17_apply, val_main_v15_apply, val_main_v14_apply]
  refine congrArg (fun v : EReal => Ideal.div v (lit 0x44800000#32) + lit 0x3727C5AC#32) ?_
  refine (congrArg (· + _) Ideal.ofBits_zero_f32).trans ((zero_add _).trans (Finset.sum_congr rfl fun k _ => ?_))
  have e : (val_main_v11 (F := Ideal) x y gate (ix2 (i 0) k) : EReal) = _ := congrArg (fun v : EReal => v * v) (refCen1 x y gate (i 0) k)
  exact (congrArg (val_main_v11 (F := Ideal) x y gate) (Tile.eq_ix2_of _ (i 0) k rfl rfl)).trans e

theorem refRoot (i : Cert.JoinRefIdeal.S4096x1.Idx) : (val_main_v22 (F := Ideal) x y gate i : EReal) = root1 (zRow x y gate (i 0)) :=
  congrArg Ideal.rsqrt (refVar1 x y gate i)

/-- The derivative of the reciprocal root. -/
theorem refSlope (i : Cert.JoinRefIdeal.S4096x1.Idx) : (val_main_v25 (F := Ideal) x y gate i : EReal)
    = lit 0xBF000000#32 * Ideal.div (root1 (zRow x y gate (i 0))) (var1 (zRow x y gate (i 0))) := by
  rw [val_main_v25_apply, val_main_v23_apply]
  exact congrArg₂ (fun a b : EReal => lit 0xBF000000#32 * Ideal.div a b) (refRoot x y gate i) (refVar1 x y gate i)

theorem refHat (r : Fin 4096) (k : Fin 1024) : (val_main_v27 (F := Ideal) x y gate (ix2 r k) : EReal) = hat1 (zRow x y gate r) k := by
  rw [val_main_v27_apply, val_main_v26_apply]
  exact congrArg₂ (fun a b : EReal => a * b) (refCen2 x y gate r k) (refRoot x y gate _)

theorem refDh (r : Fin 4096) (k : Fin 1024) : (val_main_v38 (F := Ideal) dh (ix2 r k) : EReal) = dh (ix2 r k) := by
  rw [val_main_v38_apply]
  exact congrArg dh (Tile.eq_ix2_of _ r k (by show (r.val * 1024 + k.val) / 1024 = r.val; omega) (by show (r.val * 1024 + k.val) % 1024 = k.val; omega))

theorem refReach' (r : Fin 4096) (k : Fin 1024) : (val_main_v46 (F := Ideal) sc dxr dh (ix2 r k) : EReal) = oRow dxr dh sc r k := by
  rw [val_main_v46_apply, val_main_v45_apply, val_main_v44_apply, val_main_v33_apply]
  refine congrArg₂ (fun a b : EReal => dxr (ix2 r k) + a * (lit 0x3F800000#32 + b)) (refDh dh r k) (congrArg sc (Tile.eq_ix2_of _ _ _ rfl rfl))

theorem refReach (r : Fin 4096) (k : Fin 1024) : (val_main_v47 (F := Ideal) sc dxr dh (ix2 r k) : EReal) = oRow dxr dh sc r k := by
  rw [val_main_v47_apply, Tile.eq_ix2_of (idx_main_v47 (ix2 r k)) r k (by show (r.val * 1024 + k.val) / 1024 = r.val; omega) (by show (r.val * 1024 + k.val) % 1024 = k.val; omega)]
  exact refReach' dxr dh sc r k

/-- The gradient that reaches the normalised row, before its gain. -/
def aRow (r : Fin 4096) (k : Fin 1024) : EReal := oRow dxr dh sc r k * g (ix2 0 k)

theorem refA (r : Fin 4096) (k : Fin 1024) : (val_main_v54 (F := Ideal) g sc dxr dh (ix2 r k) : EReal) = aRow dxr dh g sc r k := by
  rw [val_main_v54_apply, val_main_v53_apply]
  exact congrArg₂ (fun a b : EReal => a * b) (refReach dxr dh sc r k) (congrArg g (Tile.eq_ix2_of _ _ _ rfl rfl))

theorem refDirect (r : Fin 4096) (k : Fin 1024) : (val_main_v59 (F := Ideal) x y gate g sc dxr dh (ix2 r k) : EReal)
    = aRow dxr dh g sc r k * root1 (zRow x y gate r) := by
  rw [val_main_v59_apply, val_main_v58_apply]
  exact congrArg₂ (fun a b : EReal => a * b) (refA dxr dh g sc r k) (refRoot x y gate _)

theorem refDvar (i : Cert.JoinRefIdeal.S4096.Idx) : (val_main_v66 (F := Ideal) x y gate g sc dxr dh i : EReal) = dvar1 (zRow x y gate (i 0)) (aRow dxr dh g sc (i 0)) := by
  rw [val_main_v66_apply]
  refine (congrArg (· + _) Ideal.ofBits_zero_f32).trans ((zero_add _).trans ?_)
  rw [Fin.sum_univ_one, val_main_v65_apply, val_main_v60_apply, val_main_v57_apply, val_main_v56_apply]
  refine congrArg₂ (fun a b : EReal => Ideal.div (a * b) (lit 0x44800000#32)) ?_ (refSlope x y gate _)
  refine (congrArg (· + _) Ideal.ofBits_zero_f32).trans ((zero_add _).trans (Finset.sum_congr rfl fun k _ => ?_))
  have e : (val_main_v55 (F := Ideal) x y gate g sc dxr dh (ix2 (i 0) k) : EReal) = _ :=
    congrArg₂ (fun a b : EReal => a * b) (refCen2 x y gate (i 0) k) (refA dxr dh g sc (i 0) k)
  exact (congrArg (val_main_v55 (F := Ideal) x y gate g sc dxr dh) (Tile.eq_ix2_of _ (i 0) k (by show (i 0).val * 1 + 0 = (i 0).val; omega) rfl)).trans e

theorem refSpread (r : Fin 4096) (k : Fin 1024) : (val_main_v68 (F := Ideal) x y gate g sc dxr dh (ix2 r k) : EReal)
    = spread1 (zRow x y gate r) (aRow dxr dh g sc r) k := by
  rw [val_main_v68_apply, val_main_v67_apply, val_main_v13_apply]
  exact congrArg₂ (fun a b : EReal => a * (lit 0x40000000#32 * b)) (refDvar x y dxr dh gate g sc _) (refCen1 x y gate r k)

theorem refSum1 (i : Cert.JoinRefIdeal.S4096x1.Idx) : (val_main_v63 (F := Ideal) x y gate g sc dxr dh i : EReal)
    = ∑ j, -(aRow dxr dh g sc (i 0) j * root1 (zRow x y gate (i 0))) := by
  have h1 : (i 1).val < 1 := (i 1).isLt
  rw [val_main_v63_apply, val_main_v62_apply]
  refine (congrArg (· + _) Ideal.ofBits_zero_f32).trans ((zero_add _).trans (Finset.sum_congr rfl fun k _ => ?_))
  have e : (val_main_v61 (F := Ideal) x y gate g sc dxr dh (ix2 (i 0) k) : EReal) = _ := congrArg (fun v : EReal => -v) (refDirect x y dxr dh gate g sc (i 0) k)
  exact (congrArg (val_main_v61 (F := Ideal) x y gate g sc dxr dh) (Tile.eq_ix2_of _ (i 0) k (by show (i 0).val * 1 + (i 1).val = (i 0).val; omega) rfl)).trans e

theorem refSum2 (i : Cert.JoinRefIdeal.S4096x1.Idx) : (val_main_v71 (F := Ideal) x y gate g sc dxr dh i : EReal)
    = ∑ j, -spread1 (zRow x y gate (i 0)) (aRow dxr dh g sc (i 0)) j := by
  have h1 : (i 1).val < 1 := (i 1).isLt
  rw [val_main_v71_apply, val_main_v70_apply]
  refine (congrArg (· + _) Ideal.ofBits_zero_f32).trans ((zero_add _).trans (Finset.sum_congr rfl fun k _ => ?_))
  have e : (val_main_v69 (F := Ideal) x y gate g sc dxr dh (ix2 (i 0) k) : EReal) = _ := congrArg (fun v : EReal => -v) (refSpread x y dxr dh gate g sc (i 0) k)
  exact (congrArg (val_main_v69 (F := Ideal) x y gate g sc dxr dh) (Tile.eq_ix2_of _ (i 0) k (by show (i 0).val * 1 + (i 1).val = (i 0).val; omega) rfl)).trans e

/-- The reference's gradient of a row. -/
theorem refChain (r : Fin 4096) (k : Fin 1024) : (val_main_v78 (F := Ideal) x y gate g sc dxr dh (ix2 r k) : EReal)
    = chain1 (zRow x y gate r) (aRow dxr dh g sc r) k := by
  rw [val_main_v78_apply, val_main_v72_apply, val_main_v77_apply, val_main_v76_apply]
  refine congrArg₂ (fun a b : EReal => a + b) (congrArg₂ (fun a b : EReal => a + b) (refDirect x y dxr dh gate g sc r k) (refSpread x y dxr dh gate g sc r k)) ?_
  refine (congrArg (· + _) Ideal.ofBits_zero_f32).trans ((zero_add _).trans ?_)
  rw [Fin.sum_univ_one, val_main_v75_apply, val_main_v73_apply]
  exact congrArg₂ (fun a b : EReal => Ideal.div (a + b) (lit 0x44800000#32)) (refSum1 x y dxr dh gate g sc _) (refSum2 x y dxr dh gate g sc _)

/-! ## The four results -/

variable (hg : ∀ r k, gRow x y dxr dh gate g sc r k = chain1 (zRow x y gate r) (aRow dxr dh g sc r) k)
include hg

theorem refDx (i : Cert.JoinRefIdeal.S4096x1024.Idx) : (val_main_v85 (F := Ideal) x y gate g sc dxr dh i : EReal)
    = lit 0x3FB504F3#32 * gRow x y dxr dh gate g sc (i 0) (i 1) := by
  rw [val_main_v85_apply]
  exact congrArg (fun v : EReal => lit 0x3FB504F3#32 * v) ((congrArg _ (Tile.eq_ix2_of i (i 0) (i 1) rfl rfl)).trans ((refChain x y dxr dh gate g sc _ _).trans (hg _ _).symm))

theorem refDy (i : Cert.JoinRefIdeal.S4096x1024.Idx) : (val_main_v87 (F := Ideal) x y gate g sc dxr dh i : EReal)
    = gate (ix2 0 (i 1)) * gRow x y dxr dh gate g sc (i 0) (i 1) := by
  rw [val_main_v87_apply, val_main_v80_apply, val_main_v79_apply]
  exact congrArg₂ (fun u v : EReal => u * v) (congrArg gate (Tile.eq_ix2_of _ _ _ rfl rfl))
    ((congrArg _ (Tile.eq_ix2_of i (i 0) (i 1) rfl rfl)).trans ((refChain x y dxr dh gate g sc _ _).trans (hg _ _).symm))

theorem refCol4 (i : Cert.JoinRefIdeal.S1x1024.Idx) : (val_main_v83 (F := Ideal) x y gate g sc dxr dh i : EReal)
    = ∑ r, gRow x y dxr dh gate g sc r (i 1) * y (ix2 r (i 1)) := by
  have h0 : (i 0).val < 1 := (i 0).isLt
  rw [val_main_v83_apply, val_main_v82_apply]
  refine (congrArg (· + _) Ideal.ofBits_zero_f32).trans ((zero_add _).trans (Finset.sum_congr rfl fun r _ => ?_))
  rw [Tile.eq_ix2_of (idx_main_v82 (idx_main_v83 i) r) r (i 1) rfl (by show (i 0).val * 1024 + (i 1).val = (i 1).val; omega), val_main_v81_apply]
  exact congrArg (fun v : EReal => v * y (ix2 r (i 1))) ((refChain x y dxr dh gate g sc _ _).trans (hg _ _).symm)
omit hg

theorem refCol3 (i : Cert.JoinRefIdeal.S1x1024.Idx) : (val_main_v49 (F := Ideal) sc dxr dh i : EReal) = ∑ r, oRow dxr dh sc r (i 1) := by
  have h0 : (i 0).val < 1 := (i 0).isLt
  rw [val_main_v49_apply, val_main_v48_apply]
  refine (congrArg (· + _) Ideal.ofBits_zero_f32).trans ((zero_add _).trans (Finset.sum_congr rfl fun r _ => ?_))
  rw [Tile.eq_ix2_of (idx_main_v48 (idx_main_v49 i) r) r (i 1) rfl (by show (i 0).val * 1024 + (i 1).val = (i 1).val; omega)]
  exact refReach' dxr dh sc r _

theorem refCol2 (i : Cert.JoinRefIdeal.S1x1024.Idx) : (val_main_v52 (F := Ideal) x y gate sc dxr dh i : EReal)
    = ∑ r, oRow dxr dh sc r (i 1) * hat1 (zRow x y gate r) (i 1) := by
  have h0 : (i 0).val < 1 := (i 0).isLt
  rw [val_main_v52_apply, val_main_v51_apply]
  refine (congrArg (· + _) Ideal.ofBits_zero_f32).trans ((zero_add _).trans (Finset.sum_congr rfl fun r _ => ?_))
  rw [Tile.eq_ix2_of (idx_main_v51 (idx_main_v52 i) r) r (i 1) rfl (by show (i 0).val * 1024 + (i 1).val = (i 1).val; omega), val_main_v50_apply]
  exact (congrArg₂ (fun u v : EReal => u * v) (refHat x y gate r _) (refReach dxr dh sc r _)).trans (mul_comm _ _)

theorem refCol1 (i : Cert.JoinRefIdeal.S1x1024.Idx) : (val_main_v43 (F := Ideal) x y gate g b dh i : EReal)
    = ∑ r, dh (ix2 r (i 1)) * val_main_v31 (F := Ideal) x y gate g b (ix2 r (i 1)) := by
  have h0 : (i 0).val < 1 := (i 0).isLt
  rw [val_main_v43_apply, val_main_v42_apply]
  refine (congrArg (· + _) Ideal.ofBits_zero_f32).trans ((zero_add _).trans (Finset.sum_congr rfl fun r _ => ?_))
  rw [Tile.eq_ix2_of (idx_main_v42 (idx_main_v43 i) r) r (i 1) rfl (by show (i 0).val * 1024 + (i 1).val = (i 1).val; omega), val_main_v41_apply]
  exact (congrArg (fun v : EReal => _ * v) (refDh dh r _)).trans (mul_comm _ _)

theorem refCol0 (i : Cert.JoinRefIdeal.S1x1024.Idx) : (val_main_v40 (F := Ideal) dh i : EReal) = ∑ r, dh (ix2 r (i 1)) := by
  have h0 : (i 0).val < 1 := (i 0).isLt
  rw [val_main_v40_apply, val_main_v39_apply]
  refine (congrArg (· + _) Ideal.ofBits_zero_f32).trans ((zero_add _).trans (Finset.sum_congr rfl fun r _ => ?_))
  exact congrArg dh (Tile.eq_ix2_of _ r (i 1) rfl (by show (i 0).val * 1024 + (i 1).val = (i 1).val; omega))

theorem refMod (i : Cert.JoinRefIdeal.S8x1024.Idx) : (val_main_v88 (F := Ideal) x y gate g b dh i : EReal)
    = if (i 0).val = 1 then ∑ r, dh (ix2 r (i 1)) * val_main_v31 (F := Ideal) x y gate g b (ix2 r (i 1)) else if (i 0).val = 0 then ∑ r, dh (ix2 r (i 1)) else 0 := by
  have h8 : (i 0).val < 8 := (i 0).isLt
  unfold val_main_v88
  by_cases h1 : (i 0).val = 1
  · rw [if_pos h1]
    exact (Stack.second3 (A := 1) (B := 1) (C := 6) (R := 8) (N := 1024) _ _ _ i _ (by omega) (by omega)).trans (refCol1 x y dh gate g b _)
  rw [if_neg h1]
  by_cases h0 : (i 0).val = 0
  · rw [if_pos h0]
    exact (Stack.first3 (A := 1) (B := 1) (C := 6) (R := 8) (N := 1024) _ _ _ i _ (by omega)).trans (refCol0 dh _)
  rw [if_neg h0]
  exact (Stack.third3 (A := 1) (B := 1) (C := 6) (R := 8) (N := 1024) _ _ _ i _ (by omega) (by omega)).trans
    ((val_main_v86_apply (F := Ideal) _).trans Ideal.ofBits_zero_f32)

include hg in
theorem refRows (i : Cert.JoinRefIdeal.S8x1024.Idx) : (val_main_v90 (F := Ideal) x y gate g sc dxr dh i : EReal)
    = if (i 0).val = 2 then ∑ r, gRow x y dxr dh gate g sc r (i 1) * y (ix2 r (i 1)) else if (i 0).val = 1 then ∑ r, oRow dxr dh sc r (i 1)
      else if (i 0).val = 0 then ∑ r, oRow dxr dh sc r (i 1) * hat1 (zRow x y gate r) (i 1) else 0 := by
  have h8 : (i 0).val < 8 := (i 0).isLt
  unfold val_main_v90
  by_cases h2 : (i 0).val = 2
  · rw [if_pos h2]
    exact (Stack.third4 (A := 1) (B := 1) (C := 1) (D := 5) (R := 8) (N := 1024) _ _ _ _ i _ (by omega) (by omega)).trans (refCol4 x y dxr dh gate g sc hg _)
  rw [if_neg h2]
  by_cases h1 : (i 0).val = 1
  · rw [if_pos h1]
    exact (Stack.second4 (A := 1) (B := 1) (C := 1) (D := 5) (R := 8) (N := 1024) _ _ _ _ i _ (by omega) (by omega)).trans (refCol3 dxr dh sc _)
  rw [if_neg h1]
  by_cases h0 : (i 0).val = 0
  · rw [if_pos h0]
    exact (Stack.first4 (A := 1) (B := 1) (C := 1) (D := 5) (R := 8) (N := 1024) _ _ _ _ i _ (by omega)).trans (refCol2 x y dxr dh gate sc _)
  rw [if_neg h0]
  exact (Stack.fourth4 (A := 1) (B := 1) (C := 1) (D := 5) (R := 8) (N := 1024) _ _ _ _ i _ (by omega) (by omega)).trans
    ((val_main_v89_apply (F := Ideal) _).trans ((val_main_v86_apply (F := Ideal) _).trans Ideal.ofBits_zero_f32))
end

end Cert.JoinIdeal.Value
-- ==== Proof.JoinEq.lean ====
module

public import proofs.«01_k».proof.Proof.JoinRef
public import proofs.«01_k».proof.Defs
public import proofs.«01_k».proof.Proof.Gen.JoinRefIdeal.Run
public import Idealize.ShloMosaic.Adequacy
public import Idealize.ShloMosaic.Init
public import Idealize.ShloMosaic.Lib.Quiescent

/-! # The normalisation's call and its reference have the same results -/

@[expose] public section
noncomputable section
namespace Cert.JoinIdeal.Value
open Idealize.ShloMosaic hiding ix1 ix2 ix3 ix4 eq_ix2 eq_ix3
open Idealize.ShloMosaic.TcCoe Idealize.SL.Sem ValueIdx
open Cert.NormRow
open Cert.Gate (lit)
open Cert.ReferenceIdeal.Read (emul eadd one_word)

/-- Every entry of an array is a real number. -/
abbrev RealEntries {s : Shape} (x : s.Idx → EReal) : Prop := ∀ i, x i = ((x i).toReal : EReal)

/-- Of finite arguments, the gradient of a row is what the chain rule gives. -/
theorem grad_chain (x y dxr dh : S4096x1024.Idx → EReal) (gate g sc : S1x1024.Idx → EReal) (hx : RealEntries x) (hy : RealEntries y) (hdxr : RealEntries dxr)
    (hdh : RealEntries dh) (hgate : RealEntries gate) (hg : RealEntries g) (hsc : RealEntries sc) (r : Fin 4096) (k : Fin 1024) :
    gRow x y dxr dh gate g sc r k = chain1 (zRow x y gate r) (aRow dxr dh g sc r) k := by
  obtain ⟨α, hα⟩ := word_alpha
  exact grad_eq_chain _ _ (fun k => eadd (emul hα (hx (ix2 r k))) (emul (hgate (ix2 0 k)) (hy (ix2 r k))))
    (fun k => emul (eadd (hdxr (ix2 r k)) (emul (hdh (ix2 r k)) (eadd one_word (hsc (ix2 0 k))))) (hg (ix2 0 k))) k

variable (m : (ℓ : Loc nD τ sig) → Buf (Elt Ideal) ℓ) (c : Dev nD)

theorem chain_of_pre (hpre : Cert.Pre_JoinIdeal_finite_join m) (r : Fin 4096) (k : Fin 1024) :
    gArg m c r k = chain1 (zRow (argX m c) (argY m c) (argGate m c) r) (aRow (argDxr m c) (argDh m c) (argGain m c) (argScale m c) r) k := by
  obtain ⟨h0, h1, h2, h3, h5, h7, h8⟩ := hpre c
  exact grad_chain _ _ _ _ _ _ _ (fun i => Cert.KernelIdeal.Value.real_of_abs_lt _ (congrFun h0 i))
    (fun i => Cert.KernelIdeal.Value.real_of_abs_lt _ (congrFun h1 i)) (fun i => Cert.KernelIdeal.Value.real_of_abs_lt _ (congrFun h7 i))
    (fun i => Cert.KernelIdeal.Value.real_of_abs_lt _ (congrFun h8 i)) (fun i => Cert.KernelIdeal.Value.real_of_abs_lt _ (congrFun h2 i))
    (fun i => Cert.KernelIdeal.Value.real_of_abs_lt _ (congrFun h3 i)) (fun i => Cert.KernelIdeal.Value.real_of_abs_lt _ (congrFun h5 i)) r k

theorem eq8 (hpre : Cert.Pre_JoinIdeal_finite_join m) :
    Cert.JoinRefIdeal.Read.val_main_v85 (F := Ideal) (argX m c) (argY m c) (argGate m c) (argGain m c) (argScale m c) (argDxr m c) (argDh m c) = G8 m c :=
  funext fun i => (refDx _ _ _ _ _ _ _ (chain_of_pre m c hpre) i).trans
    ((result8 m c (i 0) (i 1)).symm.trans (congrArg (G8 m c) (Tile.eq_ix2_of i (i 0) (i 1) rfl rfl).symm))

theorem eq9 (hpre : Cert.Pre_JoinIdeal_finite_join m) :
    Cert.JoinRefIdeal.Read.val_main_v87 (F := Ideal) (argX m c) (argY m c) (argGate m c) (argGain m c) (argScale m c) (argDxr m c) (argDh m c) = G9 m c :=
  funext fun i => (refDy _ _ _ _ _ _ _ (chain_of_pre m c hpre) i).trans
    ((result9 m c (i 0) (i 1)).symm.trans (congrArg (G9 m c) (Tile.eq_ix2_of i (i 0) (i 1) rfl rfl).symm))

theorem eq10 : Cert.JoinRefIdeal.Read.val_main_v88 (F := Ideal) (argX m c) (argY m c) (argGate m c) (argGain m c) (m ((c : Thread nD τ).loc main_arg4)) (argDh m c) = G10 m c :=
  funext fun i => (refMod _ _ _ _ _ _ i).trans ((result10 m c i).trans (by
    have e : ∀ r, colArg m c 1 r (i 1) = argDh m c (ix2 r (i 1)) * arrX m c (ix2 r (i 1)) := fun _ => rfl
    simp only [e, arrX_eq]; rfl)).symm

theorem eq11 (hpre : Cert.Pre_JoinIdeal_finite_join m) :
    Cert.JoinRefIdeal.Read.val_main_v90 (F := Ideal) (argX m c) (argY m c) (argGate m c) (argGain m c) (argScale m c) (argDxr m c) (argDh m c) = G11 m c :=
  funext fun i => (refRows _ _ _ _ _ _ _ (chain_of_pre m c hpre) i).trans (result11 m c i).symm

end Cert.JoinIdeal.Value

namespace Cert.Proof
open Idealize.ShloMosaic Idealize.SL.Sem Idealize.ShloMosaic.StableHlo

theorem frame_JoinRef : quiescent_JoinRefIdeal := fun m ρ _ =>
  (θ_run Cert.JoinRefIdeal.defs _ _).mono (fun r h => ⟨fun c => (h c).2.2.2.2, sem_eq_zero_of_no_sems (by decide) r.2⟩)
    (Cert.JoinRefIdeal.Value.run (F := Ideal) m ρ)

theorem algebraic_Join : algebraic_JoinIdeal_JoinRefIdeal_pre_finite_join := by
  intro m ρ m' ρ' hpre hagree
  refine ⟨_, _, _, _, Cert.JoinIdeal.Value.run (F := Ideal) m ρ, ?_⟩
  refine (θ_run Cert.JoinRefIdeal.defs _ _).mono (fun _ h c => ⟨?_, ?_, ?_, ?_, (h c).2.2.2.2⟩) (Cert.JoinRefIdeal.Value.run (F := Ideal) m' ρ')
  all_goals obtain ⟨e0, e1, e2, e3, e4, e5, e6, e7, e8⟩ := hagree c
  · refine ((h c).1.trans (Cert.JoinRefIdeal.Read.val_main_v85_eq (F := Ideal) _ _)).trans ?_
    rw [e0, e1, e2, e3, e5, e7, e8]
    exact Cert.JoinIdeal.Value.eq8 m c hpre
  · refine ((h c).2.1.trans (Cert.JoinRefIdeal.Read.val_main_v87_eq (F := Ideal) _ _)).trans ?_
    rw [e0, e1, e2, e3, e5, e7, e8]
    exact Cert.JoinIdeal.Value.eq9 m c hpre
  · refine ((h c).2.2.1.trans (Cert.JoinRefIdeal.Read.val_main_v88_eq (F := Ideal) _ _)).trans ?_
    rw [e0, e1, e2, e3, e4, e8]
    exact Cert.JoinIdeal.Value.eq10 m c
  · refine ((h c).2.2.2.1.trans (Cert.JoinRefIdeal.Read.val_main_v90_eq (F := Ideal) _ _)).trans ?_
    rw [e0, e1, e2, e3, e5, e7, e8]
    exact Cert.JoinIdeal.Value.eq11 m c hpre

end Cert.Proof
-- ==== Proof.OutNorm.lean ====
module

public import proofs.«01_k».proof.Proof.NormRows
public import proofs.«01_k».proof.Proof.Mm

/-! # Rows added to the stream, normalised and modulated

What the two output projections do with their product: the gated product is added to the scaled stream, the rows of the sum are
normalised, with a gain and an offset, and modulated by a scale and a shift. Over any interpretation of the floats for a block of 256
rows, and read over the extended reals. -/

@[expose] public section
set_option maxRecDepth 16384
noncomputable section
namespace Cert.OutNorm
open Idealize.ShloMosaic hiding ix1 ix2 ix3 ix4 eq_ix2 eq_ix3
open Idealize.ShloMosaic.TcCoe ValueIdx
open Cert.Gate (lit)
open Cert.NormRow

abbrev S256x1024 : Shape := ⟨2, ![256, 1024]⟩
abbrev S1024x1024 : Shape := ⟨2, ![1024, 1024]⟩

section
variable {F : FTy → Type} [FloatOps F]
variable (h : (⟨2, ![256, 1024]⟩ : Shape).Reduces [1] ⟨1, ![256]⟩) (h' : (⟨1, ![256]⟩ : Shape).ShapeCasts ⟨2, ![256, 1]⟩)
  (hb : (⟨2, ![256, 1]⟩ : Shape).Broadcasts S256x1024) (hg : S1x1024.Broadcasts S256x1024) (ht : FTy.bits .bf16 < FTy.bits .f32)

/-- The normalised rows, with gain and offset. -/
def normed (y x : Vec F S256x1024 .f32) (gate g b : Vec F S1x1024 .f32) : FVec F S256x1024 .f32 :=
  addf (mulf (hat h h' hb (mixed hg y x (Scalar.ofBits .f32 0x3FB504F3#32) gate)) (broadcastTo S256x1024 g hg)) (broadcastTo S256x1024 b hg)

/-- The modulated rows. -/
def modulated (n : FVec F S256x1024 .f32) (sc sh : Vec F S1x1024 .f32) : FVec F S256x1024 .bf16 :=
  truncf .bf16 (addf (mulf n (broadcastTo S256x1024 (addf (broadcast S1x1024 (Scalar.ofBits .f32 0x3F800000#32)) sc) hg)) (broadcastTo S256x1024 sh hg)) ht
end

section
variable {M : Nat} (Y X : Shape.Idx ⟨2, ![M, 1024]⟩ → EReal) (gate g b sc sh : S1x1024.Idx → EReal)

/-- A row of the new stream. -/
def streamRow (r : Fin M) (k : Fin 1024) : EReal := lit 0x3FB504F3#32 * X (ix2 r k) + gate (ix2 0 k) * Y (ix2 r k)

/-- The normalised stream. -/
def normedOf (y : Shape.Idx ⟨2, ![M, 1024]⟩) : EReal := hat1 (streamRow Y X gate (y 0)) (y 1) * g (ix2 0 (y 1)) + b (ix2 0 (y 1))

/-- The modulated stream. -/
def modulatedOf (y : Shape.Idx ⟨2, ![M, 1024]⟩) : EReal := normedOf Y X gate g b y * (lit 0x3F800000#32 + sc (ix2 0 (y 1))) + sh (ix2 0 (y 1))

variable {Y X}
/-- The results depend on the row alone. -/
theorem normedOf_of {M' : Nat} {Y' X' : Shape.Idx ⟨2, ![M', 1024]⟩ → EReal} {y : Shape.Idx ⟨2, ![M, 1024]⟩} {y' : Shape.Idx ⟨2, ![M', 1024]⟩}
    (hY : ∀ k : Fin 1024, Y (ix2 (y 0) k) = Y' (ix2 (y' 0) k)) (hX : ∀ k : Fin 1024, X (ix2 (y 0) k) = X' (ix2 (y' 0) k)) (hk : y 1 = y' 1) :
    normedOf Y X gate g b y = normedOf Y' X' gate g b y' := by
  have e : streamRow Y X gate (y 0) = streamRow Y' X' gate (y' 0) :=
    funext fun k => congrArg₂ (fun u v : EReal => lit 0x3FB504F3#32 * u + gate (ix2 0 k) * v) (hX k) (hY k)
  have e1 : ∀ k k' : Fin 1024, k = k' → hat1 (streamRow Y' X' gate (y' 0)) k * g (ix2 0 k) + b (ix2 0 k) = hat1 (streamRow Y' X' gate (y' 0)) k' * g (ix2 0 k') + b (ix2 0 k') :=
    fun k k' e => by rw [e]
  unfold normedOf
  rw [e]
  exact e1 _ _ hk

theorem modulatedOf_of {M' : Nat} {Y' X' : Shape.Idx ⟨2, ![M', 1024]⟩ → EReal} {y : Shape.Idx ⟨2, ![M, 1024]⟩} {y' : Shape.Idx ⟨2, ![M', 1024]⟩}
    (hY : ∀ k : Fin 1024, Y (ix2 (y 0) k) = Y' (ix2 (y' 0) k)) (hX : ∀ k : Fin 1024, X (ix2 (y 0) k) = X' (ix2 (y' 0) k)) (hk : y 1 = y' 1) :
    modulatedOf Y X gate g b sc sh y = modulatedOf Y' X' gate g b sc sh y' := by
  have e1 : ∀ (n : EReal) (k k' : Fin 1024), k = k' → n * (lit 0x3F800000#32 + sc (ix2 0 k)) + sh (ix2 0 k) = n * (lit 0x3F800000#32 + sc (ix2 0 k')) + sh (ix2 0 k') :=
    fun n k k' e => by rw [e]
  unfold modulatedOf
  rw [normedOf_of gate g b hY hX hk]
  exact e1 _ _ _ hk
end

section
variable (h : (⟨2, ![256, 1024]⟩ : Shape).Reduces [1] ⟨1, ![256]⟩) (h' : (⟨1, ![256]⟩ : Shape).ShapeCasts ⟨2, ![256, 1]⟩)
  (hb : (⟨2, ![256, 1]⟩ : Shape).Broadcasts S256x1024) (hg : S1x1024.Broadcasts S256x1024) (ht : FTy.bits .bf16 < FTy.bits .f32)
variable (y x : Vec Ideal S256x1024 .f32) (gate g b sc sh : Vec Ideal S1x1024 .f32)

theorem normed_at (r : Fin 256) (k : Fin 1024) : (normed h h' hb hg y x gate g b (ix2 r k) : EReal) = normedOf y x gate g b (ix2 r k) := by
  have e : (fun k => (mixed (F := Ideal) hg y x (Scalar.ofBits .f32 0x3FB504F3#32) gate (ix2 r k) : EReal)) = streamRow y x gate r :=
    funext fun k => mixed_at hg y x _ gate r k
  have eh := (hat_at h h' hb (mixed (F := Ideal) hg y x (Scalar.ofBits .f32 0x3FB504F3#32) gate) r k).trans (congrArg (fun z => hat1 z k) e)
  show (hat h h' hb (mixed (F := Ideal) hg y x (Scalar.ofBits .f32 0x3FB504F3#32) gate) (ix2 r k) : EReal) * broadcastTo S256x1024 g hg (ix2 r k)
    + broadcastTo S256x1024 b hg (ix2 r k) = hat1 (streamRow y x gate r) k * g (ix2 0 k) + b (ix2 0 k)
  rw [eh, line_at hg g r k, line_at hg b r k]

theorem modulated_at (r : Fin 256) (k : Fin 1024) :
    (modulated hg ht (normed h h' hb hg y x gate g b) sc sh (ix2 r k) : EReal) = modulatedOf y x gate g b sc sh (ix2 r k) := by
  show (normed h h' hb hg y x gate g b (ix2 r k) : EReal) * broadcastTo S256x1024 (addf (broadcast S1x1024 (Scalar.ofBits (F := Ideal) .f32 0x3F800000#32)) sc) hg (ix2 r k)
    + broadcastTo S256x1024 sh hg (ix2 r k) = normedOf y x gate g b (ix2 r k) * (lit 0x3F800000#32 + sc (ix2 0 k)) + sh (ix2 0 k)
  rw [normed_at, line_at hg _ r k, line_at hg sh r k]
  rfl
end

/-! ## 256 of the 1024 rows of a block -/

section
variable (h : (⟨2, ![256, 1024]⟩ : Shape).Reduces [1] ⟨1, ![256]⟩) (h' : (⟨1, ![256]⟩ : Shape).ShapeCasts ⟨2, ![256, 1]⟩)
  (hb : (⟨2, ![256, 1]⟩ : Shape).Broadcasts S256x1024) (hg : S1x1024.Broadcasts S256x1024) (ht : FTy.bits .bf16 < FTy.bits .f32)
variable (o : Nat) (inb : ∀ a, (![o, 0] : Fin 2 → Nat) a + (![256, 1024] : Fin 2 → Nat) a ≤ S1024x1024.size a)
variable (Y : S1024x1024.Idx → EReal) (y : Vec Ideal S256x1024 .f32) (X : Vec Ideal S1024x1024 .f32) (gate g b sc sh : Vec Ideal S1x1024 .f32)

theorem row_at (Z : S1024x1024.Idx → EReal) (z : S256x1024.Idx → EReal) (hz : ∀ x, z x = Z ((Rect.unit (s := S1024x1024) ![o, 0] ![256, 1024] inb).emb x))
    (x : S256x1024.Idx) (k : Fin 1024) : z (ix2 (x 0) k) = Z (ix2 (((Rect.unit (s := S1024x1024) ![o, 0] ![256, 1024] inb).emb x) 0) k) :=
  (hz _).trans (congrArg Z (Tile.eq_ix2_of _ _ _
    ((Mm.box_row (M := 1024) (N := 1024) o inb (ix2 (x 0) k)).trans (Mm.box_row (M := 1024) (N := 1024) o inb x).symm)
    ((Mm.box_col (M := 1024) (N := 1024) o inb (ix2 (x 0) k)).trans (Nat.zero_add _))))

theorem piece_normed (hy : ∀ x, (y x : EReal) = Y ((Rect.unit (s := S1024x1024) ![o, 0] ![256, 1024] inb).emb x)) (x : S256x1024.Idx) :
    (normed h h' hb hg y (View.ld X (Rect.unit (s := S1024x1024) ![o, 0] ![256, 1024] inb)) gate g b x : EReal)
      = normedOf Y X gate g b ((Rect.unit (s := S1024x1024) ![o, 0] ![256, 1024] inb).emb x) := by
  rw [eq_ix2 x]
  refine (normed_at h h' hb hg y _ gate g b (x 0) (x 1)).trans ?_
  rw [← eq_ix2 x]
  exact normedOf_of gate g b (row_at o inb Y y hy x) (row_at o inb X _ (fun _ => rfl) x) (Mm.box_col' (M := 1024) (N := 1024) o inb x).symm

theorem piece_modulated (hy : ∀ x, (y x : EReal) = Y ((Rect.unit (s := S1024x1024) ![o, 0] ![256, 1024] inb).emb x)) (x : S256x1024.Idx) :
    (modulated hg ht (normed h h' hb hg y (View.ld X (Rect.unit (s := S1024x1024) ![o, 0] ![256, 1024] inb)) gate g b) sc sh x : EReal)
      = modulatedOf Y X gate g b sc sh ((Rect.unit (s := S1024x1024) ![o, 0] ![256, 1024] inb).emb x) := by
  rw [eq_ix2 x]
  refine (modulated_at h h' hb hg ht y _ gate g b sc sh (x 0) (x 1)).trans ?_
  rw [← eq_ix2 x]
  exact modulatedOf_of gate g b sc sh (row_at o inb Y y hy x) (row_at o inb X _ (fun _ => rfl) x) (Mm.box_col' (M := 1024) (N := 1024) o inb x).symm
end

/-! ## Blocks of 1024 of 4096 rows -/

abbrev S4096x1024 : Shape := ⟨2, ![4096, 1024]⟩

/-- A block of one row is the row. -/
theorem row_of (v u : S1x1024.Idx → EReal) (h : ∀ k : Fin 1024, v (ix2 0 k) = u (ix2 0 k)) : v = u :=
  funext fun y => by
    have e : y = ix2 (0 : Fin 1) (y 1) := Tile.eq_ix2_of y 0 (y 1) (by have h0 : (y 0).val < 1 := (y 0).isLt; show (y 0).val = 0; omega) rfl
    rw [e]
    exact h _

/-- Every index lies in a block of rows. -/
theorem in_block (i : S4096x1024.Idx) (f : Fin 2 → Nat) (h : f = ![(i 0).val / 1024, 0]) (a : Fin 2) :
    f a * S1024x1024.size a ≤ (i a).val ∧ (i a).val < f a * S1024x1024.size a + S1024x1024.size a := by
  have h0 : (i 0).val < 4096 := (i 0).isLt
  have h1 : (i 1).val < 1024 := (i 1).isLt
  subst h
  match a with
  | ⟨0, _⟩ =>
    show (i 0).val / 1024 * 1024 ≤ (i 0).val ∧ (i 0).val < (i 0).val / 1024 * 1024 + 1024
    omega
  | ⟨1, _⟩ =>
    show 0 * 1024 ≤ (i 1).val ∧ (i 1).val < 0 * 1024 + 1024
    omega

/-- Where an index of a block of rows lies in the array. -/
theorem place (n : Nat) (hn : n < 4) (f : Fin 2 → Nat) (h : f = ![n, 0]) (y : S1024x1024.Idx) (e : S4096x1024.Idx) (h0 : (e 0).val = f 0 * 1024 + 1 * (y 0).val)
    (h1 : (e 1).val = f 1 * 1024 + 1 * (y 1).val) : e = ix2 ⟨1024 * n + (y 0).val, by have : (y 0).val < 1024 := (y 0).isLt; omega⟩ (y 1) := by
  subst h
  refine Tile.eq_ix2_of _ _ _ (h0.trans ?_) (h1.trans ?_)
  · show n * 1024 + 1 * (y 0).val = 1024 * n + (y 0).val
    omega
  · show 0 * 1024 + 1 * (y 1).val = (y 1).val
    omega

/-- The product of a whole array. -/
def product (o : Shape.Idx ⟨2, ![4096, 1024]⟩ → EReal) (w : S1024x1024.Idx → EReal) (y : Shape.Idx ⟨2, ![4096, 1024]⟩) : EReal :=
  ∑ k : Fin 1024, o (ix2 (y 0) k) * w (ix2 k (y 1))

end Cert.OutNorm
-- ==== Proof.OutRef.lean ====
module

public import proofs.«01_k».proof.Proof.OutNorm
public import proofs.«01_k».proof.Proof.Gen.AOutRefIdeal.Read
public import proofs.«01_k».proof.Proof.Gen.BOutRefIdeal.Read

/-! # The output projection's reference, row by row

The product, the stream it is added to, the normalised rows and the modulated rows. The two calls have the same reference. -/

@[expose] public section
set_option maxRecDepth 16384
noncomputable section
namespace Cert.OutNorm
open Idealize.ShloMosaic hiding ix1 ix2 ix3 ix4 eq_ix2 eq_ix3
open Idealize.ShloMosaic.TcCoe ValueIdx
open Cert.AOutRefIdeal.Read Cert.NormRow
open Cert.Gate (lit mean1 cen1)

variable (o x : Cert.AOutRefIdeal.S4096x1024.Idx → EReal) (w : Cert.AOutRefIdeal.S1024x1024.Idx → EReal) (gate g b sc sh : Cert.AOutRefIdeal.S1x1024.Idx → EReal)

theorem ref_product : (val_main_v0 (F := Ideal) o w : Cert.AOutRefIdeal.S4096x1024.Idx → EReal) = product o w :=
  funext fun y => (val_main_v0_apply o w y).trans (Finset.sum_congr rfl fun _ _ =>
    congrArg₂ (fun a b : EReal => a * b) (congrArg o (Tile.eq_ix2_of _ _ _ rfl rfl)) (congrArg w (Tile.eq_ix2_of _ _ _ rfl rfl)))

theorem ref_stream (r : Fin 4096) (k : Fin 1024) : (val_main_v5 (F := Ideal) o w x gate (ix2 r k) : EReal) = streamRow (product o w) x gate r k := by
  rw [val_main_v5_apply, val_main_v2_apply, val_main_v4_apply, val_main_v3_apply, val_main_v1_apply (F := Ideal)]
  exact congrArg₂ (fun u v : EReal => lit 0x3FB504F3#32 * x (ix2 r k) + u * v) (congrArg gate (Tile.eq_ix2_of _ _ _ rfl rfl)) (congrFun (ref_product o w) _)

theorem ref_mean (i : Cert.AOutRefIdeal.S4096x1.Idx) : (val_main_v9 (F := Ideal) o w x gate i : EReal) = mean1 (streamRow (product o w) x gate (i 0)) := by
  rw [val_main_v9_apply, val_main_v7_apply, val_main_v6_apply]
  refine congrArg (fun v => Ideal.div v (lit 0x44800000#32)) ?_
  refine (congrArg (· + _) Ideal.ofBits_zero_f32).trans ((zero_add _).trans (Finset.sum_congr rfl fun k _ => ?_))
  exact (congrArg (val_main_v5 (F := Ideal) o w x gate) (Tile.eq_ix2_of _ (i 0) k rfl rfl)).trans (ref_stream o x w gate _ _)

theorem ref_cen (r : Fin 4096) (k : Fin 1024) : (val_main_v11 (F := Ideal) o w x gate (ix2 r k) : EReal) = cen1 (streamRow (product o w) x gate r) k := by
  rw [val_main_v11_apply, val_main_v10_apply]
  exact congrArg₂ (fun a b : EReal => a - b) (ref_stream o x w gate r k) (ref_mean o x w gate _)
theorem ref_cen' (r : Fin 4096) (k : Fin 1024) : (val_main_v18 (F := Ideal) o w x gate (ix2 r k) : EReal) = cen1 (streamRow (product o w) x gate r) k := by
  rw [val_main_v18_apply, val_main_v17_apply]
  exact congrArg₂ (fun a b : EReal => a - b) (ref_stream o x w gate r k) (ref_mean o x w gate _)

theorem ref_root (i : Cert.AOutRefIdeal.S4096x1.Idx) : (val_main_v21 (F := Ideal) o w x gate i : EReal) = root1 (streamRow (product o w) x gate (i 0)) := by
  rw [val_main_v21_apply, val_main_v20_apply, val_main_v16_apply, val_main_v14_apply, val_main_v13_apply]
  refine congrArg (fun v : EReal => Ideal.rsqrt (Ideal.div v (lit 0x44800000#32) + lit 0x3727C5AC#32)) ?_
  refine (congrArg (· + _) Ideal.ofBits_zero_f32).trans ((zero_add _).trans (Finset.sum_congr rfl fun k _ => ?_))
  have e : (val_main_v12 (F := Ideal) o w x gate (ix2 (i 0) k) : EReal) = _ := congrArg (fun v : EReal => v * v) (ref_cen o x w gate (i 0) k)
  exact (congrArg (val_main_v12 (F := Ideal) o w x gate) (Tile.eq_ix2_of _ (i 0) k rfl rfl)).trans e

theorem ref_normed : (val_main_v27 (F := Ideal) o w x gate g b : Cert.AOutRefIdeal.S4096x1024.Idx → EReal) = normedOf (product o w) x gate g b := by
  have e : ∀ (r : Fin 4096) (k : Fin 1024), (val_main_v27 (F := Ideal) o w x gate g b (ix2 r k) : EReal) = normedOf (product o w) x gate g b (ix2 r k) := by
    intro r k
    rw [val_main_v27_apply, val_main_v25_apply, val_main_v23_apply, val_main_v22_apply, val_main_v24_apply, val_main_v26_apply]
    have eh := congrArg₂ (fun u v : EReal => u * v) (ref_cen' o x w gate r k) (ref_root o x w gate (idx_main_v22 (ix2 r k)))
    exact congrArg₂ (fun u v : EReal => u + v) (congrArg₂ (fun u v : EReal => u * v) eh (congrArg g (Tile.eq_ix2_of _ _ _ rfl rfl))) (congrArg b (Tile.eq_ix2_of _ _ _ rfl rfl))
  funext y
  rw [eq_ix2 y]
  exact e _ _

theorem ref_modulated : (val_main_v34 (F := Ideal) o w x gate g b sc sh : Cert.AOutRefIdeal.S4096x1024.Idx → EReal)
    = modulatedOf (product o w) x gate g b sc sh := by
  funext y
  rw [val_main_v34_apply, val_main_v33_apply, val_main_v31_apply, val_main_v30_apply, val_main_v29_apply, val_main_v28_apply (F := Ideal), val_main_v32_apply]
  exact congrArg₂ (fun u v : EReal => u + v) (congrArg₂ (fun u v : EReal => u * (lit 0x3F800000#32 + v)) (congrFun (ref_normed o x w gate g b) y)
    (congrArg sc (Tile.eq_ix2_of _ _ _ rfl rfl))) (congrArg sh (Tile.eq_ix2_of _ _ _ rfl rfl))

theorem same0 : Cert.BOutRefIdeal.Read.val_main_v0 (F := Ideal) o w = val_main_v0 (F := Ideal) o w := rfl
theorem same27 : Cert.BOutRefIdeal.Read.val_main_v27 (F := Ideal) o w x gate g b = val_main_v27 (F := Ideal) o w x gate g b := rfl
theorem same34 : Cert.BOutRefIdeal.Read.val_main_v34 (F := Ideal) o w x gate g b sc sh = val_main_v34 (F := Ideal) o w x gate g b sc sh := rfl

end Cert.OutNorm
-- ==== Proof.AOut.lean ====
module

public import proofs.«01_k».proof.Defs
public import proofs.«01_k».proof.Proof.Gen.AOutIdeal.Value
public import proofs.«01_k».proof.Proof.Gen.AOutRefIdeal.Run
public import Idealize.ShloMosaic.Lib.StableHlo.ReadAt
public import Idealize.ShloMosaic.Adequacy
public import Idealize.ShloMosaic.Init
public import Idealize.ShloMosaic.Lib.Quiescent
public import proofs.«01_k».proof.Proof.OutRef

/-! # The output projection of the gating layer, with its normalisation

A grid point multiplies 1024 rows with the weight, 256 at a time, and finishes each of them: residual sum, normalisation, modulation. -/

@[expose] public section
set_option maxRecDepth 16384
noncomputable section
namespace Cert.AOutIdeal.Value
open Idealize.ShloMosaic hiding ix1 ix2 ix3 ix4 eq_ix2 eq_ix3
open Idealize.ShloMosaic.TcCoe Idealize.SL.Sem ValueIdx
open Idealize.ShloMosaic.Pipeline (Dat)
open Cert.OutNorm (normed modulated normedOf modulatedOf product row_of in_block place)
variable (m : (ℓ : Loc nD τ sig) → Buf (Elt Ideal) ℓ) (c : Dev nD) (t : Fin cfg0.N)

attribute [local irreducible] Gen.iblk

theorem N4 : cfg0.N = 4 := by decide +kernel

/-! ## What a grid point stores -/

section
open Cert.AOutIdeal.Gen
variable (a : Vec Ideal S256x1024 .bf16) (w : Vec Ideal S1x1024x1024 .bf16) (x : Vec Ideal S256x1024 .f32) (gate g b sc sh : Vec Ideal S1x1024 .f32)

/-- A quarter's normalised rows, from its product. -/
def rowsOf (y : Vec Ideal S256x1024 .f32) : FVec Ideal S256x1024 .f32 :=
  normed reduces_S256x1024_S256 shapeCasts_S256_S256x1 broadcasts_S256x1_S256x1024 broadcasts_S1x1024_S256x1024 y x gate g b
/-- A quarter's modulated rows. -/
def rowsMod (y : Vec Ideal S256x1024 .f32) : FVec Ideal S256x1024 .bf16 := modulated broadcasts_S1x1024_S256x1024 bitsLt_bf16_f32 (rowsOf x gate g b y) sc sh

theorem n0 : k0_pay6 b (k0_pay4 a w x gate) (k0_pay5 g) = rowsOf x gate g b (k0_pay3 a w) := rfl
theorem n1 : k0_pay11 g b (k0_pay9 a w x gate) (k0_pay10 a w x gate) = rowsOf x gate g b (k0_pay3 a w) := rfl
theorem n2 : k0_pay14 (k0_pay13 a w) x gate g b = rowsOf x gate g b (k0_pay3 a w) := rfl
theorem n3 : k0_pay1 b (k0_pay17 a w x gate) (k0_pay18 g) = rowsOf x gate g b (k0_pay3 a w) := rfl
theorem m0 : k0_pay7 b sc sh (k0_pay4 a w x gate) (k0_pay5 g) = rowsMod x gate g b sc sh (k0_pay3 a w) := rfl
theorem m1 : k0_pay12 g b sc sh (k0_pay9 a w x gate) (k0_pay10 a w x gate) = rowsMod x gate g b sc sh (k0_pay3 a w) := rfl
theorem m2 : k0_pay15 (k0_pay13 a w) x gate g b sc sh = rowsMod x gate g b sc sh (k0_pay3 a w) := rfl
theorem m3 : k0_pay2 b sc sh (k0_pay17 a w x gate) (k0_pay18 g) = rowsMod x gate g b sc sh (k0_pay3 a w) := rfl
end

section
variable (A : Vec Ideal S1024x1024 .bf16) (B : Vec Ideal S1x1024x1024 .bf16) (X : Vec Ideal S1024x1024 .f32) (gate g b sc sh : Vec Ideal S1x1024 .f32)

/-- The point's product. -/
def prod : S1024x1024.Idx → EReal := Mm.nn (K := 1024) (M := 1024) (N := 1024) A B

theorem piece (o : Nat) (inb : ∀ a, (![o, 0] : Fin 2 → Nat) a + S256x1024.size a ≤ S1024x1024.size a) (x : S256x1024.Idx) :
    (Gen.k0_pay3 (View.ld A (Rect.unit (s := S1024x1024) ![o, 0] S256x1024.size inb)) B x : EReal)
      = prod A B ((Rect.unit (s := S1024x1024) ![o, 0] S256x1024.size inb).emb x) := by
  simp only [Gen.k0_pay3, shapeCast_self]
  exact Mm.piece_nn _ _ _ _ _ _ _ x

theorem whole_row (v : Vec Ideal S1x1024 .f32) : View.ld v Gen.r0_2 = v :=
  View.ld_unit_zero (funext fun a => match a with | ⟨0, _⟩ => rfl | ⟨1, _⟩ => rfl) _ _
theorem whole_slab : View.ld B Gen.r0_1 = B :=
  View.ld_unit_zero (funext fun a => match a with | ⟨0, _⟩ => rfl | ⟨1, _⟩ => rfl | ⟨2, _⟩ => rfl) _ _

theorem out8 (y : S1024x1024.Idx) : (Gen.out0_8 A B X gate g b sc sh y : EReal) = prod A B y := by
  unfold Gen.out0_8 Gen.k0_pay23
  rw [whole_slab]
  refine Tile.canon_all (Val := Elt Ideal) (s := S1024x1024) (e := .f32) (prod A B) _ ?_ ?_ y
  · refine Tile.pieces_cons _ _ _ (fun x => piece A B _ _ x) ?_
    refine Tile.pieces_cons _ _ _ (fun x => piece A B _ _ x) ?_
    refine Tile.pieces_cons _ _ _ (fun x => piece A B _ _ x) ?_
    exact Tile.pieces_cons _ _ _ (fun x => piece A B _ _ x) (Tile.pieces_nil _)
  · exact View.cover_of_tiledBy _ ![256, 1024] (by sl_kernel_rfl)

theorem piece9 (o : Nat) (inb : ∀ a, (![o, 0] : Fin 2 → Nat) a + S256x1024.size a ≤ S1024x1024.size a) (x : S256x1024.Idx) :
    (rowsOf (View.ld X (Rect.unit (s := S1024x1024) ![o, 0] S256x1024.size inb)) gate g b
      (Gen.k0_pay3 (View.ld A (Rect.unit (s := S1024x1024) ![o, 0] S256x1024.size inb)) B) x : EReal)
      = normedOf (prod A B) X gate g b ((Rect.unit (s := S1024x1024) ![o, 0] S256x1024.size inb).emb x) :=
  OutNorm.piece_normed _ _ _ _ o inb (prod A B) _ X gate g b (piece A B o inb) x

theorem piece10 (o : Nat) (inb : ∀ a, (![o, 0] : Fin 2 → Nat) a + S256x1024.size a ≤ S1024x1024.size a) (x : S256x1024.Idx) :
    (rowsMod (View.ld X (Rect.unit (s := S1024x1024) ![o, 0] S256x1024.size inb)) gate g b sc sh
      (Gen.k0_pay3 (View.ld A (Rect.unit (s := S1024x1024) ![o, 0] S256x1024.size inb)) B) x : EReal)
      = modulatedOf (prod A B) X gate g b sc sh ((Rect.unit (s := S1024x1024) ![o, 0] S256x1024.size inb).emb x) :=
  OutNorm.piece_modulated _ _ _ _ _ o inb (prod A B) _ X gate g b sc sh (piece A B o inb) x

theorem out9 (y : S1024x1024.Idx) : (Gen.out0_9 A B X gate g b sc sh y : EReal) = normedOf (prod A B) X gate g b y := by
  unfold Gen.out0_9 Gen.k0_pay19 Gen.k0_pay20 Gen.k0_pay21 Gen.k0_pay22 Gen.k0_pay23 Gen.k0_pay24 Gen.k0_pay25
  simp only [whole_slab, whole_row, n0, n1, n2, n3]
  refine Tile.canon_all (Val := Elt Ideal) (s := S1024x1024) (e := .f32) (normedOf (prod A B) X gate g b) _ ?_ ?_ y
  · refine Tile.pieces_cons _ _ _ (fun x => piece9 A B X gate g b _ _ x) ?_
    refine Tile.pieces_cons _ _ _ (fun x => piece9 A B X gate g b _ _ x) ?_
    refine Tile.pieces_cons _ _ _ (fun x => piece9 A B X gate g b _ _ x) ?_
    exact Tile.pieces_cons _ _ _ (fun x => piece9 A B X gate g b _ _ x) (Tile.pieces_nil _)
  · exact View.cover_of_tiledBy _ ![256, 1024] (by sl_kernel_rfl)

theorem out10 (y : S1024x1024.Idx) : (Gen.out0_10 A B X gate g b sc sh y : EReal) = modulatedOf (prod A B) X gate g b sc sh y := by
  unfold Gen.out0_10 Gen.k0_pay19 Gen.k0_pay20 Gen.k0_pay21 Gen.k0_pay22 Gen.k0_pay23 Gen.k0_pay24 Gen.k0_pay25
  simp only [whole_slab, whole_row, m0, m1, m2, m3]
  refine Tile.canon_all (Val := Elt Ideal) (s := S1024x1024) (e := .bf16) (modulatedOf (prod A B) X gate g b sc sh) _ ?_ ?_ y
  · refine Tile.pieces_cons _ _ _ (fun x => piece10 A B X gate g b sc sh _ _ x) ?_
    refine Tile.pieces_cons _ _ _ (fun x => piece10 A B X gate g b sc sh _ _ x) ?_
    refine Tile.pieces_cons _ _ _ (fun x => piece10 A B X gate g b sc sh _ _ x) ?_
    exact Tile.pieces_cons _ _ _ (fun x => piece10 A B X gate g b sc sh _ _ x) (Tile.pieces_nil _)
  · exact View.cover_of_tiledBy _ ![256, 1024] (by sl_kernel_rfl)
end

/-! ## What a grid point reads -/

/-- The layer's rows and the weight as one slab, as the call is given them. -/
def arrO : S4096x1024.Idx → EReal := Gen.V m c main_v0
def arrW : S1x1024x1024.Idx → EReal := Gen.V m c main_v2

theorem idx_in : ∀ t : Fin cfg0.N, win0_0.index t = ![t.val, 0] ∧ win0_1.index t = ![0, 0, 0] ∧ win0_2.index t = ![t.val, 0] ∧ win0_3.index t = ![0, 0]
    ∧ win0_4.index t = ![0, 0] ∧ win0_5.index t = ![0, 0] ∧ win0_6.index t = ![0, 0] ∧ win0_7.index t = ![0, 0] := by
  decide +kernel

theorem iblk0 (r k : Fin 1024) : (Gen.iblk m c 0 t (ix2 r k) : EReal)
    = arrO m c (ix2 ⟨1024 * t.val + r.val, by have := Nat.lt_of_lt_of_eq t.isLt N4; omega⟩ k) := by
  blk_ext [Gen.iblk, arrO, (idx_in t).1]
  exact congrArg (· + r.val) (Nat.mul_comm _ _)
theorem iblk1 (k r : Fin 1024) : (Gen.iblk m c 1 t (ix3 0 k r) : EReal) = arrW m c (ix3 0 k r) := by
  blk_ext [Gen.iblk, arrW, (idx_in t).2.1]
theorem iblk2 (r k : Fin 1024) : (Gen.iblk m c 2 t (ix2 r k) : EReal)
    = m ((c : Thread nD τ).loc main_arg2) (ix2 ⟨1024 * t.val + r.val, by have := Nat.lt_of_lt_of_eq t.isLt N4; omega⟩ k) := by
  rw [← Gen.V_main_arg2 m c]
  blk_ext [Gen.iblk, (idx_in t).2.2.1]
  exact congrArg (· + r.val) (Nat.mul_comm _ _)

theorem iblk3 : (Gen.iblk m c 3 t : S1x1024.Idx → EReal) = m ((c : Thread nD τ).loc main_arg3) := row_of _ _ fun k => by
  rw [← Gen.V_main_arg3 m c]
  blk_ext [Gen.iblk, (idx_in t).2.2.2.1]
theorem iblk4 : (Gen.iblk m c 4 t : S1x1024.Idx → EReal) = m ((c : Thread nD τ).loc main_arg4) := row_of _ _ fun k => by
  rw [← Gen.V_main_arg4 m c]
  blk_ext [Gen.iblk, (idx_in t).2.2.2.2.1]
theorem iblk5 : (Gen.iblk m c 5 t : S1x1024.Idx → EReal) = m ((c : Thread nD τ).loc main_arg5) := row_of _ _ fun k => by
  rw [← Gen.V_main_arg5 m c]
  blk_ext [Gen.iblk, (idx_in t).2.2.2.2.2.1]
theorem iblk6 : (Gen.iblk m c 6 t : S1x1024.Idx → EReal) = m ((c : Thread nD τ).loc main_arg6) := row_of _ _ fun k => by
  rw [← Gen.V_main_arg6 m c]
  blk_ext [Gen.iblk, (idx_in t).2.2.2.2.2.2.1]
theorem iblk7 : (Gen.iblk m c 7 t : S1x1024.Idx → EReal) = m ((c : Thread nD τ).loc main_arg7) := row_of _ _ fun k => by
  rw [← Gen.V_main_arg7 m c]
  blk_ext [Gen.iblk, (idx_in t).2.2.2.2.2.2.2]

theorem arrO_eq : arrO m c = m ((c : Thread nD τ).loc main_arg0) := by
  unfold arrO Gen.V
  after_reads_simp
  rfl
/-- The slab is the weight. -/
theorem arrW_at (r k : Fin 1024) : arrW m c (ix3 0 r k) = m ((c : Thread nD τ).loc main_arg1) (ix2 r k) := by
  unfold arrW Gen.V
  after_reads_simp
  exact congrArg (m ((c : Thread nD τ).loc main_arg1)) (Tile.eq_ix2_of _ _ _ rfl rfl)

/-- The whole product. -/
def prodArg : S4096x1024.Idx → EReal := product (m ((c : Thread nD τ).loc main_arg0)) (m ((c : Thread nD τ).loc main_arg1))
/-- Row `r` of the block of point `t`. -/
abbrev row (r : Fin 1024) : Fin 4096 := ⟨1024 * t.val + r.val, by have := Nat.lt_of_lt_of_eq t.isLt N4; omega⟩

theorem prod_at (r k : Fin 1024) : prod (Gen.iblk m c 0 t) (Gen.iblk m c 1 t) (ix2 r k) = prodArg m c (ix2 (row t r) k) := by
  unfold prod prodArg Mm.nn product
  exact Finset.sum_congr rfl fun j _ => congrArg₂ (fun a b : EReal => a * b) ((iblk0 m c t r j).trans (congrFun (arrO_eq m c) _))
    ((iblk1 m c t j k).trans (arrW_at m c j k))

/-! ## The three results -/

theorem idx_out : ∀ t : Fin cfg0.N, win0_8.index t = ![t.val, 0] ∧ win0_9.index t = ![t.val, 0] ∧ win0_10.index t = ![t.val, 0] := by
  decide +kernel
theorem flush8 : ∀ t : Fin cfg0.N, (cfg0.win 8).flush t = true := by decide +kernel
theorem flush9 : ∀ t : Fin cfg0.N, (cfg0.win 9).flush t = true := by decide +kernel
theorem flush10 : ∀ t : Fin cfg0.N, (cfg0.win 10).flush t = true := by decide +kernel

/-- The point that stores an index. -/
def pt (i : S4096x1024.Idx) : Fin cfg0.N := ⟨(i 0).val / 1024, by have h0 : (i 0).val < 4096 := (i 0).isLt; rw [N4]; omega⟩

theorem covered8 (i : S4096x1024.Idx) : ∃ t : Fin cfg0.N, (cfg0.win 8).flush t = true ∧ i ∈ ((cfg0.win 8).blk t).view.set := by
  refine ⟨pt i, flush8 _, ?_⟩
  show i ∈ ((View.whole main_v3_0).slice (win0_8.rect (pt i))).set
  rw [View.set_slice_whole, Rect.mem_set_unit]
  exact in_block i _ (idx_out (pt i)).1
theorem covered9 (i : S4096x1024.Idx) : ∃ t : Fin cfg0.N, (cfg0.win 9).flush t = true ∧ i ∈ ((cfg0.win 9).blk t).view.set := by
  refine ⟨pt i, flush9 _, ?_⟩
  show i ∈ ((View.whole main_v3_1).slice (win0_9.rect (pt i))).set
  rw [View.set_slice_whole, Rect.mem_set_unit]
  exact in_block i _ (idx_out (pt i)).2.1
theorem covered10 (i : S4096x1024.Idx) : ∃ t : Fin cfg0.N, (cfg0.win 10).flush t = true ∧ i ∈ ((cfg0.win 10).blk t).view.set := by
  refine ⟨pt i, flush10 _, ?_⟩
  show i ∈ ((View.whole main_v3_2).slice (win0_10.rect (pt i))).set
  rw [View.set_slice_whole, Rect.mem_set_unit]
  exact in_block i _ (idx_out (pt i)).2.2

theorem result8 : ((Gen.dats m 0 c).arrAt 8 cfg0.N : S4096x1024.Idx → EReal) = prodArg m c := by
  refine (Gen.dats m 0 c).arrAt_eq_of_cover 8 _ (fun t _ => ?_) covered8
  rw [flushed8]
  funext y
  refine (out8 _ _ _ _ _ _ _ _ ((cfg0.win 8).xinj (grid0.coords t) y)).trans ?_
  refine Eq.trans ?_ (congrArg (prodArg m c) (place t.val (Nat.lt_of_lt_of_eq t.isLt N4) _ (idx_out t).1 ((cfg0.win 8).xinj (grid0.coords t) y) (((cfg0.win 8).blk t).view.emb y) rfl rfl)).symm
  exact (congrArg _ (Tile.eq_ix2_of _ _ _ rfl rfl)).trans (prod_at m c t _ _)

theorem result9 : ((Gen.dats m 0 c).arrAt 9 cfg0.N : S4096x1024.Idx → EReal)
    = normedOf (prodArg m c) (m ((c : Thread nD τ).loc main_arg2)) (m ((c : Thread nD τ).loc main_arg3)) (m ((c : Thread nD τ).loc main_arg4))
      (m ((c : Thread nD τ).loc main_arg5)) := by
  refine (Gen.dats m 0 c).arrAt_eq_of_cover 9 _ (fun t _ => ?_) covered9
  rw [flushed9]
  funext y
  refine (out9 _ _ _ _ _ _ _ _ ((cfg0.win 9).xinj (grid0.coords t) y)).trans ?_
  rw [iblk3, iblk4, iblk5]
  refine Eq.trans ?_ (congrArg (normedOf _ _ _ _ _) (place t.val (Nat.lt_of_lt_of_eq t.isLt N4) _ (idx_out t).2.1 ((cfg0.win 9).xinj (grid0.coords t) y) (((cfg0.win 9).blk t).view.emb y) rfl rfl)).symm
  exact OutNorm.normedOf_of _ _ _ (fun k => prod_at m c t _ k) (fun k => iblk2 m c t _ k) rfl

theorem result10 : ((Gen.dats m 0 c).arrAt 10 cfg0.N : S4096x1024.Idx → EReal)
    = modulatedOf (prodArg m c) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (Gen.dats m 0 c).arrAt_eq_of_cover 10 _ (fun t _ => ?_) covered10
  rw [flushed10]
  funext y
  refine (out10 _ _ _ _ _ _ _ _ ((cfg0.win 10).xinj (grid0.coords t) y)).trans ?_
  rw [iblk3, iblk4, iblk5, iblk6, iblk7]
  refine Eq.trans ?_ (congrArg (modulatedOf _ _ _ _ _ _ _) (place t.val (Nat.lt_of_lt_of_eq t.isLt N4) _ (idx_out t).2.2 ((cfg0.win 10).xinj (grid0.coords t) y) (((cfg0.win 10).blk t).view.emb y) rfl rfl)).symm
  exact OutNorm.modulatedOf_of _ _ _ _ _ (fun k => prod_at m c t _ k) (fun k => iblk2 m c t _ k) rfl

end Cert.AOutIdeal.Value

namespace Cert.Proof
open Idealize.ShloMosaic Idealize.SL.Sem Idealize.ShloMosaic.StableHlo

theorem frame_AOutRef : quiescent_AOutRefIdeal := fun m ρ _ =>
  (θ_run Cert.AOutRefIdeal.defs _ _).mono (fun r h => ⟨fun c => (h c).2.2.2, sem_eq_zero_of_no_sems (by decide) r.2⟩)
    (Cert.AOutRefIdeal.Value.run (F := Ideal) m ρ)

theorem algebraic_AOut : algebraic_AOutIdeal_AOutRefIdeal := by
  intro m ρ m' ρ' _ hagree
  refine ⟨_, _, _, Cert.AOutIdeal.Value.run_blocks (F := Ideal) m ρ, ?_⟩
  refine (θ_run Cert.AOutRefIdeal.defs _ _).mono (fun _ h c => ⟨?_, ?_, ?_, (h c).2.2.2⟩) (Cert.AOutRefIdeal.Value.run (F := Ideal) m' ρ')
  all_goals obtain ⟨e0, e1, e2, e3, e4, e5, e6, e7⟩ := hagree c
  · refine ((h c).1.trans (Cert.AOutRefIdeal.Read.val_main_v0_eq (F := Ideal) _ _)).trans ?_
    rw [e0, e1]
    exact (OutNorm.ref_product _ _).trans (Cert.AOutIdeal.Value.result8 m c).symm
  · refine ((h c).2.1.trans (Cert.AOutRefIdeal.Read.val_main_v27_eq (F := Ideal) _ _ _ _ _ _)).trans ?_
    rw [e0, e1, e2, e3, e4, e5]
    exact (OutNorm.ref_normed _ _ _ _ _ _).trans (Cert.AOutIdeal.Value.result9 m c).symm
  · refine ((h c).2.2.1.trans (Cert.AOutRefIdeal.Read.val_main_v34_eq (F := Ideal) _ _)).trans ?_
    rw [e0, e1, e2, e3, e4, e5, e6, e7]
    exact (OutNorm.ref_modulated _ _ _ _ _ _ _ _).trans (Cert.AOutIdeal.Value.result10 m c).symm

end Cert.Proof
-- ==== Proof.BOut.lean ====
module

public import proofs.«01_k».proof.Defs
public import proofs.«01_k».proof.Proof.Gen.BOutIdeal.Value
public import proofs.«01_k».proof.Proof.Gen.BOutRefIdeal.Run
public import Idealize.ShloMosaic.Lib.StableHlo.ReadAt
public import Idealize.ShloMosaic.Adequacy
public import Idealize.ShloMosaic.Init
public import Idealize.ShloMosaic.Lib.Quiescent
public import proofs.«01_k».proof.Proof.OutRef

/-! # The output projection of the attention layer, with its normalisation

A grid point multiplies 1024 rows with the weight, 256 at a time, casting them first, and finishes each of them: residual sum, normalisation, modulation. -/

@[expose] public section
set_option maxRecDepth 16384
noncomputable section
namespace Cert.BOutIdeal.Value
open Idealize.ShloMosaic hiding ix1 ix2 ix3 ix4 eq_ix2 eq_ix3
open Idealize.ShloMosaic.TcCoe Idealize.SL.Sem ValueIdx
open Idealize.ShloMosaic.Pipeline (Dat)
open Cert.OutNorm (normed modulated normedOf modulatedOf product row_of in_block place)
variable (m : (ℓ : Loc nD τ sig) → Buf (Elt Ideal) ℓ) (c : Dev nD) (t : Fin cfg0.N)

attribute [local irreducible] Gen.iblk

theorem N4 : cfg0.N = 4 := by decide +kernel

/-! ## What a grid point stores -/

section
open Cert.BOutIdeal.Gen
variable (a : Vec Ideal S256x1024 .f32) (w : Vec Ideal S1x1024x1024 .bf16) (x : Vec Ideal S256x1024 .f32) (gate g b sc sh : Vec Ideal S1x1024 .f32)

/-- A quarter's normalised rows, from its product. -/
def rowsOf (y : Vec Ideal S256x1024 .f32) : FVec Ideal S256x1024 .f32 :=
  normed reduces_S256x1024_S256 shapeCasts_S256_S256x1 broadcasts_S256x1_S256x1024 broadcasts_S1x1024_S256x1024 y x gate g b
/-- A quarter's modulated rows. -/
def rowsMod (y : Vec Ideal S256x1024 .f32) : FVec Ideal S256x1024 .bf16 := modulated broadcasts_S1x1024_S256x1024 bitsLt_bf16_f32 (rowsOf x gate g b y) sc sh

theorem n0 : k0_pay6 b (k0_pay4 a w x gate) (k0_pay5 g) = rowsOf x gate g b (k0_pay3 a w) := rfl
theorem n1 : k0_pay11 g b (k0_pay9 a w x gate) (k0_pay10 a w x gate) = rowsOf x gate g b (k0_pay3 a w) := rfl
theorem n2 : k0_pay14 (k0_pay13 a w) x gate g b = rowsOf x gate g b (k0_pay3 a w) := rfl
theorem n3 : k0_pay1 b (k0_pay17 a w x gate) (k0_pay18 g) = rowsOf x gate g b (k0_pay3 a w) := rfl
theorem m0 : k0_pay7 b sc sh (k0_pay4 a w x gate) (k0_pay5 g) = rowsMod x gate g b sc sh (k0_pay3 a w) := rfl
theorem m1 : k0_pay12 g b sc sh (k0_pay9 a w x gate) (k0_pay10 a w x gate) = rowsMod x gate g b sc sh (k0_pay3 a w) := rfl
theorem m2 : k0_pay15 (k0_pay13 a w) x gate g b sc sh = rowsMod x gate g b sc sh (k0_pay3 a w) := rfl
theorem m3 : k0_pay2 b sc sh (k0_pay17 a w x gate) (k0_pay18 g) = rowsMod x gate g b sc sh (k0_pay3 a w) := rfl
end

section
variable (A : Vec Ideal S1024x1024 .f32) (B : Vec Ideal S1x1024x1024 .bf16) (X : Vec Ideal S1024x1024 .f32) (gate g b sc sh : Vec Ideal S1x1024 .f32)

/-- The point's product. -/
def prod : S1024x1024.Idx → EReal := Mm.nn (K := 1024) (M := 1024) (N := 1024) A B

theorem piece (o : Nat) (inb : ∀ a, (![o, 0] : Fin 2 → Nat) a + S256x1024.size a ≤ S1024x1024.size a) (x : S256x1024.Idx) :
    (Gen.k0_pay3 (View.ld A (Rect.unit (s := S1024x1024) ![o, 0] S256x1024.size inb)) B x : EReal)
      = prod A B ((Rect.unit (s := S1024x1024) ![o, 0] S256x1024.size inb).emb x) := by
  simp only [Gen.k0_pay3, shapeCast_self]
  exact Mm.piece_nn _ _ _ _ _ _ _ x

theorem whole_row (v : Vec Ideal S1x1024 .f32) : View.ld v Gen.r0_2 = v :=
  View.ld_unit_zero (funext fun a => match a with | ⟨0, _⟩ => rfl | ⟨1, _⟩ => rfl) _ _
theorem whole_slab : View.ld B Gen.r0_1 = B :=
  View.ld_unit_zero (funext fun a => match a with | ⟨0, _⟩ => rfl | ⟨1, _⟩ => rfl | ⟨2, _⟩ => rfl) _ _

theorem out8 (y : S1024x1024.Idx) : (Gen.out0_8 A B X gate g b sc sh y : EReal) = prod A B y := by
  unfold Gen.out0_8 Gen.k0_pay23
  rw [whole_slab]
  refine Tile.canon_all (Val := Elt Ideal) (s := S1024x1024) (e := .f32) (prod A B) _ ?_ ?_ y
  · refine Tile.pieces_cons _ _ _ (fun x => piece A B _ _ x) ?_
    refine Tile.pieces_cons _ _ _ (fun x => piece A B _ _ x) ?_
    refine Tile.pieces_cons _ _ _ (fun x => piece A B _ _ x) ?_
    exact Tile.pieces_cons _ _ _ (fun x => piece A B _ _ x) (Tile.pieces_nil _)
  · exact View.cover_of_tiledBy _ ![256, 1024] (by sl_kernel_rfl)

theorem piece9 (o : Nat) (inb : ∀ a, (![o, 0] : Fin 2 → Nat) a + S256x1024.size a ≤ S1024x1024.size a) (x : S256x1024.Idx) :
    (rowsOf (View.ld X (Rect.unit (s := S1024x1024) ![o, 0] S256x1024.size inb)) gate g b
      (Gen.k0_pay3 (View.ld A (Rect.unit (s := S1024x1024) ![o, 0] S256x1024.size inb)) B) x : EReal)
      = normedOf (prod A B) X gate g b ((Rect.unit (s := S1024x1024) ![o, 0] S256x1024.size inb).emb x) :=
  OutNorm.piece_normed _ _ _ _ o inb (prod A B) _ X gate g b (piece A B o inb) x

theorem piece10 (o : Nat) (inb : ∀ a, (![o, 0] : Fin 2 → Nat) a + S256x1024.size a ≤ S1024x1024.size a) (x : S256x1024.Idx) :
    (rowsMod (View.ld X (Rect.unit (s := S1024x1024) ![o, 0] S256x1024.size inb)) gate g b sc sh
      (Gen.k0_pay3 (View.ld A (Rect.unit (s := S1024x1024) ![o, 0] S256x1024.size inb)) B) x : EReal)
      = modulatedOf (prod A B) X gate g b sc sh ((Rect.unit (s := S1024x1024) ![o, 0] S256x1024.size inb).emb x) :=
  OutNorm.piece_modulated _ _ _ _ _ o inb (prod A B) _ X gate g b sc sh (piece A B o inb) x

theorem out9 (y : S1024x1024.Idx) : (Gen.out0_9 A B X gate g b sc sh y : EReal) = normedOf (prod A B) X gate g b y := by
  unfold Gen.out0_9 Gen.k0_pay19 Gen.k0_pay20 Gen.k0_pay21 Gen.k0_pay22 Gen.k0_pay23 Gen.k0_pay24 Gen.k0_pay25
  simp only [whole_slab, whole_row, n0, n1, n2, n3]
  refine Tile.canon_all (Val := Elt Ideal) (s := S1024x1024) (e := .f32) (normedOf (prod A B) X gate g b) _ ?_ ?_ y
  · refine Tile.pieces_cons _ _ _ (fun x => piece9 A B X gate g b _ _ x) ?_
    refine Tile.pieces_cons _ _ _ (fun x => piece9 A B X gate g b _ _ x) ?_
    refine Tile.pieces_cons _ _ _ (fun x => piece9 A B X gate g b _ _ x) ?_
    exact Tile.pieces_cons _ _ _ (fun x => piece9 A B X gate g b _ _ x) (Tile.pieces_nil _)
  · exact View.cover_of_tiledBy _ ![256, 1024] (by sl_kernel_rfl)

theorem out10 (y : S1024x1024.Idx) : (Gen.out0_10 A B X gate g b sc sh y : EReal) = modulatedOf (prod A B) X gate g b sc sh y := by
  unfold Gen.out0_10 Gen.k0_pay19 Gen.k0_pay20 Gen.k0_pay21 Gen.k0_pay22 Gen.k0_pay23 Gen.k0_pay24 Gen.k0_pay25
  simp only [whole_slab, whole_row, m0, m1, m2, m3]
  refine Tile.canon_all (Val := Elt Ideal) (s := S1024x1024) (e := .bf16) (modulatedOf (prod A B) X gate g b sc sh) _ ?_ ?_ y
  · refine Tile.pieces_cons _ _ _ (fun x => piece10 A B X gate g b sc sh _ _ x) ?_
    refine Tile.pieces_cons _ _ _ (fun x => piece10 A B X gate g b sc sh _ _ x) ?_
    refine Tile.pieces_cons _ _ _ (fun x => piece10 A B X gate g b sc sh _ _ x) ?_
    exact Tile.pieces_cons _ _ _ (fun x => piece10 A B X gate g b sc sh _ _ x) (Tile.pieces_nil _)
  · exact View.cover_of_tiledBy _ ![256, 1024] (by sl_kernel_rfl)
end

/-! ## What a grid point reads -/

/-- The weight as one slab, as the call is given it. -/
def arrW : S1x1024x1024.Idx → EReal := Gen.V m c main_v1

theorem idx_in : ∀ t : Fin cfg0.N, win0_0.index t = ![t.val, 0] ∧ win0_1.index t = ![0, 0, 0] ∧ win0_2.index t = ![t.val, 0] ∧ win0_3.index t = ![0, 0]
    ∧ win0_4.index t = ![0, 0] ∧ win0_5.index t = ![0, 0] ∧ win0_6.index t = ![0, 0] ∧ win0_7.index t = ![0, 0] := by
  decide +kernel

theorem iblk0 (r k : Fin 1024) : (Gen.iblk m c 0 t (ix2 r k) : EReal)
    = m ((c : Thread nD τ).loc main_arg0) (ix2 ⟨1024 * t.val + r.val, by have := Nat.lt_of_lt_of_eq t.isLt N4; omega⟩ k) := by
  rw [← Gen.V_main_arg0 m c]
  blk_ext [Gen.iblk, (idx_in t).1]
  exact congrArg (· + r.val) (Nat.mul_comm _ _)
theorem iblk1 (k r : Fin 1024) : (Gen.iblk m c 1 t (ix3 0 k r) : EReal) = arrW m c (ix3 0 k r) := by
  blk_ext [Gen.iblk, arrW, (idx_in t).2.1]
theorem iblk2 (r k : Fin 1024) : (Gen.iblk m c 2 t (ix2 r k) : EReal)
    = m ((c : Thread nD τ).loc main_arg2) (ix2 ⟨1024 * t.val + r.val, by have := Nat.lt_of_lt_of_eq t.isLt N4; omega⟩ k) := by
  rw [← Gen.V_main_arg2 m c]
  blk_ext [Gen.iblk, (idx_in t).2.2.1]
  exact congrArg (· + r.val) (Nat.mul_comm _ _)

theorem iblk3 : (Gen.iblk m c 3 t : S1x1024.Idx → EReal) = m ((c : Thread nD τ).loc main_arg3) := row_of _ _ fun k => by
  rw [← Gen.V_main_arg3 m c]
  blk_ext [Gen.iblk, (idx_in t).2.2.2.1]
theorem iblk4 : (Gen.iblk m c 4 t : S1x1024.Idx → EReal) = m ((c : Thread nD τ).loc main_arg4) := row_of _ _ fun k => by
  rw [← Gen.V_main_arg4 m c]
  blk_ext [Gen.iblk, (idx_in t).2.2.2.2.1]
theorem iblk5 : (Gen.iblk m c 5 t : S1x1024.Idx → EReal) = m ((c : Thread nD τ).loc main_arg5) := row_of _ _ fun k => by
  rw [← Gen.V_main_arg5 m c]
  blk_ext [Gen.iblk, (idx_in t).2.2.2.2.2.1]
theorem iblk6 : (Gen.iblk m c 6 t : S1x1024.Idx → EReal) = m ((c : Thread nD τ).loc main_arg6) := row_of _ _ fun k => by
  rw [← Gen.V_main_arg6 m c]
  blk_ext [Gen.iblk, (idx_in t).2.2.2.2.2.2.1]
theorem iblk7 : (Gen.iblk m c 7 t : S1x1024.Idx → EReal) = m ((c : Thread nD τ).loc main_arg7) := row_of _ _ fun k => by
  rw [← Gen.V_main_arg7 m c]
  blk_ext [Gen.iblk, (idx_in t).2.2.2.2.2.2.2]

/-- The slab is the weight. -/
theorem arrW_at (r k : Fin 1024) : arrW m c (ix3 0 r k) = m ((c : Thread nD τ).loc main_arg1) (ix2 r k) := by
  unfold arrW Gen.V
  after_reads_simp
  exact congrArg (m ((c : Thread nD τ).loc main_arg1)) (Tile.eq_ix2_of _ _ _ rfl rfl)

/-- The whole product. -/
def prodArg : S4096x1024.Idx → EReal := product (m ((c : Thread nD τ).loc main_arg0)) (m ((c : Thread nD τ).loc main_arg1))
/-- Row `r` of the block of point `t`. -/
abbrev row (r : Fin 1024) : Fin 4096 := ⟨1024 * t.val + r.val, by have := Nat.lt_of_lt_of_eq t.isLt N4; omega⟩

theorem prod_at (r k : Fin 1024) : prod (Gen.iblk m c 0 t) (Gen.iblk m c 1 t) (ix2 r k) = prodArg m c (ix2 (row t r) k) := by
  unfold prod prodArg Mm.nn product
  exact Finset.sum_congr rfl fun j _ => congrArg₂ (fun a b : EReal => a * b) (iblk0 m c t r j)
    ((iblk1 m c t j k).trans (arrW_at m c j k))

/-! ## The three results -/

theorem idx_out : ∀ t : Fin cfg0.N, win0_8.index t = ![t.val, 0] ∧ win0_9.index t = ![t.val, 0] ∧ win0_10.index t = ![t.val, 0] := by
  decide +kernel
theorem flush8 : ∀ t : Fin cfg0.N, (cfg0.win 8).flush t = true := by decide +kernel
theorem flush9 : ∀ t : Fin cfg0.N, (cfg0.win 9).flush t = true := by decide +kernel
theorem flush10 : ∀ t : Fin cfg0.N, (cfg0.win 10).flush t = true := by decide +kernel

/-- The point that stores an index. -/
def pt (i : S4096x1024.Idx) : Fin cfg0.N := ⟨(i 0).val / 1024, by have h0 : (i 0).val < 4096 := (i 0).isLt; rw [N4]; omega⟩

theorem covered8 (i : S4096x1024.Idx) : ∃ t : Fin cfg0.N, (cfg0.win 8).flush t = true ∧ i ∈ ((cfg0.win 8).blk t).view.set := by
  refine ⟨pt i, flush8 _, ?_⟩
  show i ∈ ((View.whole main_v2_0).slice (win0_8.rect (pt i))).set
  rw [View.set_slice_whole, Rect.mem_set_unit]
  exact in_block i _ (idx_out (pt i)).1
theorem covered9 (i : S4096x1024.Idx) : ∃ t : Fin cfg0.N, (cfg0.win 9).flush t = true ∧ i ∈ ((cfg0.win 9).blk t).view.set := by
  refine ⟨pt i, flush9 _, ?_⟩
  show i ∈ ((View.whole main_v2_1).slice (win0_9.rect (pt i))).set
  rw [View.set_slice_whole, Rect.mem_set_unit]
  exact in_block i _ (idx_out (pt i)).2.1
theorem covered10 (i : S4096x1024.Idx) : ∃ t : Fin cfg0.N, (cfg0.win 10).flush t = true ∧ i ∈ ((cfg0.win 10).blk t).view.set := by
  refine ⟨pt i, flush10 _, ?_⟩
  show i ∈ ((View.whole main_v2_2).slice (win0_10.rect (pt i))).set
  rw [View.set_slice_whole, Rect.mem_set_unit]
  exact in_block i _ (idx_out (pt i)).2.2

theorem result8 : ((Gen.dats m 0 c).arrAt 8 cfg0.N : S4096x1024.Idx → EReal) = prodArg m c := by
  refine (Gen.dats m 0 c).arrAt_eq_of_cover 8 _ (fun t _ => ?_) covered8
  rw [flushed8]
  funext y
  refine (out8 _ _ _ _ _ _ _ _ ((cfg0.win 8).xinj (grid0.coords t) y)).trans ?_
  refine Eq.trans ?_ (congrArg (prodArg m c) (place t.val (Nat.lt_of_lt_of_eq t.isLt N4) _ (idx_out t).1 ((cfg0.win 8).xinj (grid0.coords t) y) (((cfg0.win 8).blk t).view.emb y) rfl rfl)).symm
  exact (congrArg _ (Tile.eq_ix2_of _ _ _ rfl rfl)).trans (prod_at m c t _ _)

theorem result9 : ((Gen.dats m 0 c).arrAt 9 cfg0.N : S4096x1024.Idx → EReal)
    = normedOf (prodArg m c) (m ((c : Thread nD τ).loc main_arg2)) (m ((c : Thread nD τ).loc main_arg3)) (m ((c : Thread nD τ).loc main_arg4))
      (m ((c : Thread nD τ).loc main_arg5)) := by
  refine (Gen.dats m 0 c).arrAt_eq_of_cover 9 _ (fun t _ => ?_) covered9
  rw [flushed9]
  funext y
  refine (out9 _ _ _ _ _ _ _ _ ((cfg0.win 9).xinj (grid0.coords t) y)).trans ?_
  rw [iblk3, iblk4, iblk5]
  refine Eq.trans ?_ (congrArg (normedOf _ _ _ _ _) (place t.val (Nat.lt_of_lt_of_eq t.isLt N4) _ (idx_out t).2.1 ((cfg0.win 9).xinj (grid0.coords t) y) (((cfg0.win 9).blk t).view.emb y) rfl rfl)).symm
  exact OutNorm.normedOf_of _ _ _ (fun k => prod_at m c t _ k) (fun k => iblk2 m c t _ k) rfl

theorem result10 : ((Gen.dats m 0 c).arrAt 10 cfg0.N : S4096x1024.Idx → EReal)
    = modulatedOf (prodArg m c) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (Gen.dats m 0 c).arrAt_eq_of_cover 10 _ (fun t _ => ?_) covered10
  rw [flushed10]
  funext y
  refine (out10 _ _ _ _ _ _ _ _ ((cfg0.win 10).xinj (grid0.coords t) y)).trans ?_
  rw [iblk3, iblk4, iblk5, iblk6, iblk7]
  refine Eq.trans ?_ (congrArg (modulatedOf _ _ _ _ _ _ _) (place t.val (Nat.lt_of_lt_of_eq t.isLt N4) _ (idx_out t).2.2 ((cfg0.win 10).xinj (grid0.coords t) y) (((cfg0.win 10).blk t).view.emb y) rfl rfl)).symm
  exact OutNorm.modulatedOf_of _ _ _ _ _ (fun k => prod_at m c t _ k) (fun k => iblk2 m c t _ k) rfl

end Cert.BOutIdeal.Value

namespace Cert.Proof
open Idealize.ShloMosaic Idealize.SL.Sem Idealize.ShloMosaic.StableHlo

theorem frame_BOutRef : quiescent_BOutRefIdeal := fun m ρ _ =>
  (θ_run Cert.BOutRefIdeal.defs _ _).mono (fun r h => ⟨fun c => (h c).2.2.2, sem_eq_zero_of_no_sems (by decide) r.2⟩)
    (Cert.BOutRefIdeal.Value.run (F := Ideal) m ρ)

theorem algebraic_BOut : algebraic_BOutIdeal_BOutRefIdeal := by
  intro m ρ m' ρ' _ hagree
  refine ⟨_, _, _, Cert.BOutIdeal.Value.run_blocks (F := Ideal) m ρ, ?_⟩
  refine (θ_run Cert.BOutRefIdeal.defs _ _).mono (fun _ h c => ⟨?_, ?_, ?_, (h c).2.2.2⟩) (Cert.BOutRefIdeal.Value.run (F := Ideal) m' ρ')
  all_goals obtain ⟨e0, e1, e2, e3, e4, e5, e6, e7⟩ := hagree c
  · refine ((h c).1.trans (Cert.BOutRefIdeal.Read.val_main_v0_eq (F := Ideal) _ _)).trans ?_
    rw [e0, e1]
    exact ((OutNorm.same0 _ _).trans (OutNorm.ref_product _ _)).trans (Cert.BOutIdeal.Value.result8 m c).symm
  · refine ((h c).2.1.trans (Cert.BOutRefIdeal.Read.val_main_v27_eq (F := Ideal) _ _ _ _ _ _)).trans ?_
    rw [e0, e1, e2, e3, e4, e5]
    exact ((OutNorm.same27 _ _ _ _ _ _).trans (OutNorm.ref_normed _ _ _ _ _ _)).trans (Cert.BOutIdeal.Value.result9 m c).symm
  · refine ((h c).2.2.1.trans (Cert.BOutRefIdeal.Read.val_main_v34_eq (F := Ideal) _ _)).trans ?_
    rw [e0, e1, e2, e3, e4, e5, e6, e7]
    exact ((OutNorm.same34 _ _ _ _ _ _ _ _).trans (OutNorm.ref_modulated _ _ _ _ _ _ _ _)).trans (Cert.BOutIdeal.Value.result10 m c).symm

end Cert.Proof
-- ==== Proof.lean ====
/- The claims: the frames from the generated runs, the attention's value claim from `result_eq` (Proof/Equation.lean), each product's from its own module. -/
module

public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Gen.ReferenceIdeal.Read
public import proofs.«01_k».proof.Proof.Equation
public import proofs.«01_k».proof.Proof.GDown
public import proofs.«01_k».proof.Proof.DDown
public import proofs.«01_k».proof.Proof.GUp
public import proofs.«01_k».proof.Proof.DUp
public import proofs.«01_k».proof.Proof.Up
public import proofs.«01_k».proof.Proof.Down
public import proofs.«01_k».proof.Proof.SpatialRef
public import proofs.«01_k».proof.Proof.Gated
public import proofs.«01_k».proof.Proof.AIn
public import proofs.«01_k».proof.Proof.DAIn
public import proofs.«01_k».proof.Proof.GAIn
public import proofs.«01_k».proof.Proof.DOut
public import proofs.«01_k».proof.Proof.Qkv
public import proofs.«01_k».proof.Proof.DQkv
public import proofs.«01_k».proof.Proof.Qkv0
public import proofs.«01_k».proof.Proof.DQkv0
public import proofs.«01_k».proof.Proof.Qkv1
public import proofs.«01_k».proof.Proof.DQkv1
public import proofs.«01_k».proof.Proof.GQkv1
public import proofs.«01_k».proof.Proof.GQkv2
public import proofs.«01_k».proof.Proof.GAOut
public import proofs.«01_k».proof.Proof.GBOut
public import proofs.«01_k».proof.Proof.JoinEq
public import proofs.«01_k».proof.Proof.Gen.GDown.Frame
public import proofs.«01_k».proof.Proof.Gen.GDownIdeal.Value
public import proofs.«01_k».proof.Proof.Gen.GDownRefIdeal.Run
public import proofs.«01_k».proof.Proof.Gen.GDownRefIdeal.Read
public import proofs.«01_k».proof.Proof.Gen.DDown.Frame
public import proofs.«01_k».proof.Proof.Gen.DDownIdeal.Value
public import proofs.«01_k».proof.Proof.Gen.DDownRefIdeal.Run
public import proofs.«01_k».proof.Proof.Gen.DDownRefIdeal.Read
public import proofs.«01_k».proof.Proof.Gen.GUp.Frame
public import proofs.«01_k».proof.Proof.Gen.GUpIdeal.Value
public import proofs.«01_k».proof.Proof.Gen.GUpRefIdeal.Run
public import proofs.«01_k».proof.Proof.Gen.GUpRefIdeal.Read
public import proofs.«01_k».proof.Proof.Gen.DUp.Frame
public import proofs.«01_k».proof.Proof.Gen.DUpIdeal.Value
public import proofs.«01_k».proof.Proof.Gen.DUpRefIdeal.Run
public import proofs.«01_k».proof.Proof.Gen.DUpRefIdeal.Read
public import proofs.«01_k».proof.Proof.Gen.Up.Frame
public import proofs.«01_k».proof.Proof.Gen.UpIdeal.Value
public import proofs.«01_k».proof.Proof.Gen.UpRefIdeal.Run
public import proofs.«01_k».proof.Proof.Gen.UpRefIdeal.Read
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.Spatial.Frame
public import proofs.«01_k».proof.Proof.Gen.SpatialIdeal.Value
public import proofs.«01_k».proof.Proof.Gen.SpatialRefIdeal.Run
public import proofs.«01_k».proof.Proof.Gen.SpatialRefIdeal.Read
public import proofs.«01_k».proof.Proof.Gen.AIn.Frame
public import proofs.«01_k».proof.Proof.Gen.AInIdeal.Value
public import proofs.«01_k».proof.Proof.Gen.AInRefIdeal.Run
public import proofs.«01_k».proof.Proof.Gen.AInRefIdeal.Read
public import proofs.«01_k».proof.Proof.Gen.DAIn.Frame
public import proofs.«01_k».proof.Proof.Gen.DAInIdeal.Value
public import proofs.«01_k».proof.Proof.Gen.DAInRefIdeal.Run
public import proofs.«01_k».proof.Proof.Gen.DAInRefIdeal.Read
public import proofs.«01_k».proof.Proof.Gen.GAIn.Frame
public import proofs.«01_k».proof.Proof.Gen.GAInIdeal.Value
public import proofs.«01_k».proof.Proof.Gen.GAInRefIdeal.Run
public import proofs.«01_k».proof.Proof.Gen.GAInRefIdeal.Read
public import proofs.«01_k».proof.Proof.Gen.DOut.Frame
public import proofs.«01_k».proof.Proof.Gen.DOutIdeal.Value
public import proofs.«01_k».proof.Proof.Gen.DOutRefIdeal.Run
public import proofs.«01_k».proof.Proof.Gen.DOutRefIdeal.Read
public import proofs.«01_k».proof.Proof.Gen.Qkv.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.DQkv.Frame
public import proofs.«01_k».proof.Proof.Gen.DQkvIdeal.Value
public import proofs.«01_k».proof.Proof.Gen.DQkvRefIdeal.Run
public import proofs.«01_k».proof.Proof.Gen.DQkvRefIdeal.Read
public import proofs.«01_k».proof.Proof.Gen.Qkv0.Frame
public import proofs.«01_k».proof.Proof.Gen.Qkv0Ideal.Value
public import proofs.«01_k».proof.Proof.Gen.Qkv0RefIdeal.Run
public import proofs.«01_k».proof.Proof.Gen.Qkv0RefIdeal.Read
public import proofs.«01_k».proof.Proof.Gen.DQkv0.Frame
public import proofs.«01_k».proof.Proof.Gen.DQkv0Ideal.Value
public import proofs.«01_k».proof.Proof.Gen.DQkv0RefIdeal.Run
public import proofs.«01_k».proof.Proof.Gen.DQkv0RefIdeal.Read
public import proofs.«01_k».proof.Proof.Gen.Qkv1.Frame
public import proofs.«01_k».proof.Proof.Gen.Qkv1Ideal.Value
public import proofs.«01_k».proof.Proof.Gen.Qkv1RefIdeal.Run
public import proofs.«01_k».proof.Proof.Gen.Qkv1RefIdeal.Read
public import proofs.«01_k».proof.Proof.Gen.DQkv1.Frame
public import proofs.«01_k».proof.Proof.Gen.DQkv1Ideal.Value
public import proofs.«01_k».proof.Proof.Gen.DQkv1RefIdeal.Run
public import proofs.«01_k».proof.Proof.Gen.DQkv1RefIdeal.Read
public import proofs.«01_k».proof.Proof.Gen.GQkv1.Frame
public import proofs.«01_k».proof.Proof.Gen.GQkv1Ideal.Value
public import proofs.«01_k».proof.Proof.Gen.GQkv1RefIdeal.Run
public import proofs.«01_k».proof.Proof.Gen.GQkv1RefIdeal.Read
public import proofs.«01_k».proof.Proof.Gen.GQkv2.Frame
public import proofs.«01_k».proof.Proof.Gen.GQkv2Ideal.Value
public import proofs.«01_k».proof.Proof.Gen.GQkv2RefIdeal.Run
public import proofs.«01_k».proof.Proof.Gen.GQkv2RefIdeal.Read
public import proofs.«01_k».proof.Proof.Gen.GAOut.Frame
public import proofs.«01_k».proof.Proof.Gen.GAOutIdeal.Value
public import proofs.«01_k».proof.Proof.Gen.GAOutRefIdeal.Run
public import proofs.«01_k».proof.Proof.Gen.GAOutRefIdeal.Read
public import proofs.«01_k».proof.Proof.Gen.GBOut.Frame
public import proofs.«01_k».proof.Proof.Gen.GBOutIdeal.Value
public import proofs.«01_k».proof.Proof.Gen.GBOutRefIdeal.Run
public import proofs.«01_k».proof.Proof.Gen.GBOutRefIdeal.Read
public import Idealize.ShloMosaic.Adequacy
public import Idealize.ShloMosaic.Init
public import Idealize.ShloMosaic.Lib.Quiescent
public import proofs.«01_k».proof.Proof.Gen.Gated.Frame
public import proofs.«01_k».proof.Proof.Gen.GatedIdeal.Value
public import proofs.«01_k».proof.Proof.Gen.GatedRefIdeal.Run
public import proofs.«01_k».proof.Proof.Gen.GatedRefIdeal.Read
public import proofs.«01_k».proof.Proof.Gen.AOut.Frame
public import proofs.«01_k».proof.Proof.Gen.AOutIdeal.Value
public import proofs.«01_k».proof.Proof.Gen.AOutRefIdeal.Run
public import proofs.«01_k».proof.Proof.Gen.AOutRefIdeal.Read
public import proofs.«01_k».proof.Proof.Gen.BOut.Frame
public import proofs.«01_k».proof.Proof.Gen.BOutIdeal.Value
public import proofs.«01_k».proof.Proof.Gen.BOutRefIdeal.Run
public import proofs.«01_k».proof.Proof.Gen.BOutRefIdeal.Read
public import proofs.«01_k».proof.Proof.Gen.Join.Frame
public import proofs.«01_k».proof.Proof.Gen.JoinIdeal.Value
public import proofs.«01_k».proof.Proof.Gen.JoinRefIdeal.Run
public import proofs.«01_k».proof.Proof.Gen.JoinRefIdeal.Read
public import proofs.«01_k».proof.Proof.Gen.Pre_finite_join
public import proofs.«01_k».proof.Proof.AOut
public import proofs.«01_k».proof.Proof.BOut

@[expose] public section

noncomputable section

namespace Cert.Proof

open Idealize.ShloMosaic Idealize.SL.Sem Idealize.ShloMosaic.StableHlo

theorem frame_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result over the numbers the call's program is given. -/
theorem reference_result (m : (ℓ : Loc Cert.KernelIdeal.nD Cert.KernelIdeal.τ Cert.KernelIdeal.sig) → Buf (Elt Ideal) ℓ)
    (c : Dev Cert.KernelIdeal.nD) (hf : Cert.KernelIdeal.Value.Finite m c) (V : Valuation Cert.ReferenceIdeal.τ Cert.ReferenceIdeal.sig (Elt Ideal))
    (h0 : V (Proc.devRef .tc Cert.ReferenceIdeal.main_arg0) = Cert.KernelIdeal.Value.argQkv m c)
    (h1 : V (Proc.devRef .tc Cert.ReferenceIdeal.main_arg1) = Cert.KernelIdeal.Value.argDo m c)
    (h2 : V (Proc.devRef .tc Cert.ReferenceIdeal.main_arg2) = Cert.KernelIdeal.Value.argDl m c)
    (h3 : V (Proc.devRef .tc Cert.ReferenceIdeal.main_arg3) = Cert.KernelIdeal.Value.argSl m c) :
    Cert.ReferenceIdeal.Read.val_main_v105 (F := Ideal) (V (Proc.devRef .tc Cert.ReferenceIdeal.main_arg0)) (V (Proc.devRef .tc Cert.ReferenceIdeal.main_arg1))
      (V (Proc.devRef .tc Cert.ReferenceIdeal.main_arg2)) (V (Proc.devRef .tc Cert.ReferenceIdeal.main_arg3)) = Cert.KernelIdeal.Value.G11 m c := by
  rw [h0, h1, h2, h3]; exact (Cert.KernelIdeal.Value.result_eq hf).symm

theorem algebraic : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3⟩ := hagree c
  exact ((h c).1.trans (Cert.ReferenceIdeal.Read.val_main_v105_eq (F := Ideal) (launchContents m' c))).trans
    (reference_result m c (Cert.KernelIdeal.Value.finite_of_pre m c (hpre c)) (launchContents m' c) e0 e1 e2 e3)

theorem claim : Cert.Claim := ⟨Cert.Kernel.Gen.facts, Cert.KernelIdeal.Gen.facts, Cert.ReferenceIdeal.Gen.facts,
  Cert.GDown.Gen.facts, Cert.GDownIdeal.Gen.facts, Cert.GDownRefIdeal.Gen.facts,
  Cert.DDown.Gen.facts, Cert.DDownIdeal.Gen.facts, Cert.DDownRefIdeal.Gen.facts,
  Cert.GUp.Gen.facts, Cert.GUpIdeal.Gen.facts, Cert.GUpRefIdeal.Gen.facts,
  Cert.DUp.Gen.facts, Cert.DUpIdeal.Gen.facts, Cert.DUpRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Spatial.Gen.facts, Cert.SpatialIdeal.Gen.facts, Cert.SpatialRefIdeal.Gen.facts,
  Cert.Gated.Gen.facts, Cert.GatedIdeal.Gen.facts, Cert.GatedRefIdeal.Gen.facts,
  Cert.AIn.Gen.facts, Cert.AInIdeal.Gen.facts, Cert.AInRefIdeal.Gen.facts,
  Cert.DAIn.Gen.facts, Cert.DAInIdeal.Gen.facts, Cert.DAInRefIdeal.Gen.facts,
  Cert.GAIn.Gen.facts, Cert.GAInIdeal.Gen.facts, Cert.GAInRefIdeal.Gen.facts,
  Cert.DOut.Gen.facts, Cert.DOutIdeal.Gen.facts, Cert.DOutRefIdeal.Gen.facts,
  Cert.Qkv.Gen.facts, Cert.QkvIdeal.Gen.facts, Cert.QkvRefIdeal.Gen.facts,
  Cert.DQkv.Gen.facts, Cert.DQkvIdeal.Gen.facts, Cert.DQkvRefIdeal.Gen.facts,
  Cert.Qkv0.Gen.facts, Cert.Qkv0Ideal.Gen.facts, Cert.Qkv0RefIdeal.Gen.facts,
  Cert.DQkv0.Gen.facts, Cert.DQkv0Ideal.Gen.facts, Cert.DQkv0RefIdeal.Gen.facts,
  Cert.Qkv1.Gen.facts, Cert.Qkv1Ideal.Gen.facts, Cert.Qkv1RefIdeal.Gen.facts,
  Cert.DQkv1.Gen.facts, Cert.DQkv1Ideal.Gen.facts, Cert.DQkv1RefIdeal.Gen.facts,
  Cert.GQkv1.Gen.facts, Cert.GQkv1Ideal.Gen.facts, Cert.GQkv1RefIdeal.Gen.facts,
  Cert.GQkv2.Gen.facts, Cert.GQkv2Ideal.Gen.facts, Cert.GQkv2RefIdeal.Gen.facts,
  Cert.GAOut.Gen.facts, Cert.GAOutIdeal.Gen.facts, Cert.GAOutRefIdeal.Gen.facts,
  Cert.GBOut.Gen.facts, Cert.GBOutIdeal.Gen.facts, Cert.GBOutRefIdeal.Gen.facts,
  Cert.AOut.Gen.facts, Cert.AOutIdeal.Gen.facts, Cert.AOutRefIdeal.Gen.facts,
  Cert.BOut.Gen.facts, Cert.BOutIdeal.Gen.facts, Cert.BOutRefIdeal.Gen.facts,
  Cert.Join.Gen.facts, Cert.JoinIdeal.Gen.facts, Cert.JoinRefIdeal.Gen.facts,
  Cert.Pre_finite.Gen.facts, Cert.Pre_finite_join.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.GDown.Gen.frame m ρ, fun m ρ _ => Cert.GDownIdeal.Gen.frame m ρ, frame_GDownRef,
  fun m ρ _ => Cert.DDown.Gen.frame m ρ, fun m ρ _ => Cert.DDownIdeal.Gen.frame m ρ, frame_DDownRef,
  fun m ρ _ => Cert.GUp.Gen.frame m ρ, fun m ρ _ => Cert.GUpIdeal.Gen.frame m ρ, frame_GUpRef,
  fun m ρ _ => Cert.DUp.Gen.frame m ρ, fun m ρ _ => Cert.DUpIdeal.Gen.frame m ρ, frame_DUpRef,
  fun m ρ _ => Cert.Up.Gen.frame m ρ, fun m ρ _ => Cert.UpIdeal.Gen.frame m ρ, frame_UpRef,
  fun m ρ _ => Cert.Down.Gen.frame m ρ, fun m ρ _ => Cert.DownIdeal.Gen.frame m ρ, frame_DownRef,
  fun m ρ _ => Cert.Spatial.Gen.frame m ρ, fun m ρ _ => Cert.SpatialIdeal.Gen.frame m ρ, frame_SpatialRef,
  fun m ρ _ => Cert.Gated.Gen.frame m ρ, fun m ρ _ => Cert.GatedIdeal.Gen.frame m ρ, frame_GatedRef,
  fun m ρ _ => Cert.AIn.Gen.frame m ρ, fun m ρ _ => Cert.AInIdeal.Gen.frame m ρ, frame_AInRef,
  fun m ρ _ => Cert.DAIn.Gen.frame m ρ, fun m ρ _ => Cert.DAInIdeal.Gen.frame m ρ, frame_DAInRef,
  fun m ρ _ => Cert.GAIn.Gen.frame m ρ, fun m ρ _ => Cert.GAInIdeal.Gen.frame m ρ, frame_GAInRef,
  fun m ρ _ => Cert.DOut.Gen.frame m ρ, fun m ρ _ => Cert.DOutIdeal.Gen.frame m ρ, frame_DOutRef,
  fun m ρ _ => Cert.Qkv.Gen.frame m ρ, fun m ρ _ => Cert.QkvIdeal.Gen.frame m ρ, frame_QkvRef,
  fun m ρ _ => Cert.DQkv.Gen.frame m ρ, fun m ρ _ => Cert.DQkvIdeal.Gen.frame m ρ, frame_DQkvRef,
  fun m ρ _ => Cert.Qkv0.Gen.frame m ρ, fun m ρ _ => Cert.Qkv0Ideal.Gen.frame m ρ, frame_Qkv0Ref,
  fun m ρ _ => Cert.DQkv0.Gen.frame m ρ, fun m ρ _ => Cert.DQkv0Ideal.Gen.frame m ρ, frame_DQkv0Ref,
  fun m ρ _ => Cert.Qkv1.Gen.frame m ρ, fun m ρ _ => Cert.Qkv1Ideal.Gen.frame m ρ, frame_Qkv1Ref,
  fun m ρ _ => Cert.DQkv1.Gen.frame m ρ, fun m ρ _ => Cert.DQkv1Ideal.Gen.frame m ρ, frame_DQkv1Ref,
  fun m ρ _ => Cert.GQkv1.Gen.frame m ρ, fun m ρ _ => Cert.GQkv1Ideal.Gen.frame m ρ, frame_GQkv1Ref,
  fun m ρ _ => Cert.GQkv2.Gen.frame m ρ, fun m ρ _ => Cert.GQkv2Ideal.Gen.frame m ρ, frame_GQkv2Ref,
  fun m ρ _ => Cert.GAOut.Gen.frame m ρ, fun m ρ _ => Cert.GAOutIdeal.Gen.frame m ρ, frame_GAOutRef,
  fun m ρ _ => Cert.GBOut.Gen.frame m ρ, fun m ρ _ => Cert.GBOutIdeal.Gen.frame m ρ, frame_GBOutRef,
  fun m ρ _ => Cert.AOut.Gen.frame m ρ, fun m ρ _ => Cert.AOutIdeal.Gen.frame m ρ, frame_AOutRef,
  fun m ρ _ => Cert.BOut.Gen.frame m ρ, fun m ρ _ => Cert.BOutIdeal.Gen.frame m ρ, frame_BOutRef,
  fun m ρ _ => Cert.Join.Gen.frame m ρ, fun m ρ _ => Cert.JoinIdeal.Gen.frame m ρ, fun m ρ _ => Cert.JoinIdeal.Gen.frame m ρ,
  frame_JoinRef, fun m ρ _ => frame_JoinRef m ρ trivial,
  trivial, algebraic,
  trivial, algebraic_GDown,
  trivial, algebraic_DDown,
  trivial, algebraic_GUp,
  trivial, algebraic_DUp,
  trivial, algebraic_Up,
  trivial, algebraic_Down,
  trivial, algebraic_Spatial,
  trivial, algebraic_Gated,
  trivial, algebraic_AIn,
  trivial, algebraic_DAIn,
  trivial, algebraic_GAIn,
  trivial, algebraic_DOut,
  trivial, algebraic_Qkv,
  trivial, algebraic_DQkv,
  trivial, algebraic_Qkv0,
  trivial, algebraic_DQkv0,
  trivial, algebraic_Qkv1,
  trivial, algebraic_DQkv1,
  trivial, algebraic_GQkv1,
  trivial, algebraic_GQkv2,
  trivial, algebraic_GAOut,
  trivial, algebraic_GBOut,
  trivial, algebraic_AOut,
  trivial, algebraic_BOut,
  trivial, algebraic_Join⟩

end Cert.Proof

end
